-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss_arguments [hPre_finite_loss_arguments : Cert.Pre_finite_loss_arguments.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss_arguments.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_finite_loss_arguments.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_finite_loss_arguments.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss_arguments [hPre_finite_loss_arguments : Cert.Pre_finite_loss_arguments.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss_arguments.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_finite_loss_arguments.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_finite_loss_arguments.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_ReluKernel (m : (ℓ : Loc Cert.ReluKernel.nD Cert.ReluKernel.τ Cert.ReluKernel.sig) → Buf (Elt Bits) ℓ) : Prop :=
  True

def Pre_ReluKernelIdeal (m : (ℓ : Loc Cert.ReluKernelIdeal.nD Cert.ReluKernelIdeal.τ Cert.ReluKernelIdeal.sig) → Buf (Elt Ideal) ℓ) : Prop :=
  True

def Pre_ReluReferenceIdeal (m : (ℓ : Loc Cert.ReluReferenceIdeal.nD Cert.ReluReferenceIdeal.τ Cert.ReluReferenceIdeal.sig) → Buf (Elt Ideal) ℓ) : Prop :=
  True

def Pre_Norm2Kernel (m : (ℓ : Loc Cert.Norm2Kernel.nD Cert.Norm2Kernel.τ Cert.Norm2Kernel.sig) → Buf (Elt Bits) ℓ) : Prop :=
  True

def Pre_Norm2KernelIdeal (m : (ℓ : Loc Cert.Norm2KernelIdeal.nD Cert.Norm2KernelIdeal.τ Cert.Norm2KernelIdeal.sig) → Buf (Elt Ideal) ℓ) : Prop :=
  True

def Pre_Norm2KernelIdeal_finite_norm2_arguments [hPre_finite_norm2_arguments : Cert.Pre_finite_norm2_arguments.Facts] (m : (ℓ : Loc Cert.Norm2KernelIdeal.nD Cert.Norm2KernelIdeal.τ Cert.Norm2KernelIdeal.sig) → Buf (Elt Ideal) ℓ) : Prop :=
  ∀ c : Dev Cert.Norm2KernelIdeal.nD,
    (Cert.Pre_finite_norm2_arguments.fn (F := Ideal) (m ((c.tc : Thread Cert.Norm2KernelIdeal.nD Cert.Norm2KernelIdeal.τ).loc Cert.Norm2KernelIdeal.main_arg0)) (m ((c.tc : Thread Cert.Norm2KernelIdeal.nD Cert.Norm2KernelIdeal.τ).loc Cert.Norm2KernelIdeal.main_arg1)) (m ((c.tc : Thread Cert.Norm2KernelIdeal.nD Cert.Norm2KernelIdeal.τ).loc Cert.Norm2KernelIdeal.main_arg2)) (m ((c.tc : Thread Cert.Norm2KernelIdeal.nD Cert.Norm2KernelIdeal.τ).loc Cert.Norm2KernelIdeal.main_arg3)) (m ((c.tc : Thread Cert.Norm2KernelIdeal.nD Cert.Norm2KernelIdeal.τ).loc Cert.Norm2KernelIdeal.main_arg4)) (m ((c.tc : Thread Cert.Norm2KernelIdeal.nD Cert.Norm2KernelIdeal.τ).loc Cert.Norm2KernelIdeal.main_arg5)) (m ((c.tc : Thread Cert.Norm2KernelIdeal.nD Cert.Norm2KernelIdeal.τ).loc Cert.Norm2KernelIdeal.main_arg6)) (m ((c.tc : Thread Cert.Norm2KernelIdeal.nD Cert.Norm2KernelIdeal.τ).loc Cert.Norm2KernelIdeal.main_arg7)) (m ((c.tc : Thread Cert.Norm2KernelIdeal.nD Cert.Norm2KernelIdeal.τ).loc Cert.Norm2KernelIdeal.main_arg8))).1 = (fun _ => 1#1)
    ∧ (Cert.Pre_finite_norm2_arguments.fn (F := Ideal) (m ((c.tc : Thread Cert.Norm2KernelIdeal.nD Cert.Norm2KernelIdeal.τ).loc Cert.Norm2KernelIdeal.main_arg0)) (m ((c.tc : Thread Cert.Norm2KernelIdeal.nD Cert.Norm2KernelIdeal.τ).loc Cert.Norm2KernelIdeal.main_arg1)) (m ((c.tc : Thread Cert.Norm2KernelIdeal.nD Cert.Norm2KernelIdeal.τ).loc Cert.Norm2KernelIdeal.main_arg2)) (m ((c.tc : Thread Cert.Norm2KernelIdeal.nD Cert.Norm2KernelIdeal.τ).loc Cert.Norm2KernelIdeal.main_arg3)) (m ((c.tc : Thread Cert.Norm2KernelIdeal.nD Cert.Norm2KernelIdeal.τ).loc Cert.Norm2KernelIdeal.main_arg4)) (m ((c.tc : Thread Cert.Norm2KernelIdeal.nD Cert.Norm2KernelIdeal.τ).loc Cert.Norm2KernelIdeal.main_arg5)) (m ((c.tc : Thread Cert.Norm2KernelIdeal.nD Cert.Norm2KernelIdeal.τ).loc Cert.Norm2KernelIdeal.main_arg6)) (m ((c.tc : Thread Cert.Norm2KernelIdeal.nD Cert.Norm2KernelIdeal.τ).loc Cert.Norm2KernelIdeal.main_arg7)) (m ((c.tc : Thread Cert.Norm2KernelIdeal.nD Cert.Norm2KernelIdeal.τ).loc Cert.Norm2KernelIdeal.main_arg8))).2.1 = (fun _ => 1#1)
    ∧ (Cert.Pre_finite_norm2_arguments.fn (F := Ideal) (m ((c.tc : Thread Cert.Norm2KernelIdeal.nD Cert.Norm2KernelIdeal.τ).loc Cert.Norm2KernelIdeal.main_arg0)) (m ((c.tc : Thread Cert.Norm2KernelIdeal.nD Cert.Norm2KernelIdeal.τ).loc Cert.Norm2KernelIdeal.main_arg1)) (m ((c.tc : Thread Cert.Norm2KernelIdeal.nD Cert.Norm2KernelIdeal.τ).loc Cert.Norm2KernelIdeal.main_arg2)) (m ((c.tc : Thread Cert.Norm2KernelIdeal.nD Cert.Norm2KernelIdeal.τ).loc Cert.Norm2KernelIdeal.main_arg3)) (m ((c.tc : Thread Cert.Norm2KernelIdeal.nD Cert.Norm2KernelIdeal.τ).loc Cert.Norm2KernelIdeal.main_arg4)) (m ((c.tc : Thread Cert.Norm2KernelIdeal.nD Cert.Norm2KernelIdeal.τ).loc Cert.Norm2KernelIdeal.main_arg5)) (m ((c.tc : Thread Cert.Norm2KernelIdeal.nD Cert.Norm2KernelIdeal.τ).loc Cert.Norm2KernelIdeal.main_arg6)) (m ((c.tc : Thread Cert.Norm2KernelIdeal.nD Cert.Norm2KernelIdeal.τ).loc Cert.Norm2KernelIdeal.main_arg7)) (m ((c.tc : Thread Cert.Norm2KernelIdeal.nD Cert.Norm2KernelIdeal.τ).loc Cert.Norm2KernelIdeal.main_arg8))).2.2.1 = (fun _ => 1#1)
    ∧ (Cert.Pre_finite_norm2_arguments.fn (F := Ideal) (m ((c.tc : Thread Cert.Norm2KernelIdeal.nD Cert.Norm2KernelIdeal.τ).loc Cert.Norm2KernelIdeal.main_arg0)) (m ((c.tc : Thread Cert.Norm2KernelIdeal.nD Cert.Norm2KernelIdeal.τ).loc Cert.Norm2KernelIdeal.main_arg1)) (m ((c.tc : Thread Cert.Norm2KernelIdeal.nD Cert.Norm2KernelIdeal.τ).loc Cert.Norm2KernelIdeal.main_arg2)) (m ((c.tc : Thread Cert.Norm2KernelIdeal.nD Cert.Norm2KernelIdeal.τ).loc Cert.Norm2KernelIdeal.main_arg3)) (m ((c.tc : Thread Cert.Norm2KernelIdeal.nD Cert.Norm2KernelIdeal.τ).loc Cert.Norm2KernelIdeal.main_arg4)) (m ((c.tc : Thread Cert.Norm2KernelIdeal.nD Cert.Norm2KernelIdeal.τ).loc Cert.Norm2KernelIdeal.main_arg5)) (m ((c.tc : Thread Cert.Norm2KernelIdeal.nD Cert.Norm2KernelIdeal.τ).loc Cert.Norm2KernelIdeal.main_arg6)) (m ((c.tc : Thread Cert.Norm2KernelIdeal.nD Cert.Norm2KernelIdeal.τ).loc Cert.Norm2KernelIdeal.main_arg7)) (m ((c.tc : Thread Cert.Norm2KernelIdeal.nD Cert.Norm2KernelIdeal.τ).loc Cert.Norm2KernelIdeal.main_arg8))).2.2.2.1 = (fun _ => 1#1)
    ∧ (Cert.Pre_finite_norm2_arguments.fn (F := Ideal) (m ((c.tc : Thread Cert.Norm2KernelIdeal.nD Cert.Norm2KernelIdeal.τ).loc Cert.Norm2KernelIdeal.main_arg0)) (m ((c.tc : Thread Cert.Norm2KernelIdeal.nD Cert.Norm2KernelIdeal.τ).loc Cert.Norm2KernelIdeal.main_arg1)) (m ((c.tc : Thread Cert.Norm2KernelIdeal.nD Cert.Norm2KernelIdeal.τ).loc Cert.Norm2KernelIdeal.main_arg2)) (m ((c.tc : Thread Cert.Norm2KernelIdeal.nD Cert.Norm2KernelIdeal.τ).loc Cert.Norm2KernelIdeal.main_arg3)) (m ((c.tc : Thread Cert.Norm2KernelIdeal.nD Cert.Norm2KernelIdeal.τ).loc Cert.Norm2KernelIdeal.main_arg4)) (m ((c.tc : Thread Cert.Norm2KernelIdeal.nD Cert.Norm2KernelIdeal.τ).loc Cert.Norm2KernelIdeal.main_arg5)) (m ((c.tc : Thread Cert.Norm2KernelIdeal.nD Cert.Norm2KernelIdeal.τ).loc Cert.Norm2KernelIdeal.main_arg6)) (m ((c.tc : Thread Cert.Norm2KernelIdeal.nD Cert.Norm2KernelIdeal.τ).loc Cert.Norm2KernelIdeal.main_arg7)) (m ((c.tc : Thread Cert.Norm2KernelIdeal.nD Cert.Norm2KernelIdeal.τ).loc Cert.Norm2KernelIdeal.main_arg8))).2.2.2.2 = (fun _ => 1#1)

def Pre_Norm2ReferenceIdeal (m : (ℓ : Loc Cert.Norm2ReferenceIdeal.nD Cert.Norm2ReferenceIdeal.τ Cert.Norm2ReferenceIdeal.sig) → Buf (Elt Ideal) ℓ) : Prop :=
  True

def Pre_Norm2ReferenceIdeal_finite_norm2_arguments [hPre_finite_norm2_arguments : Cert.Pre_finite_norm2_arguments.Facts] (m : (ℓ : Loc Cert.Norm2ReferenceIdeal.nD Cert.Norm2ReferenceIdeal.τ Cert.Norm2ReferenceIdeal.sig) → Buf (Elt Ideal) ℓ) : Prop :=
  ∀ c : Dev Cert.Norm2ReferenceIdeal.nD,
    (Cert.Pre_finite_norm2_arguments.fn (F := Ideal) (m ((c.tc : Thread Cert.Norm2ReferenceIdeal.nD Cert.Norm2ReferenceIdeal.τ).loc Cert.Norm2ReferenceIdeal.main_arg0)) (m ((c.tc : Thread Cert.Norm2ReferenceIdeal.nD Cert.Norm2ReferenceIdeal.τ).loc Cert.Norm2ReferenceIdeal.main_arg1)) (m ((c.tc : Thread Cert.Norm2ReferenceIdeal.nD Cert.Norm2ReferenceIdeal.τ).loc Cert.Norm2ReferenceIdeal.main_arg2)) (m ((c.tc : Thread Cert.Norm2ReferenceIdeal.nD Cert.Norm2ReferenceIdeal.τ).loc Cert.Norm2ReferenceIdeal.main_arg3)) (m ((c.tc : Thread Cert.Norm2ReferenceIdeal.nD Cert.Norm2ReferenceIdeal.τ).loc Cert.Norm2ReferenceIdeal.main_arg4)) (m ((c.tc : Thread Cert.Norm2ReferenceIdeal.nD Cert.Norm2ReferenceIdeal.τ).loc Cert.Norm2ReferenceIdeal.main_arg5)) (m ((c.tc : Thread Cert.Norm2ReferenceIdeal.nD Cert.Norm2ReferenceIdeal.τ).loc Cert.Norm2ReferenceIdeal.main_arg6)) (m ((c.tc : Thread Cert.Norm2ReferenceIdeal.nD Cert.Norm2ReferenceIdeal.τ).loc Cert.Norm2ReferenceIdeal.main_arg7)) (m ((c.tc : Thread Cert.Norm2ReferenceIdeal.nD Cert.Norm2ReferenceIdeal.τ).loc Cert.Norm2ReferenceIdeal.main_arg8))).1 = (fun _ => 1#1)
    ∧ (Cert.Pre_finite_norm2_arguments.fn (F := Ideal) (m ((c.tc : Thread Cert.Norm2ReferenceIdeal.nD Cert.Norm2ReferenceIdeal.τ).loc Cert.Norm2ReferenceIdeal.main_arg0)) (m ((c.tc : Thread Cert.Norm2ReferenceIdeal.nD Cert.Norm2ReferenceIdeal.τ).loc Cert.Norm2ReferenceIdeal.main_arg1)) (m ((c.tc : Thread Cert.Norm2ReferenceIdeal.nD Cert.Norm2ReferenceIdeal.τ).loc Cert.Norm2ReferenceIdeal.main_arg2)) (m ((c.tc : Thread Cert.Norm2ReferenceIdeal.nD Cert.Norm2ReferenceIdeal.τ).loc Cert.Norm2ReferenceIdeal.main_arg3)) (m ((c.tc : Thread Cert.Norm2ReferenceIdeal.nD Cert.Norm2ReferenceIdeal.τ).loc Cert.Norm2ReferenceIdeal.main_arg4)) (m ((c.tc : Thread Cert.Norm2ReferenceIdeal.nD Cert.Norm2ReferenceIdeal.τ).loc Cert.Norm2ReferenceIdeal.main_arg5)) (m ((c.tc : Thread Cert.Norm2ReferenceIdeal.nD Cert.Norm2ReferenceIdeal.τ).loc Cert.Norm2ReferenceIdeal.main_arg6)) (m ((c.tc : Thread Cert.Norm2ReferenceIdeal.nD Cert.Norm2ReferenceIdeal.τ).loc Cert.Norm2ReferenceIdeal.main_arg7)) (m ((c.tc : Thread Cert.Norm2ReferenceIdeal.nD Cert.Norm2ReferenceIdeal.τ).loc Cert.Norm2ReferenceIdeal.main_arg8))).2.1 = (fun _ => 1#1)
    ∧ (Cert.Pre_finite_norm2_arguments.fn (F := Ideal) (m ((c.tc : Thread Cert.Norm2ReferenceIdeal.nD Cert.Norm2ReferenceIdeal.τ).loc Cert.Norm2ReferenceIdeal.main_arg0)) (m ((c.tc : Thread Cert.Norm2ReferenceIdeal.nD Cert.Norm2ReferenceIdeal.τ).loc Cert.Norm2ReferenceIdeal.main_arg1)) (m ((c.tc : Thread Cert.Norm2ReferenceIdeal.nD Cert.Norm2ReferenceIdeal.τ).loc Cert.Norm2ReferenceIdeal.main_arg2)) (m ((c.tc : Thread Cert.Norm2ReferenceIdeal.nD Cert.Norm2ReferenceIdeal.τ).loc Cert.Norm2ReferenceIdeal.main_arg3)) (m ((c.tc : Thread Cert.Norm2ReferenceIdeal.nD Cert.Norm2ReferenceIdeal.τ).loc Cert.Norm2ReferenceIdeal.main_arg4)) (m ((c.tc : Thread Cert.Norm2ReferenceIdeal.nD Cert.Norm2ReferenceIdeal.τ).loc Cert.Norm2ReferenceIdeal.main_arg5)) (m ((c.tc : Thread Cert.Norm2ReferenceIdeal.nD Cert.Norm2ReferenceIdeal.τ).loc Cert.Norm2ReferenceIdeal.main_arg6)) (m ((c.tc : Thread Cert.Norm2ReferenceIdeal.nD Cert.Norm2ReferenceIdeal.τ).loc Cert.Norm2ReferenceIdeal.main_arg7)) (m ((c.tc : Thread Cert.Norm2ReferenceIdeal.nD Cert.Norm2ReferenceIdeal.τ).loc Cert.Norm2ReferenceIdeal.main_arg8))).2.2.1 = (fun _ => 1#1)
    ∧ (Cert.Pre_finite_norm2_arguments.fn (F := Ideal) (m ((c.tc : Thread Cert.Norm2ReferenceIdeal.nD Cert.Norm2ReferenceIdeal.τ).loc Cert.Norm2ReferenceIdeal.main_arg0)) (m ((c.tc : Thread Cert.Norm2ReferenceIdeal.nD Cert.Norm2ReferenceIdeal.τ).loc Cert.Norm2ReferenceIdeal.main_arg1)) (m ((c.tc : Thread Cert.Norm2ReferenceIdeal.nD Cert.Norm2ReferenceIdeal.τ).loc Cert.Norm2ReferenceIdeal.main_arg2)) (m ((c.tc : Thread Cert.Norm2ReferenceIdeal.nD Cert.Norm2ReferenceIdeal.τ).loc Cert.Norm2ReferenceIdeal.main_arg3)) (m ((c.tc : Thread Cert.Norm2ReferenceIdeal.nD Cert.Norm2ReferenceIdeal.τ).loc Cert.Norm2ReferenceIdeal.main_arg4)) (m ((c.tc : Thread Cert.Norm2ReferenceIdeal.nD Cert.Norm2ReferenceIdeal.τ).loc Cert.Norm2ReferenceIdeal.main_arg5)) (m ((c.tc : Thread Cert.Norm2ReferenceIdeal.nD Cert.Norm2ReferenceIdeal.τ).loc Cert.Norm2ReferenceIdeal.main_arg6)) (m ((c.tc : Thread Cert.Norm2ReferenceIdeal.nD Cert.Norm2ReferenceIdeal.τ).loc Cert.Norm2ReferenceIdeal.main_arg7)) (m ((c.tc : Thread Cert.Norm2ReferenceIdeal.nD Cert.Norm2ReferenceIdeal.τ).loc Cert.Norm2ReferenceIdeal.main_arg8))).2.2.2.1 = (fun _ => 1#1)
    ∧ (Cert.Pre_finite_norm2_arguments.fn (F := Ideal) (m ((c.tc : Thread Cert.Norm2ReferenceIdeal.nD Cert.Norm2ReferenceIdeal.τ).loc Cert.Norm2ReferenceIdeal.main_arg0)) (m ((c.tc : Thread Cert.Norm2ReferenceIdeal.nD Cert.Norm2ReferenceIdeal.τ).loc Cert.Norm2ReferenceIdeal.main_arg1)) (m ((c.tc : Thread Cert.Norm2ReferenceIdeal.nD Cert.Norm2ReferenceIdeal.τ).loc Cert.Norm2ReferenceIdeal.main_arg2)) (m ((c.tc : Thread Cert.Norm2ReferenceIdeal.nD Cert.Norm2ReferenceIdeal.τ).loc Cert.Norm2ReferenceIdeal.main_arg3)) (m ((c.tc : Thread Cert.Norm2ReferenceIdeal.nD Cert.Norm2ReferenceIdeal.τ).loc Cert.Norm2ReferenceIdeal.main_arg4)) (m ((c.tc : Thread Cert.Norm2ReferenceIdeal.nD Cert.Norm2ReferenceIdeal.τ).loc Cert.Norm2ReferenceIdeal.main_arg5)) (m ((c.tc : Thread Cert.Norm2ReferenceIdeal.nD Cert.Norm2ReferenceIdeal.τ).loc Cert.Norm2ReferenceIdeal.main_arg6)) (m ((c.tc : Thread Cert.Norm2ReferenceIdeal.nD Cert.Norm2ReferenceIdeal.τ).loc Cert.Norm2ReferenceIdeal.main_arg7)) (m ((c.tc : Thread Cert.Norm2ReferenceIdeal.nD Cert.Norm2ReferenceIdeal.τ).loc Cert.Norm2ReferenceIdeal.main_arg8))).2.2.2.2 = (fun _ => 1#1)

def Pre_Norm1Kernel (m : (ℓ : Loc Cert.Norm1Kernel.nD Cert.Norm1Kernel.τ Cert.Norm1Kernel.sig) → Buf (Elt Bits) ℓ) : Prop :=
  True

def Pre_Norm1KernelIdeal (m : (ℓ : Loc Cert.Norm1KernelIdeal.nD Cert.Norm1KernelIdeal.τ Cert.Norm1KernelIdeal.sig) → Buf (Elt Ideal) ℓ) : Prop :=
  True

def Pre_Norm1KernelIdeal_finite_norm1_arguments [hPre_finite_norm1_arguments : Cert.Pre_finite_norm1_arguments.Facts] (m : (ℓ : Loc Cert.Norm1KernelIdeal.nD Cert.Norm1KernelIdeal.τ Cert.Norm1KernelIdeal.sig) → Buf (Elt Ideal) ℓ) : Prop :=
  ∀ c : Dev Cert.Norm1KernelIdeal.nD,
    (Cert.Pre_finite_norm1_arguments.fn (F := Ideal) (m ((c.tc : Thread Cert.Norm1KernelIdeal.nD Cert.Norm1KernelIdeal.τ).loc Cert.Norm1KernelIdeal.main_arg0)) (m ((c.tc : Thread Cert.Norm1KernelIdeal.nD Cert.Norm1KernelIdeal.τ).loc Cert.Norm1KernelIdeal.main_arg1)) (m ((c.tc : Thread Cert.Norm1KernelIdeal.nD Cert.Norm1KernelIdeal.τ).loc Cert.Norm1KernelIdeal.main_arg2)) (m ((c.tc : Thread Cert.Norm1KernelIdeal.nD Cert.Norm1KernelIdeal.τ).loc Cert.Norm1KernelIdeal.main_arg3)) (m ((c.tc : Thread Cert.Norm1KernelIdeal.nD Cert.Norm1KernelIdeal.τ).loc Cert.Norm1KernelIdeal.main_arg4)) (m ((c.tc : Thread Cert.Norm1KernelIdeal.nD Cert.Norm1KernelIdeal.τ).loc Cert.Norm1KernelIdeal.main_arg5)) (m ((c.tc : Thread Cert.Norm1KernelIdeal.nD Cert.Norm1KernelIdeal.τ).loc Cert.Norm1KernelIdeal.main_arg6))).1 = (fun _ => 1#1)
    ∧ (Cert.Pre_finite_norm1_arguments.fn (F := Ideal) (m ((c.tc : Thread Cert.Norm1KernelIdeal.nD Cert.Norm1KernelIdeal.τ).loc Cert.Norm1KernelIdeal.main_arg0)) (m ((c.tc : Thread Cert.Norm1KernelIdeal.nD Cert.Norm1KernelIdeal.τ).loc Cert.Norm1KernelIdeal.main_arg1)) (m ((c.tc : Thread Cert.Norm1KernelIdeal.nD Cert.Norm1KernelIdeal.τ).loc Cert.Norm1KernelIdeal.main_arg2)) (m ((c.tc : Thread Cert.Norm1KernelIdeal.nD Cert.Norm1KernelIdeal.τ).loc Cert.Norm1KernelIdeal.main_arg3)) (m ((c.tc : Thread Cert.Norm1KernelIdeal.nD Cert.Norm1KernelIdeal.τ).loc Cert.Norm1KernelIdeal.main_arg4)) (m ((c.tc : Thread Cert.Norm1KernelIdeal.nD Cert.Norm1KernelIdeal.τ).loc Cert.Norm1KernelIdeal.main_arg5)) (m ((c.tc : Thread Cert.Norm1KernelIdeal.nD Cert.Norm1KernelIdeal.τ).loc Cert.Norm1KernelIdeal.main_arg6))).2.1 = (fun _ => 1#1)
    ∧ (Cert.Pre_finite_norm1_arguments.fn (F := Ideal) (m ((c.tc : Thread Cert.Norm1KernelIdeal.nD Cert.Norm1KernelIdeal.τ).loc Cert.Norm1KernelIdeal.main_arg0)) (m ((c.tc : Thread Cert.Norm1KernelIdeal.nD Cert.Norm1KernelIdeal.τ).loc Cert.Norm1KernelIdeal.main_arg1)) (m ((c.tc : Thread Cert.Norm1KernelIdeal.nD Cert.Norm1KernelIdeal.τ).loc Cert.Norm1KernelIdeal.main_arg2)) (m ((c.tc : Thread Cert.Norm1KernelIdeal.nD Cert.Norm1KernelIdeal.τ).loc Cert.Norm1KernelIdeal.main_arg3)) (m ((c.tc : Thread Cert.Norm1KernelIdeal.nD Cert.Norm1KernelIdeal.τ).loc Cert.Norm1KernelIdeal.main_arg4)) (m ((c.tc : Thread Cert.Norm1KernelIdeal.nD Cert.Norm1KernelIdeal.τ).loc Cert.Norm1KernelIdeal.main_arg5)) (m ((c.tc : Thread Cert.Norm1KernelIdeal.nD Cert.Norm1KernelIdeal.τ).loc Cert.Norm1KernelIdeal.main_arg6))).2.2.1 = (fun _ => 1#1)
    ∧ (Cert.Pre_finite_norm1_arguments.fn (F := Ideal) (m ((c.tc : Thread Cert.Norm1KernelIdeal.nD Cert.Norm1KernelIdeal.τ).loc Cert.Norm1KernelIdeal.main_arg0)) (m ((c.tc : Thread Cert.Norm1KernelIdeal.nD Cert.Norm1KernelIdeal.τ).loc Cert.Norm1KernelIdeal.main_arg1)) (m ((c.tc : Thread Cert.Norm1KernelIdeal.nD Cert.Norm1KernelIdeal.τ).loc Cert.Norm1KernelIdeal.main_arg2)) (m ((c.tc : Thread Cert.Norm1KernelIdeal.nD Cert.Norm1KernelIdeal.τ).loc Cert.Norm1KernelIdeal.main_arg3)) (m ((c.tc : Thread Cert.Norm1KernelIdeal.nD Cert.Norm1KernelIdeal.τ).loc Cert.Norm1KernelIdeal.main_arg4)) (m ((c.tc : Thread Cert.Norm1KernelIdeal.nD Cert.Norm1KernelIdeal.τ).loc Cert.Norm1KernelIdeal.main_arg5)) (m ((c.tc : Thread Cert.Norm1KernelIdeal.nD Cert.Norm1KernelIdeal.τ).loc Cert.Norm1KernelIdeal.main_arg6))).2.2.2.1 = (fun _ => 1#1)
    ∧ (Cert.Pre_finite_norm1_arguments.fn (F := Ideal) (m ((c.tc : Thread Cert.Norm1KernelIdeal.nD Cert.Norm1KernelIdeal.τ).loc Cert.Norm1KernelIdeal.main_arg0)) (m ((c.tc : Thread Cert.Norm1KernelIdeal.nD Cert.Norm1KernelIdeal.τ).loc Cert.Norm1KernelIdeal.main_arg1)) (m ((c.tc : Thread Cert.Norm1KernelIdeal.nD Cert.Norm1KernelIdeal.τ).loc Cert.Norm1KernelIdeal.main_arg2)) (m ((c.tc : Thread Cert.Norm1KernelIdeal.nD Cert.Norm1KernelIdeal.τ).loc Cert.Norm1KernelIdeal.main_arg3)) (m ((c.tc : Thread Cert.Norm1KernelIdeal.nD Cert.Norm1KernelIdeal.τ).loc Cert.Norm1KernelIdeal.main_arg4)) (m ((c.tc : Thread Cert.Norm1KernelIdeal.nD Cert.Norm1KernelIdeal.τ).loc Cert.Norm1KernelIdeal.main_arg5)) (m ((c.tc : Thread Cert.Norm1KernelIdeal.nD Cert.Norm1KernelIdeal.τ).loc Cert.Norm1KernelIdeal.main_arg6))).2.2.2.2 = (fun _ => 1#1)

def Pre_Norm1ReferenceIdeal (m : (ℓ : Loc Cert.Norm1ReferenceIdeal.nD Cert.Norm1ReferenceIdeal.τ Cert.Norm1ReferenceIdeal.sig) → Buf (Elt Ideal) ℓ) : Prop :=
  True

def Pre_Norm1ReferenceIdeal_finite_norm1_arguments [hPre_finite_norm1_arguments : Cert.Pre_finite_norm1_arguments.Facts] (m : (ℓ : Loc Cert.Norm1ReferenceIdeal.nD Cert.Norm1ReferenceIdeal.τ Cert.Norm1ReferenceIdeal.sig) → Buf (Elt Ideal) ℓ) : Prop :=
  ∀ c : Dev Cert.Norm1ReferenceIdeal.nD,
    (Cert.Pre_finite_norm1_arguments.fn (F := Ideal) (m ((c.tc : Thread Cert.Norm1ReferenceIdeal.nD Cert.Norm1ReferenceIdeal.τ).loc Cert.Norm1ReferenceIdeal.main_arg0)) (m ((c.tc : Thread Cert.Norm1ReferenceIdeal.nD Cert.Norm1ReferenceIdeal.τ).loc Cert.Norm1ReferenceIdeal.main_arg1)) (m ((c.tc : Thread Cert.Norm1ReferenceIdeal.nD Cert.Norm1ReferenceIdeal.τ).loc Cert.Norm1ReferenceIdeal.main_arg2)) (m ((c.tc : Thread Cert.Norm1ReferenceIdeal.nD Cert.Norm1ReferenceIdeal.τ).loc Cert.Norm1ReferenceIdeal.main_arg3)) (m ((c.tc : Thread Cert.Norm1ReferenceIdeal.nD Cert.Norm1ReferenceIdeal.τ).loc Cert.Norm1ReferenceIdeal.main_arg4)) (m ((c.tc : Thread Cert.Norm1ReferenceIdeal.nD Cert.Norm1ReferenceIdeal.τ).loc Cert.Norm1ReferenceIdeal.main_arg5)) (m ((c.tc : Thread Cert.Norm1ReferenceIdeal.nD Cert.Norm1ReferenceIdeal.τ).loc Cert.Norm1ReferenceIdeal.main_arg6))).1 = (fun _ => 1#1)
    ∧ (Cert.Pre_finite_norm1_arguments.fn (F := Ideal) (m ((c.tc : Thread Cert.Norm1ReferenceIdeal.nD Cert.Norm1ReferenceIdeal.τ).loc Cert.Norm1ReferenceIdeal.main_arg0)) (m ((c.tc : Thread Cert.Norm1ReferenceIdeal.nD Cert.Norm1ReferenceIdeal.τ).loc Cert.Norm1ReferenceIdeal.main_arg1)) (m ((c.tc : Thread Cert.Norm1ReferenceIdeal.nD Cert.Norm1ReferenceIdeal.τ).loc Cert.Norm1ReferenceIdeal.main_arg2)) (m ((c.tc : Thread Cert.Norm1ReferenceIdeal.nD Cert.Norm1ReferenceIdeal.τ).loc Cert.Norm1ReferenceIdeal.main_arg3)) (m ((c.tc : Thread Cert.Norm1ReferenceIdeal.nD Cert.Norm1ReferenceIdeal.τ).loc Cert.Norm1ReferenceIdeal.main_arg4)) (m ((c.tc : Thread Cert.Norm1ReferenceIdeal.nD Cert.Norm1ReferenceIdeal.τ).loc Cert.Norm1ReferenceIdeal.main_arg5)) (m ((c.tc : Thread Cert.Norm1ReferenceIdeal.nD Cert.Norm1ReferenceIdeal.τ).loc Cert.Norm1ReferenceIdeal.main_arg6))).2.1 = (fun _ => 1#1)
    ∧ (Cert.Pre_finite_norm1_arguments.fn (F := Ideal) (m ((c.tc : Thread Cert.Norm1ReferenceIdeal.nD Cert.Norm1ReferenceIdeal.τ).loc Cert.Norm1ReferenceIdeal.main_arg0)) (m ((c.tc : Thread Cert.Norm1ReferenceIdeal.nD Cert.Norm1ReferenceIdeal.τ).loc Cert.Norm1ReferenceIdeal.main_arg1)) (m ((c.tc : Thread Cert.Norm1ReferenceIdeal.nD Cert.Norm1ReferenceIdeal.τ).loc Cert.Norm1ReferenceIdeal.main_arg2)) (m ((c.tc : Thread Cert.Norm1ReferenceIdeal.nD Cert.Norm1ReferenceIdeal.τ).loc Cert.Norm1ReferenceIdeal.main_arg3)) (m ((c.tc : Thread Cert.Norm1ReferenceIdeal.nD Cert.Norm1ReferenceIdeal.τ).loc Cert.Norm1ReferenceIdeal.main_arg4)) (m ((c.tc : Thread Cert.Norm1ReferenceIdeal.nD Cert.Norm1ReferenceIdeal.τ).loc Cert.Norm1ReferenceIdeal.main_arg5)) (m ((c.tc : Thread Cert.Norm1ReferenceIdeal.nD Cert.Norm1ReferenceIdeal.τ).loc Cert.Norm1ReferenceIdeal.main_arg6))).2.2.1 = (fun _ => 1#1)
    ∧ (Cert.Pre_finite_norm1_arguments.fn (F := Ideal) (m ((c.tc : Thread Cert.Norm1ReferenceIdeal.nD Cert.Norm1ReferenceIdeal.τ).loc Cert.Norm1ReferenceIdeal.main_arg0)) (m ((c.tc : Thread Cert.Norm1ReferenceIdeal.nD Cert.Norm1ReferenceIdeal.τ).loc Cert.Norm1ReferenceIdeal.main_arg1)) (m ((c.tc : Thread Cert.Norm1ReferenceIdeal.nD Cert.Norm1ReferenceIdeal.τ).loc Cert.Norm1ReferenceIdeal.main_arg2)) (m ((c.tc : Thread Cert.Norm1ReferenceIdeal.nD Cert.Norm1ReferenceIdeal.τ).loc Cert.Norm1ReferenceIdeal.main_arg3)) (m ((c.tc : Thread Cert.Norm1ReferenceIdeal.nD Cert.Norm1ReferenceIdeal.τ).loc Cert.Norm1ReferenceIdeal.main_arg4)) (m ((c.tc : Thread Cert.Norm1ReferenceIdeal.nD Cert.Norm1ReferenceIdeal.τ).loc Cert.Norm1ReferenceIdeal.main_arg5)) (m ((c.tc : Thread Cert.Norm1ReferenceIdeal.nD Cert.Norm1ReferenceIdeal.τ).loc Cert.Norm1ReferenceIdeal.main_arg6))).2.2.2.1 = (fun _ => 1#1)
    ∧ (Cert.Pre_finite_norm1_arguments.fn (F := Ideal) (m ((c.tc : Thread Cert.Norm1ReferenceIdeal.nD Cert.Norm1ReferenceIdeal.τ).loc Cert.Norm1ReferenceIdeal.main_arg0)) (m ((c.tc : Thread Cert.Norm1ReferenceIdeal.nD Cert.Norm1ReferenceIdeal.τ).loc Cert.Norm1ReferenceIdeal.main_arg1)) (m ((c.tc : Thread Cert.Norm1ReferenceIdeal.nD Cert.Norm1ReferenceIdeal.τ).loc Cert.Norm1ReferenceIdeal.main_arg2)) (m ((c.tc : Thread Cert.Norm1ReferenceIdeal.nD Cert.Norm1ReferenceIdeal.τ).loc Cert.Norm1ReferenceIdeal.main_arg3)) (m ((c.tc : Thread Cert.Norm1ReferenceIdeal.nD Cert.Norm1ReferenceIdeal.τ).loc Cert.Norm1ReferenceIdeal.main_arg4)) (m ((c.tc : Thread Cert.Norm1ReferenceIdeal.nD Cert.Norm1ReferenceIdeal.τ).loc Cert.Norm1ReferenceIdeal.main_arg5)) (m ((c.tc : Thread Cert.Norm1ReferenceIdeal.nD Cert.Norm1ReferenceIdeal.τ).loc Cert.Norm1ReferenceIdeal.main_arg6))).2.2.2.2 = (fun _ => 1#1)

def Pre_GateFfKernel (m : (ℓ : Loc Cert.GateFfKernel.nD Cert.GateFfKernel.τ Cert.GateFfKernel.sig) → Buf (Elt Bits) ℓ) : Prop :=
  True

def Pre_GateFfKernelIdeal (m : (ℓ : Loc Cert.GateFfKernelIdeal.nD Cert.GateFfKernelIdeal.τ Cert.GateFfKernelIdeal.sig) → Buf (Elt Ideal) ℓ) : Prop :=
  True

def Pre_GateFfKernelIdeal_finite_gate_ff_arguments [hPre_finite_gate_ff_arguments : Cert.Pre_finite_gate_ff_arguments.Facts] (m : (ℓ : Loc Cert.GateFfKernelIdeal.nD Cert.GateFfKernelIdeal.τ Cert.GateFfKernelIdeal.sig) → Buf (Elt Ideal) ℓ) : Prop :=
  ∀ c : Dev Cert.GateFfKernelIdeal.nD,
    (Cert.Pre_finite_gate_ff_arguments.fn (F := Ideal) (m ((c.tc : Thread Cert.GateFfKernelIdeal.nD Cert.GateFfKernelIdeal.τ).loc Cert.GateFfKernelIdeal.main_arg0)) (m ((c.tc : Thread Cert.GateFfKernelIdeal.nD Cert.GateFfKernelIdeal.τ).loc Cert.GateFfKernelIdeal.main_arg1)) (m ((c.tc : Thread Cert.GateFfKernelIdeal.nD Cert.GateFfKernelIdeal.τ).loc Cert.GateFfKernelIdeal.main_arg2)) (m ((c.tc : Thread Cert.GateFfKernelIdeal.nD Cert.GateFfKernelIdeal.τ).loc Cert.GateFfKernelIdeal.main_arg3))).1 = (fun _ => 1#1)
    ∧ (Cert.Pre_finite_gate_ff_arguments.fn (F := Ideal) (m ((c.tc : Thread Cert.GateFfKernelIdeal.nD Cert.GateFfKernelIdeal.τ).loc Cert.GateFfKernelIdeal.main_arg0)) (m ((c.tc : Thread Cert.GateFfKernelIdeal.nD Cert.GateFfKernelIdeal.τ).loc Cert.GateFfKernelIdeal.main_arg1)) (m ((c.tc : Thread Cert.GateFfKernelIdeal.nD Cert.GateFfKernelIdeal.τ).loc Cert.GateFfKernelIdeal.main_arg2)) (m ((c.tc : Thread Cert.GateFfKernelIdeal.nD Cert.GateFfKernelIdeal.τ).loc Cert.GateFfKernelIdeal.main_arg3))).2.1 = (fun _ => 1#1)
    ∧ (Cert.Pre_finite_gate_ff_arguments.fn (F := Ideal) (m ((c.tc : Thread Cert.GateFfKernelIdeal.nD Cert.GateFfKernelIdeal.τ).loc Cert.GateFfKernelIdeal.main_arg0)) (m ((c.tc : Thread Cert.GateFfKernelIdeal.nD Cert.GateFfKernelIdeal.τ).loc Cert.GateFfKernelIdeal.main_arg1)) (m ((c.tc : Thread Cert.GateFfKernelIdeal.nD Cert.GateFfKernelIdeal.τ).loc Cert.GateFfKernelIdeal.main_arg2)) (m ((c.tc : Thread Cert.GateFfKernelIdeal.nD Cert.GateFfKernelIdeal.τ).loc Cert.GateFfKernelIdeal.main_arg3))).2.2.1 = (fun _ => 1#1)
    ∧ (Cert.Pre_finite_gate_ff_arguments.fn (F := Ideal) (m ((c.tc : Thread Cert.GateFfKernelIdeal.nD Cert.GateFfKernelIdeal.τ).loc Cert.GateFfKernelIdeal.main_arg0)) (m ((c.tc : Thread Cert.GateFfKernelIdeal.nD Cert.GateFfKernelIdeal.τ).loc Cert.GateFfKernelIdeal.main_arg1)) (m ((c.tc : Thread Cert.GateFfKernelIdeal.nD Cert.GateFfKernelIdeal.τ).loc Cert.GateFfKernelIdeal.main_arg2)) (m ((c.tc : Thread Cert.GateFfKernelIdeal.nD Cert.GateFfKernelIdeal.τ).loc Cert.GateFfKernelIdeal.main_arg3))).2.2.2 = (fun _ => 1#1)

def Pre_GateFfReferenceIdeal (m : (ℓ : Loc Cert.GateFfReferenceIdeal.nD Cert.GateFfReferenceIdeal.τ Cert.GateFfReferenceIdeal.sig) → Buf (Elt Ideal) ℓ) : Prop :=
  True

def Pre_GateFfReferenceIdeal_finite_gate_ff_arguments [hPre_finite_gate_ff_arguments : Cert.Pre_finite_gate_ff_arguments.Facts] (m : (ℓ : Loc Cert.GateFfReferenceIdeal.nD Cert.GateFfReferenceIdeal.τ Cert.GateFfReferenceIdeal.sig) → Buf (Elt Ideal) ℓ) : Prop :=
  ∀ c : Dev Cert.GateFfReferenceIdeal.nD,
    (Cert.Pre_finite_gate_ff_arguments.fn (F := Ideal) (m ((c.tc : Thread Cert.GateFfReferenceIdeal.nD Cert.GateFfReferenceIdeal.τ).loc Cert.GateFfReferenceIdeal.main_arg0)) (m ((c.tc : Thread Cert.GateFfReferenceIdeal.nD Cert.GateFfReferenceIdeal.τ).loc Cert.GateFfReferenceIdeal.main_arg1)) (m ((c.tc : Thread Cert.GateFfReferenceIdeal.nD Cert.GateFfReferenceIdeal.τ).loc Cert.GateFfReferenceIdeal.main_arg2)) (m ((c.tc : Thread Cert.GateFfReferenceIdeal.nD Cert.GateFfReferenceIdeal.τ).loc Cert.GateFfReferenceIdeal.main_arg3))).1 = (fun _ => 1#1)
    ∧ (Cert.Pre_finite_gate_ff_arguments.fn (F := Ideal) (m ((c.tc : Thread Cert.GateFfReferenceIdeal.nD Cert.GateFfReferenceIdeal.τ).loc Cert.GateFfReferenceIdeal.main_arg0)) (m ((c.tc : Thread Cert.GateFfReferenceIdeal.nD Cert.GateFfReferenceIdeal.τ).loc Cert.GateFfReferenceIdeal.main_arg1)) (m ((c.tc : Thread Cert.GateFfReferenceIdeal.nD Cert.GateFfReferenceIdeal.τ).loc Cert.GateFfReferenceIdeal.main_arg2)) (m ((c.tc : Thread Cert.GateFfReferenceIdeal.nD Cert.GateFfReferenceIdeal.τ).loc Cert.GateFfReferenceIdeal.main_arg3))).2.1 = (fun _ => 1#1)
    ∧ (Cert.Pre_finite_gate_ff_arguments.fn (F := Ideal) (m ((c.tc : Thread Cert.GateFfReferenceIdeal.nD Cert.GateFfReferenceIdeal.τ).loc Cert.GateFfReferenceIdeal.main_arg0)) (m ((c.tc : Thread Cert.GateFfReferenceIdeal.nD Cert.GateFfReferenceIdeal.τ).loc Cert.GateFfReferenceIdeal.main_arg1)) (m ((c.tc : Thread Cert.GateFfReferenceIdeal.nD Cert.GateFfReferenceIdeal.τ).loc Cert.GateFfReferenceIdeal.main_arg2)) (m ((c.tc : Thread Cert.GateFfReferenceIdeal.nD Cert.GateFfReferenceIdeal.τ).loc Cert.GateFfReferenceIdeal.main_arg3))).2.2.1 = (fun _ => 1#1)
    ∧ (Cert.Pre_finite_gate_ff_arguments.fn (F := Ideal) (m ((c.tc : Thread Cert.GateFfReferenceIdeal.nD Cert.GateFfReferenceIdeal.τ).loc Cert.GateFfReferenceIdeal.main_arg0)) (m ((c.tc : Thread Cert.GateFfReferenceIdeal.nD Cert.GateFfReferenceIdeal.τ).loc Cert.GateFfReferenceIdeal.main_arg1)) (m ((c.tc : Thread Cert.GateFfReferenceIdeal.nD Cert.GateFfReferenceIdeal.τ).loc Cert.GateFfReferenceIdeal.main_arg2)) (m ((c.tc : Thread Cert.GateFfReferenceIdeal.nD Cert.GateFfReferenceIdeal.τ).loc Cert.GateFfReferenceIdeal.main_arg3))).2.2.2 = (fun _ => 1#1)

def Pre_GateOutKernel (m : (ℓ : Loc Cert.GateOutKernel.nD Cert.GateOutKernel.τ Cert.GateOutKernel.sig) → Buf (Elt Bits) ℓ) : Prop :=
  True

def Pre_GateOutKernelIdeal (m : (ℓ : Loc Cert.GateOutKernelIdeal.nD Cert.GateOutKernelIdeal.τ Cert.GateOutKernelIdeal.sig) → Buf (Elt Ideal) ℓ) : Prop :=
  True

def Pre_GateOutKernelIdeal_finite_gate_out_arguments [hPre_finite_gate_out_arguments : Cert.Pre_finite_gate_out_arguments.Facts] (m : (ℓ : Loc Cert.GateOutKernelIdeal.nD Cert.GateOutKernelIdeal.τ Cert.GateOutKernelIdeal.sig) → Buf (Elt Ideal) ℓ) : Prop :=
  ∀ c : Dev Cert.GateOutKernelIdeal.nD,
    (Cert.Pre_finite_gate_out_arguments.fn (F := Ideal) (m ((c.tc : Thread Cert.GateOutKernelIdeal.nD Cert.GateOutKernelIdeal.τ).loc Cert.GateOutKernelIdeal.main_arg0)) (m ((c.tc : Thread Cert.GateOutKernelIdeal.nD Cert.GateOutKernelIdeal.τ).loc Cert.GateOutKernelIdeal.main_arg1)) (m ((c.tc : Thread Cert.GateOutKernelIdeal.nD Cert.GateOutKernelIdeal.τ).loc Cert.GateOutKernelIdeal.main_arg2)) (m ((c.tc : Thread Cert.GateOutKernelIdeal.nD Cert.GateOutKernelIdeal.τ).loc Cert.GateOutKernelIdeal.main_arg3))).1 = (fun _ => 1#1)
    ∧ (Cert.Pre_finite_gate_out_arguments.fn (F := Ideal) (m ((c.tc : Thread Cert.GateOutKernelIdeal.nD Cert.GateOutKernelIdeal.τ).loc Cert.GateOutKernelIdeal.main_arg0)) (m ((c.tc : Thread Cert.GateOutKernelIdeal.nD Cert.GateOutKernelIdeal.τ).loc Cert.GateOutKernelIdeal.main_arg1)) (m ((c.tc : Thread Cert.GateOutKernelIdeal.nD Cert.GateOutKernelIdeal.τ).loc Cert.GateOutKernelIdeal.main_arg2)) (m ((c.tc : Thread Cert.GateOutKernelIdeal.nD Cert.GateOutKernelIdeal.τ).loc Cert.GateOutKernelIdeal.main_arg3))).2.1 = (fun _ => 1#1)
    ∧ (Cert.Pre_finite_gate_out_arguments.fn (F := Ideal) (m ((c.tc : Thread Cert.GateOutKernelIdeal.nD Cert.GateOutKernelIdeal.τ).loc Cert.GateOutKernelIdeal.main_arg0)) (m ((c.tc : Thread Cert.GateOutKernelIdeal.nD Cert.GateOutKernelIdeal.τ).loc Cert.GateOutKernelIdeal.main_arg1)) (m ((c.tc : Thread Cert.GateOutKernelIdeal.nD Cert.GateOutKernelIdeal.τ).loc Cert.GateOutKernelIdeal.main_arg2)) (m ((c.tc : Thread Cert.GateOutKernelIdeal.nD Cert.GateOutKernelIdeal.τ).loc Cert.GateOutKernelIdeal.main_arg3))).2.2.1 = (fun _ => 1#1)
    ∧ (Cert.Pre_finite_gate_out_arguments.fn (F := Ideal) (m ((c.tc : Thread Cert.GateOutKernelIdeal.nD Cert.GateOutKernelIdeal.τ).loc Cert.GateOutKernelIdeal.main_arg0)) (m ((c.tc : Thread Cert.GateOutKernelIdeal.nD Cert.GateOutKernelIdeal.τ).loc Cert.GateOutKernelIdeal.main_arg1)) (m ((c.tc : Thread Cert.GateOutKernelIdeal.nD Cert.GateOutKernelIdeal.τ).loc Cert.GateOutKernelIdeal.main_arg2)) (m ((c.tc : Thread Cert.GateOutKernelIdeal.nD Cert.GateOutKernelIdeal.τ).loc Cert.GateOutKernelIdeal.main_arg3))).2.2.2 = (fun _ => 1#1)

def Pre_GateOutReferenceIdeal (m : (ℓ : Loc Cert.GateOutReferenceIdeal.nD Cert.GateOutReferenceIdeal.τ Cert.GateOutReferenceIdeal.sig) → Buf (Elt Ideal) ℓ) : Prop :=
  True

def Pre_GateOutReferenceIdeal_finite_gate_out_arguments [hPre_finite_gate_out_arguments : Cert.Pre_finite_gate_out_arguments.Facts] (m : (ℓ : Loc Cert.GateOutReferenceIdeal.nD Cert.GateOutReferenceIdeal.τ Cert.GateOutReferenceIdeal.sig) → Buf (Elt Ideal) ℓ) : Prop :=
  ∀ c : Dev Cert.GateOutReferenceIdeal.nD,
    (Cert.Pre_finite_gate_out_arguments.fn (F := Ideal) (m ((c.tc : Thread Cert.GateOutReferenceIdeal.nD Cert.GateOutReferenceIdeal.τ).loc Cert.GateOutReferenceIdeal.main_arg0)) (m ((c.tc : Thread Cert.GateOutReferenceIdeal.nD Cert.GateOutReferenceIdeal.τ).loc Cert.GateOutReferenceIdeal.main_arg1)) (m ((c.tc : Thread Cert.GateOutReferenceIdeal.nD Cert.GateOutReferenceIdeal.τ).loc Cert.GateOutReferenceIdeal.main_arg2)) (m ((c.tc : Thread Cert.GateOutReferenceIdeal.nD Cert.GateOutReferenceIdeal.τ).loc Cert.GateOutReferenceIdeal.main_arg3))).1 = (fun _ => 1#1)
    ∧ (Cert.Pre_finite_gate_out_arguments.fn (F := Ideal) (m ((c.tc : Thread Cert.GateOutReferenceIdeal.nD Cert.GateOutReferenceIdeal.τ).loc Cert.GateOutReferenceIdeal.main_arg0)) (m ((c.tc : Thread Cert.GateOutReferenceIdeal.nD Cert.GateOutReferenceIdeal.τ).loc Cert.GateOutReferenceIdeal.main_arg1)) (m ((c.tc : Thread Cert.GateOutReferenceIdeal.nD Cert.GateOutReferenceIdeal.τ).loc Cert.GateOutReferenceIdeal.main_arg2)) (m ((c.tc : Thread Cert.GateOutReferenceIdeal.nD Cert.GateOutReferenceIdeal.τ).loc Cert.GateOutReferenceIdeal.main_arg3))).2.1 = (fun _ => 1#1)
    ∧ (Cert.Pre_finite_gate_out_arguments.fn (F := Ideal) (m ((c.tc : Thread Cert.GateOutReferenceIdeal.nD Cert.GateOutReferenceIdeal.τ).loc Cert.GateOutReferenceIdeal.main_arg0)) (m ((c.tc : Thread Cert.GateOutReferenceIdeal.nD Cert.GateOutReferenceIdeal.τ).loc Cert.GateOutReferenceIdeal.main_arg1)) (m ((c.tc : Thread Cert.GateOutReferenceIdeal.nD Cert.GateOutReferenceIdeal.τ).loc Cert.GateOutReferenceIdeal.main_arg2)) (m ((c.tc : Thread Cert.GateOutReferenceIdeal.nD Cert.GateOutReferenceIdeal.τ).loc Cert.GateOutReferenceIdeal.main_arg3))).2.2.1 = (fun _ => 1#1)
    ∧ (Cert.Pre_finite_gate_out_arguments.fn (F := Ideal) (m ((c.tc : Thread Cert.GateOutReferenceIdeal.nD Cert.GateOutReferenceIdeal.τ).loc Cert.GateOutReferenceIdeal.main_arg0)) (m ((c.tc : Thread Cert.GateOutReferenceIdeal.nD Cert.GateOutReferenceIdeal.τ).loc Cert.GateOutReferenceIdeal.main_arg1)) (m ((c.tc : Thread Cert.GateOutReferenceIdeal.nD Cert.GateOutReferenceIdeal.τ).loc Cert.GateOutReferenceIdeal.main_arg2)) (m ((c.tc : Thread Cert.GateOutReferenceIdeal.nD Cert.GateOutReferenceIdeal.τ).loc Cert.GateOutReferenceIdeal.main_arg3))).2.2.2 = (fun _ => 1#1)

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix_arguments [hPre_finite_mix_arguments : Cert.Pre_finite_mix_arguments.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.2.2.1 = (fun _ => 1#1)
    ∧ (Cert.Pre_finite_mix_arguments.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix_arguments [hPre_finite_mix_arguments : Cert.Pre_finite_mix_arguments.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.2.2.1 = (fun _ => 1#1)
    ∧ (Cert.Pre_finite_mix_arguments.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.2.2.2 = (fun _ => 1#1)

def Pre_FwdFfKernel (m : (ℓ : Loc Cert.FwdFfKernel.nD Cert.FwdFfKernel.τ Cert.FwdFfKernel.sig) → Buf (Elt Bits) ℓ) : Prop :=
  True

def Pre_FwdFfKernelIdeal (m : (ℓ : Loc Cert.FwdFfKernelIdeal.nD Cert.FwdFfKernelIdeal.τ Cert.FwdFfKernelIdeal.sig) → Buf (Elt Ideal) ℓ) : Prop :=
  True

def Pre_FwdFfReferenceIdeal (m : (ℓ : Loc Cert.FwdFfReferenceIdeal.nD Cert.FwdFfReferenceIdeal.τ Cert.FwdFfReferenceIdeal.sig) → Buf (Elt Ideal) ℓ) : Prop :=
  True

def Pre_FwdInKernel (m : (ℓ : Loc Cert.FwdInKernel.nD Cert.FwdInKernel.τ Cert.FwdInKernel.sig) → Buf (Elt Bits) ℓ) : Prop :=
  True

def Pre_FwdInKernelIdeal (m : (ℓ : Loc Cert.FwdInKernelIdeal.nD Cert.FwdInKernelIdeal.τ Cert.FwdInKernelIdeal.sig) → Buf (Elt Ideal) ℓ) : Prop :=
  True

def Pre_FwdInReferenceIdeal (m : (ℓ : Loc Cert.FwdInReferenceIdeal.nD Cert.FwdInReferenceIdeal.τ Cert.FwdInReferenceIdeal.sig) → Buf (Elt Ideal) ℓ) : Prop :=
  True

def Pre_FwdOutKernel (m : (ℓ : Loc Cert.FwdOutKernel.nD Cert.FwdOutKernel.τ Cert.FwdOutKernel.sig) → Buf (Elt Bits) ℓ) : Prop :=
  True

def Pre_FwdOutKernelIdeal (m : (ℓ : Loc Cert.FwdOutKernelIdeal.nD Cert.FwdOutKernelIdeal.τ Cert.FwdOutKernelIdeal.sig) → Buf (Elt Ideal) ℓ) : Prop :=
  True

def Pre_FwdOutReferenceIdeal (m : (ℓ : Loc Cert.FwdOutReferenceIdeal.nD Cert.FwdOutReferenceIdeal.τ Cert.FwdOutReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SpatialKernel (m : (ℓ : Loc Cert.SpatialKernel.nD Cert.SpatialKernel.τ Cert.SpatialKernel.sig) → Buf (Elt Bits) ℓ) : Prop :=
  True

def Pre_SpatialKernelIdeal (m : (ℓ : Loc Cert.SpatialKernelIdeal.nD Cert.SpatialKernelIdeal.τ Cert.SpatialKernelIdeal.sig) → Buf (Elt Ideal) ℓ) : Prop :=
  True

def Pre_SpatialReferenceIdeal (m : (ℓ : Loc Cert.SpatialReferenceIdeal.nD Cert.SpatialReferenceIdeal.τ Cert.SpatialReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_finite_loss_arguments [hLossKernelIdeal : Cert.LossKernelIdeal.Facts] [hPre_finite_loss_arguments : Cert.Pre_finite_loss_arguments.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss_arguments m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss_arguments [hLossReferenceIdeal : Cert.LossReferenceIdeal.Facts] [hPre_finite_loss_arguments : Cert.Pre_finite_loss_arguments.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss_arguments m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_ReluKernel [hReluKernel : Cert.ReluKernel.Facts] : Prop :=
  ∀ (m : (ℓ : Loc Cert.ReluKernel.nD Cert.ReluKernel.τ Cert.ReluKernel.sig) → Buf (Elt Bits) ℓ) (g : Dev Cert.ReluKernel.nD → PrngReg), Pre_ReluKernel m →
    θ_run (Cert.ReluKernel.defs (F := Bits)) (onTc (τ := Cert.ReluKernel.τ) (Cert.ReluKernel.main (F := Bits))) ⟨m, fun _ => 0, g⟩ (fun r => (∀ c : Dev Cert.ReluKernel.nD,
      r.2.mem ((c.tc : Thread Cert.ReluKernel.nD Cert.ReluKernel.τ).loc Cert.ReluKernel.main_arg0) = m ((c.tc : Thread Cert.ReluKernel.nD Cert.ReluKernel.τ).loc Cert.ReluKernel.main_arg0)
      ∧ r.2.mem ((c.tc : Thread Cert.ReluKernel.nD Cert.ReluKernel.τ).loc Cert.ReluKernel.main_arg1) = m ((c.tc : Thread Cert.ReluKernel.nD Cert.ReluKernel.τ).loc Cert.ReluKernel.main_arg1)
      ∧ r.2.mem ((c.tc : Thread Cert.ReluKernel.nD Cert.ReluKernel.τ).loc Cert.ReluKernel.main_arg2) = m ((c.tc : Thread Cert.ReluKernel.nD Cert.ReluKernel.τ).loc Cert.ReluKernel.main_arg2)
      ∧ r.2.mem ((c.tc : Thread Cert.ReluKernel.nD Cert.ReluKernel.τ).loc Cert.ReluKernel.main_arg3) = m ((c.tc : Thread Cert.ReluKernel.nD Cert.ReluKernel.τ).loc Cert.ReluKernel.main_arg3))
      ∧ r.2.sem = fun _ => 0)

def quiescent_ReluKernelIdeal [hReluKernelIdeal : Cert.ReluKernelIdeal.Facts] : Prop :=
  ∀ (m : (ℓ : Loc Cert.ReluKernelIdeal.nD Cert.ReluKernelIdeal.τ Cert.ReluKernelIdeal.sig) → Buf (Elt Ideal) ℓ) (g : Dev Cert.ReluKernelIdeal.nD → PrngReg), Pre_ReluKernelIdeal m →
    θ_run (Cert.ReluKernelIdeal.defs (F := Ideal)) (onTc (τ := Cert.ReluKernelIdeal.τ) (Cert.ReluKernelIdeal.main (F := Ideal))) ⟨m, fun _ => 0, g⟩ (fun r => (∀ c : Dev Cert.ReluKernelIdeal.nD,
      r.2.mem ((c.tc : Thread Cert.ReluKernelIdeal.nD Cert.ReluKernelIdeal.τ).loc Cert.ReluKernelIdeal.main_arg0) = m ((c.tc : Thread Cert.ReluKernelIdeal.nD Cert.ReluKernelIdeal.τ).loc Cert.ReluKernelIdeal.main_arg0)
      ∧ r.2.mem ((c.tc : Thread Cert.ReluKernelIdeal.nD Cert.ReluKernelIdeal.τ).loc Cert.ReluKernelIdeal.main_arg1) = m ((c.tc : Thread Cert.ReluKernelIdeal.nD Cert.ReluKernelIdeal.τ).loc Cert.ReluKernelIdeal.main_arg1)
      ∧ r.2.mem ((c.tc : Thread Cert.ReluKernelIdeal.nD Cert.ReluKernelIdeal.τ).loc Cert.ReluKernelIdeal.main_arg2) = m ((c.tc : Thread Cert.ReluKernelIdeal.nD Cert.ReluKernelIdeal.τ).loc Cert.ReluKernelIdeal.main_arg2)
      ∧ r.2.mem ((c.tc : Thread Cert.ReluKernelIdeal.nD Cert.ReluKernelIdeal.τ).loc Cert.ReluKernelIdeal.main_arg3) = m ((c.tc : Thread Cert.ReluKernelIdeal.nD Cert.ReluKernelIdeal.τ).loc Cert.ReluKernelIdeal.main_arg3))
      ∧ r.2.sem = fun _ => 0)

def quiescent_ReluReferenceIdeal [hReluReferenceIdeal : Cert.ReluReferenceIdeal.Facts] : Prop :=
  ∀ (m : (ℓ : Loc Cert.ReluReferenceIdeal.nD Cert.ReluReferenceIdeal.τ Cert.ReluReferenceIdeal.sig) → Buf (Elt Ideal) ℓ) (g : Dev Cert.ReluReferenceIdeal.nD → PrngReg), Pre_ReluReferenceIdeal m →
    θ_run (Cert.ReluReferenceIdeal.defs (F := Ideal)) (onTc (τ := Cert.ReluReferenceIdeal.τ) (Cert.ReluReferenceIdeal.main (F := Ideal))) ⟨m, fun _ => 0, g⟩ (fun r => (∀ c : Dev Cert.ReluReferenceIdeal.nD,
      r.2.mem ((c.tc : Thread Cert.ReluReferenceIdeal.nD Cert.ReluReferenceIdeal.τ).loc Cert.ReluReferenceIdeal.main_arg0) = m ((c.tc : Thread Cert.ReluReferenceIdeal.nD Cert.ReluReferenceIdeal.τ).loc Cert.ReluReferenceIdeal.main_arg0)
      ∧ r.2.mem ((c.tc : Thread Cert.ReluReferenceIdeal.nD Cert.ReluReferenceIdeal.τ).loc Cert.ReluReferenceIdeal.main_arg1) = m ((c.tc : Thread Cert.ReluReferenceIdeal.nD Cert.ReluReferenceIdeal.τ).loc Cert.ReluReferenceIdeal.main_arg1)
      ∧ r.2.mem ((c.tc : Thread Cert.ReluReferenceIdeal.nD Cert.ReluReferenceIdeal.τ).loc Cert.ReluReferenceIdeal.main_arg2) = m ((c.tc : Thread Cert.ReluReferenceIdeal.nD Cert.ReluReferenceIdeal.τ).loc Cert.ReluReferenceIdeal.main_arg2)
      ∧ r.2.mem ((c.tc : Thread Cert.ReluReferenceIdeal.nD Cert.ReluReferenceIdeal.τ).loc Cert.ReluReferenceIdeal.main_arg3) = m ((c.tc : Thread Cert.ReluReferenceIdeal.nD Cert.ReluReferenceIdeal.τ).loc Cert.ReluReferenceIdeal.main_arg3))
      ∧ r.2.sem = fun _ => 0)

def quiescent_Norm2Kernel [hNorm2Kernel : Cert.Norm2Kernel.Facts] : Prop :=
  ∀ (m : (ℓ : Loc Cert.Norm2Kernel.nD Cert.Norm2Kernel.τ Cert.Norm2Kernel.sig) → Buf (Elt Bits) ℓ) (g : Dev Cert.Norm2Kernel.nD → PrngReg), Pre_Norm2Kernel m →
    θ_run (Cert.Norm2Kernel.defs (F := Bits)) (onTc (τ := Cert.Norm2Kernel.τ) (Cert.Norm2Kernel.main (F := Bits))) ⟨m, fun _ => 0, g⟩ (fun r => (∀ c : Dev Cert.Norm2Kernel.nD,
      r.2.mem ((c.tc : Thread Cert.Norm2Kernel.nD Cert.Norm2Kernel.τ).loc Cert.Norm2Kernel.main_arg0) = m ((c.tc : Thread Cert.Norm2Kernel.nD Cert.Norm2Kernel.τ).loc Cert.Norm2Kernel.main_arg0)
      ∧ r.2.mem ((c.tc : Thread Cert.Norm2Kernel.nD Cert.Norm2Kernel.τ).loc Cert.Norm2Kernel.main_arg1) = m ((c.tc : Thread Cert.Norm2Kernel.nD Cert.Norm2Kernel.τ).loc Cert.Norm2Kernel.main_arg1)
      ∧ r.2.mem ((c.tc : Thread Cert.Norm2Kernel.nD Cert.Norm2Kernel.τ).loc Cert.Norm2Kernel.main_arg2) = m ((c.tc : Thread Cert.Norm2Kernel.nD Cert.Norm2Kernel.τ).loc Cert.Norm2Kernel.main_arg2)
      ∧ r.2.mem ((c.tc : Thread Cert.Norm2Kernel.nD Cert.Norm2Kernel.τ).loc Cert.Norm2Kernel.main_arg3) = m ((c.tc : Thread Cert.Norm2Kernel.nD Cert.Norm2Kernel.τ).loc Cert.Norm2Kernel.main_arg3)
      ∧ r.2.mem ((c.tc : Thread Cert.Norm2Kernel.nD Cert.Norm2Kernel.τ).loc Cert.Norm2Kernel.main_arg4) = m ((c.tc : Thread Cert.Norm2Kernel.nD Cert.Norm2Kernel.τ).loc Cert.Norm2Kernel.main_arg4)
      ∧ r.2.mem ((c.tc : Thread Cert.Norm2Kernel.nD Cert.Norm2Kernel.τ).loc Cert.Norm2Kernel.main_arg5) = m ((c.tc : Thread Cert.Norm2Kernel.nD Cert.Norm2Kernel.τ).loc Cert.Norm2Kernel.main_arg5)
      ∧ r.2.mem ((c.tc : Thread Cert.Norm2Kernel.nD Cert.Norm2Kernel.τ).loc Cert.Norm2Kernel.main_arg6) = m ((c.tc : Thread Cert.Norm2Kernel.nD Cert.Norm2Kernel.τ).loc Cert.Norm2Kernel.main_arg6)
      ∧ r.2.mem ((c.tc : Thread Cert.Norm2Kernel.nD Cert.Norm2Kernel.τ).loc Cert.Norm2Kernel.main_arg7) = m ((c.tc : Thread Cert.Norm2Kernel.nD Cert.Norm2Kernel.τ).loc Cert.Norm2Kernel.main_arg7)
      ∧ r.2.mem ((c.tc : Thread Cert.Norm2Kernel.nD Cert.Norm2Kernel.τ).loc Cert.Norm2Kernel.main_arg8) = m ((c.tc : Thread Cert.Norm2Kernel.nD Cert.Norm2Kernel.τ).loc Cert.Norm2Kernel.main_arg8))
      ∧ r.2.sem = fun _ => 0)

def quiescent_Norm2KernelIdeal [hNorm2KernelIdeal : Cert.Norm2KernelIdeal.Facts] : Prop :=
  ∀ (m : (ℓ : Loc Cert.Norm2KernelIdeal.nD Cert.Norm2KernelIdeal.τ Cert.Norm2KernelIdeal.sig) → Buf (Elt Ideal) ℓ) (g : Dev Cert.Norm2KernelIdeal.nD → PrngReg), Pre_Norm2KernelIdeal m →
    θ_run (Cert.Norm2KernelIdeal.defs (F := Ideal)) (onTc (τ := Cert.Norm2KernelIdeal.τ) (Cert.Norm2KernelIdeal.main (F := Ideal))) ⟨m, fun _ => 0, g⟩ (fun r => (∀ c : Dev Cert.Norm2KernelIdeal.nD,
      r.2.mem ((c.tc : Thread Cert.Norm2KernelIdeal.nD Cert.Norm2KernelIdeal.τ).loc Cert.Norm2KernelIdeal.main_arg0) = m ((c.tc : Thread Cert.Norm2KernelIdeal.nD Cert.Norm2KernelIdeal.τ).loc Cert.Norm2KernelIdeal.main_arg0)
      ∧ r.2.mem ((c.tc : Thread Cert.Norm2KernelIdeal.nD Cert.Norm2KernelIdeal.τ).loc Cert.Norm2KernelIdeal.main_arg1) = m ((c.tc : Thread Cert.Norm2KernelIdeal.nD Cert.Norm2KernelIdeal.τ).loc Cert.Norm2KernelIdeal.main_arg1)
      ∧ r.2.mem ((c.tc : Thread Cert.Norm2KernelIdeal.nD Cert.Norm2KernelIdeal.τ).loc Cert.Norm2KernelIdeal.main_arg2) = m ((c.tc : Thread Cert.Norm2KernelIdeal.nD Cert.Norm2KernelIdeal.τ).loc Cert.Norm2KernelIdeal.main_arg2)
      ∧ r.2.mem ((c.tc : Thread Cert.Norm2KernelIdeal.nD Cert.Norm2KernelIdeal.τ).loc Cert.Norm2KernelIdeal.main_arg3) = m ((c.tc : Thread Cert.Norm2KernelIdeal.nD Cert.Norm2KernelIdeal.τ).loc Cert.Norm2KernelIdeal.main_arg3)
      ∧ r.2.mem ((c.tc : Thread Cert.Norm2KernelIdeal.nD Cert.Norm2KernelIdeal.τ).loc Cert.Norm2KernelIdeal.main_arg4) = m ((c.tc : Thread Cert.Norm2KernelIdeal.nD Cert.Norm2KernelIdeal.τ).loc Cert.Norm2KernelIdeal.main_arg4)
      ∧ r.2.mem ((c.tc : Thread Cert.Norm2KernelIdeal.nD Cert.Norm2KernelIdeal.τ).loc Cert.Norm2KernelIdeal.main_arg5) = m ((c.tc : Thread Cert.Norm2KernelIdeal.nD Cert.Norm2KernelIdeal.τ).loc Cert.Norm2KernelIdeal.main_arg5)
      ∧ r.2.mem ((c.tc : Thread Cert.Norm2KernelIdeal.nD Cert.Norm2KernelIdeal.τ).loc Cert.Norm2KernelIdeal.main_arg6) = m ((c.tc : Thread Cert.Norm2KernelIdeal.nD Cert.Norm2KernelIdeal.τ).loc Cert.Norm2KernelIdeal.main_arg6)
      ∧ r.2.mem ((c.tc : Thread Cert.Norm2KernelIdeal.nD Cert.Norm2KernelIdeal.τ).loc Cert.Norm2KernelIdeal.main_arg7) = m ((c.tc : Thread Cert.Norm2KernelIdeal.nD Cert.Norm2KernelIdeal.τ).loc Cert.Norm2KernelIdeal.main_arg7)
      ∧ r.2.mem ((c.tc : Thread Cert.Norm2KernelIdeal.nD Cert.Norm2KernelIdeal.τ).loc Cert.Norm2KernelIdeal.main_arg8) = m ((c.tc : Thread Cert.Norm2KernelIdeal.nD Cert.Norm2KernelIdeal.τ).loc Cert.Norm2KernelIdeal.main_arg8))
      ∧ r.2.sem = fun _ => 0)

def quiescent_Norm2KernelIdeal_pre_finite_norm2_arguments [hNorm2KernelIdeal : Cert.Norm2KernelIdeal.Facts] [hPre_finite_norm2_arguments : Cert.Pre_finite_norm2_arguments.Facts] : Prop :=
  ∀ (m : (ℓ : Loc Cert.Norm2KernelIdeal.nD Cert.Norm2KernelIdeal.τ Cert.Norm2KernelIdeal.sig) → Buf (Elt Ideal) ℓ) (g : Dev Cert.Norm2KernelIdeal.nD → PrngReg), Pre_Norm2KernelIdeal_finite_norm2_arguments m →
    θ_run (Cert.Norm2KernelIdeal.defs (F := Ideal)) (onTc (τ := Cert.Norm2KernelIdeal.τ) (Cert.Norm2KernelIdeal.main (F := Ideal))) ⟨m, fun _ => 0, g⟩ (fun r => (∀ c : Dev Cert.Norm2KernelIdeal.nD,
      r.2.mem ((c.tc : Thread Cert.Norm2KernelIdeal.nD Cert.Norm2KernelIdeal.τ).loc Cert.Norm2KernelIdeal.main_arg0) = m ((c.tc : Thread Cert.Norm2KernelIdeal.nD Cert.Norm2KernelIdeal.τ).loc Cert.Norm2KernelIdeal.main_arg0)
      ∧ r.2.mem ((c.tc : Thread Cert.Norm2KernelIdeal.nD Cert.Norm2KernelIdeal.τ).loc Cert.Norm2KernelIdeal.main_arg1) = m ((c.tc : Thread Cert.Norm2KernelIdeal.nD Cert.Norm2KernelIdeal.τ).loc Cert.Norm2KernelIdeal.main_arg1)
      ∧ r.2.mem ((c.tc : Thread Cert.Norm2KernelIdeal.nD Cert.Norm2KernelIdeal.τ).loc Cert.Norm2KernelIdeal.main_arg2) = m ((c.tc : Thread Cert.Norm2KernelIdeal.nD Cert.Norm2KernelIdeal.τ).loc Cert.Norm2KernelIdeal.main_arg2)
      ∧ r.2.mem ((c.tc : Thread Cert.Norm2KernelIdeal.nD Cert.Norm2KernelIdeal.τ).loc Cert.Norm2KernelIdeal.main_arg3) = m ((c.tc : Thread Cert.Norm2KernelIdeal.nD Cert.Norm2KernelIdeal.τ).loc Cert.Norm2KernelIdeal.main_arg3)
      ∧ r.2.mem ((c.tc : Thread Cert.Norm2KernelIdeal.nD Cert.Norm2KernelIdeal.τ).loc Cert.Norm2KernelIdeal.main_arg4) = m ((c.tc : Thread Cert.Norm2KernelIdeal.nD Cert.Norm2KernelIdeal.τ).loc Cert.Norm2KernelIdeal.main_arg4)
      ∧ r.2.mem ((c.tc : Thread Cert.Norm2KernelIdeal.nD Cert.Norm2KernelIdeal.τ).loc Cert.Norm2KernelIdeal.main_arg5) = m ((c.tc : Thread Cert.Norm2KernelIdeal.nD Cert.Norm2KernelIdeal.τ).loc Cert.Norm2KernelIdeal.main_arg5)
      ∧ r.2.mem ((c.tc : Thread Cert.Norm2KernelIdeal.nD Cert.Norm2KernelIdeal.τ).loc Cert.Norm2KernelIdeal.main_arg6) = m ((c.tc : Thread Cert.Norm2KernelIdeal.nD Cert.Norm2KernelIdeal.τ).loc Cert.Norm2KernelIdeal.main_arg6)
      ∧ r.2.mem ((c.tc : Thread Cert.Norm2KernelIdeal.nD Cert.Norm2KernelIdeal.τ).loc Cert.Norm2KernelIdeal.main_arg7) = m ((c.tc : Thread Cert.Norm2KernelIdeal.nD Cert.Norm2KernelIdeal.τ).loc Cert.Norm2KernelIdeal.main_arg7)
      ∧ r.2.mem ((c.tc : Thread Cert.Norm2KernelIdeal.nD Cert.Norm2KernelIdeal.τ).loc Cert.Norm2KernelIdeal.main_arg8) = m ((c.tc : Thread Cert.Norm2KernelIdeal.nD Cert.Norm2KernelIdeal.τ).loc Cert.Norm2KernelIdeal.main_arg8))
      ∧ r.2.sem = fun _ => 0)

def quiescent_Norm2ReferenceIdeal [hNorm2ReferenceIdeal : Cert.Norm2ReferenceIdeal.Facts] : Prop :=
  ∀ (m : (ℓ : Loc Cert.Norm2ReferenceIdeal.nD Cert.Norm2ReferenceIdeal.τ Cert.Norm2ReferenceIdeal.sig) → Buf (Elt Ideal) ℓ) (g : Dev Cert.Norm2ReferenceIdeal.nD → PrngReg), Pre_Norm2ReferenceIdeal m →
    θ_run (Cert.Norm2ReferenceIdeal.defs (F := Ideal)) (onTc (τ := Cert.Norm2ReferenceIdeal.τ) (Cert.Norm2ReferenceIdeal.main (F := Ideal))) ⟨m, fun _ => 0, g⟩ (fun r => (∀ c : Dev Cert.Norm2ReferenceIdeal.nD,
      r.2.mem ((c.tc : Thread Cert.Norm2ReferenceIdeal.nD Cert.Norm2ReferenceIdeal.τ).loc Cert.Norm2ReferenceIdeal.main_arg0) = m ((c.tc : Thread Cert.Norm2ReferenceIdeal.nD Cert.Norm2ReferenceIdeal.τ).loc Cert.Norm2ReferenceIdeal.main_arg0)
      ∧ r.2.mem ((c.tc : Thread Cert.Norm2ReferenceIdeal.nD Cert.Norm2ReferenceIdeal.τ).loc Cert.Norm2ReferenceIdeal.main_arg1) = m ((c.tc : Thread Cert.Norm2ReferenceIdeal.nD Cert.Norm2ReferenceIdeal.τ).loc Cert.Norm2ReferenceIdeal.main_arg1)
      ∧ r.2.mem ((c.tc : Thread Cert.Norm2ReferenceIdeal.nD Cert.Norm2ReferenceIdeal.τ).loc Cert.Norm2ReferenceIdeal.main_arg2) = m ((c.tc : Thread Cert.Norm2ReferenceIdeal.nD Cert.Norm2ReferenceIdeal.τ).loc Cert.Norm2ReferenceIdeal.main_arg2)
      ∧ r.2.mem ((c.tc : Thread Cert.Norm2ReferenceIdeal.nD Cert.Norm2ReferenceIdeal.τ).loc Cert.Norm2ReferenceIdeal.main_arg3) = m ((c.tc : Thread Cert.Norm2ReferenceIdeal.nD Cert.Norm2ReferenceIdeal.τ).loc Cert.Norm2ReferenceIdeal.main_arg3)
      ∧ r.2.mem ((c.tc : Thread Cert.Norm2ReferenceIdeal.nD Cert.Norm2ReferenceIdeal.τ).loc Cert.Norm2ReferenceIdeal.main_arg4) = m ((c.tc : Thread Cert.Norm2ReferenceIdeal.nD Cert.Norm2ReferenceIdeal.τ).loc Cert.Norm2ReferenceIdeal.main_arg4)
      ∧ r.2.mem ((c.tc : Thread Cert.Norm2ReferenceIdeal.nD Cert.Norm2ReferenceIdeal.τ).loc Cert.Norm2ReferenceIdeal.main_arg5) = m ((c.tc : Thread Cert.Norm2ReferenceIdeal.nD Cert.Norm2ReferenceIdeal.τ).loc Cert.Norm2ReferenceIdeal.main_arg5)
      ∧ r.2.mem ((c.tc : Thread Cert.Norm2ReferenceIdeal.nD Cert.Norm2ReferenceIdeal.τ).loc Cert.Norm2ReferenceIdeal.main_arg6) = m ((c.tc : Thread Cert.Norm2ReferenceIdeal.nD Cert.Norm2ReferenceIdeal.τ).loc Cert.Norm2ReferenceIdeal.main_arg6)
      ∧ r.2.mem ((c.tc : Thread Cert.Norm2ReferenceIdeal.nD Cert.Norm2ReferenceIdeal.τ).loc Cert.Norm2ReferenceIdeal.main_arg7) = m ((c.tc : Thread Cert.Norm2ReferenceIdeal.nD Cert.Norm2ReferenceIdeal.τ).loc Cert.Norm2ReferenceIdeal.main_arg7)
      ∧ r.2.mem ((c.tc : Thread Cert.Norm2ReferenceIdeal.nD Cert.Norm2ReferenceIdeal.τ).loc Cert.Norm2ReferenceIdeal.main_arg8) = m ((c.tc : Thread Cert.Norm2ReferenceIdeal.nD Cert.Norm2ReferenceIdeal.τ).loc Cert.Norm2ReferenceIdeal.main_arg8))
      ∧ r.2.sem = fun _ => 0)

def quiescent_Norm2ReferenceIdeal_pre_finite_norm2_arguments [hNorm2ReferenceIdeal : Cert.Norm2ReferenceIdeal.Facts] [hPre_finite_norm2_arguments : Cert.Pre_finite_norm2_arguments.Facts] : Prop :=
  ∀ (m : (ℓ : Loc Cert.Norm2ReferenceIdeal.nD Cert.Norm2ReferenceIdeal.τ Cert.Norm2ReferenceIdeal.sig) → Buf (Elt Ideal) ℓ) (g : Dev Cert.Norm2ReferenceIdeal.nD → PrngReg), Pre_Norm2ReferenceIdeal_finite_norm2_arguments m →
    θ_run (Cert.Norm2ReferenceIdeal.defs (F := Ideal)) (onTc (τ := Cert.Norm2ReferenceIdeal.τ) (Cert.Norm2ReferenceIdeal.main (F := Ideal))) ⟨m, fun _ => 0, g⟩ (fun r => (∀ c : Dev Cert.Norm2ReferenceIdeal.nD,
      r.2.mem ((c.tc : Thread Cert.Norm2ReferenceIdeal.nD Cert.Norm2ReferenceIdeal.τ).loc Cert.Norm2ReferenceIdeal.main_arg0) = m ((c.tc : Thread Cert.Norm2ReferenceIdeal.nD Cert.Norm2ReferenceIdeal.τ).loc Cert.Norm2ReferenceIdeal.main_arg0)
      ∧ r.2.mem ((c.tc : Thread Cert.Norm2ReferenceIdeal.nD Cert.Norm2ReferenceIdeal.τ).loc Cert.Norm2ReferenceIdeal.main_arg1) = m ((c.tc : Thread Cert.Norm2ReferenceIdeal.nD Cert.Norm2ReferenceIdeal.τ).loc Cert.Norm2ReferenceIdeal.main_arg1)
      ∧ r.2.mem ((c.tc : Thread Cert.Norm2ReferenceIdeal.nD Cert.Norm2ReferenceIdeal.τ).loc Cert.Norm2ReferenceIdeal.main_arg2) = m ((c.tc : Thread Cert.Norm2ReferenceIdeal.nD Cert.Norm2ReferenceIdeal.τ).loc Cert.Norm2ReferenceIdeal.main_arg2)
      ∧ r.2.mem ((c.tc : Thread Cert.Norm2ReferenceIdeal.nD Cert.Norm2ReferenceIdeal.τ).loc Cert.Norm2ReferenceIdeal.main_arg3) = m ((c.tc : Thread Cert.Norm2ReferenceIdeal.nD Cert.Norm2ReferenceIdeal.τ).loc Cert.Norm2ReferenceIdeal.main_arg3)
      ∧ r.2.mem ((c.tc : Thread Cert.Norm2ReferenceIdeal.nD Cert.Norm2ReferenceIdeal.τ).loc Cert.Norm2ReferenceIdeal.main_arg4) = m ((c.tc : Thread Cert.Norm2ReferenceIdeal.nD Cert.Norm2ReferenceIdeal.τ).loc Cert.Norm2ReferenceIdeal.main_arg4)
      ∧ r.2.mem ((c.tc : Thread Cert.Norm2ReferenceIdeal.nD Cert.Norm2ReferenceIdeal.τ).loc Cert.Norm2ReferenceIdeal.main_arg5) = m ((c.tc : Thread Cert.Norm2ReferenceIdeal.nD Cert.Norm2ReferenceIdeal.τ).loc Cert.Norm2ReferenceIdeal.main_arg5)
      ∧ r.2.mem ((c.tc : Thread Cert.Norm2ReferenceIdeal.nD Cert.Norm2ReferenceIdeal.τ).loc Cert.Norm2ReferenceIdeal.main_arg6) = m ((c.tc : Thread Cert.Norm2ReferenceIdeal.nD Cert.Norm2ReferenceIdeal.τ).loc Cert.Norm2ReferenceIdeal.main_arg6)
      ∧ r.2.mem ((c.tc : Thread Cert.Norm2ReferenceIdeal.nD Cert.Norm2ReferenceIdeal.τ).loc Cert.Norm2ReferenceIdeal.main_arg7) = m ((c.tc : Thread Cert.Norm2ReferenceIdeal.nD Cert.Norm2ReferenceIdeal.τ).loc Cert.Norm2ReferenceIdeal.main_arg7)
      ∧ r.2.mem ((c.tc : Thread Cert.Norm2ReferenceIdeal.nD Cert.Norm2ReferenceIdeal.τ).loc Cert.Norm2ReferenceIdeal.main_arg8) = m ((c.tc : Thread Cert.Norm2ReferenceIdeal.nD Cert.Norm2ReferenceIdeal.τ).loc Cert.Norm2ReferenceIdeal.main_arg8))
      ∧ r.2.sem = fun _ => 0)

def quiescent_Norm1Kernel [hNorm1Kernel : Cert.Norm1Kernel.Facts] : Prop :=
  ∀ (m : (ℓ : Loc Cert.Norm1Kernel.nD Cert.Norm1Kernel.τ Cert.Norm1Kernel.sig) → Buf (Elt Bits) ℓ) (g : Dev Cert.Norm1Kernel.nD → PrngReg), Pre_Norm1Kernel m →
    θ_run (Cert.Norm1Kernel.defs (F := Bits)) (onTc (τ := Cert.Norm1Kernel.τ) (Cert.Norm1Kernel.main (F := Bits))) ⟨m, fun _ => 0, g⟩ (fun r => (∀ c : Dev Cert.Norm1Kernel.nD,
      r.2.mem ((c.tc : Thread Cert.Norm1Kernel.nD Cert.Norm1Kernel.τ).loc Cert.Norm1Kernel.main_arg0) = m ((c.tc : Thread Cert.Norm1Kernel.nD Cert.Norm1Kernel.τ).loc Cert.Norm1Kernel.main_arg0)
      ∧ r.2.mem ((c.tc : Thread Cert.Norm1Kernel.nD Cert.Norm1Kernel.τ).loc Cert.Norm1Kernel.main_arg1) = m ((c.tc : Thread Cert.Norm1Kernel.nD Cert.Norm1Kernel.τ).loc Cert.Norm1Kernel.main_arg1)
      ∧ r.2.mem ((c.tc : Thread Cert.Norm1Kernel.nD Cert.Norm1Kernel.τ).loc Cert.Norm1Kernel.main_arg2) = m ((c.tc : Thread Cert.Norm1Kernel.nD Cert.Norm1Kernel.τ).loc Cert.Norm1Kernel.main_arg2)
      ∧ r.2.mem ((c.tc : Thread Cert.Norm1Kernel.nD Cert.Norm1Kernel.τ).loc Cert.Norm1Kernel.main_arg3) = m ((c.tc : Thread Cert.Norm1Kernel.nD Cert.Norm1Kernel.τ).loc Cert.Norm1Kernel.main_arg3)
      ∧ r.2.mem ((c.tc : Thread Cert.Norm1Kernel.nD Cert.Norm1Kernel.τ).loc Cert.Norm1Kernel.main_arg4) = m ((c.tc : Thread Cert.Norm1Kernel.nD Cert.Norm1Kernel.τ).loc Cert.Norm1Kernel.main_arg4)
      ∧ r.2.mem ((c.tc : Thread Cert.Norm1Kernel.nD Cert.Norm1Kernel.τ).loc Cert.Norm1Kernel.main_arg5) = m ((c.tc : Thread Cert.Norm1Kernel.nD Cert.Norm1Kernel.τ).loc Cert.Norm1Kernel.main_arg5)
      ∧ r.2.mem ((c.tc : Thread Cert.Norm1Kernel.nD Cert.Norm1Kernel.τ).loc Cert.Norm1Kernel.main_arg6) = m ((c.tc : Thread Cert.Norm1Kernel.nD Cert.Norm1Kernel.τ).loc Cert.Norm1Kernel.main_arg6))
      ∧ r.2.sem = fun _ => 0)

def quiescent_Norm1KernelIdeal [hNorm1KernelIdeal : Cert.Norm1KernelIdeal.Facts] : Prop :=
  ∀ (m : (ℓ : Loc Cert.Norm1KernelIdeal.nD Cert.Norm1KernelIdeal.τ Cert.Norm1KernelIdeal.sig) → Buf (Elt Ideal) ℓ) (g : Dev Cert.Norm1KernelIdeal.nD → PrngReg), Pre_Norm1KernelIdeal m →
    θ_run (Cert.Norm1KernelIdeal.defs (F := Ideal)) (onTc (τ := Cert.Norm1KernelIdeal.τ) (Cert.Norm1KernelIdeal.main (F := Ideal))) ⟨m, fun _ => 0, g⟩ (fun r => (∀ c : Dev Cert.Norm1KernelIdeal.nD,
      r.2.mem ((c.tc : Thread Cert.Norm1KernelIdeal.nD Cert.Norm1KernelIdeal.τ).loc Cert.Norm1KernelIdeal.main_arg0) = m ((c.tc : Thread Cert.Norm1KernelIdeal.nD Cert.Norm1KernelIdeal.τ).loc Cert.Norm1KernelIdeal.main_arg0)
      ∧ r.2.mem ((c.tc : Thread Cert.Norm1KernelIdeal.nD Cert.Norm1KernelIdeal.τ).loc Cert.Norm1KernelIdeal.main_arg1) = m ((c.tc : Thread Cert.Norm1KernelIdeal.nD Cert.Norm1KernelIdeal.τ).loc Cert.Norm1KernelIdeal.main_arg1)
      ∧ r.2.mem ((c.tc : Thread Cert.Norm1KernelIdeal.nD Cert.Norm1KernelIdeal.τ).loc Cert.Norm1KernelIdeal.main_arg2) = m ((c.tc : Thread Cert.Norm1KernelIdeal.nD Cert.Norm1KernelIdeal.τ).loc Cert.Norm1KernelIdeal.main_arg2)
      ∧ r.2.mem ((c.tc : Thread Cert.Norm1KernelIdeal.nD Cert.Norm1KernelIdeal.τ).loc Cert.Norm1KernelIdeal.main_arg3) = m ((c.tc : Thread Cert.Norm1KernelIdeal.nD Cert.Norm1KernelIdeal.τ).loc Cert.Norm1KernelIdeal.main_arg3)
      ∧ r.2.mem ((c.tc : Thread Cert.Norm1KernelIdeal.nD Cert.Norm1KernelIdeal.τ).loc Cert.Norm1KernelIdeal.main_arg4) = m ((c.tc : Thread Cert.Norm1KernelIdeal.nD Cert.Norm1KernelIdeal.τ).loc Cert.Norm1KernelIdeal.main_arg4)
      ∧ r.2.mem ((c.tc : Thread Cert.Norm1KernelIdeal.nD Cert.Norm1KernelIdeal.τ).loc Cert.Norm1KernelIdeal.main_arg5) = m ((c.tc : Thread Cert.Norm1KernelIdeal.nD Cert.Norm1KernelIdeal.τ).loc Cert.Norm1KernelIdeal.main_arg5)
      ∧ r.2.mem ((c.tc : Thread Cert.Norm1KernelIdeal.nD Cert.Norm1KernelIdeal.τ).loc Cert.Norm1KernelIdeal.main_arg6) = m ((c.tc : Thread Cert.Norm1KernelIdeal.nD Cert.Norm1KernelIdeal.τ).loc Cert.Norm1KernelIdeal.main_arg6))
      ∧ r.2.sem = fun _ => 0)

def quiescent_Norm1KernelIdeal_pre_finite_norm1_arguments [hNorm1KernelIdeal : Cert.Norm1KernelIdeal.Facts] [hPre_finite_norm1_arguments : Cert.Pre_finite_norm1_arguments.Facts] : Prop :=
  ∀ (m : (ℓ : Loc Cert.Norm1KernelIdeal.nD Cert.Norm1KernelIdeal.τ Cert.Norm1KernelIdeal.sig) → Buf (Elt Ideal) ℓ) (g : Dev Cert.Norm1KernelIdeal.nD → PrngReg), Pre_Norm1KernelIdeal_finite_norm1_arguments m →
    θ_run (Cert.Norm1KernelIdeal.defs (F := Ideal)) (onTc (τ := Cert.Norm1KernelIdeal.τ) (Cert.Norm1KernelIdeal.main (F := Ideal))) ⟨m, fun _ => 0, g⟩ (fun r => (∀ c : Dev Cert.Norm1KernelIdeal.nD,
      r.2.mem ((c.tc : Thread Cert.Norm1KernelIdeal.nD Cert.Norm1KernelIdeal.τ).loc Cert.Norm1KernelIdeal.main_arg0) = m ((c.tc : Thread Cert.Norm1KernelIdeal.nD Cert.Norm1KernelIdeal.τ).loc Cert.Norm1KernelIdeal.main_arg0)
      ∧ r.2.mem ((c.tc : Thread Cert.Norm1KernelIdeal.nD Cert.Norm1KernelIdeal.τ).loc Cert.Norm1KernelIdeal.main_arg1) = m ((c.tc : Thread Cert.Norm1KernelIdeal.nD Cert.Norm1KernelIdeal.τ).loc Cert.Norm1KernelIdeal.main_arg1)
      ∧ r.2.mem ((c.tc : Thread Cert.Norm1KernelIdeal.nD Cert.Norm1KernelIdeal.τ).loc Cert.Norm1KernelIdeal.main_arg2) = m ((c.tc : Thread Cert.Norm1KernelIdeal.nD Cert.Norm1KernelIdeal.τ).loc Cert.Norm1KernelIdeal.main_arg2)
      ∧ r.2.mem ((c.tc : Thread Cert.Norm1KernelIdeal.nD Cert.Norm1KernelIdeal.τ).loc Cert.Norm1KernelIdeal.main_arg3) = m ((c.tc : Thread Cert.Norm1KernelIdeal.nD Cert.Norm1KernelIdeal.τ).loc Cert.Norm1KernelIdeal.main_arg3)
      ∧ r.2.mem ((c.tc : Thread Cert.Norm1KernelIdeal.nD Cert.Norm1KernelIdeal.τ).loc Cert.Norm1KernelIdeal.main_arg4) = m ((c.tc : Thread Cert.Norm1KernelIdeal.nD Cert.Norm1KernelIdeal.τ).loc Cert.Norm1KernelIdeal.main_arg4)
      ∧ r.2.mem ((c.tc : Thread Cert.Norm1KernelIdeal.nD Cert.Norm1KernelIdeal.τ).loc Cert.Norm1KernelIdeal.main_arg5) = m ((c.tc : Thread Cert.Norm1KernelIdeal.nD Cert.Norm1KernelIdeal.τ).loc Cert.Norm1KernelIdeal.main_arg5)
      ∧ r.2.mem ((c.tc : Thread Cert.Norm1KernelIdeal.nD Cert.Norm1KernelIdeal.τ).loc Cert.Norm1KernelIdeal.main_arg6) = m ((c.tc : Thread Cert.Norm1KernelIdeal.nD Cert.Norm1KernelIdeal.τ).loc Cert.Norm1KernelIdeal.main_arg6))
      ∧ r.2.sem = fun _ => 0)

def quiescent_Norm1ReferenceIdeal [hNorm1ReferenceIdeal : Cert.Norm1ReferenceIdeal.Facts] : Prop :=
  ∀ (m : (ℓ : Loc Cert.Norm1ReferenceIdeal.nD Cert.Norm1ReferenceIdeal.τ Cert.Norm1ReferenceIdeal.sig) → Buf (Elt Ideal) ℓ) (g : Dev Cert.Norm1ReferenceIdeal.nD → PrngReg), Pre_Norm1ReferenceIdeal m →
    θ_run (Cert.Norm1ReferenceIdeal.defs (F := Ideal)) (onTc (τ := Cert.Norm1ReferenceIdeal.τ) (Cert.Norm1ReferenceIdeal.main (F := Ideal))) ⟨m, fun _ => 0, g⟩ (fun r => (∀ c : Dev Cert.Norm1ReferenceIdeal.nD,
      r.2.mem ((c.tc : Thread Cert.Norm1ReferenceIdeal.nD Cert.Norm1ReferenceIdeal.τ).loc Cert.Norm1ReferenceIdeal.main_arg0) = m ((c.tc : Thread Cert.Norm1ReferenceIdeal.nD Cert.Norm1ReferenceIdeal.τ).loc Cert.Norm1ReferenceIdeal.main_arg0)
      ∧ r.2.mem ((c.tc : Thread Cert.Norm1ReferenceIdeal.nD Cert.Norm1ReferenceIdeal.τ).loc Cert.Norm1ReferenceIdeal.main_arg1) = m ((c.tc : Thread Cert.Norm1ReferenceIdeal.nD Cert.Norm1ReferenceIdeal.τ).loc Cert.Norm1ReferenceIdeal.main_arg1)
      ∧ r.2.mem ((c.tc : Thread Cert.Norm1ReferenceIdeal.nD Cert.Norm1ReferenceIdeal.τ).loc Cert.Norm1ReferenceIdeal.main_arg2) = m ((c.tc : Thread Cert.Norm1ReferenceIdeal.nD Cert.Norm1ReferenceIdeal.τ).loc Cert.Norm1ReferenceIdeal.main_arg2)
      ∧ r.2.mem ((c.tc : Thread Cert.Norm1ReferenceIdeal.nD Cert.Norm1ReferenceIdeal.τ).loc Cert.Norm1ReferenceIdeal.main_arg3) = m ((c.tc : Thread Cert.Norm1ReferenceIdeal.nD Cert.Norm1ReferenceIdeal.τ).loc Cert.Norm1ReferenceIdeal.main_arg3)
      ∧ r.2.mem ((c.tc : Thread Cert.Norm1ReferenceIdeal.nD Cert.Norm1ReferenceIdeal.τ).loc Cert.Norm1ReferenceIdeal.main_arg4) = m ((c.tc : Thread Cert.Norm1ReferenceIdeal.nD Cert.Norm1ReferenceIdeal.τ).loc Cert.Norm1ReferenceIdeal.main_arg4)
      ∧ r.2.mem ((c.tc : Thread Cert.Norm1ReferenceIdeal.nD Cert.Norm1ReferenceIdeal.τ).loc Cert.Norm1ReferenceIdeal.main_arg5) = m ((c.tc : Thread Cert.Norm1ReferenceIdeal.nD Cert.Norm1ReferenceIdeal.τ).loc Cert.Norm1ReferenceIdeal.main_arg5)
      ∧ r.2.mem ((c.tc : Thread Cert.Norm1ReferenceIdeal.nD Cert.Norm1ReferenceIdeal.τ).loc Cert.Norm1ReferenceIdeal.main_arg6) = m ((c.tc : Thread Cert.Norm1ReferenceIdeal.nD Cert.Norm1ReferenceIdeal.τ).loc Cert.Norm1ReferenceIdeal.main_arg6))
      ∧ r.2.sem = fun _ => 0)

def quiescent_Norm1ReferenceIdeal_pre_finite_norm1_arguments [hNorm1ReferenceIdeal : Cert.Norm1ReferenceIdeal.Facts] [hPre_finite_norm1_arguments : Cert.Pre_finite_norm1_arguments.Facts] : Prop :=
  ∀ (m : (ℓ : Loc Cert.Norm1ReferenceIdeal.nD Cert.Norm1ReferenceIdeal.τ Cert.Norm1ReferenceIdeal.sig) → Buf (Elt Ideal) ℓ) (g : Dev Cert.Norm1ReferenceIdeal.nD → PrngReg), Pre_Norm1ReferenceIdeal_finite_norm1_arguments m →
    θ_run (Cert.Norm1ReferenceIdeal.defs (F := Ideal)) (onTc (τ := Cert.Norm1ReferenceIdeal.τ) (Cert.Norm1ReferenceIdeal.main (F := Ideal))) ⟨m, fun _ => 0, g⟩ (fun r => (∀ c : Dev Cert.Norm1ReferenceIdeal.nD,
      r.2.mem ((c.tc : Thread Cert.Norm1ReferenceIdeal.nD Cert.Norm1ReferenceIdeal.τ).loc Cert.Norm1ReferenceIdeal.main_arg0) = m ((c.tc : Thread Cert.Norm1ReferenceIdeal.nD Cert.Norm1ReferenceIdeal.τ).loc Cert.Norm1ReferenceIdeal.main_arg0)
      ∧ r.2.mem ((c.tc : Thread Cert.Norm1ReferenceIdeal.nD Cert.Norm1ReferenceIdeal.τ).loc Cert.Norm1ReferenceIdeal.main_arg1) = m ((c.tc : Thread Cert.Norm1ReferenceIdeal.nD Cert.Norm1ReferenceIdeal.τ).loc Cert.Norm1ReferenceIdeal.main_arg1)
      ∧ r.2.mem ((c.tc : Thread Cert.Norm1ReferenceIdeal.nD Cert.Norm1ReferenceIdeal.τ).loc Cert.Norm1ReferenceIdeal.main_arg2) = m ((c.tc : Thread Cert.Norm1ReferenceIdeal.nD Cert.Norm1ReferenceIdeal.τ).loc Cert.Norm1ReferenceIdeal.main_arg2)
      ∧ r.2.mem ((c.tc : Thread Cert.Norm1ReferenceIdeal.nD Cert.Norm1ReferenceIdeal.τ).loc Cert.Norm1ReferenceIdeal.main_arg3) = m ((c.tc : Thread Cert.Norm1ReferenceIdeal.nD Cert.Norm1ReferenceIdeal.τ).loc Cert.Norm1ReferenceIdeal.main_arg3)
      ∧ r.2.mem ((c.tc : Thread Cert.Norm1ReferenceIdeal.nD Cert.Norm1ReferenceIdeal.τ).loc Cert.Norm1ReferenceIdeal.main_arg4) = m ((c.tc : Thread Cert.Norm1ReferenceIdeal.nD Cert.Norm1ReferenceIdeal.τ).loc Cert.Norm1ReferenceIdeal.main_arg4)
      ∧ r.2.mem ((c.tc : Thread Cert.Norm1ReferenceIdeal.nD Cert.Norm1ReferenceIdeal.τ).loc Cert.Norm1ReferenceIdeal.main_arg5) = m ((c.tc : Thread Cert.Norm1ReferenceIdeal.nD Cert.Norm1ReferenceIdeal.τ).loc Cert.Norm1ReferenceIdeal.main_arg5)
      ∧ r.2.mem ((c.tc : Thread Cert.Norm1ReferenceIdeal.nD Cert.Norm1ReferenceIdeal.τ).loc Cert.Norm1ReferenceIdeal.main_arg6) = m ((c.tc : Thread Cert.Norm1ReferenceIdeal.nD Cert.Norm1ReferenceIdeal.τ).loc Cert.Norm1ReferenceIdeal.main_arg6))
      ∧ r.2.sem = fun _ => 0)

def quiescent_GateFfKernel [hGateFfKernel : Cert.GateFfKernel.Facts] : Prop :=
  ∀ (m : (ℓ : Loc Cert.GateFfKernel.nD Cert.GateFfKernel.τ Cert.GateFfKernel.sig) → Buf (Elt Bits) ℓ) (g : Dev Cert.GateFfKernel.nD → PrngReg), Pre_GateFfKernel m →
    θ_run (Cert.GateFfKernel.defs (F := Bits)) (onTc (τ := Cert.GateFfKernel.τ) (Cert.GateFfKernel.main (F := Bits))) ⟨m, fun _ => 0, g⟩ (fun r => (∀ c : Dev Cert.GateFfKernel.nD,
      r.2.mem ((c.tc : Thread Cert.GateFfKernel.nD Cert.GateFfKernel.τ).loc Cert.GateFfKernel.main_arg0) = m ((c.tc : Thread Cert.GateFfKernel.nD Cert.GateFfKernel.τ).loc Cert.GateFfKernel.main_arg0)
      ∧ r.2.mem ((c.tc : Thread Cert.GateFfKernel.nD Cert.GateFfKernel.τ).loc Cert.GateFfKernel.main_arg1) = m ((c.tc : Thread Cert.GateFfKernel.nD Cert.GateFfKernel.τ).loc Cert.GateFfKernel.main_arg1)
      ∧ r.2.mem ((c.tc : Thread Cert.GateFfKernel.nD Cert.GateFfKernel.τ).loc Cert.GateFfKernel.main_arg2) = m ((c.tc : Thread Cert.GateFfKernel.nD Cert.GateFfKernel.τ).loc Cert.GateFfKernel.main_arg2)
      ∧ r.2.mem ((c.tc : Thread Cert.GateFfKernel.nD Cert.GateFfKernel.τ).loc Cert.GateFfKernel.main_arg3) = m ((c.tc : Thread Cert.GateFfKernel.nD Cert.GateFfKernel.τ).loc Cert.GateFfKernel.main_arg3))
      ∧ r.2.sem = fun _ => 0)

def quiescent_GateFfKernelIdeal [hGateFfKernelIdeal : Cert.GateFfKernelIdeal.Facts] : Prop :=
  ∀ (m : (ℓ : Loc Cert.GateFfKernelIdeal.nD Cert.GateFfKernelIdeal.τ Cert.GateFfKernelIdeal.sig) → Buf (Elt Ideal) ℓ) (g : Dev Cert.GateFfKernelIdeal.nD → PrngReg), Pre_GateFfKernelIdeal m →
    θ_run (Cert.GateFfKernelIdeal.defs (F := Ideal)) (onTc (τ := Cert.GateFfKernelIdeal.τ) (Cert.GateFfKernelIdeal.main (F := Ideal))) ⟨m, fun _ => 0, g⟩ (fun r => (∀ c : Dev Cert.GateFfKernelIdeal.nD,
      r.2.mem ((c.tc : Thread Cert.GateFfKernelIdeal.nD Cert.GateFfKernelIdeal.τ).loc Cert.GateFfKernelIdeal.main_arg0) = m ((c.tc : Thread Cert.GateFfKernelIdeal.nD Cert.GateFfKernelIdeal.τ).loc Cert.GateFfKernelIdeal.main_arg0)
      ∧ r.2.mem ((c.tc : Thread Cert.GateFfKernelIdeal.nD Cert.GateFfKernelIdeal.τ).loc Cert.GateFfKernelIdeal.main_arg1) = m ((c.tc : Thread Cert.GateFfKernelIdeal.nD Cert.GateFfKernelIdeal.τ).loc Cert.GateFfKernelIdeal.main_arg1)
      ∧ r.2.mem ((c.tc : Thread Cert.GateFfKernelIdeal.nD Cert.GateFfKernelIdeal.τ).loc Cert.GateFfKernelIdeal.main_arg2) = m ((c.tc : Thread Cert.GateFfKernelIdeal.nD Cert.GateFfKernelIdeal.τ).loc Cert.GateFfKernelIdeal.main_arg2)
      ∧ r.2.mem ((c.tc : Thread Cert.GateFfKernelIdeal.nD Cert.GateFfKernelIdeal.τ).loc Cert.GateFfKernelIdeal.main_arg3) = m ((c.tc : Thread Cert.GateFfKernelIdeal.nD Cert.GateFfKernelIdeal.τ).loc Cert.GateFfKernelIdeal.main_arg3))
      ∧ r.2.sem = fun _ => 0)

def quiescent_GateFfKernelIdeal_pre_finite_gate_ff_arguments [hGateFfKernelIdeal : Cert.GateFfKernelIdeal.Facts] [hPre_finite_gate_ff_arguments : Cert.Pre_finite_gate_ff_arguments.Facts] : Prop :=
  ∀ (m : (ℓ : Loc Cert.GateFfKernelIdeal.nD Cert.GateFfKernelIdeal.τ Cert.GateFfKernelIdeal.sig) → Buf (Elt Ideal) ℓ) (g : Dev Cert.GateFfKernelIdeal.nD → PrngReg), Pre_GateFfKernelIdeal_finite_gate_ff_arguments m →
    θ_run (Cert.GateFfKernelIdeal.defs (F := Ideal)) (onTc (τ := Cert.GateFfKernelIdeal.τ) (Cert.GateFfKernelIdeal.main (F := Ideal))) ⟨m, fun _ => 0, g⟩ (fun r => (∀ c : Dev Cert.GateFfKernelIdeal.nD,
      r.2.mem ((c.tc : Thread Cert.GateFfKernelIdeal.nD Cert.GateFfKernelIdeal.τ).loc Cert.GateFfKernelIdeal.main_arg0) = m ((c.tc : Thread Cert.GateFfKernelIdeal.nD Cert.GateFfKernelIdeal.τ).loc Cert.GateFfKernelIdeal.main_arg0)
      ∧ r.2.mem ((c.tc : Thread Cert.GateFfKernelIdeal.nD Cert.GateFfKernelIdeal.τ).loc Cert.GateFfKernelIdeal.main_arg1) = m ((c.tc : Thread Cert.GateFfKernelIdeal.nD Cert.GateFfKernelIdeal.τ).loc Cert.GateFfKernelIdeal.main_arg1)
      ∧ r.2.mem ((c.tc : Thread Cert.GateFfKernelIdeal.nD Cert.GateFfKernelIdeal.τ).loc Cert.GateFfKernelIdeal.main_arg2) = m ((c.tc : Thread Cert.GateFfKernelIdeal.nD Cert.GateFfKernelIdeal.τ).loc Cert.GateFfKernelIdeal.main_arg2)
      ∧ r.2.mem ((c.tc : Thread Cert.GateFfKernelIdeal.nD Cert.GateFfKernelIdeal.τ).loc Cert.GateFfKernelIdeal.main_arg3) = m ((c.tc : Thread Cert.GateFfKernelIdeal.nD Cert.GateFfKernelIdeal.τ).loc Cert.GateFfKernelIdeal.main_arg3))
      ∧ r.2.sem = fun _ => 0)

def quiescent_GateFfReferenceIdeal [hGateFfReferenceIdeal : Cert.GateFfReferenceIdeal.Facts] : Prop :=
  ∀ (m : (ℓ : Loc Cert.GateFfReferenceIdeal.nD Cert.GateFfReferenceIdeal.τ Cert.GateFfReferenceIdeal.sig) → Buf (Elt Ideal) ℓ) (g : Dev Cert.GateFfReferenceIdeal.nD → PrngReg), Pre_GateFfReferenceIdeal m →
    θ_run (Cert.GateFfReferenceIdeal.defs (F := Ideal)) (onTc (τ := Cert.GateFfReferenceIdeal.τ) (Cert.GateFfReferenceIdeal.main (F := Ideal))) ⟨m, fun _ => 0, g⟩ (fun r => (∀ c : Dev Cert.GateFfReferenceIdeal.nD,
      r.2.mem ((c.tc : Thread Cert.GateFfReferenceIdeal.nD Cert.GateFfReferenceIdeal.τ).loc Cert.GateFfReferenceIdeal.main_arg0) = m ((c.tc : Thread Cert.GateFfReferenceIdeal.nD Cert.GateFfReferenceIdeal.τ).loc Cert.GateFfReferenceIdeal.main_arg0)
      ∧ r.2.mem ((c.tc : Thread Cert.GateFfReferenceIdeal.nD Cert.GateFfReferenceIdeal.τ).loc Cert.GateFfReferenceIdeal.main_arg1) = m ((c.tc : Thread Cert.GateFfReferenceIdeal.nD Cert.GateFfReferenceIdeal.τ).loc Cert.GateFfReferenceIdeal.main_arg1)
      ∧ r.2.mem ((c.tc : Thread Cert.GateFfReferenceIdeal.nD Cert.GateFfReferenceIdeal.τ).loc Cert.GateFfReferenceIdeal.main_arg2) = m ((c.tc : Thread Cert.GateFfReferenceIdeal.nD Cert.GateFfReferenceIdeal.τ).loc Cert.GateFfReferenceIdeal.main_arg2)
      ∧ r.2.mem ((c.tc : Thread Cert.GateFfReferenceIdeal.nD Cert.GateFfReferenceIdeal.τ).loc Cert.GateFfReferenceIdeal.main_arg3) = m ((c.tc : Thread Cert.GateFfReferenceIdeal.nD Cert.GateFfReferenceIdeal.τ).loc Cert.GateFfReferenceIdeal.main_arg3))
      ∧ r.2.sem = fun _ => 0)

def quiescent_GateFfReferenceIdeal_pre_finite_gate_ff_arguments [hGateFfReferenceIdeal : Cert.GateFfReferenceIdeal.Facts] [hPre_finite_gate_ff_arguments : Cert.Pre_finite_gate_ff_arguments.Facts] : Prop :=
  ∀ (m : (ℓ : Loc Cert.GateFfReferenceIdeal.nD Cert.GateFfReferenceIdeal.τ Cert.GateFfReferenceIdeal.sig) → Buf (Elt Ideal) ℓ) (g : Dev Cert.GateFfReferenceIdeal.nD → PrngReg), Pre_GateFfReferenceIdeal_finite_gate_ff_arguments m →
    θ_run (Cert.GateFfReferenceIdeal.defs (F := Ideal)) (onTc (τ := Cert.GateFfReferenceIdeal.τ) (Cert.GateFfReferenceIdeal.main (F := Ideal))) ⟨m, fun _ => 0, g⟩ (fun r => (∀ c : Dev Cert.GateFfReferenceIdeal.nD,
      r.2.mem ((c.tc : Thread Cert.GateFfReferenceIdeal.nD Cert.GateFfReferenceIdeal.τ).loc Cert.GateFfReferenceIdeal.main_arg0) = m ((c.tc : Thread Cert.GateFfReferenceIdeal.nD Cert.GateFfReferenceIdeal.τ).loc Cert.GateFfReferenceIdeal.main_arg0)
      ∧ r.2.mem ((c.tc : Thread Cert.GateFfReferenceIdeal.nD Cert.GateFfReferenceIdeal.τ).loc Cert.GateFfReferenceIdeal.main_arg1) = m ((c.tc : Thread Cert.GateFfReferenceIdeal.nD Cert.GateFfReferenceIdeal.τ).loc Cert.GateFfReferenceIdeal.main_arg1)
      ∧ r.2.mem ((c.tc : Thread Cert.GateFfReferenceIdeal.nD Cert.GateFfReferenceIdeal.τ).loc Cert.GateFfReferenceIdeal.main_arg2) = m ((c.tc : Thread Cert.GateFfReferenceIdeal.nD Cert.GateFfReferenceIdeal.τ).loc Cert.GateFfReferenceIdeal.main_arg2)
      ∧ r.2.mem ((c.tc : Thread Cert.GateFfReferenceIdeal.nD Cert.GateFfReferenceIdeal.τ).loc Cert.GateFfReferenceIdeal.main_arg3) = m ((c.tc : Thread Cert.GateFfReferenceIdeal.nD Cert.GateFfReferenceIdeal.τ).loc Cert.GateFfReferenceIdeal.main_arg3))
      ∧ r.2.sem = fun _ => 0)

def quiescent_GateOutKernel [hGateOutKernel : Cert.GateOutKernel.Facts] : Prop :=
  ∀ (m : (ℓ : Loc Cert.GateOutKernel.nD Cert.GateOutKernel.τ Cert.GateOutKernel.sig) → Buf (Elt Bits) ℓ) (g : Dev Cert.GateOutKernel.nD → PrngReg), Pre_GateOutKernel m →
    θ_run (Cert.GateOutKernel.defs (F := Bits)) (onTc (τ := Cert.GateOutKernel.τ) (Cert.GateOutKernel.main (F := Bits))) ⟨m, fun _ => 0, g⟩ (fun r => (∀ c : Dev Cert.GateOutKernel.nD,
      r.2.mem ((c.tc : Thread Cert.GateOutKernel.nD Cert.GateOutKernel.τ).loc Cert.GateOutKernel.main_arg0) = m ((c.tc : Thread Cert.GateOutKernel.nD Cert.GateOutKernel.τ).loc Cert.GateOutKernel.main_arg0)
      ∧ r.2.mem ((c.tc : Thread Cert.GateOutKernel.nD Cert.GateOutKernel.τ).loc Cert.GateOutKernel.main_arg1) = m ((c.tc : Thread Cert.GateOutKernel.nD Cert.GateOutKernel.τ).loc Cert.GateOutKernel.main_arg1)
      ∧ r.2.mem ((c.tc : Thread Cert.GateOutKernel.nD Cert.GateOutKernel.τ).loc Cert.GateOutKernel.main_arg2) = m ((c.tc : Thread Cert.GateOutKernel.nD Cert.GateOutKernel.τ).loc Cert.GateOutKernel.main_arg2)
      ∧ r.2.mem ((c.tc : Thread Cert.GateOutKernel.nD Cert.GateOutKernel.τ).loc Cert.GateOutKernel.main_arg3) = m ((c.tc : Thread Cert.GateOutKernel.nD Cert.GateOutKernel.τ).loc Cert.GateOutKernel.main_arg3))
      ∧ r.2.sem = fun _ => 0)

def quiescent_GateOutKernelIdeal [hGateOutKernelIdeal : Cert.GateOutKernelIdeal.Facts] : Prop :=
  ∀ (m : (ℓ : Loc Cert.GateOutKernelIdeal.nD Cert.GateOutKernelIdeal.τ Cert.GateOutKernelIdeal.sig) → Buf (Elt Ideal) ℓ) (g : Dev Cert.GateOutKernelIdeal.nD → PrngReg), Pre_GateOutKernelIdeal m →
    θ_run (Cert.GateOutKernelIdeal.defs (F := Ideal)) (onTc (τ := Cert.GateOutKernelIdeal.τ) (Cert.GateOutKernelIdeal.main (F := Ideal))) ⟨m, fun _ => 0, g⟩ (fun r => (∀ c : Dev Cert.GateOutKernelIdeal.nD,
      r.2.mem ((c.tc : Thread Cert.GateOutKernelIdeal.nD Cert.GateOutKernelIdeal.τ).loc Cert.GateOutKernelIdeal.main_arg0) = m ((c.tc : Thread Cert.GateOutKernelIdeal.nD Cert.GateOutKernelIdeal.τ).loc Cert.GateOutKernelIdeal.main_arg0)
      ∧ r.2.mem ((c.tc : Thread Cert.GateOutKernelIdeal.nD Cert.GateOutKernelIdeal.τ).loc Cert.GateOutKernelIdeal.main_arg1) = m ((c.tc : Thread Cert.GateOutKernelIdeal.nD Cert.GateOutKernelIdeal.τ).loc Cert.GateOutKernelIdeal.main_arg1)
      ∧ r.2.mem ((c.tc : Thread Cert.GateOutKernelIdeal.nD Cert.GateOutKernelIdeal.τ).loc Cert.GateOutKernelIdeal.main_arg2) = m ((c.tc : Thread Cert.GateOutKernelIdeal.nD Cert.GateOutKernelIdeal.τ).loc Cert.GateOutKernelIdeal.main_arg2)
      ∧ r.2.mem ((c.tc : Thread Cert.GateOutKernelIdeal.nD Cert.GateOutKernelIdeal.τ).loc Cert.GateOutKernelIdeal.main_arg3) = m ((c.tc : Thread Cert.GateOutKernelIdeal.nD Cert.GateOutKernelIdeal.τ).loc Cert.GateOutKernelIdeal.main_arg3))
      ∧ r.2.sem = fun _ => 0)

def quiescent_GateOutKernelIdeal_pre_finite_gate_out_arguments [hGateOutKernelIdeal : Cert.GateOutKernelIdeal.Facts] [hPre_finite_gate_out_arguments : Cert.Pre_finite_gate_out_arguments.Facts] : Prop :=
  ∀ (m : (ℓ : Loc Cert.GateOutKernelIdeal.nD Cert.GateOutKernelIdeal.τ Cert.GateOutKernelIdeal.sig) → Buf (Elt Ideal) ℓ) (g : Dev Cert.GateOutKernelIdeal.nD → PrngReg), Pre_GateOutKernelIdeal_finite_gate_out_arguments m →
    θ_run (Cert.GateOutKernelIdeal.defs (F := Ideal)) (onTc (τ := Cert.GateOutKernelIdeal.τ) (Cert.GateOutKernelIdeal.main (F := Ideal))) ⟨m, fun _ => 0, g⟩ (fun r => (∀ c : Dev Cert.GateOutKernelIdeal.nD,
      r.2.mem ((c.tc : Thread Cert.GateOutKernelIdeal.nD Cert.GateOutKernelIdeal.τ).loc Cert.GateOutKernelIdeal.main_arg0) = m ((c.tc : Thread Cert.GateOutKernelIdeal.nD Cert.GateOutKernelIdeal.τ).loc Cert.GateOutKernelIdeal.main_arg0)
      ∧ r.2.mem ((c.tc : Thread Cert.GateOutKernelIdeal.nD Cert.GateOutKernelIdeal.τ).loc Cert.GateOutKernelIdeal.main_arg1) = m ((c.tc : Thread Cert.GateOutKernelIdeal.nD Cert.GateOutKernelIdeal.τ).loc Cert.GateOutKernelIdeal.main_arg1)
      ∧ r.2.mem ((c.tc : Thread Cert.GateOutKernelIdeal.nD Cert.GateOutKernelIdeal.τ).loc Cert.GateOutKernelIdeal.main_arg2) = m ((c.tc : Thread Cert.GateOutKernelIdeal.nD Cert.GateOutKernelIdeal.τ).loc Cert.GateOutKernelIdeal.main_arg2)
      ∧ r.2.mem ((c.tc : Thread Cert.GateOutKernelIdeal.nD Cert.GateOutKernelIdeal.τ).loc Cert.GateOutKernelIdeal.main_arg3) = m ((c.tc : Thread Cert.GateOutKernelIdeal.nD Cert.GateOutKernelIdeal.τ).loc Cert.GateOutKernelIdeal.main_arg3))
      ∧ r.2.sem = fun _ => 0)

def quiescent_GateOutReferenceIdeal [hGateOutReferenceIdeal : Cert.GateOutReferenceIdeal.Facts] : Prop :=
  ∀ (m : (ℓ : Loc Cert.GateOutReferenceIdeal.nD Cert.GateOutReferenceIdeal.τ Cert.GateOutReferenceIdeal.sig) → Buf (Elt Ideal) ℓ) (g : Dev Cert.GateOutReferenceIdeal.nD → PrngReg), Pre_GateOutReferenceIdeal m →
    θ_run (Cert.GateOutReferenceIdeal.defs (F := Ideal)) (onTc (τ := Cert.GateOutReferenceIdeal.τ) (Cert.GateOutReferenceIdeal.main (F := Ideal))) ⟨m, fun _ => 0, g⟩ (fun r => (∀ c : Dev Cert.GateOutReferenceIdeal.nD,
      r.2.mem ((c.tc : Thread Cert.GateOutReferenceIdeal.nD Cert.GateOutReferenceIdeal.τ).loc Cert.GateOutReferenceIdeal.main_arg0) = m ((c.tc : Thread Cert.GateOutReferenceIdeal.nD Cert.GateOutReferenceIdeal.τ).loc Cert.GateOutReferenceIdeal.main_arg0)
      ∧ r.2.mem ((c.tc : Thread Cert.GateOutReferenceIdeal.nD Cert.GateOutReferenceIdeal.τ).loc Cert.GateOutReferenceIdeal.main_arg1) = m ((c.tc : Thread Cert.GateOutReferenceIdeal.nD Cert.GateOutReferenceIdeal.τ).loc Cert.GateOutReferenceIdeal.main_arg1)
      ∧ r.2.mem ((c.tc : Thread Cert.GateOutReferenceIdeal.nD Cert.GateOutReferenceIdeal.τ).loc Cert.GateOutReferenceIdeal.main_arg2) = m ((c.tc : Thread Cert.GateOutReferenceIdeal.nD Cert.GateOutReferenceIdeal.τ).loc Cert.GateOutReferenceIdeal.main_arg2)
      ∧ r.2.mem ((c.tc : Thread Cert.GateOutReferenceIdeal.nD Cert.GateOutReferenceIdeal.τ).loc Cert.GateOutReferenceIdeal.main_arg3) = m ((c.tc : Thread Cert.GateOutReferenceIdeal.nD Cert.GateOutReferenceIdeal.τ).loc Cert.GateOutReferenceIdeal.main_arg3))
      ∧ r.2.sem = fun _ => 0)

def quiescent_GateOutReferenceIdeal_pre_finite_gate_out_arguments [hGateOutReferenceIdeal : Cert.GateOutReferenceIdeal.Facts] [hPre_finite_gate_out_arguments : Cert.Pre_finite_gate_out_arguments.Facts] : Prop :=
  ∀ (m : (ℓ : Loc Cert.GateOutReferenceIdeal.nD Cert.GateOutReferenceIdeal.τ Cert.GateOutReferenceIdeal.sig) → Buf (Elt Ideal) ℓ) (g : Dev Cert.GateOutReferenceIdeal.nD → PrngReg), Pre_GateOutReferenceIdeal_finite_gate_out_arguments m →
    θ_run (Cert.GateOutReferenceIdeal.defs (F := Ideal)) (onTc (τ := Cert.GateOutReferenceIdeal.τ) (Cert.GateOutReferenceIdeal.main (F := Ideal))) ⟨m, fun _ => 0, g⟩ (fun r => (∀ c : Dev Cert.GateOutReferenceIdeal.nD,
      r.2.mem ((c.tc : Thread Cert.GateOutReferenceIdeal.nD Cert.GateOutReferenceIdeal.τ).loc Cert.GateOutReferenceIdeal.main_arg0) = m ((c.tc : Thread Cert.GateOutReferenceIdeal.nD Cert.GateOutReferenceIdeal.τ).loc Cert.GateOutReferenceIdeal.main_arg0)
      ∧ r.2.mem ((c.tc : Thread Cert.GateOutReferenceIdeal.nD Cert.GateOutReferenceIdeal.τ).loc Cert.GateOutReferenceIdeal.main_arg1) = m ((c.tc : Thread Cert.GateOutReferenceIdeal.nD Cert.GateOutReferenceIdeal.τ).loc Cert.GateOutReferenceIdeal.main_arg1)
      ∧ r.2.mem ((c.tc : Thread Cert.GateOutReferenceIdeal.nD Cert.GateOutReferenceIdeal.τ).loc Cert.GateOutReferenceIdeal.main_arg2) = m ((c.tc : Thread Cert.GateOutReferenceIdeal.nD Cert.GateOutReferenceIdeal.τ).loc Cert.GateOutReferenceIdeal.main_arg2)
      ∧ r.2.mem ((c.tc : Thread Cert.GateOutReferenceIdeal.nD Cert.GateOutReferenceIdeal.τ).loc Cert.GateOutReferenceIdeal.main_arg3) = m ((c.tc : Thread Cert.GateOutReferenceIdeal.nD Cert.GateOutReferenceIdeal.τ).loc Cert.GateOutReferenceIdeal.main_arg3))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixKernelIdeal_pre_finite_mix_arguments [hMixKernelIdeal : Cert.MixKernelIdeal.Facts] [hPre_finite_mix_arguments : Cert.Pre_finite_mix_arguments.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix_arguments m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_MixReferenceIdeal_pre_finite_mix_arguments [hMixReferenceIdeal : Cert.MixReferenceIdeal.Facts] [hPre_finite_mix_arguments : Cert.Pre_finite_mix_arguments.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix_arguments m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_FwdFfKernel [hFwdFfKernel : Cert.FwdFfKernel.Facts] : Prop :=
  ∀ (m : (ℓ : Loc Cert.FwdFfKernel.nD Cert.FwdFfKernel.τ Cert.FwdFfKernel.sig) → Buf (Elt Bits) ℓ) (g : Dev Cert.FwdFfKernel.nD → PrngReg), Pre_FwdFfKernel m →
    θ_run (Cert.FwdFfKernel.defs (F := Bits)) (onTc (τ := Cert.FwdFfKernel.τ) (Cert.FwdFfKernel.main (F := Bits))) ⟨m, fun _ => 0, g⟩ (fun r => (∀ c : Dev Cert.FwdFfKernel.nD,
      r.2.mem ((c.tc : Thread Cert.FwdFfKernel.nD Cert.FwdFfKernel.τ).loc Cert.FwdFfKernel.main_arg0) = m ((c.tc : Thread Cert.FwdFfKernel.nD Cert.FwdFfKernel.τ).loc Cert.FwdFfKernel.main_arg0)
      ∧ r.2.mem ((c.tc : Thread Cert.FwdFfKernel.nD Cert.FwdFfKernel.τ).loc Cert.FwdFfKernel.main_arg1) = m ((c.tc : Thread Cert.FwdFfKernel.nD Cert.FwdFfKernel.τ).loc Cert.FwdFfKernel.main_arg1)
      ∧ r.2.mem ((c.tc : Thread Cert.FwdFfKernel.nD Cert.FwdFfKernel.τ).loc Cert.FwdFfKernel.main_arg2) = m ((c.tc : Thread Cert.FwdFfKernel.nD Cert.FwdFfKernel.τ).loc Cert.FwdFfKernel.main_arg2)
      ∧ r.2.mem ((c.tc : Thread Cert.FwdFfKernel.nD Cert.FwdFfKernel.τ).loc Cert.FwdFfKernel.main_arg3) = m ((c.tc : Thread Cert.FwdFfKernel.nD Cert.FwdFfKernel.τ).loc Cert.FwdFfKernel.main_arg3))
      ∧ r.2.sem = fun _ => 0)

def quiescent_FwdFfKernelIdeal [hFwdFfKernelIdeal : Cert.FwdFfKernelIdeal.Facts] : Prop :=
  ∀ (m : (ℓ : Loc Cert.FwdFfKernelIdeal.nD Cert.FwdFfKernelIdeal.τ Cert.FwdFfKernelIdeal.sig) → Buf (Elt Ideal) ℓ) (g : Dev Cert.FwdFfKernelIdeal.nD → PrngReg), Pre_FwdFfKernelIdeal m →
    θ_run (Cert.FwdFfKernelIdeal.defs (F := Ideal)) (onTc (τ := Cert.FwdFfKernelIdeal.τ) (Cert.FwdFfKernelIdeal.main (F := Ideal))) ⟨m, fun _ => 0, g⟩ (fun r => (∀ c : Dev Cert.FwdFfKernelIdeal.nD,
      r.2.mem ((c.tc : Thread Cert.FwdFfKernelIdeal.nD Cert.FwdFfKernelIdeal.τ).loc Cert.FwdFfKernelIdeal.main_arg0) = m ((c.tc : Thread Cert.FwdFfKernelIdeal.nD Cert.FwdFfKernelIdeal.τ).loc Cert.FwdFfKernelIdeal.main_arg0)
      ∧ r.2.mem ((c.tc : Thread Cert.FwdFfKernelIdeal.nD Cert.FwdFfKernelIdeal.τ).loc Cert.FwdFfKernelIdeal.main_arg1) = m ((c.tc : Thread Cert.FwdFfKernelIdeal.nD Cert.FwdFfKernelIdeal.τ).loc Cert.FwdFfKernelIdeal.main_arg1)
      ∧ r.2.mem ((c.tc : Thread Cert.FwdFfKernelIdeal.nD Cert.FwdFfKernelIdeal.τ).loc Cert.FwdFfKernelIdeal.main_arg2) = m ((c.tc : Thread Cert.FwdFfKernelIdeal.nD Cert.FwdFfKernelIdeal.τ).loc Cert.FwdFfKernelIdeal.main_arg2)
      ∧ r.2.mem ((c.tc : Thread Cert.FwdFfKernelIdeal.nD Cert.FwdFfKernelIdeal.τ).loc Cert.FwdFfKernelIdeal.main_arg3) = m ((c.tc : Thread Cert.FwdFfKernelIdeal.nD Cert.FwdFfKernelIdeal.τ).loc Cert.FwdFfKernelIdeal.main_arg3))
      ∧ r.2.sem = fun _ => 0)

def quiescent_FwdFfReferenceIdeal [hFwdFfReferenceIdeal : Cert.FwdFfReferenceIdeal.Facts] : Prop :=
  ∀ (m : (ℓ : Loc Cert.FwdFfReferenceIdeal.nD Cert.FwdFfReferenceIdeal.τ Cert.FwdFfReferenceIdeal.sig) → Buf (Elt Ideal) ℓ) (g : Dev Cert.FwdFfReferenceIdeal.nD → PrngReg), Pre_FwdFfReferenceIdeal m →
    θ_run (Cert.FwdFfReferenceIdeal.defs (F := Ideal)) (onTc (τ := Cert.FwdFfReferenceIdeal.τ) (Cert.FwdFfReferenceIdeal.main (F := Ideal))) ⟨m, fun _ => 0, g⟩ (fun r => (∀ c : Dev Cert.FwdFfReferenceIdeal.nD,
      r.2.mem ((c.tc : Thread Cert.FwdFfReferenceIdeal.nD Cert.FwdFfReferenceIdeal.τ).loc Cert.FwdFfReferenceIdeal.main_arg0) = m ((c.tc : Thread Cert.FwdFfReferenceIdeal.nD Cert.FwdFfReferenceIdeal.τ).loc Cert.FwdFfReferenceIdeal.main_arg0)
      ∧ r.2.mem ((c.tc : Thread Cert.FwdFfReferenceIdeal.nD Cert.FwdFfReferenceIdeal.τ).loc Cert.FwdFfReferenceIdeal.main_arg1) = m ((c.tc : Thread Cert.FwdFfReferenceIdeal.nD Cert.FwdFfReferenceIdeal.τ).loc Cert.FwdFfReferenceIdeal.main_arg1)
      ∧ r.2.mem ((c.tc : Thread Cert.FwdFfReferenceIdeal.nD Cert.FwdFfReferenceIdeal.τ).loc Cert.FwdFfReferenceIdeal.main_arg2) = m ((c.tc : Thread Cert.FwdFfReferenceIdeal.nD Cert.FwdFfReferenceIdeal.τ).loc Cert.FwdFfReferenceIdeal.main_arg2)
      ∧ r.2.mem ((c.tc : Thread Cert.FwdFfReferenceIdeal.nD Cert.FwdFfReferenceIdeal.τ).loc Cert.FwdFfReferenceIdeal.main_arg3) = m ((c.tc : Thread Cert.FwdFfReferenceIdeal.nD Cert.FwdFfReferenceIdeal.τ).loc Cert.FwdFfReferenceIdeal.main_arg3))
      ∧ r.2.sem = fun _ => 0)

def quiescent_FwdInKernel [hFwdInKernel : Cert.FwdInKernel.Facts] : Prop :=
  ∀ (m : (ℓ : Loc Cert.FwdInKernel.nD Cert.FwdInKernel.τ Cert.FwdInKernel.sig) → Buf (Elt Bits) ℓ) (g : Dev Cert.FwdInKernel.nD → PrngReg), Pre_FwdInKernel m →
    θ_run (Cert.FwdInKernel.defs (F := Bits)) (onTc (τ := Cert.FwdInKernel.τ) (Cert.FwdInKernel.main (F := Bits))) ⟨m, fun _ => 0, g⟩ (fun r => (∀ c : Dev Cert.FwdInKernel.nD,
      r.2.mem ((c.tc : Thread Cert.FwdInKernel.nD Cert.FwdInKernel.τ).loc Cert.FwdInKernel.main_arg0) = m ((c.tc : Thread Cert.FwdInKernel.nD Cert.FwdInKernel.τ).loc Cert.FwdInKernel.main_arg0)
      ∧ r.2.mem ((c.tc : Thread Cert.FwdInKernel.nD Cert.FwdInKernel.τ).loc Cert.FwdInKernel.main_arg1) = m ((c.tc : Thread Cert.FwdInKernel.nD Cert.FwdInKernel.τ).loc Cert.FwdInKernel.main_arg1)
      ∧ r.2.mem ((c.tc : Thread Cert.FwdInKernel.nD Cert.FwdInKernel.τ).loc Cert.FwdInKernel.main_arg2) = m ((c.tc : Thread Cert.FwdInKernel.nD Cert.FwdInKernel.τ).loc Cert.FwdInKernel.main_arg2)
      ∧ r.2.mem ((c.tc : Thread Cert.FwdInKernel.nD Cert.FwdInKernel.τ).loc Cert.FwdInKernel.main_arg3) = m ((c.tc : Thread Cert.FwdInKernel.nD Cert.FwdInKernel.τ).loc Cert.FwdInKernel.main_arg3)
      ∧ r.2.mem ((c.tc : Thread Cert.FwdInKernel.nD Cert.FwdInKernel.τ).loc Cert.FwdInKernel.main_arg4) = m ((c.tc : Thread Cert.FwdInKernel.nD Cert.FwdInKernel.τ).loc Cert.FwdInKernel.main_arg4))
      ∧ r.2.sem = fun _ => 0)

def quiescent_FwdInKernelIdeal [hFwdInKernelIdeal : Cert.FwdInKernelIdeal.Facts] : Prop :=
  ∀ (m : (ℓ : Loc Cert.FwdInKernelIdeal.nD Cert.FwdInKernelIdeal.τ Cert.FwdInKernelIdeal.sig) → Buf (Elt Ideal) ℓ) (g : Dev Cert.FwdInKernelIdeal.nD → PrngReg), Pre_FwdInKernelIdeal m →
    θ_run (Cert.FwdInKernelIdeal.defs (F := Ideal)) (onTc (τ := Cert.FwdInKernelIdeal.τ) (Cert.FwdInKernelIdeal.main (F := Ideal))) ⟨m, fun _ => 0, g⟩ (fun r => (∀ c : Dev Cert.FwdInKernelIdeal.nD,
      r.2.mem ((c.tc : Thread Cert.FwdInKernelIdeal.nD Cert.FwdInKernelIdeal.τ).loc Cert.FwdInKernelIdeal.main_arg0) = m ((c.tc : Thread Cert.FwdInKernelIdeal.nD Cert.FwdInKernelIdeal.τ).loc Cert.FwdInKernelIdeal.main_arg0)
      ∧ r.2.mem ((c.tc : Thread Cert.FwdInKernelIdeal.nD Cert.FwdInKernelIdeal.τ).loc Cert.FwdInKernelIdeal.main_arg1) = m ((c.tc : Thread Cert.FwdInKernelIdeal.nD Cert.FwdInKernelIdeal.τ).loc Cert.FwdInKernelIdeal.main_arg1)
      ∧ r.2.mem ((c.tc : Thread Cert.FwdInKernelIdeal.nD Cert.FwdInKernelIdeal.τ).loc Cert.FwdInKernelIdeal.main_arg2) = m ((c.tc : Thread Cert.FwdInKernelIdeal.nD Cert.FwdInKernelIdeal.τ).loc Cert.FwdInKernelIdeal.main_arg2)
      ∧ r.2.mem ((c.tc : Thread Cert.FwdInKernelIdeal.nD Cert.FwdInKernelIdeal.τ).loc Cert.FwdInKernelIdeal.main_arg3) = m ((c.tc : Thread Cert.FwdInKernelIdeal.nD Cert.FwdInKernelIdeal.τ).loc Cert.FwdInKernelIdeal.main_arg3)
      ∧ r.2.mem ((c.tc : Thread Cert.FwdInKernelIdeal.nD Cert.FwdInKernelIdeal.τ).loc Cert.FwdInKernelIdeal.main_arg4) = m ((c.tc : Thread Cert.FwdInKernelIdeal.nD Cert.FwdInKernelIdeal.τ).loc Cert.FwdInKernelIdeal.main_arg4))
      ∧ r.2.sem = fun _ => 0)

def quiescent_FwdInReferenceIdeal [hFwdInReferenceIdeal : Cert.FwdInReferenceIdeal.Facts] : Prop :=
  ∀ (m : (ℓ : Loc Cert.FwdInReferenceIdeal.nD Cert.FwdInReferenceIdeal.τ Cert.FwdInReferenceIdeal.sig) → Buf (Elt Ideal) ℓ) (g : Dev Cert.FwdInReferenceIdeal.nD → PrngReg), Pre_FwdInReferenceIdeal m →
    θ_run (Cert.FwdInReferenceIdeal.defs (F := Ideal)) (onTc (τ := Cert.FwdInReferenceIdeal.τ) (Cert.FwdInReferenceIdeal.main (F := Ideal))) ⟨m, fun _ => 0, g⟩ (fun r => (∀ c : Dev Cert.FwdInReferenceIdeal.nD,
      r.2.mem ((c.tc : Thread Cert.FwdInReferenceIdeal.nD Cert.FwdInReferenceIdeal.τ).loc Cert.FwdInReferenceIdeal.main_arg0) = m ((c.tc : Thread Cert.FwdInReferenceIdeal.nD Cert.FwdInReferenceIdeal.τ).loc Cert.FwdInReferenceIdeal.main_arg0)
      ∧ r.2.mem ((c.tc : Thread Cert.FwdInReferenceIdeal.nD Cert.FwdInReferenceIdeal.τ).loc Cert.FwdInReferenceIdeal.main_arg1) = m ((c.tc : Thread Cert.FwdInReferenceIdeal.nD Cert.FwdInReferenceIdeal.τ).loc Cert.FwdInReferenceIdeal.main_arg1)
      ∧ r.2.mem ((c.tc : Thread Cert.FwdInReferenceIdeal.nD Cert.FwdInReferenceIdeal.τ).loc Cert.FwdInReferenceIdeal.main_arg2) = m ((c.tc : Thread Cert.FwdInReferenceIdeal.nD Cert.FwdInReferenceIdeal.τ).loc Cert.FwdInReferenceIdeal.main_arg2)
      ∧ r.2.mem ((c.tc : Thread Cert.FwdInReferenceIdeal.nD Cert.FwdInReferenceIdeal.τ).loc Cert.FwdInReferenceIdeal.main_arg3) = m ((c.tc : Thread Cert.FwdInReferenceIdeal.nD Cert.FwdInReferenceIdeal.τ).loc Cert.FwdInReferenceIdeal.main_arg3)
      ∧ r.2.mem ((c.tc : Thread Cert.FwdInReferenceIdeal.nD Cert.FwdInReferenceIdeal.τ).loc Cert.FwdInReferenceIdeal.main_arg4) = m ((c.tc : Thread Cert.FwdInReferenceIdeal.nD Cert.FwdInReferenceIdeal.τ).loc Cert.FwdInReferenceIdeal.main_arg4))
      ∧ r.2.sem = fun _ => 0)

def quiescent_FwdOutKernel [hFwdOutKernel : Cert.FwdOutKernel.Facts] : Prop :=
  ∀ (m : (ℓ : Loc Cert.FwdOutKernel.nD Cert.FwdOutKernel.τ Cert.FwdOutKernel.sig) → Buf (Elt Bits) ℓ) (g : Dev Cert.FwdOutKernel.nD → PrngReg), Pre_FwdOutKernel m →
    θ_run (Cert.FwdOutKernel.defs (F := Bits)) (onTc (τ := Cert.FwdOutKernel.τ) (Cert.FwdOutKernel.main (F := Bits))) ⟨m, fun _ => 0, g⟩ (fun r => (∀ c : Dev Cert.FwdOutKernel.nD,
      r.2.mem ((c.tc : Thread Cert.FwdOutKernel.nD Cert.FwdOutKernel.τ).loc Cert.FwdOutKernel.main_arg0) = m ((c.tc : Thread Cert.FwdOutKernel.nD Cert.FwdOutKernel.τ).loc Cert.FwdOutKernel.main_arg0)
      ∧ r.2.mem ((c.tc : Thread Cert.FwdOutKernel.nD Cert.FwdOutKernel.τ).loc Cert.FwdOutKernel.main_arg1) = m ((c.tc : Thread Cert.FwdOutKernel.nD Cert.FwdOutKernel.τ).loc Cert.FwdOutKernel.main_arg1)
      ∧ r.2.mem ((c.tc : Thread Cert.FwdOutKernel.nD Cert.FwdOutKernel.τ).loc Cert.FwdOutKernel.main_arg2) = m ((c.tc : Thread Cert.FwdOutKernel.nD Cert.FwdOutKernel.τ).loc Cert.FwdOutKernel.main_arg2)
      ∧ r.2.mem ((c.tc : Thread Cert.FwdOutKernel.nD Cert.FwdOutKernel.τ).loc Cert.FwdOutKernel.main_arg3) = m ((c.tc : Thread Cert.FwdOutKernel.nD Cert.FwdOutKernel.τ).loc Cert.FwdOutKernel.main_arg3)
      ∧ r.2.mem ((c.tc : Thread Cert.FwdOutKernel.nD Cert.FwdOutKernel.τ).loc Cert.FwdOutKernel.main_arg4) = m ((c.tc : Thread Cert.FwdOutKernel.nD Cert.FwdOutKernel.τ).loc Cert.FwdOutKernel.main_arg4)
      ∧ r.2.mem ((c.tc : Thread Cert.FwdOutKernel.nD Cert.FwdOutKernel.τ).loc Cert.FwdOutKernel.main_arg5) = m ((c.tc : Thread Cert.FwdOutKernel.nD Cert.FwdOutKernel.τ).loc Cert.FwdOutKernel.main_arg5)
      ∧ r.2.mem ((c.tc : Thread Cert.FwdOutKernel.nD Cert.FwdOutKernel.τ).loc Cert.FwdOutKernel.main_arg6) = m ((c.tc : Thread Cert.FwdOutKernel.nD Cert.FwdOutKernel.τ).loc Cert.FwdOutKernel.main_arg6)
      ∧ r.2.mem ((c.tc : Thread Cert.FwdOutKernel.nD Cert.FwdOutKernel.τ).loc Cert.FwdOutKernel.main_arg7) = m ((c.tc : Thread Cert.FwdOutKernel.nD Cert.FwdOutKernel.τ).loc Cert.FwdOutKernel.main_arg7))
      ∧ r.2.sem = fun _ => 0)

def quiescent_FwdOutKernelIdeal [hFwdOutKernelIdeal : Cert.FwdOutKernelIdeal.Facts] : Prop :=
  ∀ (m : (ℓ : Loc Cert.FwdOutKernelIdeal.nD Cert.FwdOutKernelIdeal.τ Cert.FwdOutKernelIdeal.sig) → Buf (Elt Ideal) ℓ) (g : Dev Cert.FwdOutKernelIdeal.nD → PrngReg), Pre_FwdOutKernelIdeal m →
    θ_run (Cert.FwdOutKernelIdeal.defs (F := Ideal)) (onTc (τ := Cert.FwdOutKernelIdeal.τ) (Cert.FwdOutKernelIdeal.main (F := Ideal))) ⟨m, fun _ => 0, g⟩ (fun r => (∀ c : Dev Cert.FwdOutKernelIdeal.nD,
      r.2.mem ((c.tc : Thread Cert.FwdOutKernelIdeal.nD Cert.FwdOutKernelIdeal.τ).loc Cert.FwdOutKernelIdeal.main_arg0) = m ((c.tc : Thread Cert.FwdOutKernelIdeal.nD Cert.FwdOutKernelIdeal.τ).loc Cert.FwdOutKernelIdeal.main_arg0)
      ∧ r.2.mem ((c.tc : Thread Cert.FwdOutKernelIdeal.nD Cert.FwdOutKernelIdeal.τ).loc Cert.FwdOutKernelIdeal.main_arg1) = m ((c.tc : Thread Cert.FwdOutKernelIdeal.nD Cert.FwdOutKernelIdeal.τ).loc Cert.FwdOutKernelIdeal.main_arg1)
      ∧ r.2.mem ((c.tc : Thread Cert.FwdOutKernelIdeal.nD Cert.FwdOutKernelIdeal.τ).loc Cert.FwdOutKernelIdeal.main_arg2) = m ((c.tc : Thread Cert.FwdOutKernelIdeal.nD Cert.FwdOutKernelIdeal.τ).loc Cert.FwdOutKernelIdeal.main_arg2)
      ∧ r.2.mem ((c.tc : Thread Cert.FwdOutKernelIdeal.nD Cert.FwdOutKernelIdeal.τ).loc Cert.FwdOutKernelIdeal.main_arg3) = m ((c.tc : Thread Cert.FwdOutKernelIdeal.nD Cert.FwdOutKernelIdeal.τ).loc Cert.FwdOutKernelIdeal.main_arg3)
      ∧ r.2.mem ((c.tc : Thread Cert.FwdOutKernelIdeal.nD Cert.FwdOutKernelIdeal.τ).loc Cert.FwdOutKernelIdeal.main_arg4) = m ((c.tc : Thread Cert.FwdOutKernelIdeal.nD Cert.FwdOutKernelIdeal.τ).loc Cert.FwdOutKernelIdeal.main_arg4)
      ∧ r.2.mem ((c.tc : Thread Cert.FwdOutKernelIdeal.nD Cert.FwdOutKernelIdeal.τ).loc Cert.FwdOutKernelIdeal.main_arg5) = m ((c.tc : Thread Cert.FwdOutKernelIdeal.nD Cert.FwdOutKernelIdeal.τ).loc Cert.FwdOutKernelIdeal.main_arg5)
      ∧ r.2.mem ((c.tc : Thread Cert.FwdOutKernelIdeal.nD Cert.FwdOutKernelIdeal.τ).loc Cert.FwdOutKernelIdeal.main_arg6) = m ((c.tc : Thread Cert.FwdOutKernelIdeal.nD Cert.FwdOutKernelIdeal.τ).loc Cert.FwdOutKernelIdeal.main_arg6)
      ∧ r.2.mem ((c.tc : Thread Cert.FwdOutKernelIdeal.nD Cert.FwdOutKernelIdeal.τ).loc Cert.FwdOutKernelIdeal.main_arg7) = m ((c.tc : Thread Cert.FwdOutKernelIdeal.nD Cert.FwdOutKernelIdeal.τ).loc Cert.FwdOutKernelIdeal.main_arg7))
      ∧ r.2.sem = fun _ => 0)

def quiescent_FwdOutReferenceIdeal [hFwdOutReferenceIdeal : Cert.FwdOutReferenceIdeal.Facts] : Prop :=
  ∀ (m : (ℓ : Loc Cert.FwdOutReferenceIdeal.nD Cert.FwdOutReferenceIdeal.τ Cert.FwdOutReferenceIdeal.sig) → Buf (Elt Ideal) ℓ) (g : Dev Cert.FwdOutReferenceIdeal.nD → PrngReg), Pre_FwdOutReferenceIdeal m →
    θ_run (Cert.FwdOutReferenceIdeal.defs (F := Ideal)) (onTc (τ := Cert.FwdOutReferenceIdeal.τ) (Cert.FwdOutReferenceIdeal.main (F := Ideal))) ⟨m, fun _ => 0, g⟩ (fun r => (∀ c : Dev Cert.FwdOutReferenceIdeal.nD,
      r.2.mem ((c.tc : Thread Cert.FwdOutReferenceIdeal.nD Cert.FwdOutReferenceIdeal.τ).loc Cert.FwdOutReferenceIdeal.main_arg0) = m ((c.tc : Thread Cert.FwdOutReferenceIdeal.nD Cert.FwdOutReferenceIdeal.τ).loc Cert.FwdOutReferenceIdeal.main_arg0)
      ∧ r.2.mem ((c.tc : Thread Cert.FwdOutReferenceIdeal.nD Cert.FwdOutReferenceIdeal.τ).loc Cert.FwdOutReferenceIdeal.main_arg1) = m ((c.tc : Thread Cert.FwdOutReferenceIdeal.nD Cert.FwdOutReferenceIdeal.τ).loc Cert.FwdOutReferenceIdeal.main_arg1)
      ∧ r.2.mem ((c.tc : Thread Cert.FwdOutReferenceIdeal.nD Cert.FwdOutReferenceIdeal.τ).loc Cert.FwdOutReferenceIdeal.main_arg2) = m ((c.tc : Thread Cert.FwdOutReferenceIdeal.nD Cert.FwdOutReferenceIdeal.τ).loc Cert.FwdOutReferenceIdeal.main_arg2)
      ∧ r.2.mem ((c.tc : Thread Cert.FwdOutReferenceIdeal.nD Cert.FwdOutReferenceIdeal.τ).loc Cert.FwdOutReferenceIdeal.main_arg3) = m ((c.tc : Thread Cert.FwdOutReferenceIdeal.nD Cert.FwdOutReferenceIdeal.τ).loc Cert.FwdOutReferenceIdeal.main_arg3)
      ∧ r.2.mem ((c.tc : Thread Cert.FwdOutReferenceIdeal.nD Cert.FwdOutReferenceIdeal.τ).loc Cert.FwdOutReferenceIdeal.main_arg4) = m ((c.tc : Thread Cert.FwdOutReferenceIdeal.nD Cert.FwdOutReferenceIdeal.τ).loc Cert.FwdOutReferenceIdeal.main_arg4)
      ∧ r.2.mem ((c.tc : Thread Cert.FwdOutReferenceIdeal.nD Cert.FwdOutReferenceIdeal.τ).loc Cert.FwdOutReferenceIdeal.main_arg5) = m ((c.tc : Thread Cert.FwdOutReferenceIdeal.nD Cert.FwdOutReferenceIdeal.τ).loc Cert.FwdOutReferenceIdeal.main_arg5)
      ∧ r.2.mem ((c.tc : Thread Cert.FwdOutReferenceIdeal.nD Cert.FwdOutReferenceIdeal.τ).loc Cert.FwdOutReferenceIdeal.main_arg6) = m ((c.tc : Thread Cert.FwdOutReferenceIdeal.nD Cert.FwdOutReferenceIdeal.τ).loc Cert.FwdOutReferenceIdeal.main_arg6)
      ∧ r.2.mem ((c.tc : Thread Cert.FwdOutReferenceIdeal.nD Cert.FwdOutReferenceIdeal.τ).loc Cert.FwdOutReferenceIdeal.main_arg7) = m ((c.tc : Thread Cert.FwdOutReferenceIdeal.nD Cert.FwdOutReferenceIdeal.τ).loc Cert.FwdOutReferenceIdeal.main_arg7))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_SpatialKernel [hSpatialKernel : Cert.SpatialKernel.Facts] : Prop :=
  ∀ (m : (ℓ : Loc Cert.SpatialKernel.nD Cert.SpatialKernel.τ Cert.SpatialKernel.sig) → Buf (Elt Bits) ℓ) (g : Dev Cert.SpatialKernel.nD → PrngReg), Pre_SpatialKernel m →
    θ_run (Cert.SpatialKernel.defs (F := Bits)) (onTc (τ := Cert.SpatialKernel.τ) (Cert.SpatialKernel.main (F := Bits))) ⟨m, fun _ => 0, g⟩ (fun r => (∀ c : Dev Cert.SpatialKernel.nD,
      r.2.mem ((c.tc : Thread Cert.SpatialKernel.nD Cert.SpatialKernel.τ).loc Cert.SpatialKernel.main_arg0) = m ((c.tc : Thread Cert.SpatialKernel.nD Cert.SpatialKernel.τ).loc Cert.SpatialKernel.main_arg0)
      ∧ r.2.mem ((c.tc : Thread Cert.SpatialKernel.nD Cert.SpatialKernel.τ).loc Cert.SpatialKernel.main_arg1) = m ((c.tc : Thread Cert.SpatialKernel.nD Cert.SpatialKernel.τ).loc Cert.SpatialKernel.main_arg1)
      ∧ r.2.mem ((c.tc : Thread Cert.SpatialKernel.nD Cert.SpatialKernel.τ).loc Cert.SpatialKernel.main_arg2) = m ((c.tc : Thread Cert.SpatialKernel.nD Cert.SpatialKernel.τ).loc Cert.SpatialKernel.main_arg2)
      ∧ r.2.mem ((c.tc : Thread Cert.SpatialKernel.nD Cert.SpatialKernel.τ).loc Cert.SpatialKernel.main_arg3) = m ((c.tc : Thread Cert.SpatialKernel.nD Cert.SpatialKernel.τ).loc Cert.SpatialKernel.main_arg3)
      ∧ r.2.mem ((c.tc : Thread Cert.SpatialKernel.nD Cert.SpatialKernel.τ).loc Cert.SpatialKernel.main_arg4) = m ((c.tc : Thread Cert.SpatialKernel.nD Cert.SpatialKernel.τ).loc Cert.SpatialKernel.main_arg4)
      ∧ r.2.mem ((c.tc : Thread Cert.SpatialKernel.nD Cert.SpatialKernel.τ).loc Cert.SpatialKernel.main_arg5) = m ((c.tc : Thread Cert.SpatialKernel.nD Cert.SpatialKernel.τ).loc Cert.SpatialKernel.main_arg5)
      ∧ r.2.mem ((c.tc : Thread Cert.SpatialKernel.nD Cert.SpatialKernel.τ).loc Cert.SpatialKernel.main_arg6) = m ((c.tc : Thread Cert.SpatialKernel.nD Cert.SpatialKernel.τ).loc Cert.SpatialKernel.main_arg6)
      ∧ r.2.mem ((c.tc : Thread Cert.SpatialKernel.nD Cert.SpatialKernel.τ).loc Cert.SpatialKernel.main_arg7) = m ((c.tc : Thread Cert.SpatialKernel.nD Cert.SpatialKernel.τ).loc Cert.SpatialKernel.main_arg7)
      ∧ r.2.mem ((c.tc : Thread Cert.SpatialKernel.nD Cert.SpatialKernel.τ).loc Cert.SpatialKernel.main_arg8) = m ((c.tc : Thread Cert.SpatialKernel.nD Cert.SpatialKernel.τ).loc Cert.SpatialKernel.main_arg8)
      ∧ r.2.mem ((c.tc : Thread Cert.SpatialKernel.nD Cert.SpatialKernel.τ).loc Cert.SpatialKernel.main_arg9) = m ((c.tc : Thread Cert.SpatialKernel.nD Cert.SpatialKernel.τ).loc Cert.SpatialKernel.main_arg9))
      ∧ r.2.sem = fun _ => 0)

def quiescent_SpatialKernelIdeal [hSpatialKernelIdeal : Cert.SpatialKernelIdeal.Facts] : Prop :=
  ∀ (m : (ℓ : Loc Cert.SpatialKernelIdeal.nD Cert.SpatialKernelIdeal.τ Cert.SpatialKernelIdeal.sig) → Buf (Elt Ideal) ℓ) (g : Dev Cert.SpatialKernelIdeal.nD → PrngReg), Pre_SpatialKernelIdeal m →
    θ_run (Cert.SpatialKernelIdeal.defs (F := Ideal)) (onTc (τ := Cert.SpatialKernelIdeal.τ) (Cert.SpatialKernelIdeal.main (F := Ideal))) ⟨m, fun _ => 0, g⟩ (fun r => (∀ c : Dev Cert.SpatialKernelIdeal.nD,
      r.2.mem ((c.tc : Thread Cert.SpatialKernelIdeal.nD Cert.SpatialKernelIdeal.τ).loc Cert.SpatialKernelIdeal.main_arg0) = m ((c.tc : Thread Cert.SpatialKernelIdeal.nD Cert.SpatialKernelIdeal.τ).loc Cert.SpatialKernelIdeal.main_arg0)
      ∧ r.2.mem ((c.tc : Thread Cert.SpatialKernelIdeal.nD Cert.SpatialKernelIdeal.τ).loc Cert.SpatialKernelIdeal.main_arg1) = m ((c.tc : Thread Cert.SpatialKernelIdeal.nD Cert.SpatialKernelIdeal.τ).loc Cert.SpatialKernelIdeal.main_arg1)
      ∧ r.2.mem ((c.tc : Thread Cert.SpatialKernelIdeal.nD Cert.SpatialKernelIdeal.τ).loc Cert.SpatialKernelIdeal.main_arg2) = m ((c.tc : Thread Cert.SpatialKernelIdeal.nD Cert.SpatialKernelIdeal.τ).loc Cert.SpatialKernelIdeal.main_arg2)
      ∧ r.2.mem ((c.tc : Thread Cert.SpatialKernelIdeal.nD Cert.SpatialKernelIdeal.τ).loc Cert.SpatialKernelIdeal.main_arg3) = m ((c.tc : Thread Cert.SpatialKernelIdeal.nD Cert.SpatialKernelIdeal.τ).loc Cert.SpatialKernelIdeal.main_arg3)
      ∧ r.2.mem ((c.tc : Thread Cert.SpatialKernelIdeal.nD Cert.SpatialKernelIdeal.τ).loc Cert.SpatialKernelIdeal.main_arg4) = m ((c.tc : Thread Cert.SpatialKernelIdeal.nD Cert.SpatialKernelIdeal.τ).loc Cert.SpatialKernelIdeal.main_arg4)
      ∧ r.2.mem ((c.tc : Thread Cert.SpatialKernelIdeal.nD Cert.SpatialKernelIdeal.τ).loc Cert.SpatialKernelIdeal.main_arg5) = m ((c.tc : Thread Cert.SpatialKernelIdeal.nD Cert.SpatialKernelIdeal.τ).loc Cert.SpatialKernelIdeal.main_arg5)
      ∧ r.2.mem ((c.tc : Thread Cert.SpatialKernelIdeal.nD Cert.SpatialKernelIdeal.τ).loc Cert.SpatialKernelIdeal.main_arg6) = m ((c.tc : Thread Cert.SpatialKernelIdeal.nD Cert.SpatialKernelIdeal.τ).loc Cert.SpatialKernelIdeal.main_arg6)
      ∧ r.2.mem ((c.tc : Thread Cert.SpatialKernelIdeal.nD Cert.SpatialKernelIdeal.τ).loc Cert.SpatialKernelIdeal.main_arg7) = m ((c.tc : Thread Cert.SpatialKernelIdeal.nD Cert.SpatialKernelIdeal.τ).loc Cert.SpatialKernelIdeal.main_arg7)
      ∧ r.2.mem ((c.tc : Thread Cert.SpatialKernelIdeal.nD Cert.SpatialKernelIdeal.τ).loc Cert.SpatialKernelIdeal.main_arg8) = m ((c.tc : Thread Cert.SpatialKernelIdeal.nD Cert.SpatialKernelIdeal.τ).loc Cert.SpatialKernelIdeal.main_arg8)
      ∧ r.2.mem ((c.tc : Thread Cert.SpatialKernelIdeal.nD Cert.SpatialKernelIdeal.τ).loc Cert.SpatialKernelIdeal.main_arg9) = m ((c.tc : Thread Cert.SpatialKernelIdeal.nD Cert.SpatialKernelIdeal.τ).loc Cert.SpatialKernelIdeal.main_arg9))
      ∧ r.2.sem = fun _ => 0)

def quiescent_SpatialReferenceIdeal [hSpatialReferenceIdeal : Cert.SpatialReferenceIdeal.Facts] : Prop :=
  ∀ (m : (ℓ : Loc Cert.SpatialReferenceIdeal.nD Cert.SpatialReferenceIdeal.τ Cert.SpatialReferenceIdeal.sig) → Buf (Elt Ideal) ℓ) (g : Dev Cert.SpatialReferenceIdeal.nD → PrngReg), Pre_SpatialReferenceIdeal m →
    θ_run (Cert.SpatialReferenceIdeal.defs (F := Ideal)) (onTc (τ := Cert.SpatialReferenceIdeal.τ) (Cert.SpatialReferenceIdeal.main (F := Ideal))) ⟨m, fun _ => 0, g⟩ (fun r => (∀ c : Dev Cert.SpatialReferenceIdeal.nD,
      r.2.mem ((c.tc : Thread Cert.SpatialReferenceIdeal.nD Cert.SpatialReferenceIdeal.τ).loc Cert.SpatialReferenceIdeal.main_arg0) = m ((c.tc : Thread Cert.SpatialReferenceIdeal.nD Cert.SpatialReferenceIdeal.τ).loc Cert.SpatialReferenceIdeal.main_arg0)
      ∧ r.2.mem ((c.tc : Thread Cert.SpatialReferenceIdeal.nD Cert.SpatialReferenceIdeal.τ).loc Cert.SpatialReferenceIdeal.main_arg1) = m ((c.tc : Thread Cert.SpatialReferenceIdeal.nD Cert.SpatialReferenceIdeal.τ).loc Cert.SpatialReferenceIdeal.main_arg1)
      ∧ r.2.mem ((c.tc : Thread Cert.SpatialReferenceIdeal.nD Cert.SpatialReferenceIdeal.τ).loc Cert.SpatialReferenceIdeal.main_arg2) = m ((c.tc : Thread Cert.SpatialReferenceIdeal.nD Cert.SpatialReferenceIdeal.τ).loc Cert.SpatialReferenceIdeal.main_arg2)
      ∧ r.2.mem ((c.tc : Thread Cert.SpatialReferenceIdeal.nD Cert.SpatialReferenceIdeal.τ).loc Cert.SpatialReferenceIdeal.main_arg3) = m ((c.tc : Thread Cert.SpatialReferenceIdeal.nD Cert.SpatialReferenceIdeal.τ).loc Cert.SpatialReferenceIdeal.main_arg3)
      ∧ r.2.mem ((c.tc : Thread Cert.SpatialReferenceIdeal.nD Cert.SpatialReferenceIdeal.τ).loc Cert.SpatialReferenceIdeal.main_arg4) = m ((c.tc : Thread Cert.SpatialReferenceIdeal.nD Cert.SpatialReferenceIdeal.τ).loc Cert.SpatialReferenceIdeal.main_arg4)
      ∧ r.2.mem ((c.tc : Thread Cert.SpatialReferenceIdeal.nD Cert.SpatialReferenceIdeal.τ).loc Cert.SpatialReferenceIdeal.main_arg5) = m ((c.tc : Thread Cert.SpatialReferenceIdeal.nD Cert.SpatialReferenceIdeal.τ).loc Cert.SpatialReferenceIdeal.main_arg5)
      ∧ r.2.mem ((c.tc : Thread Cert.SpatialReferenceIdeal.nD Cert.SpatialReferenceIdeal.τ).loc Cert.SpatialReferenceIdeal.main_arg6) = m ((c.tc : Thread Cert.SpatialReferenceIdeal.nD Cert.SpatialReferenceIdeal.τ).loc Cert.SpatialReferenceIdeal.main_arg6)
      ∧ r.2.mem ((c.tc : Thread Cert.SpatialReferenceIdeal.nD Cert.SpatialReferenceIdeal.τ).loc Cert.SpatialReferenceIdeal.main_arg7) = m ((c.tc : Thread Cert.SpatialReferenceIdeal.nD Cert.SpatialReferenceIdeal.τ).loc Cert.SpatialReferenceIdeal.main_arg7)
      ∧ r.2.mem ((c.tc : Thread Cert.SpatialReferenceIdeal.nD Cert.SpatialReferenceIdeal.τ).loc Cert.SpatialReferenceIdeal.main_arg8) = m ((c.tc : Thread Cert.SpatialReferenceIdeal.nD Cert.SpatialReferenceIdeal.τ).loc Cert.SpatialReferenceIdeal.main_arg8)
      ∧ r.2.mem ((c.tc : Thread Cert.SpatialReferenceIdeal.nD Cert.SpatialReferenceIdeal.τ).loc Cert.SpatialReferenceIdeal.main_arg9) = m ((c.tc : Thread Cert.SpatialReferenceIdeal.nD Cert.SpatialReferenceIdeal.τ).loc Cert.SpatialReferenceIdeal.main_arg9))
      ∧ r.2.sem = fun _ => 0)

def preserves_LossKernel_LossKernelIdeal : Prop :=
  True

def algebraic_LossKernelIdeal_LossReferenceIdeal_pre_finite_loss_arguments [hLossKernelIdeal : Cert.LossKernelIdeal.Facts] [hLossReferenceIdeal : Cert.LossReferenceIdeal.Facts] [hPre_finite_loss_arguments : Cert.Pre_finite_loss_arguments.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss_arguments m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_ReluKernel_ReluKernelIdeal : Prop :=
  True

def algebraic_ReluKernelIdeal_ReluReferenceIdeal [hReluKernelIdeal : Cert.ReluKernelIdeal.Facts] [hReluReferenceIdeal : Cert.ReluReferenceIdeal.Facts] : Prop :=
  ∀ (m : (ℓ : Loc Cert.ReluKernelIdeal.nD Cert.ReluKernelIdeal.τ Cert.ReluKernelIdeal.sig) → Buf (Elt Ideal) ℓ) (g : Dev Cert.ReluKernelIdeal.nD → PrngReg)
    (m' : (ℓ : Loc Cert.ReluReferenceIdeal.nD Cert.ReluReferenceIdeal.τ Cert.ReluReferenceIdeal.sig) → Buf (Elt Ideal) ℓ) (g' : Dev Cert.ReluReferenceIdeal.nD → PrngReg), Pre_ReluKernelIdeal m →
    (∀ c : Dev Cert.ReluKernelIdeal.nD,
      m' ((c.tc : Thread Cert.ReluReferenceIdeal.nD Cert.ReluReferenceIdeal.τ).loc Cert.ReluReferenceIdeal.main_arg0) = m ((c.tc : Thread Cert.ReluKernelIdeal.nD Cert.ReluKernelIdeal.τ).loc Cert.ReluKernelIdeal.main_arg0)
      ∧ m' ((c.tc : Thread Cert.ReluReferenceIdeal.nD Cert.ReluReferenceIdeal.τ).loc Cert.ReluReferenceIdeal.main_arg1) = m ((c.tc : Thread Cert.ReluKernelIdeal.nD Cert.ReluKernelIdeal.τ).loc Cert.ReluKernelIdeal.main_arg1)
      ∧ m' ((c.tc : Thread Cert.ReluReferenceIdeal.nD Cert.ReluReferenceIdeal.τ).loc Cert.ReluReferenceIdeal.main_arg2) = m ((c.tc : Thread Cert.ReluKernelIdeal.nD Cert.ReluKernelIdeal.τ).loc Cert.ReluKernelIdeal.main_arg2)
      ∧ m' ((c.tc : Thread Cert.ReluReferenceIdeal.nD Cert.ReluReferenceIdeal.τ).loc Cert.ReluReferenceIdeal.main_arg3) = m ((c.tc : Thread Cert.ReluKernelIdeal.nD Cert.ReluKernelIdeal.τ).loc Cert.ReluKernelIdeal.main_arg3)) →
    ∃ (v0 : (c : Dev Cert.ReluKernelIdeal.nD) → Buf (Elt Ideal) ((c.tc : Thread Cert.ReluKernelIdeal.nD Cert.ReluKernelIdeal.τ).loc Cert.ReluKernelIdeal.main_v7)),
      θ_run (Cert.ReluKernelIdeal.defs (F := Ideal)) (onTc (τ := Cert.ReluKernelIdeal.τ) (Cert.ReluKernelIdeal.main (F := Ideal))) ⟨m, fun _ => 0, g⟩ (fun r => ∀ c : Dev Cert.ReluKernelIdeal.nD,
          r.2.mem ((c.tc : Thread Cert.ReluKernelIdeal.nD Cert.ReluKernelIdeal.τ).loc Cert.ReluKernelIdeal.main_v7) = v0 c
          ∧ r.2.mem ((c.tc : Thread Cert.ReluKernelIdeal.nD Cert.ReluKernelIdeal.τ).loc Cert.ReluKernelIdeal.main_arg0) = m ((c.tc : Thread Cert.ReluKernelIdeal.nD Cert.ReluKernelIdeal.τ).loc Cert.ReluKernelIdeal.main_arg0)
          ∧ r.2.mem ((c.tc : Thread Cert.ReluKernelIdeal.nD Cert.ReluKernelIdeal.τ).loc Cert.ReluKernelIdeal.main_arg1) = m ((c.tc : Thread Cert.ReluKernelIdeal.nD Cert.ReluKernelIdeal.τ).loc Cert.ReluKernelIdeal.main_arg1)
          ∧ r.2.mem ((c.tc : Thread Cert.ReluKernelIdeal.nD Cert.ReluKernelIdeal.τ).loc Cert.ReluKernelIdeal.main_arg2) = m ((c.tc : Thread Cert.ReluKernelIdeal.nD Cert.ReluKernelIdeal.τ).loc Cert.ReluKernelIdeal.main_arg2)
          ∧ r.2.mem ((c.tc : Thread Cert.ReluKernelIdeal.nD Cert.ReluKernelIdeal.τ).loc Cert.ReluKernelIdeal.main_arg3) = m ((c.tc : Thread Cert.ReluKernelIdeal.nD Cert.ReluKernelIdeal.τ).loc Cert.ReluKernelIdeal.main_arg3))
      ∧ θ_run (Cert.ReluReferenceIdeal.defs (F := Ideal)) (onTc (τ := Cert.ReluReferenceIdeal.τ) (Cert.ReluReferenceIdeal.main (F := Ideal))) ⟨m', fun _ => 0, g'⟩ (fun r => ∀ c : Dev Cert.ReluReferenceIdeal.nD,
          r.2.mem ((c.tc : Thread Cert.ReluReferenceIdeal.nD Cert.ReluReferenceIdeal.τ).loc Cert.ReluReferenceIdeal.main_v17) = v0 c
          ∧ r.2.mem ((c.tc : Thread Cert.ReluReferenceIdeal.nD Cert.ReluReferenceIdeal.τ).loc Cert.ReluReferenceIdeal.main_arg0) = m' ((c.tc : Thread Cert.ReluReferenceIdeal.nD Cert.ReluReferenceIdeal.τ).loc Cert.ReluReferenceIdeal.main_arg0)
          ∧ r.2.mem ((c.tc : Thread Cert.ReluReferenceIdeal.nD Cert.ReluReferenceIdeal.τ).loc Cert.ReluReferenceIdeal.main_arg1) = m' ((c.tc : Thread Cert.ReluReferenceIdeal.nD Cert.ReluReferenceIdeal.τ).loc Cert.ReluReferenceIdeal.main_arg1)
          ∧ r.2.mem ((c.tc : Thread Cert.ReluReferenceIdeal.nD Cert.ReluReferenceIdeal.τ).loc Cert.ReluReferenceIdeal.main_arg2) = m' ((c.tc : Thread Cert.ReluReferenceIdeal.nD Cert.ReluReferenceIdeal.τ).loc Cert.ReluReferenceIdeal.main_arg2)
          ∧ r.2.mem ((c.tc : Thread Cert.ReluReferenceIdeal.nD Cert.ReluReferenceIdeal.τ).loc Cert.ReluReferenceIdeal.main_arg3) = m' ((c.tc : Thread Cert.ReluReferenceIdeal.nD Cert.ReluReferenceIdeal.τ).loc Cert.ReluReferenceIdeal.main_arg3))

def preserves_Norm2Kernel_Norm2KernelIdeal : Prop :=
  True

def algebraic_Norm2KernelIdeal_Norm2ReferenceIdeal_pre_finite_norm2_arguments [hNorm2KernelIdeal : Cert.Norm2KernelIdeal.Facts] [hNorm2ReferenceIdeal : Cert.Norm2ReferenceIdeal.Facts] [hPre_finite_norm2_arguments : Cert.Pre_finite_norm2_arguments.Facts] : Prop :=
  ∀ (m : (ℓ : Loc Cert.Norm2KernelIdeal.nD Cert.Norm2KernelIdeal.τ Cert.Norm2KernelIdeal.sig) → Buf (Elt Ideal) ℓ) (g : Dev Cert.Norm2KernelIdeal.nD → PrngReg)
    (m' : (ℓ : Loc Cert.Norm2ReferenceIdeal.nD Cert.Norm2ReferenceIdeal.τ Cert.Norm2ReferenceIdeal.sig) → Buf (Elt Ideal) ℓ) (g' : Dev Cert.Norm2ReferenceIdeal.nD → PrngReg), Pre_Norm2KernelIdeal_finite_norm2_arguments m →
    (∀ c : Dev Cert.Norm2KernelIdeal.nD,
      m' ((c.tc : Thread Cert.Norm2ReferenceIdeal.nD Cert.Norm2ReferenceIdeal.τ).loc Cert.Norm2ReferenceIdeal.main_arg0) = m ((c.tc : Thread Cert.Norm2KernelIdeal.nD Cert.Norm2KernelIdeal.τ).loc Cert.Norm2KernelIdeal.main_arg0)
      ∧ m' ((c.tc : Thread Cert.Norm2ReferenceIdeal.nD Cert.Norm2ReferenceIdeal.τ).loc Cert.Norm2ReferenceIdeal.main_arg1) = m ((c.tc : Thread Cert.Norm2KernelIdeal.nD Cert.Norm2KernelIdeal.τ).loc Cert.Norm2KernelIdeal.main_arg1)
      ∧ m' ((c.tc : Thread Cert.Norm2ReferenceIdeal.nD Cert.Norm2ReferenceIdeal.τ).loc Cert.Norm2ReferenceIdeal.main_arg2) = m ((c.tc : Thread Cert.Norm2KernelIdeal.nD Cert.Norm2KernelIdeal.τ).loc Cert.Norm2KernelIdeal.main_arg2)
      ∧ m' ((c.tc : Thread Cert.Norm2ReferenceIdeal.nD Cert.Norm2ReferenceIdeal.τ).loc Cert.Norm2ReferenceIdeal.main_arg3) = m ((c.tc : Thread Cert.Norm2KernelIdeal.nD Cert.Norm2KernelIdeal.τ).loc Cert.Norm2KernelIdeal.main_arg3)
      ∧ m' ((c.tc : Thread Cert.Norm2ReferenceIdeal.nD Cert.Norm2ReferenceIdeal.τ).loc Cert.Norm2ReferenceIdeal.main_arg4) = m ((c.tc : Thread Cert.Norm2KernelIdeal.nD Cert.Norm2KernelIdeal.τ).loc Cert.Norm2KernelIdeal.main_arg4)
      ∧ m' ((c.tc : Thread Cert.Norm2ReferenceIdeal.nD Cert.Norm2ReferenceIdeal.τ).loc Cert.Norm2ReferenceIdeal.main_arg5) = m ((c.tc : Thread Cert.Norm2KernelIdeal.nD Cert.Norm2KernelIdeal.τ).loc Cert.Norm2KernelIdeal.main_arg5)
      ∧ m' ((c.tc : Thread Cert.Norm2ReferenceIdeal.nD Cert.Norm2ReferenceIdeal.τ).loc Cert.Norm2ReferenceIdeal.main_arg6) = m ((c.tc : Thread Cert.Norm2KernelIdeal.nD Cert.Norm2KernelIdeal.τ).loc Cert.Norm2KernelIdeal.main_arg6)
      ∧ m' ((c.tc : Thread Cert.Norm2ReferenceIdeal.nD Cert.Norm2ReferenceIdeal.τ).loc Cert.Norm2ReferenceIdeal.main_arg7) = m ((c.tc : Thread Cert.Norm2KernelIdeal.nD Cert.Norm2KernelIdeal.τ).loc Cert.Norm2KernelIdeal.main_arg7)
      ∧ m' ((c.tc : Thread Cert.Norm2ReferenceIdeal.nD Cert.Norm2ReferenceIdeal.τ).loc Cert.Norm2ReferenceIdeal.main_arg8) = m ((c.tc : Thread Cert.Norm2KernelIdeal.nD Cert.Norm2KernelIdeal.τ).loc Cert.Norm2KernelIdeal.main_arg8)) →
    ∃ (v0 : (c : Dev Cert.Norm2KernelIdeal.nD) → Buf (Elt Ideal) ((c.tc : Thread Cert.Norm2KernelIdeal.nD Cert.Norm2KernelIdeal.τ).loc Cert.Norm2KernelIdeal.main_v14_0)) (v1 : (c : Dev Cert.Norm2KernelIdeal.nD) → Buf (Elt Ideal) ((c.tc : Thread Cert.Norm2KernelIdeal.nD Cert.Norm2KernelIdeal.τ).loc Cert.Norm2KernelIdeal.main_v14_1)) (v2 : (c : Dev Cert.Norm2KernelIdeal.nD) → Buf (Elt Ideal) ((c.tc : Thread Cert.Norm2KernelIdeal.nD Cert.Norm2KernelIdeal.τ).loc Cert.Norm2KernelIdeal.main_v14_2)),
      θ_run (Cert.Norm2KernelIdeal.defs (F := Ideal)) (onTc (τ := Cert.Norm2KernelIdeal.τ) (Cert.Norm2KernelIdeal.main (F := Ideal))) ⟨m, fun _ => 0, g⟩ (fun r => ∀ c : Dev Cert.Norm2KernelIdeal.nD,
          r.2.mem ((c.tc : Thread Cert.Norm2KernelIdeal.nD Cert.Norm2KernelIdeal.τ).loc Cert.Norm2KernelIdeal.main_v14_0) = v0 c
          ∧ r.2.mem ((c.tc : Thread Cert.Norm2KernelIdeal.nD Cert.Norm2KernelIdeal.τ).loc Cert.Norm2KernelIdeal.main_v14_1) = v1 c
          ∧ r.2.mem ((c.tc : Thread Cert.Norm2KernelIdeal.nD Cert.Norm2KernelIdeal.τ).loc Cert.Norm2KernelIdeal.main_v14_2) = v2 c
          ∧ r.2.mem ((c.tc : Thread Cert.Norm2KernelIdeal.nD Cert.Norm2KernelIdeal.τ).loc Cert.Norm2KernelIdeal.main_arg0) = m ((c.tc : Thread Cert.Norm2KernelIdeal.nD Cert.Norm2KernelIdeal.τ).loc Cert.Norm2KernelIdeal.main_arg0)
          ∧ r.2.mem ((c.tc : Thread Cert.Norm2KernelIdeal.nD Cert.Norm2KernelIdeal.τ).loc Cert.Norm2KernelIdeal.main_arg1) = m ((c.tc : Thread Cert.Norm2KernelIdeal.nD Cert.Norm2KernelIdeal.τ).loc Cert.Norm2KernelIdeal.main_arg1)
          ∧ r.2.mem ((c.tc : Thread Cert.Norm2KernelIdeal.nD Cert.Norm2KernelIdeal.τ).loc Cert.Norm2KernelIdeal.main_arg2) = m ((c.tc : Thread Cert.Norm2KernelIdeal.nD Cert.Norm2KernelIdeal.τ).loc Cert.Norm2KernelIdeal.main_arg2)
          ∧ r.2.mem ((c.tc : Thread Cert.Norm2KernelIdeal.nD Cert.Norm2KernelIdeal.τ).loc Cert.Norm2KernelIdeal.main_arg3) = m ((c.tc : Thread Cert.Norm2KernelIdeal.nD Cert.Norm2KernelIdeal.τ).loc Cert.Norm2KernelIdeal.main_arg3)
          ∧ r.2.mem ((c.tc : Thread Cert.Norm2KernelIdeal.nD Cert.Norm2KernelIdeal.τ).loc Cert.Norm2KernelIdeal.main_arg4) = m ((c.tc : Thread Cert.Norm2KernelIdeal.nD Cert.Norm2KernelIdeal.τ).loc Cert.Norm2KernelIdeal.main_arg4)
          ∧ r.2.mem ((c.tc : Thread Cert.Norm2KernelIdeal.nD Cert.Norm2KernelIdeal.τ).loc Cert.Norm2KernelIdeal.main_arg5) = m ((c.tc : Thread Cert.Norm2KernelIdeal.nD Cert.Norm2KernelIdeal.τ).loc Cert.Norm2KernelIdeal.main_arg5)
          ∧ r.2.mem ((c.tc : Thread Cert.Norm2KernelIdeal.nD Cert.Norm2KernelIdeal.τ).loc Cert.Norm2KernelIdeal.main_arg6) = m ((c.tc : Thread Cert.Norm2KernelIdeal.nD Cert.Norm2KernelIdeal.τ).loc Cert.Norm2KernelIdeal.main_arg6)
          ∧ r.2.mem ((c.tc : Thread Cert.Norm2KernelIdeal.nD Cert.Norm2KernelIdeal.τ).loc Cert.Norm2KernelIdeal.main_arg7) = m ((c.tc : Thread Cert.Norm2KernelIdeal.nD Cert.Norm2KernelIdeal.τ).loc Cert.Norm2KernelIdeal.main_arg7)
          ∧ r.2.mem ((c.tc : Thread Cert.Norm2KernelIdeal.nD Cert.Norm2KernelIdeal.τ).loc Cert.Norm2KernelIdeal.main_arg8) = m ((c.tc : Thread Cert.Norm2KernelIdeal.nD Cert.Norm2KernelIdeal.τ).loc Cert.Norm2KernelIdeal.main_arg8))
      ∧ θ_run (Cert.Norm2ReferenceIdeal.defs (F := Ideal)) (onTc (τ := Cert.Norm2ReferenceIdeal.τ) (Cert.Norm2ReferenceIdeal.main (F := Ideal))) ⟨m', fun _ => 0, g'⟩ (fun r => ∀ c : Dev Cert.Norm2ReferenceIdeal.nD,
          r.2.mem ((c.tc : Thread Cert.Norm2ReferenceIdeal.nD Cert.Norm2ReferenceIdeal.τ).loc Cert.Norm2ReferenceIdeal.main_v55) = v0 c
          ∧ r.2.mem ((c.tc : Thread Cert.Norm2ReferenceIdeal.nD Cert.Norm2ReferenceIdeal.τ).loc Cert.Norm2ReferenceIdeal.main_v67) = v1 c
          ∧ r.2.mem ((c.tc : Thread Cert.Norm2ReferenceIdeal.nD Cert.Norm2ReferenceIdeal.τ).loc Cert.Norm2ReferenceIdeal.main_v68) = v2 c
          ∧ r.2.mem ((c.tc : Thread Cert.Norm2ReferenceIdeal.nD Cert.Norm2ReferenceIdeal.τ).loc Cert.Norm2ReferenceIdeal.main_arg0) = m' ((c.tc : Thread Cert.Norm2ReferenceIdeal.nD Cert.Norm2ReferenceIdeal.τ).loc Cert.Norm2ReferenceIdeal.main_arg0)
          ∧ r.2.mem ((c.tc : Thread Cert.Norm2ReferenceIdeal.nD Cert.Norm2ReferenceIdeal.τ).loc Cert.Norm2ReferenceIdeal.main_arg1) = m' ((c.tc : Thread Cert.Norm2ReferenceIdeal.nD Cert.Norm2ReferenceIdeal.τ).loc Cert.Norm2ReferenceIdeal.main_arg1)
          ∧ r.2.mem ((c.tc : Thread Cert.Norm2ReferenceIdeal.nD Cert.Norm2ReferenceIdeal.τ).loc Cert.Norm2ReferenceIdeal.main_arg2) = m' ((c.tc : Thread Cert.Norm2ReferenceIdeal.nD Cert.Norm2ReferenceIdeal.τ).loc Cert.Norm2ReferenceIdeal.main_arg2)
          ∧ r.2.mem ((c.tc : Thread Cert.Norm2ReferenceIdeal.nD Cert.Norm2ReferenceIdeal.τ).loc Cert.Norm2ReferenceIdeal.main_arg3) = m' ((c.tc : Thread Cert.Norm2ReferenceIdeal.nD Cert.Norm2ReferenceIdeal.τ).loc Cert.Norm2ReferenceIdeal.main_arg3)
          ∧ r.2.mem ((c.tc : Thread Cert.Norm2ReferenceIdeal.nD Cert.Norm2ReferenceIdeal.τ).loc Cert.Norm2ReferenceIdeal.main_arg4) = m' ((c.tc : Thread Cert.Norm2ReferenceIdeal.nD Cert.Norm2ReferenceIdeal.τ).loc Cert.Norm2ReferenceIdeal.main_arg4)
          ∧ r.2.mem ((c.tc : Thread Cert.Norm2ReferenceIdeal.nD Cert.Norm2ReferenceIdeal.τ).loc Cert.Norm2ReferenceIdeal.main_arg5) = m' ((c.tc : Thread Cert.Norm2ReferenceIdeal.nD Cert.Norm2ReferenceIdeal.τ).loc Cert.Norm2ReferenceIdeal.main_arg5)
          ∧ r.2.mem ((c.tc : Thread Cert.Norm2ReferenceIdeal.nD Cert.Norm2ReferenceIdeal.τ).loc Cert.Norm2ReferenceIdeal.main_arg6) = m' ((c.tc : Thread Cert.Norm2ReferenceIdeal.nD Cert.Norm2ReferenceIdeal.τ).loc Cert.Norm2ReferenceIdeal.main_arg6)
          ∧ r.2.mem ((c.tc : Thread Cert.Norm2ReferenceIdeal.nD Cert.Norm2ReferenceIdeal.τ).loc Cert.Norm2ReferenceIdeal.main_arg7) = m' ((c.tc : Thread Cert.Norm2ReferenceIdeal.nD Cert.Norm2ReferenceIdeal.τ).loc Cert.Norm2ReferenceIdeal.main_arg7)
          ∧ r.2.mem ((c.tc : Thread Cert.Norm2ReferenceIdeal.nD Cert.Norm2ReferenceIdeal.τ).loc Cert.Norm2ReferenceIdeal.main_arg8) = m' ((c.tc : Thread Cert.Norm2ReferenceIdeal.nD Cert.Norm2ReferenceIdeal.τ).loc Cert.Norm2ReferenceIdeal.main_arg8))

def preserves_Norm1Kernel_Norm1KernelIdeal : Prop :=
  True

def algebraic_Norm1KernelIdeal_Norm1ReferenceIdeal_pre_finite_norm1_arguments [hNorm1KernelIdeal : Cert.Norm1KernelIdeal.Facts] [hNorm1ReferenceIdeal : Cert.Norm1ReferenceIdeal.Facts] [hPre_finite_norm1_arguments : Cert.Pre_finite_norm1_arguments.Facts] : Prop :=
  ∀ (m : (ℓ : Loc Cert.Norm1KernelIdeal.nD Cert.Norm1KernelIdeal.τ Cert.Norm1KernelIdeal.sig) → Buf (Elt Ideal) ℓ) (g : Dev Cert.Norm1KernelIdeal.nD → PrngReg)
    (m' : (ℓ : Loc Cert.Norm1ReferenceIdeal.nD Cert.Norm1ReferenceIdeal.τ Cert.Norm1ReferenceIdeal.sig) → Buf (Elt Ideal) ℓ) (g' : Dev Cert.Norm1ReferenceIdeal.nD → PrngReg), Pre_Norm1KernelIdeal_finite_norm1_arguments m →
    (∀ c : Dev Cert.Norm1KernelIdeal.nD,
      m' ((c.tc : Thread Cert.Norm1ReferenceIdeal.nD Cert.Norm1ReferenceIdeal.τ).loc Cert.Norm1ReferenceIdeal.main_arg0) = m ((c.tc : Thread Cert.Norm1KernelIdeal.nD Cert.Norm1KernelIdeal.τ).loc Cert.Norm1KernelIdeal.main_arg0)
      ∧ m' ((c.tc : Thread Cert.Norm1ReferenceIdeal.nD Cert.Norm1ReferenceIdeal.τ).loc Cert.Norm1ReferenceIdeal.main_arg1) = m ((c.tc : Thread Cert.Norm1KernelIdeal.nD Cert.Norm1KernelIdeal.τ).loc Cert.Norm1KernelIdeal.main_arg1)
      ∧ m' ((c.tc : Thread Cert.Norm1ReferenceIdeal.nD Cert.Norm1ReferenceIdeal.τ).loc Cert.Norm1ReferenceIdeal.main_arg2) = m ((c.tc : Thread Cert.Norm1KernelIdeal.nD Cert.Norm1KernelIdeal.τ).loc Cert.Norm1KernelIdeal.main_arg2)
      ∧ m' ((c.tc : Thread Cert.Norm1ReferenceIdeal.nD Cert.Norm1ReferenceIdeal.τ).loc Cert.Norm1ReferenceIdeal.main_arg3) = m ((c.tc : Thread Cert.Norm1KernelIdeal.nD Cert.Norm1KernelIdeal.τ).loc Cert.Norm1KernelIdeal.main_arg3)
      ∧ m' ((c.tc : Thread Cert.Norm1ReferenceIdeal.nD Cert.Norm1ReferenceIdeal.τ).loc Cert.Norm1ReferenceIdeal.main_arg4) = m ((c.tc : Thread Cert.Norm1KernelIdeal.nD Cert.Norm1KernelIdeal.τ).loc Cert.Norm1KernelIdeal.main_arg4)
      ∧ m' ((c.tc : Thread Cert.Norm1ReferenceIdeal.nD Cert.Norm1ReferenceIdeal.τ).loc Cert.Norm1ReferenceIdeal.main_arg5) = m ((c.tc : Thread Cert.Norm1KernelIdeal.nD Cert.Norm1KernelIdeal.τ).loc Cert.Norm1KernelIdeal.main_arg5)
      ∧ m' ((c.tc : Thread Cert.Norm1ReferenceIdeal.nD Cert.Norm1ReferenceIdeal.τ).loc Cert.Norm1ReferenceIdeal.main_arg6) = m ((c.tc : Thread Cert.Norm1KernelIdeal.nD Cert.Norm1KernelIdeal.τ).loc Cert.Norm1KernelIdeal.main_arg6)) →
    ∃ (v0 : (c : Dev Cert.Norm1KernelIdeal.nD) → Buf (Elt Ideal) ((c.tc : Thread Cert.Norm1KernelIdeal.nD Cert.Norm1KernelIdeal.τ).loc Cert.Norm1KernelIdeal.main_v11_0)) (v1 : (c : Dev Cert.Norm1KernelIdeal.nD) → Buf (Elt Ideal) ((c.tc : Thread Cert.Norm1KernelIdeal.nD Cert.Norm1KernelIdeal.τ).loc Cert.Norm1KernelIdeal.main_v11_1)),
      θ_run (Cert.Norm1KernelIdeal.defs (F := Ideal)) (onTc (τ := Cert.Norm1KernelIdeal.τ) (Cert.Norm1KernelIdeal.main (F := Ideal))) ⟨m, fun _ => 0, g⟩ (fun r => ∀ c : Dev Cert.Norm1KernelIdeal.nD,
          r.2.mem ((c.tc : Thread Cert.Norm1KernelIdeal.nD Cert.Norm1KernelIdeal.τ).loc Cert.Norm1KernelIdeal.main_v11_0) = v0 c
          ∧ r.2.mem ((c.tc : Thread Cert.Norm1KernelIdeal.nD Cert.Norm1KernelIdeal.τ).loc Cert.Norm1KernelIdeal.main_v11_1) = v1 c
          ∧ r.2.mem ((c.tc : Thread Cert.Norm1KernelIdeal.nD Cert.Norm1KernelIdeal.τ).loc Cert.Norm1KernelIdeal.main_arg0) = m ((c.tc : Thread Cert.Norm1KernelIdeal.nD Cert.Norm1KernelIdeal.τ).loc Cert.Norm1KernelIdeal.main_arg0)
          ∧ r.2.mem ((c.tc : Thread Cert.Norm1KernelIdeal.nD Cert.Norm1KernelIdeal.τ).loc Cert.Norm1KernelIdeal.main_arg1) = m ((c.tc : Thread Cert.Norm1KernelIdeal.nD Cert.Norm1KernelIdeal.τ).loc Cert.Norm1KernelIdeal.main_arg1)
          ∧ r.2.mem ((c.tc : Thread Cert.Norm1KernelIdeal.nD Cert.Norm1KernelIdeal.τ).loc Cert.Norm1KernelIdeal.main_arg2) = m ((c.tc : Thread Cert.Norm1KernelIdeal.nD Cert.Norm1KernelIdeal.τ).loc Cert.Norm1KernelIdeal.main_arg2)
          ∧ r.2.mem ((c.tc : Thread Cert.Norm1KernelIdeal.nD Cert.Norm1KernelIdeal.τ).loc Cert.Norm1KernelIdeal.main_arg3) = m ((c.tc : Thread Cert.Norm1KernelIdeal.nD Cert.Norm1KernelIdeal.τ).loc Cert.Norm1KernelIdeal.main_arg3)
          ∧ r.2.mem ((c.tc : Thread Cert.Norm1KernelIdeal.nD Cert.Norm1KernelIdeal.τ).loc Cert.Norm1KernelIdeal.main_arg4) = m ((c.tc : Thread Cert.Norm1KernelIdeal.nD Cert.Norm1KernelIdeal.τ).loc Cert.Norm1KernelIdeal.main_arg4)
          ∧ r.2.mem ((c.tc : Thread Cert.Norm1KernelIdeal.nD Cert.Norm1KernelIdeal.τ).loc Cert.Norm1KernelIdeal.main_arg5) = m ((c.tc : Thread Cert.Norm1KernelIdeal.nD Cert.Norm1KernelIdeal.τ).loc Cert.Norm1KernelIdeal.main_arg5)
          ∧ r.2.mem ((c.tc : Thread Cert.Norm1KernelIdeal.nD Cert.Norm1KernelIdeal.τ).loc Cert.Norm1KernelIdeal.main_arg6) = m ((c.tc : Thread Cert.Norm1KernelIdeal.nD Cert.Norm1KernelIdeal.τ).loc Cert.Norm1KernelIdeal.main_arg6))
      ∧ θ_run (Cert.Norm1ReferenceIdeal.defs (F := Ideal)) (onTc (τ := Cert.Norm1ReferenceIdeal.τ) (Cert.Norm1ReferenceIdeal.main (F := Ideal))) ⟨m', fun _ => 0, g'⟩ (fun r => ∀ c : Dev Cert.Norm1ReferenceIdeal.nD,
          r.2.mem ((c.tc : Thread Cert.Norm1ReferenceIdeal.nD Cert.Norm1ReferenceIdeal.τ).loc Cert.Norm1ReferenceIdeal.main_v60) = v0 c
          ∧ r.2.mem ((c.tc : Thread Cert.Norm1ReferenceIdeal.nD Cert.Norm1ReferenceIdeal.τ).loc Cert.Norm1ReferenceIdeal.main_v59) = v1 c
          ∧ r.2.mem ((c.tc : Thread Cert.Norm1ReferenceIdeal.nD Cert.Norm1ReferenceIdeal.τ).loc Cert.Norm1ReferenceIdeal.main_arg0) = m' ((c.tc : Thread Cert.Norm1ReferenceIdeal.nD Cert.Norm1ReferenceIdeal.τ).loc Cert.Norm1ReferenceIdeal.main_arg0)
          ∧ r.2.mem ((c.tc : Thread Cert.Norm1ReferenceIdeal.nD Cert.Norm1ReferenceIdeal.τ).loc Cert.Norm1ReferenceIdeal.main_arg1) = m' ((c.tc : Thread Cert.Norm1ReferenceIdeal.nD Cert.Norm1ReferenceIdeal.τ).loc Cert.Norm1ReferenceIdeal.main_arg1)
          ∧ r.2.mem ((c.tc : Thread Cert.Norm1ReferenceIdeal.nD Cert.Norm1ReferenceIdeal.τ).loc Cert.Norm1ReferenceIdeal.main_arg2) = m' ((c.tc : Thread Cert.Norm1ReferenceIdeal.nD Cert.Norm1ReferenceIdeal.τ).loc Cert.Norm1ReferenceIdeal.main_arg2)
          ∧ r.2.mem ((c.tc : Thread Cert.Norm1ReferenceIdeal.nD Cert.Norm1ReferenceIdeal.τ).loc Cert.Norm1ReferenceIdeal.main_arg3) = m' ((c.tc : Thread Cert.Norm1ReferenceIdeal.nD Cert.Norm1ReferenceIdeal.τ).loc Cert.Norm1ReferenceIdeal.main_arg3)
          ∧ r.2.mem ((c.tc : Thread Cert.Norm1ReferenceIdeal.nD Cert.Norm1ReferenceIdeal.τ).loc Cert.Norm1ReferenceIdeal.main_arg4) = m' ((c.tc : Thread Cert.Norm1ReferenceIdeal.nD Cert.Norm1ReferenceIdeal.τ).loc Cert.Norm1ReferenceIdeal.main_arg4)
          ∧ r.2.mem ((c.tc : Thread Cert.Norm1ReferenceIdeal.nD Cert.Norm1ReferenceIdeal.τ).loc Cert.Norm1ReferenceIdeal.main_arg5) = m' ((c.tc : Thread Cert.Norm1ReferenceIdeal.nD Cert.Norm1ReferenceIdeal.τ).loc Cert.Norm1ReferenceIdeal.main_arg5)
          ∧ r.2.mem ((c.tc : Thread Cert.Norm1ReferenceIdeal.nD Cert.Norm1ReferenceIdeal.τ).loc Cert.Norm1ReferenceIdeal.main_arg6) = m' ((c.tc : Thread Cert.Norm1ReferenceIdeal.nD Cert.Norm1ReferenceIdeal.τ).loc Cert.Norm1ReferenceIdeal.main_arg6))

def preserves_GateFfKernel_GateFfKernelIdeal : Prop :=
  True

def algebraic_GateFfKernelIdeal_GateFfReferenceIdeal_pre_finite_gate_ff_arguments [hGateFfKernelIdeal : Cert.GateFfKernelIdeal.Facts] [hGateFfReferenceIdeal : Cert.GateFfReferenceIdeal.Facts] [hPre_finite_gate_ff_arguments : Cert.Pre_finite_gate_ff_arguments.Facts] : Prop :=
  ∀ (m : (ℓ : Loc Cert.GateFfKernelIdeal.nD Cert.GateFfKernelIdeal.τ Cert.GateFfKernelIdeal.sig) → Buf (Elt Ideal) ℓ) (g : Dev Cert.GateFfKernelIdeal.nD → PrngReg)
    (m' : (ℓ : Loc Cert.GateFfReferenceIdeal.nD Cert.GateFfReferenceIdeal.τ Cert.GateFfReferenceIdeal.sig) → Buf (Elt Ideal) ℓ) (g' : Dev Cert.GateFfReferenceIdeal.nD → PrngReg), Pre_GateFfKernelIdeal_finite_gate_ff_arguments m →
    (∀ c : Dev Cert.GateFfKernelIdeal.nD,
      m' ((c.tc : Thread Cert.GateFfReferenceIdeal.nD Cert.GateFfReferenceIdeal.τ).loc Cert.GateFfReferenceIdeal.main_arg0) = m ((c.tc : Thread Cert.GateFfKernelIdeal.nD Cert.GateFfKernelIdeal.τ).loc Cert.GateFfKernelIdeal.main_arg0)
      ∧ m' ((c.tc : Thread Cert.GateFfReferenceIdeal.nD Cert.GateFfReferenceIdeal.τ).loc Cert.GateFfReferenceIdeal.main_arg1) = m ((c.tc : Thread Cert.GateFfKernelIdeal.nD Cert.GateFfKernelIdeal.τ).loc Cert.GateFfKernelIdeal.main_arg1)
      ∧ m' ((c.tc : Thread Cert.GateFfReferenceIdeal.nD Cert.GateFfReferenceIdeal.τ).loc Cert.GateFfReferenceIdeal.main_arg2) = m ((c.tc : Thread Cert.GateFfKernelIdeal.nD Cert.GateFfKernelIdeal.τ).loc Cert.GateFfKernelIdeal.main_arg2)
      ∧ m' ((c.tc : Thread Cert.GateFfReferenceIdeal.nD Cert.GateFfReferenceIdeal.τ).loc Cert.GateFfReferenceIdeal.main_arg3) = m ((c.tc : Thread Cert.GateFfKernelIdeal.nD Cert.GateFfKernelIdeal.τ).loc Cert.GateFfKernelIdeal.main_arg3)) →
    ∃ (v0 : (c : Dev Cert.GateFfKernelIdeal.nD) → Buf (Elt Ideal) ((c.tc : Thread Cert.GateFfKernelIdeal.nD Cert.GateFfKernelIdeal.τ).loc Cert.GateFfKernelIdeal.main_v7_0)) (v1 : (c : Dev Cert.GateFfKernelIdeal.nD) → Buf (Elt Ideal) ((c.tc : Thread Cert.GateFfKernelIdeal.nD Cert.GateFfKernelIdeal.τ).loc Cert.GateFfKernelIdeal.main_v7_1)),
      θ_run (Cert.GateFfKernelIdeal.defs (F := Ideal)) (onTc (τ := Cert.GateFfKernelIdeal.τ) (Cert.GateFfKernelIdeal.main (F := Ideal))) ⟨m, fun _ => 0, g⟩ (fun r => ∀ c : Dev Cert.GateFfKernelIdeal.nD,
          r.2.mem ((c.tc : Thread Cert.GateFfKernelIdeal.nD Cert.GateFfKernelIdeal.τ).loc Cert.GateFfKernelIdeal.main_v7_0) = v0 c
          ∧ r.2.mem ((c.tc : Thread Cert.GateFfKernelIdeal.nD Cert.GateFfKernelIdeal.τ).loc Cert.GateFfKernelIdeal.main_v7_1) = v1 c
          ∧ r.2.mem ((c.tc : Thread Cert.GateFfKernelIdeal.nD Cert.GateFfKernelIdeal.τ).loc Cert.GateFfKernelIdeal.main_arg0) = m ((c.tc : Thread Cert.GateFfKernelIdeal.nD Cert.GateFfKernelIdeal.τ).loc Cert.GateFfKernelIdeal.main_arg0)
          ∧ r.2.mem ((c.tc : Thread Cert.GateFfKernelIdeal.nD Cert.GateFfKernelIdeal.τ).loc Cert.GateFfKernelIdeal.main_arg1) = m ((c.tc : Thread Cert.GateFfKernelIdeal.nD Cert.GateFfKernelIdeal.τ).loc Cert.GateFfKernelIdeal.main_arg1)
          ∧ r.2.mem ((c.tc : Thread Cert.GateFfKernelIdeal.nD Cert.GateFfKernelIdeal.τ).loc Cert.GateFfKernelIdeal.main_arg2) = m ((c.tc : Thread Cert.GateFfKernelIdeal.nD Cert.GateFfKernelIdeal.τ).loc Cert.GateFfKernelIdeal.main_arg2)
          ∧ r.2.mem ((c.tc : Thread Cert.GateFfKernelIdeal.nD Cert.GateFfKernelIdeal.τ).loc Cert.GateFfKernelIdeal.main_arg3) = m ((c.tc : Thread Cert.GateFfKernelIdeal.nD Cert.GateFfKernelIdeal.τ).loc Cert.GateFfKernelIdeal.main_arg3))
      ∧ θ_run (Cert.GateFfReferenceIdeal.defs (F := Ideal)) (onTc (τ := Cert.GateFfReferenceIdeal.τ) (Cert.GateFfReferenceIdeal.main (F := Ideal))) ⟨m', fun _ => 0, g'⟩ (fun r => ∀ c : Dev Cert.GateFfReferenceIdeal.nD,
          r.2.mem ((c.tc : Thread Cert.GateFfReferenceIdeal.nD Cert.GateFfReferenceIdeal.τ).loc Cert.GateFfReferenceIdeal.main_v15) = v0 c
          ∧ r.2.mem ((c.tc : Thread Cert.GateFfReferenceIdeal.nD Cert.GateFfReferenceIdeal.τ).loc Cert.GateFfReferenceIdeal.main_v18) = v1 c
          ∧ r.2.mem ((c.tc : Thread Cert.GateFfReferenceIdeal.nD Cert.GateFfReferenceIdeal.τ).loc Cert.GateFfReferenceIdeal.main_arg0) = m' ((c.tc : Thread Cert.GateFfReferenceIdeal.nD Cert.GateFfReferenceIdeal.τ).loc Cert.GateFfReferenceIdeal.main_arg0)
          ∧ r.2.mem ((c.tc : Thread Cert.GateFfReferenceIdeal.nD Cert.GateFfReferenceIdeal.τ).loc Cert.GateFfReferenceIdeal.main_arg1) = m' ((c.tc : Thread Cert.GateFfReferenceIdeal.nD Cert.GateFfReferenceIdeal.τ).loc Cert.GateFfReferenceIdeal.main_arg1)
          ∧ r.2.mem ((c.tc : Thread Cert.GateFfReferenceIdeal.nD Cert.GateFfReferenceIdeal.τ).loc Cert.GateFfReferenceIdeal.main_arg2) = m' ((c.tc : Thread Cert.GateFfReferenceIdeal.nD Cert.GateFfReferenceIdeal.τ).loc Cert.GateFfReferenceIdeal.main_arg2)
          ∧ r.2.mem ((c.tc : Thread Cert.GateFfReferenceIdeal.nD Cert.GateFfReferenceIdeal.τ).loc Cert.GateFfReferenceIdeal.main_arg3) = m' ((c.tc : Thread Cert.GateFfReferenceIdeal.nD Cert.GateFfReferenceIdeal.τ).loc Cert.GateFfReferenceIdeal.main_arg3))

def preserves_GateOutKernel_GateOutKernelIdeal : Prop :=
  True

def algebraic_GateOutKernelIdeal_GateOutReferenceIdeal_pre_finite_gate_out_arguments [hGateOutKernelIdeal : Cert.GateOutKernelIdeal.Facts] [hGateOutReferenceIdeal : Cert.GateOutReferenceIdeal.Facts] [hPre_finite_gate_out_arguments : Cert.Pre_finite_gate_out_arguments.Facts] : Prop :=
  ∀ (m : (ℓ : Loc Cert.GateOutKernelIdeal.nD Cert.GateOutKernelIdeal.τ Cert.GateOutKernelIdeal.sig) → Buf (Elt Ideal) ℓ) (g : Dev Cert.GateOutKernelIdeal.nD → PrngReg)
    (m' : (ℓ : Loc Cert.GateOutReferenceIdeal.nD Cert.GateOutReferenceIdeal.τ Cert.GateOutReferenceIdeal.sig) → Buf (Elt Ideal) ℓ) (g' : Dev Cert.GateOutReferenceIdeal.nD → PrngReg), Pre_GateOutKernelIdeal_finite_gate_out_arguments m →
    (∀ c : Dev Cert.GateOutKernelIdeal.nD,
      m' ((c.tc : Thread Cert.GateOutReferenceIdeal.nD Cert.GateOutReferenceIdeal.τ).loc Cert.GateOutReferenceIdeal.main_arg0) = m ((c.tc : Thread Cert.GateOutKernelIdeal.nD Cert.GateOutKernelIdeal.τ).loc Cert.GateOutKernelIdeal.main_arg0)
      ∧ m' ((c.tc : Thread Cert.GateOutReferenceIdeal.nD Cert.GateOutReferenceIdeal.τ).loc Cert.GateOutReferenceIdeal.main_arg1) = m ((c.tc : Thread Cert.GateOutKernelIdeal.nD Cert.GateOutKernelIdeal.τ).loc Cert.GateOutKernelIdeal.main_arg1)
      ∧ m' ((c.tc : Thread Cert.GateOutReferenceIdeal.nD Cert.GateOutReferenceIdeal.τ).loc Cert.GateOutReferenceIdeal.main_arg2) = m ((c.tc : Thread Cert.GateOutKernelIdeal.nD Cert.GateOutKernelIdeal.τ).loc Cert.GateOutKernelIdeal.main_arg2)
      ∧ m' ((c.tc : Thread Cert.GateOutReferenceIdeal.nD Cert.GateOutReferenceIdeal.τ).loc Cert.GateOutReferenceIdeal.main_arg3) = m ((c.tc : Thread Cert.GateOutKernelIdeal.nD Cert.GateOutKernelIdeal.τ).loc Cert.GateOutKernelIdeal.main_arg3)) →
    ∃ (v0 : (c : Dev Cert.GateOutKernelIdeal.nD) → Buf (Elt Ideal) ((c.tc : Thread Cert.GateOutKernelIdeal.nD Cert.GateOutKernelIdeal.τ).loc Cert.GateOutKernelIdeal.main_v6_0)) (v1 : (c : Dev Cert.GateOutKernelIdeal.nD) → Buf (Elt Ideal) ((c.tc : Thread Cert.GateOutKernelIdeal.nD Cert.GateOutKernelIdeal.τ).loc Cert.GateOutKernelIdeal.main_v6_1)),
      θ_run (Cert.GateOutKernelIdeal.defs (F := Ideal)) (onTc (τ := Cert.GateOutKernelIdeal.τ) (Cert.GateOutKernelIdeal.main (F := Ideal))) ⟨m, fun _ => 0, g⟩ (fun r => ∀ c : Dev Cert.GateOutKernelIdeal.nD,
          r.2.mem ((c.tc : Thread Cert.GateOutKernelIdeal.nD Cert.GateOutKernelIdeal.τ).loc Cert.GateOutKernelIdeal.main_v6_0) = v0 c
          ∧ r.2.mem ((c.tc : Thread Cert.GateOutKernelIdeal.nD Cert.GateOutKernelIdeal.τ).loc Cert.GateOutKernelIdeal.main_v6_1) = v1 c
          ∧ r.2.mem ((c.tc : Thread Cert.GateOutKernelIdeal.nD Cert.GateOutKernelIdeal.τ).loc Cert.GateOutKernelIdeal.main_arg0) = m ((c.tc : Thread Cert.GateOutKernelIdeal.nD Cert.GateOutKernelIdeal.τ).loc Cert.GateOutKernelIdeal.main_arg0)
          ∧ r.2.mem ((c.tc : Thread Cert.GateOutKernelIdeal.nD Cert.GateOutKernelIdeal.τ).loc Cert.GateOutKernelIdeal.main_arg1) = m ((c.tc : Thread Cert.GateOutKernelIdeal.nD Cert.GateOutKernelIdeal.τ).loc Cert.GateOutKernelIdeal.main_arg1)
          ∧ r.2.mem ((c.tc : Thread Cert.GateOutKernelIdeal.nD Cert.GateOutKernelIdeal.τ).loc Cert.GateOutKernelIdeal.main_arg2) = m ((c.tc : Thread Cert.GateOutKernelIdeal.nD Cert.GateOutKernelIdeal.τ).loc Cert.GateOutKernelIdeal.main_arg2)
          ∧ r.2.mem ((c.tc : Thread Cert.GateOutKernelIdeal.nD Cert.GateOutKernelIdeal.τ).loc Cert.GateOutKernelIdeal.main_arg3) = m ((c.tc : Thread Cert.GateOutKernelIdeal.nD Cert.GateOutKernelIdeal.τ).loc Cert.GateOutKernelIdeal.main_arg3))
      ∧ θ_run (Cert.GateOutReferenceIdeal.defs (F := Ideal)) (onTc (τ := Cert.GateOutReferenceIdeal.τ) (Cert.GateOutReferenceIdeal.main (F := Ideal))) ⟨m', fun _ => 0, g'⟩ (fun r => ∀ c : Dev Cert.GateOutReferenceIdeal.nD,
          r.2.mem ((c.tc : Thread Cert.GateOutReferenceIdeal.nD Cert.GateOutReferenceIdeal.τ).loc Cert.GateOutReferenceIdeal.main_v12) = v0 c
          ∧ r.2.mem ((c.tc : Thread Cert.GateOutReferenceIdeal.nD Cert.GateOutReferenceIdeal.τ).loc Cert.GateOutReferenceIdeal.main_v15) = v1 c
          ∧ r.2.mem ((c.tc : Thread Cert.GateOutReferenceIdeal.nD Cert.GateOutReferenceIdeal.τ).loc Cert.GateOutReferenceIdeal.main_arg0) = m' ((c.tc : Thread Cert.GateOutReferenceIdeal.nD Cert.GateOutReferenceIdeal.τ).loc Cert.GateOutReferenceIdeal.main_arg0)
          ∧ r.2.mem ((c.tc : Thread Cert.GateOutReferenceIdeal.nD Cert.GateOutReferenceIdeal.τ).loc Cert.GateOutReferenceIdeal.main_arg1) = m' ((c.tc : Thread Cert.GateOutReferenceIdeal.nD Cert.GateOutReferenceIdeal.τ).loc Cert.GateOutReferenceIdeal.main_arg1)
          ∧ r.2.mem ((c.tc : Thread Cert.GateOutReferenceIdeal.nD Cert.GateOutReferenceIdeal.τ).loc Cert.GateOutReferenceIdeal.main_arg2) = m' ((c.tc : Thread Cert.GateOutReferenceIdeal.nD Cert.GateOutReferenceIdeal.τ).loc Cert.GateOutReferenceIdeal.main_arg2)
          ∧ r.2.mem ((c.tc : Thread Cert.GateOutReferenceIdeal.nD Cert.GateOutReferenceIdeal.τ).loc Cert.GateOutReferenceIdeal.main_arg3) = m' ((c.tc : Thread Cert.GateOutReferenceIdeal.nD Cert.GateOutReferenceIdeal.τ).loc Cert.GateOutReferenceIdeal.main_arg3))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)) →
    ∃ (v0 : (c : Dev Cert.AdaKernelIdeal.nD) → Buf (Elt Ideal) ((c.tc : Thread Cert.AdaKernelIdeal.nD Cert.AdaKernelIdeal.τ).loc Cert.AdaKernelIdeal.main_v0_0)) (v1 : (c : Dev Cert.AdaKernelIdeal.nD) → Buf (Elt Ideal) ((c.tc : Thread Cert.AdaKernelIdeal.nD Cert.AdaKernelIdeal.τ).loc Cert.AdaKernelIdeal.main_v0_1)) (v2 : (c : Dev Cert.AdaKernelIdeal.nD) → Buf (Elt Ideal) ((c.tc : Thread Cert.AdaKernelIdeal.nD Cert.AdaKernelIdeal.τ).loc Cert.AdaKernelIdeal.main_v0_2)) (v3 : (c : Dev Cert.AdaKernelIdeal.nD) → Buf (Elt Ideal) ((c.tc : Thread Cert.AdaKernelIdeal.nD Cert.AdaKernelIdeal.τ).loc Cert.AdaKernelIdeal.main_v0_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v0_0) = v0 c
          ∧ r.2.mem ((c.tc : Thread Cert.AdaKernelIdeal.nD Cert.AdaKernelIdeal.τ).loc Cert.AdaKernelIdeal.main_v0_1) = v1 c
          ∧ r.2.mem ((c.tc : Thread Cert.AdaKernelIdeal.nD Cert.AdaKernelIdeal.τ).loc Cert.AdaKernelIdeal.main_v0_2) = v2 c
          ∧ r.2.mem ((c.tc : Thread Cert.AdaKernelIdeal.nD Cert.AdaKernelIdeal.τ).loc Cert.AdaKernelIdeal.main_v0_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v47) = v0 c
          ∧ r.2.mem ((c.tc : Thread Cert.AdaReferenceIdeal.nD Cert.AdaReferenceIdeal.τ).loc Cert.AdaReferenceIdeal.main_v71) = v1 c
          ∧ r.2.mem ((c.tc : Thread Cert.AdaReferenceIdeal.nD Cert.AdaReferenceIdeal.τ).loc Cert.AdaReferenceIdeal.main_v52) = v2 c
          ∧ r.2.mem ((c.tc : Thread Cert.AdaReferenceIdeal.nD Cert.AdaReferenceIdeal.τ).loc Cert.AdaReferenceIdeal.main_v58) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_MixKernel_MixKernelIdeal : Prop :=
  True

def algebraic_MixKernelIdeal_MixReferenceIdeal_pre_finite_mix_arguments [hMixKernelIdeal : Cert.MixKernelIdeal.Facts] [hMixReferenceIdeal : Cert.MixReferenceIdeal.Facts] [hPre_finite_mix_arguments : Cert.Pre_finite_mix_arguments.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix_arguments m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v20_0)) (v1 : (c : Dev Cert.MixKernelIdeal.nD) → Buf (Elt Ideal) ((c.tc : Thread Cert.MixKernelIdeal.nD Cert.MixKernelIdeal.τ).loc Cert.MixKernelIdeal.main_v20_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v20_0) = v0 c
          ∧ r.2.mem ((c.tc : Thread Cert.MixKernelIdeal.nD Cert.MixKernelIdeal.τ).loc Cert.MixKernelIdeal.main_v20_5) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v155) = v0 c
          ∧ r.2.mem ((c.tc : Thread Cert.MixReferenceIdeal.nD Cert.MixReferenceIdeal.τ).loc Cert.MixReferenceIdeal.main_v156) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_FwdFfKernel_FwdFfKernelIdeal : Prop :=
  True

def algebraic_FwdFfKernelIdeal_FwdFfReferenceIdeal [hFwdFfKernelIdeal : Cert.FwdFfKernelIdeal.Facts] [hFwdFfReferenceIdeal : Cert.FwdFfReferenceIdeal.Facts] : Prop :=
  ∀ (m : (ℓ : Loc Cert.FwdFfKernelIdeal.nD Cert.FwdFfKernelIdeal.τ Cert.FwdFfKernelIdeal.sig) → Buf (Elt Ideal) ℓ) (g : Dev Cert.FwdFfKernelIdeal.nD → PrngReg)
    (m' : (ℓ : Loc Cert.FwdFfReferenceIdeal.nD Cert.FwdFfReferenceIdeal.τ Cert.FwdFfReferenceIdeal.sig) → Buf (Elt Ideal) ℓ) (g' : Dev Cert.FwdFfReferenceIdeal.nD → PrngReg), Pre_FwdFfKernelIdeal m →
    (∀ c : Dev Cert.FwdFfKernelIdeal.nD,
      m' ((c.tc : Thread Cert.FwdFfReferenceIdeal.nD Cert.FwdFfReferenceIdeal.τ).loc Cert.FwdFfReferenceIdeal.main_arg0) = m ((c.tc : Thread Cert.FwdFfKernelIdeal.nD Cert.FwdFfKernelIdeal.τ).loc Cert.FwdFfKernelIdeal.main_arg0)
      ∧ m' ((c.tc : Thread Cert.FwdFfReferenceIdeal.nD Cert.FwdFfReferenceIdeal.τ).loc Cert.FwdFfReferenceIdeal.main_arg1) = m ((c.tc : Thread Cert.FwdFfKernelIdeal.nD Cert.FwdFfKernelIdeal.τ).loc Cert.FwdFfKernelIdeal.main_arg1)
      ∧ m' ((c.tc : Thread Cert.FwdFfReferenceIdeal.nD Cert.FwdFfReferenceIdeal.τ).loc Cert.FwdFfReferenceIdeal.main_arg2) = m ((c.tc : Thread Cert.FwdFfKernelIdeal.nD Cert.FwdFfKernelIdeal.τ).loc Cert.FwdFfKernelIdeal.main_arg2)
      ∧ m' ((c.tc : Thread Cert.FwdFfReferenceIdeal.nD Cert.FwdFfReferenceIdeal.τ).loc Cert.FwdFfReferenceIdeal.main_arg3) = m ((c.tc : Thread Cert.FwdFfKernelIdeal.nD Cert.FwdFfKernelIdeal.τ).loc Cert.FwdFfKernelIdeal.main_arg3)) →
    ∃ (v0 : (c : Dev Cert.FwdFfKernelIdeal.nD) → Buf (Elt Ideal) ((c.tc : Thread Cert.FwdFfKernelIdeal.nD Cert.FwdFfKernelIdeal.τ).loc Cert.FwdFfKernelIdeal.main_v7)),
      θ_run (Cert.FwdFfKernelIdeal.defs (F := Ideal)) (onTc (τ := Cert.FwdFfKernelIdeal.τ) (Cert.FwdFfKernelIdeal.main (F := Ideal))) ⟨m, fun _ => 0, g⟩ (fun r => ∀ c : Dev Cert.FwdFfKernelIdeal.nD,
          r.2.mem ((c.tc : Thread Cert.FwdFfKernelIdeal.nD Cert.FwdFfKernelIdeal.τ).loc Cert.FwdFfKernelIdeal.main_v7) = v0 c
          ∧ r.2.mem ((c.tc : Thread Cert.FwdFfKernelIdeal.nD Cert.FwdFfKernelIdeal.τ).loc Cert.FwdFfKernelIdeal.main_arg0) = m ((c.tc : Thread Cert.FwdFfKernelIdeal.nD Cert.FwdFfKernelIdeal.τ).loc Cert.FwdFfKernelIdeal.main_arg0)
          ∧ r.2.mem ((c.tc : Thread Cert.FwdFfKernelIdeal.nD Cert.FwdFfKernelIdeal.τ).loc Cert.FwdFfKernelIdeal.main_arg1) = m ((c.tc : Thread Cert.FwdFfKernelIdeal.nD Cert.FwdFfKernelIdeal.τ).loc Cert.FwdFfKernelIdeal.main_arg1)
          ∧ r.2.mem ((c.tc : Thread Cert.FwdFfKernelIdeal.nD Cert.FwdFfKernelIdeal.τ).loc Cert.FwdFfKernelIdeal.main_arg2) = m ((c.tc : Thread Cert.FwdFfKernelIdeal.nD Cert.FwdFfKernelIdeal.τ).loc Cert.FwdFfKernelIdeal.main_arg2)
          ∧ r.2.mem ((c.tc : Thread Cert.FwdFfKernelIdeal.nD Cert.FwdFfKernelIdeal.τ).loc Cert.FwdFfKernelIdeal.main_arg3) = m ((c.tc : Thread Cert.FwdFfKernelIdeal.nD Cert.FwdFfKernelIdeal.τ).loc Cert.FwdFfKernelIdeal.main_arg3))
      ∧ θ_run (Cert.FwdFfReferenceIdeal.defs (F := Ideal)) (onTc (τ := Cert.FwdFfReferenceIdeal.τ) (Cert.FwdFfReferenceIdeal.main (F := Ideal))) ⟨m', fun _ => 0, g'⟩ (fun r => ∀ c : Dev Cert.FwdFfReferenceIdeal.nD,
          r.2.mem ((c.tc : Thread Cert.FwdFfReferenceIdeal.nD Cert.FwdFfReferenceIdeal.τ).loc Cert.FwdFfReferenceIdeal.main_v6) = v0 c
          ∧ r.2.mem ((c.tc : Thread Cert.FwdFfReferenceIdeal.nD Cert.FwdFfReferenceIdeal.τ).loc Cert.FwdFfReferenceIdeal.main_arg0) = m' ((c.tc : Thread Cert.FwdFfReferenceIdeal.nD Cert.FwdFfReferenceIdeal.τ).loc Cert.FwdFfReferenceIdeal.main_arg0)
          ∧ r.2.mem ((c.tc : Thread Cert.FwdFfReferenceIdeal.nD Cert.FwdFfReferenceIdeal.τ).loc Cert.FwdFfReferenceIdeal.main_arg1) = m' ((c.tc : Thread Cert.FwdFfReferenceIdeal.nD Cert.FwdFfReferenceIdeal.τ).loc Cert.FwdFfReferenceIdeal.main_arg1)
          ∧ r.2.mem ((c.tc : Thread Cert.FwdFfReferenceIdeal.nD Cert.FwdFfReferenceIdeal.τ).loc Cert.FwdFfReferenceIdeal.main_arg2) = m' ((c.tc : Thread Cert.FwdFfReferenceIdeal.nD Cert.FwdFfReferenceIdeal.τ).loc Cert.FwdFfReferenceIdeal.main_arg2)
          ∧ r.2.mem ((c.tc : Thread Cert.FwdFfReferenceIdeal.nD Cert.FwdFfReferenceIdeal.τ).loc Cert.FwdFfReferenceIdeal.main_arg3) = m' ((c.tc : Thread Cert.FwdFfReferenceIdeal.nD Cert.FwdFfReferenceIdeal.τ).loc Cert.FwdFfReferenceIdeal.main_arg3))

def preserves_FwdInKernel_FwdInKernelIdeal : Prop :=
  True

def algebraic_FwdInKernelIdeal_FwdInReferenceIdeal [hFwdInKernelIdeal : Cert.FwdInKernelIdeal.Facts] [hFwdInReferenceIdeal : Cert.FwdInReferenceIdeal.Facts] : Prop :=
  ∀ (m : (ℓ : Loc Cert.FwdInKernelIdeal.nD Cert.FwdInKernelIdeal.τ Cert.FwdInKernelIdeal.sig) → Buf (Elt Ideal) ℓ) (g : Dev Cert.FwdInKernelIdeal.nD → PrngReg)
    (m' : (ℓ : Loc Cert.FwdInReferenceIdeal.nD Cert.FwdInReferenceIdeal.τ Cert.FwdInReferenceIdeal.sig) → Buf (Elt Ideal) ℓ) (g' : Dev Cert.FwdInReferenceIdeal.nD → PrngReg), Pre_FwdInKernelIdeal m →
    (∀ c : Dev Cert.FwdInKernelIdeal.nD,
      m' ((c.tc : Thread Cert.FwdInReferenceIdeal.nD Cert.FwdInReferenceIdeal.τ).loc Cert.FwdInReferenceIdeal.main_arg0) = m ((c.tc : Thread Cert.FwdInKernelIdeal.nD Cert.FwdInKernelIdeal.τ).loc Cert.FwdInKernelIdeal.main_arg0)
      ∧ m' ((c.tc : Thread Cert.FwdInReferenceIdeal.nD Cert.FwdInReferenceIdeal.τ).loc Cert.FwdInReferenceIdeal.main_arg1) = m ((c.tc : Thread Cert.FwdInKernelIdeal.nD Cert.FwdInKernelIdeal.τ).loc Cert.FwdInKernelIdeal.main_arg1)
      ∧ m' ((c.tc : Thread Cert.FwdInReferenceIdeal.nD Cert.FwdInReferenceIdeal.τ).loc Cert.FwdInReferenceIdeal.main_arg2) = m ((c.tc : Thread Cert.FwdInKernelIdeal.nD Cert.FwdInKernelIdeal.τ).loc Cert.FwdInKernelIdeal.main_arg2)
      ∧ m' ((c.tc : Thread Cert.FwdInReferenceIdeal.nD Cert.FwdInReferenceIdeal.τ).loc Cert.FwdInReferenceIdeal.main_arg3) = m ((c.tc : Thread Cert.FwdInKernelIdeal.nD Cert.FwdInKernelIdeal.τ).loc Cert.FwdInKernelIdeal.main_arg3)
      ∧ m' ((c.tc : Thread Cert.FwdInReferenceIdeal.nD Cert.FwdInReferenceIdeal.τ).loc Cert.FwdInReferenceIdeal.main_arg4) = m ((c.tc : Thread Cert.FwdInKernelIdeal.nD Cert.FwdInKernelIdeal.τ).loc Cert.FwdInKernelIdeal.main_arg4)) →
    ∃ (v0 : (c : Dev Cert.FwdInKernelIdeal.nD) → Buf (Elt Ideal) ((c.tc : Thread Cert.FwdInKernelIdeal.nD Cert.FwdInKernelIdeal.τ).loc Cert.FwdInKernelIdeal.main_v9_0)) (v1 : (c : Dev Cert.FwdInKernelIdeal.nD) → Buf (Elt Ideal) ((c.tc : Thread Cert.FwdInKernelIdeal.nD Cert.FwdInKernelIdeal.τ).loc Cert.FwdInKernelIdeal.main_v9_1)),
      θ_run (Cert.FwdInKernelIdeal.defs (F := Ideal)) (onTc (τ := Cert.FwdInKernelIdeal.τ) (Cert.FwdInKernelIdeal.main (F := Ideal))) ⟨m, fun _ => 0, g⟩ (fun r => ∀ c : Dev Cert.FwdInKernelIdeal.nD,
          r.2.mem ((c.tc : Thread Cert.FwdInKernelIdeal.nD Cert.FwdInKernelIdeal.τ).loc Cert.FwdInKernelIdeal.main_v9_0) = v0 c
          ∧ r.2.mem ((c.tc : Thread Cert.FwdInKernelIdeal.nD Cert.FwdInKernelIdeal.τ).loc Cert.FwdInKernelIdeal.main_v9_1) = v1 c
          ∧ r.2.mem ((c.tc : Thread Cert.FwdInKernelIdeal.nD Cert.FwdInKernelIdeal.τ).loc Cert.FwdInKernelIdeal.main_arg0) = m ((c.tc : Thread Cert.FwdInKernelIdeal.nD Cert.FwdInKernelIdeal.τ).loc Cert.FwdInKernelIdeal.main_arg0)
          ∧ r.2.mem ((c.tc : Thread Cert.FwdInKernelIdeal.nD Cert.FwdInKernelIdeal.τ).loc Cert.FwdInKernelIdeal.main_arg1) = m ((c.tc : Thread Cert.FwdInKernelIdeal.nD Cert.FwdInKernelIdeal.τ).loc Cert.FwdInKernelIdeal.main_arg1)
          ∧ r.2.mem ((c.tc : Thread Cert.FwdInKernelIdeal.nD Cert.FwdInKernelIdeal.τ).loc Cert.FwdInKernelIdeal.main_arg2) = m ((c.tc : Thread Cert.FwdInKernelIdeal.nD Cert.FwdInKernelIdeal.τ).loc Cert.FwdInKernelIdeal.main_arg2)
          ∧ r.2.mem ((c.tc : Thread Cert.FwdInKernelIdeal.nD Cert.FwdInKernelIdeal.τ).loc Cert.FwdInKernelIdeal.main_arg3) = m ((c.tc : Thread Cert.FwdInKernelIdeal.nD Cert.FwdInKernelIdeal.τ).loc Cert.FwdInKernelIdeal.main_arg3)
          ∧ r.2.mem ((c.tc : Thread Cert.FwdInKernelIdeal.nD Cert.FwdInKernelIdeal.τ).loc Cert.FwdInKernelIdeal.main_arg4) = m ((c.tc : Thread Cert.FwdInKernelIdeal.nD Cert.FwdInKernelIdeal.τ).loc Cert.FwdInKernelIdeal.main_arg4))
      ∧ θ_run (Cert.FwdInReferenceIdeal.defs (F := Ideal)) (onTc (τ := Cert.FwdInReferenceIdeal.τ) (Cert.FwdInReferenceIdeal.main (F := Ideal))) ⟨m', fun _ => 0, g'⟩ (fun r => ∀ c : Dev Cert.FwdInReferenceIdeal.nD,
          r.2.mem ((c.tc : Thread Cert.FwdInReferenceIdeal.nD Cert.FwdInReferenceIdeal.τ).loc Cert.FwdInReferenceIdeal.main_v22) = v0 c
          ∧ r.2.mem ((c.tc : Thread Cert.FwdInReferenceIdeal.nD Cert.FwdInReferenceIdeal.τ).loc Cert.FwdInReferenceIdeal.main_v23) = v1 c
          ∧ r.2.mem ((c.tc : Thread Cert.FwdInReferenceIdeal.nD Cert.FwdInReferenceIdeal.τ).loc Cert.FwdInReferenceIdeal.main_arg0) = m' ((c.tc : Thread Cert.FwdInReferenceIdeal.nD Cert.FwdInReferenceIdeal.τ).loc Cert.FwdInReferenceIdeal.main_arg0)
          ∧ r.2.mem ((c.tc : Thread Cert.FwdInReferenceIdeal.nD Cert.FwdInReferenceIdeal.τ).loc Cert.FwdInReferenceIdeal.main_arg1) = m' ((c.tc : Thread Cert.FwdInReferenceIdeal.nD Cert.FwdInReferenceIdeal.τ).loc Cert.FwdInReferenceIdeal.main_arg1)
          ∧ r.2.mem ((c.tc : Thread Cert.FwdInReferenceIdeal.nD Cert.FwdInReferenceIdeal.τ).loc Cert.FwdInReferenceIdeal.main_arg2) = m' ((c.tc : Thread Cert.FwdInReferenceIdeal.nD Cert.FwdInReferenceIdeal.τ).loc Cert.FwdInReferenceIdeal.main_arg2)
          ∧ r.2.mem ((c.tc : Thread Cert.FwdInReferenceIdeal.nD Cert.FwdInReferenceIdeal.τ).loc Cert.FwdInReferenceIdeal.main_arg3) = m' ((c.tc : Thread Cert.FwdInReferenceIdeal.nD Cert.FwdInReferenceIdeal.τ).loc Cert.FwdInReferenceIdeal.main_arg3)
          ∧ r.2.mem ((c.tc : Thread Cert.FwdInReferenceIdeal.nD Cert.FwdInReferenceIdeal.τ).loc Cert.FwdInReferenceIdeal.main_arg4) = m' ((c.tc : Thread Cert.FwdInReferenceIdeal.nD Cert.FwdInReferenceIdeal.τ).loc Cert.FwdInReferenceIdeal.main_arg4))

def preserves_FwdOutKernel_FwdOutKernelIdeal : Prop :=
  True

def algebraic_FwdOutKernelIdeal_FwdOutReferenceIdeal [hFwdOutKernelIdeal : Cert.FwdOutKernelIdeal.Facts] [hFwdOutReferenceIdeal : Cert.FwdOutReferenceIdeal.Facts] : Prop :=
  ∀ (m : (ℓ : Loc Cert.FwdOutKernelIdeal.nD Cert.FwdOutKernelIdeal.τ Cert.FwdOutKernelIdeal.sig) → Buf (Elt Ideal) ℓ) (g : Dev Cert.FwdOutKernelIdeal.nD → PrngReg)
    (m' : (ℓ : Loc Cert.FwdOutReferenceIdeal.nD Cert.FwdOutReferenceIdeal.τ Cert.FwdOutReferenceIdeal.sig) → Buf (Elt Ideal) ℓ) (g' : Dev Cert.FwdOutReferenceIdeal.nD → PrngReg), Pre_FwdOutKernelIdeal m →
    (∀ c : Dev Cert.FwdOutKernelIdeal.nD,
      m' ((c.tc : Thread Cert.FwdOutReferenceIdeal.nD Cert.FwdOutReferenceIdeal.τ).loc Cert.FwdOutReferenceIdeal.main_arg0) = m ((c.tc : Thread Cert.FwdOutKernelIdeal.nD Cert.FwdOutKernelIdeal.τ).loc Cert.FwdOutKernelIdeal.main_arg0)
      ∧ m' ((c.tc : Thread Cert.FwdOutReferenceIdeal.nD Cert.FwdOutReferenceIdeal.τ).loc Cert.FwdOutReferenceIdeal.main_arg1) = m ((c.tc : Thread Cert.FwdOutKernelIdeal.nD Cert.FwdOutKernelIdeal.τ).loc Cert.FwdOutKernelIdeal.main_arg1)
      ∧ m' ((c.tc : Thread Cert.FwdOutReferenceIdeal.nD Cert.FwdOutReferenceIdeal.τ).loc Cert.FwdOutReferenceIdeal.main_arg2) = m ((c.tc : Thread Cert.FwdOutKernelIdeal.nD Cert.FwdOutKernelIdeal.τ).loc Cert.FwdOutKernelIdeal.main_arg2)
      ∧ m' ((c.tc : Thread Cert.FwdOutReferenceIdeal.nD Cert.FwdOutReferenceIdeal.τ).loc Cert.FwdOutReferenceIdeal.main_arg3) = m ((c.tc : Thread Cert.FwdOutKernelIdeal.nD Cert.FwdOutKernelIdeal.τ).loc Cert.FwdOutKernelIdeal.main_arg3)
      ∧ m' ((c.tc : Thread Cert.FwdOutReferenceIdeal.nD Cert.FwdOutReferenceIdeal.τ).loc Cert.FwdOutReferenceIdeal.main_arg4) = m ((c.tc : Thread Cert.FwdOutKernelIdeal.nD Cert.FwdOutKernelIdeal.τ).loc Cert.FwdOutKernelIdeal.main_arg4)
      ∧ m' ((c.tc : Thread Cert.FwdOutReferenceIdeal.nD Cert.FwdOutReferenceIdeal.τ).loc Cert.FwdOutReferenceIdeal.main_arg5) = m ((c.tc : Thread Cert.FwdOutKernelIdeal.nD Cert.FwdOutKernelIdeal.τ).loc Cert.FwdOutKernelIdeal.main_arg5)
      ∧ m' ((c.tc : Thread Cert.FwdOutReferenceIdeal.nD Cert.FwdOutReferenceIdeal.τ).loc Cert.FwdOutReferenceIdeal.main_arg6) = m ((c.tc : Thread Cert.FwdOutKernelIdeal.nD Cert.FwdOutKernelIdeal.τ).loc Cert.FwdOutKernelIdeal.main_arg6)
      ∧ m' ((c.tc : Thread Cert.FwdOutReferenceIdeal.nD Cert.FwdOutReferenceIdeal.τ).loc Cert.FwdOutReferenceIdeal.main_arg7) = m ((c.tc : Thread Cert.FwdOutKernelIdeal.nD Cert.FwdOutKernelIdeal.τ).loc Cert.FwdOutKernelIdeal.main_arg7)) →
    ∃ (v0 : (c : Dev Cert.FwdOutKernelIdeal.nD) → Buf (Elt Ideal) ((c.tc : Thread Cert.FwdOutKernelIdeal.nD Cert.FwdOutKernelIdeal.τ).loc Cert.FwdOutKernelIdeal.main_v14_0)) (v1 : (c : Dev Cert.FwdOutKernelIdeal.nD) → Buf (Elt Ideal) ((c.tc : Thread Cert.FwdOutKernelIdeal.nD Cert.FwdOutKernelIdeal.τ).loc Cert.FwdOutKernelIdeal.main_v14_1)) (v2 : (c : Dev Cert.FwdOutKernelIdeal.nD) → Buf (Elt Ideal) ((c.tc : Thread Cert.FwdOutKernelIdeal.nD Cert.FwdOutKernelIdeal.τ).loc Cert.FwdOutKernelIdeal.main_v14_2)),
      θ_run (Cert.FwdOutKernelIdeal.defs (F := Ideal)) (onTc (τ := Cert.FwdOutKernelIdeal.τ) (Cert.FwdOutKernelIdeal.main (F := Ideal))) ⟨m, fun _ => 0, g⟩ (fun r => ∀ c : Dev Cert.FwdOutKernelIdeal.nD,
          r.2.mem ((c.tc : Thread Cert.FwdOutKernelIdeal.nD Cert.FwdOutKernelIdeal.τ).loc Cert.FwdOutKernelIdeal.main_v14_0) = v0 c
          ∧ r.2.mem ((c.tc : Thread Cert.FwdOutKernelIdeal.nD Cert.FwdOutKernelIdeal.τ).loc Cert.FwdOutKernelIdeal.main_v14_1) = v1 c
          ∧ r.2.mem ((c.tc : Thread Cert.FwdOutKernelIdeal.nD Cert.FwdOutKernelIdeal.τ).loc Cert.FwdOutKernelIdeal.main_v14_2) = v2 c
          ∧ r.2.mem ((c.tc : Thread Cert.FwdOutKernelIdeal.nD Cert.FwdOutKernelIdeal.τ).loc Cert.FwdOutKernelIdeal.main_arg0) = m ((c.tc : Thread Cert.FwdOutKernelIdeal.nD Cert.FwdOutKernelIdeal.τ).loc Cert.FwdOutKernelIdeal.main_arg0)
          ∧ r.2.mem ((c.tc : Thread Cert.FwdOutKernelIdeal.nD Cert.FwdOutKernelIdeal.τ).loc Cert.FwdOutKernelIdeal.main_arg1) = m ((c.tc : Thread Cert.FwdOutKernelIdeal.nD Cert.FwdOutKernelIdeal.τ).loc Cert.FwdOutKernelIdeal.main_arg1)
          ∧ r.2.mem ((c.tc : Thread Cert.FwdOutKernelIdeal.nD Cert.FwdOutKernelIdeal.τ).loc Cert.FwdOutKernelIdeal.main_arg2) = m ((c.tc : Thread Cert.FwdOutKernelIdeal.nD Cert.FwdOutKernelIdeal.τ).loc Cert.FwdOutKernelIdeal.main_arg2)
          ∧ r.2.mem ((c.tc : Thread Cert.FwdOutKernelIdeal.nD Cert.FwdOutKernelIdeal.τ).loc Cert.FwdOutKernelIdeal.main_arg3) = m ((c.tc : Thread Cert.FwdOutKernelIdeal.nD Cert.FwdOutKernelIdeal.τ).loc Cert.FwdOutKernelIdeal.main_arg3)
          ∧ r.2.mem ((c.tc : Thread Cert.FwdOutKernelIdeal.nD Cert.FwdOutKernelIdeal.τ).loc Cert.FwdOutKernelIdeal.main_arg4) = m ((c.tc : Thread Cert.FwdOutKernelIdeal.nD Cert.FwdOutKernelIdeal.τ).loc Cert.FwdOutKernelIdeal.main_arg4)
          ∧ r.2.mem ((c.tc : Thread Cert.FwdOutKernelIdeal.nD Cert.FwdOutKernelIdeal.τ).loc Cert.FwdOutKernelIdeal.main_arg5) = m ((c.tc : Thread Cert.FwdOutKernelIdeal.nD Cert.FwdOutKernelIdeal.τ).loc Cert.FwdOutKernelIdeal.main_arg5)
          ∧ r.2.mem ((c.tc : Thread Cert.FwdOutKernelIdeal.nD Cert.FwdOutKernelIdeal.τ).loc Cert.FwdOutKernelIdeal.main_arg6) = m ((c.tc : Thread Cert.FwdOutKernelIdeal.nD Cert.FwdOutKernelIdeal.τ).loc Cert.FwdOutKernelIdeal.main_arg6)
          ∧ r.2.mem ((c.tc : Thread Cert.FwdOutKernelIdeal.nD Cert.FwdOutKernelIdeal.τ).loc Cert.FwdOutKernelIdeal.main_arg7) = m ((c.tc : Thread Cert.FwdOutKernelIdeal.nD Cert.FwdOutKernelIdeal.τ).loc Cert.FwdOutKernelIdeal.main_arg7))
      ∧ θ_run (Cert.FwdOutReferenceIdeal.defs (F := Ideal)) (onTc (τ := Cert.FwdOutReferenceIdeal.τ) (Cert.FwdOutReferenceIdeal.main (F := Ideal))) ⟨m', fun _ => 0, g'⟩ (fun r => ∀ c : Dev Cert.FwdOutReferenceIdeal.nD,
          r.2.mem ((c.tc : Thread Cert.FwdOutReferenceIdeal.nD Cert.FwdOutReferenceIdeal.τ).loc Cert.FwdOutReferenceIdeal.main_v4) = v0 c
          ∧ r.2.mem ((c.tc : Thread Cert.FwdOutReferenceIdeal.nD Cert.FwdOutReferenceIdeal.τ).loc Cert.FwdOutReferenceIdeal.main_v28) = v1 c
          ∧ r.2.mem ((c.tc : Thread Cert.FwdOutReferenceIdeal.nD Cert.FwdOutReferenceIdeal.τ).loc Cert.FwdOutReferenceIdeal.main_v29) = v2 c
          ∧ r.2.mem ((c.tc : Thread Cert.FwdOutReferenceIdeal.nD Cert.FwdOutReferenceIdeal.τ).loc Cert.FwdOutReferenceIdeal.main_arg0) = m' ((c.tc : Thread Cert.FwdOutReferenceIdeal.nD Cert.FwdOutReferenceIdeal.τ).loc Cert.FwdOutReferenceIdeal.main_arg0)
          ∧ r.2.mem ((c.tc : Thread Cert.FwdOutReferenceIdeal.nD Cert.FwdOutReferenceIdeal.τ).loc Cert.FwdOutReferenceIdeal.main_arg1) = m' ((c.tc : Thread Cert.FwdOutReferenceIdeal.nD Cert.FwdOutReferenceIdeal.τ).loc Cert.FwdOutReferenceIdeal.main_arg1)
          ∧ r.2.mem ((c.tc : Thread Cert.FwdOutReferenceIdeal.nD Cert.FwdOutReferenceIdeal.τ).loc Cert.FwdOutReferenceIdeal.main_arg2) = m' ((c.tc : Thread Cert.FwdOutReferenceIdeal.nD Cert.FwdOutReferenceIdeal.τ).loc Cert.FwdOutReferenceIdeal.main_arg2)
          ∧ r.2.mem ((c.tc : Thread Cert.FwdOutReferenceIdeal.nD Cert.FwdOutReferenceIdeal.τ).loc Cert.FwdOutReferenceIdeal.main_arg3) = m' ((c.tc : Thread Cert.FwdOutReferenceIdeal.nD Cert.FwdOutReferenceIdeal.τ).loc Cert.FwdOutReferenceIdeal.main_arg3)
          ∧ r.2.mem ((c.tc : Thread Cert.FwdOutReferenceIdeal.nD Cert.FwdOutReferenceIdeal.τ).loc Cert.FwdOutReferenceIdeal.main_arg4) = m' ((c.tc : Thread Cert.FwdOutReferenceIdeal.nD Cert.FwdOutReferenceIdeal.τ).loc Cert.FwdOutReferenceIdeal.main_arg4)
          ∧ r.2.mem ((c.tc : Thread Cert.FwdOutReferenceIdeal.nD Cert.FwdOutReferenceIdeal.τ).loc Cert.FwdOutReferenceIdeal.main_arg5) = m' ((c.tc : Thread Cert.FwdOutReferenceIdeal.nD Cert.FwdOutReferenceIdeal.τ).loc Cert.FwdOutReferenceIdeal.main_arg5)
          ∧ r.2.mem ((c.tc : Thread Cert.FwdOutReferenceIdeal.nD Cert.FwdOutReferenceIdeal.τ).loc Cert.FwdOutReferenceIdeal.main_arg6) = m' ((c.tc : Thread Cert.FwdOutReferenceIdeal.nD Cert.FwdOutReferenceIdeal.τ).loc Cert.FwdOutReferenceIdeal.main_arg6)
          ∧ r.2.mem ((c.tc : Thread Cert.FwdOutReferenceIdeal.nD Cert.FwdOutReferenceIdeal.τ).loc Cert.FwdOutReferenceIdeal.main_arg7) = m' ((c.tc : Thread Cert.FwdOutReferenceIdeal.nD Cert.FwdOutReferenceIdeal.τ).loc Cert.FwdOutReferenceIdeal.main_arg7))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v40) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_WeightKernel_WeightKernelIdeal : Prop :=
  True

def algebraic_WeightKernelIdeal_WeightReferenceIdeal [hWeightKernelIdeal : Cert.WeightKernelIdeal.Facts] [hWeightReferenceIdeal : Cert.WeightReferenceIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)) →
    ∃ (v0 : (c : Dev Cert.WeightKernelIdeal.nD) → Buf (Elt Ideal) ((c.tc : Thread Cert.WeightKernelIdeal.nD Cert.WeightKernelIdeal.τ).loc Cert.WeightKernelIdeal.main_v3)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v3) = v0 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v6) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_StepKernel_StepKernelIdeal : Prop :=
  True

def algebraic_StepKernelIdeal_StepReferenceIdeal [hStepKernelIdeal : Cert.StepKernelIdeal.Facts] [hStepReferenceIdeal : Cert.StepReferenceIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)) →
    ∃ (v0 : (c : Dev Cert.StepKernelIdeal.nD) → Buf (Elt Ideal) ((c.tc : Thread Cert.StepKernelIdeal.nD Cert.StepKernelIdeal.τ).loc Cert.StepKernelIdeal.main_v0_0)) (v1 : (c : Dev Cert.StepKernelIdeal.nD) → Buf (Elt Ideal) ((c.tc : Thread Cert.StepKernelIdeal.nD Cert.StepKernelIdeal.τ).loc Cert.StepKernelIdeal.main_v0_1)) (v2 : (c : Dev Cert.StepKernelIdeal.nD) → Buf (Elt Ideal) ((c.tc : Thread Cert.StepKernelIdeal.nD Cert.StepKernelIdeal.τ).loc Cert.StepKernelIdeal.main_v0_2)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v0_0) = v0 c
          ∧ r.2.mem ((c.tc : Thread Cert.StepKernelIdeal.nD Cert.StepKernelIdeal.τ).loc Cert.StepKernelIdeal.main_v0_1) = v1 c
          ∧ r.2.mem ((c.tc : Thread Cert.StepKernelIdeal.nD Cert.StepKernelIdeal.τ).loc Cert.StepKernelIdeal.main_v0_2) = v2 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v23) = v0 c
          ∧ r.2.mem ((c.tc : Thread Cert.StepReferenceIdeal.nD Cert.StepReferenceIdeal.τ).loc Cert.StepReferenceIdeal.main_v4) = v1 c
          ∧ r.2.mem ((c.tc : Thread Cert.StepReferenceIdeal.nD Cert.StepReferenceIdeal.τ).loc Cert.StepReferenceIdeal.main_v10) = v2 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)) →
    ∃ (v0 : (c : Dev Cert.SmallKernelIdeal.nD) → Buf (Elt Ideal) ((c.tc : Thread Cert.SmallKernelIdeal.nD Cert.SmallKernelIdeal.τ).loc Cert.SmallKernelIdeal.main_v0_0)) (v1 : (c : Dev Cert.SmallKernelIdeal.nD) → Buf (Elt Ideal) ((c.tc : Thread Cert.SmallKernelIdeal.nD Cert.SmallKernelIdeal.τ).loc Cert.SmallKernelIdeal.main_v0_1)) (v2 : (c : Dev Cert.SmallKernelIdeal.nD) → Buf (Elt Ideal) ((c.tc : Thread Cert.SmallKernelIdeal.nD Cert.SmallKernelIdeal.τ).loc Cert.SmallKernelIdeal.main_v0_2)) (v3 : (c : Dev Cert.SmallKernelIdeal.nD) → Buf (Elt Ideal) ((c.tc : Thread Cert.SmallKernelIdeal.nD Cert.SmallKernelIdeal.τ).loc Cert.SmallKernelIdeal.main_v0_3)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v0_0) = v0 c
          ∧ r.2.mem ((c.tc : Thread Cert.SmallKernelIdeal.nD Cert.SmallKernelIdeal.τ).loc Cert.SmallKernelIdeal.main_v0_1) = v1 c
          ∧ r.2.mem ((c.tc : Thread Cert.SmallKernelIdeal.nD Cert.SmallKernelIdeal.τ).loc Cert.SmallKernelIdeal.main_v0_2) = v2 c
          ∧ r.2.mem ((c.tc : Thread Cert.SmallKernelIdeal.nD Cert.SmallKernelIdeal.τ).loc Cert.SmallKernelIdeal.main_v0_3) = v3 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v5) = v0 c
          ∧ r.2.mem ((c.tc : Thread Cert.SmallReferenceIdeal.nD Cert.SmallReferenceIdeal.τ).loc Cert.SmallReferenceIdeal.main_v29) = v1 c
          ∧ r.2.mem ((c.tc : Thread Cert.SmallReferenceIdeal.nD Cert.SmallReferenceIdeal.τ).loc Cert.SmallReferenceIdeal.main_v10) = v2 c
          ∧ r.2.mem ((c.tc : Thread Cert.SmallReferenceIdeal.nD Cert.SmallReferenceIdeal.τ).loc Cert.SmallReferenceIdeal.main_v16) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_SpatialKernel_SpatialKernelIdeal : Prop :=
  True

def algebraic_SpatialKernelIdeal_SpatialReferenceIdeal [hSpatialKernelIdeal : Cert.SpatialKernelIdeal.Facts] [hSpatialReferenceIdeal : Cert.SpatialReferenceIdeal.Facts] : Prop :=
  ∀ (m : (ℓ : Loc Cert.SpatialKernelIdeal.nD Cert.SpatialKernelIdeal.τ Cert.SpatialKernelIdeal.sig) → Buf (Elt Ideal) ℓ) (g : Dev Cert.SpatialKernelIdeal.nD → PrngReg)
    (m' : (ℓ : Loc Cert.SpatialReferenceIdeal.nD Cert.SpatialReferenceIdeal.τ Cert.SpatialReferenceIdeal.sig) → Buf (Elt Ideal) ℓ) (g' : Dev Cert.SpatialReferenceIdeal.nD → PrngReg), Pre_SpatialKernelIdeal m →
    (∀ c : Dev Cert.SpatialKernelIdeal.nD,
      m' ((c.tc : Thread Cert.SpatialReferenceIdeal.nD Cert.SpatialReferenceIdeal.τ).loc Cert.SpatialReferenceIdeal.main_arg0) = m ((c.tc : Thread Cert.SpatialKernelIdeal.nD Cert.SpatialKernelIdeal.τ).loc Cert.SpatialKernelIdeal.main_arg0)
      ∧ m' ((c.tc : Thread Cert.SpatialReferenceIdeal.nD Cert.SpatialReferenceIdeal.τ).loc Cert.SpatialReferenceIdeal.main_arg1) = m ((c.tc : Thread Cert.SpatialKernelIdeal.nD Cert.SpatialKernelIdeal.τ).loc Cert.SpatialKernelIdeal.main_arg1)
      ∧ m' ((c.tc : Thread Cert.SpatialReferenceIdeal.nD Cert.SpatialReferenceIdeal.τ).loc Cert.SpatialReferenceIdeal.main_arg2) = m ((c.tc : Thread Cert.SpatialKernelIdeal.nD Cert.SpatialKernelIdeal.τ).loc Cert.SpatialKernelIdeal.main_arg2)
      ∧ m' ((c.tc : Thread Cert.SpatialReferenceIdeal.nD Cert.SpatialReferenceIdeal.τ).loc Cert.SpatialReferenceIdeal.main_arg3) = m ((c.tc : Thread Cert.SpatialKernelIdeal.nD Cert.SpatialKernelIdeal.τ).loc Cert.SpatialKernelIdeal.main_arg3)
      ∧ m' ((c.tc : Thread Cert.SpatialReferenceIdeal.nD Cert.SpatialReferenceIdeal.τ).loc Cert.SpatialReferenceIdeal.main_arg4) = m ((c.tc : Thread Cert.SpatialKernelIdeal.nD Cert.SpatialKernelIdeal.τ).loc Cert.SpatialKernelIdeal.main_arg4)
      ∧ m' ((c.tc : Thread Cert.SpatialReferenceIdeal.nD Cert.SpatialReferenceIdeal.τ).loc Cert.SpatialReferenceIdeal.main_arg5) = m ((c.tc : Thread Cert.SpatialKernelIdeal.nD Cert.SpatialKernelIdeal.τ).loc Cert.SpatialKernelIdeal.main_arg5)
      ∧ m' ((c.tc : Thread Cert.SpatialReferenceIdeal.nD Cert.SpatialReferenceIdeal.τ).loc Cert.SpatialReferenceIdeal.main_arg6) = m ((c.tc : Thread Cert.SpatialKernelIdeal.nD Cert.SpatialKernelIdeal.τ).loc Cert.SpatialKernelIdeal.main_arg6)
      ∧ m' ((c.tc : Thread Cert.SpatialReferenceIdeal.nD Cert.SpatialReferenceIdeal.τ).loc Cert.SpatialReferenceIdeal.main_arg7) = m ((c.tc : Thread Cert.SpatialKernelIdeal.nD Cert.SpatialKernelIdeal.τ).loc Cert.SpatialKernelIdeal.main_arg7)
      ∧ m' ((c.tc : Thread Cert.SpatialReferenceIdeal.nD Cert.SpatialReferenceIdeal.τ).loc Cert.SpatialReferenceIdeal.main_arg8) = m ((c.tc : Thread Cert.SpatialKernelIdeal.nD Cert.SpatialKernelIdeal.τ).loc Cert.SpatialKernelIdeal.main_arg8)
      ∧ m' ((c.tc : Thread Cert.SpatialReferenceIdeal.nD Cert.SpatialReferenceIdeal.τ).loc Cert.SpatialReferenceIdeal.main_arg9) = m ((c.tc : Thread Cert.SpatialKernelIdeal.nD Cert.SpatialKernelIdeal.τ).loc Cert.SpatialKernelIdeal.main_arg9)) →
    ∃ (v0 : (c : Dev Cert.SpatialKernelIdeal.nD) → Buf (Elt Ideal) ((c.tc : Thread Cert.SpatialKernelIdeal.nD Cert.SpatialKernelIdeal.τ).loc Cert.SpatialKernelIdeal.main_v27_1)) (v1 : (c : Dev Cert.SpatialKernelIdeal.nD) → Buf (Elt Ideal) ((c.tc : Thread Cert.SpatialKernelIdeal.nD Cert.SpatialKernelIdeal.τ).loc Cert.SpatialKernelIdeal.main_v27_2)) (v2 : (c : Dev Cert.SpatialKernelIdeal.nD) → Buf (Elt Ideal) ((c.tc : Thread Cert.SpatialKernelIdeal.nD Cert.SpatialKernelIdeal.τ).loc Cert.SpatialKernelIdeal.main_v27_3)),
      θ_run (Cert.SpatialKernelIdeal.defs (F := Ideal)) (onTc (τ := Cert.SpatialKernelIdeal.τ) (Cert.SpatialKernelIdeal.main (F := Ideal))) ⟨m, fun _ => 0, g⟩ (fun r => ∀ c : Dev Cert.SpatialKernelIdeal.nD,
          r.2.mem ((c.tc : Thread Cert.SpatialKernelIdeal.nD Cert.SpatialKernelIdeal.τ).loc Cert.SpatialKernelIdeal.main_v27_1) = v0 c
          ∧ r.2.mem ((c.tc : Thread Cert.SpatialKernelIdeal.nD Cert.SpatialKernelIdeal.τ).loc Cert.SpatialKernelIdeal.main_v27_2) = v1 c
          ∧ r.2.mem ((c.tc : Thread Cert.SpatialKernelIdeal.nD Cert.SpatialKernelIdeal.τ).loc Cert.SpatialKernelIdeal.main_v27_3) = v2 c
          ∧ r.2.mem ((c.tc : Thread Cert.SpatialKernelIdeal.nD Cert.SpatialKernelIdeal.τ).loc Cert.SpatialKernelIdeal.main_arg0) = m ((c.tc : Thread Cert.SpatialKernelIdeal.nD Cert.SpatialKernelIdeal.τ).loc Cert.SpatialKernelIdeal.main_arg0)
          ∧ r.2.mem ((c.tc : Thread Cert.SpatialKernelIdeal.nD Cert.SpatialKernelIdeal.τ).loc Cert.SpatialKernelIdeal.main_arg1) = m ((c.tc : Thread Cert.SpatialKernelIdeal.nD Cert.SpatialKernelIdeal.τ).loc Cert.SpatialKernelIdeal.main_arg1)
          ∧ r.2.mem ((c.tc : Thread Cert.SpatialKernelIdeal.nD Cert.SpatialKernelIdeal.τ).loc Cert.SpatialKernelIdeal.main_arg2) = m ((c.tc : Thread Cert.SpatialKernelIdeal.nD Cert.SpatialKernelIdeal.τ).loc Cert.SpatialKernelIdeal.main_arg2)
          ∧ r.2.mem ((c.tc : Thread Cert.SpatialKernelIdeal.nD Cert.SpatialKernelIdeal.τ).loc Cert.SpatialKernelIdeal.main_arg3) = m ((c.tc : Thread Cert.SpatialKernelIdeal.nD Cert.SpatialKernelIdeal.τ).loc Cert.SpatialKernelIdeal.main_arg3)
          ∧ r.2.mem ((c.tc : Thread Cert.SpatialKernelIdeal.nD Cert.SpatialKernelIdeal.τ).loc Cert.SpatialKernelIdeal.main_arg4) = m ((c.tc : Thread Cert.SpatialKernelIdeal.nD Cert.SpatialKernelIdeal.τ).loc Cert.SpatialKernelIdeal.main_arg4)
          ∧ r.2.mem ((c.tc : Thread Cert.SpatialKernelIdeal.nD Cert.SpatialKernelIdeal.τ).loc Cert.SpatialKernelIdeal.main_arg5) = m ((c.tc : Thread Cert.SpatialKernelIdeal.nD Cert.SpatialKernelIdeal.τ).loc Cert.SpatialKernelIdeal.main_arg5)
          ∧ r.2.mem ((c.tc : Thread Cert.SpatialKernelIdeal.nD Cert.SpatialKernelIdeal.τ).loc Cert.SpatialKernelIdeal.main_arg6) = m ((c.tc : Thread Cert.SpatialKernelIdeal.nD Cert.SpatialKernelIdeal.τ).loc Cert.SpatialKernelIdeal.main_arg6)
          ∧ r.2.mem ((c.tc : Thread Cert.SpatialKernelIdeal.nD Cert.SpatialKernelIdeal.τ).loc Cert.SpatialKernelIdeal.main_arg7) = m ((c.tc : Thread Cert.SpatialKernelIdeal.nD Cert.SpatialKernelIdeal.τ).loc Cert.SpatialKernelIdeal.main_arg7)
          ∧ r.2.mem ((c.tc : Thread Cert.SpatialKernelIdeal.nD Cert.SpatialKernelIdeal.τ).loc Cert.SpatialKernelIdeal.main_arg8) = m ((c.tc : Thread Cert.SpatialKernelIdeal.nD Cert.SpatialKernelIdeal.τ).loc Cert.SpatialKernelIdeal.main_arg8)
          ∧ r.2.mem ((c.tc : Thread Cert.SpatialKernelIdeal.nD Cert.SpatialKernelIdeal.τ).loc Cert.SpatialKernelIdeal.main_arg9) = m ((c.tc : Thread Cert.SpatialKernelIdeal.nD Cert.SpatialKernelIdeal.τ).loc Cert.SpatialKernelIdeal.main_arg9))
      ∧ θ_run (Cert.SpatialReferenceIdeal.defs (F := Ideal)) (onTc (τ := Cert.SpatialReferenceIdeal.τ) (Cert.SpatialReferenceIdeal.main (F := Ideal))) ⟨m', fun _ => 0, g'⟩ (fun r => ∀ c : Dev Cert.SpatialReferenceIdeal.nD,
          r.2.mem ((c.tc : Thread Cert.SpatialReferenceIdeal.nD Cert.SpatialReferenceIdeal.τ).loc Cert.SpatialReferenceIdeal.main_v85) = v0 c
          ∧ r.2.mem ((c.tc : Thread Cert.SpatialReferenceIdeal.nD Cert.SpatialReferenceIdeal.τ).loc Cert.SpatialReferenceIdeal.main_v73) = v1 c
          ∧ r.2.mem ((c.tc : Thread Cert.SpatialReferenceIdeal.nD Cert.SpatialReferenceIdeal.τ).loc Cert.SpatialReferenceIdeal.main_v87) = v2 c
          ∧ r.2.mem ((c.tc : Thread Cert.SpatialReferenceIdeal.nD Cert.SpatialReferenceIdeal.τ).loc Cert.SpatialReferenceIdeal.main_arg0) = m' ((c.tc : Thread Cert.SpatialReferenceIdeal.nD Cert.SpatialReferenceIdeal.τ).loc Cert.SpatialReferenceIdeal.main_arg0)
          ∧ r.2.mem ((c.tc : Thread Cert.SpatialReferenceIdeal.nD Cert.SpatialReferenceIdeal.τ).loc Cert.SpatialReferenceIdeal.main_arg1) = m' ((c.tc : Thread Cert.SpatialReferenceIdeal.nD Cert.SpatialReferenceIdeal.τ).loc Cert.SpatialReferenceIdeal.main_arg1)
          ∧ r.2.mem ((c.tc : Thread Cert.SpatialReferenceIdeal.nD Cert.SpatialReferenceIdeal.τ).loc Cert.SpatialReferenceIdeal.main_arg2) = m' ((c.tc : Thread Cert.SpatialReferenceIdeal.nD Cert.SpatialReferenceIdeal.τ).loc Cert.SpatialReferenceIdeal.main_arg2)
          ∧ r.2.mem ((c.tc : Thread Cert.SpatialReferenceIdeal.nD Cert.SpatialReferenceIdeal.τ).loc Cert.SpatialReferenceIdeal.main_arg3) = m' ((c.tc : Thread Cert.SpatialReferenceIdeal.nD Cert.SpatialReferenceIdeal.τ).loc Cert.SpatialReferenceIdeal.main_arg3)
          ∧ r.2.mem ((c.tc : Thread Cert.SpatialReferenceIdeal.nD Cert.SpatialReferenceIdeal.τ).loc Cert.SpatialReferenceIdeal.main_arg4) = m' ((c.tc : Thread Cert.SpatialReferenceIdeal.nD Cert.SpatialReferenceIdeal.τ).loc Cert.SpatialReferenceIdeal.main_arg4)
          ∧ r.2.mem ((c.tc : Thread Cert.SpatialReferenceIdeal.nD Cert.SpatialReferenceIdeal.τ).loc Cert.SpatialReferenceIdeal.main_arg5) = m' ((c.tc : Thread Cert.SpatialReferenceIdeal.nD Cert.SpatialReferenceIdeal.τ).loc Cert.SpatialReferenceIdeal.main_arg5)
          ∧ r.2.mem ((c.tc : Thread Cert.SpatialReferenceIdeal.nD Cert.SpatialReferenceIdeal.τ).loc Cert.SpatialReferenceIdeal.main_arg6) = m' ((c.tc : Thread Cert.SpatialReferenceIdeal.nD Cert.SpatialReferenceIdeal.τ).loc Cert.SpatialReferenceIdeal.main_arg6)
          ∧ r.2.mem ((c.tc : Thread Cert.SpatialReferenceIdeal.nD Cert.SpatialReferenceIdeal.τ).loc Cert.SpatialReferenceIdeal.main_arg7) = m' ((c.tc : Thread Cert.SpatialReferenceIdeal.nD Cert.SpatialReferenceIdeal.τ).loc Cert.SpatialReferenceIdeal.main_arg7)
          ∧ r.2.mem ((c.tc : Thread Cert.SpatialReferenceIdeal.nD Cert.SpatialReferenceIdeal.τ).loc Cert.SpatialReferenceIdeal.main_arg8) = m' ((c.tc : Thread Cert.SpatialReferenceIdeal.nD Cert.SpatialReferenceIdeal.τ).loc Cert.SpatialReferenceIdeal.main_arg8)
          ∧ r.2.mem ((c.tc : Thread Cert.SpatialReferenceIdeal.nD Cert.SpatialReferenceIdeal.τ).loc Cert.SpatialReferenceIdeal.main_arg9) = m' ((c.tc : Thread Cert.SpatialReferenceIdeal.nD Cert.SpatialReferenceIdeal.τ).loc Cert.SpatialReferenceIdeal.main_arg9))

def Claim : Prop :=
  ∃ (hLossKernel : Cert.LossKernel.Facts) (hLossKernelIdeal : Cert.LossKernelIdeal.Facts) (hLossReferenceIdeal : Cert.LossReferenceIdeal.Facts) (hReluKernel : Cert.ReluKernel.Facts) (hReluKernelIdeal : Cert.ReluKernelIdeal.Facts) (hReluReferenceIdeal : Cert.ReluReferenceIdeal.Facts) (hNorm2Kernel : Cert.Norm2Kernel.Facts) (hNorm2KernelIdeal : Cert.Norm2KernelIdeal.Facts) (hNorm2ReferenceIdeal : Cert.Norm2ReferenceIdeal.Facts) (hNorm1Kernel : Cert.Norm1Kernel.Facts) (hNorm1KernelIdeal : Cert.Norm1KernelIdeal.Facts) (hNorm1ReferenceIdeal : Cert.Norm1ReferenceIdeal.Facts) (hGateFfKernel : Cert.GateFfKernel.Facts) (hGateFfKernelIdeal : Cert.GateFfKernelIdeal.Facts) (hGateFfReferenceIdeal : Cert.GateFfReferenceIdeal.Facts) (hGateOutKernel : Cert.GateOutKernel.Facts) (hGateOutKernelIdeal : Cert.GateOutKernelIdeal.Facts) (hGateOutReferenceIdeal : Cert.GateOutReferenceIdeal.Facts) (hAdaKernel : Cert.AdaKernel.Facts) (hAdaKernelIdeal : Cert.AdaKernelIdeal.Facts) (hAdaReferenceIdeal : Cert.AdaReferenceIdeal.Facts) (hMixKernel : Cert.MixKernel.Facts) (hMixKernelIdeal : Cert.MixKernelIdeal.Facts) (hMixReferenceIdeal : Cert.MixReferenceIdeal.Facts) (hFwdFfKernel : Cert.FwdFfKernel.Facts) (hFwdFfKernelIdeal : Cert.FwdFfKernelIdeal.Facts) (hFwdFfReferenceIdeal : Cert.FwdFfReferenceIdeal.Facts) (hFwdInKernel : Cert.FwdInKernel.Facts) (hFwdInKernelIdeal : Cert.FwdInKernelIdeal.Facts) (hFwdInReferenceIdeal : Cert.FwdInReferenceIdeal.Facts) (hFwdOutKernel : Cert.FwdOutKernel.Facts) (hFwdOutKernelIdeal : Cert.FwdOutKernelIdeal.Facts) (hFwdOutReferenceIdeal : Cert.FwdOutReferenceIdeal.Facts) (hModKernel : Cert.ModKernel.Facts) (hModKernelIdeal : Cert.ModKernelIdeal.Facts) (hModReferenceIdeal : Cert.ModReferenceIdeal.Facts) (hWeightKernel : Cert.WeightKernel.Facts) (hWeightKernelIdeal : Cert.WeightKernelIdeal.Facts) (hWeightReferenceIdeal : Cert.WeightReferenceIdeal.Facts) (hStepKernel : Cert.StepKernel.Facts) (hStepKernelIdeal : Cert.StepKernelIdeal.Facts) (hStepReferenceIdeal : Cert.StepReferenceIdeal.Facts) (hSmallKernel : Cert.SmallKernel.Facts) (hSmallKernelIdeal : Cert.SmallKernelIdeal.Facts) (hSmallReferenceIdeal : Cert.SmallReferenceIdeal.Facts) (hSpatialKernel : Cert.SpatialKernel.Facts) (hSpatialKernelIdeal : Cert.SpatialKernelIdeal.Facts) (hSpatialReferenceIdeal : Cert.SpatialReferenceIdeal.Facts) (hPre_finite_loss_arguments : Cert.Pre_finite_loss_arguments.Facts) (hPre_finite_norm2_arguments : Cert.Pre_finite_norm2_arguments.Facts) (hPre_finite_norm1_arguments : Cert.Pre_finite_norm1_arguments.Facts) (hPre_finite_gate_ff_arguments : Cert.Pre_finite_gate_ff_arguments.Facts) (hPre_finite_gate_out_arguments : Cert.Pre_finite_gate_out_arguments.Facts) (hPre_finite_mix_arguments : Cert.Pre_finite_mix_arguments.Facts),
    quiescent_LossKernel (hLossKernel := hLossKernel)
    ∧ quiescent_LossKernelIdeal (hLossKernelIdeal := hLossKernelIdeal)
    ∧ quiescent_LossKernelIdeal_pre_finite_loss_arguments (hLossKernelIdeal := hLossKernelIdeal) (hPre_finite_loss_arguments := hPre_finite_loss_arguments)
    ∧ quiescent_LossReferenceIdeal (hLossReferenceIdeal := hLossReferenceIdeal)
    ∧ quiescent_LossReferenceIdeal_pre_finite_loss_arguments (hLossReferenceIdeal := hLossReferenceIdeal) (hPre_finite_loss_arguments := hPre_finite_loss_arguments)
    ∧ quiescent_ReluKernel (hReluKernel := hReluKernel)
    ∧ quiescent_ReluKernelIdeal (hReluKernelIdeal := hReluKernelIdeal)
    ∧ quiescent_ReluReferenceIdeal (hReluReferenceIdeal := hReluReferenceIdeal)
    ∧ quiescent_Norm2Kernel (hNorm2Kernel := hNorm2Kernel)
    ∧ quiescent_Norm2KernelIdeal (hNorm2KernelIdeal := hNorm2KernelIdeal)
    ∧ quiescent_Norm2KernelIdeal_pre_finite_norm2_arguments (hNorm2KernelIdeal := hNorm2KernelIdeal) (hPre_finite_norm2_arguments := hPre_finite_norm2_arguments)
    ∧ quiescent_Norm2ReferenceIdeal (hNorm2ReferenceIdeal := hNorm2ReferenceIdeal)
    ∧ quiescent_Norm2ReferenceIdeal_pre_finite_norm2_arguments (hNorm2ReferenceIdeal := hNorm2ReferenceIdeal) (hPre_finite_norm2_arguments := hPre_finite_norm2_arguments)
    ∧ quiescent_Norm1Kernel (hNorm1Kernel := hNorm1Kernel)
    ∧ quiescent_Norm1KernelIdeal (hNorm1KernelIdeal := hNorm1KernelIdeal)
    ∧ quiescent_Norm1KernelIdeal_pre_finite_norm1_arguments (hNorm1KernelIdeal := hNorm1KernelIdeal) (hPre_finite_norm1_arguments := hPre_finite_norm1_arguments)
    ∧ quiescent_Norm1ReferenceIdeal (hNorm1ReferenceIdeal := hNorm1ReferenceIdeal)
    ∧ quiescent_Norm1ReferenceIdeal_pre_finite_norm1_arguments (hNorm1ReferenceIdeal := hNorm1ReferenceIdeal) (hPre_finite_norm1_arguments := hPre_finite_norm1_arguments)
    ∧ quiescent_GateFfKernel (hGateFfKernel := hGateFfKernel)
    ∧ quiescent_GateFfKernelIdeal (hGateFfKernelIdeal := hGateFfKernelIdeal)
    ∧ quiescent_GateFfKernelIdeal_pre_finite_gate_ff_arguments (hGateFfKernelIdeal := hGateFfKernelIdeal) (hPre_finite_gate_ff_arguments := hPre_finite_gate_ff_arguments)
    ∧ quiescent_GateFfReferenceIdeal (hGateFfReferenceIdeal := hGateFfReferenceIdeal)
    ∧ quiescent_GateFfReferenceIdeal_pre_finite_gate_ff_arguments (hGateFfReferenceIdeal := hGateFfReferenceIdeal) (hPre_finite_gate_ff_arguments := hPre_finite_gate_ff_arguments)
    ∧ quiescent_GateOutKernel (hGateOutKernel := hGateOutKernel)
    ∧ quiescent_GateOutKernelIdeal (hGateOutKernelIdeal := hGateOutKernelIdeal)
    ∧ quiescent_GateOutKernelIdeal_pre_finite_gate_out_arguments (hGateOutKernelIdeal := hGateOutKernelIdeal) (hPre_finite_gate_out_arguments := hPre_finite_gate_out_arguments)
    ∧ quiescent_GateOutReferenceIdeal (hGateOutReferenceIdeal := hGateOutReferenceIdeal)
    ∧ quiescent_GateOutReferenceIdeal_pre_finite_gate_out_arguments (hGateOutReferenceIdeal := hGateOutReferenceIdeal) (hPre_finite_gate_out_arguments := hPre_finite_gate_out_arguments)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_MixKernel (hMixKernel := hMixKernel)
    ∧ quiescent_MixKernelIdeal (hMixKernelIdeal := hMixKernelIdeal)
    ∧ quiescent_MixKernelIdeal_pre_finite_mix_arguments (hMixKernelIdeal := hMixKernelIdeal) (hPre_finite_mix_arguments := hPre_finite_mix_arguments)
    ∧ quiescent_MixReferenceIdeal (hMixReferenceIdeal := hMixReferenceIdeal)
    ∧ quiescent_MixReferenceIdeal_pre_finite_mix_arguments (hMixReferenceIdeal := hMixReferenceIdeal) (hPre_finite_mix_arguments := hPre_finite_mix_arguments)
    ∧ quiescent_FwdFfKernel (hFwdFfKernel := hFwdFfKernel)
    ∧ quiescent_FwdFfKernelIdeal (hFwdFfKernelIdeal := hFwdFfKernelIdeal)
    ∧ quiescent_FwdFfReferenceIdeal (hFwdFfReferenceIdeal := hFwdFfReferenceIdeal)
    ∧ quiescent_FwdInKernel (hFwdInKernel := hFwdInKernel)
    ∧ quiescent_FwdInKernelIdeal (hFwdInKernelIdeal := hFwdInKernelIdeal)
    ∧ quiescent_FwdInReferenceIdeal (hFwdInReferenceIdeal := hFwdInReferenceIdeal)
    ∧ quiescent_FwdOutKernel (hFwdOutKernel := hFwdOutKernel)
    ∧ quiescent_FwdOutKernelIdeal (hFwdOutKernelIdeal := hFwdOutKernelIdeal)
    ∧ quiescent_FwdOutReferenceIdeal (hFwdOutReferenceIdeal := hFwdOutReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_WeightKernel (hWeightKernel := hWeightKernel)
    ∧ quiescent_WeightKernelIdeal (hWeightKernelIdeal := hWeightKernelIdeal)
    ∧ quiescent_WeightReferenceIdeal (hWeightReferenceIdeal := hWeightReferenceIdeal)
    ∧ quiescent_StepKernel (hStepKernel := hStepKernel)
    ∧ quiescent_StepKernelIdeal (hStepKernelIdeal := hStepKernelIdeal)
    ∧ quiescent_StepReferenceIdeal (hStepReferenceIdeal := hStepReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_SpatialKernel (hSpatialKernel := hSpatialKernel)
    ∧ quiescent_SpatialKernelIdeal (hSpatialKernelIdeal := hSpatialKernelIdeal)
    ∧ quiescent_SpatialReferenceIdeal (hSpatialReferenceIdeal := hSpatialReferenceIdeal)
    ∧ preserves_LossKernel_LossKernelIdeal
    ∧ algebraic_LossKernelIdeal_LossReferenceIdeal_pre_finite_loss_arguments (hLossKernelIdeal := hLossKernelIdeal) (hLossReferenceIdeal := hLossReferenceIdeal) (hPre_finite_loss_arguments := hPre_finite_loss_arguments)
    ∧ preserves_ReluKernel_ReluKernelIdeal
    ∧ algebraic_ReluKernelIdeal_ReluReferenceIdeal (hReluKernelIdeal := hReluKernelIdeal) (hReluReferenceIdeal := hReluReferenceIdeal)
    ∧ preserves_Norm2Kernel_Norm2KernelIdeal
    ∧ algebraic_Norm2KernelIdeal_Norm2ReferenceIdeal_pre_finite_norm2_arguments (hNorm2KernelIdeal := hNorm2KernelIdeal) (hNorm2ReferenceIdeal := hNorm2ReferenceIdeal) (hPre_finite_norm2_arguments := hPre_finite_norm2_arguments)
    ∧ preserves_Norm1Kernel_Norm1KernelIdeal
    ∧ algebraic_Norm1KernelIdeal_Norm1ReferenceIdeal_pre_finite_norm1_arguments (hNorm1KernelIdeal := hNorm1KernelIdeal) (hNorm1ReferenceIdeal := hNorm1ReferenceIdeal) (hPre_finite_norm1_arguments := hPre_finite_norm1_arguments)
    ∧ preserves_GateFfKernel_GateFfKernelIdeal
    ∧ algebraic_GateFfKernelIdeal_GateFfReferenceIdeal_pre_finite_gate_ff_arguments (hGateFfKernelIdeal := hGateFfKernelIdeal) (hGateFfReferenceIdeal := hGateFfReferenceIdeal) (hPre_finite_gate_ff_arguments := hPre_finite_gate_ff_arguments)
    ∧ preserves_GateOutKernel_GateOutKernelIdeal
    ∧ algebraic_GateOutKernelIdeal_GateOutReferenceIdeal_pre_finite_gate_out_arguments (hGateOutKernelIdeal := hGateOutKernelIdeal) (hGateOutReferenceIdeal := hGateOutReferenceIdeal) (hPre_finite_gate_out_arguments := hPre_finite_gate_out_arguments)
    ∧ preserves_AdaKernel_AdaKernelIdeal
    ∧ algebraic_AdaKernelIdeal_AdaReferenceIdeal (hAdaKernelIdeal := hAdaKernelIdeal) (hAdaReferenceIdeal := hAdaReferenceIdeal)
    ∧ preserves_MixKernel_MixKernelIdeal
    ∧ algebraic_MixKernelIdeal_MixReferenceIdeal_pre_finite_mix_arguments (hMixKernelIdeal := hMixKernelIdeal) (hMixReferenceIdeal := hMixReferenceIdeal) (hPre_finite_mix_arguments := hPre_finite_mix_arguments)
    ∧ preserves_FwdFfKernel_FwdFfKernelIdeal
    ∧ algebraic_FwdFfKernelIdeal_FwdFfReferenceIdeal (hFwdFfKernelIdeal := hFwdFfKernelIdeal) (hFwdFfReferenceIdeal := hFwdFfReferenceIdeal)
    ∧ preserves_FwdInKernel_FwdInKernelIdeal
    ∧ algebraic_FwdInKernelIdeal_FwdInReferenceIdeal (hFwdInKernelIdeal := hFwdInKernelIdeal) (hFwdInReferenceIdeal := hFwdInReferenceIdeal)
    ∧ preserves_FwdOutKernel_FwdOutKernelIdeal
    ∧ algebraic_FwdOutKernelIdeal_FwdOutReferenceIdeal (hFwdOutKernelIdeal := hFwdOutKernelIdeal) (hFwdOutReferenceIdeal := hFwdOutReferenceIdeal)
    ∧ preserves_ModKernel_ModKernelIdeal
    ∧ algebraic_ModKernelIdeal_ModReferenceIdeal (hModKernelIdeal := hModKernelIdeal) (hModReferenceIdeal := hModReferenceIdeal)
    ∧ preserves_WeightKernel_WeightKernelIdeal
    ∧ algebraic_WeightKernelIdeal_WeightReferenceIdeal (hWeightKernelIdeal := hWeightKernelIdeal) (hWeightReferenceIdeal := hWeightReferenceIdeal)
    ∧ preserves_StepKernel_StepKernelIdeal
    ∧ algebraic_StepKernelIdeal_StepReferenceIdeal (hStepKernelIdeal := hStepKernelIdeal) (hStepReferenceIdeal := hStepReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_SpatialKernel_SpatialKernelIdeal
    ∧ algebraic_SpatialKernelIdeal_SpatialReferenceIdeal (hSpatialKernelIdeal := hSpatialKernelIdeal) (hSpatialReferenceIdeal := hSpatialReferenceIdeal)
-- ==== Pre_finite_gate_ff_arguments.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x4096 .f32) (main_arg1 : FVec F S4096x1024 .f32) (main_arg2 : FVec F S1024 .f32) (main_arg3 : FVec F S4096x1024 .f32) : IVec S4096x4096 1 × IVec S4096x1024 1 × IVec S1024 1 × IVec S4096x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_gate_out_arguments.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x1024 .f32) (main_arg2 : FVec F S1024 .f32) (main_arg3 : FVec F S1024x1024 .f32) : IVec S4096x1024 1 × IVec S4096x1024 1 × IVec S1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Pre_finite_loss_arguments.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_mix_arguments.lean ====
abbrev S4096x3080 : Shape := ⟨2, ![4096, 3080]⟩
abbrev S512 : Shape := ⟨1, ![512]⟩
abbrev S4x128x128 : Shape := ⟨3, ![4, 128, 128]⟩
abbrev S4x128 : Shape := ⟨2, ![4, 128]⟩
abbrev S4x1536 : Shape := ⟨2, ![4, 1536]⟩
abbrev S4 : Shape := ⟨1, ![4]⟩
abbrev S128 : Shape := ⟨1, ![128]⟩
abbrev S_ : Shape := ⟨0, ![]⟩

class Facts : Prop where
  bcast_S_S4096x3080 : S_.BroadcastsInDim S4096x3080 (![] : Fin 0 → Fin S4096x3080.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S4x1536 : S_.BroadcastsInDim S4x1536 (![] : Fin 0 → Fin S4x1536.rank)
  bcast_S_S4 : S_.BroadcastsInDim S4 (![] : Fin 0 → Fin S4.rank)
  bcast_S_S128 : S_.BroadcastsInDim S128 (![] : Fin 0 → Fin S128.rank)

variable [Facts]

def fn_part1 {F : FTy → Type} [FloatOps F] (main_arg6 : FVec F S4 .f32) (main_arg7 : FVec F S4 .f32) (main_arg8 : FVec F S128 .f32) (main_v2 : IVec S4096x3080 1) (main_v5 : IVec S512 1) (main_v8 : IVec S512 1) (main_v11 : IVec S4x128x128 1) (main_v14 : IVec S4x128 1) (main_v17 : IVec S4x1536 1) : IVec S4096x3080 1 × IVec S512 1 × IVec S512 1 × IVec S4x128x128 1 × IVec S4x128 1 × IVec S4x1536 1 × IVec S4 1 × IVec S4 1 × IVec S128 1 :=
  let main_v18 : FVec F S4 .f32 := Host.absf main_arg6
  let main_cst_5 : FVec F S_ .f32 := constant S_ .f32 0x7F800000#32
  let main_v19 : FVec F S4 .f32 := broadcastInDim S4 ![] bcast_S_S4 main_cst_5
  let main_v20 : IVec S4 1 := cmpf .olt main_v18 main_v19
  let main_v21 : FVec F S4 .f32 := Host.absf main_arg7
  let main_cst_6 : FVec F S_ .f32 := constant S_ .f32 0x7F800000#32
  let main_v22 : FVec F S4 .f32 := broadcastInDim S4 ![] bcast_S_S4 main_cst_6
  let main_v23 : IVec S4 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  (main_v2, main_v5, main_v8, main_v11, main_v14, main_v17, main_v20, main_v23, main_v26)

def fn {F : FTy → Type} [FloatOps F] (main_arg0 : FVec F S4096x3080 .f32) (main_arg1 : FVec F S512 .f32) (main_arg2 : FVec F S512 .f32) (main_arg3 : FVec F S4x128x128 .f32) (main_arg4 : FVec F S4x128 .f32) (main_arg5 : FVec F S4x1536 .f32) (main_arg6 : FVec F S4 .f32) (main_arg7 : FVec F S4 .f32) (main_arg8 : FVec F S128 .f32) : IVec S4096x3080 1 × IVec S512 1 × IVec S512 1 × IVec S4x128x128 1 × IVec S4x128 1 × IVec S4x1536 1 × IVec S4 1 × IVec S4 1 × IVec S128 1 :=
  let main_v0 : FVec F S4096x3080 .f32 := Host.absf main_arg0
  let main_cst : FVec F S_ .f32 := constant S_ .f32 0x7F800000#32
  let main_v1 : FVec F S4096x3080 .f32 := broadcastInDim S4096x3080 ![] bcast_S_S4096x3080 main_cst
  let main_v2 : IVec S4096x3080 1 := cmpf .olt main_v0 main_v1
  let main_v3 : FVec F S512 .f32 := Host.absf main_arg1
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S4x1536 .f32 := Host.absf main_arg5
  let main_cst_4 : FVec F S_ .f32 := constant S_ .f32 0x7F800000#32
  let main_v16 : FVec F S4x1536 .f32 := broadcastInDim S4x1536 ![] bcast_S_S4x1536 main_cst_4
  let main_v17 : IVec S4x1536 1 := cmpf .olt main_v15 main_v16
  fn_part1 (F := F) main_arg6 main_arg7 main_arg8 main_v2 main_v5 main_v8 main_v11 main_v14 main_v17
-- ==== Pre_finite_norm1_arguments.lean ====
abbrev S4096x3080 : Shape := ⟨2, ![4096, 3080]⟩
abbrev S1024x3080 : Shape := ⟨2, ![1024, 3080]⟩
abbrev S4096x1024 : Shape := ⟨2, ![4096, 1024]⟩
abbrev S1024 : Shape := ⟨1, ![1024]⟩
abbrev S_ : Shape := ⟨0, ![]⟩

class Facts : Prop where
  bcast_S_S4096x3080 : S_.BroadcastsInDim S4096x3080 (![] : Fin 0 → Fin S4096x3080.rank)
  bcast_S_S1024x3080 : S_.BroadcastsInDim S1024x3080 (![] : Fin 0 → Fin S1024x3080.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x3080 .f32) (main_arg1 : FVec F S1024x3080 .f32) (main_arg2 : FVec F S4096x1024 .f32) (main_arg3 : FVec F S4096x1024 .f32) (main_arg4 : FVec F S1024 .f32) (main_arg5 : FVec F S1024 .f32) (main_arg6 : FVec F S1024 .f32) : IVec S4096x3080 1 × IVec S1024x3080 1 × IVec S4096x1024 1 × IVec S1024 1 × IVec S1024 1 :=
  let main_v0 : FVec F S4096x3080 .f32 := Host.absf main_arg0
  let main_cst : FVec F S_ .f32 := constant S_ .f32 0x7F800000#32
  let main_v1 : FVec F S4096x3080 .f32 := broadcastInDim S4096x3080 ![] bcast_S_S4096x3080 main_cst
  let main_v2 : IVec S4096x3080 1 := cmpf .olt main_v0 main_v1
  let main_v3 : FVec F S1024x3080 .f32 := Host.absf main_arg1
  let main_cst_0 : FVec F S_ .f32 := constant S_ .f32 0x7F800000#32
  let main_v4 : FVec F S1024x3080 .f32 := broadcastInDim S1024x3080 ![] bcast_S_S1024x3080 main_cst_0
  let main_v5 : IVec S1024x3080 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg6
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite_norm2_arguments.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x4096 : S_.BroadcastsInDim S4096x4096 (![] : Fin 0 → Fin S4096x4096.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x4096 .f32) (main_arg1 : FVec F S1024x4096 .f32) (main_arg2 : FVec F S4096x1024 .f32) (main_arg3 : FVec F S4096x1024 .f32) (main_arg4 : FVec F S1024 .f32) (main_arg5 : FVec F S1024 .f32) (main_arg6 : FVec F S1024 .f32) (main_arg7 : FVec F S1024 .f32) (main_arg8 : FVec F S1024x1024 .f32) : IVec S4096x4096 1 × IVec S1024x4096 1 × IVec S4096x1024 1 × IVec S1024 1 × IVec S1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg6
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg7
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== LossKernel.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S6x1024, .f32⟩
  | .hbm, ⟨75, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== ReluKernel.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1x1024 : Shape := ⟨3, ![1, 1, 1024]⟩
abbrev S1x8x1024 : Shape := ⟨3, ![1, 8, 1024]⟩
abbrev S4x1024x1024 : Shape := ⟨3, ![4, 1024, 1024]⟩
abbrev S512x1024 : Shape := ⟨2, ![512, 1024]⟩
abbrev S512x4096 : Shape := ⟨2, ![512, 4096]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S1x1x1024, .f32⟩
  | .hbm, ⟨9, _⟩ => ⟨S_, .i32⟩
  | .hbm, ⟨10, _⟩ => ⟨S_, .f32⟩
  | .hbm, ⟨11, _⟩ => ⟨S1x8x1024, .f32⟩
  | .hbm, ⟨12, _⟩ => ⟨S4x1024x1024, .f32⟩
  | .hbm, ⟨13, _⟩ => ⟨S4x1024x1024, .bf16⟩
  | .hbm, ⟨14, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1x8x1024, .f32⟩
  | .local _ .vmem, ⟨5, _⟩ => ⟨S4x1024x1024, .bf16⟩
  | .local _ .vmem, ⟨6, _⟩ => ⟨S512x4096, .bf16⟩
  | .local _ .vmem, ⟨7, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReluReferenceIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Norm2Kernel.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S2x1024 : Shape := ⟨2, ![2, 1024]⟩
abbrev S1x1024 : Shape := ⟨2, ![1, 1024]⟩
abbrev S8x1024 : Shape := ⟨2, ![8, 1024]⟩
abbrev S1x8x1024 : Shape := ⟨3, ![1, 8, 1024]⟩
abbrev S1024x4x1024 : Shape := ⟨3, ![1024, 4, 1024]⟩
abbrev S4x1024x1024 : Shape := ⟨3, ![4, 1024, 1024]⟩
abbrev S4x256x1024 : Shape := ⟨3, ![4, 256, 1024]⟩
abbrev S512x4096 : Shape := ⟨2, ![512, 4096]⟩
abbrev S512x1024 : Shape := ⟨2, ![512, 1024]⟩
abbrev S1x1024x1024 : Shape := ⟨3, ![1, 1024, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S_, .f32⟩
  | .hbm, ⟨10, _⟩ => ⟨S2x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S8x1024, .f32⟩
  | .hbm, ⟨18, _⟩ => ⟨S1x8x1024, .f32⟩
  | .hbm, ⟨19, _⟩ => ⟨S1024x4x1024, .f32⟩
  | .hbm, ⟨20, _⟩ => ⟨S4x1024x1024, .f32⟩
  | .hbm, ⟨21, _⟩ => ⟨S4x1024x1024, .bf16⟩
  | .hbm, ⟨22, _⟩ => ⟨S4x256x1024, .f32⟩
  | .hbm, ⟨23, _⟩ => ⟨S4x256x1024, .bf16⟩
  | .hbm, ⟨24, _⟩ => ⟨S4096x4096, .bf16⟩
  | .hbm, ⟨25, _⟩ => ⟨S4096x1024, .f32⟩
  | .hbm, ⟨26, _⟩ => ⟨S8x1024, .f32⟩
  | .hbm, ⟨27, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x8x1024, .f32⟩
  | .local _ .vmem, ⟨8, _⟩ => ⟨S4x256x1024, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Norm2ReferenceIdeal.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x4096, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S5x1024, .f32⟩
  | .hbm, ⟨91, _⟩ => ⟨S8x1024, .f32⟩
  | .hbm, ⟨92, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Norm1Kernel.lean ====
abbrev S4096x3080 : Shape := ⟨2, ![4096, 3080]⟩
abbrev S1024x3080 : Shape := ⟨2, ![1024, 3080]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1x8x1024 : Shape := ⟨3, ![1, 8, 1024]⟩
abbrev S1024x3200 : Shape := ⟨2, ![1024, 3200]⟩
abbrev S4096x3200 : Shape := ⟨2, ![4096, 3200]⟩
abbrev S512x3200 : Shape := ⟨2, ![512, 3200]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 26
  | .vmem => 11
  | .smem => 0
  | _ => 0

abbrev bufTy : (tb : Table) → Fin (tcTables nBuf tb) → BufTy
  | .hbm, ⟨0, _⟩ => ⟨S4096x3080, .f32⟩
  | .hbm, ⟨1, _⟩ => ⟨S1024x3080, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S4x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S8x1024, .f32⟩
  | .hbm, ⟨15, _⟩ => ⟨S1x8x1024, .f32⟩
  | .hbm, ⟨16, _⟩ => ⟨S_, .i32⟩
  | .hbm, ⟨17, _⟩ => ⟨S_, .f32⟩
  | .hbm, ⟨18, _⟩ => ⟨S1024x3200, .f32⟩
  | .hbm, ⟨19, _⟩ => ⟨S1024x3200, .bf16⟩
  | .hbm, ⟨20, _⟩ => ⟨S_, .i32⟩
  | .hbm, ⟨21, _⟩ => ⟨S_, .f32⟩
  | .hbm, ⟨22, _⟩ => ⟨S4096x3200, .f32⟩
  | .hbm, ⟨23, _⟩ => ⟨S4096x3200, .bf16⟩
  | .hbm, ⟨24, _⟩ => ⟨S4096x1024, .f32⟩
  | .hbm, ⟨25, _⟩ => ⟨S8x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm1ReferenceIdeal.lean ====
abbrev S4096x3080 : Shape := ⟨2, ![4096, 3080]⟩
abbrev S1024x3080 : Shape := ⟨2, ![1024, 3080]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x3080, .f32⟩
  | .hbm, ⟨1, _⟩ => ⟨S1024x3080, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x3080, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S5x1024, .f32⟩
  | .hbm, ⟨81, _⟩ => ⟨S8x1024, .f32⟩
  | .hbm, ⟨82, _⟩ => ⟨S4096x1024, .f32⟩
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== GateFfKernel.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S1x1x1024 : Shape := ⟨3, ![1, 1, 1024]⟩
abbrev S1x8x1024 : Shape := ⟨3, ![1, 8, 1024]⟩
abbrev S4x1024x1024 : Shape := ⟨3, ![4, 1024, 1024]⟩
abbrev S8x1024 : Shape := ⟨2, ![8, 1024]⟩
abbrev S2048x1024 : Shape := ⟨2, ![2048, 1024]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 16
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S1x1x1024, .f32⟩
  | .hbm, ⟨9, _⟩ => ⟨S_, .i32⟩
  | .hbm, ⟨10, _⟩ => ⟨S_, .f32⟩
  | .hbm, ⟨11, _⟩ => ⟨S1x8x1024, .f32⟩
  | .hbm, ⟨12, _⟩ => ⟨S4x1024x1024, .f32⟩
  | .hbm, ⟨13, _⟩ => ⟨S4x1024x1024, .bf16⟩
  | .hbm, ⟨14, _⟩ => ⟨S4x1024x1024, .bf16⟩
  | .hbm, ⟨15, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x8x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S8x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_11 : BitVec 32 := 0#32
  let v23 : BitVec 1 := Scalar.cmpi .ne v22 c0_i32_11
  v23

def k0_cond2 (i : grid0.Coords) : BitVec 1 :=
  let arg0 : BitVec 32 := BitVec.ofNat 32 (i 0).val
  let c0_i32_8 : BitVec 32 := 0#32
  let v16 : BitVec 1 := Scalar.cmpi .eq arg0 c0_i32_8
  let arg1 : BitVec 32 := BitVec.ofNat 32 (i 1).val
  let c0_i32_9 : BitVec 32 := 0#32
  let v17 : BitVec 1 := Scalar.cmpi .eq arg1 c0_i32_9
  let v18 : BitVec 1 := Scalar.andi v16 v17
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== GateFfReferenceIdeal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S1024x4096 : Shape := ⟨2, ![1024, 4096]⟩
abbrev S4x1024x1024 : Shape := ⟨3, ![4, 1024, 1024]⟩
abbrev S7x1024 : Shape := ⟨2, ![7, 1024]⟩
abbrev S8x1024 : Shape := ⟨2, ![8, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1024, .f32⟩
  | .hbm, ⟨20, _⟩ => ⟨S1024x4096, .f32⟩
  | .hbm, ⟨21, _⟩ => ⟨S4096x1024, .f32⟩
  | .hbm, ⟨22, _⟩ => ⟨S4x1024x1024, .f32⟩
  | .hbm, ⟨23, _⟩ => ⟨S4x1024x1024, .bf16⟩
  | .hbm, ⟨24, _⟩ => ⟨S1x1024, .f32⟩
  | .hbm, ⟨25, _⟩ => ⟨S_, .f32⟩
  | .hbm, ⟨26, _⟩ => ⟨S7x1024, .f32⟩
  | .hbm, ⟨27, _⟩ => ⟨S8x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== GateOutKernel.lean ====
abbrev S4096x1024 : Shape := ⟨2, ![4096, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S1x8x1024 : Shape := ⟨3, ![1, 8, 1024]⟩
abbrev S4x256x1024 : Shape := ⟨3, ![4, 256, 1024]⟩
abbrev S8x1024 : Shape := ⟨2, ![8, 1024]⟩
abbrev S2048x1024 : Shape := ⟨2, ![2048, 1024]⟩
abbrev S1x1024 : Shape := ⟨2, ![1, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S1x1x1024, .f32⟩
  | .hbm, ⟨5, _⟩ => ⟨S_, .i32⟩
  | .hbm, ⟨6, _⟩ => ⟨S_, .f32⟩
  | .hbm, ⟨7, _⟩ => ⟨S1x8x1024, .f32⟩
  | .hbm, ⟨8, _⟩ => ⟨S4096x1024, .bf16⟩
  | .hbm, ⟨9, _⟩ => ⟨S4x256x1024, .f32⟩
  | .hbm, ⟨10, _⟩ => ⟨S4x256x1024, .bf16⟩
  | .hbm, ⟨11, _⟩ => ⟨S1024x1024, .bf16⟩
  | .hbm, ⟨12, _⟩ => ⟨S1024x1024, .bf16⟩
  | .hbm, ⟨13, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x8x1024, .f32⟩
  | .local _ .vmem, ⟨5, _⟩ => ⟨S1024x1024, .bf16⟩
  | .local _ .vmem, ⟨6, _⟩ => ⟨S1024x1024, .bf16⟩
  | .local _ .vmem, ⟨7, _⟩ => ⟨S8x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_8 : BitVec 32 := 0#32
  let v13 : BitVec 1 := Scalar.cmpi .eq arg0 c0_i32_8
  let arg1 : BitVec 32 := BitVec.ofNat 32 (i 1).val
  let c0_i32_9 : BitVec 32 := 0#32
  let v14 : BitVec 1 := Scalar.cmpi .eq arg1 c0_i32_9
  let v15 : BitVec 1 := Scalar.andi v13 v14
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== GateOutReferenceIdeal.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S_, .f32⟩
  | .hbm, ⟨21, _⟩ => ⟨S7x1024, .f32⟩
  | .hbm, ⟨22, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AdaKernel.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaReferenceIdeal.lean ====
abbrev S8x1024 : Shape := ⟨2, ![8, 1024]⟩
abbrev S4x8x1536 : Shape := ⟨3, ![4, 8, 1536]⟩
abbrev S4x1024x1536 : Shape := ⟨3, ![4, 1024, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x8x1536 : Shape := ⟨3, ![1, 8, 1536]⟩
abbrev S1536x1024 : Shape := ⟨2, ![1536, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024x1536, .f32⟩
  | .hbm, ⟨15, _⟩ => ⟨S1024x1536, .f32⟩
  | .hbm, ⟨16, _⟩ => ⟨S8x1536, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S1x1024x1536, .f32⟩
  | .hbm, ⟨27, _⟩ => ⟨S1024x1536, .f32⟩
  | .hbm, ⟨28, _⟩ => ⟨S8x1536, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S1x1024x1536, .f32⟩
  | .hbm, ⟨39, _⟩ => ⟨S1024x1536, .f32⟩
  | .hbm, ⟨40, _⟩ => ⟨S8x1536, .f32⟩
  | .hbm, ⟨41, _⟩ => ⟨S8x1024, .f32⟩
  | .hbm, ⟨42, _⟩ => ⟨S8x1024, .f32⟩
  | .hbm, ⟨43, _⟩ => ⟨S_, .f32⟩
  | .hbm, ⟨44, _⟩ => ⟨S8x1024, .f32⟩
  | .hbm, ⟨45, _⟩ => ⟨S8x1024, .f32⟩
  | .hbm, ⟨46, _⟩ => ⟨S_, .f32⟩
  | .hbm, ⟨47, _⟩ => ⟨S8x1024, .f32⟩
  | .hbm, ⟨48, _⟩ => ⟨S8x1024, .f32⟩
  | .hbm, ⟨49, _⟩ => ⟨S8x1024, .f32⟩
  | .hbm, ⟨50, _⟩ => ⟨S1x1024x1536, .f32⟩
  | .hbm, ⟨51, _⟩ => ⟨S1024x1536, .f32⟩
  | .hbm, ⟨52, _⟩ => ⟨S8x1536, .f32⟩
  | .hbm, ⟨53, _⟩ => ⟨S1x8x1536, .f32⟩
  | .hbm, ⟨54, _⟩ => ⟨S1x8x1536, .f32⟩
  | .hbm, ⟨55, _⟩ => ⟨S1x8x1536, .f32⟩
  | .hbm, ⟨56, _⟩ => ⟨S1x8x1536, .f32⟩
  | .hbm, ⟨57, _⟩ => ⟨S4x8x1536, .f32⟩
  | .hbm, ⟨58, _⟩ => ⟨S1x8x1536, .f32⟩
  | .hbm, ⟨59, _⟩ => ⟨S8x1536, .f32⟩
  | .hbm, ⟨60, _⟩ => ⟨S1x8x1536, .f32⟩
  | .hbm, ⟨61, _⟩ => ⟨S8x1536, .f32⟩
  | .hbm, ⟨62, _⟩ => ⟨S1x8x1536, .f32⟩
  | .hbm, ⟨63, _⟩ => ⟨S8x1536, .f32⟩
  | .hbm, ⟨64, _⟩ => ⟨S1x8x1536, .f32⟩
  | .hbm, ⟨65, _⟩ => ⟨S8x1536, .f32⟩
  | .hbm, ⟨66, _⟩ => ⟨S1536x1024, .f32⟩
  | .hbm, ⟨67, _⟩ => ⟨S1024x1536, .f32⟩
  | .hbm, ⟨68, _⟩ => ⟨S1x1024x1536, .f32⟩
  | .hbm, ⟨69, _⟩ => ⟨S_, .f32⟩
  | .hbm, ⟨70, _⟩ => ⟨S4x1024x1536, .f32⟩
  | .hbm, ⟨71, _⟩ => ⟨S1536x1024, .f32⟩
  | .hbm, ⟨72, _⟩ => ⟨S1024x1536, .f32⟩
  | .hbm, ⟨73, _⟩ => ⟨S1x1024x1536, .f32⟩
  | .hbm, ⟨74, _⟩ => ⟨S_, .f32⟩
  | .hbm, ⟨75, _⟩ => ⟨S4x1024x1536, .f32⟩
  | .hbm, ⟨76, _⟩ => ⟨S4x1024x1536, .f32⟩
  | .hbm, ⟨77, _⟩ => ⟨S1536x1024, .f32⟩
  | .hbm, ⟨78, _⟩ => ⟨S1024x1536, .f32⟩
  | .hbm, ⟨79, _⟩ => ⟨S1x1024x1536, .f32⟩
  | .hbm, ⟨80, _⟩ => ⟨S_, .f32⟩
  | .hbm, ⟨81, _⟩ => ⟨S4x1024x1536, .f32⟩
  | .hbm, ⟨82, _⟩ => ⟨S4x1024x1536, .f32⟩
  | .hbm, ⟨83, _⟩ => ⟨S1536x1024, .f32⟩
  | .hbm, ⟨84, _⟩ => ⟨S1024x1536, .f32⟩
  | .hbm, ⟨85, _⟩ => ⟨S1x1024x1536, .f32⟩
  | .hbm, ⟨86, _⟩ => ⟨S_, .f32⟩
  | .hbm, ⟨87, _⟩ => ⟨S4x1024x1536, .f32⟩
  | .hbm, ⟨88, _⟩ => ⟨S4x1024x1536, .f32⟩
  | .hbm, ⟨89, _⟩ => ⟨S_, .f32⟩
  | .hbm, ⟨90, _⟩ => ⟨S4x1024x1536, .f32⟩
  | .hbm, ⟨91, _⟩ => ⟨S4x1024x1536, .f32⟩
  | .hbm, ⟨92, _⟩ => ⟨S_, .f32⟩
  | .hbm, ⟨93, _⟩ => ⟨S4x1024x1536, .f32⟩
  | .hbm, ⟨94, _⟩ => ⟨S4x1024x1536, .f32⟩
  | .hbm, ⟨95, _⟩ => ⟨S4x1024x1536, .f32⟩
  | .hbm, ⟨96, _⟩ => ⟨S_, .f32⟩
  | .hbm, ⟨97, _⟩ => ⟨S4x1024x1536, .f32⟩
  | .hbm, ⟨98, _⟩ => ⟨S4x1024x1536, .f32⟩
  | .hbm, ⟨99, _⟩ => ⟨S4x1024x1536, .f32⟩
  | .hbm, ⟨100, _⟩ => ⟨S_, .f32⟩
  | .hbm, ⟨101, _⟩ => ⟨S4x1024x1536, .f32⟩
  | .hbm, ⟨102, _⟩ => ⟨S4x1024x1536, .f32⟩
  | .hbm, ⟨103, _⟩ => ⟨S4x1024x1536, .f32⟩
  | .hbm, ⟨104, _⟩ => ⟨S_, .f32⟩
  | .hbm, ⟨105, _⟩ => ⟨S4x1024x1536, .f32⟩
  | .hbm, ⟨106, _⟩ => ⟨S4x1024x1536, .f32⟩
  | .hbm, ⟨107, _⟩ => ⟨S_, .f32⟩
  | .hbm, ⟨108, _⟩ => ⟨S4x1024x1536, .f32⟩
  | .hbm, ⟨109, _⟩ => ⟨S4x1024x1536, .f32⟩
  | .hbm, ⟨110, _⟩ => ⟨S4x1024x1536, .f32⟩
  | .hbm, ⟨111, _⟩ => ⟨S_, .f32⟩
  | .hbm, ⟨112, _⟩ => ⟨S4x1024x1536, .f32⟩
  | .hbm, ⟨113, _⟩ => ⟨S4x1024x1536, .f32⟩
  | .hbm, ⟨114, _⟩ => ⟨S4x1024x1536, .f32⟩
  | .hbm, ⟨115, _⟩ => ⟨S_, .f32⟩
  | .hbm, ⟨116, _⟩ => ⟨S4x1024x1536, .f32⟩
  | .hbm, ⟨117, _⟩ => ⟨S4x1024x1536, .f32⟩
  | .hbm, ⟨118, _⟩ => ⟨S4x1024x1536, .f32⟩
  | .hbm, ⟨119, _⟩ => ⟨S_, .f32⟩
  | .hbm, ⟨120, _⟩ => ⟨S4x1024x1536, .f32⟩
  | .hbm, ⟨121, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call3_v0 : Ref sig .tc := ⟨.hbm, 41, rfl⟩
abbrev main_call3_v1 : Ref sig .tc := ⟨.hbm, 42, rfl⟩
abbrev main_call3_cst : Ref sig .tc := ⟨.hbm, 43, rfl⟩
abbrev main_call3_v2 : Ref sig .tc := ⟨.hbm, 44, rfl⟩
abbrev main_call3_v3 : Ref sig .tc := ⟨.hbm, 45, rfl⟩
abbrev main_call3_cst_0 : Ref sig .tc := ⟨.hbm, 46, rfl⟩
abbrev main_call3_v4 : Ref sig .tc := ⟨.hbm, 47, rfl⟩
abbrev main_call3_v5 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_0 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_1 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_2 : Ref sig .tc := ⟨.hbm, 86, rfl⟩
abbrev main_v46 : Ref sig .tc := ⟨.hbm, 87, rfl⟩
abbrev main_v47 : Ref sig .tc := ⟨.hbm, 88, rfl⟩
abbrev main_cst_3 : Ref sig .tc := ⟨.hbm, 89, rfl⟩
abbrev main_v48 : Ref sig .tc := ⟨.hbm, 90, rfl⟩
abbrev main_v49 : Ref sig .tc := ⟨.hbm, 91, rfl⟩
abbrev main_cst_4 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_5 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_6 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_7 : Ref sig .tc := ⟨.hbm, 104, rfl⟩
abbrev main_v59 : Ref sig .tc := ⟨.hbm, 105, rfl⟩
abbrev main_v60 : Ref sig .tc := ⟨.hbm, 106, rfl⟩
abbrev main_cst_8 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_9 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_10 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_11 : Ref sig .tc := ⟨.hbm, 119, rfl⟩
abbrev main_v70 : Ref sig .tc := ⟨.hbm, 120, rfl⟩
abbrev main_v71 : Ref sig .tc := ⟨.hbm, 121, rfl⟩

abbrev nD : Nat := 1
abbrev τ : Topo := Topo.v7x

variable {F : FTy → Type} [FloatOps F]
-- ==== MixKernel.lean ====
abbrev S4096x3080 : Shape := ⟨2, ![4096, 3080]⟩
abbrev S512 : Shape := ⟨1, ![512]⟩
abbrev S4x128x128 : Shape := ⟨3, ![4, 128, 128]⟩
abbrev S4x128 : Shape := ⟨2, ![4, 128]⟩
abbrev S4x1536 : Shape := ⟨2, ![4, 1536]⟩
abbrev S4 : Shape := ⟨1, ![4]⟩
abbrev S128 : Shape := ⟨1, ![128]⟩
abbrev S128x4 : Shape := ⟨2, ![128, 4]⟩
abbrev S1x128x4 : Shape := ⟨3, ![1, 128, 4]⟩
abbrev S_ : Shape := ⟨0, ![]⟩
abbrev S1x128x128 : Shape := ⟨3, ![1, 128, 128]⟩
abbrev S1x4x1536 : Shape := ⟨3, ![1, 4, 1536]⟩
abbrev S1x8x1536 : Shape := ⟨3, ![1, 8, 1536]⟩
abbrev S4096x3200 : Shape := ⟨2, ![4096, 3200]⟩
abbrev S1x512 : Shape := ⟨2, ![1, 512]⟩
abbrev S2x512 : Shape := ⟨2, ![2, 512]⟩
abbrev S1x2x512 : Shape := ⟨3, ![1, 2, 512]⟩
abbrev S1x8x512 : Shape := ⟨3, ![1, 8, 512]⟩
abbrev S1x4x128x128 : Shape := ⟨4, ![1, 4, 128, 128]⟩
abbrev S1x128 : Shape := ⟨2, ![1, 128]⟩
abbrev S3x128 : Shape := ⟨2, ![3, 128]⟩
abbrev S1x3x128 : Shape := ⟨3, ![1, 3, 128]⟩
abbrev S1x8x128 : Shape := ⟨3, ![1, 8, 128]⟩
abbrev S4096x1024 : Shape := ⟨2, ![4096, 1024]⟩
abbrev S32x4x128x128 : Shape := ⟨4, ![32, 4, 128, 128]⟩
abbrev S4096x512 : Shape := ⟨2, ![4096, 512]⟩
abbrev S4096x1536 : Shape := ⟨2, ![4096, 1536]⟩
abbrev S128x3200 : Shape := ⟨2, ![128, 3200]⟩
abbrev S128x1024 : Shape := ⟨2, ![128, 1024]⟩
abbrev S128x512 : Shape := ⟨2, ![128, 512]⟩
abbrev S128x1536 : Shape := ⟨2, ![128, 1536]⟩
abbrev S136x1536 : Shape := ⟨2, ![136, 1536]⟩
abbrev S8x1536 : Shape := ⟨2, ![8, 1536]⟩
abbrev S128x128 : Shape := ⟨2, ![128, 128]⟩
abbrev S128x1 : Shape := ⟨2, ![128, 1]⟩
abbrev S1x1x512 : Shape := ⟨3, ![1, 1, 512]⟩
abbrev S1x1x128x128 : Shape := ⟨4, ![1, 1, 128, 128]⟩
abbrev S1x1x1536 : Shape := ⟨3, ![1, 1, 1536]⟩
abbrev S1x1536 : Shape := ⟨2, ![1, 1536]⟩
abbrev S1x1x128 : Shape := ⟨3, ![1, 1, 128]⟩
abbrev S1 : Shape := ⟨1, ![1]⟩
abbrev S1x1 : Shape := ⟨2, ![1, 1]⟩

abbrev nBuf : Space → Nat
  | .hbm => 50
  | .vmem => 23
  | .smem => 0
  | _ => 0

abbrev bufTy : (tb : Table) → Fin (tcTables nBuf tb) → BufTy
  | .hbm, ⟨0, _⟩ => ⟨S4096x3080, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4x1536, .f32⟩
  | .hbm, ⟨6, _⟩ => ⟨S4, .f32⟩
  | .hbm, ⟨7, _⟩ => ⟨S4, .f32⟩
  | .hbm, ⟨8, _⟩ => ⟨S128, .f32⟩
  | .hbm, ⟨9, _⟩ => ⟨S128x4, .f32⟩
  | .hbm, ⟨10, _⟩ => ⟨S1x128x4, .f32⟩
  | .hbm, ⟨11, _⟩ => ⟨S_, .i32⟩
  | .hbm, ⟨12, _⟩ => ⟨S_, .f32⟩
  | .hbm, ⟨13, _⟩ => ⟨S1x128x128, .f32⟩
  | .hbm, ⟨14, _⟩ => ⟨S1x4x1536, .f32⟩
  | .hbm, ⟨15, _⟩ => ⟨S_, .i32⟩
  | .hbm, ⟨16, _⟩ => ⟨S_, .f32⟩
  | .hbm, ⟨17, _⟩ => ⟨S1x8x1536, .f32⟩
  | .hbm, ⟨18, _⟩ => ⟨S_, .i32⟩
  | .hbm, ⟨19, _⟩ => ⟨S_, .f32⟩
  | .hbm, ⟨20, _⟩ => ⟨S4096x3200, .f32⟩
  | .hbm, ⟨21, _⟩ => ⟨S1x512, .f32⟩
  | .hbm, ⟨22, _⟩ => ⟨S1x512, .f32⟩
  | .hbm, ⟨23, _⟩ => ⟨S2x512, .f32⟩
  | .hbm, ⟨24, _⟩ => ⟨S1x2x512, .f32⟩
  | .hbm, ⟨25, _⟩ => ⟨S_, .i32⟩
  | .hbm, ⟨26, _⟩ => ⟨S_, .f32⟩
  | .hbm, ⟨27, _⟩ => ⟨S1x8x512, .f32⟩
  | .hbm, ⟨28, _⟩ => ⟨S1x4x128x128, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S3x128, .f32⟩
  | .hbm, ⟨39, _⟩ => ⟨S1x3x128, .f32⟩
  | .hbm, ⟨40, _⟩ => ⟨S_, .i32⟩
  | .hbm, ⟨41, _⟩ => ⟨S_, .f32⟩
  | .hbm, ⟨42, _⟩ => ⟨S1x8x128, .f32⟩
  | .hbm, ⟨43, _⟩ => ⟨S4096x1024, .bf16⟩
  | .hbm, ⟨44, _⟩ => ⟨S32x4x128x128, .f32⟩
  | .hbm, ⟨45, _⟩ => ⟨S32x4x128x128, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x1536, .f32⟩
  | .local _ .vmem, ⟨0, _⟩ => ⟨S128x3200, .f32⟩
  | .local _ .vmem, ⟨1, _⟩ => ⟨S128x3200, .f32⟩
  | .local _ .vmem, ⟨2, _⟩ => ⟨S1x8x512, .f32⟩
  | .local _ .vmem, ⟨3, _⟩ => ⟨S1x4x128x128, .f32⟩
  | .local _ .vmem, ⟨4, _⟩ => ⟨S1x128x128, .f32⟩
  | .local _ .vmem, ⟨5, _⟩ => ⟨S1x8x1536, .f32⟩
  | .local _ .vmem, ⟨6, _⟩ => ⟨S1x8x128, .f32⟩
  | .local _ .vmem, ⟨7, _⟩ => ⟨S128x1024, .bf16⟩
  | .local _ .vmem, ⟨8, _⟩ => ⟨S128x1024, .bf16⟩
  | .local _ .vmem, ⟨9, _⟩ => ⟨S1x4x128x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x4x128x128, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x1536, .f32⟩
  | .local _ .vmem, ⟨20, _⟩ => ⟨S128x1536, .f32⟩
  | .local _ .vmem, ⟨21, _⟩ => ⟨S4x128x128, .f32⟩
  | .local _ .vmem, ⟨22, _⟩ => ⟨S136x1536, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_call4_v0 : Ref sig .tc := ⟨.hbm, 30, rfl⟩
abbrev main_v12 : Ref sig .tc := ⟨.hbm, 31, rfl⟩
abbrev main_c_4 : Ref sig .tc := ⟨.hbm, 32, rfl⟩
abbrev main_call5_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_call6_v0 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v20_3 : Ref sig .tc := ⟨.hbm, 46, rfl⟩
abbrev main_v20_4 : Ref sig .tc := ⟨.hbm, 47, rfl⟩
abbrev main_v20_5 : Ref sig .tc := ⟨.hbm, 48, rfl⟩
abbrev main_v20_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S4096x3080 : Shape := ⟨2, ![4096, 3080]⟩
abbrev S512 : Shape := ⟨1, ![512]⟩
abbrev S4x128x128 : Shape := ⟨3, ![4, 128, 128]⟩
abbrev S4x128 : Shape := ⟨2, ![4, 128]⟩
abbrev S4x1536 : Shape := ⟨2, ![4, 1536]⟩
abbrev S4 : Shape := ⟨1, ![4]⟩
abbrev S128 : Shape := ⟨1, ![128]⟩
abbrev S4096x1536 : Shape := ⟨2, ![4096, 1536]⟩
abbrev S_ : Shape := ⟨0, ![]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4 : Shape := ⟨2, ![1, 4]⟩
abbrev S1x4x128 : Shape := ⟨3, ![1, 4, 128]⟩
abbrev S4x1x1 : Shape := ⟨3, ![4, 1, 1]⟩
abbrev S4x1 : Shape := ⟨2, ![4, 1]⟩
abbrev S4x128x1 : Shape := ⟨3, ![4, 128, 1]⟩
abbrev S4x1x128 : Shape := ⟨3, ![4, 1, 128]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S1x1x128 : Shape := ⟨3, ![1, 1, 128]⟩
abbrev S4096x1024 : Shape := ⟨2, ![4096, 1024]⟩

abbrev nBuf : Space → Nat
  | .hbm => 285
  | .vmem => 0
  | .smem => 0
  | _ => 0

abbrev hbmTy0_0 (i : Nat) : BufTy := match i % 128 with
  | 0 => ⟨S4096x3080, .f32⟩
  | 1 => ⟨S512, .f32⟩
  | 2 => ⟨S512, .f32⟩
  | 3 => ⟨S4x128x128, .f32⟩
  | 4 => ⟨S4x128, .f32⟩
  | 5 => ⟨S4x1536, .f32⟩
  | 6 => ⟨S4, .f32⟩
  | 7 => ⟨S4, .f32⟩
  | 8 => ⟨S128, .f32⟩
  | 9 => ⟨S4096x1536, .f32⟩
  | 10 => ⟨S_, .i32⟩
  | 11 => ⟨S_, .f32⟩
  | 12 => ⟨S4099x1536, .f32⟩
  | 13 => ⟨S1x1536, .f32⟩
  | 14 => ⟨S1536, .f32⟩
  | 15 => ⟨S4096x1536, .f32⟩
  | 16 => ⟨S1x1536, .f32⟩
  | 17 => ⟨S4096x1536, .f32⟩
  | 18 => ⟨S4096x1536, .f32⟩
  | 19 => ⟨S1x1536, .f32⟩
  | 20 => ⟨S1536, .f32⟩
  | 21 => ⟨S4096x1536, .f32⟩
  | 22 => ⟨S1x1536, .f32⟩
  | 23 => ⟨S4096x1536, .f32⟩
  | 24 => ⟨S4096x1536, .f32⟩
  | 25 => ⟨S4096x1536, .f32⟩
  | 26 => ⟨S1x1536, .f32⟩
  | 27 => ⟨S1536, .f32⟩
  | 28 => ⟨S4096x1536, .f32⟩
  | 29 => ⟨S1x1536, .f32⟩
  | 30 => ⟨S4096x1536, .f32⟩
  | 31 => ⟨S4096x1536, .f32⟩
  | 32 => ⟨S4096x1536, .f32⟩
  | 33 => ⟨S1x1536, .f32⟩
  | 34 => ⟨S1536, .f32⟩
  | 35 => ⟨S4096x1536, .f32⟩
  | 36 => ⟨S1x1536, .f32⟩
  | 37 => ⟨S4096x1536, .f32⟩
  | 38 => ⟨S4096x1536, .f32⟩
  | 39 => ⟨S4096x1536, .f32⟩
  | 40 => ⟨S4096x1536, .f32⟩
  | 41 => ⟨S4096x1536, .f32⟩
  | 42 => ⟨S_, .f32⟩
  | 43 => ⟨S4096x1536, .f32⟩
  | 44 => ⟨S4096x1536, .f32⟩
  | 45 => ⟨S_, .f32⟩
  | 46 => ⟨S4096x1536, .f32⟩
  | 47 => ⟨S4096x1536, .f32⟩
  | 48 => ⟨S4096x1536, .f32⟩
  | 49 => ⟨S4096x512, .f32⟩
  | 50 => ⟨S4096x4x128, .f32⟩
  | 51 => ⟨S4096x4x128, .f32⟩
  | 52 => ⟨S_, .f32⟩
  | 53 => ⟨S4096x4, .f32⟩
  | 54 => ⟨S4096x4x1, .f32⟩
  | 55 => ⟨S_, .f32⟩
  | 56 => ⟨S4096x4x1, .f32⟩
  | 57 => ⟨S4096x4x1, .f32⟩
  | 58 => ⟨S4096x4x1, .f32⟩
  | 59 => ⟨S4096x4x128, .f32⟩
  | 60 => ⟨S4096x4x128, .f32⟩
  | 61 => ⟨S_, .f32⟩
  | 62 => ⟨S4096x4x128, .f32⟩
  | 63 => ⟨S4096x4x128, .f32⟩
  | 64 => ⟨S4096x512, .f32⟩
  | 65 => ⟨S4096x4x128, .f32⟩
  | 66 => ⟨S4096x4x128, .f32⟩
  | 67 => ⟨S_, .f32⟩
  | 68 => ⟨S4096x4, .f32⟩
  | 69 => ⟨S4096x4x1, .f32⟩
  | 70 => ⟨S_, .f32⟩
  | 71 => ⟨S4096x4x1, .f32⟩
  | 72 => ⟨S4096x4x1, .f32⟩
  | 73 => ⟨S4096x4x1, .f32⟩
  | 74 => ⟨S4096x4x128, .f32⟩
  | 75 => ⟨S4096x4x128, .f32⟩
  | 76 => ⟨S4096x4, .f32⟩
  | 77 => ⟨S4096x4, .f32⟩
  | 78 => ⟨S4096x4, .f32⟩
  | 79 => ⟨S_, .f32⟩
  | 80 => ⟨S4096x4, .f32⟩
  | 81 => ⟨S4096x4, .f32⟩
  | 82 => ⟨S_, .f32⟩
  | 83 => ⟨S4096x4, .f32⟩
  | 84 => ⟨S4096x4, .f32⟩
  | 85 => ⟨S4, .f32⟩
  | 86 => ⟨S4, .f32⟩
  | 87 => ⟨S4096x4, .f32⟩
  | 88 => ⟨S1x4, .f32⟩
  | 89 => ⟨S4096x4, .f32⟩
  | 90 => ⟨S4096x4, .f32⟩
  | 91 => ⟨S_, .f32⟩
  | 92 => ⟨S4096x4, .f32⟩
  | 93 => ⟨S4096x4, .f32⟩
  | 94 => ⟨S4096x4, .f32⟩
  | 95 => ⟨S4096x4, .f32⟩
  | 96 => ⟨S4096x4, .i1⟩
  | 97 => ⟨S4096x4, .f32⟩
  | 98 => ⟨S4096x4, .f32⟩
  | 99 => ⟨S4096x4, .f32⟩
  | 100 => ⟨S4096x4, .f32⟩
  | 101 => ⟨S4096x4, .f32⟩
  | 102 => ⟨S4096x4, .f32⟩
  | 103 => ⟨S4096x4, .f32⟩
  | 104 => ⟨S4096x4, .f32⟩
  | 105 => ⟨S1x4, .f32⟩
  | 106 => ⟨S4096x4, .f32⟩
  | 107 => ⟨S4096x4, .f32⟩
  | 108 => ⟨S4096x512, .f32⟩
  | 109 => ⟨S4096x4x128, .f32⟩
  | 110 => ⟨S_, .f32⟩
  | 111 => ⟨S4x128x128, .f32⟩
  | 112 => ⟨S_, .f32⟩
  | 113 => ⟨S4096x4x128, .f32⟩
  | 114 => ⟨S_, .i32⟩
  | 115 => ⟨S4096x4x128, .f32⟩
  | 116 => ⟨S4096x4x128, .f32⟩
  | 117 => ⟨S4096x4x128, .f32⟩
  | 118 => ⟨S4096x4, .f32⟩
  | 119 => ⟨S4096x4, .f32⟩
  | 120 => ⟨S_, .i32⟩
  | 121 => ⟨S4x128x128, .f32⟩
  | 122 => ⟨S4096x4x128, .f32⟩
  | 123 => ⟨S_, .i32⟩
  | 124 => ⟨S_, .i1⟩
  | 125 => ⟨S_, .i32⟩
  | 126 => ⟨S_, .i32⟩
  | 127 => ⟨S1x4x128, .f32⟩
  | _ => ⟨S4096x3080, .f32⟩

abbrev hbmTy0_1 (i : Nat) : BufTy := match i % 128 with
  | 0 => ⟨S4x128, .f32⟩
  | 1 => ⟨S_, .i32⟩
  | 2 => ⟨S_, .i32⟩
  | 3 => ⟨S1x4x128, .f32⟩
  | 4 => ⟨S4x128, .f32⟩
  | 5 => ⟨S_, .i32⟩
  | 6 => ⟨S_, .i32⟩
  | 7 => ⟨S1x4x128, .f32⟩
  | 8 => ⟨S4x128, .f32⟩
  | 9 => ⟨S_, .i32⟩
  | 10 => ⟨S1x4, .f32⟩
  | 11 => ⟨S4, .f32⟩
  | 12 => ⟨S_, .i32⟩
  | 13 => ⟨S1x4, .f32⟩
  | 14 => ⟨S4, .f32⟩
  | 15 => ⟨S4, .f32⟩
  | 16 => ⟨S4x1x1, .f32⟩
  | 17 => ⟨S4x128x128, .f32⟩
  | 18 => ⟨S4x128x128, .f32⟩
  | 19 => ⟨S4x1, .f32⟩
  | 20 => ⟨S4x128, .f32⟩
  | 21 => ⟨S4x128, .f32⟩
  | 22 => ⟨S4x128, .f32⟩
  | 23 => ⟨S4x128, .f32⟩
  | 24 => ⟨S4x128x1, .f32⟩
  | 25 => ⟨S4x1x128, .f32⟩
  | 26 => ⟨S4x128x128, .f32⟩
  | 27 => ⟨S4x128x128, .f32⟩
  | 28 => ⟨S4x128x128, .f32⟩
  | 29 => ⟨S4x128x128, .f32⟩
  | 30 => ⟨S4x128, .f32⟩
  | 31 => ⟨S1x4x128, .f32⟩
  | 32 => ⟨S_, .i32⟩
  | 33 => ⟨S_, .i32⟩
  | 34 => ⟨S4096x4x128, .f32⟩
  | 35 => ⟨S_, .i32⟩
  | 36 => ⟨S_, .i32⟩
  | 37 => ⟨S4096x512, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x512, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S4096x512, .f32⟩
  | 80 => ⟨S4096x512, .f32⟩
  | 81 => ⟨S4096x512, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1, .f32⟩
  | 92 => ⟨S4096x512, .f32⟩
  | 93 => ⟨S4096x512, .f32⟩
  | 94 => ⟨S1x512, .f32⟩
  | 95 => ⟨S4096x512, .f32⟩
  | 96 => ⟨S4096x512, .f32⟩
  | 97 => ⟨S1x512, .f32⟩
  | 98 => ⟨S4096x512, .f32⟩
  | 99 => ⟨S4096x512, .f32⟩
  | 100 => ⟨S32x128x4x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S_, .f32⟩
  | 113 => ⟨S_, .f32⟩
  | 114 => ⟨S4x128x128, .i1⟩
  | 115 => ⟨S4x128x128, .f32⟩
  | 116 => ⟨S4x128x128, .f32⟩
  | 117 => ⟨S4x32x128x128, .f32⟩
  | 118 => ⟨S32x128x4x128, .f32⟩
  | 119 => ⟨S128x4, .f32⟩
  | 120 => ⟨S1x128x4x1, .f32⟩
  | 121 => ⟨S32x128x4x128, .f32⟩
  | 122 => ⟨S32x128x4x128, .f32⟩
  | 123 => ⟨S4096x512, .f32⟩
  | 124 => ⟨S4096x512, .f32⟩
  | 125 => ⟨S4096x4x128, .f32⟩
  | 126 => ⟨S_, .f32⟩
  | 127 => ⟨S4096x4, .f32⟩
  | _ => ⟨S4096x3080, .f32⟩

abbrev hbmTy0_2 (i : Nat) : BufTy := match i % 128 with
  | 0 => ⟨S4096x4x1, .f32⟩
  | 1 => ⟨S_, .f32⟩
  | 2 => ⟨S4096x4x1, .f32⟩
  | 3 => ⟨S4096x4x1, .f32⟩
  | 4 => ⟨S_, .f32⟩
  | 5 => ⟨S4096x4x1, .f32⟩
  | 6 => ⟨S4096x4x1, .f32⟩
  | 7 => ⟨S4096x4x1, .f32⟩
  | 8 => ⟨S4096x4x128, .f32⟩
  | 9 => ⟨S4096x4x128, .f32⟩
  | 10 => ⟨S1x1x128, .f32⟩
  | 11 => ⟨S4096x4x128, .f32⟩
  | 12 => ⟨S4096x4x128, .f32⟩
  | 13 => ⟨S4096x512, .f32⟩
  | 14 => ⟨S4096x4x128, .f32⟩
  | 15 => ⟨S4096x4x128, .f32⟩
  | 16 => ⟨S4096x4x128, .f32⟩
  | 17 => ⟨S_, .f32⟩
  | 18 => ⟨S4096x4x128, .f32⟩
  | 19 => ⟨S4096x4x128, .f32⟩
  | 20 => ⟨S_, .f32⟩
  | 21 => ⟨S4096x4x128, .f32⟩
  | 22 => ⟨S4096x4x128, .f32⟩
  | 23 => ⟨S4096x4x128, .f32⟩
  | 24 => ⟨S4096x4x128, .f32⟩
  | 25 => ⟨S4096x512, .f32⟩
  | 26 => ⟨S4096x1024, .f32⟩
  | 27 => ⟨S4096x1024, .bf16⟩
  | 28 => ⟨S4096x512, .f32⟩
  | _ => ⟨S4096x3080, .f32⟩

abbrev hbmTy (i : Nat) : BufTy := match i / 128 with
  | 0 => hbmTy0_0 i
  | 1 => hbmTy0_1 i
  | 2 => hbmTy0_2 i
  | _ => ⟨S4096x3080, .f32⟩

abbrev bufTy : (tb : Table) → Fin (tcTables nBuf tb) → BufTy
  | .hbm, ⟨i, _⟩ => hbmTy i
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_2 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_4 : Ref sig .tc := ⟨.hbm, 79, rfl⟩
abbrev main_v55 : Ref sig .tc := ⟨.hbm, 80, rfl⟩
abbrev main_v56 : Ref sig .tc := ⟨.hbm, 81, rfl⟩
abbrev main_cst_5 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_6 : Ref sig .tc := ⟨.hbm, 110, rfl⟩
abbrev main_v71 : Ref sig .tc := ⟨.hbm, 111, rfl⟩
abbrev main_cst_7 : Ref sig .tc := ⟨.hbm, 112, rfl⟩
abbrev main_v72 : Ref sig .tc := ⟨.hbm, 113, rfl⟩
abbrev main_c_8 : Ref sig .tc := ⟨.hbm, 114, rfl⟩
abbrev main_v73_0 : Ref sig .tc := ⟨.hbm, 115, rfl⟩
abbrev main_v73_1 : Ref sig .tc := ⟨.hbm, 116, rfl⟩
abbrev main_v73_2 : Ref sig .tc := ⟨.hbm, 117, rfl⟩
abbrev main_v73_3 : Ref sig .tc := ⟨.hbm, 118, rfl⟩
abbrev main_v73_4 : Ref sig .tc := ⟨.hbm, 119, rfl⟩
abbrev main_v73_5 : Ref sig .tc := ⟨.hbm, 120, rfl⟩
abbrev main_v73_6 : Ref sig .tc := ⟨.hbm, 121, rfl⟩
abbrev main_v73_7 : Ref sig .tc := ⟨.hbm, 122, rfl⟩
abbrev main_while0c_c_34 : Ref sig .tc := ⟨.hbm, 123, rfl⟩
abbrev main_while0c_v157 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_v0 : Ref sig .tc := ⟨.hbm, 127, rfl⟩
abbrev main_while0b_v157 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_v0 : Ref sig .tc := ⟨.hbm, 131, rfl⟩
abbrev main_while0b_v158 : Ref sig .tc := ⟨.hbm, 132, rfl⟩
abbrev main_while0b_call5_c : Ref sig .tc := ⟨.hbm, 133, rfl⟩
abbrev main_while0b_call5_c_0 : Ref sig .tc := ⟨.hbm, 134, rfl⟩
abbrev main_while0b_call5_v0 : Ref sig .tc := ⟨.hbm, 135, rfl⟩
abbrev main_while0b_v159 : Ref sig .tc := ⟨.hbm, 136, rfl⟩
abbrev main_while0b_call6_c : Ref sig .tc := ⟨.hbm, 137, rfl⟩
abbrev main_while0b_call6_v0 : Ref sig .tc := ⟨.hbm, 138, rfl⟩
abbrev main_while0b_v160 : Ref sig .tc := ⟨.hbm, 139, rfl⟩
abbrev main_while0b_call7_c : Ref sig .tc := ⟨.hbm, 140, rfl⟩
abbrev main_while0b_call7_v0 : Ref sig .tc := ⟨.hbm, 141, rfl⟩
abbrev main_while0b_v161 : Ref sig .tc := ⟨.hbm, 142, rfl⟩
abbrev main_while0b_v162 : Ref sig .tc := ⟨.hbm, 143, rfl⟩
abbrev main_while0b_v163 : Ref sig .tc := ⟨.hbm, 144, rfl⟩
abbrev main_while0b_v164 : Ref sig .tc := ⟨.hbm, 145, rfl⟩
abbrev main_while0b_v165 : Ref sig .tc := ⟨.hbm, 146, rfl⟩
abbrev main_while0b_v166 : Ref sig .tc := ⟨.hbm, 147, rfl⟩
abbrev main_while0b_v167 : Ref sig .tc := ⟨.hbm, 148, rfl⟩
abbrev main_while0b_v168 : Ref sig .tc := ⟨.hbm, 149, rfl⟩
abbrev main_while0b_v169 : Ref sig .tc := ⟨.hbm, 150, rfl⟩
abbrev main_while0b_v170 : Ref sig .tc := ⟨.hbm, 151, rfl⟩
abbrev main_while0b_v171 : Ref sig .tc := ⟨.hbm, 152, rfl⟩
abbrev main_while0b_v172 : Ref sig .tc := ⟨.hbm, 153, rfl⟩
abbrev main_while0b_v173 : Ref sig .tc := ⟨.hbm, 154, rfl⟩
abbrev main_while0b_v174 : Ref sig .tc := ⟨.hbm, 155, rfl⟩
abbrev main_while0b_v175 : Ref sig .tc := ⟨.hbm, 156, rfl⟩
abbrev main_while0b_v176 : Ref sig .tc := ⟨.hbm, 157, rfl⟩
abbrev main_while0b_v177 : Ref sig .tc := ⟨.hbm, 158, rfl⟩
abbrev main_while0b_call8_v0 : Ref sig .tc := ⟨.hbm, 159, rfl⟩
abbrev main_while0b_call8_c : Ref sig .tc := ⟨.hbm, 160, rfl⟩
abbrev main_while0b_call8_c_0 : Ref sig .tc := ⟨.hbm, 161, rfl⟩
abbrev main_while0b_v178 : Ref sig .tc := ⟨.hbm, 162, rfl⟩
abbrev main_while0b_c_34 : Ref sig .tc := ⟨.hbm, 163, rfl⟩
abbrev main_while0b_v179 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_cst_9 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_cst_10 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_cst_11 : Ref sig .tc := ⟨.hbm, 176, rfl⟩
abbrev main_v83 : Ref sig .tc := ⟨.hbm, 177, rfl⟩
abbrev main_v84 : Ref sig .tc := ⟨.hbm, 178, rfl⟩
abbrev main_cst_12 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_cst_13 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_cst_14 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_cst_15 : Ref sig .tc := ⟨.hbm, 194, rfl⟩
abbrev main_v97 : Ref sig .tc := ⟨.hbm, 195, rfl⟩
abbrev main_v98 : Ref sig .tc := ⟨.hbm, 196, rfl⟩
abbrev main_cst_16 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_cst_17 : Ref sig .tc := ⟨.hbm, 201, rfl⟩
abbrev main_v102 : Ref sig .tc := ⟨.hbm, 202, rfl⟩
abbrev main_v103 : Ref sig .tc := ⟨.hbm, 203, rfl⟩
abbrev main_cst_18 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_cst_19 : Ref sig .tc := ⟨.hbm, 210, rfl⟩
abbrev main_v109 : Ref sig .tc := ⟨.hbm, 211, rfl⟩
abbrev main_v110 : Ref sig .tc := ⟨.hbm, 212, rfl⟩
abbrev main_cst_20 : Ref sig .tc := ⟨.hbm, 213, rfl⟩
abbrev main_v111 : Ref sig .tc := ⟨.hbm, 214, rfl⟩
abbrev main_v112 : Ref sig .tc := ⟨.hbm, 215, rfl⟩
abbrev main_cst_21 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_c_22 : Ref sig .tc := ⟨.hbm, 229, rfl⟩
abbrev main_v125 : Ref sig .tc := ⟨.hbm, 230, rfl⟩
abbrev main_call9_v0 : Ref sig .tc := ⟨.hbm, 231, rfl⟩
abbrev main_call9_c : Ref sig .tc := ⟨.hbm, 232, rfl⟩
abbrev main_call9_v1 : Ref sig .tc := ⟨.hbm, 233, rfl⟩
abbrev main_call9_v2 : Ref sig .tc := ⟨.hbm, 234, rfl⟩
abbrev main_call9_v3 : Ref sig .tc := ⟨.hbm, 235, rfl⟩
abbrev main_call9_v4 : Ref sig .tc := ⟨.hbm, 236, rfl⟩
abbrev main_call9_c_0 : Ref sig .tc := ⟨.hbm, 237, rfl⟩
abbrev main_call9_v5 : Ref sig .tc := ⟨.hbm, 238, rfl⟩
abbrev main_v126 : Ref sig .tc := ⟨.hbm, 239, rfl⟩
abbrev main_cst_23 : Ref sig .tc := ⟨.hbm, 240, rfl⟩
abbrev main_call10_v0 : Ref sig .tc := ⟨.hbm, 241, rfl⟩
abbrev main_call10_v1 : Ref sig .tc := ⟨.hbm, 242, rfl⟩
abbrev main_call10_v2 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_cst_24 : Ref sig .tc := ⟨.hbm, 254, rfl⟩
abbrev main_v137 : Ref sig .tc := ⟨.hbm, 255, rfl⟩
abbrev main_v138 : Ref sig .tc := ⟨.hbm, 256, rfl⟩
abbrev main_cst_25 : Ref sig .tc := ⟨.hbm, 257, rfl⟩
abbrev main_v139 : Ref sig .tc := ⟨.hbm, 258, rfl⟩
abbrev main_v140 : Ref sig .tc := ⟨.hbm, 259, rfl⟩
abbrev main_cst_26 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_call11_v0 : Ref sig .tc := ⟨.hbm, 271, rfl⟩
abbrev main_call11_v1 : Ref sig .tc := ⟨.hbm, 272, rfl⟩
abbrev main_call11_cst : Ref sig .tc := ⟨.hbm, 273, rfl⟩
abbrev main_call11_v2 : Ref sig .tc := ⟨.hbm, 274, rfl⟩
abbrev main_call11_v3 : Ref sig .tc := ⟨.hbm, 275, rfl⟩
abbrev main_call11_cst_0 : Ref sig .tc := ⟨.hbm, 276, rfl⟩
abbrev main_call11_v4 : Ref sig .tc := ⟨.hbm, 277, rfl⟩
abbrev main_call11_v5 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_v156 : Ref sig .tc := ⟨.hbm, 284, rfl⟩

abbrev nD : Nat := 1
abbrev τ : Topo := Topo.v7x

variable {F : FTy → Type} [FloatOps F]

abbrev main_while0_count : Scf.Loop 32 := ⟨0#32, 4096#32, 1#32⟩
-- ==== FwdFfKernel.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1x1024 : Shape := ⟨3, ![1, 1, 1024]⟩
abbrev S1x8x1024 : Shape := ⟨3, ![1, 8, 1024]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S1x1x1024, .f32⟩
  | .hbm, ⟨9, _⟩ => ⟨S_, .i32⟩
  | .hbm, ⟨10, _⟩ => ⟨S_, .f32⟩
  | .hbm, ⟨11, _⟩ => ⟨S1x8x1024, .f32⟩
  | .hbm, ⟨12, _⟩ => ⟨S4x1024x1024, .f32⟩
  | .hbm, ⟨13, _⟩ => ⟨S4x1024x1024, .bf16⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1x8x1024, .f32⟩
  | .local _ .vmem, ⟨5, _⟩ => ⟨S4x1024x1024, .bf16⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdFfReferenceIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== FwdInKernel.lean ====
abbrev S4096x1024 : Shape := ⟨2, ![4096, 1024]⟩
abbrev S1024 : Shape := ⟨1, ![1024]⟩
abbrev S1024x3080 : Shape := ⟨2, ![1024, 3080]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1x8x1024 : Shape := ⟨3, ![1, 8, 1024]⟩
abbrev S1024x3200 : Shape := ⟨2, ![1024, 3200]⟩
abbrev S4096x3200 : Shape := ⟨2, ![4096, 3200]⟩
abbrev S512x1024 : Shape := ⟨2, ![512, 1024]⟩
abbrev S512x3200 : Shape := ⟨2, ![512, 3200]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3080, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S8x1024, .f32⟩
  | .hbm, ⟨13, _⟩ => ⟨S1x8x1024, .f32⟩
  | .hbm, ⟨14, _⟩ => ⟨S_, .i32⟩
  | .hbm, ⟨15, _⟩ => ⟨S_, .f32⟩
  | .hbm, ⟨16, _⟩ => ⟨S1024x3200, .f32⟩
  | .hbm, ⟨17, _⟩ => ⟨S1024x3200, .bf16⟩
  | .hbm, ⟨18, _⟩ => ⟨S4096x3200, .f32⟩
  | .hbm, ⟨19, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInReferenceIdeal.lean ====
abbrev S4096x1024 : Shape := ⟨2, ![4096, 1024]⟩
abbrev S1024 : Shape := ⟨1, ![1024]⟩
abbrev S1024x3080 : Shape := ⟨2, ![1024, 3080]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3080 : Shape := ⟨2, ![4096, 3080]⟩
abbrev S4096x3200 : Shape := ⟨2, ![4096, 3200]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3080, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x3080, .f32⟩
  | .hbm, ⟨31, _⟩ => ⟨S_, .i32⟩
  | .hbm, ⟨32, _⟩ => ⟨S_, .f32⟩
  | .hbm, ⟨33, _⟩ => ⟨S4096x3200, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== FwdOutKernel.lean ====
abbrev S4096x1024 : Shape := ⟨2, ![4096, 1024]⟩
abbrev S1024 : Shape := ⟨1, ![1024]⟩
abbrev S1024x1024 : Shape := ⟨2, ![1024, 1024]⟩
abbrev S1024x4096 : Shape := ⟨2, ![1024, 4096]⟩
abbrev S_ : Shape := ⟨0, ![]⟩
abbrev S2x1024 : Shape := ⟨2, ![2, 1024]⟩
abbrev S1x1024 : Shape := ⟨2, ![1, 1024]⟩
abbrev S8x1024 : Shape := ⟨2, ![8, 1024]⟩
abbrev S1x8x1024 : Shape := ⟨3, ![1, 8, 1024]⟩
abbrev S1024x4x1024 : Shape := ⟨3, ![1024, 4, 1024]⟩
abbrev S4x1024x1024 : Shape := ⟨3, ![4, 1024, 1024]⟩
abbrev S4x256x1024 : Shape := ⟨3, ![4, 256, 1024]⟩
abbrev S4096x4096 : Shape := ⟨2, ![4096, 4096]⟩
abbrev S512x1024 : Shape := ⟨2, ![512, 1024]⟩
abbrev S512x4096 : Shape := ⟨2, ![512, 4096]⟩
abbrev S1x1x1024 : Shape := ⟨3, ![1, 1, 1024]⟩
abbrev S512 : Shape := ⟨1, ![512]⟩
abbrev S512x1 : Shape := ⟨2, ![512, 1]⟩
abbrev S1x1024x1024 : Shape := ⟨3, ![1, 1024, 1024]⟩

abbrev nBuf : Space → Nat
  | .hbm => 27
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S_, .f32⟩
  | .hbm, ⟨9, _⟩ => ⟨S2x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S2x1024, .f32⟩
  | .hbm, ⟨15, _⟩ => ⟨S1x1024, .f32⟩
  | .hbm, ⟨16, _⟩ => ⟨S8x1024, .f32⟩
  | .hbm, ⟨17, _⟩ => ⟨S1x8x1024, .f32⟩
  | .hbm, ⟨18, _⟩ => ⟨S1024x4x1024, .f32⟩
  | .hbm, ⟨19, _⟩ => ⟨S4x1024x1024, .f32⟩
  | .hbm, ⟨20, _⟩ => ⟨S4x1024x1024, .bf16⟩
  | .hbm, ⟨21, _⟩ => ⟨S4x256x1024, .f32⟩
  | .hbm, ⟨22, _⟩ => ⟨S4x256x1024, .bf16⟩
  | .hbm, ⟨23, _⟩ => ⟨S4096x1024, .bf16⟩
  | .hbm, ⟨24, _⟩ => ⟨S4096x1024, .f32⟩
  | .hbm, ⟨25, _⟩ => ⟨S4096x4096, .bf16⟩
  | .hbm, ⟨26, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x8x1024, .f32⟩
  | .local _ .vmem, ⟨5, _⟩ => ⟨S4x256x1024, .bf16⟩
  | .local _ .vmem, ⟨6, _⟩ => ⟨S4x1024x1024, .bf16⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdOutReferenceIdeal.lean ====
abbrev S4096x1024 : Shape := ⟨2, ![4096, 1024]⟩
abbrev S1024 : Shape := ⟨1, ![1024]⟩
abbrev S1024x1024 : Shape := ⟨2, ![1024, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .bf16⟩
  | .hbm, ⟨43, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== ModKernel.lean ====
abbrev S8x1024 : Shape := ⟨2, ![8, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x8x1536 : Shape := ⟨3, ![4, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S8x1024 : Shape := ⟨2, ![8, 1024]⟩
abbrev S4x1024x1536 : Shape := ⟨3, ![4, 1024, 1536]⟩
abbrev S4x1536 : Shape := ⟨2, ![4, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1536 : Shape := ⟨2, ![1, 1536]⟩
abbrev S1536 : Shape := ⟨1, ![1536]⟩
abbrev S1x8x1536 : Shape := ⟨3, ![1, 8, 1536]⟩
abbrev S4x8x1536 : Shape := ⟨3, ![4, 8, 1536]⟩

abbrev nBuf : Space → Nat
  | .hbm => 76
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S8x1536, .f32⟩
  | .hbm, ⟨19, _⟩ => ⟨S8x1536, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x1536, .f32⟩
  | .hbm, ⟨30, _⟩ => ⟨S1024x1536, .f32⟩
  | .hbm, ⟨31, _⟩ => ⟨S8x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S8x1536, .f32⟩
  | .hbm, ⟨36, _⟩ => ⟨S8x1536, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S1x1024x1536, .f32⟩
  | .hbm, ⟨47, _⟩ => ⟨S1024x1536, .f32⟩
  | .hbm, ⟨48, _⟩ => ⟨S8x1536, .f32⟩
  | .hbm, ⟨49, _⟩ => ⟨S1x1536, .f32⟩
  | .hbm, ⟨50, _⟩ => ⟨S1536, .f32⟩
  | .hbm, ⟨51, _⟩ => ⟨S1x1536, .f32⟩
  | .hbm, ⟨52, _⟩ => ⟨S8x1536, .f32⟩
  | .hbm, ⟨53, _⟩ => ⟨S8x1536, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8x1024, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S8x1024, .f32⟩
  | .hbm, ⟨62, _⟩ => ⟨S8x1024, .f32⟩
  | .hbm, ⟨63, _⟩ => ⟨S1x1024x1536, .f32⟩
  | .hbm, ⟨64, _⟩ => ⟨S1024x1536, .f32⟩
  | .hbm, ⟨65, _⟩ => ⟨S8x1536, .f32⟩
  | .hbm, ⟨66, _⟩ => ⟨S1x1536, .f32⟩
  | .hbm, ⟨67, _⟩ => ⟨S1536, .f32⟩
  | .hbm, ⟨68, _⟩ => ⟨S1x1536, .f32⟩
  | .hbm, ⟨69, _⟩ => ⟨S8x1536, .f32⟩
  | .hbm, ⟨70, _⟩ => ⟨S8x1536, .f32⟩
  | .hbm, ⟨71, _⟩ => ⟨S1x8x1536, .f32⟩
  | .hbm, ⟨72, _⟩ => ⟨S1x8x1536, .f32⟩
  | .hbm, ⟨73, _⟩ => ⟨S1x8x1536, .f32⟩
  | .hbm, ⟨74, _⟩ => ⟨S1x8x1536, .f32⟩
  | .hbm, ⟨75, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== WeightKernel.lean ====
abbrev S4096x1024 : Shape := ⟨2, ![4096, 1024]⟩
abbrev S4096x4096 : Shape := ⟨2, ![4096, 4096]⟩
abbrev S_ : Shape := ⟨0, ![]⟩
abbrev S1x8x1024 : Shape := ⟨3, ![1, 8, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S_, .f32⟩
  | .hbm, ⟨5, _⟩ => ⟨S1x8x1024, .f32⟩
  | .hbm, ⟨6, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x8x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WeightReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== StepKernel.lean ====
abbrev S4x1024x1024 : Shape := ⟨3, ![4, 1024, 1024]⟩
abbrev S1x512x1024 : Shape := ⟨3, ![1, 512, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== StepReferenceIdeal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmallKernel.lean ====
abbrev S4x432x1024 : Shape := ⟨3, ![4, 432, 1024]⟩
abbrev S376x1024 : Shape := ⟨2, ![376, 1024]⟩
abbrev S1x376x1024 : Shape := ⟨3, ![1, 376, 1024]⟩
abbrev S24x1024 : Shape := ⟨2, ![24, 1024]⟩
abbrev S1x24x1024 : Shape := ⟨3, ![1, 24, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x432x1024, .f32⟩
  | .hbm, ⟨1, _⟩ => ⟨S376x1024, .f32⟩
  | .hbm, ⟨2, _⟩ => ⟨S376x1024, .f32⟩
  | .hbm, ⟨3, _⟩ => ⟨S376x1024, .f32⟩
  | .hbm, ⟨4, _⟩ => ⟨S376x1024, .f32⟩
  | .hbm, ⟨5, _⟩ => ⟨S376x1024, .f32⟩
  | .hbm, ⟨6, _⟩ => ⟨S376x1024, .f32⟩
  | .hbm, ⟨7, _⟩ => ⟨S376x1024, .f32⟩
  | .local _ .vmem, ⟨0, _⟩ => ⟨S4x432x1024, .f32⟩
  | .local _ .vmem, ⟨1, _⟩ => ⟨S376x1024, .f32⟩
  | .local _ .vmem, ⟨2, _⟩ => ⟨S376x1024, .f32⟩
  | .local _ .vmem, ⟨3, _⟩ => ⟨S376x1024, .f32⟩
  | .local _ .vmem, ⟨4, _⟩ => ⟨S376x1024, .f32⟩
  | .local _ .vmem, ⟨5, _⟩ => ⟨S376x1024, .f32⟩
  | .local _ .vmem, ⟨6, _⟩ => ⟨S376x1024, .f32⟩
  | .local _ .vmem, ⟨7, _⟩ => ⟨S376x1024, .f32⟩
  | _, _ => ⟨S4x432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x432x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S376x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S376x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S376x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S376x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S376x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S376x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S376x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallReferenceIdeal.lean ====
abbrev S4x432x1024 : Shape := ⟨3, ![4, 432, 1024]⟩
abbrev S376x1024 : Shape := ⟨2, ![376, 1024]⟩
abbrev S4x48x1024 : Shape := ⟨3, ![4, 48, 1024]⟩
abbrev S8x24x1024 : Shape := ⟨3, ![8, 24, 1024]⟩
abbrev S_ : Shape := ⟨0, ![]⟩
abbrev S24x1024 : Shape := ⟨2, ![24, 1024]⟩
abbrev S4x352x1024 : Shape := ⟨3, ![4, 352, 1024]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x432x1024, .f32⟩
  | .hbm, ⟨1, _⟩ => ⟨S376x1024, .f32⟩
  | .hbm, ⟨2, _⟩ => ⟨S376x1024, .f32⟩
  | .hbm, ⟨3, _⟩ => ⟨S376x1024, .f32⟩
  | .hbm, ⟨4, _⟩ => ⟨S4x48x1024, .f32⟩
  | .hbm, ⟨5, _⟩ => ⟨S8x24x1024, .f32⟩
  | .hbm, ⟨6, _⟩ => ⟨S_, .f32⟩
  | .hbm, ⟨7, _⟩ => ⟨S24x1024, .f32⟩
  | .hbm, ⟨8, _⟩ => ⟨S4x352x1024, .f32⟩
  | .hbm, ⟨9, _⟩ => ⟨S_, .f32⟩
  | .hbm, ⟨10, _⟩ => ⟨S352x1024, .f32⟩
  | .hbm, ⟨11, _⟩ => ⟨S376x1024, .f32⟩
  | .hbm, ⟨12, _⟩ => ⟨S_, .f32⟩
  | .hbm, ⟨13, _⟩ => ⟨S376x1024, .f32⟩
  | .hbm, ⟨14, _⟩ => ⟨S376x1024, .f32⟩
  | .hbm, ⟨15, _⟩ => ⟨S_, .f32⟩
  | .hbm, ⟨16, _⟩ => ⟨S376x1024, .f32⟩
  | .hbm, ⟨17, _⟩ => ⟨S376x1024, .f32⟩
  | .hbm, ⟨18, _⟩ => ⟨S376x1024, .f32⟩
  | .hbm, ⟨19, _⟩ => ⟨S_, .f32⟩
  | .hbm, ⟨20, _⟩ => ⟨S376x1024, .f32⟩
  | .hbm, ⟨21, _⟩ => ⟨S376x1024, .f32⟩
  | .hbm, ⟨22, _⟩ => ⟨S376x1024, .f32⟩
  | .hbm, ⟨23, _⟩ => ⟨S_, .f32⟩
  | .hbm, ⟨24, _⟩ => ⟨S376x1024, .f32⟩
  | .hbm, ⟨25, _⟩ => ⟨S376x1024, .f32⟩
  | .hbm, ⟨26, _⟩ => ⟨S376x1024, .f32⟩
  | .hbm, ⟨27, _⟩ => ⟨S_, .f32⟩
  | .hbm, ⟨28, _⟩ => ⟨S376x1024, .f32⟩
  | .hbm, ⟨29, _⟩ => ⟨S376x1024, .f32⟩
  | .hbm, ⟨30, _⟩ => ⟨S_, .f32⟩
  | .hbm, ⟨31, _⟩ => ⟨S376x1024, .f32⟩
  | .hbm, ⟨32, _⟩ => ⟨S376x1024, .f32⟩
  | .hbm, ⟨33, _⟩ => ⟨S376x1024, .f32⟩
  | .hbm, ⟨34, _⟩ => ⟨S_, .f32⟩
  | .hbm, ⟨35, _⟩ => ⟨S376x1024, .f32⟩
  | .hbm, ⟨36, _⟩ => ⟨S376x1024, .f32⟩
  | .hbm, ⟨37, _⟩ => ⟨S376x1024, .f32⟩
  | .hbm, ⟨38, _⟩ => ⟨S_, .f32⟩
  | .hbm, ⟨39, _⟩ => ⟨S376x1024, .f32⟩
  | .hbm, ⟨40, _⟩ => ⟨S376x1024, .f32⟩
  | .hbm, ⟨41, _⟩ => ⟨S376x1024, .f32⟩
  | .hbm, ⟨42, _⟩ => ⟨S_, .f32⟩
  | .hbm, ⟨43, _⟩ => ⟨S376x1024, .f32⟩
  | .hbm, ⟨44, _⟩ => ⟨S376x1024, .f32⟩
  | _, _ => ⟨S4x432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== SpatialKernel.lean ====
abbrev S4096x3080 : Shape := ⟨2, ![4096, 3080]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S4x1536 : Shape := ⟨2, ![4, 1536]⟩
abbrev S4 : Shape := ⟨1, ![4]⟩
abbrev S128 : Shape := ⟨1, ![128]⟩
abbrev S_ : Shape := ⟨0, ![]⟩
abbrev S4096x3200 : Shape := ⟨2, ![4096, 3200]⟩
abbrev S128x4 : Shape := ⟨2, ![128, 4]⟩
abbrev S1x128x4 : Shape := ⟨3, ![1, 128, 4]⟩
abbrev S1x128x128 : Shape := ⟨3, ![1, 128, 128]⟩
abbrev S1x4x1536 : Shape := ⟨3, ![1, 4, 1536]⟩
abbrev S1x8x1536 : Shape := ⟨3, ![1, 8, 1536]⟩
abbrev S32x4x128x128 : Shape := ⟨4, ![32, 4, 128, 128]⟩
abbrev S4096x512 : Shape := ⟨2, ![4096, 512]⟩
abbrev S4096x1536 : Shape := ⟨2, ![4096, 1536]⟩
abbrev S1x512 : Shape := ⟨2, ![1, 512]⟩
abbrev S2x512 : Shape := ⟨2, ![2, 512]⟩
abbrev S1x2x512 : Shape := ⟨3, ![1, 2, 512]⟩
abbrev S1x8x512 : Shape := ⟨3, ![1, 8, 512]⟩
abbrev S1x4x128x128 : Shape := ⟨4, ![1, 4, 128, 128]⟩
abbrev S1x128 : Shape := ⟨2, ![1, 128]⟩
abbrev S3x128 : Shape := ⟨2, ![3, 128]⟩
abbrev S1x3x128 : Shape := ⟨3, ![1, 3, 128]⟩
abbrev S1x8x128 : Shape := ⟨3, ![1, 8, 128]⟩
abbrev S8x512 : Shape := ⟨2, ![8, 512]⟩
abbrev S128x128 : Shape := ⟨2, ![128, 128]⟩
abbrev S8x1536 : Shape := ⟨2, ![8, 1536]⟩
abbrev S8x128 : Shape := ⟨2, ![8, 128]⟩
abbrev S128x3200 : Shape := ⟨2, ![128, 3200]⟩
abbrev S128x1024 : Shape := ⟨2, ![128, 1024]⟩
abbrev S128x512 : Shape := ⟨2, ![128, 512]⟩
abbrev S128x1536 : Shape := ⟨2, ![128, 1536]⟩
abbrev S136x1536 : Shape := ⟨2, ![136, 1536]⟩
abbrev S128x1 : Shape := ⟨2, ![128, 1]⟩
abbrev S1x1x512 : Shape := ⟨3, ![1, 1, 512]⟩
abbrev S1x1x128x128 : Shape := ⟨4, ![1, 1, 128, 128]⟩
abbrev S1x1x128 : Shape := ⟨3, ![1, 1, 128]⟩
abbrev S1 : Shape := ⟨1, ![1]⟩
abbrev S1x1 : Shape := ⟨2, ![1, 1]⟩
abbrev S1x1x1536 : Shape := ⟨3, ![1, 1, 1536]⟩
abbrev S1x1536 : Shape := ⟨2, ![1, 1536]⟩
abbrev S1536 : Shape := ⟨1, ![1536]⟩

abbrev nBuf : Space → Nat
  | .hbm => 63
  | .vmem => 30
  | .smem => 0
  | _ => 0

abbrev bufTy : (tb : Table) → Fin (tcTables nBuf tb) → BufTy
  | .hbm, ⟨0, _⟩ => ⟨S4096x3080, .f32⟩
  | .hbm, ⟨1, _⟩ => ⟨S4096x1024, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x1536, .f32⟩
  | .hbm, ⟨7, _⟩ => ⟨S4, .f32⟩
  | .hbm, ⟨8, _⟩ => ⟨S4, .f32⟩
  | .hbm, ⟨9, _⟩ => ⟨S128, .f32⟩
  | .hbm, ⟨10, _⟩ => ⟨S_, .i32⟩
  | .hbm, ⟨11, _⟩ => ⟨S_, .f32⟩
  | .hbm, ⟨12, _⟩ => ⟨S4096x3200, .f32⟩
  | .hbm, ⟨13, _⟩ => ⟨S128x4, .f32⟩
  | .hbm, ⟨14, _⟩ => ⟨S1x128x4, .f32⟩
  | .hbm, ⟨15, _⟩ => ⟨S_, .i32⟩
  | .hbm, ⟨16, _⟩ => ⟨S_, .f32⟩
  | .hbm, ⟨17, _⟩ => ⟨S1x128x128, .f32⟩
  | .hbm, ⟨18, _⟩ => ⟨S1x4x1536, .f32⟩
  | .hbm, ⟨19, _⟩ => ⟨S_, .i32⟩
  | .hbm, ⟨20, _⟩ => ⟨S_, .f32⟩
  | .hbm, ⟨21, _⟩ => ⟨S1x8x1536, .f32⟩
  | .hbm, ⟨22, _⟩ => ⟨S_, .f32⟩
  | .hbm, ⟨23, _⟩ => ⟨S32x4x128x128, .f32⟩
  | .hbm, ⟨24, _⟩ => ⟨S_, .f32⟩
  | .hbm, ⟨25, _⟩ => ⟨S32x4x128x128, .f32⟩
  | .hbm, ⟨26, _⟩ => ⟨S_, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S_, .f32⟩
  | .hbm, ⟨33, _⟩ => ⟨S4096x1536, .f32⟩
  | .hbm, ⟨34, _⟩ => ⟨S4096x1024, .bf16⟩
  | .hbm, ⟨35, _⟩ => ⟨S1x512, .f32⟩
  | .hbm, ⟨36, _⟩ => ⟨S1x512, .f32⟩
  | .hbm, ⟨37, _⟩ => ⟨S2x512, .f32⟩
  | .hbm, ⟨38, _⟩ => ⟨S1x2x512, .f32⟩
  | .hbm, ⟨39, _⟩ => ⟨S_, .i32⟩
  | .hbm, ⟨40, _⟩ => ⟨S_, .f32⟩
  | .hbm, ⟨41, _⟩ => ⟨S1x8x512, .f32⟩
  | .hbm, ⟨42, _⟩ => ⟨S1x4x128x128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S3x128, .f32⟩
  | .hbm, ⟨53, _⟩ => ⟨S1x3x128, .f32⟩
  | .hbm, ⟨54, _⟩ => ⟨S_, .i32⟩
  | .hbm, ⟨55, _⟩ => ⟨S_, .f32⟩
  | .hbm, ⟨56, _⟩ => ⟨S1x8x128, .f32⟩
  | .hbm, ⟨57, _⟩ => ⟨S4096x3200, .bf16⟩
  | .hbm, ⟨58, _⟩ => ⟨S8x512, .f32⟩
  | .hbm, ⟨59, _⟩ => ⟨S4x128x128, .f32⟩
  | .hbm, ⟨60, _⟩ => ⟨S128x128, .f32⟩
  | .hbm, ⟨61, _⟩ => ⟨S8x1536, .f32⟩
  | .hbm, ⟨62, _⟩ => ⟨S8x128, .f32⟩
  | .local _ .vmem, ⟨0, _⟩ => ⟨S128x3200, .f32⟩
  | .local _ .vmem, ⟨1, _⟩ => ⟨S128x3200, .f32⟩
  | .local _ .vmem, ⟨2, _⟩ => ⟨S128x1024, .bf16⟩
  | .local _ .vmem, ⟨3, _⟩ => ⟨S128x1024, .bf16⟩
  | .local _ .vmem, ⟨4, _⟩ => ⟨S1x4x128x128, .f32⟩
  | .local _ .vmem, ⟨5, _⟩ => ⟨S1x4x128x128, .f32⟩
  | .local _ .vmem, ⟨6, _⟩ => ⟨S1x4x128x128, .f32⟩
  | .local _ .vmem, ⟨7, _⟩ => ⟨S1x4x128x128, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x1536, .f32⟩
  | .local _ .vmem, ⟨15, _⟩ => ⟨S128x1536, .f32⟩
  | .local _ .vmem, ⟨16, _⟩ => ⟨S1x8x512, .f32⟩
  | .local _ .vmem, ⟨17, _⟩ => ⟨S1x4x128x128, .f32⟩
  | .local _ .vmem, ⟨18, _⟩ => ⟨S1x128x128, .f32⟩
  | .local _ .vmem, ⟨19, _⟩ => ⟨S1x8x1536, .f32⟩
  | .local _ .vmem, ⟨20, _⟩ => ⟨S1x8x128, .f32⟩
  | .local _ .vmem, ⟨21, _⟩ => ⟨S128x3200, .bf16⟩
  | .local _ .vmem, ⟨22, _⟩ => ⟨S128x3200, .bf16⟩
  | .local _ .vmem, ⟨23, _⟩ => ⟨S8x512, .f32⟩
  | .local _ .vmem, ⟨24, _⟩ => ⟨S4x128x128, .f32⟩
  | .local _ .vmem, ⟨25, _⟩ => ⟨S128x128, .f32⟩
  | .local _ .vmem, ⟨26, _⟩ => ⟨S8x1536, .f32⟩
  | .local _ .vmem, ⟨27, _⟩ => ⟨S8x128, .f32⟩
  | .local _ .vmem, ⟨28, _⟩ => ⟨S4x128x128, .f32⟩
  | .local _ .vmem, ⟨29, _⟩ => ⟨S136x1536, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_cst_5 : Ref sig .tc := ⟨.hbm, 30, rfl⟩
abbrev main_v10 : Ref sig .tc := ⟨.hbm, 31, rfl⟩
abbrev main_cst_6 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_7 : Ref sig .tc := ⟨.hbm, 39, rfl⟩
abbrev main_call3_v0 : Ref sig .tc := ⟨.hbm, 40, rfl⟩
abbrev main_v17 : Ref sig .tc := ⟨.hbm, 41, rfl⟩
abbrev main_v18 : Ref sig .tc := ⟨.hbm, 42, rfl⟩
abbrev main_c_8 : Ref sig .tc := ⟨.hbm, 43, rfl⟩
abbrev main_call4_v0 : Ref sig .tc := ⟨.hbm, 44, rfl⟩
abbrev main_v19 : Ref sig .tc := ⟨.hbm, 45, rfl⟩
abbrev main_c_9 : Ref sig .tc := ⟨.hbm, 46, rfl⟩
abbrev main_call5_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_10 : Ref sig .tc := ⟨.hbm, 54, rfl⟩
abbrev main_call6_v0 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev main_v27_3 : Ref sig .tc := ⟨.hbm, 60, rfl⟩
abbrev main_v27_4 : Ref sig .tc := ⟨.hbm, 61, rfl⟩
abbrev main_v27_5 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x3200 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== SpatialReferenceIdeal.lean ====
abbrev S4096x3080 : Shape := ⟨2, ![4096, 3080]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S4x1536 : Shape := ⟨2, ![4, 1536]⟩
abbrev S4 : Shape := ⟨1, ![4]⟩
abbrev S128 : Shape := ⟨1, ![128]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S2x512 : Shape := ⟨2, ![2, 512]⟩
abbrev S8x512 : Shape := ⟨2, ![8, 512]⟩

abbrev nBuf : Space → Nat
  | .hbm => 138
  | .vmem => 0
  | .smem => 0
  | _ => 0

abbrev hbmTy0_0 (i : Nat) : BufTy := match i % 128 with
  | 0 => ⟨S4096x3080, .f32⟩
  | 1 => ⟨S4096x1024, .f32⟩
  | 2 => ⟨S512, .f32⟩
  | 3 => ⟨S512, .f32⟩
  | 4 => ⟨S4x128x128, .f32⟩
  | 5 => ⟨S4x128, .f32⟩
  | 6 => ⟨S4x1536, .f32⟩
  | 7 => ⟨S4, .f32⟩
  | 8 => ⟨S4, .f32⟩
  | 9 => ⟨S128, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S4096x512, .f32⟩
  | 53 => ⟨S4096x512, .f32⟩
  | 54 => ⟨S4096x512, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x512, .f32⟩
  | 66 => ⟨S4096x512, .f32⟩
  | 67 => ⟨S1x512, .f32⟩
  | 68 => ⟨S4096x512, .f32⟩
  | 69 => ⟨S4096x512, .f32⟩
  | 70 => ⟨S1x512, .f32⟩
  | 71 => ⟨S4096x512, .f32⟩
  | 72 => ⟨S4096x512, .f32⟩
  | 73 => ⟨S32x128x4x128, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S_, .f32⟩
  | 86 => ⟨S_, .f32⟩
  | 87 => ⟨S4x128x128, .i1⟩
  | 88 => ⟨S4x128x128, .f32⟩
  | 89 => ⟨S4x128x128, .f32⟩
  | 90 => ⟨S_, .f32⟩
  | 91 => ⟨S4x128x128, .f32⟩
  | 92 => ⟨S4x32x128x128, .f32⟩
  | 93 => ⟨S32x128x4x128, .f32⟩
  | 94 => ⟨S128x4, .f32⟩
  | 95 => ⟨S1x128x4x1, .f32⟩
  | 96 => ⟨S32x128x4x128, .f32⟩
  | 97 => ⟨S32x128x4x128, .f32⟩
  | 98 => ⟨S4096x512, .f32⟩
  | 99 => ⟨S4096x512, .f32⟩
  | 100 => ⟨S4096x512, .f32⟩
  | 101 => ⟨S4096x512, .f32⟩
  | 102 => ⟨S32x128x4x128, .f32⟩
  | 103 => ⟨S_, .f32⟩
  | 104 => ⟨S128x4, .f32⟩
  | 105 => ⟨S1x128x4x1, .f32⟩
  | 106 => ⟨S_, .f32⟩
  | 107 => ⟨S128x4, .f32⟩
  | 108 => ⟨S4x128, .f32⟩
  | 109 => ⟨S4x32x128x128, .f32⟩
  | 110 => ⟨S4x128x128, .f32⟩
  | 111 => ⟨S4x32x128x128, .f32⟩
  | 112 => ⟨S32x128x4x128, .f32⟩
  | 113 => ⟨S_, .f32⟩
  | 114 => ⟨S4x128x128, .f32⟩
  | 115 => ⟨S4x128x128, .f32⟩
  | 116 => ⟨S4096x512, .f32⟩
  | 117 => ⟨S_, .f32⟩
  | 118 => ⟨S512, .f32⟩
  | 119 => ⟨S1x512, .f32⟩
  | 120 => ⟨S_, .f32⟩
  | 121 => ⟨S512, .f32⟩
  | 122 => ⟨S4096x512, .f32⟩
  | 123 => ⟨S_, .f32⟩
  | 124 => ⟨S512, .f32⟩
  | 125 => ⟨S1x512, .f32⟩
  | 126 => ⟨S_, .f32⟩
  | 127 => ⟨S512, .f32⟩
  | _ => ⟨S4096x3080, .f32⟩

abbrev hbmTy0_1 (i : Nat) : BufTy := match i % 128 with
  | 0 => ⟨S1x512, .f32⟩
  | 1 => ⟨S1x512, .f32⟩
  | 2 => ⟨S2x512, .f32⟩
  | 3 => ⟨S_, .i32⟩
  | 4 => ⟨S_, .f32⟩
  | 5 => ⟨S8x512, .f32⟩
  | 6 => ⟨S128x4, .f32⟩
  | 7 => ⟨S_, .i32⟩
  | 8 => ⟨S_, .f32⟩
  | 9 => ⟨S128x128, .f32⟩
  | _ => ⟨S4096x3080, .f32⟩

abbrev hbmTy (i : Nat) : BufTy := match i / 128 with
  | 0 => hbmTy0_0 i
  | 1 => hbmTy0_1 i
  | _ => ⟨S4096x3080, .f32⟩

abbrev bufTy : (tb : Table) → Fin (tcTables nBuf tb) → BufTy
  | .hbm, ⟨i, _⟩ => hbmTy i
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c : Ref sig .tc := ⟨.hbm, 74, rfl⟩
abbrev main_v51 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v52 : Ref sig .tc := ⟨.hbm, 84, rfl⟩
abbrev main_cst_12 : Ref sig .tc := ⟨.hbm, 85, rfl⟩
abbrev main_call1_v0 : Ref sig .tc := ⟨.hbm, 86, rfl⟩
abbrev main_v53_1 : Ref sig .tc := ⟨.hbm, 87, rfl⟩
abbrev main_call1_v2 : Ref sig .tc := ⟨.hbm, 88, rfl⟩
abbrev main_v53_0 : Ref sig .tc := ⟨.hbm, 89, rfl⟩
abbrev main_call1_cst : Ref sig .tc := ⟨.hbm, 90, rfl⟩
abbrev main_v53_2 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_13 : Ref sig .tc := ⟨.hbm, 103, rfl⟩
abbrev main_v65 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call2_cst : Ref sig .tc := ⟨.hbm, 113, rfl⟩
abbrev main_call2_v0 : Ref sig .tc := ⟨.hbm, 114, rfl⟩
abbrev main_v73 : Ref sig .tc := ⟨.hbm, 115, rfl⟩
abbrev main_v74 : Ref sig .tc := ⟨.hbm, 116, rfl⟩
abbrev main_cst_15 : Ref sig .tc := ⟨.hbm, 117, rfl⟩
abbrev main_v75 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_cst_17 : Ref sig .tc := ⟨.hbm, 123, rfl⟩
abbrev main_v79 : Ref sig .tc := ⟨.hbm, 124, rfl⟩
abbrev main_v80 : Ref sig .tc := ⟨.hbm, 125, rfl⟩
abbrev main_cst_18 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_19 : Ref sig .tc := ⟨.hbm, 131, rfl⟩
abbrev main_call3_v0 : Ref sig .tc := ⟨.hbm, 132, rfl⟩
abbrev main_v85 : Ref sig .tc := ⟨.hbm, 133, rfl⟩
abbrev main_v86 : Ref sig .tc := ⟨.hbm, 134, rfl⟩
abbrev main_c_20 : Ref sig .tc := ⟨.hbm, 135, rfl⟩
abbrev main_call4_v0 : Ref sig .tc := ⟨.hbm, 136, rfl⟩
abbrev main_v87 : Ref sig .tc := ⟨.hbm, 137, rfl⟩

abbrev nD : Nat := 1
abbrev τ : Topo := Topo.v7x

variable {F : FTy → Type} [FloatOps F]
-- ==== Proof.RefFrames.lean ====
/- The references' frames: host operations only. -/
module

public import proofs.«01_k».proof.Defs
public import proofs.«01_k».proof.Proof.Gen.LossReferenceIdeal.Run
public import proofs.«01_k».proof.Proof.Gen.ReluReferenceIdeal.Run
public import proofs.«01_k».proof.Proof.Gen.Norm2ReferenceIdeal.Run
public import proofs.«01_k».proof.Proof.Gen.Norm1ReferenceIdeal.Run
public import proofs.«01_k».proof.Proof.Gen.GateFfReferenceIdeal.Run
public import proofs.«01_k».proof.Proof.Gen.GateOutReferenceIdeal.Run
public import proofs.«01_k».proof.Proof.Gen.AdaReferenceIdeal.Run
public import proofs.«01_k».proof.Proof.Gen.MixReferenceIdeal.Run
public import proofs.«01_k».proof.Proof.Gen.FwdFfReferenceIdeal.Run
public import proofs.«01_k».proof.Proof.Gen.FwdInReferenceIdeal.Run
public import proofs.«01_k».proof.Proof.Gen.FwdOutReferenceIdeal.Run
public import proofs.«01_k».proof.Proof.Gen.ModReferenceIdeal.Run
public import proofs.«01_k».proof.Proof.Gen.WeightReferenceIdeal.Run
public import proofs.«01_k».proof.Proof.Gen.StepReferenceIdeal.Run
public import proofs.«01_k».proof.Proof.Gen.SmallReferenceIdeal.Run
public import proofs.«01_k».proof.Proof.Gen.SpatialReferenceIdeal.Run
public import Idealize.ShloMosaic.Lib.Quiescent

@[expose] public section

noncomputable section

namespace Cert.RefFrames

open Idealize.ShloMosaic

theorem loss : Cert.quiescent_LossReferenceIdeal := fun m g _ =>
  (θ_run _ _ _).mono (fun r h => ⟨fun c => (h c).2.2, sem_eq_zero_of_no_sems rfl r.2⟩) (Cert.LossReferenceIdeal.Value.run m g)

theorem relu : Cert.quiescent_ReluReferenceIdeal := fun m g _ =>
  (θ_run _ _ _).mono (fun r h => ⟨fun c => (h c).2, sem_eq_zero_of_no_sems rfl r.2⟩) (Cert.ReluReferenceIdeal.Value.run m g)

theorem norm2 : Cert.quiescent_Norm2ReferenceIdeal := fun m g _ =>
  (θ_run _ _ _).mono (fun r h => ⟨fun c => (h c).2.2.2, sem_eq_zero_of_no_sems rfl r.2⟩) (Cert.Norm2ReferenceIdeal.Value.run m g)

theorem norm1 : Cert.quiescent_Norm1ReferenceIdeal := fun m g _ =>
  (θ_run _ _ _).mono (fun r h => ⟨fun c => (h c).2.2, sem_eq_zero_of_no_sems rfl r.2⟩) (Cert.Norm1ReferenceIdeal.Value.run m g)

theorem gateFf : Cert.quiescent_GateFfReferenceIdeal := fun m g _ =>
  (θ_run _ _ _).mono (fun r h => ⟨fun c => (h c).2.2, sem_eq_zero_of_no_sems rfl r.2⟩) (Cert.GateFfReferenceIdeal.Value.run m g)

theorem gateOut : Cert.quiescent_GateOutReferenceIdeal := fun m g _ =>
  (θ_run _ _ _).mono (fun r h => ⟨fun c => (h c).2.2, sem_eq_zero_of_no_sems rfl r.2⟩) (Cert.GateOutReferenceIdeal.Value.run m g)

theorem ada : Cert.quiescent_AdaReferenceIdeal := fun m g _ =>
  (θ_run _ _ _).mono (fun r h => ⟨fun c => (h c).2.2.2.2, sem_eq_zero_of_no_sems rfl r.2⟩) (Cert.AdaReferenceIdeal.Value.run m g)

theorem mix : Cert.quiescent_MixReferenceIdeal := fun m g _ =>
  (θ_run _ _ _).mono (fun r h => ⟨fun c => (h c).2.2, sem_eq_zero_of_no_sems rfl r.2⟩) (Cert.MixReferenceIdeal.Value.run m g)

theorem fwdFf : Cert.quiescent_FwdFfReferenceIdeal := fun m g _ =>
  (θ_run _ _ _).mono (fun r h => ⟨fun c => (h c).2, sem_eq_zero_of_no_sems rfl r.2⟩) (Cert.FwdFfReferenceIdeal.Value.run m g)

theorem fwdIn : Cert.quiescent_FwdInReferenceIdeal := fun m g _ =>
  (θ_run _ _ _).mono (fun r h => ⟨fun c => (h c).2.2, sem_eq_zero_of_no_sems rfl r.2⟩) (Cert.FwdInReferenceIdeal.Value.run m g)

theorem fwdOut : Cert.quiescent_FwdOutReferenceIdeal := fun m g _ =>
  (θ_run _ _ _).mono (fun r h => ⟨fun c => (h c).2.2.2, sem_eq_zero_of_no_sems rfl r.2⟩) (Cert.FwdOutReferenceIdeal.Value.run m g)

theorem mod : Cert.quiescent_ModReferenceIdeal := fun m g _ =>
  (θ_run _ _ _).mono (fun r h => ⟨fun c => (h c).2, sem_eq_zero_of_no_sems rfl r.2⟩) (Cert.ModReferenceIdeal.Value.run m g)

theorem weight : Cert.quiescent_WeightReferenceIdeal := fun m g _ =>
  (θ_run _ _ _).mono (fun r h => ⟨fun c => (h c).2, sem_eq_zero_of_no_sems rfl r.2⟩) (Cert.WeightReferenceIdeal.Value.run m g)

theorem step : Cert.quiescent_StepReferenceIdeal := fun m g _ =>
  (θ_run _ _ _).mono (fun r h => ⟨fun c => (h c).2.2.2, sem_eq_zero_of_no_sems rfl r.2⟩) (Cert.StepReferenceIdeal.Value.run m g)

theorem small : Cert.quiescent_SmallReferenceIdeal := fun m g _ =>
  (θ_run _ _ _).mono (fun r h => ⟨fun c => (h c).2.2.2.2, sem_eq_zero_of_no_sems rfl r.2⟩) (Cert.SmallReferenceIdeal.Value.run m g)

theorem spatial : Cert.quiescent_SpatialReferenceIdeal := fun m g _ =>
  (θ_run _ _ _).mono (fun r h => ⟨fun c => (h c).2.2.2, sem_eq_zero_of_no_sems rfl r.2⟩) (Cert.SpatialReferenceIdeal.Value.run m g)

end Cert.RefFrames

end
-- ==== Proof.Lift.lean ====
/- Extended reals that are real numbers: the operations of the idealized programs at real operands. -/
module

public import Idealize.ShloMosaic.PureOps.Ideal
public import Idealize.ShloMosaic.Lib.IdealHost
public import Mathlib.Tactic.NormNum
public import Mathlib.Tactic.FieldSimp
public import Mathlib.Tactic.Ring
public import Mathlib.Tactic.Positivity
public import Mathlib.Tactic.Linarith

@[expose] public section

noncomputable section

namespace Cert.Lift

open Idealize.ShloMosaic

/-- A finite sum of reals, cast. -/
theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

theorem div_real (a : ℝ) {b : ℝ} (h : b ≠ 0) : Ideal.div (a : EReal) (b : EReal) = ((a / b : ℝ) : EReal) := by
  rw [Ideal.div_coe h, ← EReal.coe_mul, mul_one_div]

theorem rsqrt_real {a : ℝ} (h : 0 < a) : Ideal.rsqrt (a : EReal) = (((Real.sqrt a)⁻¹ : ℝ) : EReal) := by
  rw [Ideal.rsqrt_coe, if_neg (not_lt.2 h.le), if_neg h.ne']

/-- The infinity that the finiteness preconditions compare with. -/
theorem inf_f32 : Ideal.ofBits .f32 0x7F800000#32 = ⊤ := by
  simp [Ideal.ofBits, Ideal.ieee]

/-- A number whose absolute value lies below infinity is a real number. -/
theorem real_of_abs_lt {x : EReal} (h : Ideal.cmp .olt (max x (-x)) ⊤ = 1#1) : ((x.toReal : ℝ) : EReal) = x := by
  have h' : max x (-x) < ⊤ := by
    by_contra hn
    simp [Ideal.cmp, hn] at h
  refine EReal.coe_toReal ?_ ?_
  · rintro rfl; simp at h'
  · rintro rfl; simp at h'

theorem zero_f32 : Ideal.ofBits .f32 0x00000000#32 = ((0 : ℝ) : EReal) := by
  simp [Ideal.ofBits, Ideal.ieee, -EReal.coe_mul]
theorem one_f32 : Ideal.ofBits .f32 0x3F800000#32 = ((1 : ℝ) : EReal) := by
  simp [Ideal.ofBits, Ideal.ieee, -EReal.coe_mul]
  try norm_num
theorem two_f32 : Ideal.ofBits .f32 0x40000000#32 = ((2 : ℝ) : EReal) := by
  simp [Ideal.ofBits, Ideal.ieee, -EReal.coe_mul]
  try norm_num
theorem half_f32 : Ideal.ofBits .f32 0x3F000000#32 = ((1 / 2 : ℝ) : EReal) := by
  simp [Ideal.ofBits, Ideal.ieee, -EReal.coe_mul]
  try norm_num
theorem neghalf_f32 : Ideal.ofBits .f32 0xBF000000#32 = ((-(1 / 2) : ℝ) : EReal) := by
  simp [Ideal.ofBits, Ideal.ieee, -EReal.coe_mul]
  try norm_num
theorem k1024_f32 : Ideal.ofBits .f32 0x44800000#32 = ((1024 : ℝ) : EReal) := by
  simp [Ideal.ofBits, Ideal.ieee, -EReal.coe_mul]
  try norm_num
theorem inv1024_f32 : Ideal.ofBits .f32 0x3A800000#32 = ((1 / 1024 : ℝ) : EReal) := by
  simp [Ideal.ofBits, Ideal.ieee, -EReal.coe_mul]
  try norm_num

/-- The value of the literal `1e-6`. -/
def eps6 : ℝ := 8796093 / 8796093022208
theorem eps6_pos : 0 < eps6 := by unfold eps6; norm_num
theorem eps6_f32 : Ideal.ofBits .f32 0x358637BD#32 = ((eps6 : ℝ) : EReal) := by
  unfold eps6
  simp [Ideal.ofBits, Ideal.ieee, -EReal.coe_mul]
  try norm_num

/-- Where the comparison of a finiteness precondition holds, the element is the coercion of a real. -/
theorem real_of_pre {s : Shape} (x : FVec Ideal s .f32) {hb : (⟨0, ![]⟩ : Shape).BroadcastsInDim s ![]}
    (h : cmpf .olt (Host.absf x) (broadcastInDim s ![] hb (constant (F := Ideal) ⟨0, ![]⟩ .f32 0x7F800000#32)) = fun _ => 1#1)
    (i : s.Idx) : (((x i).toReal : ℝ) : EReal) = x i := by
  have := congrFun h i
  refine real_of_abs_lt ?_
  rw [← inf_f32]
  exact this

end Cert.Lift

end
-- ==== Proof.LossRef.lean ====
/- The loss and its gradients as `jax.vjp` writes them, at real arguments: each result as real arithmetic. -/
module

public import proofs.«01_k».proof.Proof.Lift
public import proofs.«01_k».proof.Proof.Gen.LossReferenceIdeal.Read

@[expose] public section

set_option maxRecDepth 16384

noncomputable section

namespace Cert.Loss

open Idealize.ShloMosaic Cert.Lift

/-! ## The head's real arithmetic -/

section Math
variable {n : ℕ} (X T : Fin n → Fin 1024 → ℝ) (G : Fin 1024 → ℝ)

/-- The mean of the squares of a row, and the constant under the root. -/
def ms (r : Fin n) : ℝ := (∑ k, X r k * X r k) / 1024 + eps6
/-- The reciprocal root of it. -/
def rs (r : Fin n) : ℝ := (Real.sqrt (ms X r))⁻¹
/-- The error of an element. -/
def er (r : Fin n) (l : Fin 1024) : ℝ := X r l * rs X r * G l - T r l
/-- The sum of a row's `x · g · dy`, over `1 / 1024` and the factor two of the square. -/
def dots (r : Fin n) : ℝ := ∑ k, X r k * (er X T G r k * (1 / 1024) * G k)
/-- The gradient to the stream. -/
def dx (r : Fin n) (l : Fin 1024) : ℝ :=
  rs X r * (er X T G r l * (1 / 1024) * G l - X r l * rs X r * ((rs X r * dots X T G r) / 1024))
/-- A row's part of the gradient to the gain. -/
def dgRow (r : Fin n) (l : Fin 1024) : ℝ := er X T G r l * (1 / 1024) * (X r l * rs X r)
/-- A row's part of the loss. -/
def lossRow (r : Fin n) : ℝ := 1 / 2 * ((∑ k, er X T G r k * er X T G r k) / 1024)

theorem ms_pos (r : Fin n) : 0 < ms X r := by
  have h : 0 ≤ ∑ k, X r k * X r k := Finset.sum_nonneg fun k _ => mul_self_nonneg _
  have := eps6_pos
  unfold ms; positivity

/-- What differentiating the reciprocal root leaves. -/
theorem rs_div (r : Fin n) : rs X r / ms X r = rs X r * rs X r * rs X r := by
  have h := ms_pos X r
  have hs : rs X r * rs X r = (ms X r)⁻¹ := by
    unfold rs; rw [← mul_inv, Real.mul_self_sqrt h.le]
  rw [mul_assoc, hs, div_eq_mul_inv]

theorem div_rs (r : Fin n) : Ideal.div ((rs X r : ℝ) : EReal) ((ms X r : ℝ) : EReal) = ((rs X r * rs X r * rs X r : ℝ) : EReal) := by
  rw [div_real _ (ms_pos X r).ne', rs_div]

/-- The reference's three summands of the gradient to the stream. -/
theorem dx_eq (r : Fin n) (l : Fin 1024) :
    er X T G r l * (1 / 1024) * G l * rs X r + X r l * (dots X T G r * (-(1 / 2) * (rs X r * rs X r * rs X r)) / 1024)
      + dots X T G r * (-(1 / 2) * (rs X r * rs X r * rs X r)) / 1024 * X r l = dx X T G r l := by
  unfold dx; ring

end Math

/-! ## The reference -/

section Ref
open Cert.LossReferenceIdeal Cert.LossReferenceIdeal.Read Cert.LossReferenceIdeal.Gen

variable (x0 x1 : FVec Ideal S4096x1024 .f32) (x2 : FVec Ideal S1024 .f32)
variable (X T : Fin 4096 → Fin 1024 → ℝ) (G : Fin 1024 → ℝ)
variable (h0 : ∀ i, x0 i = ((X (i 0) (i 1) : ℝ) : EReal)) (h1 : ∀ i, x1 i = ((T (i 0) (i 1) : ℝ) : EReal))
variable (h2 : ∀ i, x2 i = ((G (i 0) : ℝ) : EReal))

include h0 in
theorem v6 (i) : val_main_v6 (F := Ideal) x0 i = ((ms X (i 0) : ℝ) : EReal) := by
  simp only [val_main_v6_apply, val_main_v5_apply, val_main_v4_apply, val_main_v3_apply, val_main_v2_apply,
    val_main_v1_apply, val_main_v0_apply, val_main_cst_apply, val_main_cst_0_apply, val_main_cst_1_apply, h0,
    Ideal.mulf_def, Ideal.addf_def, Ideal.hostDivf_def, Ideal.ofBits_def, zero_f32, k1024_f32, eps6_f32,
    ← EReal.coe_mul, coe_sum, ← EReal.coe_add, zero_add, div_real _ (by norm_num : (1024 : ℝ) ≠ 0)]
  rfl

include h0 in
theorem v7 (i) : val_main_v7 (F := Ideal) x0 i = ((rs X (i 0) : ℝ) : EReal) := by
  rw [val_main_v7_apply, v6 x0 X h0 i]
  exact rsqrt_real (ms_pos X _)

include h0 in
theorem v10 (i) : val_main_v10 (F := Ideal) x0 i = ((-(1 / 2) * (rs X (i 0) * rs X (i 0) * rs X (i 0)) : ℝ) : EReal) := by
  simp only [val_main_v10_apply, val_main_v9_apply, val_main_v8_apply, val_main_cst_2_apply, v6 x0 X h0, v7 x0 X h0,
    Ideal.mulf_def, Ideal.hostDivf_def, Ideal.ofBits_def, neghalf_f32]
  exact (congrArg _ (div_rs X _)).trans (EReal.coe_mul _ _).symm

include h0 in
theorem v12 (i) : val_main_v12 (F := Ideal) x0 i = ((X (i 0) (i 1) * rs X (i 0) : ℝ) : EReal) := by
  simp only [val_main_v12_apply, val_main_v11_apply, v7 x0 X h0, h0, Ideal.mulf_def, ← EReal.coe_mul]
  rfl

include h2 in
theorem v14 (i) : val_main_v14 (F := Ideal) x2 i = ((G (i 1) : ℝ) : EReal) := by
  simp only [val_main_v14_apply, val_main_v13_apply, h2]
  rfl

include h2 in
theorem v34 (i) : val_main_v34 (F := Ideal) x2 i = ((G (i 1) : ℝ) : EReal) := by
  simp only [val_main_v34_apply, val_main_v13_apply, h2]
  rfl

include h0 h1 h2 in
theorem v16 (i) : val_main_v16 (F := Ideal) x0 x1 x2 i = ((er X T G (i 0) (i 1) : ℝ) : EReal) := by
  simp only [val_main_v16_apply, val_main_v15_apply, v12 x0 X h0, v14 x2 G h2, h1, Ideal.mulf_def, Ideal.subf_def,
    ← EReal.coe_mul, ← EReal.coe_sub]
  rfl

include h0 h1 h2 in
theorem v30 (i) : val_main_v30 (F := Ideal) x0 x1 x2 i = ((er X T G (i 0) (i 1) * (1 / 1024) : ℝ) : EReal) := by
  simp only [val_main_v30_apply, val_main_v29_apply, val_main_v28_apply, val_main_v27_apply, val_main_v26_apply,
    val_main_v25_apply, val_main_v19_apply, val_main_v18_apply, v16 x0 x1 x2 X T G h0 h1 h2,
    val_main_cst_10_apply, val_main_cst_9_apply, val_main_cst_8_apply, val_main_cst_3_apply,
    Ideal.mulf_def, Ideal.hostDivf_def, Ideal.ofBits_def, half_f32, one_f32, two_f32, k1024_f32,
    div_real _ (by norm_num : (1024 : ℝ) ≠ 0), ← EReal.coe_mul]
  congr 1; ring

include h0 h1 h2 in
theorem v35 (i) : val_main_v35 (F := Ideal) x0 x1 x2 i = ((er X T G (i 0) (i 1) * (1 / 1024) * G (i 1) : ℝ) : EReal) := by
  simp only [val_main_v35_apply, v30 x0 x1 x2 X T G h0 h1 h2, v34 x2 G h2, Ideal.mulf_def, ← EReal.coe_mul]

include h0 h1 h2 in
theorem v38 (i) : val_main_v38 (F := Ideal) x0 x1 x2 i = ((dots X T G (i 0) : ℝ) : EReal) := by
  simp only [val_main_v38_apply, val_main_v37_apply, val_main_cst_13_apply, v35 x0 x1 x2 X T G h0 h1 h2, h0,
    Ideal.mulf_def, Ideal.ofBits_def, zero_f32, ← EReal.coe_mul, coe_sum, ← EReal.coe_add, zero_add]
  rfl

include h0 h1 h2 in
theorem v45 (i) : val_main_v45 (F := Ideal) x0 x1 x2 i
    = ((dots X T G (i 0) * (-(1 / 2) * (rs X (i 0) * rs X (i 0) * rs X (i 0))) / 1024 : ℝ) : EReal) := by
  simp only [val_main_v45_apply, val_main_v44_apply, val_main_v43_apply, val_main_v42_apply, val_main_v39_apply,
    val_main_cst_15_apply, val_main_cst_14_apply, v38 x0 x1 x2 X T G h0 h1 h2, v10 x0 X h0,
    Ideal.mulf_def, Ideal.hostDivf_def, Ideal.ofBits_def, zero_f32, k1024_f32,
    div_real _ (by norm_num : (1024 : ℝ) ≠ 0), ← EReal.coe_mul, coe_sum, ← EReal.coe_add, zero_add,
    Finset.univ_unique, Finset.sum_singleton]
  congr 4
  all_goals first | rfl | (apply Fin.ext; simp)

include h0 h1 h2 in
/-- The gradient to the stream. -/
theorem v50 (i) : val_main_v50 (F := Ideal) x0 x1 x2 i = ((dx X T G (i 0) (i 1) : ℝ) : EReal) := by
  simp only [val_main_v50_apply, val_main_v49_apply, val_main_v48_apply, val_main_v47_apply, val_main_v46_apply,
    val_main_v41_apply, val_main_v40_apply, v45 x0 x1 x2 X T G h0 h1 h2, v35 x0 x1 x2 X T G h0 h1 h2, v7 x0 X h0, h0,
    Ideal.mulf_def, Ideal.addf_def, ← EReal.coe_mul, ← EReal.coe_add]
  exact congrArg _ (dx_eq X T G _ _)

include h0 h1 h2 in
/-- The gradient to the gain. -/
theorem v36 (i) : val_main_v36 (F := Ideal) x0 x1 x2 i = ((∑ r, dgRow X T G r (i 0) : ℝ) : EReal) := by
  simp only [val_main_v36_apply, val_main_v33_apply, val_main_v32_apply, val_main_v31_apply, val_main_cst_11_apply,
    val_main_cst_12_apply, v30 x0 x1 x2 X T G h0 h1 h2, v12 x0 X h0, Ideal.mulf_def, Ideal.ofBits_def, zero_f32,
    ← EReal.coe_mul, coe_sum, ← EReal.coe_add, zero_add, Finset.univ_unique, Finset.sum_singleton]
  congr 1
  refine Finset.sum_congr rfl fun r _ => ?_
  have e : (idx_main_v32 (idx_main_v33 (idx_main_v36 i 0)) r 1 : Fin 1024) = i 0 :=
    Fin.ext (by show 0 * 1024 + (i 0).val = (i 0).val; omega)
  exact (mul_comm _ _).trans (congrArg (dgRow X T G r) e)

include h0 h1 h2 in
/-- The loss. -/
theorem v24 (i) : val_main_v24 (F := Ideal) x0 x1 x2 i = ((∑ r, lossRow X T G r : ℝ) : EReal) := by
  simp only [val_main_v24_apply, val_main_v23_apply, val_main_v22_apply, val_main_v21_apply, val_main_v20_apply,
    val_main_v17_apply, val_main_cst_7_apply, val_main_cst_6_apply, val_main_cst_5_apply, val_main_cst_4_apply,
    v16 x0 x1 x2 X T G h0 h1 h2, Ideal.mulf_def, Ideal.hostDivf_def, Ideal.ofBits_def, zero_f32, half_f32, k1024_f32,
    div_real _ (by norm_num : (1024 : ℝ) ≠ 0), ← EReal.coe_mul, coe_sum, ← EReal.coe_add, zero_add]
  congr 1
  rw [Finset.mul_sum]
  rfl

end Ref

end Cert.Loss

end
-- ==== Proof.Pieces.lean ====
/- Reading a list of stores back at one index: under the newest store its value, off it the older ones. -/
module

public import Idealize.ShloMosaic.Lib.Pipeline.ValueKit
public import Idealize.ShloMosaic.Lib.WritesUnit

@[expose] public section

noncomputable section

namespace Cert.Pieces

open Idealize.ShloMosaic

variable {s : Shape} {e : EltTy} {Val : EltTy → Type} [∀ e, Nonempty (Val e)]

/-- Under the newest store. -/
theorem canon_hit {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]; exact View.canon_cons_emb _ w L x

/-- Off the newest store, which misses the index on axis `a`. -/
theorem canon_miss {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

end Cert.Pieces

end
-- ==== Proof.LossBlock.lean ====
/- The loss head's stored values at real blocks. -/
module

public import proofs.«01_k».proof.Proof.LossRef
public import proofs.«01_k».proof.Proof.Pieces
public import proofs.«01_k».proof.Proof.Gen.LossKernelIdeal.Value
public import Idealize.ShloMosaic.Lib.Pointwise
public import Idealize.ShloMosaic.Lib.Pipeline.ValueKit

@[expose] public section

set_option maxRecDepth 16384

noncomputable section

namespace Cert.Loss

open Idealize.ShloMosaic Cert.Lift Cert.LossKernelIdeal Cert.LossKernelIdeal.Gen

section Block
variable (x t : FVec Ideal S512x1024 .f32) (g : FVec Ideal S1x1024 .f32)
variable (X T : Fin 512 → Fin 1024 → ℝ) (G : Fin 1024 → ℝ)
variable (hx : ∀ r l, x (ix2 r l) = ((X r l : ℝ) : EReal)) (ht : ∀ r l, t (ix2 r l) = ((T r l : ℝ) : EReal))
variable (hg : ∀ l, g (ix2 0 l) = ((G l : ℝ) : EReal))

include hx in
theorem pay4 (r : Fin 512) : k0_pay4 (F := Ideal) x (ix2 r 0) = ((rs X r : ℝ) : EReal) := by
  pointwise [k0_pay4]
  simp only [hx, k1024_f32, eps6_f32, ← EReal.coe_mul, coe_sum, div_real _ (by norm_num : (1024 : ℝ) ≠ 0),
    ← EReal.coe_add]
  exact rsqrt_real (ms_pos X r)

include hx in
theorem pay5 (r : Fin 512) (l : Fin 1024) : k0_pay5 (F := Ideal) x (ix2 r l) = ((X r l * rs X r : ℝ) : EReal) := by
  pointwise [k0_pay5]
  rw [hx, pay4 x X hx, ← EReal.coe_mul]

include hx ht hg in
theorem pay7 (r : Fin 512) (l : Fin 1024) : k0_pay7 (F := Ideal) x g t (ix2 r l) = ((er X T G r l : ℝ) : EReal) := by
  pointwise [k0_pay7, k0_pay6]
  rw [hg, ht, pay5 x X hx, ← EReal.coe_mul, ← EReal.coe_sub]
  rfl

include hx ht hg in
theorem pay9 (r : Fin 512) (l : Fin 1024) :
    k0_pay9 (F := Ideal) x g t (ix2 r l) = ((er X T G r l * (1 / 1024) : ℝ) : EReal) := by
  pointwise [k0_pay9]
  rw [pay7 x t g X T G hx ht hg, inv1024_f32, ← EReal.coe_mul]

include hx ht hg in
/-- The block of the gradient to the stream. -/
theorem pay2 (r : Fin 512) (l : Fin 1024) :
    k0_pay2 (F := Ideal) (k0_pay4 x) (k0_pay5 x) (k0_pay6 g) (k0_pay9 x g t) (ix2 r l) = ((dx X T G r l : ℝ) : EReal) := by
  pointwise [k0_pay2, k0_pay6]
  simp only [pay9 x t g X T G hx ht hg, pay5 x X hx, pay4 x X hx, hg, k1024_f32, ← EReal.coe_mul, coe_sum,
    div_real _ (by norm_num : (1024 : ℝ) ≠ 0), ← EReal.coe_sub]
  congr 1
  unfold dx dots
  rw [Finset.mul_sum]
  congr 4
  refine Finset.sum_congr rfl fun k _ => ?_
  ring

include hx ht hg in
/-- The block's part of the gradient to the gain, over what the row held. -/
theorem pay10 (v : FVec Ideal S1x1024 .f32) (l : Fin 1024) :
    k0_pay10 (F := Ideal) x g t v (ix2 0 l) = v (ix2 0 l) + ((∑ r, dgRow X T G r l : ℝ) : EReal) := by
  pointwise [k0_pay10]
  simp only [pay9 x t g X T G hx ht hg, pay5 x X hx, ← EReal.coe_mul, coe_sum]
  rfl

include hx ht hg in
theorem pay8 : k0_pay8 (F := Ideal) x g t (ix2 0 0) = ((∑ r, lossRow X T G r : ℝ) : EReal) := by
  pointwise [k0_pay8]
  simp only [pay7 x t g X T G hx ht hg, half_f32, k1024_f32, ← EReal.coe_mul, coe_sum,
    div_real _ (by norm_num : (1024 : ℝ) ≠ 0)]
  rw [Finset.mul_sum]
  rfl

include hx ht hg in
/-- The block's part of the loss, over what the row held. -/
theorem pay1 (v : FVec Ideal S1x1024 .f32) (l : Fin 1024) :
    k0_pay1 (F := Ideal) (k0_pay8 x g t) v (ix2 0 l) = v (ix2 0 l) + ((∑ r, lossRow X T G r : ℝ) : EReal) := by
  pointwise [k0_pay1]
  rw [pay8 x t g X T G hx ht hg]

theorem pay3 (j) : k0_pay3 (F := Ideal) j = ((0 : ℝ) : EReal) := by
  pointwise [k0_pay3]
  first | done | rfl | exact zero_f32

end Block

/-! ## The grid's points -/

section Run
variable (m : (ℓ : Loc nD τ sig) → Buf (Elt Ideal) ℓ) (c : Dev nD)
variable (X T : Fin 4096 → Fin 1024 → ℝ) (G : Fin 1024 → ℝ)

theorem idx0 : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- The rows that point `t` sees. -/
def blkRows (X : Fin 4096 → Fin 1024 → ℝ) (t : Fin cfg0.N) (r : Fin 512) : Fin 1024 → ℝ :=
  X ⟨t.val * 512 + r.val, by have h : t.val < 8 := lt_of_lt_of_eq t.isLt N_0; have := r.isLt; omega⟩

variable (hX : ∀ i, (m ((c.tc : Thread nD τ).loc main_arg0)) i = ((X (i 0) (i 1) : ℝ) : EReal))
variable (hT : ∀ i, (m ((c.tc : Thread nD τ).loc main_arg1)) i = ((T (i 0) (i 1) : ℝ) : EReal))
variable (hG : ∀ i, (m ((c.tc : Thread nD τ).loc main_arg2)) i = ((G (i 0) : ℝ) : EReal))

theorem add_of {a b c z : EReal} (h : a = b + c) (hz : b = z) : a = z + c := hz ▸ h

include hX in
theorem blk0 (t : Fin cfg0.N) (r : Fin 512) (l : Fin 1024) :
    (iblk m c 0 t : FVec Ideal S512x1024 .f32) (ix2 r l) = ((blkRows X t r l : ℝ) : EReal) := by
  have e : (iblk m c 0 t : FVec Ideal S512x1024 .f32) (ix2 r l)
      = m ((c.tc : Thread nD τ).loc main_arg0) (ix2 ⟨t.val * 512 + r.val, by have h : t.val < 8 := lt_of_lt_of_eq t.isLt N_0; have := r.isLt; omega⟩ l) := by
    blk_point [iblk, V, idx0 t]
  rw [e, hX]; rfl

include hT in
theorem blk1 (t : Fin cfg0.N) (r : Fin 512) (l : Fin 1024) :
    (iblk m c 1 t : FVec Ideal S512x1024 .f32) (ix2 r l) = ((blkRows T t r l : ℝ) : EReal) := by
  have e : (iblk m c 1 t : FVec Ideal S512x1024 .f32) (ix2 r l)
      = m ((c.tc : Thread nD τ).loc main_arg1) (ix2 ⟨t.val * 512 + r.val, by have h : t.val < 8 := lt_of_lt_of_eq t.isLt N_0; have := r.isLt; omega⟩ l) := by
    blk_point [iblk, V, idx0 t]
  rw [e, hT]; rfl

include hG in
theorem blk2 (t : Fin cfg0.N) (l : Fin 1024) :
    (iblk m c 2 t : FVec Ideal S1x1024 .f32) (ix2 0 l) = ((G l : ℝ) : EReal) := by
  have e : (iblk m c 2 t : FVec Ideal S1x1024 .f32) (ix2 0 l) = m ((c.tc : Thread nD τ).loc main_arg2) (ix1 l) := by
    blk_simp [iblk, idx0 t]
    entry_read
    pointwise
    blk_ext [idx0 t]
  rw [e, hG]; rfl

/-- What point `t` adds to the statistics. -/
def part (X T : Fin 4096 → Fin 1024 → ℝ) (G : Fin 1024 → ℝ) (t : Fin cfg0.N) (r : Fin 8) (l : Fin 1024) : ℝ :=
  if r = 0 then ∑ k, dgRow (blkRows X t) (blkRows T t) G k l
  else if r = 1 then ∑ k, lossRow (blkRows X t) (blkRows T t) G k else 0

set_option maxHeartbeats 1000000 in
include hX hT hG in
theorem statsA (t : Fin cfg0.N) (h : t.val % 8 = 0) (r : Fin 8) (l : Fin 1024) :
    (outsAt0 m c t.val t.isLt).2 (ix2 r l) = ((0 : ℝ) : EReal) + ((part X T G t r l : ℝ) : EReal) := by
  have p10 := pay10 _ _ _ _ _ _ (blk0 m c X hX t) (blk1 m c T hT t) (blk2 m c G hG t)
  have p1 := pay1 _ _ _ _ _ _ (blk0 m c X hX t) (blk1 m c T hT t) (blk2 m c G hG t)
  rw [outsAt0_A m c t h]
  frame_out
  simp only [View.readCov_eq_canon']
  unfold part
  by_cases r0 : r = 0
  · subst r0
    rw [if_pos rfl]
    refine (Pieces.canon_miss _ _ _ _ 0 (Or.inl (by show (0 : ℕ) < 1; decide))).trans ?_
    refine (Pieces.canon_hit _ _ _ _ (ix2 0 l) (by intro a; fin_cases a <;> simp [ix2])).trans ?_
    refine add_of (p10 _ l) ?_
    exact (Pieces.canon_hit _ _ _ _ (ix2 0 l) (by intro a; fin_cases a <;> simp [ix2])).trans (pay3 _)
  · rw [if_neg r0]
    by_cases r1 : r = 1
    · subst r1
      rw [if_pos rfl]
      refine (Pieces.canon_hit _ _ _ _ (ix2 0 l) (by intro a; fin_cases a <;> simp [ix2])).trans ?_
      refine add_of (p1 _ l) ?_
      refine (Pieces.canon_miss _ _ _ _ 0 (Or.inr (by show (0 : ℕ) + 1 ≤ 1; decide))).trans ?_
      exact (Pieces.canon_hit _ _ _ _ (ix2 1 l) (by intro a; fin_cases a <;> simp [ix2])).trans (pay3 _)
    · rw [if_neg r1, EReal.coe_zero, add_zero]
      have h2 : 2 ≤ r.val := by
        have : r.val ≠ 0 := fun h => r0 (Fin.ext h)
        have : r.val ≠ 1 := fun h => r1 (Fin.ext h)
        omega
      refine (Pieces.canon_miss _ _ _ _ 0 (Or.inr h2)).trans ?_
      refine (Pieces.canon_miss _ _ _ _ 0 (Or.inr (by show 0 + 1 ≤ r.val; omega))).trans ?_
      exact (Pieces.canon_hit _ _ _ _ (ix2 r l) (by intro a; fin_cases a <;> simp [ix2])).trans (pay3 _)

include hX hT hG in
theorem statsB (t : Fin cfg0.N) (h : ¬ t.val % 8 = 0) (r : Fin 8) (l : Fin 1024) :
    (outsAt0 m c t.val t.isLt).2 (ix2 r l)
      = (outsAt0 m c (t.val - 1) (Nat.lt_of_le_of_lt (Nat.sub_le _ _) t.isLt)).2 (ix2 r l) + ((part X T G t r l : ℝ) : EReal) := by
  have p10 := pay10 _ _ _ _ _ _ (blk0 m c X hX t) (blk1 m c T hT t) (blk2 m c G hG t)
  have p1 := pay1 _ _ _ _ _ _ (blk0 m c X hX t) (blk1 m c T hT t) (blk2 m c G hG t)
  rw [outsAt0_B m c t h]
  frame_out
  unfold part
  by_cases r0 : r = 0
  · subst r0
    rw [if_pos rfl]
    refine (View.read_writes_cons_unit_of_not_mem _ _ _ _ _ _ rfl 0 (Or.inl (by show (0 : ℕ) < 1; decide))).trans ?_
    refine (View.read_writes_cons_unit_of_mem _ _ _ _ _ _ (ix2 0 l) rfl (by intro a; fin_cases a <;> simp [ix2])).trans ?_
    refine add_of (p10 _ l) ?_
    exact View.ld_unit_apply_of _ _ _ _ _ _ (by intro a; fin_cases a <;> simp [ix2])
  · rw [if_neg r0]
    by_cases r1 : r = 1
    · subst r1
      rw [if_pos rfl]
      refine (View.read_writes_cons_unit_of_mem _ _ _ _ _ _ (ix2 0 l) rfl (by intro a; fin_cases a <;> simp [ix2])).trans ?_
      refine add_of (p1 _ l) ?_
      exact View.ld_unit_apply_of _ _ _ _ _ _ (by intro a; fin_cases a <;> simp [ix2])
    · rw [if_neg r1, EReal.coe_zero, add_zero]
      have h2 : 2 ≤ r.val := by
        have : r.val ≠ 0 := fun h => r0 (Fin.ext h)
        have : r.val ≠ 1 := fun h => r1 (Fin.ext h)
        omega
      refine (View.read_writes_cons_unit_of_not_mem _ _ _ _ _ _ rfl 0 (Or.inr h2)).trans ?_
      refine (View.read_writes_cons_unit_of_not_mem _ _ _ _ _ _ rfl 0 (Or.inr (by show 0 + 1 ≤ r.val; omega))).trans ?_
      rw [View.writes_nil, Memref.IsWhole.read_unread]

include hX hT hG in
theorem gradA (t : Fin cfg0.N) (h : t.val % 8 = 0) (r : Fin 512) (l : Fin 1024) :
    (outsAt0 m c t.val t.isLt).1 (ix2 r l) = ((dx (blkRows X t) (blkRows T t) G r l : ℝ) : EReal) := by
  rw [outsAt0_A m c t h]
  frame_out
  exact pay2 _ _ _ _ _ _ (blk0 m c X hX t) (blk1 m c T hT t) (blk2 m c G hG t) r l

include hX hT hG in
theorem gradB (t : Fin cfg0.N) (h : ¬ t.val % 8 = 0) (r : Fin 512) (l : Fin 1024) :
    (outsAt0 m c t.val t.isLt).1 (ix2 r l) = ((dx (blkRows X t) (blkRows T t) G r l : ℝ) : EReal) := by
  rw [outsAt0_B m c t h]
  frame_out
  exact pay2 _ _ _ _ _ _ (blk0 m c X hX t) (blk1 m c T hT t) (blk2 m c G hG t) r l

include hX hT hG in
theorem grad (t : Fin cfg0.N) (r : Fin 512) (l : Fin 1024) :
    (outsAt0 m c t.val t.isLt).1 (ix2 r l) = ((dx (blkRows X t) (blkRows T t) G r l : ℝ) : EReal) := by
  by_cases h : t.val % 8 = 0
  · exact gradA m c X T G hX hT hG t h r l
  · exact gradB m c X T G hX hT hG t h r l

/-- The gradient to the stream as an array. -/
def dxArr (X T : Fin 4096 → Fin 1024 → ℝ) (G : Fin 1024 → ℝ) (i : S4096x1024.Idx) : EReal := ((dx X T G (i 0) (i 1) : ℝ) : EReal)

/-- The statistics as an array: the gain's gradient, the loss, zeros. -/
def statArr (X T : Fin 4096 → Fin 1024 → ℝ) (G : Fin 1024 → ℝ) (r : Fin 8) (l : Fin 1024) : ℝ :=
  if r = 0 then ∑ k, dgRow X T G k l else if r = 1 then ∑ k, lossRow X T G k else 0

include hX hT hG in
/-- The gradient to the stream. -/
theorem final3 : (dats m 0 c).arrAt 3 cfg0.N = dxArr X T G := by
  refine (dats m 0 c).arrAt_eq_of_covers 3 _ (by decide +kernel) fun t _ y => ?_
  blk_simp
  rw [after0_3]
  idx_vars y
  refine (grad m c X T G hX hT hG t _ _).trans ?_
  refine Eq.trans (b := dxArr X T G (ix2 ⟨t.val * 512 + y0.val, by have h : t.val < 8 := lt_of_lt_of_eq t.isLt N_0; have := y0.isLt; omega⟩ y1)) rfl ?_
  refine congrArg (dxArr X T G) ?_
  blk_ext [idx0 t]

/-- The points' parts add up to the statistics. -/
theorem part_sum (r : Fin 8) (l : Fin 1024) : ∑ t : Fin cfg0.N, part X T G t r l = statArr X T G r l := by
  have key : ∀ f : Fin 4096 → ℝ, ∑ t : Fin cfg0.N, ∑ k : Fin 512, f ⟨t.val * 512 + k.val, by have h : t.val < 8 := lt_of_lt_of_eq t.isLt N_0; have := k.isLt; omega⟩ = ∑ k, f k := by
    exact fun f => Fin.sum_mul_add_fin cfg0.N 512 f (by rw [show cfg0.N = 8 from N_0])
  unfold part statArr
  by_cases r0 : r = 0
  · simp only [if_pos r0]
    exact key fun k => dgRow X T G k l
  · simp only [if_neg r0]
    by_cases r1 : r = 1
    · simp only [if_pos r1]
      exact key fun k => lossRow X T G k
    · simp only [if_neg r1]
      exact Finset.sum_const_zero

include hX hT hG in
/-- The statistics. -/
theorem final4 : (dats m 0 c).arrAt 4 cfg0.N = fun i => ((statArr X T G (i 0) (i 1) : ℝ) : EReal) := by
  refine (dats m 0 c).arrAt_eq_of_after_last 4 t0_7 (by decide +kernel) _ fun j => ?_
  blk_simp
  idx_vars j
  rw [after0_4]
  refine (Pipeline.eq_sum_fin_of_reset_step_apply_last (fun n h (i : Fin 8 × Fin 1024) => (outsAt0 m c n h).2 (ix2 i.1 i.2)) 8
    (fun _ => ((0 : ℝ) : EReal)) (fun t i => ((part X T G t i.1 i.2 : ℝ) : EReal))
    (fun t h i => statsA m c X T G hX hT hG t h i.1 i.2) (fun t h i => statsB m c X T G hX hT hG t h i.1 i.2)
    (le_of_eq N_0) t0_7 rfl (j0, j1)).trans ?_
  rw [coe_sum, ← EReal.coe_add, zero_add, part_sum]

end Run

end Cert.Loss

end
-- ==== Proof.Loss.lean ====
/- The loss head's value claim. -/
module

public import proofs.«01_k».proof.Defs
public import proofs.«01_k».proof.Proof.LossBlock
public import proofs.«01_k».proof.Proof.Gen.LossReferenceIdeal.Run

@[expose] public section

set_option maxRecDepth 16384

noncomputable section

namespace Cert.Loss

open Idealize.ShloMosaic Cert.Lift

instance pre_facts : Cert.Pre_finite_loss_arguments.Facts := ⟨by decide, by decide⟩

section Stats
open Cert.LossReferenceIdeal Cert.LossReferenceIdeal.Value Cert.LossReferenceIdeal.Read
variable (x0 x1 : FVec Ideal S4096x1024 .f32) (x2 : FVec Ideal S1024 .f32)
variable (X T : Fin 4096 → Fin 1024 → ℝ) (G : Fin 1024 → ℝ)
variable (h0 : ∀ i, x0 i = ((X (i 0) (i 1) : ℝ) : EReal)) (h1 : ∀ i, x1 i = ((T (i 0) (i 1) : ℝ) : EReal))
variable (h2 : ∀ i, x2 i = ((G (i 0) : ℝ) : EReal))

include h0 h1 h2 in
theorem v54 (r : Fin 8) (l : Fin 1024) : val_main_v54 (F := Ideal) x0 x1 x2 (ix2 r l) = ((statArr X T G r l : ℝ) : EReal) := by
  unfold val_main_v54 statArr
  pointwise
  simp only [val_main_v51_apply, val_main_v52_apply, val_main_v53_apply, v36 x0 x1 x2 X T G h0 h1 h2, v24 x0 x1 x2 X T G h0 h1 h2]
  by_cases r0 : r = 0
  · subst r0; simp; rfl
  · by_cases r1 : r = 1
    · subst r1; simp
    · have a : ¬ r.val < 1 := fun h => r0 (Fin.ext (by simpa using h))
      have b : ¬ r.val < 2 := fun h => r1 (Fin.ext (by show r.val = 1; omega))
      have b' : ¬ r.val - 1 < 1 := by omega
      simp only [a, b, b', r0, r1, if_false, dif_neg, not_false_eq_true]
      exact zero_f32
end Stats

/-- The real part of an array's element. -/
def re2 {a b : ℕ} (x : FVec Ideal ⟨2, ![a, b]⟩ .f32) (r : Fin a) (l : Fin b) : ℝ := (x (ix2 r l)).toReal
def re1 {a : ℕ} (x : FVec Ideal ⟨1, ![a]⟩ .f32) (l : Fin a) : ℝ := (x (ix1 l)).toReal

theorem eq_re2 {a b : ℕ} (x : FVec Ideal ⟨2, ![a, b]⟩ .f32) (h : ∀ i, (((x i).toReal : ℝ) : EReal) = x i) (i) :
    x i = ((re2 x (i 0) (i 1) : ℝ) : EReal) := by
  refine (h i).symm.trans (congrArg (fun j => (((x j).toReal : ℝ) : EReal)) ?_)
  funext k; fin_cases k <;> rfl

theorem eq_re1 {a : ℕ} (x : FVec Ideal ⟨1, ![a]⟩ .f32) (h : ∀ i, (((x i).toReal : ℝ) : EReal) = x i) (i) :
    x i = ((re1 x (i 0) : ℝ) : EReal) := by
  refine (h i).symm.trans (congrArg (fun j => (((x j).toReal : ℝ) : EReal)) ?_)
  funext k; fin_cases k; rfl

section Values
open Cert.LossKernelIdeal
variable (m : (ℓ : Loc nD τ sig) → Buf (Elt Ideal) ℓ)
variable (m' : (ℓ : Loc Cert.LossReferenceIdeal.nD Cert.LossReferenceIdeal.τ Cert.LossReferenceIdeal.sig) → Buf (Elt Ideal) ℓ)

/-- Both results of the reference are the kernel's. -/
theorem values (c : Dev nD)
    (hp : (Cert.Pre_finite_loss_arguments.fn (F := Ideal) (m ((c.tc : Thread nD τ).loc main_arg0)) (m ((c.tc : Thread nD τ).loc main_arg1)) (m ((c.tc : Thread nD τ).loc main_arg2))).1 = (fun _ => 1#1)
      ∧ (Cert.Pre_finite_loss_arguments.fn (F := Ideal) (m ((c.tc : Thread nD τ).loc main_arg0)) (m ((c.tc : Thread nD τ).loc main_arg1)) (m ((c.tc : Thread nD τ).loc main_arg2))).2.1 = (fun _ => 1#1)
      ∧ (Cert.Pre_finite_loss_arguments.fn (F := Ideal) (m ((c.tc : Thread nD τ).loc main_arg0)) (m ((c.tc : Thread nD τ).loc main_arg1)) (m ((c.tc : Thread nD τ).loc main_arg2))).2.2 = (fun _ => 1#1))
    (he : m' ((c.tc : Thread Cert.LossReferenceIdeal.nD Cert.LossReferenceIdeal.τ).loc Cert.LossReferenceIdeal.main_arg0) = m ((c.tc : Thread nD τ).loc main_arg0)
      ∧ m' ((c.tc : Thread Cert.LossReferenceIdeal.nD Cert.LossReferenceIdeal.τ).loc Cert.LossReferenceIdeal.main_arg1) = m ((c.tc : Thread nD τ).loc main_arg1)
      ∧ m' ((c.tc : Thread Cert.LossReferenceIdeal.nD Cert.LossReferenceIdeal.τ).loc Cert.LossReferenceIdeal.main_arg2) = m ((c.tc : Thread nD τ).loc main_arg2)) :
    Cert.LossReferenceIdeal.Value.res_main_v50 m' c = (Gen.dats m 0 c).arrAt 3 cfg0.N
    ∧ Cert.LossReferenceIdeal.Value.res_main_v54 m' c = (Gen.dats m 0 c).arrAt 4 cfg0.N := by
  have hX := eq_re2 _ (real_of_pre _ hp.1)
  have hT := eq_re2 _ (real_of_pre _ hp.2.1)
  have hG := eq_re1 _ (real_of_pre _ hp.2.2)
  rw [Cert.LossReferenceIdeal.Read.val_main_v50_eq, Cert.LossReferenceIdeal.Read.val_main_v54_eq, he.1, he.2.1, he.2.2]
  constructor
  · refine Eq.trans ?_ (final3 m c _ _ _ hX hT hG).symm
    exact funext fun i => v50 _ _ _ _ _ _ hX hT hG i
  · refine Eq.trans ?_ (final4 m c _ _ _ hX hT hG).symm
    funext i
    exact (congrArg _ (by funext k; fin_cases k <;> rfl : i = ix2 (i 0) (i 1))).trans (v54 _ _ _ _ _ _ hX hT hG (i 0) (i 1))
end Values

theorem algebraic : Cert.algebraic_LossKernelIdeal_LossReferenceIdeal_pre_finite_loss_arguments
    (hPre_finite_loss_arguments := pre_facts) := by
  intro m g m' g' hpre hagree
  refine ⟨fun c => (Cert.LossKernelIdeal.Gen.dats m 0 c).arrAt 3 Cert.LossKernelIdeal.cfg0.N,
    fun c => (Cert.LossKernelIdeal.Gen.dats m 0 c).arrAt 4 Cert.LossKernelIdeal.cfg0.N,
    Cert.LossKernelIdeal.Value.run_blocks m g, (θ_run _ _ _).mono (fun r h c => ?_) (Cert.LossReferenceIdeal.Value.run m' g')⟩
  obtain ⟨r0, r1, rest⟩ := h c
  have key := values m m' c (hpre c) (hagree c)
  exact ⟨r0.trans key.1, r1.trans key.2, rest⟩

end Cert.Loss

end
-- ==== Proof.Relu.lean ====
/- The value claim of the gradient through the squared relu. -/
module

public import proofs.«01_k».proof.Defs
public import proofs.«01_k».proof.Proof.Lift
public import proofs.«01_k».proof.Proof.Gen.ReluKernelIdeal.Value
public import proofs.«01_k».proof.Proof.Gen.ReluReferenceIdeal.Read
public import proofs.«01_k».proof.Proof.Gen.ReluReferenceIdeal.Run
public import Idealize.ShloMosaic.Lib.Pointwise
public import Idealize.ShloMosaic.Lib.Pipeline.ValueKit

@[expose] public section

set_option maxRecDepth 16384

noncomputable section

namespace Cert.Relu

open Idealize.ShloMosaic Cert.Lift

/-- The relu of one element. -/
def relu1 (a : EReal) : EReal := max a 0

theorem mul_congr {a b c d : EReal} (h : a = c) (h' : b = d) : a * b = c * d := h ▸ h' ▸ rfl

section Block
open Cert.ReluKernelIdeal Cert.ReluKernelIdeal.Gen
variable (x : FVec Ideal S512x1024 .f32) (q : FVec Ideal S512x4096 .bf16) (g : FVec Ideal S1x8x1024 .f32)
variable (w : FVec Ideal S4x1024x1024 .bf16)

/-- The gradient through the second weight, times twice the relu. -/
def tile (r : Fin 512) (n : Fin 4096) (s : Fin 4) (l : Fin 1024) : EReal :=
  (∑ k : Fin 1024, x (ix2 r k) * g (ix3 0 5 k) * w (ix3 s l k)) * ((2 : ℝ) : EReal) * q (ix2 r n)

theorem tile_of (s' : Fin 4) (r r' : Fin 512) (n n' : Fin 4096) (s : Fin 4) (l l' : Fin 1024) (hn : (n : ℕ) = s.val * 1024 + l.val)
    (e0 : (r : ℕ) = r') (e1 : (n : ℕ) = s'.val * 1024 + l'.val) (e2 : n = n') :
    (∑ k : Fin 1024, x (ix2 r' k) * g (ix3 0 5 k) * w (ix3 s' l' k)) * Ideal.ofBits FTy.f32 1073741824#32 * q (ix2 r' n')
      = tile x q g w r n s l := by
  obtain rfl := Fin.ext e0
  subst e2
  have hs : s' = s := Fin.ext (by have := l.isLt; have := l'.isLt; omega)
  subst hs
  have hl : l' = l := Fin.ext (by omega)
  subst hl
  have := two_f32
  rw [tile, ← two_f32]

theorem out4 (r : Fin 512) (n : Fin 4096) (s : Fin 4) (l : Fin 1024) (hn : (n : ℕ) = s.val * 1024 + l.val) :
    out0_4 (F := Ideal) x q g w (ix2 r n) = tile x q g w r n s l := by
  unfold_out out0_4
  canon_tiles z e
  all_goals pointwise [k0_pay1, k0_pay2, k0_pay3, k0_pay4, k0_pay5, k0_pay6]
  · exact tile_of x q g w 3 r (z 0) n _ s l (z 1) hn e0 (e1.trans (by rfl)) (Fin.ext e1)
  · exact tile_of x q g w 2 r (z 0) n _ s l (z 1) hn e0 (e1.trans (by rfl)) (Fin.ext e1)
  · exact tile_of x q g w 1 r (z 0) n _ s l (z 1) hn e0 (e1.trans (by rfl)) (Fin.ext e1)
  · exact tile_of x q g w 0 r (z 0) n _ s l (z 1) hn e0 (by have : (n : ℕ) = _ := e1; simpa using this) (Fin.ext (by simpa using e1))

end Block

section Run
open Cert.ReluKernelIdeal Cert.ReluKernelIdeal.Gen
variable (m : (ℓ : Loc nD τ sig) → Buf (Elt Ideal) ℓ) (c : Dev nD)

theorem idx0 : ∀ t : Fin cfg0.N, win0_0.index t = ![t.val, 0] ∧ win0_1.index t = ![t.val, 0] ∧ win0_2.index t = ![0, 0, 0]
    ∧ win0_3.index t = ![0, 0, 0] ∧ win0_4.index t = ![t.val, 0] :=
  (by decide +kernel : ∀ t : Fin grid0.N, _)

def row (t : Fin cfg0.N) (r : Fin 512) : Fin 4096 :=
  ⟨t.val * 512 + r.val, by have h : t.val < 8 := lt_of_lt_of_eq t.isLt N_0; have := r.isLt; omega⟩

theorem blk0 (t : Fin cfg0.N) (r : Fin 512) (l : Fin 1024) :
    (iblk m c 0 t : FVec Ideal S512x1024 .f32) (ix2 r l) = m ((c.tc : Thread nD τ).loc main_arg0) (ix2 (row t r) l) := by
  unfold row
  blk_point [iblk, V, idx0 t]

theorem entry2 : V m c main_v2 = truncf (F := Ideal) .bf16 (maximumf (F := Ideal) (m ((c.tc : Thread nD τ).loc main_arg1))
    (broadcastInDim S4096x4096 ![] bcast_S_S4096x4096 (constant S_ .f32 0x00000000#32))) bitsLt_bf16_f32 := by
  unfold V
  simp only [hostOps0, hostOps0_1, hostOps0_2, List.flatten_cons, List.flatten_nil, List.append_nil, List.cons_append, List.nil_append]
  after_results

theorem entry4 : V m c main_v4 = pad S1x8x1024 ![0, 5, 0] ![0, 2, 0] ![0, 0, 0]
    (broadcastInDim S1x1x1024 ![2] bcast_S1024_S1x1x1024_2 (m ((c.tc : Thread nD τ).loc main_arg2)))
    (sitofp (F := Ideal) .f32 (constantI S_ 32 0#32)) pads_S1x1x1024_S1x8x1024_000_520_000 h_S_ := by
  unfold V
  simp only [hostOps0, hostOps0_1, hostOps0_2, List.flatten_cons, List.flatten_nil, List.append_nil, List.cons_append, List.nil_append]
  after_results
  rfl

theorem entry6 : V m c main_v6 = truncf (F := Ideal) .bf16
    (shapeCast S4x1024x1024 (m ((c.tc : Thread nD τ).loc main_arg3)) shapeCasts_S4096x1024_S4x1024x1024) bitsLt_bf16_f32 := by
  unfold V
  simp only [hostOps0, hostOps0_1, hostOps0_2, List.flatten_cons, List.flatten_nil, List.append_nil, List.cons_append, List.nil_append]
  after_results
  rfl

theorem at1 (t : Fin cfg0.N) (r : Fin 512) (n : Fin 4096) :
    (iblk m c 1 t : FVec Ideal S512x4096 .bf16) (ix2 r n) = (V m c main_v2 : FVec Ideal S4096x4096 .bf16) (ix2 (row t r) n) := by
  show _ = V m c (Pipeline.arrRef spec0 1) (ix2 (row t r) n)
  unfold row iblk
  generalize V m c (Pipeline.arrRef spec0 1) = A
  blk_point [idx0 t]

theorem at2 (t : Fin cfg0.N) (s : Fin 8) (l : Fin 1024) :
    (iblk m c 2 t : FVec Ideal S1x8x1024 .f32) (ix3 0 s l) = (V m c main_v4 : FVec Ideal S1x8x1024 .f32) (ix3 0 s l) := by
  show _ = V m c (Pipeline.arrRef spec0 2) (ix3 0 s l)
  unfold iblk
  generalize V m c (Pipeline.arrRef spec0 2) = A
  blk_point [idx0 t]

theorem at3 (t : Fin cfg0.N) (s : Fin 4) (l k : Fin 1024) :
    (iblk m c 3 t : FVec Ideal S4x1024x1024 .bf16) (ix3 s l k) = (V m c main_v6 : FVec Ideal S4x1024x1024 .bf16) (ix3 s l k) := by
  show _ = V m c (Pipeline.arrRef spec0 3) (ix3 s l k)
  unfold iblk
  generalize V m c (Pipeline.arrRef spec0 3) = A
  blk_point [idx0 t]

theorem relu_at (A : FVec Ideal S4096x4096 .f32) (r n : Fin 4096) : truncf (F := Ideal) .bf16 (maximumf (F := Ideal) A
    (broadcastInDim S4096x4096 ![] bcast_S_S4096x4096 (constant S_ .f32 0x00000000#32))) bitsLt_bf16_f32 (ix2 r n) = relu1 (A (ix2 r n)) := by
  pointwise
  rfl

theorem slots_at (A : FVec Ideal S4096x1024 .f32) (s : Fin 4) (l k : Fin 1024) : truncf (F := Ideal) .bf16
    (shapeCast S4x1024x1024 A shapeCasts_S4096x1024_S4x1024x1024) bitsLt_bf16_f32 (ix3 s l k)
      = A (ix2 ⟨s.val * 1024 + l.val, by have := s.isLt; have := l.isLt; omega⟩ k) := by
  pointwise

theorem blk1 (t : Fin cfg0.N) (r : Fin 512) (n : Fin 4096) :
    (iblk m c 1 t : FVec Ideal S512x4096 .bf16) (ix2 r n) = relu1 (m ((c.tc : Thread nD τ).loc main_arg1) (ix2 (row t r) n)) := by
  rw [at1, entry2]
  exact relu_at _ _ _

theorem blk2 (t : Fin cfg0.N) (l : Fin 1024) :
    (iblk m c 2 t : FVec Ideal S1x8x1024 .f32) (ix3 0 5 l) = m ((c.tc : Thread nD τ).loc main_arg2) (ix1 l) := by
  rw [at2, entry4]
  generalize m ((c.tc : Thread nD τ).loc main_arg2) = A
  pointwise

theorem blk3 (t : Fin cfg0.N) (s : Fin 4) (l k : Fin 1024) :
    (iblk m c 3 t : FVec Ideal S4x1024x1024 .bf16) (ix3 s l k) = m ((c.tc : Thread nD τ).loc main_arg3)
      (ix2 ⟨s.val * 1024 + l.val, by have := s.isLt; have := l.isLt; omega⟩ k) := by
  rw [at3, entry6]
  exact slots_at _ _ _ _

/-- The array the kernel leaves. -/
def arr (x0 : FVec Ideal S4096x1024 .f32) (x1 : FVec Ideal S4096x4096 .f32) (x2 : FVec Ideal S1024 .f32)
    (x3 : FVec Ideal S4096x1024 .f32) (r n : Fin 4096) : EReal :=
  (∑ k : Fin 1024, x0 (ix2 r k) * x2 (ix1 k) * x3 (ix2 n k)) * ((2 : ℝ) : EReal) * relu1 (x1 (ix2 r n))

theorem point (t : Fin cfg0.N) (r : Fin 512) (n : Fin 4096) :
    out0_4 (F := Ideal) (iblk m c 0 t) (iblk m c 1 t) (iblk m c 2 t) (iblk m c 3 t) (ix2 r n)
      = arr (m ((c.tc : Thread nD τ).loc main_arg0)) (m ((c.tc : Thread nD τ).loc main_arg1)) (m ((c.tc : Thread nD τ).loc main_arg2))
          (m ((c.tc : Thread nD τ).loc main_arg3)) (row t r) n := by
  have hn : n.val = n.val / 1024 * 1024 + n.val % 1024 := by omega
  refine (out4 _ _ _ _ r n ⟨n.val / 1024, by have := n.isLt; omega⟩ ⟨n.val % 1024, by omega⟩ hn).trans ?_
  unfold tile arr
  rw [blk1 m c t r n]
  refine congrArg (fun z : EReal => z * ((2 : ℝ) : EReal) * relu1 (m ((c.tc : Thread nD τ).loc main_arg1) (ix2 (row t r) n))) ?_
  refine Finset.sum_congr rfl fun k _ => ?_
  rw [blk0 m c t r k, blk2 m c t k, blk3 m c t _ _ k]
  have e : (⟨n.val / 1024 * 1024 + n.val % 1024, by omega⟩ : Fin 4096) = n := Fin.ext hn.symm
  exact mul_congr rfl (congrArg (fun z => m ((c.tc : Thread nD τ).loc main_arg3) (ix2 z k)) e)

theorem final : (dats m 0 c).arrAt 4 cfg0.N
    = fun i => arr (m ((c.tc : Thread nD τ).loc main_arg0)) (m ((c.tc : Thread nD τ).loc main_arg1)) (m ((c.tc : Thread nD τ).loc main_arg2))
          (m ((c.tc : Thread nD τ).loc main_arg3)) (i 0) (i 1) := by
  refine (dats m 0 c).arrAt_eq_of_covers 4 _ (by decide +kernel) fun t _ y => ?_
  blk_simp
  rw [after0_4]
  idx_vars y
  refine (point m c t _ _).trans ?_
  generalize arr (m ((c.tc : Thread nD τ).loc main_arg0)) (m ((c.tc : Thread nD τ).loc main_arg1)) (m ((c.tc : Thread nD τ).loc main_arg2))
          (m ((c.tc : Thread nD τ).loc main_arg3)) = A
  refine Eq.trans (b := (fun i : S4096x4096.Idx => A (i 0) (i 1)) (ix2 (row t y0) y1)) rfl ?_
  refine congrArg (fun i : S4096x4096.Idx => A (i 0) (i 1)) ?_
  unfold row
  blk_ext [idx0 t]

end Run

section Ref
open Cert.ReluReferenceIdeal Cert.ReluReferenceIdeal.Value Cert.ReluReferenceIdeal.Read
variable (x0 : FVec Ideal S4096x1024 .f32) (x1 : FVec Ideal S4096x4096 .f32) (x2 : FVec Ideal S1024 .f32)
variable (x3 : FVec Ideal S4096x1024 .f32)

theorem ref (r n : Fin 4096) : val_main_v17 (F := Ideal) x0 x1 x2 x3 (ix2 r n)
    = arr x0 x1 x2 x3 r n := by
  unfold arr
  pointwise [val_main_v17, val_main_v16, val_main_v15, val_main_v14, val_main_v13, val_main_v12, val_main_v11, val_main_v8, val_main_v6,
    val_main_v5, val_main_v2, val_main_v1, val_main_v0, val_main_cst, val_main_cst_1, val_main_cst_2, val_main_call0_v0, val_main_call0_cst]
  rw [Finset.sum_congr rfl fun k _ => congrArg (· * x3 (ix2 n k)) (mul_comm (x0 (ix2 r k)) (x2 (ix1 k)))]
  unfold relu1
  split_ifs with h
  · rw [two_f32, mul_assoc]
  · rw [max_eq_right (not_lt.mp h), mul_zero]

end Ref

section Values
open Cert.ReluKernelIdeal
variable (m : (ℓ : Loc nD τ sig) → Buf (Elt Ideal) ℓ)
variable (m' : (ℓ : Loc Cert.ReluReferenceIdeal.nD Cert.ReluReferenceIdeal.τ Cert.ReluReferenceIdeal.sig) → Buf (Elt Ideal) ℓ)

theorem values (c : Dev nD)
    (he : m' ((c.tc : Thread Cert.ReluReferenceIdeal.nD Cert.ReluReferenceIdeal.τ).loc Cert.ReluReferenceIdeal.main_arg0) = m ((c.tc : Thread nD τ).loc main_arg0)
      ∧ m' ((c.tc : Thread Cert.ReluReferenceIdeal.nD Cert.ReluReferenceIdeal.τ).loc Cert.ReluReferenceIdeal.main_arg1) = m ((c.tc : Thread nD τ).loc main_arg1)
      ∧ m' ((c.tc : Thread Cert.ReluReferenceIdeal.nD Cert.ReluReferenceIdeal.τ).loc Cert.ReluReferenceIdeal.main_arg2) = m ((c.tc : Thread nD τ).loc main_arg2)
      ∧ m' ((c.tc : Thread Cert.ReluReferenceIdeal.nD Cert.ReluReferenceIdeal.τ).loc Cert.ReluReferenceIdeal.main_arg3) = m ((c.tc : Thread nD τ).loc main_arg3)) :
    Cert.ReluReferenceIdeal.Read.val_main_v17 (F := Ideal) (m' ((c.tc : Thread Cert.ReluReferenceIdeal.nD Cert.ReluReferenceIdeal.τ).loc Cert.ReluReferenceIdeal.main_arg0))
      (m' ((c.tc : Thread Cert.ReluReferenceIdeal.nD Cert.ReluReferenceIdeal.τ).loc Cert.ReluReferenceIdeal.main_arg1))
      (m' ((c.tc : Thread Cert.ReluReferenceIdeal.nD Cert.ReluReferenceIdeal.τ).loc Cert.ReluReferenceIdeal.main_arg2))
      (m' ((c.tc : Thread Cert.ReluReferenceIdeal.nD Cert.ReluReferenceIdeal.τ).loc Cert.ReluReferenceIdeal.main_arg3))
      = (Gen.dats m 0 c).arrAt 4 cfg0.N := by
  rw [he.1, he.2.1, he.2.2.1, he.2.2.2]
  refine Eq.trans ?_ (final m c).symm
  funext i
  exact (congrArg _ (by funext k; fin_cases k <;> rfl : i = ix2 (i 0) (i 1))).trans (ref _ _ _ _ (i 0) (i 1))
end Values

theorem algebraic : Cert.algebraic_ReluKernelIdeal_ReluReferenceIdeal := by
  intro m g m' g' _ hagree
  refine ⟨fun c => (Cert.ReluKernelIdeal.Gen.dats m 0 c).arrAt 4 Cert.ReluKernelIdeal.cfg0.N,
    Cert.ReluKernelIdeal.Value.run_blocks m g, (θ_run _ _ _).mono (fun r h c => ?_) (Cert.ReluReferenceIdeal.Value.run m' g')⟩
  obtain ⟨r0, rest⟩ := h c
  exact ⟨(r0.trans (Cert.ReluReferenceIdeal.Read.val_main_v17_eq _ _ _ _)).trans (values m m' c (hagree c)), rest⟩

end Cert.Relu

end
-- ==== Proof.Norm.lean ====
/- The gradient of a root-mean-square norm with a modulation behind it, over the reals. -/
module

public import proofs.«01_k».proof.Proof.LossBlock

@[expose] public section

noncomputable section

namespace Cert.Norm

open Cert.Loss (ms rs ms_pos rs_div)

section Math
variable {n : ℕ} (H X : Fin n → Fin 1024 → ℝ) (N C : Fin 1024 → ℝ)

/-- The normed element. -/
def xn (r : Fin n) (l : Fin 1024) : ℝ := X r l * rs X r
/-- The gradient to the normed element. -/
def dyn (r : Fin n) (l : Fin 1024) : ℝ := H r l * (N l * (1 + C l))
def dot (r : Fin n) : ℝ := ∑ k, dyn H N C r k * xn X r k
/-- The gradient to the stream. -/
def dx (r : Fin n) (l : Fin 1024) : ℝ := rs X r * (dyn H N C r l - xn X r l * (dot H X N C r / 1024))
/-- What a set of rows adds to the gradients of the shift, the scale and the gain, one row each, over zeros. -/
def rows (r : Fin 8) (l : Fin 1024) : ℝ :=
  if r = 0 then ∑ k, H k l else if r = 1 then (∑ k, H k l * xn X k l) * N l
  else if r = 2 then (∑ k, H k l * xn X k l) * (1 + C l) else 0

/-- The three summands that differentiating the norm leaves. -/
theorem dx_eq (r : Fin n) (l : Fin 1024) (z : ℝ) (hz : z = ∑ k, X r k * (H r k * (1 + C k) * N k)) :
    H r l * (1 + C l) * N l * rs X r + X r l * (z * (-(1 / 2) * (rs X r * rs X r * rs X r)) / 1024)
      + z * (-(1 / 2) * (rs X r * rs X r * rs X r)) / 1024 * X r l = dx H X N C r l := by
  have e : dot H X N C r = rs X r * z := by
    rw [hz]; unfold dot dyn xn
    rw [Finset.mul_sum]
    exact Finset.sum_congr rfl fun k _ => by ring
  unfold dx
  rw [e]; unfold dyn xn
  ring

theorem row1_eq (l : Fin 1024) : ∑ k, xn X k l * N l * H k l = (∑ k, H k l * xn X k l) * N l := by
  rw [Finset.sum_mul]
  exact Finset.sum_congr rfl fun k _ => by ring

theorem row2_eq (l : Fin 1024) : ∑ k, xn X k l * (H k l * (1 + C l)) = (∑ k, H k l * xn X k l) * (1 + C l) := by
  rw [Finset.sum_mul]
  exact Finset.sum_congr rfl fun k _ => by ring
end Math

/-- Rows in `b` blocks of 512 add up to the rows of the whole. -/
theorem rows_sum (H X : Fin 4096 → Fin 1024 → ℝ) (N C : Fin 1024 → ℝ) (b : ℕ) (hb : 4096 = b * 512)
    (row : Fin b → Fin 512 → Fin 4096) (hrow : ∀ t k, (row t k).val = t.val * 512 + k.val) (r : Fin 8) (l : Fin 1024) :
    ∑ t, rows (fun k => H (row t k)) (fun k => X (row t k)) N C r l = rows H X N C r l := by
  have key : ∀ f : Fin 4096 → ℝ, ∑ t : Fin b, ∑ k : Fin 512, f (row t k) = ∑ k, f k := fun f => by
    refine Eq.trans ?_ (Fin.sum_mul_add_fin b 512 f hb)
    exact Finset.sum_congr rfl fun t _ => Finset.sum_congr rfl fun k _ => congrArg f (Fin.ext (hrow t k))
  unfold rows
  split_ifs
  · exact key fun k => H k l
  · rw [← Finset.sum_mul]; exact congrArg (· * N l) (key fun k => H k l * xn X k l)
  · rw [← Finset.sum_mul]; exact congrArg (· * (1 + C l)) (key fun k => H k l * xn X k l)
  · exact Finset.sum_const_zero

end Cert.Norm

end
-- ==== Proof.Norm2.lean ====
/- The second norm's gradient: its value claim. -/
module

public import proofs.«01_k».proof.Defs
public import proofs.«01_k».proof.Proof.Norm
public import proofs.«01_k».proof.Proof.Relu
public import proofs.«01_k».proof.Proof.Loss
public import proofs.«01_k».proof.Proof.Gen.Norm2KernelIdeal.Value
public import proofs.«01_k».proof.Proof.Gen.Norm2ReferenceIdeal.Run
public import proofs.«01_k».proof.Proof.Gen.Norm2ReferenceIdeal.Read

@[expose] public section

set_option maxRecDepth 16384

noncomputable section

namespace Cert.Norm2

open Idealize.ShloMosaic Cert.Lift Cert.Norm
open Cert.Loss (rs add_of)

section Block
open Cert.Norm2KernelIdeal Cert.Norm2KernelIdeal.Gen
variable (h x : FVec Ideal S512x1024 .f32) (g s : FVec Ideal S1x1x1024 .f32)
variable (H X : Fin 512 → Fin 1024 → ℝ) (N C : Fin 1024 → ℝ)
variable (hh : ∀ r l, h (ix2 r l) = ((H r l : ℝ) : EReal)) (hx : ∀ r l, x (ix2 r l) = ((X r l : ℝ) : EReal))
variable (hg : ∀ l, g (ix3 0 0 l) = ((N l : ℝ) : EReal)) (hs : ∀ l, s (ix3 0 0 l) = ((C l : ℝ) : EReal))

include hx in
theorem pay10 (r : Fin 512) : k0_pay10 (F := Ideal) x (ix2 r 0) = ((rs X r : ℝ) : EReal) := Loss.pay4 x X hx r

include hx in
theorem pay11 (r : Fin 512) (l : Fin 1024) : k0_pay11 (F := Ideal) x (ix2 r l) = ((xn X r l : ℝ) : EReal) := Loss.pay5 x X hx r l

include hh in
theorem pay12 (v : FVec Ideal S1x1024 .f32) (l : Fin 1024) :
    k0_pay2 (F := Ideal) (k0_pay12 h) v (ix2 0 l) = v (ix2 0 l) + ((rows H X N C 0 l : ℝ) : EReal) := by
  pointwise [k0_pay2, k0_pay12]
  simp only [hh, coe_sum]
  rfl

include hh hx hg in
theorem pay13 (v : FVec Ideal S1x1024 .f32) (l : Fin 1024) :
    k0_pay3 (F := Ideal) (k0_pay13 h g x) v (ix2 0 l) = v (ix2 0 l) + ((rows H X N C 1 l : ℝ) : EReal) := by
  pointwise [k0_pay3, k0_pay13, k0_pay8]
  simp only [hh, hg, pay11 x X hx, ← EReal.coe_mul, coe_sum]
  rfl

include hh hx hs in
theorem pay14 (v : FVec Ideal S1x1024 .f32) (l : Fin 1024) :
    k0_pay4 (F := Ideal) (k0_pay14 h s x) v (ix2 0 l) = v (ix2 0 l) + ((rows H X N C 2 l : ℝ) : EReal) := by
  pointwise [k0_pay4, k0_pay14, k0_pay9]
  simp only [hh, hs, one_f32, pay11 x X hx, ← EReal.coe_mul, ← EReal.coe_add, coe_sum]
  rfl

include hh hx hg hs in
theorem pay15 (r : Fin 512) (l : Fin 1024) : k0_pay15 (F := Ideal) h g s x (ix2 r l) = ((dx H X N C r l : ℝ) : EReal) := by
  pointwise [k0_pay15, k0_pay8, k0_pay9]
  simp only [hh, hg, hs, ← EReal.coe_one, k1024_f32, pay10 x X hx, pay11 x X hx, ← EReal.coe_mul, ← EReal.coe_add, coe_sum,
    div_real _ (by norm_num : (1024 : ℝ) ≠ 0), ← EReal.coe_sub]
  rfl

include hh hx hg hs in
theorem pay1 (d : FVec Ideal S512x1024 .f32) (r : Fin 512) (l : Fin 1024) :
    k0_pay1 (F := Ideal) (k0_pay15 h g s x) d (ix2 r l) = d (ix2 r l) + ((dx H X N C r l : ℝ) : EReal) := by
  pointwise [k0_pay1]
  rw [pay15 h x g s H X N C hh hx hg hs]

theorem pay6 (j) : k0_pay6 (F := Ideal) j = ((0 : ℝ) : EReal) := by
  pointwise [k0_pay6]
  first | done | rfl | exact zero_f32

theorem pay7 (a0 : FVec Ideal S512x1024 .bf16) (w0 : FVec Ideal S1x1024x1024 .bf16) (a1 : FVec Ideal S512x1024 .bf16) (w1 : FVec Ideal S1x1024x1024 .bf16)
    (a2 : FVec Ideal S512x1024 .bf16) (w2 : FVec Ideal S1x1024x1024 .bf16) (a3 : FVec Ideal S512x1024 .bf16) (w3 : FVec Ideal S1x1024x1024 .bf16)
    (A : Fin 4 → Fin 512 → Fin 1024 → ℝ) (W : Fin 4 → Fin 1024 → Fin 1024 → ℝ)
    (ha0 : ∀ r k, a0 (ix2 r k) = ((A 0 r k : ℝ) : EReal)) (ha1 : ∀ r k, a1 (ix2 r k) = ((A 1 r k : ℝ) : EReal))
    (ha2 : ∀ r k, a2 (ix2 r k) = ((A 2 r k : ℝ) : EReal)) (ha3 : ∀ r k, a3 (ix2 r k) = ((A 3 r k : ℝ) : EReal))
    (hw0 : ∀ l k, w0 (ix3 0 l k) = ((W 0 l k : ℝ) : EReal)) (hw1 : ∀ l k, w1 (ix3 0 l k) = ((W 1 l k : ℝ) : EReal))
    (hw2 : ∀ l k, w2 (ix3 0 l k) = ((W 2 l k : ℝ) : EReal)) (hw3 : ∀ l k, w3 (ix3 0 l k) = ((W 3 l k : ℝ) : EReal))
    (r : Fin 512) (l : Fin 1024) : k0_pay7 (F := Ideal) a0 w0 a1 w1 a2 w2 a3 w3 (ix2 r l) = ((∑ j, ∑ k, A j r k * W j l k : ℝ) : EReal) := by
  rw [Fin.sum_univ_four]
  pointwise [k0_pay7]
  simp only [ha0, ha1, ha2, ha3, hw0, hw1, hw2, hw3, ← EReal.coe_mul, ← EReal.coe_add, coe_sum]

/-- The gated gradient through the output product. -/
theorem pay5 (a b : FVec Ideal S512x1024 .f32) (g : FVec Ideal S1x1x1024 .f32) (w : FVec Ideal S4x256x1024 .bf16) (r : Fin 512) (l : Fin 1024)
    (A : Fin 1024 → EReal) (hA : ∀ k, k0_pay1 (F := Ideal) a b (ix2 r k) = A k) :
    k0_pay5 (F := Ideal) a b g w (ix2 r l) = ∑ k, A k * g (ix3 0 0 k) * w (ix3 ⟨l.val / 256, by have := l.isLt; omega⟩ ⟨l.val % 256, by omega⟩ k) := by
  pointwise [k0_pay5]
  simp only [hA]
end Block

section Run
open Cert.Norm2KernelIdeal Cert.Norm2KernelIdeal.Gen
variable (m : (ℓ : Loc nD τ sig) → Buf (Elt Ideal) ℓ) (c : Dev nD)

theorem idx0 : ∀ t : Fin cfg0.N, win0_0.index t = ![t.val, 0] ∧ win0_1.index t = ![0, 0, 0] ∧ win0_2.index t = ![t.val, 0]
    ∧ win0_3.index t = ![t.val, 0] ∧ win0_4.index t = ![0, 0, 0] ∧ win0_5.index t = ![0, 0, 0] ∧ win0_6.index t = ![t.val, 0]
    ∧ win0_7.index t = ![0, 0] ∧ win0_8.index t = ![t.val, 0] :=
  (by decide +kernel : ∀ t : Fin grid0.N, _)

def row (t : Fin cfg0.N) (r : Fin 512) : Fin 4096 :=
  ⟨t.val * 512 + r.val, by have h : t.val < 8 := lt_of_lt_of_eq t.isLt N_0; have := r.isLt; omega⟩

def col (j : Fin 4) (k : Fin 1024) : Fin 4096 := ⟨j.val * 1024 + k.val, by have := j.isLt; have := k.isLt; omega⟩

/-- The modulation's rows as the kernel finds them. -/
def mod (g sh sc ng : FVec Ideal S1024 .f32) : FVec Ideal S1x8x1024 .f32 := broadcastInDim S1x8x1024 ![1, 2] bcast_S8x1024_S1x8x1024_1_2
    (concatenate S8x1024 0 [⟨S2x1024, (broadcastInDim S2x1024 ![] bcast_S_S2x1024 (constant (F := Ideal) S_ .f32 0x00000000#32) : FVec Ideal S2x1024 .f32)⟩,
      ⟨S1x1024, (broadcastInDim S1x1024 ![1] bcast_S1024_S1x1024_1 g : FVec Ideal S1x1024 .f32)⟩,
      ⟨S1x1024, (broadcastInDim S1x1024 ![1] bcast_S1024_S1x1024_1 sh : FVec Ideal S1x1024 .f32)⟩,
      ⟨S1x1024, (broadcastInDim S1x1024 ![1] bcast_S1024_S1x1024_1 sc : FVec Ideal S1x1024 .f32)⟩,
      ⟨S2x1024, (broadcastInDim S2x1024 ![] bcast_S_S2x1024 (constant (F := Ideal) S_ .f32 0x00000000#32) : FVec Ideal S2x1024 .f32)⟩,
      ⟨S1x1024, (broadcastInDim S1x1024 ![1] bcast_S1024_S1x1024_1 ng : FVec Ideal S1x1024 .f32)⟩]
      concatenates_S2x1024_S1x1024_S1x1024_S1x1024_S2x1024_S1x1024_S8x1024_d0)

theorem entry7 : V m c main_v7 = mod (m ((c.tc : Thread nD τ).loc main_arg4)) (m ((c.tc : Thread nD τ).loc main_arg5))
    (m ((c.tc : Thread nD τ).loc main_arg6)) (m ((c.tc : Thread nD τ).loc main_arg7)) := by
  unfold V mod
  after_results
  rfl

theorem mod2 (g sh sc ng : FVec Ideal S1024 .f32) (l : Fin 1024) : mod g sh sc ng (ix3 0 2 l) = g (ix1 l) := by
  pointwise [mod]
  try rfl
theorem mod4 (g sh sc ng : FVec Ideal S1024 .f32) (l : Fin 1024) : mod g sh sc ng (ix3 0 4 l) = sc (ix1 l) := by
  pointwise [mod]
  try rfl
theorem mod7 (g sh sc ng : FVec Ideal S1024 .f32) (l : Fin 1024) : mod g sh sc ng (ix3 0 7 l) = ng (ix1 l) := by
  pointwise [mod]
  try rfl

theorem entry10 : V m c main_v10 = truncf (F := Ideal) .bf16 (transpose S4x1024x1024 [1, 0, 2]
    (shapeCast S1024x4x1024 (m ((c.tc : Thread nD τ).loc main_arg1)) shapeCasts_S1024x4096_S1024x4x1024) transposes_S1024x4x1024_S4x1024x1024_1_0_2) bitsLt_bf16_f32 := by
  unfold V
  after_results
  rfl

theorem entry12 : V m c main_v12 = truncf (F := Ideal) .bf16
    (shapeCast S4x256x1024 (m ((c.tc : Thread nD τ).loc main_arg8)) shapeCasts_S1024x1024_S4x256x1024) bitsLt_bf16_f32 := by
  unfold V
  after_results
  rfl

theorem entry13 : V m c main_v13 = truncf (F := Ideal) .bf16 (m ((c.tc : Thread nD τ).loc main_arg0)) bitsLt_bf16_f32 := by
  unfold V
  after_results

theorem slots_at (A : FVec Ideal S1024x4096 .f32) (j : Fin 4) (l k : Fin 1024) : truncf (F := Ideal) .bf16 (transpose S4x1024x1024 [1, 0, 2]
    (shapeCast S1024x4x1024 A shapeCasts_S1024x4096_S1024x4x1024) transposes_S1024x4x1024_S4x1024x1024_1_0_2) bitsLt_bf16_f32 (ix3 j l k)
    = A (ix2 l (col j k)) := by
  unfold col
  pointwise
  try blk_ext

theorem out_at (A : FVec Ideal S1024x1024 .f32) (l k : Fin 1024) : truncf (F := Ideal) .bf16
    (shapeCast S4x256x1024 A shapeCasts_S1024x1024_S4x256x1024) bitsLt_bf16_f32
    (ix3 ⟨l.val / 256, by have := l.isLt; omega⟩ ⟨l.val % 256, by omega⟩ k) = A (ix2 l k) := by
  pointwise
  try blk_ext

variable (Y : Fin 4096 → Fin 4096 → ℝ) (W : Fin 1024 → Fin 4096 → ℝ) (X : Fin 4096 → Fin 1024 → ℝ) (C N : Fin 1024 → ℝ)
variable (hY : ∀ i, (m ((c.tc : Thread nD τ).loc main_arg0)) i = ((Y (i 0) (i 1) : ℝ) : EReal))
variable (hW : ∀ i, (m ((c.tc : Thread nD τ).loc main_arg1)) i = ((W (i 0) (i 1) : ℝ) : EReal))
variable (hX : ∀ i, (m ((c.tc : Thread nD τ).loc main_arg2)) i = ((X (i 0) (i 1) : ℝ) : EReal))
variable (hC : ∀ i, (m ((c.tc : Thread nD τ).loc main_arg6)) i = ((C (i 0) : ℝ) : EReal))
variable (hN : ∀ i, (m ((c.tc : Thread nD τ).loc main_arg7)) i = ((N (i 0) : ℝ) : EReal))

include hY in
theorem blk0 (t : Fin cfg0.N) (r : Fin 512) (k : Fin 4096) :
    (iblk m c 0 t : FVec Ideal S512x4096 .bf16) (ix2 r k) = ((Y (row t r) k : ℝ) : EReal) := by
  have e : (iblk m c 0 t : FVec Ideal S512x4096 .bf16) (ix2 r k) = (V m c main_v13 : FVec Ideal S4096x4096 .bf16) (ix2 (row t r) k) := by
    show _ = V m c (Pipeline.arrRef spec0 0) (ix2 (row t r) k)
    unfold row iblk
    generalize V m c (Pipeline.arrRef spec0 0) = A
    blk_point [idx0 t]
  rw [e, entry13]
  exact hY (ix2 (row t r) k)

include hW in
theorem blk1 (t : Fin cfg0.N) (j : Fin 4) (l k : Fin 1024) :
    (iblk m c 1 t : FVec Ideal S4x1024x1024 .bf16) (ix3 j l k) = ((W l (col j k) : ℝ) : EReal) := by
  have e : (iblk m c 1 t : FVec Ideal S4x1024x1024 .bf16) (ix3 j l k) = (V m c main_v10 : FVec Ideal S4x1024x1024 .bf16) (ix3 j l k) := by
    show _ = V m c (Pipeline.arrRef spec0 1) (ix3 j l k)
    unfold iblk
    generalize V m c (Pipeline.arrRef spec0 1) = A
    blk_point [idx0 t]
  rw [e, entry10]
  exact (slots_at _ j l k).trans (hW (ix2 l (col j k)))

include hX in
theorem blk2 (t : Fin cfg0.N) (r : Fin 512) (l : Fin 1024) :
    (iblk m c 2 t : FVec Ideal S512x1024 .f32) (ix2 r l) = ((X (row t r) l : ℝ) : EReal) := by
  have e : (iblk m c 2 t : FVec Ideal S512x1024 .f32) (ix2 r l) = (V m c main_arg2 : FVec Ideal S4096x1024 .f32) (ix2 (row t r) l) := by
    show _ = V m c (Pipeline.arrRef spec0 2) (ix2 (row t r) l)
    unfold row iblk
    generalize V m c (Pipeline.arrRef spec0 2) = A
    blk_point [idx0 t]
  rw [e, V_main_arg2, hX]; rfl

theorem blk3 (t : Fin cfg0.N) (r : Fin 512) (l : Fin 1024) :
    (iblk m c 3 t : FVec Ideal S512x1024 .f32) (ix2 r l) = (m ((c.tc : Thread nD τ).loc main_arg3)) (ix2 (row t r) l) := by
  have e : (iblk m c 3 t : FVec Ideal S512x1024 .f32) (ix2 r l) = (V m c main_arg3 : FVec Ideal S4096x1024 .f32) (ix2 (row t r) l) := by
    show _ = V m c (Pipeline.arrRef spec0 3) (ix2 (row t r) l)
    unfold row iblk
    generalize V m c (Pipeline.arrRef spec0 3) = A
    blk_point [idx0 t]
  rw [e, V_main_arg3]

theorem blk4 (t : Fin cfg0.N) (s : Fin 8) (l : Fin 1024) :
    (iblk m c 4 t : FVec Ideal S1x8x1024 .f32) (ix3 0 s l) = mod (m ((c.tc : Thread nD τ).loc main_arg4)) (m ((c.tc : Thread nD τ).loc main_arg5))
    (m ((c.tc : Thread nD τ).loc main_arg6)) (m ((c.tc : Thread nD τ).loc main_arg7)) (ix3 0 s l) := by
  have e : (iblk m c 4 t : FVec Ideal S1x8x1024 .f32) (ix3 0 s l) = (V m c main_v7 : FVec Ideal S1x8x1024 .f32) (ix3 0 s l) := by
    show _ = V m c (Pipeline.arrRef spec0 4) (ix3 0 s l)
    unfold iblk
    generalize V m c (Pipeline.arrRef spec0 4) = A
    blk_point [idx0 t]
  rw [e, entry7]

theorem blk5 (t : Fin cfg0.N) (l k : Fin 1024) :
    (iblk m c 5 t : FVec Ideal S4x256x1024 .bf16) (ix3 ⟨l.val / 256, by have := l.isLt; omega⟩ ⟨l.val % 256, by omega⟩ k)
      = (m ((c.tc : Thread nD τ).loc main_arg8)) (ix2 l k) := by
  have e (p : Fin 4) (q : Fin 256) : (iblk m c 5 t : FVec Ideal S4x256x1024 .bf16) (ix3 p q k) = (V m c main_v12 : FVec Ideal S4x256x1024 .bf16) (ix3 p q k) := by
    show _ = V m c (Pipeline.arrRef spec0 5) (ix3 p q k)
    unfold iblk
    generalize V m c (Pipeline.arrRef spec0 5) = A
    blk_point [idx0 t]
  rw [e, entry12]
  exact out_at _ l k

/-- The gradient behind the product. -/
def dh (Y : Fin 4096 → Fin 4096 → ℝ) (W : Fin 1024 → Fin 4096 → ℝ) (r : Fin 4096) (l : Fin 1024) : ℝ := ∑ k, Y r k * W l k

theorem dh_sum (r : Fin 4096) (l : Fin 1024) : ∑ j, ∑ k, Y r (col j k) * W l (col j k) = dh Y W r l :=
  Fin.sum_mul_add_fin 4 1024 (fun k : Fin 4096 => Y r k * W l k) rfl

/-- The product's gradient at point `t`, from the block's loads. -/
abbrev h7 (t : Fin cfg0.N) : FVec Ideal S512x1024 .f32 :=
  k0_pay7 (F := Ideal) (View.ld (iblk m c 0 t) (Rect.unit ![0, 0] ![512, 1024] inb_S512x4096_S512x1024_0_0))
          (View.ld (iblk m c 1 t) (Rect.unit ![0, 0, 0] ![1, 1024, 1024] inb_S4x1024x1024_S1x1024x1024_0_0_0))
          (View.ld (iblk m c 0 t) (Rect.unit ![0, 1024] ![512, 1024] inb_S512x4096_S512x1024_0_1024))
          (View.ld (iblk m c 1 t) (Rect.unit ![1, 0, 0] ![1, 1024, 1024] inb_S4x1024x1024_S1x1024x1024_1_0_0))
          (View.ld (iblk m c 0 t) (Rect.unit ![0, 2048] ![512, 1024] inb_S512x4096_S512x1024_0_2048))
          (View.ld (iblk m c 1 t) (Rect.unit ![2, 0, 0] ![1, 1024, 1024] inb_S4x1024x1024_S1x1024x1024_2_0_0))
          (View.ld (iblk m c 0 t) (Rect.unit ![0, 3072] ![512, 1024] inb_S512x4096_S512x1024_0_3072))
          (View.ld (iblk m c 1 t) (Rect.unit ![3, 0, 0] ![1, 1024, 1024] inb_S4x1024x1024_S1x1024x1024_3_0_0))

include hY hW in
theorem h7_eq (t : Fin cfg0.N) (r : Fin 512) (l : Fin 1024) : h7 m c t (ix2 r l) = ((dh Y W (row t r) l : ℝ) : EReal) := by
  rw [← dh_sum]
  refine pay7 _ _ _ _ _ _ _ _ (fun j r k => Y (row t r) (col j k)) (fun j l k => W l (col j k)) ?_ ?_ ?_ ?_ ?_ ?_ ?_ ?_ r l
  · exact fun r k => Eq.trans (b := (iblk m c 0 t : FVec Ideal S512x4096 .bf16) (ix2 r (col 0 k)))
      (View.ld_unit_apply_of _ _ _ _ _ _ (by intro a; fin_cases a <;> simp [ix2, col])) (blk0 m c Y hY t r _)
  · exact fun r k => Eq.trans (b := (iblk m c 0 t : FVec Ideal S512x4096 .bf16) (ix2 r (col 1 k)))
      (View.ld_unit_apply_of _ _ _ _ _ _ (by intro a; fin_cases a <;> simp [ix2, col])) (blk0 m c Y hY t r _)
  · exact fun r k => Eq.trans (b := (iblk m c 0 t : FVec Ideal S512x4096 .bf16) (ix2 r (col 2 k)))
      (View.ld_unit_apply_of _ _ _ _ _ _ (by intro a; fin_cases a <;> simp [ix2, col])) (blk0 m c Y hY t r _)
  · exact fun r k => Eq.trans (b := (iblk m c 0 t : FVec Ideal S512x4096 .bf16) (ix2 r (col 3 k)))
      (View.ld_unit_apply_of _ _ _ _ _ _ (by intro a; fin_cases a <;> simp [ix2, col])) (blk0 m c Y hY t r _)
  · exact fun l k => Eq.trans (b := (iblk m c 1 t : FVec Ideal S4x1024x1024 .bf16) (ix3 0 l k))
      (View.ld_unit_apply_of _ _ _ _ _ _ (by intro a; fin_cases a <;> simp [ix3])) (blk1 m c W hW t 0 l k)
  · exact fun l k => Eq.trans (b := (iblk m c 1 t : FVec Ideal S4x1024x1024 .bf16) (ix3 1 l k))
      (View.ld_unit_apply_of _ _ _ _ _ _ (by intro a; fin_cases a <;> simp [ix3])) (blk1 m c W hW t 1 l k)
  · exact fun l k => Eq.trans (b := (iblk m c 1 t : FVec Ideal S4x1024x1024 .bf16) (ix3 2 l k))
      (View.ld_unit_apply_of _ _ _ _ _ _ (by intro a; fin_cases a <;> simp [ix3])) (blk1 m c W hW t 2 l k)
  · exact fun l k => Eq.trans (b := (iblk m c 1 t : FVec Ideal S4x1024x1024 .bf16) (ix3 3 l k))
      (View.ld_unit_apply_of _ _ _ _ _ _ (by intro a; fin_cases a <;> simp [ix3])) (blk1 m c W hW t 3 l k)

include hN in
theorem ld7 (t : Fin cfg0.N) (l : Fin 1024) : (View.ld (iblk m c 4 t) (Rect.unit ![0, 7, 0] ![1, 1, 1024] inb_S1x8x1024_S1x1x1024_0_7_0) : FVec Ideal S1x1x1024 .f32) (ix3 0 0 l)
    = ((N l : ℝ) : EReal) :=
  Eq.trans (b := (iblk m c 4 t : FVec Ideal S1x8x1024 .f32) (ix3 0 7 l)) (View.ld_unit_apply_of _ _ _ _ _ _ (by intro a; fin_cases a <;> simp [ix3]))
    ((blk4 m c t 7 l).trans ((mod7 _ _ _ _ l).trans (hN (ix1 l))))

include hC in
theorem ld4 (t : Fin cfg0.N) (l : Fin 1024) : (View.ld (iblk m c 4 t) (Rect.unit ![0, 4, 0] ![1, 1, 1024] inb_S1x8x1024_S1x1x1024_0_4_0) : FVec Ideal S1x1x1024 .f32) (ix3 0 0 l)
    = ((C l : ℝ) : EReal) :=
  Eq.trans (b := (iblk m c 4 t : FVec Ideal S1x8x1024 .f32) (ix3 0 4 l)) (View.ld_unit_apply_of _ _ _ _ _ _ (by intro a; fin_cases a <;> simp [ix3]))
    ((blk4 m c t 4 l).trans ((mod4 _ _ _ _ l).trans (hC (ix1 l))))

theorem ld2 (t : Fin cfg0.N) (l : Fin 1024) : (View.ld (iblk m c 4 t) (Rect.unit ![0, 2, 0] ![1, 1, 1024] inb_S1x8x1024_S1x1x1024_0_2_0) : FVec Ideal S1x1x1024 .f32) (ix3 0 0 l)
    = (m ((c.tc : Thread nD τ).loc main_arg4)) (ix1 l) :=
  Eq.trans (b := (iblk m c 4 t : FVec Ideal S1x8x1024 .f32) (ix3 0 2 l)) (View.ld_unit_apply_of _ _ _ _ _ _ (by intro a; fin_cases a <;> simp [ix3]))
    ((blk4 m c t 2 l).trans (mod2 _ _ _ _ l))

/-- What point `t` adds to the statistics. -/
def part (Y : Fin 4096 → Fin 4096 → ℝ) (W : Fin 1024 → Fin 4096 → ℝ) (X : Fin 4096 → Fin 1024 → ℝ) (C N : Fin 1024 → ℝ) (t : Fin cfg0.N) (r : Fin 8) (l : Fin 1024) : ℝ :=
  rows (fun k => dh Y W (row t k)) (fun k => X (row t k)) N C r l

theorem part_zero (t : Fin cfg0.N) (r : Fin 8) (l : Fin 1024) (h : 3 ≤ r.val) : part Y W X C N t r l = 0 := by
  unfold part rows
  rw [if_neg (by rintro rfl; simp at h), if_neg (by rintro rfl; simp at h), if_neg (by rintro rfl; simp at h)]

set_option maxHeartbeats 1000000 in
include hY hW hX hC hN in
theorem statsA (t : Fin cfg0.N) (h : t.val % 8 = 0) (r : Fin 8) (l : Fin 1024) :
    (outsAt0 m c t.val t.isLt).2.1 (ix2 r l) = ((0 : ℝ) : EReal) + ((part Y W X C N t r l : ℝ) : EReal) := by
  have p0 := pay12 (h7 m c t) _ (fun k => X (row t k)) N C (h7_eq m c Y W hY hW t)
  have p1 := pay13 (h7 m c t) _ _ _ _ N C (h7_eq m c Y W hY hW t) (blk2 m c X hX t) (ld7 m c N hN t)
  have p2 := pay14 (h7 m c t) _ _ _ _ N C (h7_eq m c Y W hY hW t) (blk2 m c X hX t) (ld4 m c C hC t)
  rw [outsAt0_A m c t h]
  frame_out
  simp only [View.readCov_eq_canon']
  rcases (by omega : r.val = 0 ∨ r.val = 1 ∨ r.val = 2 ∨ 3 ≤ r.val) with e | e | e | e
  · obtain rfl : r = 0 := Fin.ext e
    refine (Pieces.canon_miss _ _ _ _ 0 (Or.inl (by show (0 : ℕ) < 2; decide))).trans ?_
    refine (Pieces.canon_miss _ _ _ _ 0 (Or.inl (by show (0 : ℕ) < 1; decide))).trans ?_
    refine (Pieces.canon_hit _ _ _ _ (ix2 0 l) (by intro a; fin_cases a <;> simp [ix2])).trans ?_
    refine add_of (p0 _ l) ?_
    exact (Pieces.canon_hit _ _ _ _ (ix2 0 l) (by intro a; fin_cases a <;> simp [ix2])).trans (pay6 _)
  · obtain rfl : r = 1 := Fin.ext e
    refine (Pieces.canon_miss _ _ _ _ 0 (Or.inl (by show (1 : ℕ) < 2; decide))).trans ?_
    refine (Pieces.canon_hit _ _ _ _ (ix2 0 l) (by intro a; fin_cases a <;> simp [ix2])).trans ?_
    refine add_of (p1 _ l) ?_
    refine (Pieces.canon_miss _ _ _ _ 0 (Or.inr (by show (0 : ℕ) + 1 ≤ 1; decide))).trans ?_
    exact (Pieces.canon_hit _ _ _ _ (ix2 1 l) (by intro a; fin_cases a <;> simp [ix2])).trans (pay6 _)
  · obtain rfl : r = 2 := Fin.ext e
    refine (Pieces.canon_hit _ _ _ _ (ix2 0 l) (by intro a; fin_cases a <;> simp [ix2])).trans ?_
    refine add_of (p2 _ l) ?_
    refine (Pieces.canon_miss _ _ _ _ 0 (Or.inr (by show (1 : ℕ) + 1 ≤ 2; decide))).trans ?_
    refine (Pieces.canon_miss _ _ _ _ 0 (Or.inr (by show (0 : ℕ) + 1 ≤ 2; decide))).trans ?_
    exact (Pieces.canon_hit _ _ _ _ (ix2 2 l) (by intro a; fin_cases a <;> simp [ix2])).trans (pay6 _)
  · rw [part_zero Y W X C N t r l e, EReal.coe_zero, add_zero]
    refine (Pieces.canon_miss _ _ _ _ 0 (Or.inr (by show 2 + 1 ≤ r.val; omega))).trans ?_
    refine (Pieces.canon_miss _ _ _ _ 0 (Or.inr (by show 1 + 1 ≤ r.val; omega))).trans ?_
    refine (Pieces.canon_miss _ _ _ _ 0 (Or.inr (by show 0 + 1 ≤ r.val; omega))).trans ?_
    exact (Pieces.canon_hit _ _ _ _ (ix2 r l) (by intro a; fin_cases a <;> simp [ix2])).trans (pay6 _)

include hY hW hX hC hN in
theorem statsB (t : Fin cfg0.N) (h : ¬ t.val % 8 = 0) (r : Fin 8) (l : Fin 1024) :
    (outsAt0 m c t.val t.isLt).2.1 (ix2 r l)
      = (outsAt0 m c (t.val - 1) (Nat.lt_of_le_of_lt (Nat.sub_le _ _) t.isLt)).2.1 (ix2 r l) + ((part Y W X C N t r l : ℝ) : EReal) := by
  have p0 := pay12 (h7 m c t) _ (fun k => X (row t k)) N C (h7_eq m c Y W hY hW t)
  have p1 := pay13 (h7 m c t) _ _ _ _ N C (h7_eq m c Y W hY hW t) (blk2 m c X hX t) (ld7 m c N hN t)
  have p2 := pay14 (h7 m c t) _ _ _ _ N C (h7_eq m c Y W hY hW t) (blk2 m c X hX t) (ld4 m c C hC t)
  rw [outsAt0_B m c t h]
  frame_out
  rcases (by omega : r.val = 0 ∨ r.val = 1 ∨ r.val = 2 ∨ 3 ≤ r.val) with e | e | e | e
  · obtain rfl : r = 0 := Fin.ext e
    refine (View.read_writes_cons_unit_of_not_mem _ _ _ _ _ _ rfl 0 (Or.inl (by show (0 : ℕ) < 2; decide))).trans ?_
    refine (View.read_writes_cons_unit_of_not_mem _ _ _ _ _ _ rfl 0 (Or.inl (by show (0 : ℕ) < 1; decide))).trans ?_
    refine (View.read_writes_cons_unit_of_mem _ _ _ _ _ _ (ix2 0 l) rfl (by intro a; fin_cases a <;> simp [ix2])).trans ?_
    refine add_of (p0 _ l) ?_
    exact View.ld_unit_apply_of _ _ _ _ _ _ (by intro a; fin_cases a <;> simp [ix2])
  · obtain rfl : r = 1 := Fin.ext e
    refine (View.read_writes_cons_unit_of_not_mem _ _ _ _ _ _ rfl 0 (Or.inl (by show (1 : ℕ) < 2; decide))).trans ?_
    refine (View.read_writes_cons_unit_of_mem _ _ _ _ _ _ (ix2 0 l) rfl (by intro a; fin_cases a <;> simp [ix2])).trans ?_
    refine add_of (p1 _ l) ?_
    exact View.ld_unit_apply_of _ _ _ _ _ _ (by intro a; fin_cases a <;> simp [ix2])
  · obtain rfl : r = 2 := Fin.ext e
    refine (View.read_writes_cons_unit_of_mem _ _ _ _ _ _ (ix2 0 l) rfl (by intro a; fin_cases a <;> simp [ix2])).trans ?_
    refine add_of (p2 _ l) ?_
    exact View.ld_unit_apply_of _ _ _ _ _ _ (by intro a; fin_cases a <;> simp [ix2])
  · rw [part_zero Y W X C N t r l e, EReal.coe_zero, add_zero]
    refine (View.read_writes_cons_unit_of_not_mem _ _ _ _ _ _ rfl 0 (Or.inr (by show 2 + 1 ≤ r.val; omega))).trans ?_
    refine (View.read_writes_cons_unit_of_not_mem _ _ _ _ _ _ rfl 0 (Or.inr (by show 1 + 1 ≤ r.val; omega))).trans ?_
    refine (View.read_writes_cons_unit_of_not_mem _ _ _ _ _ _ rfl 0 (Or.inr (by show 0 + 1 ≤ r.val; omega))).trans ?_
    rw [View.writes_nil, Memref.IsWhole.read_unread]

/-- The stream's gradient with what reached it from above. -/
def dx1 (d : FVec Ideal S4096x1024 .f32) (Y : Fin 4096 → Fin 4096 → ℝ) (W : Fin 1024 → Fin 4096 → ℝ) (X : Fin 4096 → Fin 1024 → ℝ) (C N : Fin 1024 → ℝ)
    (r : Fin 4096) (l : Fin 1024) : EReal := d (ix2 r l) + ((dx (dh Y W) X N C r l : ℝ) : EReal)

include hY hW hX hC hN in
theorem point1 (t : Fin cfg0.N) (r : Fin 512) (l : Fin 1024) :
    k0_pay1 (F := Ideal) (k0_pay15 (h7 m c t) (View.ld (iblk m c 4 t) (Rect.unit ![0, 7, 0] ![1, 1, 1024] inb_S1x8x1024_S1x1x1024_0_7_0))
      (View.ld (iblk m c 4 t) (Rect.unit ![0, 4, 0] ![1, 1, 1024] inb_S1x8x1024_S1x1x1024_0_4_0)) (iblk m c 2 t)) (iblk m c 3 t) (ix2 r l)
      = dx1 (m ((c.tc : Thread nD τ).loc main_arg3)) Y W X C N (row t r) l :=
  (pay1 (h7 m c t) _ _ _ _ _ N C (h7_eq m c Y W hY hW t) (blk2 m c X hX t) (ld7 m c N hN t) (ld4 m c C hC t) _ r l).trans
    (congrArg (fun z : EReal => z + ((dx (dh Y W) X N C (row t r) l : ℝ) : EReal)) (blk3 m c t r l))

include hY hW hX hC hN in
theorem grad (t : Fin cfg0.N) (r : Fin 512) (l : Fin 1024) :
    (outsAt0 m c t.val t.isLt).1 (ix2 r l) = dx1 (m ((c.tc : Thread nD τ).loc main_arg3)) Y W X C N (row t r) l := by
  by_cases h : t.val % 8 = 0
  · rw [outsAt0_A m c t h]
    frame_out
    exact point1 m c Y W X C N hY hW hX hC hN t r l
  · rw [outsAt0_B m c t h]
    frame_out
    exact point1 m c Y W X C N hY hW hX hC hN t r l

/-- The mixers' gradient at a row: the gated gradient through the output product. -/
def dmix (g : FVec Ideal S1024 .f32) (w : FVec Ideal S1024x1024 .f32) (d : Fin 4096 → Fin 1024 → EReal) (r : Fin 4096) (l : Fin 1024) : EReal :=
  ∑ k, d r k * g (ix1 k) * w (ix2 l k)

include hY hW hX hC hN in
theorem point5 (t : Fin cfg0.N) (r : Fin 512) (l : Fin 1024) :
    k0_pay5 (F := Ideal) (k0_pay15 (h7 m c t) (View.ld (iblk m c 4 t) (Rect.unit ![0, 7, 0] ![1, 1, 1024] inb_S1x8x1024_S1x1x1024_0_7_0))
      (View.ld (iblk m c 4 t) (Rect.unit ![0, 4, 0] ![1, 1, 1024] inb_S1x8x1024_S1x1x1024_0_4_0)) (iblk m c 2 t)) (iblk m c 3 t)
      (View.ld (iblk m c 4 t) (Rect.unit ![0, 2, 0] ![1, 1, 1024] inb_S1x8x1024_S1x1x1024_0_2_0)) (iblk m c 5 t) (ix2 r l)
      = dmix (m ((c.tc : Thread nD τ).loc main_arg4)) (m ((c.tc : Thread nD τ).loc main_arg8))
        (dx1 (m ((c.tc : Thread nD τ).loc main_arg3)) Y W X C N) (row t r) l := by
  refine (pay5 _ _ _ _ r l _ (fun k => point1 m c Y W X C N hY hW hX hC hN t r k)).trans ?_
  unfold dmix
  exact Finset.sum_congr rfl fun k _ => Relu.mul_congr (Relu.mul_congr rfl (ld2 m c t k)) (blk5 m c t l k)

include hY hW hX hC hN in
theorem gmix (t : Fin cfg0.N) (r : Fin 512) (l : Fin 1024) :
    (outsAt0 m c t.val t.isLt).2.2 (ix2 r l) = dmix (m ((c.tc : Thread nD τ).loc main_arg4)) (m ((c.tc : Thread nD τ).loc main_arg8))
        (dx1 (m ((c.tc : Thread nD τ).loc main_arg3)) Y W X C N) (row t r) l := by
  by_cases h : t.val % 8 = 0
  · rw [outsAt0_A m c t h]
    frame_out
    exact point5 m c Y W X C N hY hW hX hC hN t r l
  · rw [outsAt0_B m c t h]
    frame_out
    exact point5 m c Y W X C N hY hW hX hC hN t r l

/-- An array from its elements. -/
def arr (f : Fin 4096 → Fin 1024 → EReal) (i : S4096x1024.Idx) : EReal := f (i 0) (i 1)

include hY hW hX hC hN in
theorem final6 : (dats m 0 c).arrAt 6 cfg0.N = arr (dx1 (m ((c.tc : Thread nD τ).loc main_arg3)) Y W X C N) := by
  refine (dats m 0 c).arrAt_eq_of_covers 6 _ (by decide +kernel) fun t _ y => ?_
  blk_simp
  rw [after0_6]
  idx_vars y
  refine (grad m c Y W X C N hY hW hX hC hN t _ _).trans ?_
  generalize dx1 (m ((c.tc : Thread nD τ).loc main_arg3)) Y W X C N = A
  refine Eq.trans (b := arr A (ix2 (row t y0) y1)) rfl (congrArg (arr A) ?_)
  unfold row
  blk_ext [idx0 t]

include hY hW hX hC hN in
theorem final8 : (dats m 0 c).arrAt 8 cfg0.N = arr (dmix (m ((c.tc : Thread nD τ).loc main_arg4)) (m ((c.tc : Thread nD τ).loc main_arg8))
        (dx1 (m ((c.tc : Thread nD τ).loc main_arg3)) Y W X C N)) := by
  refine (dats m 0 c).arrAt_eq_of_covers 8 _ (by decide +kernel) fun t _ y => ?_
  blk_simp
  rw [after0_8]
  idx_vars y
  refine (gmix m c Y W X C N hY hW hX hC hN t _ _).trans ?_
  generalize dmix _ _ _ = A
  refine Eq.trans (b := arr A (ix2 (row t y0) y1)) rfl (congrArg (arr A) ?_)
  unfold row
  blk_ext [idx0 t]

include hY hW hX hC hN in
theorem final7 : (dats m 0 c).arrAt 7 cfg0.N = fun i => ((rows (dh Y W) X N C (i 0) (i 1) : ℝ) : EReal) := by
  refine (dats m 0 c).arrAt_eq_of_after_last 7 t0_7 (by decide +kernel) _ fun j => ?_
  blk_simp
  idx_vars j
  rw [after0_7]
  refine (Pipeline.eq_sum_fin_of_reset_step_apply_last (fun n h (i : Fin 8 × Fin 1024) => (outsAt0 m c n h).2.1 (ix2 i.1 i.2)) 8
    (fun _ => ((0 : ℝ) : EReal)) (fun t i => ((part Y W X C N t i.1 i.2 : ℝ) : EReal))
    (fun t h i => statsA m c Y W X C N hY hW hX hC hN t h i.1 i.2) (fun t h i => statsB m c Y W X C N hY hW hX hC hN t h i.1 i.2)
    (le_of_eq N_0) t0_7 rfl (j0, j1)).trans ?_
  rw [coe_sum, ← EReal.coe_add, zero_add]
  exact congrArg _ (rows_sum (dh Y W) X N C cfg0.N (by rw [show cfg0.N = 8 from N_0]) row (fun _ _ => rfl) j0 j1)

end Run

section Ref
open Cert.Norm2ReferenceIdeal Cert.Norm2ReferenceIdeal.Value Cert.Norm2ReferenceIdeal.Read
variable (x0 : FVec Ideal S4096x4096 .f32) (x1 : FVec Ideal S1024x4096 .f32) (x2 x3 : FVec Ideal S4096x1024 .f32)
variable (x4 x6 x7 : FVec Ideal S1024 .f32) (x8 : FVec Ideal S1024x1024 .f32)
variable (Y : Fin 4096 → Fin 4096 → ℝ) (W : Fin 1024 → Fin 4096 → ℝ) (X : Fin 4096 → Fin 1024 → ℝ) (C N : Fin 1024 → ℝ)
variable (h0 : ∀ i, x0 i = ((Y (i 0) (i 1) : ℝ) : EReal)) (h1 : ∀ i, x1 i = ((W (i 0) (i 1) : ℝ) : EReal))
variable (h2 : ∀ i, x2 i = ((X (i 0) (i 1) : ℝ) : EReal)) (h6 : ∀ i, x6 i = ((C (i 0) : ℝ) : EReal)) (h7 : ∀ i, x7 i = ((N (i 0) : ℝ) : EReal))

include h2 in
theorem ref7 (i) : val_main_v7 (F := Ideal) x2 i = ((rs X (i 0) : ℝ) : EReal) := Loss.v7 x2 X h2 i
include h2 in
theorem ref10 (i) : val_main_v10 (F := Ideal) x2 i = ((-(1 / 2) * (rs X (i 0) * rs X (i 0) * rs X (i 0)) : ℝ) : EReal) := Loss.v10 x2 X h2 i
include h2 in
theorem ref12 (r : Fin 4096) (l : Fin 1024) : val_main_v12 (F := Ideal) x2 (ix2 r l) = ((xn X r l : ℝ) : EReal) := Loss.v12 x2 X h2 (ix2 r l)

include h2 h7 in
theorem ref15 (r : Fin 4096) (l : Fin 1024) : val_main_v15 (F := Ideal) x2 x7 (ix2 r l) = ((xn X r l * N l : ℝ) : EReal) := by
  pointwise [val_main_v15, val_main_v14, val_main_v13]
  simp only [ref12 x2 X h2, h7, ← EReal.coe_mul]
  rfl

include h0 h1 in
theorem ref25 (r : Fin 4096) (l : Fin 1024) : val_main_v25 (F := Ideal) x0 x1 (ix2 r l) = ((dh Y W r l : ℝ) : EReal) := by
  pointwise [val_main_v25]
  simp only [h0, h1, ← EReal.coe_mul, coe_sum]
  rfl

include h0 h1 h6 in
theorem ref33 (r : Fin 4096) (l : Fin 1024) : val_main_v33 (F := Ideal) x0 x1 x6 (ix2 r l) = ((dh Y W r l * (1 + C l) : ℝ) : EReal) := by
  pointwise [val_main_v33, val_main_v32, val_main_v18, val_main_v17, val_main_v16, val_main_cst_3]
  simp only [ref25 x0 x1 Y W h0 h1, h6, ← EReal.coe_one, ← EReal.coe_add, ← EReal.coe_mul]
  rfl

include h0 h1 h6 h7 in
theorem ref39 (r : Fin 4096) (l : Fin 1024) : val_main_v39 (F := Ideal) x0 x1 x6 x7 (ix2 r l) = ((dh Y W r l * (1 + C l) * N l : ℝ) : EReal) := by
  pointwise [val_main_v39, val_main_v38, val_main_v13]
  simp only [ref33 x0 x1 x6 Y W C h0 h1 h6, h7, ← EReal.coe_mul]
  rfl

include h0 h1 in
theorem ref28 (l : Fin 1024) : val_main_v28 (F := Ideal) x0 x1 (ix1 l) = ((∑ k, dh Y W k l : ℝ) : EReal) := by
  pointwise [val_main_v28, val_main_v27, val_main_v26, val_main_cst_4, val_main_cst_5]
  simp only [ref25 x0 x1 Y W h0 h1, coe_sum, Fin.sum_univ_one]

include h0 h1 h2 h7 in
theorem ref34 (l : Fin 1024) : val_main_v34 (F := Ideal) x0 x1 x2 x7 (ix1 l) = (((∑ k, dh Y W k l * xn X k l) * N l : ℝ) : EReal) := by
  pointwise [val_main_v34, val_main_v31, val_main_v30, val_main_v29, val_main_cst_6, val_main_cst_7]
  simp only [ref25 x0 x1 Y W h0 h1, ref15 x2 x7 X N h2 h7, ← EReal.coe_mul, coe_sum, Fin.sum_univ_one]
  exact congrArg _ (row1_eq (dh Y W) X N l)

include h0 h1 h2 h6 in
theorem ref40 (l : Fin 1024) : val_main_v40 (F := Ideal) x0 x1 x2 x6 (ix1 l) = (((∑ k, dh Y W k l * xn X k l) * (1 + C l) : ℝ) : EReal) := by
  pointwise [val_main_v40, val_main_v37, val_main_v36, val_main_v35, val_main_cst_8, val_main_cst_9]
  simp only [ref33 x0 x1 x6 Y W C h0 h1 h6, ref12 x2 X h2, ← EReal.coe_mul, coe_sum, Fin.sum_univ_one]
  exact congrArg _ (row2_eq (dh Y W) X C l)

include h0 h1 h2 h6 h7 in
theorem ref43 (r : Fin 4096) : val_main_v43 (F := Ideal) x0 x1 x2 x6 x7 (ix2 r 0) = ((∑ k, X r k * (dh Y W r k * (1 + C k) * N k) : ℝ) : EReal) := by
  pointwise [val_main_v43, val_main_v42, val_main_v41, val_main_cst_10]
  simp only [ref39 x0 x1 x6 x7 Y W C N h0 h1 h6 h7, h2, ← EReal.coe_mul, coe_sum]
  rfl

include h0 h1 h2 h6 h7 in
theorem ref50 (r : Fin 4096) (l : Fin 1024) : val_main_v50 (F := Ideal) x0 x1 x2 x6 x7 (ix2 r l)
    = (((∑ k, X r k * (dh Y W r k * (1 + C k) * N k)) * (-(1 / 2) * (rs X r * rs X r * rs X r)) / 1024 : ℝ) : EReal) := by
  pointwise [val_main_v50, val_main_v49, val_main_v48, val_main_v47, val_main_v46, val_main_cst_11, val_main_cst_12]
  simp only [ref43 x0 x1 x2 x6 x7 Y W X C N h0 h1 h2 h6 h7, ref10 x2 X h2, k1024_f32, ← EReal.coe_mul,
    div_real _ (by norm_num : (1024 : ℝ) ≠ 0), coe_sum, Fin.sum_univ_one]
  rfl

include h0 h1 h2 h6 h7 in
theorem ref55 (r : Fin 4096) (l : Fin 1024) : val_main_v55 (F := Ideal) x0 x1 x2 x3 x6 x7 (ix2 r l) = dx1 x3 Y W X C N r l := by
  pointwise [val_main_v55, val_main_v54, val_main_v53, val_main_v52, val_main_v51, val_main_v45, val_main_v44]
  simp only [ref50 x0 x1 x2 x6 x7 Y W X C N h0 h1 h2 h6 h7, ref39 x0 x1 x6 x7 Y W C N h0 h1 h6 h7, ref7 x2 X h2, h2, ← EReal.coe_mul, ← EReal.coe_add]
  exact congrArg (fun z : ℝ => x3 (ix2 r l) + (z : EReal)) (dx_eq (dh Y W) X N C r l _ rfl)

include h0 h1 h2 h6 h7 in
theorem ref68 (r : Fin 4096) (l : Fin 1024) : val_main_v68 (F := Ideal) x0 x1 x2 x3 x4 x6 x7 x8 (ix2 r l)
    = dmix x4 x8 (dx1 x3 Y W X C N) r l := by
  pointwise [val_main_v68, val_main_v62, val_main_v61, val_main_v60, val_main_v57]
  simp only [ref55 x0 x1 x2 x3 x6 x7 Y W X C N h0 h1 h2 h6 h7]
  exact Finset.sum_congr rfl fun k _ => Relu.mul_congr (mul_comm _ _) rfl

include h0 h1 h2 h6 h7 in
theorem ref67 (r : Fin 8) (l : Fin 1024) : val_main_v67 (F := Ideal) x0 x1 x2 x6 x7 (ix2 r l) = ((rows (dh Y W) X N C r l : ℝ) : EReal) := by
  pointwise [val_main_v67, val_main_v63, val_main_v64, val_main_v65, val_main_v66, val_main_cst_13]
  simp only [ref28 x0 x1 Y W h0 h1, ref34 x0 x1 x2 x7 Y W X N h0 h1 h2 h7, ref40 x0 x1 x2 x6 Y W X C h0 h1 h2 h6]
  unfold rows
  rcases (by omega : r.val = 0 ∨ r.val = 1 ∨ r.val = 2 ∨ 3 ≤ r.val) with e | e | e | e
  · obtain rfl : r = 0 := Fin.ext e
    rfl
  · obtain rfl : r = 1 := Fin.ext e
    rfl
  · obtain rfl : r = 2 := Fin.ext e
    rfl
  · rw [if_neg (by rintro rfl; simp at e), if_neg (by rintro rfl; simp at e), if_neg (by rintro rfl; simp at e)]
    simp only [show ¬ r.val < 1 by omega, show ¬ r.val - 1 < 1 by omega, show ¬ r.val - 1 - 1 < 1 by omega, dite_false]
    first | exact EReal.coe_zero.symm | exact zero_f32
end Ref

instance pre_facts : Cert.Pre_finite_norm2_arguments.Facts := ⟨by decide, by decide, by decide, by decide⟩

section Values
open Cert.Norm2KernelIdeal
variable (m : (ℓ : Loc nD τ sig) → Buf (Elt Ideal) ℓ)
variable (m' : (ℓ : Loc Cert.Norm2ReferenceIdeal.nD Cert.Norm2ReferenceIdeal.τ Cert.Norm2ReferenceIdeal.sig) → Buf (Elt Ideal) ℓ)

theorem values (c : Dev nD) (hp : (Cert.Pre_finite_norm2_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).1 = (fun _ => 1#1)
      ∧ (Cert.Pre_finite_norm2_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.1 = (fun _ => 1#1)
      ∧ (Cert.Pre_finite_norm2_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.1 = (fun _ => 1#1)
      ∧ (Cert.Pre_finite_norm2_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.1 = (fun _ => 1#1)
      ∧ (Cert.Pre_finite_norm2_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.2 = (fun _ => 1#1))
    (he : m' ((c.tc : Thread Cert.Norm2ReferenceIdeal.nD Cert.Norm2ReferenceIdeal.τ).loc Cert.Norm2ReferenceIdeal.main_arg0) = m ((c.tc : Thread nD τ).loc main_arg0)
      ∧ m' ((c.tc : Thread Cert.Norm2ReferenceIdeal.nD Cert.Norm2ReferenceIdeal.τ).loc Cert.Norm2ReferenceIdeal.main_arg1) = m ((c.tc : Thread nD τ).loc main_arg1)
      ∧ m' ((c.tc : Thread Cert.Norm2ReferenceIdeal.nD Cert.Norm2ReferenceIdeal.τ).loc Cert.Norm2ReferenceIdeal.main_arg2) = m ((c.tc : Thread nD τ).loc main_arg2)
      ∧ m' ((c.tc : Thread Cert.Norm2ReferenceIdeal.nD Cert.Norm2ReferenceIdeal.τ).loc Cert.Norm2ReferenceIdeal.main_arg3) = m ((c.tc : Thread nD τ).loc main_arg3)
      ∧ m' ((c.tc : Thread Cert.Norm2ReferenceIdeal.nD Cert.Norm2ReferenceIdeal.τ).loc Cert.Norm2ReferenceIdeal.main_arg4) = m ((c.tc : Thread nD τ).loc main_arg4)
      ∧ m' ((c.tc : Thread Cert.Norm2ReferenceIdeal.nD Cert.Norm2ReferenceIdeal.τ).loc Cert.Norm2ReferenceIdeal.main_arg5) = m ((c.tc : Thread nD τ).loc main_arg5)
      ∧ m' ((c.tc : Thread Cert.Norm2ReferenceIdeal.nD Cert.Norm2ReferenceIdeal.τ).loc Cert.Norm2ReferenceIdeal.main_arg6) = m ((c.tc : Thread nD τ).loc main_arg6)
      ∧ m' ((c.tc : Thread Cert.Norm2ReferenceIdeal.nD Cert.Norm2ReferenceIdeal.τ).loc Cert.Norm2ReferenceIdeal.main_arg7) = m ((c.tc : Thread nD τ).loc main_arg7)
      ∧ m' ((c.tc : Thread Cert.Norm2ReferenceIdeal.nD Cert.Norm2ReferenceIdeal.τ).loc Cert.Norm2ReferenceIdeal.main_arg8) = m ((c.tc : Thread nD τ).loc main_arg8)) :
    Cert.Norm2ReferenceIdeal.Read.val_main_v55 (F := Ideal) (m' ((c.tc : Thread Cert.Norm2ReferenceIdeal.nD Cert.Norm2ReferenceIdeal.τ).loc Cert.Norm2ReferenceIdeal.main_arg0)) (m' ((c.tc : Thread Cert.Norm2ReferenceIdeal.nD Cert.Norm2ReferenceIdeal.τ).loc Cert.Norm2ReferenceIdeal.main_arg1)) (m' ((c.tc : Thread Cert.Norm2ReferenceIdeal.nD Cert.Norm2ReferenceIdeal.τ).loc Cert.Norm2ReferenceIdeal.main_arg2)) (m' ((c.tc : Thread Cert.Norm2ReferenceIdeal.nD Cert.Norm2ReferenceIdeal.τ).loc Cert.Norm2ReferenceIdeal.main_arg3)) (m' ((c.tc : Thread Cert.Norm2ReferenceIdeal.nD Cert.Norm2ReferenceIdeal.τ).loc Cert.Norm2ReferenceIdeal.main_arg6)) (m' ((c.tc : Thread Cert.Norm2ReferenceIdeal.nD Cert.Norm2ReferenceIdeal.τ).loc Cert.Norm2ReferenceIdeal.main_arg7)) = (Gen.dats m 0 c).arrAt 6 cfg0.N
    ∧ Cert.Norm2ReferenceIdeal.Read.val_main_v67 (F := Ideal) (m' ((c.tc : Thread Cert.Norm2ReferenceIdeal.nD Cert.Norm2ReferenceIdeal.τ).loc Cert.Norm2ReferenceIdeal.main_arg0)) (m' ((c.tc : Thread Cert.Norm2ReferenceIdeal.nD Cert.Norm2ReferenceIdeal.τ).loc Cert.Norm2ReferenceIdeal.main_arg1)) (m' ((c.tc : Thread Cert.Norm2ReferenceIdeal.nD Cert.Norm2ReferenceIdeal.τ).loc Cert.Norm2ReferenceIdeal.main_arg2)) (m' ((c.tc : Thread Cert.Norm2ReferenceIdeal.nD Cert.Norm2ReferenceIdeal.τ).loc Cert.Norm2ReferenceIdeal.main_arg6)) (m' ((c.tc : Thread Cert.Norm2ReferenceIdeal.nD Cert.Norm2ReferenceIdeal.τ).loc Cert.Norm2ReferenceIdeal.main_arg7)) = (Gen.dats m 0 c).arrAt 7 cfg0.N
    ∧ Cert.Norm2ReferenceIdeal.Read.val_main_v68 (F := Ideal) (m' ((c.tc : Thread Cert.Norm2ReferenceIdeal.nD Cert.Norm2ReferenceIdeal.τ).loc Cert.Norm2ReferenceIdeal.main_arg0)) (m' ((c.tc : Thread Cert.Norm2ReferenceIdeal.nD Cert.Norm2ReferenceIdeal.τ).loc Cert.Norm2ReferenceIdeal.main_arg1)) (m' ((c.tc : Thread Cert.Norm2ReferenceIdeal.nD Cert.Norm2ReferenceIdeal.τ).loc Cert.Norm2ReferenceIdeal.main_arg2)) (m' ((c.tc : Thread Cert.Norm2ReferenceIdeal.nD Cert.Norm2ReferenceIdeal.τ).loc Cert.Norm2ReferenceIdeal.main_arg3)) (m' ((c.tc : Thread Cert.Norm2ReferenceIdeal.nD Cert.Norm2ReferenceIdeal.τ).loc Cert.Norm2ReferenceIdeal.main_arg4)) (m' ((c.tc : Thread Cert.Norm2ReferenceIdeal.nD Cert.Norm2ReferenceIdeal.τ).loc Cert.Norm2ReferenceIdeal.main_arg6)) (m' ((c.tc : Thread Cert.Norm2ReferenceIdeal.nD Cert.Norm2ReferenceIdeal.τ).loc Cert.Norm2ReferenceIdeal.main_arg7)) (m' ((c.tc : Thread Cert.Norm2ReferenceIdeal.nD Cert.Norm2ReferenceIdeal.τ).loc Cert.Norm2ReferenceIdeal.main_arg8)) = (Gen.dats m 0 c).arrAt 8 cfg0.N := by
  have hY := Cert.Loss.eq_re2 _ (real_of_pre _ hp.1)
  have hW := Cert.Loss.eq_re2 _ (real_of_pre _ hp.2.1)
  have hX := Cert.Loss.eq_re2 _ (real_of_pre _ hp.2.2.1)
  have hC := Cert.Loss.eq_re1 _ (real_of_pre _ hp.2.2.2.1)
  have hN := Cert.Loss.eq_re1 _ (real_of_pre _ hp.2.2.2.2)
  rw [he.1, he.2.1, he.2.2.1, he.2.2.2.1, he.2.2.2.2.1, he.2.2.2.2.2.2.1, he.2.2.2.2.2.2.2.1, he.2.2.2.2.2.2.2.2]
  refine ⟨?_, ?_, ?_⟩
  · refine Eq.trans ?_ (final6 m c _ _ _ _ _ hY hW hX hC hN).symm
    funext i
    exact (congrArg _ (by funext k; fin_cases k <;> rfl : i = ix2 (i 0) (i 1))).trans (ref55 _ _ _ _ _ _ _ _ _ _ _ hY hW hX hC hN (i 0) (i 1))
  · refine Eq.trans ?_ (final7 m c _ _ _ _ _ hY hW hX hC hN).symm
    funext i
    exact (congrArg _ (by funext k; fin_cases k <;> rfl : i = ix2 (i 0) (i 1))).trans (ref67 _ _ _ _ _ _ _ _ _ _ hY hW hX hC hN (i 0) (i 1))
  · refine Eq.trans ?_ (final8 m c _ _ _ _ _ hY hW hX hC hN).symm
    funext i
    exact (congrArg _ (by funext k; fin_cases k <;> rfl : i = ix2 (i 0) (i 1))).trans (ref68 _ _ _ _ _ _ _ _ _ _ _ _ _ hY hW hX hC hN (i 0) (i 1))
end Values

theorem algebraic : Cert.algebraic_Norm2KernelIdeal_Norm2ReferenceIdeal_pre_finite_norm2_arguments
    (hPre_finite_norm2_arguments := pre_facts) := by
  intro m g m' g' hpre hagree
  refine ⟨fun c => (Cert.Norm2KernelIdeal.Gen.dats m 0 c).arrAt 6 Cert.Norm2KernelIdeal.cfg0.N,
    fun c => (Cert.Norm2KernelIdeal.Gen.dats m 0 c).arrAt 7 Cert.Norm2KernelIdeal.cfg0.N,
    fun c => (Cert.Norm2KernelIdeal.Gen.dats m 0 c).arrAt 8 Cert.Norm2KernelIdeal.cfg0.N,
    Cert.Norm2KernelIdeal.Value.run_blocks m g, (θ_run _ _ _).mono (fun r h c => ?_) (Cert.Norm2ReferenceIdeal.Value.run m' g')⟩
  obtain ⟨r0, r1, r2, rest⟩ := h c
  have key := values m m' c (hpre c) (hagree c)
  exact ⟨(r0.trans (Cert.Norm2ReferenceIdeal.Read.val_main_v55_eq _ _)).trans key.1,
    (r1.trans (Cert.Norm2ReferenceIdeal.Read.val_main_v67_eq _ _ _ _ _)).trans key.2.1,
    (r2.trans (Cert.Norm2ReferenceIdeal.Read.val_main_v68_eq _ _)).trans key.2.2, rest⟩

end Cert.Norm2

end
-- ==== Proof.Norm1.lean ====
/- The first norm's gradient: its value claim. -/
module

public import proofs.«01_k».proof.Defs
public import proofs.«01_k».proof.Proof.Norm
public import proofs.«01_k».proof.Proof.Relu
public import proofs.«01_k».proof.Proof.Loss
public import proofs.«01_k».proof.Proof.Gen.Norm1KernelIdeal.Value
public import proofs.«01_k».proof.Proof.Gen.Norm1ReferenceIdeal.Run
public import proofs.«01_k».proof.Proof.Gen.Norm1ReferenceIdeal.Read

@[expose] public section

set_option maxRecDepth 16384

noncomputable section

namespace Cert.Norm1

open Idealize.ShloMosaic Cert.Lift Cert.Norm
open Cert.Loss (rs add_of)

section Block
open Cert.Norm1KernelIdeal Cert.Norm1KernelIdeal.Gen
variable (a : FVec Ideal S512x3200 .bf16) (w : FVec Ideal S1024x3200 .bf16) (x : FVec Ideal S512x1024 .f32) (g s : FVec Ideal S1x1x1024 .f32)
variable (H X : Fin 512 → Fin 1024 → ℝ) (N C : Fin 1024 → ℝ)
variable (hh : ∀ r l, k0_pay6 (F := Ideal) a w (ix2 r l) = ((H r l : ℝ) : EReal)) (hx : ∀ r l, x (ix2 r l) = ((X r l : ℝ) : EReal))
variable (hg : ∀ l, g (ix3 0 0 l) = ((N l : ℝ) : EReal)) (hs : ∀ l, s (ix3 0 0 l) = ((C l : ℝ) : EReal))

include hx in
theorem pay9 (r : Fin 512) : k0_pay9 (F := Ideal) x (ix2 r 0) = ((rs X r : ℝ) : EReal) := Loss.pay4 x X hx r

include hx in
theorem pay10 (r : Fin 512) (l : Fin 1024) : k0_pay10 (F := Ideal) x (ix2 r l) = ((xn X r l : ℝ) : EReal) := Loss.pay5 x X hx r l

include hh in
theorem pay11 (v : FVec Ideal S1x1024 .f32) (l : Fin 1024) :
    k0_pay2 (F := Ideal) (k0_pay11 a w) v (ix2 0 l) = v (ix2 0 l) + ((rows H X N C 0 l : ℝ) : EReal) := by
  pointwise [k0_pay2, k0_pay11]
  simp only [hh, coe_sum]
  rfl

include hh hx hg in
theorem pay12 (v : FVec Ideal S1x1024 .f32) (l : Fin 1024) :
    k0_pay3 (F := Ideal) (k0_pay12 a w g x) v (ix2 0 l) = v (ix2 0 l) + ((rows H X N C 1 l : ℝ) : EReal) := by
  pointwise [k0_pay3, k0_pay12, k0_pay7]
  simp only [hh, hg, pay10 x X hx, ← EReal.coe_mul, coe_sum]
  rfl

include hh hx hs in
theorem pay13 (v : FVec Ideal S1x1024 .f32) (l : Fin 1024) :
    k0_pay4 (F := Ideal) (k0_pay13 a w s x) v (ix2 0 l) = v (ix2 0 l) + ((rows H X N C 2 l : ℝ) : EReal) := by
  pointwise [k0_pay4, k0_pay13, k0_pay8]
  simp only [hh, hs, ← EReal.coe_one, pay10 x X hx, ← EReal.coe_mul, ← EReal.coe_add, coe_sum]
  rfl

include hh hx hg hs in
theorem pay1 (d : FVec Ideal S512x1024 .f32) (r : Fin 512) (l : Fin 1024) :
    k0_pay1 (F := Ideal) (k0_pay6 a w) (k0_pay7 g) (k0_pay8 s) (k0_pay9 x) (k0_pay10 x) (Scalar.ofBits (F := Ideal) .f32 0x3F800000#32) d (ix2 r l)
      = d (ix2 r l) + ((dx H X N C r l : ℝ) : EReal) := by
  pointwise [k0_pay1, k0_pay7, k0_pay8]
  simp only [hh, hg, hs, ← EReal.coe_one, k1024_f32, pay9 x X hx, pay10 x X hx, ← EReal.coe_mul, ← EReal.coe_add, coe_sum,
    div_real _ (by norm_num : (1024 : ℝ) ≠ 0), ← EReal.coe_sub]
  rfl

theorem pay5 (j) : k0_pay5 (F := Ideal) j = ((0 : ℝ) : EReal) := by
  pointwise [k0_pay5]
  first | done | rfl | exact zero_f32

theorem pay6 (A : Fin 512 → Fin 3200 → ℝ) (W : Fin 1024 → Fin 3200 → ℝ) (ha : ∀ r k, a (ix2 r k) = ((A r k : ℝ) : EReal))
    (hw : ∀ l k, w (ix2 l k) = ((W l k : ℝ) : EReal)) (r : Fin 512) (l : Fin 1024) :
    k0_pay6 (F := Ideal) a w (ix2 r l) = ((∑ k, A r k * W l k : ℝ) : EReal) := by
  pointwise [k0_pay6]
  simp only [ha, hw, ← EReal.coe_mul, coe_sum]
end Block

section Run
open Cert.Norm1KernelIdeal Cert.Norm1KernelIdeal.Gen
variable (m : (ℓ : Loc nD τ sig) → Buf (Elt Ideal) ℓ) (c : Dev nD)

theorem idx0 : ∀ t : Fin cfg0.N, win0_0.index t = ![t.val, 0] ∧ win0_1.index t = ![0, 0] ∧ win0_2.index t = ![t.val, 0]
    ∧ win0_3.index t = ![t.val, 0] ∧ win0_4.index t = ![0, 0, 0] ∧ win0_5.index t = ![t.val, 0] ∧ win0_6.index t = ![0, 0] :=
  (by decide +kernel : ∀ t : Fin grid0.N, _)

def row (t : Fin cfg0.N) (r : Fin 512) : Fin 4096 :=
  ⟨t.val * 512 + r.val, by have h : t.val < 8 := lt_of_lt_of_eq t.isLt N_0; have := r.isLt; omega⟩

/-- The modulation's rows as the kernel finds them. -/
def mod (sh sc ng : FVec Ideal S1024 .f32) : FVec Ideal S1x8x1024 .f32 := broadcastInDim S1x8x1024 ![1, 2] bcast_S8x1024_S1x8x1024_1_2
    (concatenate S8x1024 0 [⟨S1x1024, (broadcastInDim S1x1024 ![1] bcast_S1024_S1x1024_1 sh : FVec Ideal S1x1024 .f32)⟩,
      ⟨S1x1024, (broadcastInDim S1x1024 ![1] bcast_S1024_S1x1024_1 sc : FVec Ideal S1x1024 .f32)⟩,
      ⟨S4x1024, (broadcastInDim S4x1024 ![] bcast_S_S4x1024 (constant (F := Ideal) S_ .f32 0x00000000#32) : FVec Ideal S4x1024 .f32)⟩,
      ⟨S1x1024, (broadcastInDim S1x1024 ![1] bcast_S1024_S1x1024_1 ng : FVec Ideal S1x1024 .f32)⟩,
      ⟨S1x1024, (broadcastInDim S1x1024 ![] bcast_S_S1x1024 (constant (F := Ideal) S_ .f32 0x00000000#32) : FVec Ideal S1x1024 .f32)⟩]
      concatenates_S1x1024_S1x1024_S4x1024_S1x1024_S1x1024_S8x1024_d0)

theorem entry6 : V m c main_v6 = mod (m ((c.tc : Thread nD τ).loc main_arg4)) (m ((c.tc : Thread nD τ).loc main_arg5))
    (m ((c.tc : Thread nD τ).loc main_arg6)) := by
  unfold V mod
  simp only [hostOps0, hostOps0_1, hostOps0_2, hostOps0_3, hostOps0_4, List.flatten_cons, List.flatten_nil, List.append_nil, List.cons_append, List.nil_append]
  after_results
  rfl

theorem mod1 (sh sc ng : FVec Ideal S1024 .f32) (l : Fin 1024) : mod sh sc ng (ix3 0 1 l) = sc (ix1 l) := by
  pointwise [mod]
  try rfl
theorem mod6 (sh sc ng : FVec Ideal S1024 .f32) (l : Fin 1024) : mod sh sc ng (ix3 0 6 l) = ng (ix1 l) := by
  pointwise [mod]
  try rfl

theorem entry8 : V m c main_v8 = truncf (F := Ideal) .bf16 (pad S1024x3200 ![0, 0] ![0, 120] ![0, 0] (m ((c.tc : Thread nD τ).loc main_arg1))
    (sitofp (F := Ideal) .f32 (constantI S_ 32 0#32)) pads_S1024x3080_S1024x3200_000_01200 h_S_) bitsLt_bf16_f32 := by
  unfold V
  simp only [hostOps0, hostOps0_1, hostOps0_2, hostOps0_3, hostOps0_4, List.flatten_cons, List.flatten_nil, List.append_nil, List.cons_append, List.nil_append]
  after_results
  rfl

theorem entry10 : V m c main_v10 = truncf (F := Ideal) .bf16 (pad S4096x3200 ![0, 0] ![0, 120] ![0, 0] (m ((c.tc : Thread nD τ).loc main_arg0))
    (sitofp (F := Ideal) .f32 (constantI S_ 32 0#32)) pads_S4096x3080_S4096x3200_000_01200 h_S_) bitsLt_bf16_f32 := by
  unfold V
  simp only [hostOps0, hostOps0_1, hostOps0_2, hostOps0_3, hostOps0_4, List.flatten_cons, List.flatten_nil, List.append_nil, List.cons_append, List.nil_append]
  after_results
  rfl

/-- A row of 3080 filled up with zeros. -/
def fill (f : Fin 3080 → ℝ) (k : Fin 3200) : ℝ := if h : k.val < 3080 then f ⟨k.val, h⟩ else 0

theorem fill_sum (f g : Fin 3080 → ℝ) : ∑ k, fill f k * fill g k = ∑ k, f k * g k := by
  rw [← Fin.sum_congr' (fun k : Fin 3200 => fill f k * fill g k) (by norm_num : 3080 + 120 = 3200), Fin.sum_univ_add]
  rw [Finset.sum_eq_zero (s := Finset.univ (α := Fin 120)) (fun k _ => by
    unfold fill; rw [dif_neg (by simp)]; exact zero_mul _), add_zero]
  refine Finset.sum_congr rfl fun k _ => ?_
  unfold fill
  rw [dif_pos (by simp), dif_pos (by simp)]
  rfl

theorem zero_i32 : (FloatOps.sitofp (F := Ideal) .f32 (0#32) : EReal) = ((0 : ℝ) : EReal) := by
  show ((((0#32 : BitVec 32).toInt : ℤ) : ℝ) : EReal) = _
  simp

theorem pad8 (A : FVec Ideal S1024x3080 .f32) (f : Fin 3080 → ℝ) (l : Fin 1024) (hA : ∀ k, A (ix2 l k) = ((f k : ℝ) : EReal)) (k : Fin 3200) :
    truncf (F := Ideal) .bf16 (pad S1024x3200 ![0, 0] ![0, 120] ![0, 0] A
    (sitofp (F := Ideal) .f32 (constantI S_ 32 0#32)) pads_S1024x3080_S1024x3200_000_01200 h_S_) bitsLt_bf16_f32 (ix2 l k) = ((fill f k : ℝ) : EReal) := by
  unfold fill
  by_cases h : k.val < 3080
  · rw [dif_pos h, ← hA]
    pointwise
    rw [dif_pos h]
  · rw [dif_neg h]
    pointwise
    rw [dif_neg h]
    exact zero_i32

theorem pad10 (A : FVec Ideal S4096x3080 .f32) (f : Fin 3080 → ℝ) (l : Fin 4096) (hA : ∀ k, A (ix2 l k) = ((f k : ℝ) : EReal)) (k : Fin 3200) :
    truncf (F := Ideal) .bf16 (pad S4096x3200 ![0, 0] ![0, 120] ![0, 0] A
    (sitofp (F := Ideal) .f32 (constantI S_ 32 0#32)) pads_S4096x3080_S4096x3200_000_01200 h_S_) bitsLt_bf16_f32 (ix2 l k) = ((fill f k : ℝ) : EReal) := by
  unfold fill
  by_cases h : k.val < 3080
  · rw [dif_pos h, ← hA]
    pointwise
    rw [dif_pos h]
  · rw [dif_neg h]
    pointwise
    rw [dif_neg h]
    exact zero_i32

variable (Y : Fin 4096 → Fin 3080 → ℝ) (W : Fin 1024 → Fin 3080 → ℝ) (X : Fin 4096 → Fin 1024 → ℝ) (C N : Fin 1024 → ℝ)
variable (hY : ∀ i, (m ((c.tc : Thread nD τ).loc main_arg0)) i = ((Y (i 0) (i 1) : ℝ) : EReal))
variable (hW : ∀ i, (m ((c.tc : Thread nD τ).loc main_arg1)) i = ((W (i 0) (i 1) : ℝ) : EReal))
variable (hX : ∀ i, (m ((c.tc : Thread nD τ).loc main_arg2)) i = ((X (i 0) (i 1) : ℝ) : EReal))
variable (hC : ∀ i, (m ((c.tc : Thread nD τ).loc main_arg5)) i = ((C (i 0) : ℝ) : EReal))
variable (hN : ∀ i, (m ((c.tc : Thread nD τ).loc main_arg6)) i = ((N (i 0) : ℝ) : EReal))

include hY in
theorem blk0 (t : Fin cfg0.N) (r : Fin 512) (k : Fin 3200) :
    (iblk m c 0 t : FVec Ideal S512x3200 .bf16) (ix2 r k) = ((fill (Y (row t r)) k : ℝ) : EReal) := by
  have e : (iblk m c 0 t : FVec Ideal S512x3200 .bf16) (ix2 r k) = (V m c main_v10 : FVec Ideal S4096x3200 .bf16) (ix2 (row t r) k) := by
    show _ = V m c (Pipeline.arrRef spec0 0) (ix2 (row t r) k)
    unfold row iblk
    generalize V m c (Pipeline.arrRef spec0 0) = A
    blk_point [idx0 t]
  rw [e, entry10]
  exact pad10 _ _ _ (fun k => hY (ix2 (row t r) k)) k

include hW in
theorem blk1 (t : Fin cfg0.N) (l : Fin 1024) (k : Fin 3200) :
    (iblk m c 1 t : FVec Ideal S1024x3200 .bf16) (ix2 l k) = ((fill (W l) k : ℝ) : EReal) := by
  have e : (iblk m c 1 t : FVec Ideal S1024x3200 .bf16) (ix2 l k) = (V m c main_v8 : FVec Ideal S1024x3200 .bf16) (ix2 l k) := by
    show _ = V m c (Pipeline.arrRef spec0 1) (ix2 l k)
    unfold iblk
    generalize V m c (Pipeline.arrRef spec0 1) = A
    blk_point [idx0 t]
  rw [e, entry8]
  exact pad8 _ _ _ (fun k => hW (ix2 l k)) k

include hX in
theorem blk2 (t : Fin cfg0.N) (r : Fin 512) (l : Fin 1024) :
    (iblk m c 2 t : FVec Ideal S512x1024 .f32) (ix2 r l) = ((X (row t r) l : ℝ) : EReal) := by
  have e : (iblk m c 2 t : FVec Ideal S512x1024 .f32) (ix2 r l) = (V m c main_arg2 : FVec Ideal S4096x1024 .f32) (ix2 (row t r) l) := by
    show _ = V m c (Pipeline.arrRef spec0 2) (ix2 (row t r) l)
    unfold row iblk
    generalize V m c (Pipeline.arrRef spec0 2) = A
    blk_point [idx0 t]
  rw [e, V_main_arg2, hX]; rfl

theorem blk3 (t : Fin cfg0.N) (r : Fin 512) (l : Fin 1024) :
    (iblk m c 3 t : FVec Ideal S512x1024 .f32) (ix2 r l) = (m ((c.tc : Thread nD τ).loc main_arg3)) (ix2 (row t r) l) := by
  have e : (iblk m c 3 t : FVec Ideal S512x1024 .f32) (ix2 r l) = (V m c main_arg3 : FVec Ideal S4096x1024 .f32) (ix2 (row t r) l) := by
    show _ = V m c (Pipeline.arrRef spec0 3) (ix2 (row t r) l)
    unfold row iblk
    generalize V m c (Pipeline.arrRef spec0 3) = A
    blk_point [idx0 t]
  rw [e, V_main_arg3]

theorem blk4 (t : Fin cfg0.N) (s : Fin 8) (l : Fin 1024) :
    (iblk m c 4 t : FVec Ideal S1x8x1024 .f32) (ix3 0 s l) = mod (m ((c.tc : Thread nD τ).loc main_arg4)) (m ((c.tc : Thread nD τ).loc main_arg5))
    (m ((c.tc : Thread nD τ).loc main_arg6)) (ix3 0 s l) := by
  have e : (iblk m c 4 t : FVec Ideal S1x8x1024 .f32) (ix3 0 s l) = (V m c main_v6 : FVec Ideal S1x8x1024 .f32) (ix3 0 s l) := by
    show _ = V m c (Pipeline.arrRef spec0 4) (ix3 0 s l)
    unfold iblk
    generalize V m c (Pipeline.arrRef spec0 4) = A
    blk_point [idx0 t]
  rw [e, entry6]

/-- The gradient behind the product. -/
def dh (Y : Fin 4096 → Fin 3080 → ℝ) (W : Fin 1024 → Fin 3080 → ℝ) (r : Fin 4096) (l : Fin 1024) : ℝ := ∑ k, Y r k * W l k

include hY hW in
theorem h6_eq (t : Fin cfg0.N) (r : Fin 512) (l : Fin 1024) :
    k0_pay6 (F := Ideal) (iblk m c 0 t) (iblk m c 1 t) (ix2 r l) = ((dh Y W (row t r) l : ℝ) : EReal) :=
  (pay6 _ _ (fun r => fill (Y (row t r))) (fun l => fill (W l)) (blk0 m c Y hY t) (blk1 m c W hW t) r l).trans
    (congrArg _ (fill_sum (Y (row t r)) (W l)))

include hN in
theorem ld6 (t : Fin cfg0.N) (l : Fin 1024) : (View.ld (iblk m c 4 t) (Rect.unit ![0, 6, 0] ![1, 1, 1024] inb_S1x8x1024_S1x1x1024_0_6_0) : FVec Ideal S1x1x1024 .f32) (ix3 0 0 l)
    = ((N l : ℝ) : EReal) :=
  Eq.trans (b := (iblk m c 4 t : FVec Ideal S1x8x1024 .f32) (ix3 0 6 l)) (View.ld_unit_apply_of _ _ _ _ _ _ (by intro a; fin_cases a <;> simp [ix3]))
    ((blk4 m c t 6 l).trans ((mod6 _ _ _ l).trans (hN (ix1 l))))

include hC in
theorem ld1 (t : Fin cfg0.N) (l : Fin 1024) : (View.ld (iblk m c 4 t) (Rect.unit ![0, 1, 0] ![1, 1, 1024] inb_S1x8x1024_S1x1x1024_0_1_0) : FVec Ideal S1x1x1024 .f32) (ix3 0 0 l)
    = ((C l : ℝ) : EReal) :=
  Eq.trans (b := (iblk m c 4 t : FVec Ideal S1x8x1024 .f32) (ix3 0 1 l)) (View.ld_unit_apply_of _ _ _ _ _ _ (by intro a; fin_cases a <;> simp [ix3]))
    ((blk4 m c t 1 l).trans ((mod1 _ _ _ l).trans (hC (ix1 l))))

/-- What point `t` adds to the statistics. -/
def part (Y : Fin 4096 → Fin 3080 → ℝ) (W : Fin 1024 → Fin 3080 → ℝ) (X : Fin 4096 → Fin 1024 → ℝ) (C N : Fin 1024 → ℝ) (t : Fin cfg0.N) (r : Fin 8) (l : Fin 1024) : ℝ :=
  rows (fun k => dh Y W (row t k)) (fun k => X (row t k)) N C r l

theorem part_zero (t : Fin cfg0.N) (r : Fin 8) (l : Fin 1024) (h : 3 ≤ r.val) : part Y W X C N t r l = 0 := by
  unfold part rows
  rw [if_neg (by rintro rfl; simp at h), if_neg (by rintro rfl; simp at h), if_neg (by rintro rfl; simp at h)]

set_option maxHeartbeats 1000000 in
include hY hW hX hC hN in
theorem statsA (t : Fin cfg0.N) (h : t.val % 8 = 0) (r : Fin 8) (l : Fin 1024) :
    (outsAt0 m c t.val t.isLt).2 (ix2 r l) = ((0 : ℝ) : EReal) + ((part Y W X C N t r l : ℝ) : EReal) := by
  have p0 := pay11 (iblk m c 0 t) (iblk m c 1 t) _ (fun k => X (row t k)) N C (h6_eq m c Y W hY hW t)
  have p1 := pay12 (iblk m c 0 t) (iblk m c 1 t) _ _ _ _ N C (h6_eq m c Y W hY hW t) (blk2 m c X hX t) (ld6 m c N hN t)
  have p2 := pay13 (iblk m c 0 t) (iblk m c 1 t) _ _ _ _ N C (h6_eq m c Y W hY hW t) (blk2 m c X hX t) (ld1 m c C hC t)
  rw [outsAt0_A m c t h]
  frame_out
  simp only [View.readCov_eq_canon']
  rcases (by omega : r.val = 0 ∨ r.val = 1 ∨ r.val = 2 ∨ 3 ≤ r.val) with e | e | e | e
  · obtain rfl : r = 0 := Fin.ext e
    refine (Pieces.canon_miss _ _ _ _ 0 (Or.inl (by show (0 : ℕ) < 2; decide))).trans ?_
    refine (Pieces.canon_miss _ _ _ _ 0 (Or.inl (by show (0 : ℕ) < 1; decide))).trans ?_
    refine (Pieces.canon_hit _ _ _ _ (ix2 0 l) (by intro a; fin_cases a <;> simp [ix2])).trans ?_
    refine add_of (p0 _ l) ?_
    exact (Pieces.canon_hit _ _ _ _ (ix2 0 l) (by intro a; fin_cases a <;> simp [ix2])).trans (pay5 _)
  · obtain rfl : r = 1 := Fin.ext e
    refine (Pieces.canon_miss _ _ _ _ 0 (Or.inl (by show (1 : ℕ) < 2; decide))).trans ?_
    refine (Pieces.canon_hit _ _ _ _ (ix2 0 l) (by intro a; fin_cases a <;> simp [ix2])).trans ?_
    refine add_of (p1 _ l) ?_
    refine (Pieces.canon_miss _ _ _ _ 0 (Or.inr (by show (0 : ℕ) + 1 ≤ 1; decide))).trans ?_
    exact (Pieces.canon_hit _ _ _ _ (ix2 1 l) (by intro a; fin_cases a <;> simp [ix2])).trans (pay5 _)
  · obtain rfl : r = 2 := Fin.ext e
    refine (Pieces.canon_hit _ _ _ _ (ix2 0 l) (by intro a; fin_cases a <;> simp [ix2])).trans ?_
    refine add_of (p2 _ l) ?_
    refine (Pieces.canon_miss _ _ _ _ 0 (Or.inr (by show (1 : ℕ) + 1 ≤ 2; decide))).trans ?_
    refine (Pieces.canon_miss _ _ _ _ 0 (Or.inr (by show (0 : ℕ) + 1 ≤ 2; decide))).trans ?_
    exact (Pieces.canon_hit _ _ _ _ (ix2 2 l) (by intro a; fin_cases a <;> simp [ix2])).trans (pay5 _)
  · rw [part_zero Y W X C N t r l e, EReal.coe_zero, add_zero]
    refine (Pieces.canon_miss _ _ _ _ 0 (Or.inr (by show 2 + 1 ≤ r.val; omega))).trans ?_
    refine (Pieces.canon_miss _ _ _ _ 0 (Or.inr (by show 1 + 1 ≤ r.val; omega))).trans ?_
    refine (Pieces.canon_miss _ _ _ _ 0 (Or.inr (by show 0 + 1 ≤ r.val; omega))).trans ?_
    exact (Pieces.canon_hit _ _ _ _ (ix2 r l) (by intro a; fin_cases a <;> simp [ix2])).trans (pay5 _)

include hY hW hX hC hN in
theorem statsB (t : Fin cfg0.N) (h : ¬ t.val % 8 = 0) (r : Fin 8) (l : Fin 1024) :
    (outsAt0 m c t.val t.isLt).2 (ix2 r l)
      = (outsAt0 m c (t.val - 1) (Nat.lt_of_le_of_lt (Nat.sub_le _ _) t.isLt)).2 (ix2 r l) + ((part Y W X C N t r l : ℝ) : EReal) := by
  have p0 := pay11 (iblk m c 0 t) (iblk m c 1 t) _ (fun k => X (row t k)) N C (h6_eq m c Y W hY hW t)
  have p1 := pay12 (iblk m c 0 t) (iblk m c 1 t) _ _ _ _ N C (h6_eq m c Y W hY hW t) (blk2 m c X hX t) (ld6 m c N hN t)
  have p2 := pay13 (iblk m c 0 t) (iblk m c 1 t) _ _ _ _ N C (h6_eq m c Y W hY hW t) (blk2 m c X hX t) (ld1 m c C hC t)
  rw [outsAt0_B m c t h]
  frame_out
  rcases (by omega : r.val = 0 ∨ r.val = 1 ∨ r.val = 2 ∨ 3 ≤ r.val) with e | e | e | e
  · obtain rfl : r = 0 := Fin.ext e
    refine (View.read_writes_cons_unit_of_not_mem _ _ _ _ _ _ rfl 0 (Or.inl (by show (0 : ℕ) < 2; decide))).trans ?_
    refine (View.read_writes_cons_unit_of_not_mem _ _ _ _ _ _ rfl 0 (Or.inl (by show (0 : ℕ) < 1; decide))).trans ?_
    refine (View.read_writes_cons_unit_of_mem _ _ _ _ _ _ (ix2 0 l) rfl (by intro a; fin_cases a <;> simp [ix2])).trans ?_
    refine add_of (p0 _ l) ?_
    exact View.ld_unit_apply_of _ _ _ _ _ _ (by intro a; fin_cases a <;> simp [ix2])
  · obtain rfl : r = 1 := Fin.ext e
    refine (View.read_writes_cons_unit_of_not_mem _ _ _ _ _ _ rfl 0 (Or.inl (by show (1 : ℕ) < 2; decide))).trans ?_
    refine (View.read_writes_cons_unit_of_mem _ _ _ _ _ _ (ix2 0 l) rfl (by intro a; fin_cases a <;> simp [ix2])).trans ?_
    refine add_of (p1 _ l) ?_
    exact View.ld_unit_apply_of _ _ _ _ _ _ (by intro a; fin_cases a <;> simp [ix2])
  · obtain rfl : r = 2 := Fin.ext e
    refine (View.read_writes_cons_unit_of_mem _ _ _ _ _ _ (ix2 0 l) rfl (by intro a; fin_cases a <;> simp [ix2])).trans ?_
    refine add_of (p2 _ l) ?_
    exact View.ld_unit_apply_of _ _ _ _ _ _ (by intro a; fin_cases a <;> simp [ix2])
  · rw [part_zero Y W X C N t r l e, EReal.coe_zero, add_zero]
    refine (View.read_writes_cons_unit_of_not_mem _ _ _ _ _ _ rfl 0 (Or.inr (by show 2 + 1 ≤ r.val; omega))).trans ?_
    refine (View.read_writes_cons_unit_of_not_mem _ _ _ _ _ _ rfl 0 (Or.inr (by show 1 + 1 ≤ r.val; omega))).trans ?_
    refine (View.read_writes_cons_unit_of_not_mem _ _ _ _ _ _ rfl 0 (Or.inr (by show 0 + 1 ≤ r.val; omega))).trans ?_
    rw [View.writes_nil, Memref.IsWhole.read_unread]

/-- The stream's gradient with what reached it from above. -/
def dx1 (d : FVec Ideal S4096x1024 .f32) (Y : Fin 4096 → Fin 3080 → ℝ) (W : Fin 1024 → Fin 3080 → ℝ) (X : Fin 4096 → Fin 1024 → ℝ) (C N : Fin 1024 → ℝ)
    (r : Fin 4096) (l : Fin 1024) : EReal := d (ix2 r l) + ((dx (dh Y W) X N C r l : ℝ) : EReal)

include hY hW hX hC hN in
theorem point1 (t : Fin cfg0.N) (r : Fin 512) (l : Fin 1024) :
    k0_pay1 (F := Ideal) (k0_pay6 (iblk m c 0 t) (iblk m c 1 t)) (k0_pay7 (View.ld (iblk m c 4 t) (Rect.unit ![0, 6, 0] ![1, 1, 1024] inb_S1x8x1024_S1x1x1024_0_6_0)))
      (k0_pay8 (View.ld (iblk m c 4 t) (Rect.unit ![0, 1, 0] ![1, 1, 1024] inb_S1x8x1024_S1x1x1024_0_1_0))) (k0_pay9 (iblk m c 2 t)) (k0_pay10 (iblk m c 2 t))
      (Scalar.ofBits (F := Ideal) .f32 0x3F800000#32) (iblk m c 3 t) (ix2 r l)
      = dx1 (m ((c.tc : Thread nD τ).loc main_arg3)) Y W X C N (row t r) l :=
  (pay1 (iblk m c 0 t) (iblk m c 1 t) _ _ _ _ _ N C (h6_eq m c Y W hY hW t) (blk2 m c X hX t) (ld6 m c N hN t) (ld1 m c C hC t) _ r l).trans
    (congrArg (fun z : EReal => z + ((dx (dh Y W) X N C (row t r) l : ℝ) : EReal)) (blk3 m c t r l))

include hY hW hX hC hN in
theorem grad (t : Fin cfg0.N) (r : Fin 512) (l : Fin 1024) :
    (outsAt0 m c t.val t.isLt).1 (ix2 r l) = dx1 (m ((c.tc : Thread nD τ).loc main_arg3)) Y W X C N (row t r) l := by
  by_cases h : t.val % 8 = 0
  · rw [outsAt0_A m c t h]
    frame_out
    exact point1 m c Y W X C N hY hW hX hC hN t r l
  · rw [outsAt0_B m c t h]
    frame_out
    exact point1 m c Y W X C N hY hW hX hC hN t r l

/-- An array from its elements. -/
def arr (f : Fin 4096 → Fin 1024 → EReal) (i : S4096x1024.Idx) : EReal := f (i 0) (i 1)

include hY hW hX hC hN in
theorem final5 : (dats m 0 c).arrAt 5 cfg0.N = arr (dx1 (m ((c.tc : Thread nD τ).loc main_arg3)) Y W X C N) := by
  refine (dats m 0 c).arrAt_eq_of_covers 5 _ (by decide +kernel) fun t _ y => ?_
  blk_simp
  rw [after0_5]
  idx_vars y
  refine (grad m c Y W X C N hY hW hX hC hN t _ _).trans ?_
  generalize dx1 (m ((c.tc : Thread nD τ).loc main_arg3)) Y W X C N = A
  refine Eq.trans (b := arr A (ix2 (row t y0) y1)) rfl (congrArg (arr A) ?_)
  unfold row
  blk_ext [idx0 t]

include hY hW hX hC hN in
theorem final6 : (dats m 0 c).arrAt 6 cfg0.N = fun i => ((rows (dh Y W) X N C (i 0) (i 1) : ℝ) : EReal) := by
  refine (dats m 0 c).arrAt_eq_of_after_last 6 t0_7 (by decide +kernel) _ fun j => ?_
  blk_simp
  idx_vars j
  rw [after0_6]
  refine (Pipeline.eq_sum_fin_of_reset_step_apply_last (fun n h (i : Fin 8 × Fin 1024) => (outsAt0 m c n h).2 (ix2 i.1 i.2)) 8
    (fun _ => ((0 : ℝ) : EReal)) (fun t i => ((part Y W X C N t i.1 i.2 : ℝ) : EReal))
    (fun t h i => statsA m c Y W X C N hY hW hX hC hN t h i.1 i.2) (fun t h i => statsB m c Y W X C N hY hW hX hC hN t h i.1 i.2)
    (le_of_eq N_0) t0_7 rfl (j0, j1)).trans ?_
  rw [coe_sum, ← EReal.coe_add, zero_add]
  exact congrArg _ (rows_sum (dh Y W) X N C cfg0.N (by rw [show cfg0.N = 8 from N_0]) row (fun _ _ => rfl) j0 j1)

end Run

section Ref
open Cert.Norm1ReferenceIdeal Cert.Norm1ReferenceIdeal.Value Cert.Norm1ReferenceIdeal.Read
variable (x0 : FVec Ideal S4096x3080 .f32) (x1 : FVec Ideal S1024x3080 .f32) (x2 x3 : FVec Ideal S4096x1024 .f32)
variable (x5 x6 : FVec Ideal S1024 .f32)
variable (Y : Fin 4096 → Fin 3080 → ℝ) (W : Fin 1024 → Fin 3080 → ℝ) (X : Fin 4096 → Fin 1024 → ℝ) (C N : Fin 1024 → ℝ)
variable (h0 : ∀ i, x0 i = ((Y (i 0) (i 1) : ℝ) : EReal)) (h1 : ∀ i, x1 i = ((W (i 0) (i 1) : ℝ) : EReal))
variable (h2 : ∀ i, x2 i = ((X (i 0) (i 1) : ℝ) : EReal)) (h5 : ∀ i, x5 i = ((C (i 0) : ℝ) : EReal)) (h6 : ∀ i, x6 i = ((N (i 0) : ℝ) : EReal))

include h2 in
theorem ref7 (i) : val_main_v7 (F := Ideal) x2 i = ((rs X (i 0) : ℝ) : EReal) := Loss.v7 x2 X h2 i
include h2 in
theorem ref10 (i) : val_main_v10 (F := Ideal) x2 i = ((-(1 / 2) * (rs X (i 0) * rs X (i 0) * rs X (i 0)) : ℝ) : EReal) := Loss.v10 x2 X h2 i
include h2 in
theorem ref12 (r : Fin 4096) (l : Fin 1024) : val_main_v12 (F := Ideal) x2 (ix2 r l) = ((xn X r l : ℝ) : EReal) := Loss.v12 x2 X h2 (ix2 r l)

include h2 h6 in
theorem ref15 (r : Fin 4096) (l : Fin 1024) : val_main_v15 (F := Ideal) x2 x6 (ix2 r l) = ((xn X r l * N l : ℝ) : EReal) := by
  pointwise [val_main_v15, val_main_v14, val_main_v13]
  simp only [ref12 x2 X h2, h6, ← EReal.coe_mul]
  rfl

include h0 h1 in
theorem ref25 (r : Fin 4096) (l : Fin 1024) : val_main_v25 (F := Ideal) x0 x1 (ix2 r l) = ((dh Y W r l : ℝ) : EReal) := by
  pointwise [val_main_v25]
  simp only [h0, h1, ← EReal.coe_mul, coe_sum]
  rfl

include h0 h1 h5 in
theorem ref33 (r : Fin 4096) (l : Fin 1024) : val_main_v33 (F := Ideal) x0 x1 x5 (ix2 r l) = ((dh Y W r l * (1 + C l) : ℝ) : EReal) := by
  pointwise [val_main_v33, val_main_v32, val_main_v18, val_main_v17, val_main_v16, val_main_cst_3]
  simp only [ref25 x0 x1 Y W h0 h1, h5, ← EReal.coe_one, ← EReal.coe_add, ← EReal.coe_mul]
  rfl

include h0 h1 h5 h6 in
theorem ref39 (r : Fin 4096) (l : Fin 1024) : val_main_v39 (F := Ideal) x0 x1 x5 x6 (ix2 r l) = ((dh Y W r l * (1 + C l) * N l : ℝ) : EReal) := by
  pointwise [val_main_v39, val_main_v38, val_main_v13]
  simp only [ref33 x0 x1 x5 Y W C h0 h1 h5, h6, ← EReal.coe_mul]
  rfl

include h0 h1 in
theorem ref28 (l : Fin 1024) : val_main_v28 (F := Ideal) x0 x1 (ix1 l) = ((∑ k, dh Y W k l : ℝ) : EReal) := by
  pointwise [val_main_v28, val_main_v27, val_main_v26, val_main_cst_4, val_main_cst_5]
  simp only [ref25 x0 x1 Y W h0 h1, coe_sum, Fin.sum_univ_one]

include h0 h1 h2 h6 in
theorem ref34 (l : Fin 1024) : val_main_v34 (F := Ideal) x0 x1 x2 x6 (ix1 l) = (((∑ k, dh Y W k l * xn X k l) * N l : ℝ) : EReal) := by
  pointwise [val_main_v34, val_main_v31, val_main_v30, val_main_v29, val_main_cst_6, val_main_cst_7]
  simp only [ref25 x0 x1 Y W h0 h1, ref15 x2 x6 X N h2 h6, ← EReal.coe_mul, coe_sum, Fin.sum_univ_one]
  exact congrArg _ (row1_eq (dh Y W) X N l)

include h0 h1 h2 h5 in
theorem ref40 (l : Fin 1024) : val_main_v40 (F := Ideal) x0 x1 x2 x5 (ix1 l) = (((∑ k, dh Y W k l * xn X k l) * (1 + C l) : ℝ) : EReal) := by
  pointwise [val_main_v40, val_main_v37, val_main_v36, val_main_v35, val_main_cst_8, val_main_cst_9]
  simp only [ref33 x0 x1 x5 Y W C h0 h1 h5, ref12 x2 X h2, ← EReal.coe_mul, coe_sum, Fin.sum_univ_one]
  exact congrArg _ (row2_eq (dh Y W) X C l)

include h0 h1 h2 h5 h6 in
theorem ref43 (r : Fin 4096) : val_main_v43 (F := Ideal) x0 x1 x2 x5 x6 (ix2 r 0) = ((∑ k, X r k * (dh Y W r k * (1 + C k) * N k) : ℝ) : EReal) := by
  pointwise [val_main_v43, val_main_v42, val_main_v41, val_main_cst_10]
  simp only [ref39 x0 x1 x5 x6 Y W C N h0 h1 h5 h6, h2, ← EReal.coe_mul, coe_sum]
  rfl

include h0 h1 h2 h5 h6 in
theorem ref50 (r : Fin 4096) (l : Fin 1024) : val_main_v50 (F := Ideal) x0 x1 x2 x5 x6 (ix2 r l)
    = (((∑ k, X r k * (dh Y W r k * (1 + C k) * N k)) * (-(1 / 2) * (rs X r * rs X r * rs X r)) / 1024 : ℝ) : EReal) := by
  pointwise [val_main_v50, val_main_v49, val_main_v48, val_main_v47, val_main_v46, val_main_cst_11, val_main_cst_12]
  simp only [ref43 x0 x1 x2 x5 x6 Y W X C N h0 h1 h2 h5 h6, ref10 x2 X h2, k1024_f32, ← EReal.coe_mul,
    div_real _ (by norm_num : (1024 : ℝ) ≠ 0), coe_sum, Fin.sum_univ_one]
  rfl

include h0 h1 h2 h5 h6 in
theorem ref60 (r : Fin 4096) (l : Fin 1024) : val_main_v60 (F := Ideal) x0 x1 x2 x3 x5 x6 (ix2 r l) = dx1 x3 Y W X C N r l := by
  pointwise [val_main_v60, val_main_v54, val_main_v53, val_main_v52, val_main_v51, val_main_v45, val_main_v44]
  simp only [ref50 x0 x1 x2 x5 x6 Y W X C N h0 h1 h2 h5 h6, ref39 x0 x1 x5 x6 Y W C N h0 h1 h5 h6, ref7 x2 X h2, h2, ← EReal.coe_mul, ← EReal.coe_add]
  exact congrArg (fun z : ℝ => x3 (ix2 r l) + (z : EReal)) (dx_eq (dh Y W) X N C r l _ rfl)

include h0 h1 h2 h5 h6 in
theorem ref59 (r : Fin 8) (l : Fin 1024) : val_main_v59 (F := Ideal) x0 x1 x2 x5 x6 (ix2 r l) = ((rows (dh Y W) X N C r l : ℝ) : EReal) := by
  pointwise [val_main_v59, val_main_v55, val_main_v56, val_main_v57, val_main_v58, val_main_cst_13]
  simp only [ref28 x0 x1 Y W h0 h1, ref34 x0 x1 x2 x6 Y W X N h0 h1 h2 h6, ref40 x0 x1 x2 x5 Y W X C h0 h1 h2 h5]
  unfold rows
  rcases (by omega : r.val = 0 ∨ r.val = 1 ∨ r.val = 2 ∨ 3 ≤ r.val) with e | e | e | e
  · obtain rfl : r = 0 := Fin.ext e
    rfl
  · obtain rfl : r = 1 := Fin.ext e
    rfl
  · obtain rfl : r = 2 := Fin.ext e
    rfl
  · rw [if_neg (by rintro rfl; simp at e), if_neg (by rintro rfl; simp at e), if_neg (by rintro rfl; simp at e)]
    simp only [show ¬ r.val < 1 by omega, show ¬ r.val - 1 < 1 by omega, show ¬ r.val - 1 - 1 < 1 by omega, dite_false]
    first | exact EReal.coe_zero.symm | exact zero_f32
end Ref

instance pre_facts : Cert.Pre_finite_norm1_arguments.Facts := ⟨by decide, by decide, by decide, by decide⟩

section Values
open Cert.Norm1KernelIdeal
variable (m : (ℓ : Loc nD τ sig) → Buf (Elt Ideal) ℓ)
variable (m' : (ℓ : Loc Cert.Norm1ReferenceIdeal.nD Cert.Norm1ReferenceIdeal.τ Cert.Norm1ReferenceIdeal.sig) → Buf (Elt Ideal) ℓ)

theorem values (c : Dev nD) (hp : (Cert.Pre_finite_norm1_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).1 = (fun _ => 1#1)
      ∧ (Cert.Pre_finite_norm1_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.1 = (fun _ => 1#1)
      ∧ (Cert.Pre_finite_norm1_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2.1 = (fun _ => 1#1)
      ∧ (Cert.Pre_finite_norm1_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2.2.1 = (fun _ => 1#1)
      ∧ (Cert.Pre_finite_norm1_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2.2.2 = (fun _ => 1#1))
    (he : m' ((c.tc : Thread Cert.Norm1ReferenceIdeal.nD Cert.Norm1ReferenceIdeal.τ).loc Cert.Norm1ReferenceIdeal.main_arg0) = m ((c.tc : Thread nD τ).loc main_arg0)
      ∧ m' ((c.tc : Thread Cert.Norm1ReferenceIdeal.nD Cert.Norm1ReferenceIdeal.τ).loc Cert.Norm1ReferenceIdeal.main_arg1) = m ((c.tc : Thread nD τ).loc main_arg1)
      ∧ m' ((c.tc : Thread Cert.Norm1ReferenceIdeal.nD Cert.Norm1ReferenceIdeal.τ).loc Cert.Norm1ReferenceIdeal.main_arg2) = m ((c.tc : Thread nD τ).loc main_arg2)
      ∧ m' ((c.tc : Thread Cert.Norm1ReferenceIdeal.nD Cert.Norm1ReferenceIdeal.τ).loc Cert.Norm1ReferenceIdeal.main_arg3) = m ((c.tc : Thread nD τ).loc main_arg3)
      ∧ m' ((c.tc : Thread Cert.Norm1ReferenceIdeal.nD Cert.Norm1ReferenceIdeal.τ).loc Cert.Norm1ReferenceIdeal.main_arg4) = m ((c.tc : Thread nD τ).loc main_arg4)
      ∧ m' ((c.tc : Thread Cert.Norm1ReferenceIdeal.nD Cert.Norm1ReferenceIdeal.τ).loc Cert.Norm1ReferenceIdeal.main_arg5) = m ((c.tc : Thread nD τ).loc main_arg5)
      ∧ m' ((c.tc : Thread Cert.Norm1ReferenceIdeal.nD Cert.Norm1ReferenceIdeal.τ).loc Cert.Norm1ReferenceIdeal.main_arg6) = m ((c.tc : Thread nD τ).loc main_arg6)) :
    Cert.Norm1ReferenceIdeal.Read.val_main_v60 (F := Ideal) (m' ((c.tc : Thread Cert.Norm1ReferenceIdeal.nD Cert.Norm1ReferenceIdeal.τ).loc Cert.Norm1ReferenceIdeal.main_arg0)) (m' ((c.tc : Thread Cert.Norm1ReferenceIdeal.nD Cert.Norm1ReferenceIdeal.τ).loc Cert.Norm1ReferenceIdeal.main_arg1)) (m' ((c.tc : Thread Cert.Norm1ReferenceIdeal.nD Cert.Norm1ReferenceIdeal.τ).loc Cert.Norm1ReferenceIdeal.main_arg2)) (m' ((c.tc : Thread Cert.Norm1ReferenceIdeal.nD Cert.Norm1ReferenceIdeal.τ).loc Cert.Norm1ReferenceIdeal.main_arg3)) (m' ((c.tc : Thread Cert.Norm1ReferenceIdeal.nD Cert.Norm1ReferenceIdeal.τ).loc Cert.Norm1ReferenceIdeal.main_arg5)) (m' ((c.tc : Thread Cert.Norm1ReferenceIdeal.nD Cert.Norm1ReferenceIdeal.τ).loc Cert.Norm1ReferenceIdeal.main_arg6)) = (Gen.dats m 0 c).arrAt 5 cfg0.N
    ∧ Cert.Norm1ReferenceIdeal.Read.val_main_v59 (F := Ideal) (m' ((c.tc : Thread Cert.Norm1ReferenceIdeal.nD Cert.Norm1ReferenceIdeal.τ).loc Cert.Norm1ReferenceIdeal.main_arg0)) (m' ((c.tc : Thread Cert.Norm1ReferenceIdeal.nD Cert.Norm1ReferenceIdeal.τ).loc Cert.Norm1ReferenceIdeal.main_arg1)) (m' ((c.tc : Thread Cert.Norm1ReferenceIdeal.nD Cert.Norm1ReferenceIdeal.τ).loc Cert.Norm1ReferenceIdeal.main_arg2)) (m' ((c.tc : Thread Cert.Norm1ReferenceIdeal.nD Cert.Norm1ReferenceIdeal.τ).loc Cert.Norm1ReferenceIdeal.main_arg5)) (m' ((c.tc : Thread Cert.Norm1ReferenceIdeal.nD Cert.Norm1ReferenceIdeal.τ).loc Cert.Norm1ReferenceIdeal.main_arg6)) = (Gen.dats m 0 c).arrAt 6 cfg0.N := by
  have hY := Cert.Loss.eq_re2 _ (real_of_pre _ hp.1)
  have hW := Cert.Loss.eq_re2 _ (real_of_pre _ hp.2.1)
  have hX := Cert.Loss.eq_re2 _ (real_of_pre _ hp.2.2.1)
  have hC := Cert.Loss.eq_re1 _ (real_of_pre _ hp.2.2.2.1)
  have hN := Cert.Loss.eq_re1 _ (real_of_pre _ hp.2.2.2.2)
  rw [he.1, he.2.1, he.2.2.1, he.2.2.2.1, he.2.2.2.2.2.1, he.2.2.2.2.2.2]
  refine ⟨?_, ?_⟩
  · refine Eq.trans ?_ (final5 m c _ _ _ _ _ hY hW hX hC hN).symm
    funext i
    exact (congrArg _ (by funext k; fin_cases k <;> rfl : i = ix2 (i 0) (i 1))).trans (ref60 _ _ _ _ _ _ _ _ _ _ _ hY hW hX hC hN (i 0) (i 1))
  · refine Eq.trans ?_ (final6 m c _ _ _ _ _ hY hW hX hC hN).symm
    funext i
    exact (congrArg _ (by funext k; fin_cases k <;> rfl : i = ix2 (i 0) (i 1))).trans (ref59 _ _ _ _ _ _ _ _ _ _ hY hW hX hC hN (i 0) (i 1))
end Values

theorem algebraic : Cert.algebraic_Norm1KernelIdeal_Norm1ReferenceIdeal_pre_finite_norm1_arguments
    (hPre_finite_norm1_arguments := pre_facts) := by
  intro m g m' g' hpre hagree
  refine ⟨fun c => (Cert.Norm1KernelIdeal.Gen.dats m 0 c).arrAt 5 Cert.Norm1KernelIdeal.cfg0.N,
    fun c => (Cert.Norm1KernelIdeal.Gen.dats m 0 c).arrAt 6 Cert.Norm1KernelIdeal.cfg0.N,
    Cert.Norm1KernelIdeal.Value.run_blocks m g, (θ_run _ _ _).mono (fun r h c => ?_) (Cert.Norm1ReferenceIdeal.Value.run m' g')⟩
  obtain ⟨r0, r1, rest⟩ := h c
  have key := values m m' c (hpre c) (hagree c)
  exact ⟨(r0.trans (Cert.Norm1ReferenceIdeal.Read.val_main_v60_eq _ _)).trans key.1,
    (r1.trans (Cert.Norm1ReferenceIdeal.Read.val_main_v59_eq _ _ _ _ _)).trans key.2, rest⟩

end Cert.Norm1

end
-- ==== Proof.GateFf.lean ====
/- The value claim of the gradients of the second feed-forward product's weight and gate. -/
module

public import proofs.«01_k».proof.Defs
public import proofs.«01_k».proof.Proof.Lift
public import proofs.«01_k».proof.Proof.Pieces
public import proofs.«01_k».proof.Proof.Loss
public import proofs.«01_k».proof.Proof.Gen.GateFfKernelIdeal.Value
public import proofs.«01_k».proof.Proof.Gen.GateFfReferenceIdeal.Read
public import proofs.«01_k».proof.Proof.Gen.GateFfReferenceIdeal.Run
public import Idealize.ShloMosaic.Lib.Pointwise
public import Idealize.ShloMosaic.Lib.Pipeline.ValueKit

@[expose] public section

set_option maxRecDepth 16384

noncomputable section

namespace Cert.GateFf

open Idealize.ShloMosaic Cert.Lift

instance pre_facts : Cert.Pre_finite_gate_ff_arguments.Facts := ⟨by decide, by decide, by decide⟩

section Block
open Cert.GateFfKernelIdeal Cert.GateFfKernelIdeal.Gen
variable (x : FVec Ideal S2048x1024 .bf16) (d : FVec Ideal S2048x1024 .f32) (g : FVec Ideal S1x1x1024 .f32)
variable (w : FVec Ideal S1x1024x1024 .bf16) (a : FVec Ideal S1024x1024 .f32)
variable (X D : Fin 2048 → Fin 1024 → ℝ) (G : Fin 1024 → ℝ) (W A : Fin 1024 → Fin 1024 → ℝ)
variable (hx : ∀ r l, x (ix2 r l) = ((X r l : ℝ) : EReal)) (hd : ∀ r l, d (ix2 r l) = ((D r l : ℝ) : EReal))
variable (hg : ∀ l, g (ix3 0 0 l) = ((G l : ℝ) : EReal)) (hw : ∀ r l, w (ix3 0 r l) = ((W r l : ℝ) : EReal))
variable (ha : ∀ r l, a (ix2 r l) = ((A r l : ℝ) : EReal))

include hx hd ha in
theorem pay2 (n l : Fin 1024) : k0_pay2 (F := Ideal) x a d (ix2 n l) = ((A n l + ∑ t, X t n * X t n * D t l : ℝ) : EReal) := by
  pointwise [k0_pay2]
  simp only [hx, hd, ha, ← EReal.coe_mul, coe_sum, ← EReal.coe_add]

include hg ha in
theorem pay4 (n l : Fin 1024) : k0_pay4 (F := Ideal) a g (ix3 0 n l) = ((A n l * G l : ℝ) : EReal) := by
  pointwise [k0_pay4]
  simp only [hg, ha, ← EReal.coe_mul]

include hw ha in
theorem pay5 (v : FVec Ideal S1x1024 .f32) (V : ℝ) (l : Fin 1024) (hv : v (ix2 0 l) = (V : EReal)) :
    k0_pay5 (F := Ideal) a v w (ix2 0 l) = ((V + ∑ n, A n l * W n l : ℝ) : EReal) := by
  pointwise [k0_pay5]
  simp only [hw, ha, hv, ← EReal.coe_mul, coe_sum, ← EReal.coe_add]

theorem pay1 (j) : k0_pay1 (F := Ideal) j = ((0 : ℝ) : EReal) := by
  pointwise [k0_pay1]
  first | done | rfl | exact zero_f32

theorem pay3 (j) : k0_pay3 (F := Ideal) j = ((0 : ℝ) : EReal) := by
  pointwise [k0_pay3]
  first | done | rfl | exact zero_f32
end Block

section Run
open Cert.GateFfKernelIdeal Cert.GateFfKernelIdeal.Gen
variable (m : (ℓ : Loc nD τ sig) → Buf (Elt Ideal) ℓ) (c : Dev nD)

theorem idx0 : ∀ t : Fin cfg0.N, win0_0.index t = ![t.val % 2, t.val / 2] ∧ win0_1.index t = ![t.val % 2, 0] ∧ win0_2.index t = ![0, 0, 0]
    ∧ win0_3.index t = ![t.val / 2, 0, 0] ∧ win0_4.index t = ![t.val / 2, 0, 0] ∧ win0_5.index t = ![0, 0] :=
  (by decide +kernel : ∀ t : Fin grid0.N, _)

def row (t : Fin cfg0.N) (r : Fin 2048) : Fin 4096 := ⟨t.val % 2 * 2048 + r.val, by have := r.isLt; omega⟩

/-- The slot of the weight that point `t` treats. -/
def slot (t : Fin cfg0.N) : Fin 4 := ⟨t.val / 2, by have h : t.val < 8 := lt_of_lt_of_eq t.isLt N_0; omega⟩

def col (s : Fin 4) (n : Fin 1024) : Fin 4096 := ⟨s.val * 1024 + n.val, by have := s.isLt; have := n.isLt; omega⟩

theorem entry2 : V m c main_v2 = truncf (F := Ideal) .bf16 (maximumf (F := Ideal) (m ((c.tc : Thread nD τ).loc main_arg0))
    (broadcastInDim S4096x4096 ![] bcast_S_S4096x4096 (constant S_ .f32 0x00000000#32))) bitsLt_bf16_f32 := by
  unfold V
  simp only [hostOps0, hostOps0_1, hostOps0_2, List.flatten_cons, List.flatten_nil, List.append_nil, List.cons_append, List.nil_append]
  after_results

theorem entry4 : V m c main_v4 = pad S1x8x1024 ![0, 5, 0] ![0, 2, 0] ![0, 0, 0]
    (broadcastInDim S1x1x1024 ![2] bcast_S1024_S1x1x1024_2 (m ((c.tc : Thread nD τ).loc main_arg2)))
    (sitofp (F := Ideal) .f32 (constantI S_ 32 0#32)) pads_S1x1x1024_S1x8x1024_000_520_000 h_S_ := by
  unfold V
  simp only [hostOps0, hostOps0_1, hostOps0_2, List.flatten_cons, List.flatten_nil, List.append_nil, List.cons_append, List.nil_append]
  after_results
  rfl

theorem entry6 : V m c main_v6 = truncf (F := Ideal) .bf16
    (shapeCast S4x1024x1024 (m ((c.tc : Thread nD τ).loc main_arg3)) shapeCasts_S4096x1024_S4x1024x1024) bitsLt_bf16_f32 := by
  unfold V
  simp only [hostOps0, hostOps0_1, hostOps0_2, List.flatten_cons, List.flatten_nil, List.append_nil, List.cons_append, List.nil_append]
  after_results
  rfl

theorem pad_at (A : FVec Ideal S1024 .f32) (l : Fin 1024) : pad S1x8x1024 ![0, 5, 0] ![0, 2, 0] ![0, 0, 0]
    (broadcastInDim S1x1x1024 ![2] bcast_S1024_S1x1x1024_2 A)
    (sitofp (F := Ideal) .f32 (constantI S_ 32 0#32)) pads_S1x1x1024_S1x8x1024_000_520_000 h_S_ (ix3 0 5 l) = A (ix1 l) := by
  pointwise

theorem relu_at (A : FVec Ideal S4096x4096 .f32) (r n : Fin 4096) (v : ℝ) (hA : A (ix2 r n) = (v : EReal)) : truncf (F := Ideal) .bf16 (maximumf (F := Ideal) A
    (broadcastInDim S4096x4096 ![] bcast_S_S4096x4096 (constant S_ .f32 0x00000000#32))) bitsLt_bf16_f32 (ix2 r n) = ((max v 0 : ℝ) : EReal) := by
  pointwise
  rw [hA, EReal.coe_strictMono.monotone.map_max, EReal.coe_zero]

theorem weight_at (A : FVec Ideal S4096x1024 .f32) (s : Fin 4) (n l : Fin 1024) : truncf (F := Ideal) .bf16
    (shapeCast S4x1024x1024 A shapeCasts_S4096x1024_S4x1024x1024) bitsLt_bf16_f32 (ix3 s n l) = A (ix2 (col s n) l) := by
  unfold col
  pointwise

variable (X : Fin 4096 → Fin 4096 → ℝ) (D : Fin 4096 → Fin 1024 → ℝ) (G : Fin 1024 → ℝ) (W : Fin 4096 → Fin 1024 → ℝ)
variable (hX : ∀ i, (m ((c.tc : Thread nD τ).loc main_arg0)) i = ((X (i 0) (i 1) : ℝ) : EReal))
variable (hD : ∀ i, (m ((c.tc : Thread nD τ).loc main_arg1)) i = ((D (i 0) (i 1) : ℝ) : EReal))
variable (hG : ∀ i, (m ((c.tc : Thread nD τ).loc main_arg2)) i = ((G (i 0) : ℝ) : EReal))
variable (hW : ∀ i, (m ((c.tc : Thread nD τ).loc main_arg3)) i = ((W (i 0) (i 1) : ℝ) : EReal))

include hX in
theorem blk0 (t : Fin cfg0.N) (r : Fin 2048) (l : Fin 1024) :
    (iblk m c 0 t : FVec Ideal S2048x1024 .bf16) (ix2 r l) = ((max (X (row t r) (col (slot t) l)) 0 : ℝ) : EReal) := by
  have e : (iblk m c 0 t : FVec Ideal S2048x1024 .bf16) (ix2 r l) = (V m c main_v2 : FVec Ideal S4096x4096 .bf16) (ix2 (row t r) (col (slot t) l)) := by
    show _ = V m c (Pipeline.arrRef spec0 0) (ix2 (row t r) (col (slot t) l))
    unfold row col slot iblk
    generalize V m c (Pipeline.arrRef spec0 0) = A
    blk_point [idx0 t]
  rw [e, entry2]
  exact relu_at _ _ _ _ (hX (ix2 (row t r) (col (slot t) l)))

include hD in
theorem blk1 (t : Fin cfg0.N) (r : Fin 2048) (l : Fin 1024) :
    (iblk m c 1 t : FVec Ideal S2048x1024 .f32) (ix2 r l) = ((D (row t r) l : ℝ) : EReal) := by
  have e : (iblk m c 1 t : FVec Ideal S2048x1024 .f32) (ix2 r l) = (V m c main_arg1 : FVec Ideal S4096x1024 .f32) (ix2 (row t r) l) := by
    show _ = V m c (Pipeline.arrRef spec0 1) (ix2 (row t r) l)
    unfold row iblk
    generalize V m c (Pipeline.arrRef spec0 1) = A
    blk_point [idx0 t]
  rw [e, V_main_arg1, hD]; rfl

include hG in
theorem blk2 (t : Fin cfg0.N) (l : Fin 1024) :
    (iblk m c 2 t : FVec Ideal S1x8x1024 .f32) (ix3 0 5 l) = ((G l : ℝ) : EReal) := by
  have e : (iblk m c 2 t : FVec Ideal S1x8x1024 .f32) (ix3 0 5 l) = (V m c main_v4 : FVec Ideal S1x8x1024 .f32) (ix3 0 5 l) := by
    show _ = V m c (Pipeline.arrRef spec0 2) (ix3 0 5 l)
    unfold iblk
    generalize V m c (Pipeline.arrRef spec0 2) = A
    blk_point [idx0 t]
  rw [e, entry4]
  exact (pad_at _ l).trans (hG (ix1 l))

include hW in
theorem blk3 (t : Fin cfg0.N) (n l : Fin 1024) :
    (iblk m c 3 t : FVec Ideal S1x1024x1024 .bf16) (ix3 0 n l) = ((W (col (slot t) n) l : ℝ) : EReal) := by
  have e : (iblk m c 3 t : FVec Ideal S1x1024x1024 .bf16) (ix3 0 n l) = (V m c main_v6 : FVec Ideal S4x1024x1024 .bf16) (ix3 (slot t) n l) := by
    show _ = V m c (Pipeline.arrRef spec0 3) (ix3 (slot t) n l)
    unfold iblk slot
    generalize V m c (Pipeline.arrRef spec0 3) = A
    blk_point [idx0 t]
  rw [e, entry6]
  exact (weight_at _ _ n l).trans (hW (ix2 (col (slot t) n) l))

/-- What point `t` adds to the weight's gradient, before the gate. -/
def part (X : Fin 4096 → Fin 4096 → ℝ) (D : Fin 4096 → Fin 1024 → ℝ) (t : Fin cfg0.N) (n l : Fin 1024) : ℝ :=
  ∑ r, max (X (row t r) (col (slot t) n)) 0 * max (X (row t r) (col (slot t) n)) 0 * D (row t r) l

include hX hD in
theorem accA (t : Fin cfg0.N) (h : t.val % 2 = 0) (n l : Fin 1024) :
    (outsAt0 m c t.val t.isLt).2.2 (ix2 n l) = ((part X D t n l : ℝ) : EReal) := by
  by_cases h8 : t.val % 8 = 0
  · rw [outsAt0_A m c t h h8 (by omega)]
    frame_out
    refine (pay2 _ _ _ _ _ (fun _ _ => 0) (blk0 m c X hX t) (blk1 m c D hD t) (fun _ _ => pay1 _) n l).trans ?_
    rw [zero_add]
    rfl
  · rw [outsAt0_C m c t h h8 (by omega)]
    frame_out
    refine (pay2 _ _ _ _ _ (fun _ _ => 0) (blk0 m c X hX t) (blk1 m c D hD t) (fun _ _ => pay1 _) n l).trans ?_
    rw [zero_add]
    rfl

theorem statA (t : Fin cfg0.N) (h : t.val % 8 = 0) (r : Fin 8) (l : Fin 1024) :
    (outsAt0 m c t.val t.isLt).2.1 (ix2 r l) = ((0 : ℝ) : EReal) := by
  rw [outsAt0_A m c t (by omega) h (by omega)]
  frame_out
  exact pay3 _

theorem statC (t : Fin cfg0.N) (h : t.val % 2 = 0) (h8 : ¬ t.val % 8 = 0) (S : Fin 8 → Fin 1024 → ℝ)
    (hS : ∀ r l, (outsAt0 m c (t.val - 1) (Nat.lt_of_le_of_lt (Nat.sub_le _ _) t.isLt)).2.1 (ix2 r l) = ((S r l : ℝ) : EReal))
    (r : Fin 8) (l : Fin 1024) : (outsAt0 m c t.val t.isLt).2.1 (ix2 r l) = ((S r l : ℝ) : EReal) := by
  rw [outsAt0_C m c t h h8 (by omega)]
  exact hS r l

section Last
variable (t : Fin cfg0.N) (h : t.val % 2 = 1) (A : Fin 1024 → Fin 1024 → ℝ)
variable (hA : ∀ n l, (outsAt0 m c (t.val - 1) (Nat.lt_of_le_of_lt (Nat.sub_le _ _) t.isLt)).2.2 (ix2 n l) = ((A n l : ℝ) : EReal))

include hA hX hD in
theorem accB (n l : Fin 1024) : k0_pay2 (F := Ideal) (iblk m c 0 t) (View.read (Elt Ideal) (View.whole cc0_scratch0)
    ((Memref.isWhole_whole cc0_scratch0).unread (outsAt0 m c (t.val - 1) (Nat.lt_of_le_of_lt (Nat.sub_le _ _) t.isLt)).2.2))
    (iblk m c 1 t) (ix2 n l) = ((A n l + part X D t n l : ℝ) : EReal) :=
  pay2 _ _ _ _ _ A (blk0 m c X hX t) (blk1 m c D hD t)
    (fun n l => (congrFun (Memref.IsWhole.read_unread (Memref.isWhole_whole cc0_scratch0) _) _).trans (hA n l)) n l

include h hA hX hD hG in
theorem weightB (n l : Fin 1024) : (outsAt0 m c t.val t.isLt).1 (ix3 0 n l) = (((A n l + part X D t n l) * G l : ℝ) : EReal) := by
  rw [outsAt0_B m c t (by omega) (by omega) h]
  frame_out
  refine pay4 _ _ G (fun n l => A n l + part X D t n l) (fun l => ?_) (accB m c X D hX hD t A hA) n l
  refine Eq.trans (b := (iblk m c 2 t : FVec Ideal S1x8x1024 .f32) (ix3 0 5 l)) ?_ (blk2 m c G hG t l)
  exact View.ld_unit_apply_of _ _ _ _ _ _ (by intro a; fin_cases a <;> simp [ix3])

include h hA hX hD hW in
theorem statB (S : Fin 8 → Fin 1024 → ℝ)
    (hS : ∀ r l, (outsAt0 m c (t.val - 1) (Nat.lt_of_le_of_lt (Nat.sub_le _ _) t.isLt)).2.1 (ix2 r l) = ((S r l : ℝ) : EReal))
    (r : Fin 8) (l : Fin 1024) : (outsAt0 m c t.val t.isLt).2.1 (ix2 r l)
      = ((S r l + if r = 0 then ∑ n, (A n l + part X D t n l) * W (col (slot t) n) l else 0 : ℝ) : EReal) := by
  rw [outsAt0_B m c t (by omega) (by omega) h]
  frame_out
  by_cases r0 : r = 0
  · subst r0
    rw [if_pos rfl]
    refine (View.read_writes_cons_unit_of_mem _ _ _ _ _ _ (ix2 0 l) rfl (by intro a; fin_cases a <;> simp [ix2])).trans ?_
    refine pay5 _ _ (fun n l => W (col (slot t) n) l) (fun n l => A n l + part X D t n l) (blk3 m c W hW t) (accB m c X D hX hD t A hA) _ (S 0 l) l ?_
    refine Eq.trans (b := (outsAt0 m c (t.val - 1) (Nat.lt_of_le_of_lt (Nat.sub_le _ _) t.isLt)).2.1 (ix2 0 l)) ?_ (hS 0 l)
    exact View.ld_unit_apply_of _ _ _ _ _ _ (by intro a; fin_cases a <;> simp [ix2])
  · rw [if_neg r0, add_zero]
    have h1 : 1 ≤ r.val := by
      have : r.val ≠ 0 := fun h => r0 (Fin.ext h)
      omega
    refine (View.read_writes_cons_unit_of_not_mem _ _ _ _ _ _ rfl 0 (Or.inr h1)).trans ?_
    rw [View.writes_nil, Memref.IsWhole.read_unread]
    exact hS r l
end Last

/-- The weight's gradient before the gate. -/
def raw (X : Fin 4096 → Fin 4096 → ℝ) (D : Fin 4096 → Fin 1024 → ℝ) (n : Fin 4096) (l : Fin 1024) : ℝ :=
  ∑ t, max (X t n) 0 * max (X t n) 0 * D t l

theorem part_sum (t t' : Fin cfg0.N) (h : t.val % 2 = 0) (h' : t'.val = t.val + 1) (n l : Fin 1024) :
    part X D t n l + part X D t' n l = raw X D (col (slot t') n) l := by
  have hs : slot t = slot t' := Fin.ext (by show t.val / 2 = t'.val / 2; omega)
  have key : ∑ b : Fin 2, ∑ k : Fin 2048, (fun r => max (X r (col (slot t') n)) 0 * max (X r (col (slot t') n)) 0 * D r l) ⟨b.val * 2048 + k.val, by have := b.isLt; have := k.isLt; omega⟩ = raw X D (col (slot t') n) l :=
    Fin.sum_mul_add_fin 2 2048 (fun r : Fin 4096 => max (X r (col (slot t') n)) 0 * max (X r (col (slot t') n)) 0 * D r l) rfl
  rw [Fin.sum_univ_two] at key
  have r0 : ∀ k, row t k = ⟨(0 : Fin 2).val * 2048 + k.val, by have := k.isLt; simp; omega⟩ := fun k => Fin.ext (by show t.val % 2 * 2048 + k.val = 0 * 2048 + k.val; omega)
  have r1 : ∀ k, row t' k = ⟨(1 : Fin 2).val * 2048 + k.val, by have := k.isLt; simp; omega⟩ := fun k => Fin.ext (by show t'.val % 2 * 2048 + k.val = 1 * 2048 + k.val; omega)
  refine Eq.trans ?_ key
  unfold part
  simp only [r0, r1, hs]

/-- The gate's gradient in the first row, zeros in the others. -/
def stat (X : Fin 4096 → Fin 4096 → ℝ) (D : Fin 4096 → Fin 1024 → ℝ) (W : Fin 4096 → Fin 1024 → ℝ) (r : Fin 8) (l : Fin 1024) : ℝ :=
  if r = 0 then ∑ n, raw X D n l * W n l else 0

/-- The weight's gradient as an array. -/
def dw (X : Fin 4096 → Fin 4096 → ℝ) (D : Fin 4096 → Fin 1024 → ℝ) (G : Fin 1024 → ℝ) (i : S4x1024x1024.Idx) : EReal :=
  ((raw X D (col (i 0) (i 1)) (i 2) * G (i 2) : ℝ) : EReal)

theorem stat_sum (r : Fin 8) (l : Fin 1024) : (if r = 0 then ∑ s : Fin 4, ∑ n : Fin 1024, raw X D (col s n) l * W (col s n) l else 0) = stat X D W r l := by
  unfold stat
  split_ifs
  · exact Fin.sum_mul_add_fin 4 1024 (fun n : Fin 4096 => raw X D n l * W n l) rfl
  · rfl

include hX hD hG in
theorem final4 : (dats m 0 c).arrAt 4 cfg0.N = dw X D G := by
  refine (dats m 0 c).arrAt_eq_of_covers 4 _ (by decide +kernel) fun t hf y => ?_
  have h1 : t.val % 2 = 1 := (flush0_4 t).mp hf
  blk_simp
  rw [after0_4]
  idx_vars y
  have hl : t.val - 1 < cfg0.N := Nat.lt_of_le_of_lt (Nat.sub_le _ _) t.isLt
  have e0 : y0 = 0 := Fin.ext (by omega)
  subst e0
  have hA := accA m c X D hX hD ⟨t.val - 1, hl⟩ (by show (t.val - 1) % 2 = 0; omega)
  refine (weightB m c X D G hX hD hG t h1 _ hA y1 y2).trans ?_
  rw [part_sum X D ⟨t.val - 1, hl⟩ t (by show (t.val - 1) % 2 = 0; omega) (by show t.val = t.val - 1 + 1; omega)]
  refine Eq.trans (b := dw X D G (ix3 (slot t) y1 y2)) rfl (congrArg (dw X D G) ?_)
  unfold slot
  blk_ext [idx0 t]

include hX hD hW in
theorem final5 : (dats m 0 c).arrAt 5 cfg0.N = fun i => ((stat X D W (i 0) (i 1) : ℝ) : EReal) := by
  refine (dats m 0 c).arrAt_eq_of_after_last 5 t0_7 (by decide +kernel) _ fun j => ?_
  blk_simp
  idx_vars j
  rw [after0_5]
  have s1 := statB m c X D W hX hD hW t0_1 rfl _ (accA m c X D hX hD t0_0 rfl) _ (statA m c t0_0 rfl)
  have s3 := statB m c X D W hX hD hW t0_3 rfl _ (accA m c X D hX hD t0_2 rfl) _ (statC m c t0_2 rfl (by decide) _ s1)
  have s5 := statB m c X D W hX hD hW t0_5 rfl _ (accA m c X D hX hD t0_4 rfl) _ (statC m c t0_4 rfl (by decide) _ s3)
  have s7 := statB m c X D W hX hD hW t0_7 rfl _ (accA m c X D hX hD t0_6 rfl) _ (statC m c t0_6 rfl (by decide) _ s5)
  refine (s7 j0 j1).trans (congrArg _ ?_)
  rw [← stat_sum]
  simp only [part_sum X D t0_0 t0_1 rfl rfl, part_sum X D t0_2 t0_3 rfl rfl, part_sum X D t0_4 t0_5 rfl rfl, part_sum X D t0_6 t0_7 rfl rfl]
  by_cases r0 : j0 = 0
  · simp only [if_pos r0]
    rw [Fin.sum_univ_four, zero_add]
    rfl
  · simp only [if_neg r0, add_zero]

end Run

section Ref
open Cert.GateFfReferenceIdeal Cert.GateFfReferenceIdeal.Value Cert.GateFfReferenceIdeal.Read
variable (x0 : FVec Ideal S4096x4096 .f32) (x1 : FVec Ideal S4096x1024 .f32) (x2 : FVec Ideal S1024 .f32) (x3 : FVec Ideal S4096x1024 .f32)
variable (X : Fin 4096 → Fin 4096 → ℝ) (D : Fin 4096 → Fin 1024 → ℝ) (G : Fin 1024 → ℝ) (W : Fin 4096 → Fin 1024 → ℝ)
variable (h0 : ∀ i, x0 i = ((X (i 0) (i 1) : ℝ) : EReal)) (h1 : ∀ i, x1 i = ((D (i 0) (i 1) : ℝ) : EReal))
variable (h2 : ∀ i, x2 i = ((G (i 0) : ℝ) : EReal)) (h3 : ∀ i, x3 i = ((W (i 0) (i 1) : ℝ) : EReal))

theorem weight_sum (n : Fin 4096) (l : Fin 1024) : ∑ t, G l * D t l * (max (X t n) 0 * max (X t n) 0) = raw X D n l * G l := by
  rw [raw, Finset.sum_mul]
  exact Finset.sum_congr rfl fun t _ => by ring

theorem gate_sum (l : Fin 1024) : ∑ _i : Fin 1, ∑ t, D t l * ∑ n, max (X t n) 0 * max (X t n) 0 * W n l = ∑ n, raw X D n l * W n l := by
  rw [Fin.sum_univ_one]
  simp only [raw, Finset.mul_sum, Finset.sum_mul]
  rw [Finset.sum_comm]
  exact Finset.sum_congr rfl fun n _ => Finset.sum_congr rfl fun t _ => by ring

include h0 in
theorem ref0 (r n : Fin 4096) : val_main_v0 (F := Ideal) x0 (ix2 r n) = ((max (X r n) 0 : ℝ) : EReal) := by
  pointwise [val_main_v0, val_main_call0_v0, val_main_call0_cst]
  rw [h0, EReal.coe_strictMono.monotone.map_max, EReal.coe_zero]
  rfl

include h0 h1 h2 in
theorem ref15 (s : Fin 4) (n l : Fin 1024) : val_main_v15 (F := Ideal) x0 x1 x2 (ix3 s n l) = ((raw X D (col s n) l * G l : ℝ) : EReal) := by
  pointwise [val_main_v15, val_main_v14, val_main_v13, val_main_v12, val_main_v7, val_main_v6, val_main_v3, val_main_v1]
  simp only [ref0 x0 X h0, h1, h2, ← EReal.coe_mul, coe_sum]
  exact congrArg _ (weight_sum X D G (col s n) l)

include h0 h1 h3 in
theorem ref18 (r : Fin 8) (l : Fin 1024) : val_main_v18 (F := Ideal) x0 x1 x3 (ix2 r l) = ((stat X D W r l : ℝ) : EReal) := by
  pointwise [val_main_v18, val_main_v17, val_main_v16, val_main_v11, val_main_v10, val_main_v9, val_main_v8, val_main_v2, val_main_v1, val_main_cst_1, val_main_cst_0, val_main_cst]
  simp only [ref0 x0 X h0, h1, h3, ← EReal.coe_mul, coe_sum]
  unfold stat
  by_cases r0 : r = 0
  · subst r0
    rw [dif_pos (by decide), if_pos rfl]
    exact congrArg _ (gate_sum X D W l)
  · have a : ¬ r.val < 1 := fun h => r0 (Fin.ext (by simpa using h))
    rw [dif_neg a, if_neg r0]
    exact EReal.coe_zero.symm
end Ref

section Values
open Cert.GateFfKernelIdeal
variable (m : (ℓ : Loc nD τ sig) → Buf (Elt Ideal) ℓ)
variable (m' : (ℓ : Loc Cert.GateFfReferenceIdeal.nD Cert.GateFfReferenceIdeal.τ Cert.GateFfReferenceIdeal.sig) → Buf (Elt Ideal) ℓ)

theorem values (c : Dev nD) (hp : (Cert.Pre_finite_gate_ff_arguments.fn (F := Ideal) (m ((c.tc : Thread nD τ).loc main_arg0)) (m ((c.tc : Thread nD τ).loc main_arg1)) (m ((c.tc : Thread nD τ).loc main_arg2)) (m ((c.tc : Thread nD τ).loc main_arg3))).1 = (fun _ => 1#1)
      ∧ (Cert.Pre_finite_gate_ff_arguments.fn (F := Ideal) (m ((c.tc : Thread nD τ).loc main_arg0)) (m ((c.tc : Thread nD τ).loc main_arg1)) (m ((c.tc : Thread nD τ).loc main_arg2)) (m ((c.tc : Thread nD τ).loc main_arg3))).2.1 = (fun _ => 1#1)
      ∧ (Cert.Pre_finite_gate_ff_arguments.fn (F := Ideal) (m ((c.tc : Thread nD τ).loc main_arg0)) (m ((c.tc : Thread nD τ).loc main_arg1)) (m ((c.tc : Thread nD τ).loc main_arg2)) (m ((c.tc : Thread nD τ).loc main_arg3))).2.2.1 = (fun _ => 1#1)
      ∧ (Cert.Pre_finite_gate_ff_arguments.fn (F := Ideal) (m ((c.tc : Thread nD τ).loc main_arg0)) (m ((c.tc : Thread nD τ).loc main_arg1)) (m ((c.tc : Thread nD τ).loc main_arg2)) (m ((c.tc : Thread nD τ).loc main_arg3))).2.2.2 = (fun _ => 1#1))
    (he : m' ((c.tc : Thread Cert.GateFfReferenceIdeal.nD Cert.GateFfReferenceIdeal.τ).loc Cert.GateFfReferenceIdeal.main_arg0) = m ((c.tc : Thread nD τ).loc main_arg0)
      ∧ m' ((c.tc : Thread Cert.GateFfReferenceIdeal.nD Cert.GateFfReferenceIdeal.τ).loc Cert.GateFfReferenceIdeal.main_arg1) = m ((c.tc : Thread nD τ).loc main_arg1)
      ∧ m' ((c.tc : Thread Cert.GateFfReferenceIdeal.nD Cert.GateFfReferenceIdeal.τ).loc Cert.GateFfReferenceIdeal.main_arg2) = m ((c.tc : Thread nD τ).loc main_arg2)
      ∧ m' ((c.tc : Thread Cert.GateFfReferenceIdeal.nD Cert.GateFfReferenceIdeal.τ).loc Cert.GateFfReferenceIdeal.main_arg3) = m ((c.tc : Thread nD τ).loc main_arg3)) :
    Cert.GateFfReferenceIdeal.Read.val_main_v15 (F := Ideal) (m' ((c.tc : Thread Cert.GateFfReferenceIdeal.nD Cert.GateFfReferenceIdeal.τ).loc Cert.GateFfReferenceIdeal.main_arg0)) (m' ((c.tc : Thread Cert.GateFfReferenceIdeal.nD Cert.GateFfReferenceIdeal.τ).loc Cert.GateFfReferenceIdeal.main_arg1)) (m' ((c.tc : Thread Cert.GateFfReferenceIdeal.nD Cert.GateFfReferenceIdeal.τ).loc Cert.GateFfReferenceIdeal.main_arg2)) = (Gen.dats m 0 c).arrAt 4 cfg0.N
    ∧ Cert.GateFfReferenceIdeal.Read.val_main_v18 (F := Ideal) (m' ((c.tc : Thread Cert.GateFfReferenceIdeal.nD Cert.GateFfReferenceIdeal.τ).loc Cert.GateFfReferenceIdeal.main_arg0)) (m' ((c.tc : Thread Cert.GateFfReferenceIdeal.nD Cert.GateFfReferenceIdeal.τ).loc Cert.GateFfReferenceIdeal.main_arg1)) (m' ((c.tc : Thread Cert.GateFfReferenceIdeal.nD Cert.GateFfReferenceIdeal.τ).loc Cert.GateFfReferenceIdeal.main_arg3)) = (Gen.dats m 0 c).arrAt 5 cfg0.N := by
  have hX := Cert.Loss.eq_re2 _ (real_of_pre _ hp.1)
  have hD := Cert.Loss.eq_re2 _ (real_of_pre _ hp.2.1)
  have hG := Cert.Loss.eq_re1 _ (real_of_pre _ hp.2.2.1)
  have hW := Cert.Loss.eq_re2 _ (real_of_pre _ hp.2.2.2)
  rw [he.1, he.2.1, he.2.2.1, he.2.2.2]
  constructor
  · refine Eq.trans ?_ (final4 m c _ _ _ hX hD hG).symm
    funext i
    exact (congrArg _ (by funext k; fin_cases k <;> rfl : i = ix3 (i 0) (i 1) (i 2))).trans (ref15 _ _ _ _ _ _ hX hD hG (i 0) (i 1) (i 2))
  · refine Eq.trans ?_ (final5 m c _ _ _ hX hD hW).symm
    funext i
    exact (congrArg _ (by funext k; fin_cases k <;> rfl : i = ix2 (i 0) (i 1))).trans (ref18 _ _ _ _ _ _ hX hD hW (i 0) (i 1))
end Values

theorem algebraic : Cert.algebraic_GateFfKernelIdeal_GateFfReferenceIdeal_pre_finite_gate_ff_arguments
    (hPre_finite_gate_ff_arguments := pre_facts) := by
  intro m g m' g' hpre hagree
  refine ⟨fun c => (Cert.GateFfKernelIdeal.Gen.dats m 0 c).arrAt 4 Cert.GateFfKernelIdeal.cfg0.N,
    fun c => (Cert.GateFfKernelIdeal.Gen.dats m 0 c).arrAt 5 Cert.GateFfKernelIdeal.cfg0.N,
    Cert.GateFfKernelIdeal.Value.run_blocks m g, (θ_run _ _ _).mono (fun r h c => ?_) (Cert.GateFfReferenceIdeal.Value.run m' g')⟩
  obtain ⟨r0, r1, rest⟩ := h c
  have key := values m m' c (hpre c) (hagree c)
  exact ⟨(r0.trans (Cert.GateFfReferenceIdeal.Read.val_main_v15_eq _ _ _)).trans key.1,
    (r1.trans (Cert.GateFfReferenceIdeal.Read.val_main_v18_eq _ _ _)).trans key.2, rest⟩

end Cert.GateFf

end
-- ==== Proof.GateOut.lean ====
/- The value claim of the gradients of the output product's weight and gate. -/
module

public import proofs.«01_k».proof.Defs
public import proofs.«01_k».proof.Proof.Lift
public import proofs.«01_k».proof.Proof.Pieces
public import proofs.«01_k».proof.Proof.Loss
public import proofs.«01_k».proof.Proof.Gen.GateOutKernelIdeal.Value
public import proofs.«01_k».proof.Proof.Gen.GateOutReferenceIdeal.Read
public import proofs.«01_k».proof.Proof.Gen.GateOutReferenceIdeal.Run
public import Idealize.ShloMosaic.Lib.Pointwise
public import Idealize.ShloMosaic.Lib.Pipeline.ValueKit

@[expose] public section

set_option maxRecDepth 16384

noncomputable section

namespace Cert.GateOut

open Idealize.ShloMosaic Cert.Lift

instance pre_facts : Cert.Pre_finite_gate_out_arguments.Facts := ⟨by decide, by decide, by decide⟩

section Block
open Cert.GateOutKernelIdeal Cert.GateOutKernelIdeal.Gen
variable (x : FVec Ideal S2048x1024 .bf16) (d : FVec Ideal S2048x1024 .f32) (g : FVec Ideal S1x1x1024 .f32)
variable (w : FVec Ideal S1024x1024 .bf16) (a : FVec Ideal S1024x1024 .f32)
variable (X D : Fin 2048 → Fin 1024 → ℝ) (G : Fin 1024 → ℝ) (W A : Fin 1024 → Fin 1024 → ℝ)
variable (hx : ∀ r l, x (ix2 r l) = ((X r l : ℝ) : EReal)) (hd : ∀ r l, d (ix2 r l) = ((D r l : ℝ) : EReal))
variable (hg : ∀ l, g (ix3 0 0 l) = ((G l : ℝ) : EReal)) (hw : ∀ r l, w (ix2 r l) = ((W r l : ℝ) : EReal))
variable (ha : ∀ r l, a (ix2 r l) = ((A r l : ℝ) : EReal))

include hx hd ha in
theorem pay2 (n l : Fin 1024) : k0_pay2 (F := Ideal) x a d (ix2 n l) = ((A n l + ∑ t, X t n * D t l : ℝ) : EReal) := by
  pointwise [k0_pay2]
  simp only [hx, hd, ha, ← EReal.coe_mul, coe_sum, ← EReal.coe_add]

include hg ha in
theorem pay4 (n l : Fin 1024) : k0_pay4 (F := Ideal) a g (ix2 n l) = ((A n l * G l : ℝ) : EReal) := by
  pointwise [k0_pay4]
  simp only [hg, ha, ← EReal.coe_mul]

include hw ha in
theorem pay5 (v : FVec Ideal S1x1024 .f32) (V : ℝ) (l : Fin 1024) (hv : v (ix2 0 l) = (V : EReal)) :
    k0_pay5 (F := Ideal) a v w (ix2 0 l) = ((V + ∑ n, A n l * W n l : ℝ) : EReal) := by
  pointwise [k0_pay5]
  simp only [hw, ha, hv, ← EReal.coe_mul, coe_sum, ← EReal.coe_add]

theorem pay1 (j) : k0_pay1 (F := Ideal) j = ((0 : ℝ) : EReal) := by
  pointwise [k0_pay1]
  first | done | rfl | exact zero_f32

theorem pay3 (j) : k0_pay3 (F := Ideal) j = ((0 : ℝ) : EReal) := by
  pointwise [k0_pay3]
  first | done | rfl | exact zero_f32
end Block

section Run
open Cert.GateOutKernelIdeal Cert.GateOutKernelIdeal.Gen
variable (m : (ℓ : Loc nD τ sig) → Buf (Elt Ideal) ℓ) (c : Dev nD)

theorem idx0 : ∀ t : Fin cfg0.N, win0_0.index t = ![t.val, 0] ∧ win0_1.index t = ![t.val, 0] ∧ win0_2.index t = ![0, 0, 0]
    ∧ win0_3.index t = ![0, 0] ∧ win0_4.index t = ![0, 0] ∧ win0_5.index t = ![0, 0] :=
  (by decide +kernel : ∀ t : Fin grid0.N, _)

def row (t : Fin cfg0.N) (r : Fin 2048) : Fin 4096 :=
  ⟨t.val * 2048 + r.val, by have h : t.val < 2 := lt_of_lt_of_eq t.isLt N_0; have := r.isLt; omega⟩

theorem entry1 : V m c main_v1 = pad S1x8x1024 ![0, 2, 0] ![0, 5, 0] ![0, 0, 0]
    (broadcastInDim S1x1x1024 ![2] bcast_S1024_S1x1x1024_2 (m ((c.tc : Thread nD τ).loc main_arg2)))
    (sitofp (F := Ideal) .f32 (constantI S_ 32 0#32)) pads_S1x1x1024_S1x8x1024_000_250_000 h_S_ := by
  unfold V
  simp only [hostOps0, hostOps0_1, hostOps0_2, List.flatten_cons, List.flatten_nil, List.append_nil, List.cons_append, List.nil_append]
  after_results
  rfl

theorem entry2 : V m c main_v2 = truncf (F := Ideal) .bf16 (m ((c.tc : Thread nD τ).loc main_arg0)) bitsLt_bf16_f32 := by
  unfold V
  simp only [hostOps0, hostOps0_1, hostOps0_2, List.flatten_cons, List.flatten_nil, List.append_nil, List.cons_append, List.nil_append]
  after_results

theorem entry5 : V m c main_v5 = shapeCast S1024x1024 (truncf (F := Ideal) .bf16
    (shapeCast S4x256x1024 (m ((c.tc : Thread nD τ).loc main_arg3)) shapeCasts_S1024x1024_S4x256x1024) bitsLt_bf16_f32) shapeCasts_S4x256x1024_S1024x1024 := by
  unfold V
  simp only [hostOps0, hostOps0_1, hostOps0_2, List.flatten_cons, List.flatten_nil, List.append_nil, List.cons_append, List.nil_append]
  after_results
  rfl

theorem pad_at (A : FVec Ideal S1024 .f32) (l : Fin 1024) : pad S1x8x1024 ![0, 2, 0] ![0, 5, 0] ![0, 0, 0]
    (broadcastInDim S1x1x1024 ![2] bcast_S1024_S1x1x1024_2 A)
    (sitofp (F := Ideal) .f32 (constantI S_ 32 0#32)) pads_S1x1x1024_S1x8x1024_000_250_000 h_S_ (ix3 0 2 l) = A (ix1 l) := by
  pointwise

theorem weight_at (A : FVec Ideal S1024x1024 .f32) (n l : Fin 1024) : shapeCast S1024x1024 (truncf (F := Ideal) .bf16
    (shapeCast S4x256x1024 A shapeCasts_S1024x1024_S4x256x1024) bitsLt_bf16_f32) shapeCasts_S4x256x1024_S1024x1024 (ix2 n l) = A (ix2 n l) := by
  pointwise
  blk_ext

variable (X D : Fin 4096 → Fin 1024 → ℝ) (G : Fin 1024 → ℝ) (W : Fin 1024 → Fin 1024 → ℝ)
variable (hX : ∀ i, (m ((c.tc : Thread nD τ).loc main_arg0)) i = ((X (i 0) (i 1) : ℝ) : EReal))
variable (hD : ∀ i, (m ((c.tc : Thread nD τ).loc main_arg1)) i = ((D (i 0) (i 1) : ℝ) : EReal))
variable (hG : ∀ i, (m ((c.tc : Thread nD τ).loc main_arg2)) i = ((G (i 0) : ℝ) : EReal))
variable (hW : ∀ i, (m ((c.tc : Thread nD τ).loc main_arg3)) i = ((W (i 0) (i 1) : ℝ) : EReal))

include hX in
theorem blk0 (t : Fin cfg0.N) (r : Fin 2048) (l : Fin 1024) :
    (iblk m c 0 t : FVec Ideal S2048x1024 .bf16) (ix2 r l) = ((X (row t r) l : ℝ) : EReal) := by
  have e : (iblk m c 0 t : FVec Ideal S2048x1024 .bf16) (ix2 r l) = (V m c main_v2 : FVec Ideal S4096x1024 .bf16) (ix2 (row t r) l) := by
    show _ = V m c (Pipeline.arrRef spec0 0) (ix2 (row t r) l)
    unfold row iblk
    generalize V m c (Pipeline.arrRef spec0 0) = A
    blk_point [idx0 t]
  rw [e, entry2]
  exact hX (ix2 (row t r) l)

include hD in
theorem blk1 (t : Fin cfg0.N) (r : Fin 2048) (l : Fin 1024) :
    (iblk m c 1 t : FVec Ideal S2048x1024 .f32) (ix2 r l) = ((D (row t r) l : ℝ) : EReal) := by
  have e : (iblk m c 1 t : FVec Ideal S2048x1024 .f32) (ix2 r l) = m ((c.tc : Thread nD τ).loc main_arg1) (ix2 (row t r) l) := by
    unfold row
    blk_point [iblk, V, idx0 t]
  rw [e, hD]; rfl

include hG in
theorem blk2 (t : Fin cfg0.N) (l : Fin 1024) :
    (iblk m c 2 t : FVec Ideal S1x8x1024 .f32) (ix3 0 2 l) = ((G l : ℝ) : EReal) := by
  have e : (iblk m c 2 t : FVec Ideal S1x8x1024 .f32) (ix3 0 2 l) = (V m c main_v1 : FVec Ideal S1x8x1024 .f32) (ix3 0 2 l) := by
    show _ = V m c (Pipeline.arrRef spec0 2) (ix3 0 2 l)
    unfold iblk
    generalize V m c (Pipeline.arrRef spec0 2) = A
    blk_point [idx0 t]
  rw [e, entry1]
  exact (pad_at _ l).trans (hG (ix1 l))

include hW in
theorem blk3 (t : Fin cfg0.N) (n l : Fin 1024) :
    (iblk m c 3 t : FVec Ideal S1024x1024 .bf16) (ix2 n l) = ((W n l : ℝ) : EReal) := by
  have e : (iblk m c 3 t : FVec Ideal S1024x1024 .bf16) (ix2 n l) = (V m c main_v5 : FVec Ideal S1024x1024 .bf16) (ix2 n l) := by
    show _ = V m c (Pipeline.arrRef spec0 3) (ix2 n l)
    unfold iblk
    generalize V m c (Pipeline.arrRef spec0 3) = A
    blk_point [idx0 t]
  rw [e, entry5]
  exact (weight_at _ n l).trans (hW (ix2 n l))

/-- What point `t` adds to the weight's gradient, before the gate. -/
def part (X D : Fin 4096 → Fin 1024 → ℝ) (t : Fin cfg0.N) (n l : Fin 1024) : ℝ := ∑ r, X (row t r) n * D (row t r) l

include hX hD in
theorem accA (t : Fin cfg0.N) (h : t.val % 2 = 0) (n l : Fin 1024) :
    (outsAt0 m c t.val t.isLt).2.2 (ix2 n l) = ((part X D t n l : ℝ) : EReal) := by
  rw [outsAt0_A m c t h h (by omega)]
  frame_out
  refine (pay2 _ _ _ _ _ (fun _ _ => 0) (blk0 m c X hX t) (blk1 m c D hD t) (fun _ _ => pay1 _) n l).trans ?_
  rw [zero_add]
  rfl

theorem statA (t : Fin cfg0.N) (h : t.val % 2 = 0) (r : Fin 8) (l : Fin 1024) :
    (outsAt0 m c t.val t.isLt).2.1 (ix2 r l) = ((0 : ℝ) : EReal) := by
  rw [outsAt0_A m c t h h (by omega)]
  frame_out
  exact pay3 _

section Last
variable (t : Fin cfg0.N) (h : t.val % 2 = 1) (A : Fin 1024 → Fin 1024 → ℝ)
variable (hA : ∀ n l, (outsAt0 m c (t.val - 1) (Nat.lt_of_le_of_lt (Nat.sub_le _ _) t.isLt)).2.2 (ix2 n l) = ((A n l : ℝ) : EReal))

include hA hX hD in
theorem accB (n l : Fin 1024) : k0_pay2 (F := Ideal) (iblk m c 0 t) (View.read (Elt Ideal) (View.whole cc0_scratch0)
    ((Memref.isWhole_whole cc0_scratch0).unread (outsAt0 m c (t.val - 1) (Nat.lt_of_le_of_lt (Nat.sub_le _ _) t.isLt)).2.2))
    (iblk m c 1 t) (ix2 n l) = ((A n l + part X D t n l : ℝ) : EReal) :=
  pay2 _ _ _ _ _ A (blk0 m c X hX t) (blk1 m c D hD t)
    (fun n l => (congrFun (Memref.IsWhole.read_unread (Memref.isWhole_whole cc0_scratch0) _) _).trans (hA n l)) n l

include h hA hX hD hG in
theorem weightB (n l : Fin 1024) : (outsAt0 m c t.val t.isLt).1 (ix2 n l) = (((A n l + part X D t n l) * G l : ℝ) : EReal) := by
  rw [outsAt0_B m c t (by omega) (by omega) h]
  frame_out
  refine pay4 _ _ G (fun n l => A n l + part X D t n l) (fun l => ?_) (accB m c X D hX hD t A hA) n l
  refine Eq.trans (b := (iblk m c 2 t : FVec Ideal S1x8x1024 .f32) (ix3 0 2 l)) ?_ (blk2 m c G hG t l)
  exact View.ld_unit_apply_of _ _ _ _ _ _ (by intro a; fin_cases a <;> simp [ix3])

include h hA hX hD hW in
theorem statB (hS : ∀ r l, (outsAt0 m c (t.val - 1) (Nat.lt_of_le_of_lt (Nat.sub_le _ _) t.isLt)).2.1 (ix2 r l) = ((0 : ℝ) : EReal))
    (r : Fin 8) (l : Fin 1024) : (outsAt0 m c t.val t.isLt).2.1 (ix2 r l)
      = ((if r = 0 then ∑ n, (A n l + part X D t n l) * W n l else 0 : ℝ) : EReal) := by
  rw [outsAt0_B m c t (by omega) (by omega) h]
  frame_out
  by_cases r0 : r = 0
  · subst r0
    rw [if_pos rfl]
    refine (View.read_writes_cons_unit_of_mem _ _ _ _ _ _ (ix2 0 l) rfl (by intro a; fin_cases a <;> simp [ix2])).trans ?_
    refine (pay5 _ _ W (fun n l => A n l + part X D t n l) (blk3 m c W hW t) (accB m c X D hX hD t A hA) _ 0 l ?_).trans ?_
    · refine Eq.trans (b := (outsAt0 m c (t.val - 1) (Nat.lt_of_le_of_lt (Nat.sub_le _ _) t.isLt)).2.1 (ix2 0 l)) ?_ (hS 0 l)
      exact View.ld_unit_apply_of _ _ _ _ _ _ (by intro a; fin_cases a <;> simp [ix2])
    · rw [zero_add]
  · rw [if_neg r0]
    have h1 : 1 ≤ r.val := by
      have : r.val ≠ 0 := fun h => r0 (Fin.ext h)
      omega
    refine (View.read_writes_cons_unit_of_not_mem _ _ _ _ _ _ rfl 0 (Or.inr h1)).trans ?_
    rw [View.writes_nil, Memref.IsWhole.read_unread]
    exact hS r l
end Last

/-- The weight's gradient before the gate. -/
def raw (X D : Fin 4096 → Fin 1024 → ℝ) (n l : Fin 1024) : ℝ := ∑ t, X t n * D t l

theorem part_sum (n l : Fin 1024) : part X D t0_0 n l + part X D t0_1 n l = raw X D n l := by
  have key : ∑ t : Fin cfg0.N, ∑ k : Fin 2048, X (row t k) n * D (row t k) l = ∑ k, X k n * D k l :=
    Fin.sum_mul_add_fin cfg0.N 2048 (fun k => X k n * D k l) (by rw [show cfg0.N = 2 from N_0])
  exact (Fin.sum_univ_two (fun t : Fin 2 => part X D t n l)).symm.trans key

/-- The gate's gradient in the first row, zeros in the others. -/
def stat (X D : Fin 4096 → Fin 1024 → ℝ) (W : Fin 1024 → Fin 1024 → ℝ) (r : Fin 8) (l : Fin 1024) : ℝ :=
  if r = 0 then ∑ n, raw X D n l * W n l else 0

include hX hD hG in
theorem final4 : (dats m 0 c).arrAt 4 cfg0.N = fun i => ((raw X D (i 0) (i 1) * G (i 1) : ℝ) : EReal) := by
  refine (dats m 0 c).arrAt_eq_of_after_last 4 t0_1 (by decide +kernel) _ fun j => ?_
  blk_simp
  idx_vars j
  rw [after0_4]
  refine (weightB m c X D G hX hD hG t0_1 rfl _ (accA m c X D hX hD t0_0 rfl) j0 j1).trans ?_
  rw [part_sum]

include hX hD hW in
theorem final5 : (dats m 0 c).arrAt 5 cfg0.N = fun i => ((stat X D W (i 0) (i 1) : ℝ) : EReal) := by
  refine (dats m 0 c).arrAt_eq_of_after_last 5 t0_1 (by decide +kernel) _ fun j => ?_
  blk_simp
  idx_vars j
  rw [after0_5]
  refine (statB m c X D W hX hD hW t0_1 rfl _ (accA m c X D hX hD t0_0 rfl) (statA m c t0_0 rfl) j0 j1).trans ?_
  simp only [part_sum]
  rfl

end Run

section Ref
open Cert.GateOutReferenceIdeal Cert.GateOutReferenceIdeal.Value Cert.GateOutReferenceIdeal.Read
variable (x0 : FVec Ideal S4096x1024 .f32) (x1 : FVec Ideal S4096x1024 .f32) (x2 : FVec Ideal S1024 .f32) (x3 : FVec Ideal S1024x1024 .f32)
variable (X D : Fin 4096 → Fin 1024 → ℝ) (G : Fin 1024 → ℝ) (W : Fin 1024 → Fin 1024 → ℝ)
variable (h0 : ∀ i, x0 i = ((X (i 0) (i 1) : ℝ) : EReal)) (h1 : ∀ i, x1 i = ((D (i 0) (i 1) : ℝ) : EReal))
variable (h2 : ∀ i, x2 i = ((G (i 0) : ℝ) : EReal)) (h3 : ∀ i, x3 i = ((W (i 0) (i 1) : ℝ) : EReal))

theorem weight_sum (n l : Fin 1024) : ∑ t, G l * D t l * X t n = raw X D n l * G l := by
  rw [raw, Finset.sum_mul]
  exact Finset.sum_congr rfl fun t _ => by ring

theorem gate_sum (l : Fin 1024) : ∑ _i : Fin 1, ∑ t, D t l * ∑ n, X t n * W n l = ∑ n, raw X D n l * W n l := by
  rw [Fin.sum_univ_one]
  simp only [raw, Finset.mul_sum, Finset.sum_mul]
  rw [Finset.sum_comm]
  exact Finset.sum_congr rfl fun n _ => Finset.sum_congr rfl fun t _ => by ring

include h0 h1 h2 in
theorem ref12 (n l : Fin 1024) : val_main_v12 (F := Ideal) x0 x1 x2 (ix2 n l) = ((raw X D n l * G l : ℝ) : EReal) := by
  pointwise [val_main_v12, val_main_v11, val_main_v10, val_main_v5, val_main_v4, val_main_v1]
  simp only [h0, h1, h2, ← EReal.coe_mul, coe_sum]
  exact congrArg _ (weight_sum X D G n l)

include h0 h1 h3 in
theorem ref15 (r : Fin 8) (l : Fin 1024) : val_main_v15 (F := Ideal) x0 x1 x3 (ix2 r l) = ((stat X D W r l : ℝ) : EReal) := by
  pointwise [val_main_v15, val_main_v14, val_main_v13, val_main_v9, val_main_v8, val_main_v7, val_main_v6, val_main_v0, val_main_cst_1, val_main_cst_0, val_main_cst]
  simp only [h0, h1, h3, ← EReal.coe_mul, coe_sum]
  unfold stat
  by_cases r0 : r = 0
  · subst r0
    rw [dif_pos (by decide), if_pos rfl]
    exact congrArg _ (gate_sum X D W l)
  · have a : ¬ r.val < 1 := fun h => r0 (Fin.ext (by simpa using h))
    rw [dif_neg a, if_neg r0]
    exact EReal.coe_zero.symm
end Ref

section Values
open Cert.GateOutKernelIdeal
variable (m : (ℓ : Loc nD τ sig) → Buf (Elt Ideal) ℓ)
variable (m' : (ℓ : Loc Cert.GateOutReferenceIdeal.nD Cert.GateOutReferenceIdeal.τ Cert.GateOutReferenceIdeal.sig) → Buf (Elt Ideal) ℓ)

theorem values (c : Dev nD) (hp : (Cert.Pre_finite_gate_out_arguments.fn (F := Ideal) (m ((c.tc : Thread nD τ).loc main_arg0)) (m ((c.tc : Thread nD τ).loc main_arg1)) (m ((c.tc : Thread nD τ).loc main_arg2)) (m ((c.tc : Thread nD τ).loc main_arg3))).1 = (fun _ => 1#1)
      ∧ (Cert.Pre_finite_gate_out_arguments.fn (F := Ideal) (m ((c.tc : Thread nD τ).loc main_arg0)) (m ((c.tc : Thread nD τ).loc main_arg1)) (m ((c.tc : Thread nD τ).loc main_arg2)) (m ((c.tc : Thread nD τ).loc main_arg3))).2.1 = (fun _ => 1#1)
      ∧ (Cert.Pre_finite_gate_out_arguments.fn (F := Ideal) (m ((c.tc : Thread nD τ).loc main_arg0)) (m ((c.tc : Thread nD τ).loc main_arg1)) (m ((c.tc : Thread nD τ).loc main_arg2)) (m ((c.tc : Thread nD τ).loc main_arg3))).2.2.1 = (fun _ => 1#1)
      ∧ (Cert.Pre_finite_gate_out_arguments.fn (F := Ideal) (m ((c.tc : Thread nD τ).loc main_arg0)) (m ((c.tc : Thread nD τ).loc main_arg1)) (m ((c.tc : Thread nD τ).loc main_arg2)) (m ((c.tc : Thread nD τ).loc main_arg3))).2.2.2 = (fun _ => 1#1))
    (he : m' ((c.tc : Thread Cert.GateOutReferenceIdeal.nD Cert.GateOutReferenceIdeal.τ).loc Cert.GateOutReferenceIdeal.main_arg0) = m ((c.tc : Thread nD τ).loc main_arg0)
      ∧ m' ((c.tc : Thread Cert.GateOutReferenceIdeal.nD Cert.GateOutReferenceIdeal.τ).loc Cert.GateOutReferenceIdeal.main_arg1) = m ((c.tc : Thread nD τ).loc main_arg1)
      ∧ m' ((c.tc : Thread Cert.GateOutReferenceIdeal.nD Cert.GateOutReferenceIdeal.τ).loc Cert.GateOutReferenceIdeal.main_arg2) = m ((c.tc : Thread nD τ).loc main_arg2)
      ∧ m' ((c.tc : Thread Cert.GateOutReferenceIdeal.nD Cert.GateOutReferenceIdeal.τ).loc Cert.GateOutReferenceIdeal.main_arg3) = m ((c.tc : Thread nD τ).loc main_arg3)) :
    Cert.GateOutReferenceIdeal.Read.val_main_v12 (F := Ideal) (m' ((c.tc : Thread Cert.GateOutReferenceIdeal.nD Cert.GateOutReferenceIdeal.τ).loc Cert.GateOutReferenceIdeal.main_arg0)) (m' ((c.tc : Thread Cert.GateOutReferenceIdeal.nD Cert.GateOutReferenceIdeal.τ).loc Cert.GateOutReferenceIdeal.main_arg1)) (m' ((c.tc : Thread Cert.GateOutReferenceIdeal.nD Cert.GateOutReferenceIdeal.τ).loc Cert.GateOutReferenceIdeal.main_arg2)) = (Gen.dats m 0 c).arrAt 4 cfg0.N
    ∧ Cert.GateOutReferenceIdeal.Read.val_main_v15 (F := Ideal) (m' ((c.tc : Thread Cert.GateOutReferenceIdeal.nD Cert.GateOutReferenceIdeal.τ).loc Cert.GateOutReferenceIdeal.main_arg0)) (m' ((c.tc : Thread Cert.GateOutReferenceIdeal.nD Cert.GateOutReferenceIdeal.τ).loc Cert.GateOutReferenceIdeal.main_arg1)) (m' ((c.tc : Thread Cert.GateOutReferenceIdeal.nD Cert.GateOutReferenceIdeal.τ).loc Cert.GateOutReferenceIdeal.main_arg3)) = (Gen.dats m 0 c).arrAt 5 cfg0.N := by
  have hX := Cert.Loss.eq_re2 _ (real_of_pre _ hp.1)
  have hD := Cert.Loss.eq_re2 _ (real_of_pre _ hp.2.1)
  have hG := Cert.Loss.eq_re1 _ (real_of_pre _ hp.2.2.1)
  have hW := Cert.Loss.eq_re2 _ (real_of_pre _ hp.2.2.2)
  rw [he.1, he.2.1, he.2.2.1, he.2.2.2]
  constructor
  · refine Eq.trans ?_ (final4 m c _ _ _ hX hD hG).symm
    funext i
    exact (congrArg _ (by funext k; fin_cases k <;> rfl : i = ix2 (i 0) (i 1))).trans (ref12 _ _ _ _ _ _ hX hD hG (i 0) (i 1))
  · refine Eq.trans ?_ (final5 m c _ _ _ hX hD hW).symm
    funext i
    exact (congrArg _ (by funext k; fin_cases k <;> rfl : i = ix2 (i 0) (i 1))).trans (ref15 _ _ _ _ _ _ hX hD hW (i 0) (i 1))
end Values

theorem algebraic : Cert.algebraic_GateOutKernelIdeal_GateOutReferenceIdeal_pre_finite_gate_out_arguments
    (hPre_finite_gate_out_arguments := pre_facts) := by
  intro m g m' g' hpre hagree
  refine ⟨fun c => (Cert.GateOutKernelIdeal.Gen.dats m 0 c).arrAt 4 Cert.GateOutKernelIdeal.cfg0.N,
    fun c => (Cert.GateOutKernelIdeal.Gen.dats m 0 c).arrAt 5 Cert.GateOutKernelIdeal.cfg0.N,
    Cert.GateOutKernelIdeal.Value.run_blocks m g, (θ_run _ _ _).mono (fun r h c => ?_) (Cert.GateOutReferenceIdeal.Value.run m' g')⟩
  obtain ⟨r0, r1, rest⟩ := h c
  have key := values m m' c (hpre c) (hagree c)
  exact ⟨(r0.trans (Cert.GateOutReferenceIdeal.Read.val_main_v12_eq _ _ _)).trans key.1,
    (r1.trans (Cert.GateOutReferenceIdeal.Read.val_main_v15_eq _ _ _)).trans key.2, rest⟩

end Cert.GateOut

end
-- ==== Proof.Ada.lean ====
/- The modulation's gradient and its optimiser step: their value claim. -/
module

public import proofs.«01_k».proof.Defs
public import proofs.«01_k».proof.Proof.LossBlock
public import proofs.«01_k».proof.Proof.Relu
public import proofs.«01_k».proof.Proof.Loss
public import proofs.«01_k».proof.Proof.Gen.AdaKernelIdeal.Value
public import proofs.«01_k».proof.Proof.Gen.AdaReferenceIdeal.Run
public import proofs.«01_k».proof.Proof.Gen.AdaReferenceIdeal.Read

@[expose] public section

set_option maxRecDepth 16384

noncomputable section

namespace Cert.Ada

open Idealize.ShloMosaic Cert.Lift

/-- The gate's value. -/
def silu (z : EReal) : EReal := z * Ideal.div 1 (1 + Ideal.exp (-z))
/-- The weight's gradient at layer `s`. -/
def grad (x : FVec Ideal ⟨2, ![8, 1024]⟩ .f32) (d : FVec Ideal ⟨3, ![4, 8, 1536]⟩ .f32) (s : Fin 4) (k : Fin 1024) (n : Fin 1536) : EReal :=
  ∑ b, silu (x (ix2 b k)) * d (ix3 s b n)
/-- The first moment after the step. -/
def mom (g m : EReal) : EReal := Ideal.ofBits .f32 1063675494#32 * m + Ideal.ofBits .f32 1036831949#32 * g
/-- The second moment after the step. -/
def sec (g v : EReal) : EReal := Ideal.ofBits .f32 1065336439#32 * v + Ideal.ofBits .f32 981668463#32 * (g * g)
/-- The weight's change, from the moments after the step. -/
def step (w m v : EReal) : EReal := Ideal.ofBits .f32 3129152111#32 *
  (Ideal.div (Ideal.div m (Ideal.ofBits .f32 1059503362#32)) (Ideal.sqrt (Ideal.div v (Ideal.ofBits .f32 1008933580#32)) + Ideal.ofBits .f32 841731191#32)
    + Ideal.ofBits .f32 1008981770#32 * w)

section Block
open Cert.AdaKernelIdeal Cert.AdaKernelIdeal.Gen
variable (a : FVec Ideal S8x1024 .f32) (d : FVec Ideal S1x8x512 .f32) (w v u : FVec Ideal S1x1024x512 .f32)
variable (k : Fin 1024) (n : Fin 512) (g : EReal) (hg : k0_pay4 (F := Ideal) (View.ld a r0_0) (View.ld d r0_1) (ix2 k n) = g)

theorem pay4 : k0_pay4 (F := Ideal) a d (ix2 k n) = ∑ b, silu (a (ix2 b k)) * d (ix3 0 b n) := by
  pointwise [k0_pay4]
  simp only [zero_sub]
  rfl
theorem pay4_ld : k0_pay4 (F := Ideal) (View.ld a r0_0) (View.ld d r0_1) (ix2 k n) = ∑ b, silu (a (ix2 b k)) * d (ix3 0 b n) := by
  rw [pay4]
  pointwise
include hg
theorem out5 : out0_5 (F := Ideal) a d w v u (ix3 0 k n) = g := by
  unfold_out out0_5
  refine (Pieces.canon_hit _ _ _ _ (ix3 0 k n) (by intro a; fin_cases a <;> simp [ix3])).trans ?_
  pointwise [k0_pay5]
  exact hg
theorem out7 : out0_7 (F := Ideal) a d w v u (ix3 0 k n) = mom g (v (ix3 0 k n)) := by
  unfold_out out0_7
  refine (Pieces.canon_hit _ _ _ _ (ix3 0 k n) (by intro a; fin_cases a <;> simp [ix3])).trans ?_
  pointwise [k0_pay2, k0_pay7]
  rw [hg]
  rfl
theorem out8 : out0_8 (F := Ideal) a d w v u (ix3 0 k n) = sec g (u (ix3 0 k n)) := by
  unfold_out out0_8
  refine (Pieces.canon_hit _ _ _ _ (ix3 0 k n) (by intro a; fin_cases a <;> simp [ix3])).trans ?_
  pointwise [k0_pay3, k0_pay8]
  rw [hg]
  rfl
theorem out6 : out0_6 (F := Ideal) a d w v u (ix3 0 k n) = step (w (ix3 0 k n)) (mom g (v (ix3 0 k n))) (sec g (u (ix3 0 k n))) := by
  unfold_out out0_6
  refine (Pieces.canon_hit _ _ _ _ (ix3 0 k n) (by intro a; fin_cases a <;> simp [ix3])).trans ?_
  pointwise [k0_pay1, k0_pay6, k0_pay7, k0_pay8]
  rw [hg]
  rfl
end Block

section Run
open Cert.AdaKernelIdeal Cert.AdaKernelIdeal.Gen
variable (m : (ℓ : Loc nD τ sig) → Buf (Elt Ideal) ℓ) (c : Dev nD)

theorem idx0 : ∀ t : Fin cfg0.N, win0_0.index t = ![0, 0] ∧ win0_1.index t = ![t.val / 3, 0, t.val % 3] ∧ win0_2.index t = ![t.val / 3, 0, t.val % 3]
    ∧ win0_3.index t = ![t.val / 3, 0, t.val % 3] ∧ win0_4.index t = ![t.val / 3, 0, t.val % 3] ∧ win0_5.index t = ![t.val / 3, 0, t.val % 3]
    ∧ win0_6.index t = ![t.val / 3, 0, t.val % 3]
    ∧ win0_7.index t = ![t.val / 3, 0, t.val % 3] ∧ win0_8.index t = ![t.val / 3, 0, t.val % 3] :=
  (by decide +kernel : ∀ t : Fin grid0.N, _)

def lay (t : Fin cfg0.N) : Fin 4 := ⟨t.val / 3, by have h : t.val < 12 := lt_of_lt_of_eq t.isLt N_0; omega⟩
def col (t : Fin cfg0.N) (n : Fin 512) : Fin 1536 := ⟨t.val % 3 * 512 + n.val, by have := n.isLt; omega⟩

theorem blk0 (t : Fin cfg0.N) (b : Fin 8) (k : Fin 1024) :
    (iblk m c 0 t : FVec Ideal S8x1024 .f32) (ix2 b k) = (m ((c.tc : Thread nD τ).loc main_arg0)) (ix2 b k) := by
  show _ = V m c (Pipeline.arrRef spec0 0) (ix2 b k)
  unfold iblk
  generalize V m c (Pipeline.arrRef spec0 0) = A
  blk_point [idx0 t]
theorem blk1 (t : Fin cfg0.N) (b : Fin 8) (n : Fin 512) :
    (iblk m c 1 t : FVec Ideal S1x8x512 .f32) (ix3 0 b n) = (m ((c.tc : Thread nD τ).loc main_arg1)) (ix3 (lay t) b (col t n)) := by
  show _ = V m c (Pipeline.arrRef spec0 1) (ix3 (lay t) b (col t n))
  unfold iblk lay col
  generalize V m c (Pipeline.arrRef spec0 1) = A
  blk_point [idx0 t]
theorem blk2 (t : Fin cfg0.N) (k : Fin 1024) (n : Fin 512) :
    (iblk m c 2 t : FVec Ideal S1x1024x512 .f32) (ix3 0 k n) = (m ((c.tc : Thread nD τ).loc main_arg2)) (ix3 (lay t) k (col t n)) := by
  show _ = V m c (Pipeline.arrRef spec0 2) (ix3 (lay t) k (col t n))
  unfold iblk lay col
  generalize V m c (Pipeline.arrRef spec0 2) = A
  blk_point [idx0 t]
theorem blk3 (t : Fin cfg0.N) (k : Fin 1024) (n : Fin 512) :
    (iblk m c 3 t : FVec Ideal S1x1024x512 .f32) (ix3 0 k n) = (m ((c.tc : Thread nD τ).loc main_arg3)) (ix3 (lay t) k (col t n)) := by
  show _ = V m c (Pipeline.arrRef spec0 3) (ix3 (lay t) k (col t n))
  unfold iblk lay col
  generalize V m c (Pipeline.arrRef spec0 3) = A
  blk_point [idx0 t]
theorem blk4 (t : Fin cfg0.N) (k : Fin 1024) (n : Fin 512) :
    (iblk m c 4 t : FVec Ideal S1x1024x512 .f32) (ix3 0 k n) = (m ((c.tc : Thread nD τ).loc main_arg4)) (ix3 (lay t) k (col t n)) := by
  show _ = V m c (Pipeline.arrRef spec0 4) (ix3 (lay t) k (col t n))
  unfold iblk lay col
  generalize V m c (Pipeline.arrRef spec0 4) = A
  blk_point [idx0 t]

theorem pay4_eq (t : Fin cfg0.N) (k : Fin 1024) (n : Fin 512) :
    k0_pay4 (F := Ideal) (View.ld (iblk m c 0 t) r0_0) (View.ld (iblk m c 1 t) r0_1) (ix2 k n) = grad (m ((c.tc : Thread nD τ).loc main_arg0)) (m ((c.tc : Thread nD τ).loc main_arg1)) (lay t) k (col t n) := by
  rw [pay4_ld]
  unfold grad
  exact Finset.sum_congr rfl fun b _ => Relu.mul_congr (congrArg silu (blk0 m c t b k)) (blk1 m c t b n)

/-- An array from its elements. -/
def arr (f : Fin 4 → Fin 1024 → Fin 1536 → EReal) (i : S4x1024x1536.Idx) : EReal := f (i 0) (i 1) (i 2)

def momA (x : FVec Ideal S8x1024 .f32) (d : FVec Ideal S4x8x1536 .f32) (p : FVec Ideal S4x1024x1536 .f32) (s : Fin 4) (k : Fin 1024) (n : Fin 1536) : EReal :=
  mom (grad x d s k n) (p (ix3 s k n))
def secA (x : FVec Ideal S8x1024 .f32) (d : FVec Ideal S4x8x1536 .f32) (q : FVec Ideal S4x1024x1536 .f32) (s : Fin 4) (k : Fin 1024) (n : Fin 1536) : EReal :=
  sec (grad x d s k n) (q (ix3 s k n))
def stepA (x : FVec Ideal S8x1024 .f32) (d : FVec Ideal S4x8x1536 .f32) (w p q : FVec Ideal S4x1024x1536 .f32) (s : Fin 4) (k : Fin 1024) (n : Fin 1536) : EReal :=
  step (w (ix3 s k n)) (momA x d p s k n) (secA x d q s k n)

theorem point5 (t : Fin cfg0.N) (k : Fin 1024) (n : Fin 512) :
    out0_5 (F := Ideal) (iblk m c 0 t) (iblk m c 1 t) (iblk m c 2 t) (iblk m c 3 t) (iblk m c 4 t) (ix3 0 k n) = grad (m ((c.tc : Thread nD τ).loc main_arg0)) (m ((c.tc : Thread nD τ).loc main_arg1)) (lay t) k (col t n) :=
  out5 _ _ _ _ _ k n _ (pay4_eq m c t k n)
theorem point7 (t : Fin cfg0.N) (k : Fin 1024) (n : Fin 512) :
    out0_7 (F := Ideal) (iblk m c 0 t) (iblk m c 1 t) (iblk m c 2 t) (iblk m c 3 t) (iblk m c 4 t) (ix3 0 k n) = momA (m ((c.tc : Thread nD τ).loc main_arg0)) (m ((c.tc : Thread nD τ).loc main_arg1)) (m ((c.tc : Thread nD τ).loc main_arg3)) (lay t) k (col t n) :=
  (out7 _ _ _ _ _ k n _ (pay4_eq m c t k n)).trans (congrArg (mom _) (blk3 m c t k n))
theorem point8 (t : Fin cfg0.N) (k : Fin 1024) (n : Fin 512) :
    out0_8 (F := Ideal) (iblk m c 0 t) (iblk m c 1 t) (iblk m c 2 t) (iblk m c 3 t) (iblk m c 4 t) (ix3 0 k n) = secA (m ((c.tc : Thread nD τ).loc main_arg0)) (m ((c.tc : Thread nD τ).loc main_arg1)) (m ((c.tc : Thread nD τ).loc main_arg4)) (lay t) k (col t n) :=
  (out8 _ _ _ _ _ k n _ (pay4_eq m c t k n)).trans (congrArg (sec _) (blk4 m c t k n))
theorem step_congr {w w' p p' q q' : EReal} (h0 : w = w') (h1 : p = p') (h2 : q = q') : step w p q = step w' p' q' := by rw [h0, h1, h2]
theorem point6 (t : Fin cfg0.N) (k : Fin 1024) (n : Fin 512) :
    out0_6 (F := Ideal) (iblk m c 0 t) (iblk m c 1 t) (iblk m c 2 t) (iblk m c 3 t) (iblk m c 4 t) (ix3 0 k n)
      = stepA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (lay t) k (col t n) :=
  (out6 _ _ _ _ _ k n _ (pay4_eq m c t k n)).trans
    (step_congr (blk2 m c t k n) (congrArg (mom _) (blk3 m c t k n)) (congrArg (sec _) (blk4 m c t k n)))

theorem final5 : (dats m 0 c).arrAt 5 cfg0.N = arr (grad (m ((c.tc : Thread nD τ).loc main_arg0)) (m ((c.tc : Thread nD τ).loc main_arg1))) := by
  refine (dats m 0 c).arrAt_eq_of_covers 5 _ (by decide +kernel) fun t _ y => ?_
  blk_simp
  rw [after0_5]
  idx_vars y
  obtain rfl : y0 = 0 := Subsingleton.elim _ _
  refine (point5 m c t y1 y2).trans ?_
  generalize grad (m ((c.tc : Thread nD τ).loc main_arg0)) (m ((c.tc : Thread nD τ).loc main_arg1)) = A
  refine Eq.trans (b := arr A (ix3 (lay t) y1 (col t y2))) rfl (congrArg (arr A) ?_)
  unfold lay col
  blk_ext [idx0 t]

theorem final6 : (dats m 0 c).arrAt 6 cfg0.N = arr (stepA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 6 _ (by decide +kernel) fun t _ y => ?_
  blk_simp
  rw [after0_6]
  idx_vars y
  obtain rfl : y0 = 0 := Subsingleton.elim _ _
  refine (point6 m c t y1 y2).trans ?_
  generalize stepA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = A
  refine Eq.trans (b := arr A (ix3 (lay t) y1 (col t y2))) rfl (congrArg (arr A) ?_)
  unfold lay col
  blk_ext [idx0 t]

theorem final7 : (dats m 0 c).arrAt 7 cfg0.N = arr (momA (m ((c.tc : Thread nD τ).loc main_arg0)) (m ((c.tc : Thread nD τ).loc main_arg1)) (m ((c.tc : Thread nD τ).loc main_arg3))) := by
  refine (dats m 0 c).arrAt_eq_of_covers 7 _ (by decide +kernel) fun t _ y => ?_
  blk_simp
  rw [after0_7]
  idx_vars y
  obtain rfl : y0 = 0 := Subsingleton.elim _ _
  refine (point7 m c t y1 y2).trans ?_
  generalize momA (m ((c.tc : Thread nD τ).loc main_arg0)) (m ((c.tc : Thread nD τ).loc main_arg1)) (m ((c.tc : Thread nD τ).loc main_arg3)) = A
  refine Eq.trans (b := arr A (ix3 (lay t) y1 (col t y2))) rfl (congrArg (arr A) ?_)
  unfold lay col
  blk_ext [idx0 t]

theorem final8 : (dats m 0 c).arrAt 8 cfg0.N = arr (secA (m ((c.tc : Thread nD τ).loc main_arg0)) (m ((c.tc : Thread nD τ).loc main_arg1)) (m ((c.tc : Thread nD τ).loc main_arg4))) := by
  refine (dats m 0 c).arrAt_eq_of_covers 8 _ (by decide +kernel) fun t _ y => ?_
  blk_simp
  rw [after0_8]
  idx_vars y
  obtain rfl : y0 = 0 := Subsingleton.elim _ _
  refine (point8 m c t y1 y2).trans ?_
  generalize secA (m ((c.tc : Thread nD τ).loc main_arg0)) (m ((c.tc : Thread nD τ).loc main_arg1)) (m ((c.tc : Thread nD τ).loc main_arg4)) = A
  refine Eq.trans (b := arr A (ix3 (lay t) y1 (col t y2))) rfl (congrArg (arr A) ?_)
  unfold lay col
  blk_ext [idx0 t]

end Run

section Ref
open Cert.AdaReferenceIdeal Cert.AdaReferenceIdeal.Value Cert.AdaReferenceIdeal.Read
variable (x0 : FVec Ideal S8x1024 .f32) (x1 : FVec Ideal S4x8x1536 .f32) (x2 x3 x4 : FVec Ideal S4x1024x1536 .f32)

theorem ref0 (b : Fin 8) (k : Fin 1024) : val_main_v0 (F := Ideal) x0 (ix2 b k) = silu (x0 (ix2 b k)) := by
  pointwise [val_main_v0, val_main_call0_v5, val_main_call0_v4, val_main_call0_v3, val_main_call0_v2, val_main_call0_v1, val_main_call0_v0, val_main_call0_cst, val_main_call0_cst_0]
  rfl
theorem ref4 (b : Fin 8) (k : Fin 1024) : val_main_v4 (F := Ideal) x0 (ix2 b k) = silu (x0 (ix2 b k)) := by
  pointwise [val_main_v4, val_main_call1_v5, val_main_call1_v4, val_main_call1_v3, val_main_call1_v2, val_main_call1_v1, val_main_call1_v0, val_main_call1_cst, val_main_call1_cst_0]
  rfl
theorem ref8 (b : Fin 8) (k : Fin 1024) : val_main_v8 (F := Ideal) x0 (ix2 b k) = silu (x0 (ix2 b k)) := by
  pointwise [val_main_v8, val_main_call2_v5, val_main_call2_v4, val_main_call2_v3, val_main_call2_v2, val_main_call2_v1, val_main_call2_v0, val_main_call2_cst, val_main_call2_cst_0]
  rfl
theorem ref12 (b : Fin 8) (k : Fin 1024) : val_main_v12 (F := Ideal) x0 (ix2 b k) = silu (x0 (ix2 b k)) := by
  pointwise [val_main_v12, val_main_call3_v5, val_main_call3_v4, val_main_call3_v3, val_main_call3_v2, val_main_call3_v1, val_main_call3_v0, val_main_call3_cst, val_main_call3_cst_0]
  rfl
theorem ref22 (b : Fin 8) (n : Fin 1536) : val_main_v22 (F := Ideal) x1 (ix2 b n) = x1 (ix3 0 b n) := by
  pointwise [val_main_v22, val_main_v21]
theorem ref24 (b : Fin 8) (n : Fin 1536) : val_main_v24 (F := Ideal) x1 (ix2 b n) = x1 (ix3 1 b n) := by
  pointwise [val_main_v24, val_main_v23]
theorem ref26 (b : Fin 8) (n : Fin 1536) : val_main_v26 (F := Ideal) x1 (ix2 b n) = x1 (ix3 2 b n) := by
  pointwise [val_main_v26, val_main_v25]
theorem ref28 (b : Fin 8) (n : Fin 1536) : val_main_v28 (F := Ideal) x1 (ix2 b n) = x1 (ix3 3 b n) := by
  pointwise [val_main_v28, val_main_v27]

theorem ref47 (s : Fin 4) (k : Fin 1024) (n : Fin 1536) : val_main_v47 (F := Ideal) x0 x1 (ix3 s k n) = grad x0 x1 s k n := by
  have z : Ideal.ofBits .f32 0#32 = (0 : EReal) := zero_f32.trans EReal.coe_zero
  pointwise [val_main_v47, val_main_v46, val_main_v42, val_main_v41, val_main_v37, val_main_v32, val_main_v36, val_main_v31, val_main_v35, val_main_v40, val_main_v45,
    val_main_v30, val_main_v34, val_main_v39, val_main_v44, val_main_v29, val_main_v33, val_main_v38, val_main_v43, val_main_cst, val_main_cst_0, val_main_cst_1, val_main_cst_2]
  simp only [ref0, ref4, ref8, ref12, ref22, ref24, ref26, ref28]
  unfold grad
  rcases (by omega : s.val = 0 ∨ s.val = 1 ∨ s.val = 2 ∨ s.val = 3) with e | e | e | e
  · obtain rfl : s = 0 := Fin.ext e
    rw [dif_neg (by decide), dif_neg (by decide), dif_neg (by decide), dif_pos (by decide)]
    try simp only [zero_add, add_zero]
    exact Finset.sum_congr rfl fun b _ => mul_comm _ _
  · obtain rfl : s = 1 := Fin.ext e
    rw [dif_neg (by decide), dif_neg (by decide), dif_pos (by decide), dif_neg (by decide)]
    try simp only [zero_add, add_zero]
    exact Finset.sum_congr rfl fun b _ => mul_comm _ _
  · obtain rfl : s = 2 := Fin.ext e
    rw [dif_neg (by decide), dif_pos (by decide), dif_neg (by decide), dif_neg (by decide)]
    try simp only [zero_add, add_zero]
    exact Finset.sum_congr rfl fun b _ => mul_comm _ _
  · obtain rfl : s = 3 := Fin.ext e
    rw [dif_pos (by decide), dif_neg (by decide), dif_neg (by decide), dif_neg (by decide)]
    try simp only [zero_add, add_zero]
    exact Finset.sum_congr rfl fun b _ => mul_comm _ _

theorem ref52 (s : Fin 4) (k : Fin 1024) (n : Fin 1536) : val_main_v52 (F := Ideal) x0 x1 x3 (ix3 s k n) = momA x0 x1 x3 s k n := by
  pointwise [val_main_v52, val_main_v51, val_main_v50, val_main_v49, val_main_v48, val_main_cst_3, val_main_cst_4]
  rw [ref47]
  rfl

theorem ref58 (s : Fin 4) (k : Fin 1024) (n : Fin 1536) : val_main_v58 (F := Ideal) x0 x1 x4 (ix3 s k n) = secA x0 x1 x4 s k n := by
  pointwise [val_main_v58, val_main_v57, val_main_v56, val_main_v55, val_main_v54, val_main_v53, val_main_cst_5, val_main_cst_6]
  rw [ref47]
  rfl

theorem ref71 (s : Fin 4) (k : Fin 1024) (n : Fin 1536) : val_main_v71 (F := Ideal) x0 x1 x2 x3 x4 (ix3 s k n) = stepA x0 x1 x2 x3 x4 s k n := by
  pointwise [val_main_v71, val_main_v70, val_main_v69, val_main_v68, val_main_v67, val_main_v66, val_main_v65, val_main_v64, val_main_v63, val_main_v62,
    val_main_v61, val_main_v60, val_main_v59, val_main_cst_7, val_main_cst_8, val_main_cst_9, val_main_cst_10, val_main_cst_11]
  rw [ref52, ref58]
  rfl
end Ref

section Values
open Cert.AdaKernelIdeal
variable (m : (ℓ : Loc nD τ sig) → Buf (Elt Ideal) ℓ)
variable (m' : (ℓ : Loc Cert.AdaReferenceIdeal.nD Cert.AdaReferenceIdeal.τ Cert.AdaReferenceIdeal.sig) → Buf (Elt Ideal) ℓ)

theorem values (c : Dev nD)
    (he : m' ((c.tc : Thread Cert.AdaReferenceIdeal.nD Cert.AdaReferenceIdeal.τ).loc Cert.AdaReferenceIdeal.main_arg0) = m ((c.tc : Thread nD τ).loc main_arg0)
      ∧ m' ((c.tc : Thread Cert.AdaReferenceIdeal.nD Cert.AdaReferenceIdeal.τ).loc Cert.AdaReferenceIdeal.main_arg1) = m ((c.tc : Thread nD τ).loc main_arg1)
      ∧ m' ((c.tc : Thread Cert.AdaReferenceIdeal.nD Cert.AdaReferenceIdeal.τ).loc Cert.AdaReferenceIdeal.main_arg2) = m ((c.tc : Thread nD τ).loc main_arg2)
      ∧ m' ((c.tc : Thread Cert.AdaReferenceIdeal.nD Cert.AdaReferenceIdeal.τ).loc Cert.AdaReferenceIdeal.main_arg3) = m ((c.tc : Thread nD τ).loc main_arg3)
      ∧ m' ((c.tc : Thread Cert.AdaReferenceIdeal.nD Cert.AdaReferenceIdeal.τ).loc Cert.AdaReferenceIdeal.main_arg4) = m ((c.tc : Thread nD τ).loc main_arg4)) :
    Cert.AdaReferenceIdeal.Read.val_main_v47 (F := Ideal) (m' ((c.tc : Thread Cert.AdaReferenceIdeal.nD Cert.AdaReferenceIdeal.τ).loc Cert.AdaReferenceIdeal.main_arg0)) (m' ((c.tc : Thread Cert.AdaReferenceIdeal.nD Cert.AdaReferenceIdeal.τ).loc Cert.AdaReferenceIdeal.main_arg1)) = (Gen.dats m 0 c).arrAt 5 cfg0.N
    ∧ Cert.AdaReferenceIdeal.Read.val_main_v71 (F := Ideal) (m' ((c.tc : Thread Cert.AdaReferenceIdeal.nD Cert.AdaReferenceIdeal.τ).loc Cert.AdaReferenceIdeal.main_arg0)) (m' ((c.tc : Thread Cert.AdaReferenceIdeal.nD Cert.AdaReferenceIdeal.τ).loc Cert.AdaReferenceIdeal.main_arg1)) (m' ((c.tc : Thread Cert.AdaReferenceIdeal.nD Cert.AdaReferenceIdeal.τ).loc Cert.AdaReferenceIdeal.main_arg2)) (m' ((c.tc : Thread Cert.AdaReferenceIdeal.nD Cert.AdaReferenceIdeal.τ).loc Cert.AdaReferenceIdeal.main_arg3)) (m' ((c.tc : Thread Cert.AdaReferenceIdeal.nD Cert.AdaReferenceIdeal.τ).loc Cert.AdaReferenceIdeal.main_arg4)) = (Gen.dats m 0 c).arrAt 6 cfg0.N
    ∧ Cert.AdaReferenceIdeal.Read.val_main_v52 (F := Ideal) (m' ((c.tc : Thread Cert.AdaReferenceIdeal.nD Cert.AdaReferenceIdeal.τ).loc Cert.AdaReferenceIdeal.main_arg0)) (m' ((c.tc : Thread Cert.AdaReferenceIdeal.nD Cert.AdaReferenceIdeal.τ).loc Cert.AdaReferenceIdeal.main_arg1)) (m' ((c.tc : Thread Cert.AdaReferenceIdeal.nD Cert.AdaReferenceIdeal.τ).loc Cert.AdaReferenceIdeal.main_arg3)) = (Gen.dats m 0 c).arrAt 7 cfg0.N
    ∧ Cert.AdaReferenceIdeal.Read.val_main_v58 (F := Ideal) (m' ((c.tc : Thread Cert.AdaReferenceIdeal.nD Cert.AdaReferenceIdeal.τ).loc Cert.AdaReferenceIdeal.main_arg0)) (m' ((c.tc : Thread Cert.AdaReferenceIdeal.nD Cert.AdaReferenceIdeal.τ).loc Cert.AdaReferenceIdeal.main_arg1)) (m' ((c.tc : Thread Cert.AdaReferenceIdeal.nD Cert.AdaReferenceIdeal.τ).loc Cert.AdaReferenceIdeal.main_arg4)) = (Gen.dats m 0 c).arrAt 8 cfg0.N := by
  rw [he.1, he.2.1, he.2.2.1, he.2.2.2.1, he.2.2.2.2]
  refine ⟨?_, ?_, ?_, ?_⟩
  · refine Eq.trans ?_ (final5 m c).symm
    funext i
    exact (congrArg _ (by funext k; fin_cases k <;> rfl : i = ix3 (i 0) (i 1) (i 2))).trans (ref47 _ _ (i 0) (i 1) (i 2))
  · refine Eq.trans ?_ (final6 m c).symm
    funext i
    exact (congrArg _ (by funext k; fin_cases k <;> rfl : i = ix3 (i 0) (i 1) (i 2))).trans (ref71 _ _ _ _ _ (i 0) (i 1) (i 2))
  · refine Eq.trans ?_ (final7 m c).symm
    funext i
    exact (congrArg _ (by funext k; fin_cases k <;> rfl : i = ix3 (i 0) (i 1) (i 2))).trans (ref52 _ _ _ (i 0) (i 1) (i 2))
  · refine Eq.trans ?_ (final8 m c).symm
    funext i
    exact (congrArg _ (by funext k; fin_cases k <;> rfl : i = ix3 (i 0) (i 1) (i 2))).trans (ref58 _ _ _ (i 0) (i 1) (i 2))
end Values

theorem algebraic : Cert.algebraic_AdaKernelIdeal_AdaReferenceIdeal := by
  intro m g m' g' _ hagree
  refine ⟨fun c => (Cert.AdaKernelIdeal.Gen.dats m 0 c).arrAt 5 Cert.AdaKernelIdeal.cfg0.N,
    fun c => (Cert.AdaKernelIdeal.Gen.dats m 0 c).arrAt 6 Cert.AdaKernelIdeal.cfg0.N,
    fun c => (Cert.AdaKernelIdeal.Gen.dats m 0 c).arrAt 7 Cert.AdaKernelIdeal.cfg0.N,
    fun c => (Cert.AdaKernelIdeal.Gen.dats m 0 c).arrAt 8 Cert.AdaKernelIdeal.cfg0.N,
    Cert.AdaKernelIdeal.Value.run_blocks m g, (θ_run _ _ _).mono (fun r h c => ?_) (Cert.AdaReferenceIdeal.Value.run m' g')⟩
  obtain ⟨r0, r1, r2, r3, rest⟩ := h c
  have key := values m m' c (hagree c)
  exact ⟨(r0.trans (Cert.AdaReferenceIdeal.Read.val_main_v47_eq _ _)).trans key.1,
    (r1.trans (Cert.AdaReferenceIdeal.Read.val_main_v71_eq _ _)).trans key.2.1,
    (r2.trans (Cert.AdaReferenceIdeal.Read.val_main_v52_eq _ _ _)).trans key.2.2.1,
    (r3.trans (Cert.AdaReferenceIdeal.Read.val_main_v58_eq _ _)).trans key.2.2.2, rest⟩

end Cert.Ada

end
-- ==== Proof.MixAlg.lean ====
module

public import proofs.«01_k».proof.Proof.Lift
public import Mathlib.LinearAlgebra.Matrix.NonsingularInverse

/-! The real algebra of the gated delta rule: a block of rows solved by a triangular inverse against
the recurrence row by row, and the inverse by doubled blocks. -/

open scoped BigOperators

@[expose] public section

namespace Cert.Mix

/-! ## The rule row by row -/

section Rule

variable {κ ν : Type} [Fintype κ] [Fintype ν]
variable (q k : ℕ → κ → ℝ) (v : ℕ → ν → ℝ) (bt g : ℕ → ℝ)

/-- The row the rule writes at `n`, from the state before it. -/
noncomputable def wrow (n : ℕ) (S : κ → ν → ℝ) (d : ν) : ℝ :=
  bt n * (v n d - ∑ a, k n a * (Real.exp (g n) * S a d))

/-- The state after row `n`, from the state before it. -/
noncomputable def next (n : ℕ) (S : κ → ν → ℝ) (a : κ) (d : ν) : ℝ :=
  Real.exp (g n) * S a d + k n a * wrow k v bt g n S d

/-- The state after `n` rows that follow row `b`. -/
noncomputable def stAt (b : ℕ) (S : κ → ν → ℝ) : ℕ → κ → ν → ℝ
  | 0 => S
  | n + 1 => next k v bt g (b + n) (stAt b S n)

/-- The result of row `n`. -/
noncomputable def oRow (n : ℕ) (S : κ → ν → ℝ) (d : ν) : ℝ :=
  ∑ a, q n a * next k v bt g n S a d

theorem stAt_add (b : ℕ) (S : κ → ν → ℝ) (m n : ℕ) :
    stAt k v bt g (b + m) (stAt k v bt g b S m) n = stAt k v bt g b S (m + n) := by
  induction n with
  | zero => rfl
  | succ n ih =>
    show next k v bt g (b + m + n) (stAt k v bt g (b + m) (stAt k v bt g b S m) n)
      = next k v bt g (b + (m + n)) (stAt k v bt g b S (m + n))
    rw [ih, Nat.add_assoc]

variable {L : ℕ} (b : ℕ) (S : κ → ν → ℝ)

/-- The decay up to and with row `i` of the block. -/
noncomputable def gsum (i : Fin L) : ℝ := ∑ j : Fin L, if j ≤ i then g (b + j) else 0

/-- The decay in the block between two rows. -/
noncomputable def dm (i j : Fin L) : ℝ :=
  if j ≤ i then Real.exp (gsum g b i - gsum g b j) else 0

noncomputable def wAt (i : Fin L) (d : ν) : ℝ := wrow k v bt g (b + i) (stAt k v bt g b S i) d

private theorem gsum_eq (i : Fin L) : gsum g b i = ∑ j ∈ Finset.range (i + 1), g (b + j) := by
  refine (show _ = ∑ j : Fin L, if (j : ℕ) ≤ (i : ℕ) then g (b + j) else 0 from rfl).trans ?_
  rw [Fin.sum_univ_eq_sum_range (fun j => if j ≤ (i : ℕ) then g (b + j) else 0) L,
    ← Finset.sum_filter]
  congr 1
  ext x
  have := i.2
  simp only [Finset.mem_filter, Finset.mem_range]
  omega

private theorem closed (n : ℕ) (hn : n ≤ L) (a : κ) (d : ν) :
    stAt k v bt g b S n a d
      = Real.exp (∑ j ∈ Finset.range n, g (b + j)) * S a d
        + ∑ j : Fin L, if (j : ℕ) < n then
            Real.exp ((∑ x ∈ Finset.range n, g (b + x)) - gsum g b j)
              * (k (b + j) a * wAt k v bt g b S j d) else 0 := by
  induction n with
  | zero => simp [stAt]
  | succ n ih =>
    have ih := ih (by omega)
    show Real.exp (g (b + n)) * stAt k v bt g b S n a d + k (b + n) a * _ = _
    rw [ih, mul_add, Finset.mul_sum, Finset.sum_range_succ, Real.exp_add, add_assoc]
    congr 1
    · ring
    · have e : ∀ j : Fin L, (if (j : ℕ) < n + 1 then
          Real.exp ((∑ x ∈ Finset.range n, g (b + x)) + g (b + n) - gsum g b j)
            * (k (b + j) a * wAt k v bt g b S j d) else 0)
          = (if (j : ℕ) < n then Real.exp ((∑ x ∈ Finset.range n, g (b + x)) + g (b + n)
              - gsum g b j) * (k (b + j) a * wAt k v bt g b S j d) else 0)
            + (if (j : ℕ) = n then k (b + j) a * wAt k v bt g b S j d else 0) := by
        intro j
        rcases lt_trichotomy (j : ℕ) n with h | h | h
        · rw [if_pos (by omega), if_pos h, if_neg (by omega), add_zero]
        · rw [if_pos (by omega), if_neg (by omega), if_pos h, gsum_eq, h, Finset.sum_range_succ,
            sub_self, Real.exp_zero, one_mul, zero_add]
        · rw [if_neg (by omega), if_neg (by omega), if_neg (by omega), add_zero]
      rw [Finset.sum_congr rfl fun j _ => e j, Finset.sum_add_distrib]
      congr 1
      · refine Finset.sum_congr rfl fun j _ => ?_
        split_ifs
        · rw [show (∑ x ∈ Finset.range n, g (b + x)) + g (b + n) - gsum g b j
            = g (b + n) + ((∑ x ∈ Finset.range n, g (b + x)) - gsum g b j) by ring, Real.exp_add]
          ring
        · rw [mul_zero]
      · rw [Finset.sum_eq_single (⟨n, by omega⟩ : Fin L)]
        · rw [if_pos rfl]; rfl
        · intro j _ hj
          rw [if_neg fun h => hj (Fin.ext h)]
        · intro h; exact absurd (Finset.mem_univ _) h

/-- The state at a row's end, by the rows of the block up to it. -/
theorem st_row (i : Fin L) (a : κ) (d : ν) :
    next k v bt g (b + i) (stAt k v bt g b S i) a d
      = Real.exp (gsum g b i) * S a d
        + ∑ j : Fin L, dm g b i j * (k (b + j) a * wAt k v bt g b S j d) := by
  have h := closed k v bt g b S (L := L) (i + 1) i.2 a d
  rw [← gsum_eq] at h
  refine (show _ = stAt k v bt g b S (i + 1) a d from rfl).trans (h.trans ?_)
  congr 1
  refine Finset.sum_congr rfl fun j _ => ?_
  unfold dm
  by_cases hj : j ≤ i
  · rw [if_pos hj, if_pos (by have : (j : ℕ) ≤ i := hj; omega)]
  · rw [if_neg hj, if_neg (by have : ¬ (j : ℕ) ≤ i := hj; omega), zero_mul]

/-- The strictly lower part the inverse is taken of. -/
noncomputable def mlow (i j : Fin L) : ℝ :=
  if j < i then bt (b + i) * (∑ a, k (b + i) a * k (b + j) a) * dm g b i j else 0

/-- What the rows written solve. -/
theorem w_solves (i : Fin L) (d : ν) :
    wAt k v bt g b S i d + ∑ j, mlow k bt g b i j * wAt k v bt g b S j d
      = bt (b + i) * v (b + i) d
        - ∑ a, bt (b + i) * Real.exp (gsum g b i) * k (b + i) a * S a d := by
  have h := closed k v bt g b S (L := L) i i.2.le
  have e : Real.exp (g (b + i)) * Real.exp (∑ j ∈ Finset.range i, g (b + j))
      = Real.exp (gsum g b i) := by
    rw [← Real.exp_add, gsum_eq, Finset.sum_range_succ, add_comm]
  have e2 : ∀ j : Fin L, Real.exp (g (b + i))
      * Real.exp ((∑ x ∈ Finset.range i, g (b + x)) - gsum g b j)
      = Real.exp (gsum g b i - gsum g b j) := by
    intro j
    rw [← Real.exp_add, gsum_eq g b i, Finset.sum_range_succ]
    congr 1
    ring
  have hw : wAt k v bt g b S i d = bt (b + i) * (v (b + i) d
      - ∑ a, k (b + i) a * (Real.exp (gsum g b i) * S a d
        + ∑ j : Fin L, if (j : ℕ) < i then Real.exp (gsum g b i - gsum g b j)
            * (k (b + j) a * wAt k v bt g b S j d) else 0)) := by
    conv_lhs => unfold wAt wrow
    congr 2
    refine Finset.sum_congr rfl fun a _ => ?_
    rw [h a d, mul_add (Real.exp _), ← mul_assoc (Real.exp _), e, Finset.mul_sum]
    congr 2
    refine Finset.sum_congr rfl fun j _ => ?_
    split_ifs
    · rw [← mul_assoc, e2]
    · rw [mul_zero]
  have hm : ∑ j, mlow k bt g b i j * wAt k v bt g b S j d
      = bt (b + i) * ∑ a, k (b + i) a * ∑ j : Fin L, if (j : ℕ) < i then
          Real.exp (gsum g b i - gsum g b j) * (k (b + j) a * wAt k v bt g b S j d) else 0 := by
    simp only [Finset.mul_sum]
    rw [Finset.sum_comm]
    refine Finset.sum_congr rfl fun j _ => ?_
    unfold mlow
    by_cases hj : j < i
    · rw [if_pos hj]
      simp only [dm, if_pos hj.le, if_pos (show (j : ℕ) < i from hj), Finset.mul_sum,
        Finset.sum_mul]
      exact Finset.sum_congr rfl fun a _ => by ring
    · rw [if_neg hj]
      simp only [if_neg (show ¬ (j : ℕ) < i from hj), mul_zero, zero_mul, Finset.sum_const_zero]
  rw [hm, hw]
  simp only [mul_add, Finset.sum_add_distrib, mul_sub, Finset.mul_sum]
  have : ∀ a, bt (b + i) * Real.exp (gsum g b i) * k (b + i) a * S a d
      = bt (b + i) * (k (b + i) a * (Real.exp (gsum g b i) * S a d)) := fun a => by ring
  simp only [this]
  ring

/-- The rows written, by a left inverse of one plus the lower part. -/
theorem w_of_inverse (T : Matrix (Fin L) (Fin L) ℝ)
    (hT : T * (1 + Matrix.of (mlow k bt g b)) = 1) (i : Fin L) (d : ν) :
    (∑ j : Fin L, T i j * (bt (b + j) * v (b + j) d))
        - (∑ a, (∑ j : Fin L, T i j * (bt (b + j) * Real.exp (gsum g b j) * k (b + j) a)) * S a d)
      = wAt k v bt g b S i d := by
  have hs := fun j : Fin L => w_solves k v bt g b S (L := L) j d
  have e : (1 + Matrix.of (mlow k bt g b)).mulVec (fun j => wAt k v bt g b S j d)
      = fun j : Fin L => bt (b + j) * v (b + j) d
        - ∑ a, bt (b + j) * Real.exp (gsum g b j) * k (b + j) a * S a d := by
    funext j
    rw [Matrix.add_mulVec, Matrix.one_mulVec]
    exact hs j
  have e2 : (fun j => wAt k v bt g b S j d)
      = T.mulVec ((1 + Matrix.of (mlow k bt g b)).mulVec (fun j => wAt k v bt g b S j d)) := by
    rw [Matrix.mulVec_mulVec, hT, Matrix.one_mulVec]
  rw [e] at e2
  rw [show wAt k v bt g b S i d = _ from congrFun e2 i]
  simp only [Matrix.mulVec, dotProduct, mul_sub, Finset.sum_sub_distrib, Finset.mul_sum,
    Finset.sum_mul]
  congr 1
  rw [Finset.sum_comm]
  exact Finset.sum_congr rfl fun j _ => Finset.sum_congr rfl fun a _ => by ring

/-- The results of a block. -/
theorem o_block (i : Fin L) (d : ν) :
    oRow q k v bt g (b + i) (stAt k v bt g b S i) d
      = (∑ a, q (b + i) a * Real.exp (gsum g b i) * S a d)
        + ∑ j : Fin L, (∑ a, q (b + i) a * k (b + j) a) * dm g b i j * wAt k v bt g b S j d := by
  unfold oRow
  simp only [st_row, mul_add, Finset.sum_add_distrib, Finset.mul_sum, Finset.sum_mul]
  congr 1
  · exact Finset.sum_congr rfl fun a _ => by ring
  · rw [Finset.sum_comm]
    exact Finset.sum_congr rfl fun j _ => Finset.sum_congr rfl fun a _ => by ring

/-- The state after a block whose last row is `l`. -/
theorem s_block (l : Fin L) (hl : (l : ℕ) + 1 = L) (a : κ) (d : ν) :
    stAt k v bt g b S L a d
      = Real.exp (gsum g b l) * S a d
        + ∑ j : Fin L, k (b + j) a * Real.exp (gsum g b l - gsum g b j)
            * wAt k v bt g b S j d := by
  have h := st_row k v bt g b S l a d
  have e : stAt k v bt g b S L = stAt k v bt g b S (l + 1) := by rw [hl]
  rw [e]
  refine h.trans ?_
  congr 1
  refine Finset.sum_congr rfl fun j _ => ?_
  unfold dm
  rw [if_pos (show j ≤ l by have := j.2; show (j : ℕ) ≤ l; omega)]
  ring

end Rule

/-! ## The inverse by doubled blocks -/

section Inverse

abbrev Mat := Matrix (Fin 128) (Fin 128) ℝ

/-- The part of a matrix within the diagonal blocks of `n` rows. -/
noncomputable def inBlk (n : ℕ) (M : Mat) : Mat :=
  Matrix.of fun i j => if (i : ℕ) / n = j / n then M i j else 0

/-- The part of a matrix in the lower left quarters of the blocks of `2 n` rows. -/
noncomputable def offBlk (n : ℕ) (M : Mat) : Mat :=
  Matrix.of fun i j => if (i : ℕ) / (2 * n) = j / (2 * n) ∧ (i : ℕ) / n % 2 = 1 ∧
    (j : ℕ) / n % 2 = 0 then M i j else 0

/-- The inverse within blocks of eight rows, by doubled powers. -/
noncomputable def invE (N : Mat) : Mat :=
  1 + N + N * N * (1 + N) + N * N * (N * N) * (1 + N + N * N * (1 + N))

/-- One doubling of the blocks. -/
noncomputable def dbl (n : ℕ) (M P : Mat) : Mat := P - P * (offBlk n M * P)

/-- The inverse of one plus a strictly lower matrix. -/
noncomputable def triInv (M : Mat) : Mat :=
  dbl 64 M (dbl 32 M (dbl 16 M (dbl 8 M (invE (-inBlk 8 M)))))

private theorem pow_low {N : Mat} (hN : ∀ i j, N i j ≠ 0 → (i : ℕ) / 8 = j / 8 ∧ j < i) (m : ℕ) :
    ∀ i j, (N ^ m) i j ≠ 0 → (i : ℕ) / 8 = j / 8 ∧ (j : ℕ) + m ≤ i := by
  induction m with
  | zero =>
    intro i j h
    have : i = j := by
      by_contra hne
      exact h (by rw [pow_zero, Matrix.one_apply_ne hne])
    subst this
    simp
  | succ m ih =>
    intro i j h
    rw [pow_succ, Matrix.mul_apply] at h
    obtain ⟨x, -, hx⟩ := Finset.exists_ne_zero_of_sum_ne_zero h
    have h1 := ih i x (left_ne_zero_of_mul hx)
    have h2 := hN x j (right_ne_zero_of_mul hx)
    have : (j : ℕ) < x := h2.2
    omega

private theorem invE_spec {M : Mat} (hM : ∀ i j, ¬ j < i → M i j = 0) :
    (1 + inBlk 8 M) * invE (-inBlk 8 M) = 1
      ∧ ∀ i j : Fin 128, (i : ℕ) / 8 ≠ j / 8 → invE (-inBlk 8 M) i j = 0 := by
  have hN : ∀ i j, (-inBlk 8 M) i j ≠ 0 → (i : ℕ) / 8 = j / 8 ∧ j < i := by
    intro i j h
    by_contra hc
    refine h ?_
    show -(if (i : ℕ) / 8 = j / 8 then M i j else 0) = 0
    rw [not_and_or] at hc
    rcases hc with hc | hc
    · rw [if_neg hc, neg_zero]
    · rw [hM i j hc, ite_self, neg_zero]
  generalize hNN : -inBlk 8 M = N at *
  have h8 : N ^ 8 = 0 := by
    ext i j
    by_contra h
    have := pow_low hN 8 i j h
    have h1 := i.2
    omega
  have hb : inBlk 8 M = -N := by rw [← hNN, neg_neg]
  have e : invE N = 1 + N + N ^ 2 + N ^ 3 + N ^ 4 + N ^ 5 + N ^ 6 + N ^ 7 := by
    unfold invE; noncomm_ring
  constructor
  · rw [hb, e]
    have : (1 + -N) * (1 + N + N ^ 2 + N ^ 3 + N ^ 4 + N ^ 5 + N ^ 6 + N ^ 7) = 1 - N ^ 8 := by
      noncomm_ring
    rw [this, h8, sub_zero]
  · intro i j hij
    have hz : ∀ m, (N ^ m) i j = 0 := fun m => by
      by_contra h
      exact hij (pow_low hN m i j h).1
    have h0 := hz 0
    have h1 := hz 1
    rw [pow_zero] at h0
    rw [pow_one] at h1
    rw [e]
    simp only [Matrix.add_apply, h0, h1, hz, add_zero]

private theorem dbl_spec {M P : Mat} (hM : ∀ i j, ¬ j < i → M i j = 0) (n : ℕ)
    (h1 : (1 + inBlk n M) * P = 1) (h2 : ∀ i j : Fin 128, (i : ℕ) / n ≠ j / n → P i j = 0) :
    (1 + inBlk (2 * n) M) * dbl n M P = 1
      ∧ ∀ i j : Fin 128, (i : ℕ) / (2 * n) ≠ j / (2 * n) → dbl n M P i j = 0 := by
  have dd : ∀ x : ℕ, x / (2 * n) = x / n / 2 := fun x => by
    rw [Nat.mul_comm, Nat.div_div_eq_div_mul]
  have hb : inBlk (2 * n) M = inBlk n M + offBlk n M := by
    ext i j
    show (if (i : ℕ) / (2 * n) = j / (2 * n) then M i j else 0)
      = (if (i : ℕ) / n = j / n then M i j else 0)
        + (if (i : ℕ) / (2 * n) = j / (2 * n) ∧ (i : ℕ) / n % 2 = 1 ∧ (j : ℕ) / n % 2 = 0
            then M i j else 0)
    by_cases hl : j < i
    · have hle : (j : ℕ) / n ≤ i / n := Nat.div_le_div_right (le_of_lt (show (j : ℕ) < i from hl))
      rw [dd, dd]
      generalize (i : ℕ) / n = x at *
      generalize (j : ℕ) / n = y at *
      by_cases hxy : x = y
      · subst hxy
        rw [if_pos rfl, if_pos rfl, if_neg (by omega), add_zero]
      · rw [if_neg hxy, zero_add]
        by_cases hs : x / 2 = y / 2
        · rw [if_pos hs, if_pos (by omega)]
        · rw [if_neg hs, if_neg (by omega)]
    · rw [hM i j hl, ite_self, ite_self, ite_self, add_zero]
  have ho : offBlk n M * P * offBlk n M = 0 := by
    ext i j
    rw [Matrix.mul_apply]
    refine Finset.sum_eq_zero fun y _ => ?_
    rw [Matrix.mul_apply, Finset.sum_mul]
    refine Finset.sum_eq_zero fun x _ => ?_
    show (if (i : ℕ) / (2 * n) = x / (2 * n) ∧ (i : ℕ) / n % 2 = 1 ∧ (x : ℕ) / n % 2 = 0
        then M i x else 0) * P x y
      * (if (y : ℕ) / (2 * n) = j / (2 * n) ∧ (y : ℕ) / n % 2 = 1 ∧ (j : ℕ) / n % 2 = 0
        then M y j else 0) = 0
    by_cases hx : (x : ℕ) / n % 2 = 0
    · by_cases hy : (y : ℕ) / n % 2 = 1
      · rw [h2 x y (fun h => by omega), mul_zero, zero_mul]
      · rw [if_neg (c := (y : ℕ) / (2 * n) = j / (2 * n) ∧ _) (fun h => hy h.2.1), mul_zero]
    · rw [if_neg (c := (i : ℕ) / (2 * n) = x / (2 * n) ∧ _) (fun h => hx h.2.2), zero_mul, zero_mul]
  constructor
  · rw [hb]
    unfold dbl
    have : (1 + (inBlk n M + offBlk n M)) * (P - P * (offBlk n M * P))
        = (1 + inBlk n M) * P - (1 + inBlk n M) * P * (offBlk n M * P) + offBlk n M * P
          - offBlk n M * P * offBlk n M * P := by noncomm_ring
    rw [this, h1, ho, one_mul, zero_mul]
    simp
  · intro i j hij
    have hij' : (i : ℕ) / n ≠ j / n := fun h => hij (by rw [dd, dd, h])
    show P i j - (P * (offBlk n M * P)) i j = 0
    rw [h2 i j hij', Matrix.mul_apply, Finset.sum_eq_zero, sub_zero]
    intro x _
    rw [Matrix.mul_apply, Finset.mul_sum]
    refine Finset.sum_eq_zero fun y _ => ?_
    show P i x * ((if (x : ℕ) / (2 * n) = y / (2 * n) ∧ (x : ℕ) / n % 2 = 1 ∧ (y : ℕ) / n % 2 = 0
        then M x y else 0) * P y j) = 0
    by_cases hx : (i : ℕ) / n = x / n
    · by_cases hy : (y : ℕ) / n = j / n
      · rw [if_neg (fun h => hij (by rw [dd, dd, hx, ← hy, ← dd, ← dd]; exact h.1)), zero_mul,
          mul_zero]
      · rw [h2 y j hy, mul_zero, mul_zero]
    · rw [h2 i x hx, zero_mul]

/-- It is the inverse. -/
theorem triInv_spec {M : Mat} (hM : ∀ i j, ¬ j < i → M i j = 0) : triInv M * (1 + M) = 1 := by
  obtain ⟨a1, a2⟩ := invE_spec hM
  obtain ⟨b1, b2⟩ := dbl_spec hM 8 a1 a2
  obtain ⟨c1, c2⟩ := dbl_spec hM 16 b1 b2
  obtain ⟨d1, d2⟩ := dbl_spec hM 32 c1 c2
  obtain ⟨e1, -⟩ := dbl_spec hM 64 d1 d2
  have : inBlk 128 M = M := by
    ext i j
    show (if (i : ℕ) / 128 = j / 128 then M i j else 0) = M i j
    rw [if_pos (by have := i.2; have := j.2; omega)]
  rw [show 2 * 64 = 128 from rfl, this] at e1
  exact mul_eq_one_comm.mp e1

end Inverse

end Cert.Mix
-- ==== Proof.MixSpec.lean ====
/- The mixers over the reals: the functions that kernel and reference compute, and facts of the
   indices that the kernel's masks compare. -/
module

public import proofs.«01_k».proof.Proof.Lift
public import proofs.«01_k».proof.Proof.MixAlg
public import Idealize.ShloMosaic.Lib.Pointwise

@[expose] public section

noncomputable section

namespace Cert.Mix

open Idealize.ShloMosaic Cert.Lift

/-! ## Literals -/

/-- The value of the literal `1e-5`. -/
def eps5 : ℝ := 10995116 / 1099511627776
theorem eps5_pos : 0 < eps5 := by unfold eps5; norm_num
theorem eps5_f32 : Ideal.ofBits .f32 0x3727C5AC#32 = ((eps5 : ℝ) : EReal) := by
  unfold eps5
  simp [Ideal.ofBits, Ideal.ieee, -EReal.coe_mul]
  try norm_num
/-- The scale of the queries. -/
def qsc : ℝ := 11863283 / 134217728
theorem qsc_f32 : Ideal.ofBits .f32 0x3DB504F3#32 = ((qsc : ℝ) : EReal) := by
  unfold qsc
  simp [Ideal.ofBits, Ideal.ieee, -EReal.coe_mul]
  try norm_num
/-- The two literals of the tanh form of gelu. -/
def gl0 : ℝ := 12003091 / 268435456
def gl1 : ℝ := 13386282 / 16777216
theorem gl0_f32 : Ideal.ofBits .f32 0x3D372713#32 = ((gl0 : ℝ) : EReal) := by
  unfold gl0
  simp [Ideal.ofBits, Ideal.ieee, -EReal.coe_mul]
  try norm_num
theorem gl1_f32 : Ideal.ofBits .f32 0x3F4C422A#32 = ((gl1 : ℝ) : EReal) := by
  unfold gl1
  simp [Ideal.ofBits, Ideal.ieee, -EReal.coe_mul]
  try norm_num
theorem k512_f32 : Ideal.ofBits .f32 0x44000000#32 = ((512 : ℝ) : EReal) := by
  simp [Ideal.ofBits, Ideal.ieee, -EReal.coe_mul]
  try norm_num
theorem k128_f32 : Ideal.ofBits .f32 0x43000000#32 = ((128 : ℝ) : EReal) := by
  simp [Ideal.ofBits, Ideal.ieee, -EReal.coe_mul]
  try norm_num

theorem exp_real (x : ℝ) : Ideal.exp (x : EReal) = ((Real.exp x : ℝ) : EReal) := rfl
theorem tanh_real (x : ℝ) : Ideal.tanh (x : EReal) = ((Real.tanh x : ℝ) : EReal) := rfl
theorem log_real {x : ℝ} (h : 0 < x) : Ideal.log (x : EReal) = ((Real.log x : ℝ) : EReal) := by
  rw [Ideal.log_coe, if_neg (not_le.2 h)]
theorem max_real (x y : ℝ) : max (x : EReal) (y : EReal) = ((max x y : ℝ) : EReal) :=
  (EReal.coe_strictMono.monotone.map_max).symm

/-! ## The functions -/

def sgm (x : ℝ) : ℝ := 1 / (1 + Real.exp (-x))
def silu (x : ℝ) : ℝ := x * sgm x
def gelu (x : ℝ) : ℝ := 1 / 2 * x * (1 + Real.tanh (gl1 * (x + gl0 * x * x * x)))
def softplus (x : ℝ) : ℝ := max x 0 + Real.log (1 + Real.exp (-max x (-x)))

theorem one_exp (x : ℝ) : 0 < 1 + Real.exp x := by positivity

theorem sig_real (x : ℝ) : Ideal.div ((1 : ℝ) : EReal) (((1 : ℝ) : EReal) + Ideal.exp (((-x : ℝ) : EReal)))
    = ((sgm x : ℝ) : EReal) := by
  rw [exp_real, ← EReal.coe_add, div_real _ (one_exp _).ne']
  rfl

/-- The reciprocal of the root of a sum of squares, with a small number added. -/
def rn {n : ℕ} (f : Fin n → ℝ) : ℝ := (Real.sqrt (∑ x, f x * f x + eps6))⁻¹

theorem rn_real {n : ℕ} (f : Fin n → ℝ) :
    Ideal.rsqrt (((∑ x, f x * f x : ℝ) : EReal) + ((eps6 : ℝ) : EReal)) = ((rn f : ℝ) : EReal) := by
  rw [← EReal.coe_add, rsqrt_real]
  · rfl
  · have := Finset.sum_nonneg fun x (_ : x ∈ Finset.univ) => mul_self_nonneg (f x)
    have := eps6_pos
    linarith

section Heads
variable (A : ℕ → ℕ → ℝ) (h : Fin 4)
/-- Queries, keys and values of a head, of the rows `A` that leave the convolution. -/
def qs (n : ℕ) (k : Fin 128) : ℝ := A n (128 * h + k) * rn (fun x : Fin 128 => A n (128 * h + x)) * qsc
def ks (n : ℕ) (k : Fin 128) : ℝ :=
  A n (512 + 128 * h + k) * rn (fun x : Fin 128 => A n (512 + 128 * h + x))
def vs (n : ℕ) (k : Fin 128) : ℝ := A n (1024 + 128 * h + k)
end Heads

theorem all4 {p : Fin 4 → Prop} (h0 : p 0) (h1 : p 1) (h2 : p 2) (h3 : p 3) (h : Fin 4) : p h := by
  match h with
  | 0 => exact h0
  | 1 => exact h1
  | 2 => exact h2
  | 3 => exact h3

/-! ## The masks -/

section Masks
variable {α : Type}

private theorem toInt_fin (i : Fin 128) : (BitVec.ofNat 32 i).toInt = i := by
  revert i; decide +kernel

theorem sel_ge (i j : Fin 128) (x y : α) : Scalar.select (IntOp.cmpi .sge (BitVec.ofNat 32 i) (BitVec.ofNat 32 j)) x y
    = if j ≤ i then x else y := by
  have : IntOp.cmpi .sge (BitVec.ofNat 32 i) (BitVec.ofNat 32 j) = if j ≤ i then 1#1 else 0#1 := by
    revert i j; decide +kernel
  rw [this]
  split_ifs <;> rfl

theorem sel_gt (i j : Fin 128) (x y : α) : Scalar.select (IntOp.cmpi .sgt (BitVec.ofNat 32 i) (BitVec.ofNat 32 j)) x y
    = if j < i then x else y := by
  have : IntOp.cmpi .sgt (BitVec.ofNat 32 i) (BitVec.ofNat 32 j) = if j < i then 1#1 else 0#1 := by
    revert i j; decide +kernel
  rw [this]
  split_ifs <;> rfl

theorem sel_eq (i j : Fin 128) (x y : α) : Scalar.select (IntOp.cmpi .eq (BitVec.ofNat 32 i) (BitVec.ofNat 32 j)) x y
    = if i = j then x else y := by
  have : IntOp.cmpi .eq (BitVec.ofNat 32 i) (BitVec.ofNat 32 j) = if i = j then 1#1 else 0#1 := by
    revert i j; decide +kernel
  rw [this]
  split_ifs <;> rfl

/-- One row picked out by a mask and a sum. -/
theorem pick (j : Fin 128) (f : Fin 128 → EReal) :
    ∑ x : Fin 128, Scalar.select (IntOp.cmpi .eq (BitVec.ofNat 32 x) (BitVec.ofNat 32 j)) (f x) 0 = f j := by
  rw [Finset.sum_congr rfl fun x _ => sel_eq x j (f x) 0, Finset.sum_ite_eq' Finset.univ j f,
    if_pos (Finset.mem_univ _)]

/-- Same block of eight rows. -/
theorem sel_blk (i j : Fin 128) (x y : α) : Scalar.select (IntOp.cmpi .eq
      (IntOp.shrsi .vector (BitVec.ofNat 32 i) 3#32) (IntOp.shrsi .vector (BitVec.ofNat 32 j) 3#32)) x y
    = if (i : ℕ) / 8 = j / 8 then x else y := by
  have : IntOp.cmpi .eq (IntOp.shrsi .vector (BitVec.ofNat 32 i) 3#32)
      (IntOp.shrsi .vector (BitVec.ofNat 32 j) 3#32) = if (i : ℕ) / 8 = j / 8 then 1#1 else 0#1 := by
    revert i j; decide +kernel
  rw [this]
  split_ifs <;> rfl

end Masks

end Cert.Mix
-- ==== Proof.MixHead.lean ====
/- The heads of the mixer kernel: what a block makes of the rows that leave the convolution and of
   the gates. -/
module

public import proofs.«01_k».proof.Defs
public import proofs.«01_k».proof.Proof.MixSpec
public import proofs.«01_k».proof.Proof.Gen.MixKernelIdeal.Skeleton
public import Idealize.ShloMosaic.Lib.Pointwise
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

/-- The first axis of a column and of a square block. -/
theorem f0 (h : Fin 4) : h.val < 128 := by omega
theorem f4 (h : Fin 4) : 4 + h.val < 128 := by omega
theorem f8 (h : Fin 4) : h.val < 8 := by omega

abbrev io1 : IVec S128x1 32 := iota .tc S128x1 32 [0] iota_S128x1_d0_w32
abbrev io2 : IVec S128x128 32 := iota .tc S128x128 32 [0] iota_S128x128_d0_w32

section Terms
variable (a : FVec Ideal S128x1536 .f32) (be : FVec Ideal S128x128 .f32)
variable (n1 : FVec Ideal S1x128 .f32) (d1 : FVec Ideal S128x128 .f32)

abbrev cc : FVec Ideal S128x128 .f32 := k0_pay27 k0_pay22 n1 d1 (k0_pay26 (F := Ideal))
abbrev ct : FVec Ideal S128x128 .f32 := k0_pay28 k0_pay22 n1 d1 (k0_pay26 (F := Ideal))
abbrev c0 : FVec Ideal S128x1 .f32 := k0_pay35 k0_pay22 n1 d1 (k0_pay26 (F := Ideal))

def kn : Fin 4 → FVec Ideal S128x128 .f32 :=
  ![k0_pay32 a, k0_pay49 (k0_pay45 a) (k0_pay48 a), k0_pay65 a, k0_pay77 a]
def qn : Fin 4 → FVec Ideal S128x128 .f32 :=
  ![k0_pay33 a, k0_pay50 (k0_pay44 a) (k0_pay47 a), k0_pay66 a, k0_pay78 a]
def vv : Fin 4 → FVec Ideal S128x128 .f32 := ![k0_pay31 a, k0_pay46 a, k0_pay64 a, k0_pay76 a]
def bv : Fin 4 → FVec Ideal S128x1 .f32 := ![k0_pay34 be, k0_pay51 be, k0_pay67 be, k0_pay79 be]
def dmv : Fin 4 → FVec Ideal S128x128 .f32 :=
  ![k0_pay37 k0_pay29 (c0 n1 d1) (k0_pay36 k0_pay22 n1 d1 (k0_pay26 (F := Ideal))),
    k0_pay53 (cc n1 d1) (ct n1 d1) k0_pay42, k0_pay69 (cc n1 d1) (ct n1 d1),
    k0_pay81 (ct n1 d1) k0_pay74 (k0_pay80 (cc n1 d1)) io2]
def gav : Fin 4 → FVec Ideal S128x1 .f32 :=
  ![k0_pay38 (c0 n1 d1), k0_pay54 (cc n1 d1), k0_pay70 (cc n1 d1), k0_pay82 (k0_pay80 (cc n1 d1))]
def glv : Fin 4 → FVec Ideal S1x1 .f32 :=
  ![k0_pay39 (c0 n1 d1), k0_pay55 (cc n1 d1), k0_pay71 (k0_pay68 (cc n1 d1)) io1 127#32,
    k0_pay83 (k0_pay80 (cc n1 d1))]
def dev : Fin 4 → FVec Ideal S128x1 .f32 :=
  ![k0_pay40 (c0 n1 d1), k0_pay56 (cc n1 d1), k0_pay72 (k0_pay68 (cc n1 d1)) io1 127#32,
    k0_pay84 (k0_pay80 (cc n1 d1))]
def kkv : Fin 4 → FVec Ideal S128x128 .f32 :=
  ![k0_pay41 (kn a 0),
    k0_pay62 (k0_pay57 (k0_pay45 a) (k0_pay48 a)) (k0_pay58 (k0_pay45 a) (k0_pay48 a))
      (k0_pay59 (k0_pay45 a) (k0_pay48 a)) (k0_pay60 (k0_pay45 a) (k0_pay48 a))
      (k0_pay61 (k0_pay45 a) (k0_pay48 a)) (constant S128x128 .f32 0x00000000#32),
    k0_pay73 (kn a 2), k0_pay85 (kn a 3)]
/-- The strictly lower part that is inverted. -/
def mpv : Fin 4 → FVec Ideal S1x1x128x128 .f32 :=
  ![k0_pay87 (k0_pay86 k0_pay30 (bv be 0) (dmv n1 d1 0) (kkv a 0)),
    k0_pay88 k0_pay43 (bv be 1) (dmv n1 d1 1) (kkv a 1),
    k0_pay89 k0_pay63 (bv be 2) (dmv n1 d1 2) (kkv a 2),
    k0_pay90 k0_pay75 (bv be 3) (dmv n1 d1 3) (kkv a 3)]
end Terms

section Values
variable (a : FVec Ideal S128x1536 .f32) (be : FVec Ideal S128x128 .f32)
variable (n1 : FVec Ideal S1x128 .f32) (d1 : FVec Ideal S128x128 .f32)
variable (A : ℕ → ℕ → ℝ) (B G : Fin 4 → ℕ → ℝ) (b : ℕ)
variable (ha : ∀ (i : Fin 128) (c : ℕ) (hc : c < 1536), a (ix2 i ⟨c, hc⟩) = ((A (b + i) c : ℝ) : EReal))
variable (hb : ∀ (i : Fin 128) (h : Fin 4), be (ix2 i ⟨h, f0 h⟩) = ((B h (b + i) : ℝ) : EReal))
variable (hg : ∀ (i : Fin 128) (h : Fin 4),
  cc n1 d1 (ix2 i ⟨4 + h, f4 h⟩) = ((gsum (G h) b i : ℝ) : EReal))

include ha in
theorem kn_eq (h : Fin 4) (i k : Fin 128) : kn a h (ix2 i k) = ((ks A h (b + i) k : ℝ) : EReal) := by
  revert h
  refine all4 ?_ ?_ ?_ ?_
  · show k0_pay32 a (ix2 i k) = _
    pointwise [k0_pay32]
    simp only [ha, eps6_f32, ← EReal.coe_mul, coe_sum, rn_real]
    rfl
  · show k0_pay49 (k0_pay45 a) (k0_pay48 a) (ix2 i k) = _
    pointwise [k0_pay49, k0_pay45, k0_pay48]
    simp only [ha, eps6_f32, ← EReal.coe_mul, coe_sum, rn_real]
    rfl
  · show k0_pay65 a (ix2 i k) = _
    pointwise [k0_pay65]
    simp only [ha, eps6_f32, ← EReal.coe_mul, coe_sum, rn_real]
    rfl
  · show k0_pay77 a (ix2 i k) = _
    pointwise [k0_pay77]
    simp only [ha, eps6_f32, ← EReal.coe_mul, coe_sum, rn_real]
    rfl

include ha in
theorem qn_eq (h : Fin 4) (i k : Fin 128) : qn a h (ix2 i k) = ((qs A h (b + i) k : ℝ) : EReal) := by
  revert h
  refine all4 ?_ ?_ ?_ ?_
  · show k0_pay33 a (ix2 i k) = _
    pointwise [k0_pay33]
    simp only [ha, eps6_f32, qsc_f32, ← EReal.coe_mul, coe_sum, rn_real]
    simp [qs]
  · show k0_pay50 (k0_pay44 a) (k0_pay47 a) (ix2 i k) = _
    pointwise [k0_pay50, k0_pay44, k0_pay47]
    simp only [ha, eps6_f32, qsc_f32, ← EReal.coe_mul, coe_sum, rn_real]
    rfl
  · show k0_pay66 a (ix2 i k) = _
    pointwise [k0_pay66]
    simp only [ha, eps6_f32, qsc_f32, ← EReal.coe_mul, coe_sum, rn_real]
    rfl
  · show k0_pay78 a (ix2 i k) = _
    pointwise [k0_pay78]
    simp only [ha, eps6_f32, qsc_f32, ← EReal.coe_mul, coe_sum, rn_real]
    rfl

include ha in
theorem vv_eq (h : Fin 4) (i k : Fin 128) : vv a h (ix2 i k) = ((vs A h (b + i) k : ℝ) : EReal) := by
  revert h
  refine all4 ?_ ?_ ?_ ?_
  · show k0_pay31 a (ix2 i k) = _
    pointwise [k0_pay31]
    exact ha i _ _
  · show k0_pay46 a (ix2 i k) = _
    pointwise [k0_pay46]
    exact ha i _ _
  · show k0_pay64 a (ix2 i k) = _
    pointwise [k0_pay64]
    exact ha i _ _
  · show k0_pay76 a (ix2 i k) = _
    pointwise [k0_pay76]
    exact ha i _ _

include hb in
theorem bv_eq (h : Fin 4) (i : Fin 128) : bv be h (ix2 i 0) = ((B h (b + i) : ℝ) : EReal) := by
  revert h
  refine all4 ?_ ?_ ?_ ?_
  · show k0_pay34 be (ix2 i 0) = _
    pointwise [k0_pay34]
    exact hb i 0
  · show k0_pay51 be (ix2 i 0) = _
    pointwise [k0_pay51]
    exact hb i 1
  · show k0_pay67 be (ix2 i 0) = _
    pointwise [k0_pay67]
    exact hb i 2
  · show k0_pay79 be (ix2 i 0) = _
    pointwise [k0_pay79]
    exact hb i 3

theorem ct_eq (i j : Fin 128) : ct n1 d1 (ix2 i j) = cc n1 d1 (ix2 j i) := by
  unfold ct
  pointwise [k0_pay28]

/-- The decay between two rows, from the two columns the kernel reads. -/
theorem dm_of (x : Fin 128 → ℝ) (i j : Fin 128) :
    Scalar.select (IntOp.cmpi .sge (BitVec.ofNat 32 i) (BitVec.ofNat 32 j))
      (Ideal.exp (Scalar.select (IntOp.cmpi .sge (BitVec.ofNat 32 i) (BitVec.ofNat 32 j))
        (((x i : ℝ) : EReal) - ((x j : ℝ) : EReal)) 0)) 0
      = ((if j ≤ i then Real.exp (x i - x j) else 0 : ℝ) : EReal) := by
  rw [sel_ge, sel_ge]
  split_ifs
  · rw [← EReal.coe_sub, exp_real]
  · rfl

include hg in
theorem dm_eq (h : Fin 4) (i j : Fin 128) : dmv n1 d1 h (ix2 i j) = ((dm (G h) b i j : ℝ) : EReal) := by
  revert h
  refine all4 ?_ ?_ ?_ ?_
  · show k0_pay37 k0_pay29 (c0 n1 d1) (k0_pay36 k0_pay22 n1 d1 (k0_pay26 (F := Ideal))) (ix2 i j) = _
    pointwise [k0_pay37, k0_pay29, c0, k0_pay35, k0_pay36]
    refine Eq.trans ?_ (dm_of (gsum (G 0) b) i j)
    congr 3
    refine congrArg₂ (· - ·) (hg i 0) ?_
    refine (pick 4 fun x => ct n1 d1 (ix2 x j)).trans ?_
    rw [ct_eq]
    exact hg j 0
  · show k0_pay53 (cc n1 d1) (ct n1 d1) k0_pay42 (ix2 i j) = _
    pointwise [k0_pay53, k0_pay52, k0_pay42]
    refine Eq.trans ?_ (dm_of (gsum (G 1) b) i j)
    congr 3
    refine congrArg₂ (· - ·) (hg i 1) ?_
    refine (pick 5 fun x => ct n1 d1 (ix2 x j)).trans ?_
    rw [ct_eq]
    exact hg j 1
  · show k0_pay69 (cc n1 d1) (ct n1 d1) (ix2 i j) = _
    pointwise [k0_pay69, k0_pay68]
    refine Eq.trans ?_ (dm_of (gsum (G 2) b) i j)
    congr 3
    refine congrArg₂ (· - ·) (hg i 2) ?_
    refine (pick 6 fun x => ct n1 d1 (ix2 x j)).trans ?_
    rw [ct_eq]
    exact hg j 2
  · show k0_pay81 (ct n1 d1) k0_pay74 (k0_pay80 (cc n1 d1)) io2 (ix2 i j) = _
    pointwise [k0_pay81, k0_pay80, k0_pay74, io2]
    refine Eq.trans ?_ (dm_of (gsum (G 3) b) i j)
    congr 3
    refine congrArg₂ (· - ·) (hg i 3) ?_
    refine (pick 7 fun x => ct n1 d1 (ix2 x j)).trans ?_
    rw [ct_eq]
    exact hg j 3

include hg in
theorem ga_eq (h : Fin 4) (i : Fin 128) :
    gav n1 d1 h (ix2 i 0) = ((Real.exp (gsum (G h) b i) : ℝ) : EReal) := by
  revert h
  refine all4 ?_ ?_ ?_ ?_
  · show k0_pay38 (c0 n1 d1) (ix2 i 0) = _
    pointwise [k0_pay38, c0, k0_pay35]
    exact congrArg Ideal.exp (hg i 0)
  · show k0_pay54 (cc n1 d1) (ix2 i 0) = _
    pointwise [k0_pay54, k0_pay52]
    exact congrArg Ideal.exp (hg i 1)
  · show k0_pay70 (cc n1 d1) (ix2 i 0) = _
    pointwise [k0_pay70, k0_pay68]
    exact congrArg Ideal.exp (hg i 2)
  · show k0_pay82 (k0_pay80 (cc n1 d1)) (ix2 i 0) = _
    pointwise [k0_pay82, k0_pay80]
    exact congrArg Ideal.exp (hg i 3)

include hg in
theorem gl_eq (h : Fin 4) : glv n1 d1 h (ix2 0 0) = ((gsum (G h) b (127 : Fin 128) : ℝ) : EReal) := by
  revert h
  refine all4 ?_ ?_ ?_ ?_
  · show k0_pay39 (c0 n1 d1) (ix2 0 0) = _
    pointwise [k0_pay39, c0, k0_pay35]
    exact (pick 127 fun x => cc n1 d1 (ix2 x 4)).trans (hg 127 0)
  · show k0_pay55 (cc n1 d1) (ix2 0 0) = _
    pointwise [k0_pay55, k0_pay52]
    exact (pick 127 fun x => cc n1 d1 (ix2 x 5)).trans (hg 127 1)
  · show k0_pay71 (k0_pay68 (cc n1 d1)) io1 127#32 (ix2 0 0) = _
    pointwise [k0_pay71, io1, k0_pay68]
    exact (pick 127 fun x => cc n1 d1 (ix2 x 6)).trans (hg 127 2)
  · show k0_pay83 (k0_pay80 (cc n1 d1)) (ix2 0 0) = _
    pointwise [k0_pay83, k0_pay80]
    exact (pick 127 fun x => cc n1 d1 (ix2 x 7)).trans (hg 127 3)

include hg in
theorem de_eq (h : Fin 4) (i : Fin 128) : dev n1 d1 h (ix2 i 0)
    = ((Real.exp (gsum (G h) b (127 : Fin 128) - gsum (G h) b i) : ℝ) : EReal) := by
  revert h
  refine all4 ?_ ?_ ?_ ?_
  · show k0_pay40 (c0 n1 d1) (ix2 i 0) = _
    pointwise [k0_pay40, k0_pay35]
    refine (congrArg Ideal.exp (congrArg₂ (· - ·) (gl_eq n1 d1 G b hg 0) (hg i 0))).trans ?_
    rw [← EReal.coe_sub, exp_real]
  · show k0_pay56 (cc n1 d1) (ix2 i 0) = _
    pointwise [k0_pay56, k0_pay52]
    refine (congrArg Ideal.exp (congrArg₂ (· - ·) (gl_eq n1 d1 G b hg 1) (hg i 1))).trans ?_
    rw [← EReal.coe_sub, exp_real]
  · show k0_pay72 (k0_pay68 (cc n1 d1)) io1 127#32 (ix2 i 0) = _
    pointwise [k0_pay72, k0_pay68]
    refine (congrArg Ideal.exp (congrArg₂ (· - ·) (gl_eq n1 d1 G b hg 2) (hg i 2))).trans ?_
    rw [← EReal.coe_sub, exp_real]
  · show k0_pay84 (k0_pay80 (cc n1 d1)) (ix2 i 0) = _
    pointwise [k0_pay84, k0_pay80]
    refine (congrArg Ideal.exp (congrArg₂ (· - ·) (gl_eq n1 d1 G b hg 3) (hg i 3))).trans ?_
    rw [← EReal.coe_sub, exp_real]

/-- Products in three parts, of numbers that are real. -/
theorem three {n : ℕ} (f g : Fin n → ℝ) :
    ∑ x, (f x : EReal) * (g x : EReal) + (∑ x, (f x : EReal) * ((g x : EReal) - (g x : EReal))
      + ∑ x, ((f x : EReal) - (f x : EReal)) * (g x : EReal)) = ((∑ x, f x * g x : ℝ) : EReal) := by
  simp only [← EReal.coe_sub, sub_self, ← EReal.coe_mul, coe_sum, mul_zero, zero_mul,
    Finset.sum_const_zero, ← EReal.coe_add, add_zero]

include ha in
theorem kk_eq (h : Fin 4) (i j : Fin 128) : kkv a h (ix2 i j)
    = ((∑ x, ks A h (b + i) x * ks A h (b + j) x : ℝ) : EReal) := by
  revert h
  refine all4 ?_ ?_ ?_ ?_
  · show k0_pay41 (kn a 0) (ix2 i j) = _
    pointwise [k0_pay41]
    simp only [kn_eq a A b ha]
    exact three _ _
  · have hk : ∀ i k, k0_pay49 (k0_pay45 a) (k0_pay48 a) (ix2 i k) = ((ks A 1 (b + i) k : ℝ) : EReal) :=
      kn_eq a A b ha 1
    show k0_pay62 (k0_pay57 (k0_pay45 a) (k0_pay48 a)) (k0_pay58 (k0_pay45 a) (k0_pay48 a))
      (k0_pay59 (k0_pay45 a) (k0_pay48 a)) (k0_pay60 (k0_pay45 a) (k0_pay48 a))
      (k0_pay61 (k0_pay45 a) (k0_pay48 a)) (constant S128x128 .f32 0x00000000#32) (ix2 i j) = _
    pointwise [k0_pay62, k0_pay57, k0_pay58, k0_pay59, k0_pay60, k0_pay61]
    simp only [hk]
    exact three _ _
  · show k0_pay73 (kn a 2) (ix2 i j) = _
    pointwise [k0_pay73]
    simp only [kn_eq a A b ha]
    exact three _ _
  · show k0_pay85 (kn a 3) (ix2 i j) = _
    pointwise [k0_pay85]
    simp only [kn_eq a A b ha]
    exact three _ _

include ha hb hg in
theorem mp_eq (h : Fin 4) (i j : Fin 128) : mpv a be n1 d1 h (ix4 0 0 i j)
    = ((mlow (ks A h) (B h) (G h) b i j : ℝ) : EReal) := by
  have e : ∀ h, Scalar.select (IntOp.cmpi .sgt (BitVec.ofNat 32 i) (BitVec.ofNat 32 j))
      (((B h (b + i) : ℝ) : EReal) * ((∑ x, ks A h (b + i) x * ks A h (b + j) x : ℝ) : EReal)
        * ((dm (G h) b i j : ℝ) : EReal)) 0 = ((mlow (ks A h) (B h) (G h) b i j : ℝ) : EReal) := by
    intro h
    rw [sel_gt]
    unfold mlow
    split_ifs
    · simp only [← EReal.coe_mul]
    · rfl
  revert h
  refine all4 ?_ ?_ ?_ ?_
  · show k0_pay87 (k0_pay86 k0_pay30 (bv be 0) (dmv n1 d1 0) (kkv a 0)) (ix4 0 0 i j) = _
    pointwise [k0_pay87, k0_pay86, k0_pay30]
    rw [kk_eq a A b ha, bv_eq be B b hb, dm_eq n1 d1 G b hg]
    exact e 0
  · show k0_pay88 k0_pay43 (bv be 1) (dmv n1 d1 1) (kkv a 1) (ix4 0 0 i j) = _
    pointwise [k0_pay88, k0_pay43]
    rw [kk_eq a A b ha, bv_eq be B b hb, dm_eq n1 d1 G b hg]
    exact e 1
  · show k0_pay89 k0_pay63 (bv be 2) (dmv n1 d1 2) (kkv a 2) (ix4 0 0 i j) = _
    pointwise [k0_pay89, k0_pay63]
    rw [kk_eq a A b ha, bv_eq be B b hb, dm_eq n1 d1 G b hg]
    exact e 2
  · show k0_pay90 k0_pay75 (bv be 3) (dmv n1 d1 3) (kkv a 3) (ix4 0 0 i j) = _
    pointwise [k0_pay90, k0_pay75]
    rw [kk_eq a A b ha, bv_eq be B b hb, dm_eq n1 d1 G b hg]
    exact e 3

end Values

end Cert.Mix
-- ==== Proof.MixEntry.lean ====
/- The arrays the host code prepares for the mixer kernel, and the blocks its windows read. -/
module

public import proofs.«01_k».proof.Defs
public import proofs.«01_k».proof.Proof.MixSpec
public import proofs.«01_k».proof.Proof.MixHead
public import proofs.«01_k».proof.Proof.Pieces
public import proofs.«01_k».proof.Proof.Gen.MixKernelIdeal.Skeleton
public import proofs.«01_k».proof.Proof.Gen.MixKernelIdeal.Frame
public import Idealize.ShloMosaic.Lib.Pointwise
public import Idealize.ShloMosaic.Lib.Pipeline.Value
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

variable (m : (ℓ : Loc nD τ sig) → Buf (Elt Ideal) ℓ) (c : Dev nD)

set_option maxHeartbeats 4000000 in
theorem entry5 : V m c main_v5 =
    (pad S4096x3200 ![0, 0] ![0, 120] ![0, 0] (m ((c.tc : Thread nD τ).loc main_arg0)) (sitofp (F := Ideal) .f32 (constantI S_ 32 0#32)) pads_S4096x3080_S4096x3200_000_01200 h_S_ : FVec Ideal S4096x3200 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

set_option maxHeartbeats 4000000 in
theorem entry10 : V m c main_v10 =
    (pad S1x8x512 ![0, 0, 0] ![0, 6, 0] ![0, 0, 0] (broadcastInDim S1x2x512 ![1, 2] bcast_S2x512_S1x2x512_1_2 (concatenate S2x512 0
      [⟨S1x512, broadcastInDim S1x512 ![1] bcast_S512_S1x512_1 (m ((c.tc : Thread nD τ).loc main_arg1))⟩, ⟨S1x512, broadcastInDim S1x512 ![1] bcast_S512_S1x512_1 (m ((c.tc : Thread nD τ).loc main_arg2))⟩]
      concatenates_S1x512_S1x512_S2x512_d0)) (sitofp (F := Ideal) .f32 (constantI S_ 32 0#32)) pads_S1x2x512_S1x8x512_000_060_000 h_S_ : FVec Ideal S1x8x512 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

set_option maxHeartbeats 4000000 in
theorem entry11 : V m c main_v11 =
    (broadcastInDim S1x4x128x128 ![1, 2, 3] bcast_S4x128x128_S1x4x128x128_1_2_3 (m ((c.tc : Thread nD τ).loc main_arg3)) : FVec Ideal S1x4x128x128 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results

set_option maxHeartbeats 4000000 in
theorem entry2 : V m c main_v2 =
    (pad S1x128x128 ![0, 0, 0] ![0, 0, 124] ![0, 0, 0] (broadcastInDim S1x128x4 ![1, 2] bcast_S128x4_S1x128x4_1_2 (transpose S128x4 [1, 0] (m ((c.tc : Thread nD τ).loc main_arg4)) transposes_S4x128_S128x4_1_0)) (sitofp (F := Ideal) .f32 (constantI S_ 32 0#32)) pads_S1x128x4_S1x128x128_000_000_01240 h_S_ : FVec Ideal S1x128x128 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

set_option maxHeartbeats 4000000 in
theorem entry4 : V m c main_v4 =
    (pad S1x8x1536 ![0, 0, 0] ![0, 4, 0] ![0, 0, 0] (broadcastInDim S1x4x1536 ![1, 2] bcast_S4x1536_S1x4x1536_1_2 (m ((c.tc : Thread nD τ).loc main_arg5))) (sitofp (F := Ideal) .f32 (constantI S_ 32 0#32)) pads_S1x4x1536_S1x8x1536_000_040_000 h_S_ : FVec Ideal S1x8x1536 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

set_option maxHeartbeats 4000000 in
theorem entry19 : V m c main_v19 =
    (pad S1x8x128 ![0, 0, 0] ![0, 5, 0] ![0, 0, 0] (broadcastInDim S1x3x128 ![1, 2] bcast_S3x128_S1x3x128_1_2 (concatenate S3x128 0
      [⟨S1x128, broadcastInDim S1x128 ![1] bcast_S128_S1x128_1 (pad S128 ![4] ![120] ![0] (m ((c.tc : Thread nD τ).loc main_arg6)) (sitofp (F := Ideal) .f32 (constantI S_ 32 0#32)) pads_S4_S128_41200 h_S_)⟩,
       ⟨S1x128, broadcastInDim S1x128 ![1] bcast_S128_S1x128_1 (pad S128 ![4] ![120] ![0] (m ((c.tc : Thread nD τ).loc main_arg7)) (sitofp (F := Ideal) .f32 (constantI S_ 32 0#32)) pads_S4_S128_41200 h_S_)⟩,
       ⟨S1x128, broadcastInDim S1x128 ![1] bcast_S128_S1x128_1 (m ((c.tc : Thread nD τ).loc main_arg8))⟩] concatenates_S1x128_S1x128_S1x128_S3x128_d0)) (sitofp (F := Ideal) .f32 (constantI S_ 32 0#32)) pads_S1x3x128_S1x8x128_000_050_000 h_S_ : FVec Ideal S1x8x128 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

theorem idx0 : ∀ t : Fin cfg0.N, win0_0.index t = ![t.val, 0] ∧ win0_1.index t = ![0, 0, 0] ∧ win0_2.index t = ![0, 0, 0, 0] ∧ win0_3.index t = ![0, 0, 0]
    ∧ win0_4.index t = ![0, 0, 0] ∧ win0_5.index t = ![0, 0, 0] ∧ win0_6.index t = ![t.val, 0] ∧ win0_11.index t = ![t.val, 0] :=
  (by decide +kernel : ∀ t : Fin grid0.N, _)

def row (t : Fin cfg0.N) (r : Fin 128) : Fin 4096 := ⟨128 * t.val + r.val, by have h : t.val < 32 := lt_of_lt_of_eq t.isLt N_0; have := r.isLt; omega⟩

/-! A block's entry is the prepared array's. -/

theorem rd0 (t : Fin cfg0.N) (r : Fin 128) (k : Fin 3200) : (iblk m c 0 t : FVec Ideal S128x3200 .f32) (ix2 r k) = (V m c main_v5 : FVec Ideal S4096x3200 .f32) (ix2 (row t r) k) := by
  show _ = V m c (Pipeline.arrRef spec0 0) (ix2 (row t r) k)
  unfold row iblk; generalize V m c (Pipeline.arrRef spec0 0) = A
  blk_point [idx0 t]
theorem rd1 (t : Fin cfg0.N) (r : Fin 8) (k : Fin 512) : (iblk m c 1 t : FVec Ideal S1x8x512 .f32) (ix3 0 r k) = (V m c main_v10 : FVec Ideal S1x8x512 .f32) (ix3 0 r k) := by
  show _ = V m c (Pipeline.arrRef spec0 1) (ix3 0 r k)
  unfold iblk; generalize V m c (Pipeline.arrRef spec0 1) = A
  blk_point [idx0 t]
theorem rd2 (t : Fin cfg0.N) (h : Fin 4) (r : Fin 128) (k : Fin 128) : (iblk m c 2 t : FVec Ideal S1x4x128x128 .f32) (ix4 0 h r k) = (V m c main_v11 : FVec Ideal S1x4x128x128 .f32) (ix4 0 h r k) := by
  show _ = V m c (Pipeline.arrRef spec0 2) (ix4 0 h r k)
  unfold iblk; generalize V m c (Pipeline.arrRef spec0 2) = A
  blk_point [idx0 t]
theorem rd3 (t : Fin cfg0.N) (r : Fin 128) (k : Fin 128) : (iblk m c 3 t : FVec Ideal S1x128x128 .f32) (ix3 0 r k) = (V m c main_v2 : FVec Ideal S1x128x128 .f32) (ix3 0 r k) := by
  show _ = V m c (Pipeline.arrRef spec0 3) (ix3 0 r k)
  unfold iblk; generalize V m c (Pipeline.arrRef spec0 3) = A
  blk_point [idx0 t]
theorem rd4 (t : Fin cfg0.N) (r : Fin 8) (k : Fin 1536) : (iblk m c 4 t : FVec Ideal S1x8x1536 .f32) (ix3 0 r k) = (V m c main_v4 : FVec Ideal S1x8x1536 .f32) (ix3 0 r k) := by
  show _ = V m c (Pipeline.arrRef spec0 4) (ix3 0 r k)
  unfold iblk; generalize V m c (Pipeline.arrRef spec0 4) = A
  blk_point [idx0 t]
theorem rd5 (t : Fin cfg0.N) (r : Fin 8) (k : Fin 128) : (iblk m c 5 t : FVec Ideal S1x8x128 .f32) (ix3 0 r k) = (V m c main_v19 : FVec Ideal S1x8x128 .f32) (ix3 0 r k) := by
  show _ = V m c (Pipeline.arrRef spec0 5) (ix3 0 r k)
  unfold iblk; generalize V m c (Pipeline.arrRef spec0 5) = A
  blk_point [idx0 t]

/-! The arguments' values in the blocks. -/

theorem bk0_at (X0 : FVec Ideal S4096x3080 .f32) (i : Fin 4096) (k : Fin 3200) (hk : k.val < 3080) :
    (pad S4096x3200 ![0, 0] ![0, 120] ![0, 0] X0 (sitofp (F := Ideal) .f32 (constantI S_ 32 0#32)) pads_S4096x3080_S4096x3200_000_01200 h_S_ : FVec Ideal S4096x3200 .f32) (ix2 i k) = X0 (ix2 i ⟨k.val, hk⟩) := by
  pointwise; rw [dif_pos hk]
theorem bk0 (t : Fin cfg0.N) (i : Fin 128) (k : Fin 3200) (hk : k.val < 3080) : (iblk m c 0 t : FVec Ideal S128x3200 .f32) (ix2 i k) = (m ((c.tc : Thread nD τ).loc main_arg0) : FVec Ideal S4096x3080 .f32) (ix2 (row t i) ⟨k.val, hk⟩) := by
  rw [rd0, entry5]
  exact bk0_at _ (row t i) k hk
theorem bk1_0_at (X1 : FVec Ideal S512 .f32) (X2 : FVec Ideal S512 .f32) (k : Fin 512) :
    (pad S1x8x512 ![0, 0, 0] ![0, 6, 0] ![0, 0, 0] (broadcastInDim S1x2x512 ![1, 2] bcast_S2x512_S1x2x512_1_2 (concatenate S2x512 0
      [⟨S1x512, broadcastInDim S1x512 ![1] bcast_S512_S1x512_1 X1⟩, ⟨S1x512, broadcastInDim S1x512 ![1] bcast_S512_S1x512_1 X2⟩]
      concatenates_S1x512_S1x512_S2x512_d0)) (sitofp (F := Ideal) .f32 (constantI S_ 32 0#32)) pads_S1x2x512_S1x8x512_000_060_000 h_S_ : FVec Ideal S1x8x512 .f32) (ix3 0 0 k) = X1 (ix1 k) := by
  pointwise
theorem bk1_0 (t : Fin cfg0.N) (k : Fin 512) : (iblk m c 1 t : FVec Ideal S1x8x512 .f32) (ix3 0 0 k) = (m ((c.tc : Thread nD τ).loc main_arg1) : FVec Ideal S512 .f32) (ix1 k) := by
  rw [rd1, entry10]
  exact bk1_0_at _ _ k
theorem bk1_1_at (X1 : FVec Ideal S512 .f32) (X2 : FVec Ideal S512 .f32) (k : Fin 512) :
    (pad S1x8x512 ![0, 0, 0] ![0, 6, 0] ![0, 0, 0] (broadcastInDim S1x2x512 ![1, 2] bcast_S2x512_S1x2x512_1_2 (concatenate S2x512 0
      [⟨S1x512, broadcastInDim S1x512 ![1] bcast_S512_S1x512_1 X1⟩, ⟨S1x512, broadcastInDim S1x512 ![1] bcast_S512_S1x512_1 X2⟩]
      concatenates_S1x512_S1x512_S2x512_d0)) (sitofp (F := Ideal) .f32 (constantI S_ 32 0#32)) pads_S1x2x512_S1x8x512_000_060_000 h_S_ : FVec Ideal S1x8x512 .f32) (ix3 0 1 k) = X2 (ix1 k) := by
  pointwise
theorem bk1_1 (t : Fin cfg0.N) (k : Fin 512) : (iblk m c 1 t : FVec Ideal S1x8x512 .f32) (ix3 0 1 k) = (m ((c.tc : Thread nD τ).loc main_arg2) : FVec Ideal S512 .f32) (ix1 k) := by
  rw [rd1, entry10]
  exact bk1_1_at _ _ k
theorem bk2_at (X3 : FVec Ideal S4x128x128 .f32) (h : Fin 4) (i j : Fin 128) :
    (broadcastInDim S1x4x128x128 ![1, 2, 3] bcast_S4x128x128_S1x4x128x128_1_2_3 X3 : FVec Ideal S1x4x128x128 .f32) (ix4 0 h i j) = X3 (ix3 h i j) := by
  pointwise
theorem bk2 (t : Fin cfg0.N) (h : Fin 4) (i j : Fin 128) : (iblk m c 2 t : FVec Ideal S1x4x128x128 .f32) (ix4 0 h i j) = (m ((c.tc : Thread nD τ).loc main_arg3) : FVec Ideal S4x128x128 .f32) (ix3 h i j) := by
  rw [rd2, entry11]
  exact bk2_at _ h i j
theorem bk3_at (X4 : FVec Ideal S4x128 .f32) (i k : Fin 128) (hk : k.val < 4) :
    (pad S1x128x128 ![0, 0, 0] ![0, 0, 124] ![0, 0, 0] (broadcastInDim S1x128x4 ![1, 2] bcast_S128x4_S1x128x4_1_2 (transpose S128x4 [1, 0] X4 transposes_S4x128_S128x4_1_0)) (sitofp (F := Ideal) .f32 (constantI S_ 32 0#32)) pads_S1x128x4_S1x128x128_000_000_01240 h_S_ : FVec Ideal S1x128x128 .f32) (ix3 0 i k) = X4 (ix2 ⟨k.val, hk⟩ i) := by
  pointwise; rw [dif_pos hk]
theorem bk3 (t : Fin cfg0.N) (i k : Fin 128) (hk : k.val < 4) : (iblk m c 3 t : FVec Ideal S1x128x128 .f32) (ix3 0 i k) = (m ((c.tc : Thread nD τ).loc main_arg4) : FVec Ideal S4x128 .f32) (ix2 ⟨k.val, hk⟩ i) := by
  rw [rd3, entry2]
  exact bk3_at _ i k hk
theorem bk4_at (X5 : FVec Ideal S4x1536 .f32) (j : Fin 8) (hj : j.val < 4) (k : Fin 1536) :
    (pad S1x8x1536 ![0, 0, 0] ![0, 4, 0] ![0, 0, 0] (broadcastInDim S1x4x1536 ![1, 2] bcast_S4x1536_S1x4x1536_1_2 X5) (sitofp (F := Ideal) .f32 (constantI S_ 32 0#32)) pads_S1x4x1536_S1x8x1536_000_040_000 h_S_ : FVec Ideal S1x8x1536 .f32) (ix3 0 j k) = X5 (ix2 ⟨j.val, hj⟩ k) := by
  pointwise; rw [dif_pos hj]
theorem bk4 (t : Fin cfg0.N) (j : Fin 8) (hj : j.val < 4) (k : Fin 1536) : (iblk m c 4 t : FVec Ideal S1x8x1536 .f32) (ix3 0 j k) = (m ((c.tc : Thread nD τ).loc main_arg5) : FVec Ideal S4x1536 .f32) (ix2 ⟨j.val, hj⟩ k) := by
  rw [rd4, entry4]
  exact bk4_at _ j hj k
theorem bk5_0_at (X6 : FVec Ideal S4 .f32) (X7 : FVec Ideal S4 .f32) (X8 : FVec Ideal S128 .f32) (h : Fin 4) :
    (pad S1x8x128 ![0, 0, 0] ![0, 5, 0] ![0, 0, 0] (broadcastInDim S1x3x128 ![1, 2] bcast_S3x128_S1x3x128_1_2 (concatenate S3x128 0
      [⟨S1x128, broadcastInDim S1x128 ![1] bcast_S128_S1x128_1 (pad S128 ![4] ![120] ![0] X6 (sitofp (F := Ideal) .f32 (constantI S_ 32 0#32)) pads_S4_S128_41200 h_S_)⟩,
       ⟨S1x128, broadcastInDim S1x128 ![1] bcast_S128_S1x128_1 (pad S128 ![4] ![120] ![0] X7 (sitofp (F := Ideal) .f32 (constantI S_ 32 0#32)) pads_S4_S128_41200 h_S_)⟩,
       ⟨S1x128, broadcastInDim S1x128 ![1] bcast_S128_S1x128_1 X8⟩] concatenates_S1x128_S1x128_S1x128_S3x128_d0)) (sitofp (F := Ideal) .f32 (constantI S_ 32 0#32)) pads_S1x3x128_S1x8x128_000_050_000 h_S_ : FVec Ideal S1x8x128 .f32) (ix3 0 0 ⟨4 + h.val, f4 h⟩) = X6 (ix1 h) := by
  fin_cases h <;> pointwise
theorem bk5_0 (t : Fin cfg0.N) (h : Fin 4) : (iblk m c 5 t : FVec Ideal S1x8x128 .f32) (ix3 0 0 ⟨4 + h.val, f4 h⟩) = (m ((c.tc : Thread nD τ).loc main_arg6) : FVec Ideal S4 .f32) (ix1 h) := by
  rw [rd5, entry19]
  exact bk5_0_at _ _ _ h
theorem bk5_1_at (X6 : FVec Ideal S4 .f32) (X7 : FVec Ideal S4 .f32) (X8 : FVec Ideal S128 .f32) (h : Fin 4) :
    (pad S1x8x128 ![0, 0, 0] ![0, 5, 0] ![0, 0, 0] (broadcastInDim S1x3x128 ![1, 2] bcast_S3x128_S1x3x128_1_2 (concatenate S3x128 0
      [⟨S1x128, broadcastInDim S1x128 ![1] bcast_S128_S1x128_1 (pad S128 ![4] ![120] ![0] X6 (sitofp (F := Ideal) .f32 (constantI S_ 32 0#32)) pads_S4_S128_41200 h_S_)⟩,
       ⟨S1x128, broadcastInDim S1x128 ![1] bcast_S128_S1x128_1 (pad S128 ![4] ![120] ![0] X7 (sitofp (F := Ideal) .f32 (constantI S_ 32 0#32)) pads_S4_S128_41200 h_S_)⟩,
       ⟨S1x128, broadcastInDim S1x128 ![1] bcast_S128_S1x128_1 X8⟩] concatenates_S1x128_S1x128_S1x128_S3x128_d0)) (sitofp (F := Ideal) .f32 (constantI S_ 32 0#32)) pads_S1x3x128_S1x8x128_000_050_000 h_S_ : FVec Ideal S1x8x128 .f32) (ix3 0 1 ⟨4 + h.val, f4 h⟩) = X7 (ix1 h) := by
  fin_cases h <;> pointwise
theorem bk5_1 (t : Fin cfg0.N) (h : Fin 4) : (iblk m c 5 t : FVec Ideal S1x8x128 .f32) (ix3 0 1 ⟨4 + h.val, f4 h⟩) = (m ((c.tc : Thread nD τ).loc main_arg7) : FVec Ideal S4 .f32) (ix1 h) := by
  rw [rd5, entry19]
  exact bk5_1_at _ _ _ h
theorem bk5_2_at (X6 : FVec Ideal S4 .f32) (X7 : FVec Ideal S4 .f32) (X8 : FVec Ideal S128 .f32) (k : Fin 128) :
    (pad S1x8x128 ![0, 0, 0] ![0, 5, 0] ![0, 0, 0] (broadcastInDim S1x3x128 ![1, 2] bcast_S3x128_S1x3x128_1_2 (concatenate S3x128 0
      [⟨S1x128, broadcastInDim S1x128 ![1] bcast_S128_S1x128_1 (pad S128 ![4] ![120] ![0] X6 (sitofp (F := Ideal) .f32 (constantI S_ 32 0#32)) pads_S4_S128_41200 h_S_)⟩,
       ⟨S1x128, broadcastInDim S1x128 ![1] bcast_S128_S1x128_1 (pad S128 ![4] ![120] ![0] X7 (sitofp (F := Ideal) .f32 (constantI S_ 32 0#32)) pads_S4_S128_41200 h_S_)⟩,
       ⟨S1x128, broadcastInDim S1x128 ![1] bcast_S128_S1x128_1 X8⟩] concatenates_S1x128_S1x128_S1x128_S3x128_d0)) (sitofp (F := Ideal) .f32 (constantI S_ 32 0#32)) pads_S1x3x128_S1x8x128_000_050_000 h_S_ : FVec Ideal S1x8x128 .f32) (ix3 0 2 k) = X8 (ix1 k) := by
  pointwise
theorem bk5_2 (t : Fin cfg0.N) (k : Fin 128) : (iblk m c 5 t : FVec Ideal S1x8x128 .f32) (ix3 0 2 k) = (m ((c.tc : Thread nD τ).loc main_arg8) : FVec Ideal S128 .f32) (ix1 k) := by
  rw [rd5, entry19]
  exact bk5_2_at _ _ _ k

end Cert.Mix
-- ==== Proof.MixTri.lean ====
/- The inverse that the mixer kernel builds by doubling blocks of rows. -/
module

public import proofs.«01_k».proof.Defs
public import proofs.«01_k».proof.Proof.MixSpec
public import proofs.«01_k».proof.Proof.MixHead
public import proofs.«01_k».proof.Proof.Gen.MixKernelIdeal.Skeleton
public import Idealize.ShloMosaic.Lib.Pointwise
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

abbrev iA : IVec S4x128x128 32 := iota .tc S4x128x128 32 [1] iota_S4x128x128_d1_w32
abbrev iB : IVec S4x128x128 32 := iota .tc S4x128x128 32 [2] iota_S4x128x128_d2_w32

section Terms
variable (x : FVec Ideal S4x128x128 .f32)
def t541 : FVec Ideal S4x128x128 .f32 := k0_pay95 x iA iB (k0_pay92 (F := Ideal)) 3#32
def t550 : FVec Ideal S4x128x128 .f32 := k0_pay98 x iA iB 3#32
def t551 : FVec Ideal S4x128x128 .f32 := k0_pay99 x iA iB 3#32
def t552 : FVec Ideal S4x128x128 .f32 := k0_pay100 x iA iB 3#32
def t568 : FVec Ideal S4x128x128 .f32 := k0_pay101 (t541 x) (t550 x) (t551 x) (t552 x)
def t594 : FVec Ideal S4x128x128 .bf16 := k0_pay105 (t541 x) (t550 x) (t551 x) (t552 x)
def t597 : FVec Ideal S4x128x128 .bf16 := k0_pay106 (t541 x) (t550 x) (t551 x) (t552 x)
def t598 : FVec Ideal S4x128x128 .f32 := k0_pay107 x iA iB (t541 x) (t550 x) (t551 x) (t552 x)
abbrev o3 : FVec Ideal S4x128x128 .f32 := constant S4x128x128 .f32 0x00000000#32
def t616 : FVec Ideal S4x128x128 .f32 :=
  k0_pay108 (t568 x) (k0_pay103 x iA iB) (k0_pay104 x iA iB) (t594 x) (t597 x) (t598 x) o3
def t642 : FVec Ideal S4x128x128 .bf16 :=
  k0_pay112 (t568 x) (k0_pay103 x iA iB) (k0_pay104 x iA iB) (t594 x) (t597 x) (t598 x) o3
def t645 : FVec Ideal S4x128x128 .bf16 :=
  k0_pay113 (t568 x) (k0_pay103 x iA iB) (k0_pay104 x iA iB) (t594 x) (t597 x) (t598 x) o3
def t664 : FVec Ideal S4x128x128 .f32 :=
  k0_pay114 (t616 x) (k0_pay110 x iA iB) (k0_pay111 x iA iB) (t642 x) (t645 x)
def t690 : FVec Ideal S4x128x128 .bf16 :=
  k0_pay118 (t616 x) (k0_pay110 x iA iB) (k0_pay111 x iA iB) (t642 x) (t645 x)
def t712 : FVec Ideal S4x128x128 .f32 :=
  k0_pay119 (t664 x) (k0_pay116 x iA iB) (k0_pay117 x iA iB) (t690 x)
def triV : FVec Ideal S1x4x128x128 .f32 :=
  k0_pay123 (t712 x) (k0_pay120 x iA iB) (k0_pay121 x iA iB) (k0_pay122 x iA iB)
end Terms

/-- A stack of four matrices with these real entries. -/
def IsM {f : FTy} (x : FVec Ideal S4x128x128 f) (M : Fin 4 → Mat) : Prop :=
  ∀ h i j, x (ix3 h i j) = ((M h i j : ℝ) : EReal)

theorem IsM.at {f : FTy} {x : FVec Ideal S4x128x128 f} {M : Fin 4 → Mat} (H : IsM x M)
    (h : Fin 4) (i j : Fin 128) : x (ix3 h i j) = ((M h i j : ℝ) : EReal) := H h i j

theorem dbl_apply (n : ℕ) (M P : Mat) (i j : Fin 128) :
    dbl n M P i j = P i j - ∑ x, P i x * ∑ y, offBlk n M x y * P y j := by
  unfold dbl
  rw [Matrix.sub_apply, Matrix.mul_apply]
  simp only [Matrix.mul_apply]

section Masks
variable {α : Type}

theorem sel_off8 (i j : Fin 128) (x y : α) : Scalar.select (IntOp.andi
      (IntOp.cmpi .eq (IntOp.shrsi .vector (BitVec.ofNat 32 i) 4#32)
        (IntOp.shrsi .vector (BitVec.ofNat 32 j) 4#32))
      (IntOp.andi (IntOp.cmpi .eq (IntOp.andi (IntOp.shrsi .vector (BitVec.ofNat 32 i) 3#32) 1#32) 1#32)
        (IntOp.cmpi .eq (IntOp.andi (IntOp.shrsi .vector (BitVec.ofNat 32 j) 3#32) 1#32) 0#32))) x y
    = if (i : ℕ) / (2 * 8) = j / (2 * 8) ∧ (i : ℕ) / 8 % 2 = 1 ∧ (j : ℕ) / 8 % 2 = 0 then x else y := by
  have : IntOp.andi
      (IntOp.cmpi .eq (IntOp.shrsi .vector (BitVec.ofNat 32 i) 4#32)
        (IntOp.shrsi .vector (BitVec.ofNat 32 j) 4#32))
      (IntOp.andi (IntOp.cmpi .eq (IntOp.andi (IntOp.shrsi .vector (BitVec.ofNat 32 i) 3#32) 1#32) 1#32)
        (IntOp.cmpi .eq (IntOp.andi (IntOp.shrsi .vector (BitVec.ofNat 32 j) 3#32) 1#32) 0#32))
      = if (i : ℕ) / (2 * 8) = j / (2 * 8) ∧ (i : ℕ) / 8 % 2 = 1 ∧ (j : ℕ) / 8 % 2 = 0 then 1#1
        else 0#1 := by
    revert i j; decide +kernel
  rw [this]
  split_ifs <;> rfl

theorem sel_off16 (i j : Fin 128) (x y : α) : Scalar.select (IntOp.andi
      (IntOp.cmpi .eq (IntOp.shrsi .vector (BitVec.ofNat 32 i) 5#32)
        (IntOp.shrsi .vector (BitVec.ofNat 32 j) 5#32))
      (IntOp.andi (IntOp.cmpi .eq (IntOp.andi (IntOp.shrsi .vector (BitVec.ofNat 32 i) 4#32) 1#32) 1#32)
        (IntOp.cmpi .eq (IntOp.andi (IntOp.shrsi .vector (BitVec.ofNat 32 j) 4#32) 1#32) 0#32))) x y
    = if (i : ℕ) / (2 * 16) = j / (2 * 16) ∧ (i : ℕ) / 16 % 2 = 1 ∧ (j : ℕ) / 16 % 2 = 0 then x else y := by
  have : IntOp.andi
      (IntOp.cmpi .eq (IntOp.shrsi .vector (BitVec.ofNat 32 i) 5#32)
        (IntOp.shrsi .vector (BitVec.ofNat 32 j) 5#32))
      (IntOp.andi (IntOp.cmpi .eq (IntOp.andi (IntOp.shrsi .vector (BitVec.ofNat 32 i) 4#32) 1#32) 1#32)
        (IntOp.cmpi .eq (IntOp.andi (IntOp.shrsi .vector (BitVec.ofNat 32 j) 4#32) 1#32) 0#32))
      = if (i : ℕ) / (2 * 16) = j / (2 * 16) ∧ (i : ℕ) / 16 % 2 = 1 ∧ (j : ℕ) / 16 % 2 = 0 then 1#1
        else 0#1 := by
    revert i j; decide +kernel
  rw [this]
  split_ifs <;> rfl

theorem sel_off32 (i j : Fin 128) (x y : α) : Scalar.select (IntOp.andi
      (IntOp.cmpi .eq (IntOp.shrsi .vector (BitVec.ofNat 32 i) 6#32)
        (IntOp.shrsi .vector (BitVec.ofNat 32 j) 6#32))
      (IntOp.andi (IntOp.cmpi .eq (IntOp.andi (IntOp.shrsi .vector (BitVec.ofNat 32 i) 5#32) 1#32) 1#32)
        (IntOp.cmpi .eq (IntOp.andi (IntOp.shrsi .vector (BitVec.ofNat 32 j) 5#32) 1#32) 0#32))) x y
    = if (i : ℕ) / (2 * 32) = j / (2 * 32) ∧ (i : ℕ) / 32 % 2 = 1 ∧ (j : ℕ) / 32 % 2 = 0 then x else y := by
  have : IntOp.andi
      (IntOp.cmpi .eq (IntOp.shrsi .vector (BitVec.ofNat 32 i) 6#32)
        (IntOp.shrsi .vector (BitVec.ofNat 32 j) 6#32))
      (IntOp.andi (IntOp.cmpi .eq (IntOp.andi (IntOp.shrsi .vector (BitVec.ofNat 32 i) 5#32) 1#32) 1#32)
        (IntOp.cmpi .eq (IntOp.andi (IntOp.shrsi .vector (BitVec.ofNat 32 j) 5#32) 1#32) 0#32))
      = if (i : ℕ) / (2 * 32) = j / (2 * 32) ∧ (i : ℕ) / 32 % 2 = 1 ∧ (j : ℕ) / 32 % 2 = 0 then 1#1
        else 0#1 := by
    revert i j; decide +kernel
  rw [this]
  split_ifs <;> rfl

theorem sel_off64 (i j : Fin 128) (x y : α) : Scalar.select (IntOp.andi
      (IntOp.cmpi .eq (IntOp.shrsi .vector (BitVec.ofNat 32 i) 7#32)
        (IntOp.shrsi .vector (BitVec.ofNat 32 j) 7#32))
      (IntOp.andi (IntOp.cmpi .eq (IntOp.andi (IntOp.shrsi .vector (BitVec.ofNat 32 i) 6#32) 1#32) 1#32)
        (IntOp.cmpi .eq (IntOp.andi (IntOp.shrsi .vector (BitVec.ofNat 32 j) 6#32) 1#32) 0#32))) x y
    = if (i : ℕ) / (2 * 64) = j / (2 * 64) ∧ (i : ℕ) / 64 % 2 = 1 ∧ (j : ℕ) / 64 % 2 = 0 then x else y := by
  have : IntOp.andi
      (IntOp.cmpi .eq (IntOp.shrsi .vector (BitVec.ofNat 32 i) 7#32)
        (IntOp.shrsi .vector (BitVec.ofNat 32 j) 7#32))
      (IntOp.andi (IntOp.cmpi .eq (IntOp.andi (IntOp.shrsi .vector (BitVec.ofNat 32 i) 6#32) 1#32) 1#32)
        (IntOp.cmpi .eq (IntOp.andi (IntOp.shrsi .vector (BitVec.ofNat 32 j) 6#32) 1#32) 0#32))
      = if (i : ℕ) / (2 * 64) = j / (2 * 64) ∧ (i : ℕ) / 64 % 2 = 1 ∧ (j : ℕ) / 64 % 2 = 0 then 1#1
        else 0#1 := by
    revert i j; decide +kernel
  rw [this]
  split_ifs <;> rfl

end Masks

/-- Products in three parts, one of them by a difference that is zero. -/
theorem three' {n : ℕ} (f g : Fin n → ℝ) (d e : Fin n → ℝ) (hd : ∀ x, d x = 0) (he : ∀ x, e x = 0) :
    ∑ x, (f x : EReal) * (g x : EReal) + (∑ x, (f x : EReal) * (e x : EReal)
      + ∑ x, (d x : EReal) * (g x : EReal)) = ((∑ x, f x * g x : ℝ) : EReal) := by
  simp only [hd, he, ← EReal.coe_mul, coe_sum, mul_zero, zero_mul, Finset.sum_const_zero,
    ← EReal.coe_add, add_zero]

section Values
variable (x : FVec Ideal S4x128x128 .f32) (M : Fin 4 → Mat) (hx : IsM x M)

include hx in
theorem neg8 : IsM (k0_pay93 x iA iB 3#32) fun h => -inBlk 8 (M h) := by
  intro h i j
  pointwise [k0_pay93]
  rw [sel_blk, hx]
  show _ = ((-(if (i : ℕ) / 8 = j / 8 then M h i j else 0) : ℝ) : EReal)
  split_ifs
  · rw [zero_sub, EReal.coe_neg]
  · simp

include hx in
theorem off8 : IsM (k0_pay102 x iA iB) fun h => offBlk 8 (M h) := by
  intro h i j
  pointwise [k0_pay102]
  rw [sel_off8, hx]
  show _ = ((if (i : ℕ) / (2 * 8) = j / (2 * 8) ∧ (i : ℕ) / 8 % 2 = 1 ∧ (j : ℕ) / 8 % 2 = 0 then M h i j
    else 0 : ℝ) : EReal)
  split_ifs <;> rfl

include hx in
theorem off16 : IsM (k0_pay109 x iA iB) fun h => offBlk 16 (M h) := by
  intro h i j
  pointwise [k0_pay109]
  rw [sel_off16, hx]
  show _ = ((if (i : ℕ) / (2 * 16) = j / (2 * 16) ∧ (i : ℕ) / 16 % 2 = 1 ∧ (j : ℕ) / 16 % 2 = 0 then M h i j
    else 0 : ℝ) : EReal)
  split_ifs <;> rfl

include hx in
theorem off32 : IsM (k0_pay115 x iA iB) fun h => offBlk 32 (M h) := by
  intro h i j
  pointwise [k0_pay115]
  rw [sel_off32, hx]
  show _ = ((if (i : ℕ) / (2 * 32) = j / (2 * 32) ∧ (i : ℕ) / 32 % 2 = 1 ∧ (j : ℕ) / 32 % 2 = 0 then M h i j
    else 0 : ℝ) : EReal)
  split_ifs <;> rfl

include hx in
theorem off64 : IsM (k0_pay120 x iA iB) fun h => offBlk 64 (M h) := by
  intro h i j
  pointwise [k0_pay120]
  rw [sel_off64, hx]
  show _ = ((if (i : ℕ) / (2 * 64) = j / (2 * 64) ∧ (i : ℕ) / 64 % 2 = 1 ∧ (j : ℕ) / 64 % 2 = 0 then M h i j
    else 0 : ℝ) : EReal)
  split_ifs <;> rfl

theorem unit_eq : IsM (k0_pay92 (F := Ideal)) fun _ => 1 := by
  intro h i j
  pointwise [k0_pay92]
  rw [sel_eq, Matrix.one_apply]
  split_ifs
  · exact EReal.coe_one.symm
  · rfl

include hx in
theorem sq8 : IsM (k0_pay94 x iA iB 3#32) fun h => -inBlk 8 (M h) * -inBlk 8 (M h) := by
  intro h i j
  pointwise [k0_pay94]
  have := neg8 x M hx
  simp only [this.at]
  rw [Matrix.mul_apply]
  exact three _ _

include hx in
theorem t541_eq : IsM (t541 x) fun h => 1 + -inBlk 8 (M h)
    + -inBlk 8 (M h) * -inBlk 8 (M h) * (1 + -inBlk 8 (M h)) := by
  intro h i j
  have h1 := neg8 x M hx
  have h2 := sq8 x M hx
  have h3 := unit_eq
  unfold t541
  pointwise [k0_pay95]
  simp only [h1.at, h2.at, h3.at, ← EReal.coe_add, three]
  simp only [Matrix.add_apply, Matrix.mul_apply (M := _ * _)]

include hx in
theorem t568_eq : IsM (t568 x) fun h => invE (-inBlk 8 (M h)) := by
  intro h i j
  have h1 := t541_eq x M hx
  have h2 := sq8 x M hx
  have h3 : ∀ h i j, t550 x (ix3 h i j) + (t551 x (ix3 h i j) + t552 x (ix3 h i j))
      = (((-inBlk 8 (M h) * -inBlk 8 (M h) * (-inBlk 8 (M h) * -inBlk 8 (M h))) i j : ℝ) : EReal) := by
    intro h i j
    unfold t550 t551 t552
    pointwise [k0_pay98, k0_pay99, k0_pay100, k0_pay96, k0_pay97]
    simp only [h2.at]
    rw [Matrix.mul_apply]
    exact three _ _
  unfold t568
  pointwise [k0_pay101]
  simp only [h3, h1.at, three, ← EReal.coe_add]
  rfl

include hx in
theorem t616_eq : IsM (t616 x) fun h => dbl 8 (M h) (invE (-inBlk 8 (M h))) := by
  intro h i j
  have h1 := t568_eq x M hx
  have h2 := off8 x M hx
  have h3 : ∀ h i j, k0_pay101 (t541 x) (t550 x) (t551 x) (t552 x) (ix3 h i j) = _ := h1
  unfold t616 t594 t597 t598
  pointwise [k0_pay108, k0_pay103, k0_pay104, k0_pay105, k0_pay106, k0_pay107]
  simp only [h1.at, h2.at, h3]
  simp only [← EReal.coe_sub, sub_self, ← EReal.coe_mul, coe_sum, mul_zero, zero_mul,
    Finset.sum_const_zero, ← EReal.coe_add, add_zero]
  rw [dbl_apply 8]

include hx in
theorem t664_eq : IsM (t664 x) fun h => dbl 16 (M h) (dbl 8 (M h) (invE (-inBlk 8 (M h)))) := by
  intro h i j
  have h1 := t616_eq x M hx
  have h2 := off16 x M hx
  have h3 : ∀ h i j, k0_pay108 (t568 x) (k0_pay103 x iA iB) (k0_pay104 x iA iB) (t594 x) (t597 x)
    (t598 x) o3 (ix3 h i j) = _ := h1
  unfold t664 t642 t645
  pointwise [k0_pay114, k0_pay110, k0_pay111, k0_pay112, k0_pay113]
  simp only [h1.at, h2.at, h3]
  simp only [← EReal.coe_sub, sub_self, ← EReal.coe_mul, coe_sum, mul_zero, zero_mul,
    Finset.sum_const_zero, ← EReal.coe_add, add_zero]
  rw [dbl_apply 16]

include hx in
theorem t712_eq : IsM (t712 x) fun h =>
    dbl 32 (M h) (dbl 16 (M h) (dbl 8 (M h) (invE (-inBlk 8 (M h))))) := by
  intro h i j
  have h1 := t664_eq x M hx
  have h2 := off32 x M hx
  have h3 : ∀ h i j, k0_pay114 (t616 x) (k0_pay110 x iA iB) (k0_pay111 x iA iB) (t642 x) (t645 x)
    (ix3 h i j) = _ := h1
  unfold t712 t690
  pointwise [k0_pay119, k0_pay116, k0_pay117, k0_pay118]
  simp only [h1.at, h2.at, h3]
  simp only [← EReal.coe_sub, sub_self, ← EReal.coe_mul, coe_sum, mul_zero, zero_mul,
    Finset.sum_const_zero, ← EReal.coe_add, add_zero]
  rw [dbl_apply 32]

include hx in
/-- The kernel's inverse of one plus the strictly lower part, for each head. -/
theorem triV_eq (h : Fin 4) (i j : Fin 128) :
    triV x (ix4 0 h i j) = ((triInv (M h) i j : ℝ) : EReal) := by
  have h1 := t712_eq x M hx
  have h2 := off64 x M hx
  show _ = ((dbl 64 (M h) (dbl 32 (M h) (dbl 16 (M h) (dbl 8 (M h) (invE (-inBlk 8 (M h)))))) i j : ℝ) : EReal)
  unfold triV
  pointwise [k0_pay123, k0_pay121, k0_pay122]
  simp only [h1.at, h2.at]
  simp only [← EReal.coe_sub, sub_self, ← EReal.coe_mul, coe_sum, mul_zero, zero_mul,
    Finset.sum_const_zero, ← EReal.coe_add, add_zero]
  rw [dbl_apply 64]

end Values

end Cert.Mix
-- ==== Proof.MixOut.lean ====
/- What a block of the mixer kernel writes: the rows of the state rule by blocks, and the state it
   hands on. -/
module

public import proofs.«01_k».proof.Defs
public import proofs.«01_k».proof.Proof.MixSpec
public import proofs.«01_k».proof.Proof.MixTri
public import proofs.«01_k».proof.Proof.Gen.MixKernelIdeal.Skeleton
public import Idealize.ShloMosaic.Lib.Pointwise
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

section Terms
variable (K Q V D : Fin 4 → FVec Ideal S128x128 .f32) (B X E : Fin 4 → FVec Ideal S128x1 .f32)
variable (L : Fin 4 → FVec Ideal S1x1 .f32)
variable (t : FVec Ideal S1x4x128x128 .f32) (st : FVec Ideal S4x128x128 .f32)

def b780 : FVec Ideal S4x128x128 .bf16 :=
  k0_pay126 (V 0) (B 0) (V 1) (B 1) (V 2) (B 2) (V 3) (B 3)
def b809 : FVec Ideal S4x128x128 .f32 :=
  k0_pay130 (K 0) (B 0) (X 0) (K 1) (B 1) (X 1) (K 2) (B 2) (X 2) (K 3) (B 3) (X 3) (k0_pay124 t)
    (k0_pay125 t) (b780 V B) st
def b850 : FVec Ideal S4x128x128 .f32 :=
  k0_pay135 (Q 0) (X 0) (Q 1) (X 1) (Q 2) (X 2) (Q 3) (X 3) st (b809 K V B X t st)
    (k0_pay131 (K 0) (Q 0) (D 0)) (k0_pay132 (K 1) (Q 1) (D 1)) (k0_pay133 (K 2) (Q 2) (D 2))
    (k0_pay134 (K 3) (Q 3) (D 3))
def b878 : FVec Ideal S1x128x128 .f32 :=
  k0_pay138 (Q 0) (X 0) (Q 1) (X 1) (Q 2) (X 2) (Q 3) (X 3) st (b809 K V B X t st)
    (k0_pay131 (K 0) (Q 0) (D 0)) (k0_pay132 (K 1) (Q 1) (D 1)) (k0_pay133 (K 2) (Q 2) (D 2))
    (k0_pay134 (K 3) (Q 3) (D 3))
def b866 : FVec Ideal S4x128x128 .f32 :=
  k0_pay136 (K 0) (E 0) (K 1) (E 1) (K 2) (E 2) (K 3) (E 3) (b809 K V B X t st)
/-- The rows of the four heads. -/
def oV : Fin 4 → FVec Ideal S128x128 .f32 :=
  ![k0_pay139 (b878 K Q V D B X t st), k0_pay146 (b850 K Q V D B X t st),
    k0_pay154 (b850 K Q V D B X t st), k0_pay160 (b850 K Q V D B X t st)]
/-- The state after the block. -/
def sV : Fin 4 → FVec Ideal S1x128x128 .f32 :=
  ![k0_pay137 (K 0) (L 0) (E 0) (K 1) (E 1) (K 2) (E 2) (K 3) (E 3) st (b809 K V B X t st),
    k0_pay145 (b866 K V B X E t st) (k0_pay143 (L 1)) (k0_pay144 st),
    k0_pay153 (L 2) st (b866 K V B X E t st), k0_pay159 (L 3) st (b866 K V B X E t st)]
/-- The rows of the four heads, normalised and gated. -/
def zV (n : FVec Ideal S1x1x128 .f32) (z : Fin 4 → FVec Ideal S128x128 .f32) :
    Fin 4 → FVec Ideal S128x128 .bf16 :=
  ![k0_pay142 (b878 K Q V D B X t st) n (z 0),
    k0_pay152 (k0_pay149 (b850 K Q V D B X t st) n) (k0_pay150 (z 1)) (k0_pay151 (z 1)) (Scalar.ofBits .f32 0x3F800000#32),
    k0_pay158 (k0_pay157 (b850 K Q V D B X t st)) n (z 2),
    k0_pay164 (k0_pay160 (b850 K Q V D B X t st)) (k0_pay163 (b850 K Q V D B X t st)) n (z 3)]
end Terms

/-- A row, normalised, scaled and gated. -/
def zRow (o : Fin 128 → ℝ) (g z : ℝ) (d : Fin 128) : ℝ :=
  o d * (Real.sqrt ((∑ x, o x * o x) / 128 + eps6))⁻¹ * g * silu z

section Values
variable (K Q V D : Fin 4 → FVec Ideal S128x128 .f32) (B X E : Fin 4 → FVec Ideal S128x1 .f32)
variable (L : Fin 4 → FVec Ideal S1x1 .f32)
variable (t : FVec Ideal S1x4x128x128 .f32) (st : FVec Ideal S4x128x128 .f32)
variable (q k v : Fin 4 → ℕ → Fin 128 → ℝ) (bt g : Fin 4 → ℕ → ℝ) (b : ℕ)
variable (S : Fin 4 → Fin 128 → Fin 128 → ℝ)
variable (hK : ∀ h (i x : Fin 128), K h (ix2 i x) = ((k h (b + i) x : ℝ) : EReal))
variable (hQ : ∀ h (i x : Fin 128), Q h (ix2 i x) = ((q h (b + i) x : ℝ) : EReal))
variable (hV : ∀ h (i x : Fin 128), V h (ix2 i x) = ((v h (b + i) x : ℝ) : EReal))
variable (hD : ∀ h (i j : Fin 128), D h (ix2 i j) = ((dm (g h) b i j : ℝ) : EReal))
variable (hB : ∀ h (i : Fin 128), B h (ix2 i 0) = ((bt h (b + i) : ℝ) : EReal))
variable (hX : ∀ h (i : Fin 128), X h (ix2 i 0) = ((Real.exp (gsum (g h) b i) : ℝ) : EReal))
variable (hE : ∀ h (i : Fin 128), E h (ix2 i 0)
  = ((Real.exp (gsum (g h) b (127 : Fin 128) - gsum (g h) b i) : ℝ) : EReal))
variable (hL : ∀ h, L h (ix2 0 0) = ((gsum (g h) b (127 : Fin 128) : ℝ) : EReal))
variable (ht : ∀ h (i j : Fin 128), t (ix4 0 h i j)
  = ((triInv (Matrix.of (mlow (k h) (bt h) (g h) b)) i j : ℝ) : EReal))
variable (hS : ∀ h (a d : Fin 128), st (ix3 h a d) = ((S h a d : ℝ) : EReal))

include hV hB in
theorem b780_eq (h : Fin 4) (j d : Fin 128) :
    b780 V B (ix3 h j d) = ((bt h (b + j) * v h (b + j) d : ℝ) : EReal) := by
  revert h
  refine all4 ?_ ?_ ?_ ?_ <;>
  · unfold b780
    pointwise [k0_pay126]
    rw [hV, hB, ← EReal.coe_mul]

include hK hV hB hX ht hS in
theorem b809_eq (h : Fin 4) (i d : Fin 128) : b809 K V B X t st (ix3 h i d)
    = ((wAt (k h) (v h) (bt h) (g h) b (S h) i d : ℝ) : EReal) := by
  have hT : triInv (Matrix.of (mlow (k h) (bt h) (g h) b)) * (1 + Matrix.of (mlow (k h) (bt h) (g h) b)) = 1 :=
    triInv_spec fun i j hij => if_neg hij
  rw [← w_of_inverse (k h) (v h) (bt h) (g h) b (S h) _ hT i d]
  have hu : ∀ h, (k0_pay127 (k0_pay125 t) (b780 V B)) (ix3 h i d)
      = ((∑ j, triInv (Matrix.of (mlow (k h) (bt h) (g h) b)) i j * (bt h (b + j) * v h (b + j) d) : ℝ) : EReal) := by
    intro h
    pointwise [k0_pay127, k0_pay125, k0_pay124]
    simp only [ht, b780_eq V B v bt b hV hB, ← EReal.coe_mul, coe_sum]
  have hw : ∀ h a, (k0_pay128 (K 0) (B 0) (X 0) (K 1) (B 1) (X 1) (K 2) (B 2) (X 2) (K 3) (B 3) (X 3) (k0_pay124 t)) (ix3 h i a)
      = ((∑ j, triInv (Matrix.of (mlow (k h) (bt h) (g h) b)) i j * (bt h (b + j) * Real.exp (gsum (g h) b j)
          * k h (b + j) a) : ℝ) : EReal) := by
    intro h a
    revert h
    refine all4 ?_ ?_ ?_ ?_ <;>
    · pointwise [k0_pay128, k0_pay124]
      simp only [ht, hK, hB, hX, ← EReal.coe_mul, coe_sum]
  unfold b809
  pointwise [k0_pay130]
  simp only [hu, hw, hS, ← EReal.coe_mul, coe_sum, ← EReal.coe_sub]

include hK hQ hV hD hB hX ht hS in
theorem b850_eq (h : Fin 4) (i d : Fin 128) : b850 K Q V D B X t st (ix3 h i d)
    = ((oRow (q h) (k h) (v h) (bt h) (g h) (b + i) (stAt (k h) (v h) (bt h) (g h) b (S h) i) d : ℝ) : EReal) := by
  have hw := b809_eq K V B X t st k v bt g b S hK hV hB hX ht hS
  rw [o_block]
  revert h
  refine all4 ?_ ?_ ?_ ?_ <;>
  · unfold b850
    pointwise [k0_pay135, k0_pay131, k0_pay132, k0_pay133, k0_pay134]
    simp only [hw, hK, hQ, hX, hD, hS, ← EReal.coe_mul, coe_sum, ← EReal.coe_add]

include hK hQ hV hD hB hX ht hS in
theorem oV_eq (h : Fin 4) (i d : Fin 128) : oV K Q V D B X t st h (ix2 i d)
    = ((oRow (q h) (k h) (v h) (bt h) (g h) (b + i) (stAt (k h) (v h) (bt h) (g h) b (S h) i) d : ℝ) : EReal) := by
  have ho := b850_eq K Q V D B X t st q k v bt g b S hK hQ hV hD hB hX ht hS
  revert h
  refine all4 ?_ ?_ ?_ ?_
  · refine Eq.trans ?_ (ho 0 i d)
    show k0_pay139 (b878 K Q V D B X t st) (ix2 i d) = _
    unfold b878
    pointwise [k0_pay139, k0_pay138]
    rfl
  · refine Eq.trans ?_ (ho 1 i d)
    show k0_pay146 (b850 K Q V D B X t st) (ix2 i d) = _
    pointwise [k0_pay146]
  · refine Eq.trans ?_ (ho 2 i d)
    show k0_pay154 (b850 K Q V D B X t st) (ix2 i d) = _
    pointwise [k0_pay154]
  · refine Eq.trans ?_ (ho 3 i d)
    show k0_pay160 (b850 K Q V D B X t st) (ix2 i d) = _
    pointwise [k0_pay160]

include hK hV hB hX hE hL ht hS in
theorem sV_eq (h : Fin 4) (a d : Fin 128) : sV K V B X E L t st h (ix3 0 a d)
    = ((stAt (k h) (v h) (bt h) (g h) b (S h) 128 a d : ℝ) : EReal) := by
  have hw := b809_eq K V B X t st k v bt g b S hK hV hB hX ht hS
  have h866 : ∀ h, b866 K V B X E t st (ix3 h a d) = ((∑ j : Fin 128, k h (b + j) a * Real.exp (gsum (g h) b (127 : Fin 128)
      - gsum (g h) b j) * wAt (k h) (v h) (bt h) (g h) b (S h) j d : ℝ) : EReal) := by
    refine all4 ?_ ?_ ?_ ?_ <;>
    · unfold b866
      pointwise [k0_pay136]
      simp only [hw, hK, hE, ← EReal.coe_mul, coe_sum]
  rw [s_block (k h) (v h) (bt h) (g h) b (S h) (127 : Fin 128) rfl a d]
  revert h
  refine all4 ?_ ?_ ?_ ?_
  · show k0_pay137 (K 0) (L 0) (E 0) (K 1) (E 1) (K 2) (E 2) (K 3) (E 3) st (b809 K V B X t st) (ix3 0 a d) = _
    have e : k0_pay136 (K 0) (E 0) (K 1) (E 1) (K 2) (E 2) (K 3) (E 3) (b809 K V B X t st) (ix3 0 a d) = _ := h866 0
    pointwise [k0_pay137]
    simp only [e, hL, hS, exp_real, ← EReal.coe_mul, ← EReal.coe_add]
  · show k0_pay145 (b866 K V B X E t st) (k0_pay143 (L 1)) (k0_pay144 st) (ix3 0 a d) = _
    pointwise [k0_pay145, k0_pay143, k0_pay144]
    simp only [h866, hL, hS, exp_real, ← EReal.coe_mul, ← EReal.coe_add]
  · show k0_pay153 (L 2) st (b866 K V B X E t st) (ix3 0 a d) = _
    pointwise [k0_pay153]
    simp only [h866, hL, hS, exp_real, ← EReal.coe_mul, ← EReal.coe_add]
  · show k0_pay159 (L 3) st (b866 K V B X E t st) (ix3 0 a d) = _
    pointwise [k0_pay159]
    simp only [h866, hL, hS, exp_real, ← EReal.coe_mul, ← EReal.coe_add]

end Values

section Norm
variable (o : FVec Ideal S128x128 .f32)

/-- The norm's divisor over a row of real numbers. -/
theorem zn_real (f : Fin 128 → ℝ) : Ideal.rsqrt (Ideal.div ((∑ x, f x * f x : ℝ) : EReal) ((128 : ℝ) : EReal)
      + ((eps6 : ℝ) : EReal)) = (((Real.sqrt ((∑ x, f x * f x) / 128 + eps6))⁻¹ : ℝ) : EReal) := by
  rw [div_real _ (by norm_num : (128 : ℝ) ≠ 0), ← EReal.coe_add, rsqrt_real]
  have := eps6_pos
  have : 0 ≤ ∑ x, f x * f x := Finset.sum_nonneg fun x _ => mul_self_nonneg _
  positivity
end Norm

section Gated
variable (K Q V D : Fin 4 → FVec Ideal S128x128 .f32) (B X : Fin 4 → FVec Ideal S128x1 .f32)
variable (t : FVec Ideal S1x4x128x128 .f32) (st : FVec Ideal S4x128x128 .f32)
variable (n : FVec Ideal S1x1x128 .f32) (z : Fin 4 → FVec Ideal S128x128 .f32)
variable (O : Fin 4 → Fin 128 → Fin 128 → ℝ) (Z : Fin 4 → Fin 128 → Fin 128 → ℝ) (ng : Fin 128 → ℝ)
variable (hO : ∀ h i d, oV K Q V D B X t st h (ix2 i d) = ((O h i d : ℝ) : EReal))
variable (hn : ∀ x, n (ix3 0 0 x) = ((ng x : ℝ) : EReal))
variable (hz : ∀ h i x, z h (ix2 i x) = ((Z h i x : ℝ) : EReal))

include hO hn hz in
theorem zV_eq (h : Fin 4) (i d : Fin 128) : zV K Q V D B X t st n z h (ix2 i d)
    = ((zRow (O h i) (ng d) (Z h i d) d : ℝ) : EReal) := by
  revert h
  refine all4 ?_ ?_ ?_ ?_
  · have h0 : ∀ i d, k0_pay139 (b878 K Q V D B X t st) (ix2 i d) = _ := hO 0
    show k0_pay142 (b878 K Q V D B X t st) n (z 0) (ix2 i d) = _
    pointwise [k0_pay142]
    simp only [h0, hn, hz, k128_f32, eps6_f32, zero_sub, ← EReal.coe_mul, coe_sum, zn_real, ← EReal.coe_neg,
      ← EReal.coe_one, sig_real]
    rfl
  · have h0 : ∀ i d, k0_pay146 (b850 K Q V D B X t st) (ix2 i d) = _ := hO 1
    show k0_pay152 (k0_pay149 (b850 K Q V D B X t st) n) (k0_pay150 (z 1)) (k0_pay151 (z 1)) (Scalar.ofBits .f32 0x3F800000#32) (ix2 i d) = _
    pointwise [k0_pay152, k0_pay149, k0_pay150, k0_pay151]
    simp only [h0, hn, hz, k128_f32, eps6_f32, zero_sub, ← EReal.coe_mul, coe_sum, zn_real, ← EReal.coe_neg,
      ← EReal.coe_one, sig_real]
    rfl
  · have h0 : ∀ i d, k0_pay154 (b850 K Q V D B X t st) (ix2 i d) = _ := hO 2
    show k0_pay158 (k0_pay157 (b850 K Q V D B X t st)) n (z 2) (ix2 i d) = _
    pointwise [k0_pay158, k0_pay157]
    simp only [h0, hn, hz, k128_f32, eps6_f32, zero_sub, ← EReal.coe_mul, coe_sum, zn_real, ← EReal.coe_neg,
      ← EReal.coe_one, sig_real]
    rfl
  · have h0 : ∀ i d, k0_pay160 (b850 K Q V D B X t st) (ix2 i d) = _ := hO 3
    show k0_pay164 (k0_pay160 (b850 K Q V D B X t st)) (k0_pay163 (b850 K Q V D B X t st)) n (z 3) (ix2 i d) = _
    pointwise [k0_pay164, k0_pay163]
    simp only [h0, hn, hz, k128_f32, eps6_f32, zero_sub, ← EReal.coe_mul, coe_sum, zn_real, ← EReal.coe_neg,
      ← EReal.coe_one, sig_real]
    rfl
end Gated

end Cert.Mix
-- ==== Proof.MixGate.lean ====
/- The gates of the mixer kernel, the convolution over four rows and the gating over a chunk. -/
module

public import proofs.«01_k».proof.Defs
public import proofs.«01_k».proof.Proof.MixSpec
public import proofs.«01_k».proof.Proof.MixHead
public import proofs.«01_k».proof.Proof.Gen.MixKernelIdeal.Skeleton
public import Idealize.ShloMosaic.Lib.Pointwise
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

/-! ## The functions, over all rows -/

section Rows
variable (P : ℕ → ℕ → ℝ)

/-- The log decay of a row. -/
def lgate (al dt : Fin 4 → ℝ) (h : Fin 4) (n : ℕ) : ℝ := -Real.exp (al h) * softplus (P n (3076 + h) + dt h)
/-- The rate of a row. -/
def rate (h : Fin 4) (n : ℕ) : ℝ := sgm (P n (3072 + h))
/-- The rows that the convolution reads, three rows of zeros first. -/
def rows3 (n c : ℕ) : ℝ := if n < 3 then 0 else P (n - 3) (1024 + c)
def cvr (cw : Fin 4 → ℕ → ℝ) (n c : ℕ) : ℝ :=
  cw 0 c * rows3 P n c + cw 1 c * rows3 P (n + 1) c + cw 2 c * rows3 P (n + 2) c + cw 3 c * rows3 P (n + 3) c
def act (cw : Fin 4 → ℕ → ℝ) (n c : ℕ) : ℝ := silu (cvr P cw n c)
def gl (n c : ℕ) : ℝ := gelu (P n c)
def cent (n c : ℕ) : ℝ := gl P n (512 + c) - (∑ x : Fin 512, gl P n (512 + x)) / 512
def lnr (lg lb : ℕ → ℝ) (n c : ℕ) : ℝ :=
  cent P n c * (Real.sqrt ((∑ x : Fin 512, cent P n x * cent P n x) / 512 + eps5))⁻¹ * lg c + lb c
/-- The gated rows of a chunk. -/
def sgu (lg lb : ℕ → ℝ) (W : Fin 4 → Fin 128 → Fin 128 → ℝ) (sb : Fin 4 → Fin 128 → ℝ) (b : ℕ)
    (h : Fin 4) (i d : Fin 128) : ℝ :=
  gl P (b + i) (128 * h + d) * (∑ j : Fin 128, (if j ≤ i then W h i j * lnr P lg lb (b + j) (128 * h + d) else 0)
    + sb h i)
end Rows

section Values
variable (P : ℕ → ℕ → ℝ) (b : ℕ)

theorem rate_eq (u : FVec Ideal S128x128 .f32) (hu : ∀ (i : Fin 128) (h : Fin 4),
      u (ix2 i ⟨h, f0 h⟩) = ((P (b + i) (3072 + h) : ℝ) : EReal)) (i : Fin 128) (h : Fin 4) :
    k0_pay23 (F := Ideal) u (ix2 i ⟨h, f0 h⟩) = ((rate P h (b + i) : ℝ) : EReal) := by
  pointwise [k0_pay23, k0_pay21]
  rw [hu, zero_sub, ← EReal.coe_neg, ← EReal.coe_one, sig_real]
  rfl

theorem softplus_real (x : ℝ) : max ((x : ℝ) : EReal) 0
      + Ideal.log (1 + Ideal.exp (-(max ((x : ℝ) : EReal) (-((x : ℝ) : EReal))))) = ((softplus x : ℝ) : EReal) := by
  rw [← EReal.coe_neg, max_real, ← EReal.coe_neg, exp_real, ← EReal.coe_one, ← EReal.coe_add,
    log_real (one_exp _), ← EReal.coe_zero, max_real, ← EReal.coe_add]
  rfl

theorem absf_real (x : ℝ) : FloatOps.absf (F := Ideal) (φ := .f32) (x : EReal)
    = max ((x : ℝ) : EReal) (-((x : ℝ) : EReal)) := rfl

theorem lgate_eq (al dt : Fin 4 → ℝ) (u : FVec Ideal S128x128 .f32) (r0 r1 : FVec Ideal S1x1x128 .f32)
    (hu : ∀ (i : Fin 128) (h : Fin 4), u (ix2 i ⟨4 + h, f4 h⟩) = ((P (b + i) (3076 + h) : ℝ) : EReal))
    (h0 : ∀ h : Fin 4, r0 (ix3 0 0 ⟨4 + h, f4 h⟩) = ((al h : ℝ) : EReal))
    (h1 : ∀ h : Fin 4, r1 (ix3 0 0 ⟨4 + h, f4 h⟩) = ((dt h : ℝ) : EReal)) (i : Fin 128) (h : Fin 4) :
    cc (k0_pay24 r0) (k0_pay25 u r1) (ix2 i ⟨4 + h, f4 h⟩)
      = ((gsum (lgate P al dt h) b i : ℝ) : EReal) := by
  unfold cc
  pointwise [k0_pay27, k0_pay22, k0_pay24, k0_pay25, k0_pay26, k0_pay21]
  have f : ∀ x : Fin 128, -Ideal.exp ((al h : ℝ) : EReal) * ((softplus (P (b + x) (3076 + h) + dt h) : ℝ) : EReal)
      = ((lgate P al dt h (b + x) : ℝ) : EReal) := by
    intro x
    rw [exp_real, ← EReal.coe_neg, ← EReal.coe_mul]
    rfl
  simp only [hu, h0, h1, ← EReal.coe_add, absf_real, zero_sub, softplus_real, f, sel_ge]
  unfold gsum
  rw [← coe_sum]
  refine Finset.sum_congr rfl fun x _ => ?_
  show (if x ≤ i then _ else (0 : EReal)) = ((if x ≤ i then lgate P al dt h (b + x) else 0 : ℝ) : EReal)
  split_ifs <;> rfl

theorem act_eq (cw : Fin 4 → ℕ → ℝ) (w : Fin 4 → FVec Ideal S1x1x1536 .f32) (x : Fin 4 → FVec Ideal S128x1536 .f32)
    (hw : ∀ j (c : Fin 1536), w j (ix3 0 0 c) = ((cw j c : ℝ) : EReal))
    (hx : ∀ (j : Fin 4) (i : Fin 128) (c : Fin 1536), x j (ix2 i c) = ((rows3 P (b + i + j) c : ℝ) : EReal))
    (i : Fin 128) (c : Fin 1536) :
    k0_pay19 (F := Ideal) (k0_pay16 (w 0) (x 0) (w 1) (x 1) (w 2) (x 2)) (k0_pay17 (w 3) (x 3)) (ix2 i c)
      = ((act P cw (b + i) c : ℝ) : EReal) := by
  pointwise [k0_pay19, k0_pay18, k0_pay16, k0_pay17]
  simp only [hw, hx, ← EReal.coe_mul, ← EReal.coe_add, zero_sub, ← EReal.coe_neg, ← EReal.coe_one, sig_real]
  rfl

/-! ## The gating over a chunk -/

theorem gelu_real (x : ℝ) : ((1 / 2 : ℝ) : EReal) * ((x : ℝ) : EReal) * (1 + Ideal.tanh (((gl1 : ℝ) : EReal)
      * (((x : ℝ) : EReal) + ((gl0 : ℝ) : EReal) * ((x : ℝ) : EReal) * ((x : ℝ) : EReal) * ((x : ℝ) : EReal))))
    = ((gelu x : ℝ) : EReal) := by
  simp only [← EReal.coe_mul, ← EReal.coe_add, tanh_real, ← EReal.coe_one]
  rfl

variable (u v : FVec Ideal S128x512 .f32) (r0 r1 : FVec Ideal S1x1x512 .f32)
variable (sb : FVec Ideal S1x128x128 .f32) (w : Fin 4 → FVec Ideal S1x1x128x128 .f32)

def sguV : Fin 4 → FVec Ideal S128x128 .bf16 :=
  ![k0_pay11 (k0_pay8 k0_pay3 (k0_pay4 u) (k0_pay5 v) r0 r1 sb (w 0)),
    k0_pay12 (k0_pay4 u) (k0_pay6 (k0_pay5 v) r0 r1) (k0_pay7 sb) (k0_pay9 k0_pay3 (w 1)),
    k0_pay13 k0_pay3 (k0_pay4 u) (k0_pay6 (k0_pay5 v) r0 r1) (k0_pay7 sb) (w 2),
    k0_pay14 (k0_pay10 k0_pay3 (k0_pay4 u) (k0_pay6 (k0_pay5 v) r0 r1) (k0_pay7 sb) (w 3))]

variable (lg lb : ℕ → ℝ) (W : Fin 4 → Fin 128 → Fin 128 → ℝ) (SB : Fin 4 → Fin 128 → ℝ)
variable (hu : ∀ (i : Fin 128) (c : Fin 512), u (ix2 i c) = ((P (b + i) c : ℝ) : EReal))
variable (hv : ∀ (i : Fin 128) (c : Fin 512), v (ix2 i c) = ((P (b + i) (512 + c) : ℝ) : EReal))
variable (h0 : ∀ c : Fin 512, r0 (ix3 0 0 c) = ((lg c : ℝ) : EReal))
variable (h1 : ∀ c : Fin 512, r1 (ix3 0 0 c) = ((lb c : ℝ) : EReal))
variable (hs : ∀ (h : Fin 4) (i : Fin 128), sb (ix3 0 i ⟨h, f0 h⟩) = ((SB h i : ℝ) : EReal))
variable (hw : ∀ h i j, w h (ix4 0 0 i j) = ((W h i j : ℝ) : EReal))

include hu in
theorem gu_eq (i : Fin 128) (c : Fin 512) : k0_pay4 (F := Ideal) u (ix2 i c) = ((gl P (b + i) c : ℝ) : EReal) := by
  pointwise [k0_pay4]
  simp only [hu, gl0_f32, gl1_f32, half_f32, gelu_real]
  rfl

include hv in
theorem cent_eq (i : Fin 128) (c : Fin 512) : k0_pay5 (F := Ideal) v (ix2 i c) = ((cent P (b + i) c : ℝ) : EReal) := by
  pointwise [k0_pay5]
  simp only [hv, gl0_f32, gl1_f32, half_f32, k512_f32, gelu_real, coe_sum, div_real _ (by norm_num : (512 : ℝ) ≠ 0),
    ← EReal.coe_sub]
  rfl

theorem ln_real (f : Fin 512 → ℝ) : Ideal.rsqrt (((∑ x, f x * f x) / 512 + eps5 : ℝ) : EReal)
    = (((Real.sqrt ((∑ x, f x * f x) / 512 + eps5))⁻¹ : ℝ) : EReal) := by
  rw [rsqrt_real]
  have := eps5_pos
  have : 0 ≤ ∑ x, f x * f x := Finset.sum_nonneg fun x _ => mul_self_nonneg _
  positivity

include hv h0 h1 in
theorem lnr_eq (i : Fin 128) (c : Fin 512) :
    k0_pay6 (F := Ideal) (k0_pay5 v) r0 r1 (ix2 i c) = ((lnr P lg lb (b + i) c : ℝ) : EReal) := by
  have hc := cent_eq P b v hv
  pointwise [k0_pay6]
  simp only [hc, h0, h1, k512_f32, eps5_f32, ← EReal.coe_mul, coe_sum, div_real _ (by norm_num : (512 : ℝ) ≠ 0), ln_real,
    ← EReal.coe_add]
  rfl

include hu hv h0 h1 hs hw in
theorem sguV_eq (h : Fin 4) (i d : Fin 128) : sguV u v r0 r1 sb w h (ix2 i d)
    = ((sgu P lg lb W SB b h i d : ℝ) : EReal) := by
  have g := gu_eq P b u hu
  have l := lnr_eq P b v r0 r1 lg lb hv h0 h1
  have e : ∀ (x : ℝ) (j : Fin 128), Scalar.select (IntOp.cmpi .sge (BitVec.ofNat 32 i) (BitVec.ofNat 32 j))
      ((x : ℝ) : EReal) 0 = ((if j ≤ i then x else 0 : ℝ) : EReal) := by
    intro x j
    rw [sel_ge]
    split_ifs <;> rfl
  revert h
  refine all4 ?_ ?_ ?_ ?_
  · show (k0_pay11 (k0_pay8 k0_pay3 (k0_pay4 u) (k0_pay5 v) r0 r1 sb (w 0)) : FVec Ideal S128x128 .bf16) (ix2 i d) = _
    pointwise [k0_pay11, k0_pay8, k0_pay3, k0_pay7]
    have hs0 : ∀ i, sb (ix3 0 i 0) = _ := hs 0
    simp only [g, l, hw, hs0, ← EReal.coe_mul, e, coe_sum, ← EReal.coe_add]
    simp [sgu]
  · show (k0_pay12 (k0_pay4 u) (k0_pay6 (k0_pay5 v) r0 r1) (k0_pay7 sb) (k0_pay9 k0_pay3 (w 1)) : FVec Ideal S128x128 .bf16) (ix2 i d) = _
    pointwise [k0_pay12, k0_pay9, k0_pay3, k0_pay7]
    have hs1 : ∀ i, sb (ix3 0 i 1) = _ := hs 1
    simp only [g, l, hw, hs1, ← EReal.coe_mul, e, coe_sum, ← EReal.coe_add]
    rfl
  · show (k0_pay13 k0_pay3 (k0_pay4 u) (k0_pay6 (k0_pay5 v) r0 r1) (k0_pay7 sb) (w 2) : FVec Ideal S128x128 .bf16) (ix2 i d) = _
    pointwise [k0_pay13, k0_pay3, k0_pay7]
    have hs2 : ∀ i, sb (ix3 0 i 2) = _ := hs 2
    simp only [g, l, hw, hs2, ← EReal.coe_mul, e, coe_sum, ← EReal.coe_add]
    rfl
  · show (k0_pay14 (k0_pay10 k0_pay3 (k0_pay4 u) (k0_pay6 (k0_pay5 v) r0 r1) (k0_pay7 sb) (w 3)) : FVec Ideal S128x128 .bf16) (ix2 i d) = _
    pointwise [k0_pay14, k0_pay10, k0_pay3, k0_pay7]
    have hs3 : ∀ i, sb (ix3 0 i 3) = _ := hs 3
    simp only [g, l, hw, hs3, ← EReal.coe_mul, e, coe_sum, ← EReal.coe_add]
    rfl

end Values

end Cert.Mix
-- ==== Proof.MixBlock.lean ====
/- One block of the mixer kernel: its stores as functions of the six blocks, the rows before, the state before. -/
module

public import proofs.«01_k».proof.Defs
public import proofs.«01_k».proof.Proof.MixSpec
public import proofs.«01_k».proof.Proof.MixHead
public import proofs.«01_k».proof.Proof.MixTri
public import proofs.«01_k».proof.Proof.MixOut
public import proofs.«01_k».proof.Proof.MixGate
public import proofs.«01_k».proof.Proof.Pieces
public import proofs.«01_k».proof.Proof.Gen.MixKernelIdeal.Skeleton
public import Idealize.ShloMosaic.Lib.Pointwise
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

section Terms

variable (p : FVec Ideal S128x3200 .f32) (w1 : FVec Ideal S1x8x512 .f32) (w2 : FVec Ideal S1x4x128x128 .f32)
variable (w3 : FVec Ideal S1x128x128 .f32) (w4 : FVec Ideal S1x8x1536 .f32) (w5 : FVec Ideal S1x8x128 .f32)
variable (x : Fin 4 → FVec Ideal S128x1536 .f32) (st : FVec Ideal S4x128x128 .f32)
variable (mm : FVec Ideal S1x4x128x128 .f32)

/-- The convolution's weights. -/
def cwV : Fin 4 → FVec Ideal S1x1x1536 .f32 :=
  ![View.ld (Val := Elt Ideal) (e' := .f32) w4 (Rect.unit ![0, 0, 0] ![1, 1, 1536] inb_S1x8x1536_S1x1x1536_0_0_0), View.ld (Val := Elt Ideal) (e' := .f32) w4 (Rect.unit ![0, 1, 0] ![1, 1, 1536] inb_S1x8x1536_S1x1x1536_0_1_0), View.ld (Val := Elt Ideal) (e' := .f32) w4 (Rect.unit ![0, 2, 0] ![1, 1, 1536] inb_S1x8x1536_S1x1x1536_0_2_0), View.ld (Val := Elt Ideal) (e' := .f32) w4 (Rect.unit ![0, 3, 0] ![1, 1, 1536] inb_S1x8x1536_S1x1x1536_0_3_0)]
/-- The block's convolved rows. -/
def aV : FVec Ideal S128x1536 .f32 :=
  k0_pay19 (k0_pay16 (cwV w4 0) (x 0) (cwV w4 1) (x 1) (cwV w4 2) (x 2)) (k0_pay17 (cwV w4 3) (x 3))
/-- The columns of rates and decays. -/
abbrev uV : FVec Ideal S128x128 .f32 := View.ld (Val := Elt Ideal) (e' := .f32) p (Rect.unit ![0, 3072] ![128, 128] inb_S128x3200_S128x128_0_3072)
abbrev beV : FVec Ideal S128x128 .f32 := k0_pay23 (uV p)
abbrev nV : FVec Ideal S1x128 .f32 := k0_pay24 (View.ld (Val := Elt Ideal) (e' := .f32) w5 (Rect.unit ![0, 0, 0] ![1, 1, 128] inb_S1x8x128_S1x1x128_0_0_0))
abbrev dV : FVec Ideal S128x128 .f32 := k0_pay25 (uV p) (View.ld (Val := Elt Ideal) (e' := .f32) w5 (Rect.unit ![0, 1, 0] ![1, 1, 128] inb_S1x8x128_S1x1x128_0_1_0))
def zzV : Fin 4 → FVec Ideal S128x128 .f32 :=
  ![View.ld (Val := Elt Ideal) (e' := .f32) p (Rect.unit ![0, 2560] ![128, 128] inb_S128x3200_S128x128_0_2560), View.ld (Val := Elt Ideal) (e' := .f32) p (Rect.unit ![0, 2688] ![128, 128] inb_S128x3200_S128x128_0_2688), View.ld (Val := Elt Ideal) (e' := .f32) p (Rect.unit ![0, 2816] ![128, 128] inb_S128x3200_S128x128_0_2816), View.ld (Val := Elt Ideal) (e' := .f32) p (Rect.unit ![0, 2944] ![128, 128] inb_S128x3200_S128x128_0_2944)]
def swV : Fin 4 → FVec Ideal S1x1x128x128 .f32 :=
  ![View.ld (Val := Elt Ideal) (e' := .f32) w2 (Rect.unit ![0, 0, 0, 0] ![1, 1, 128, 128] inb_S1x4x128x128_S1x1x128x128_0_0_0_0), View.ld (Val := Elt Ideal) (e' := .f32) w2 (Rect.unit ![0, 1, 0, 0] ![1, 1, 128, 128] inb_S1x4x128x128_S1x1x128x128_0_1_0_0), View.ld (Val := Elt Ideal) (e' := .f32) w2 (Rect.unit ![0, 2, 0, 0] ![1, 1, 128, 128] inb_S1x4x128x128_S1x1x128x128_0_2_0_0), View.ld (Val := Elt Ideal) (e' := .f32) w2 (Rect.unit ![0, 3, 0, 0] ![1, 1, 128, 128] inb_S1x4x128x128_S1x1x128x128_0_3_0_0)]

/-- What the block computes: the four heads' rows, the state after it, the gated rows, the rows of the chunk unit. -/
def oB : Fin 4 → FVec Ideal S128x128 .f32 :=
  oV (kn (aV w4 x)) (qn (aV w4 x)) (vv (aV w4 x)) (dmv (nV w5) (dV p w5)) (bv (beV p)) (gav (nV w5) (dV p w5)) (triV (k0_pay91 mm)) st
def sB : Fin 4 → FVec Ideal S1x128x128 .f32 :=
  sV (kn (aV w4 x)) (vv (aV w4 x)) (bv (beV p)) (gav (nV w5) (dV p w5)) (dev (nV w5) (dV p w5)) (glv (nV w5) (dV p w5)) (triV (k0_pay91 mm)) st
def zB : Fin 4 → FVec Ideal S128x128 .bf16 :=
  zV (kn (aV w4 x)) (qn (aV w4 x)) (vv (aV w4 x)) (dmv (nV w5) (dV p w5)) (bv (beV p)) (gav (nV w5) (dV p w5)) (triV (k0_pay91 mm)) st
    (View.ld (Val := Elt Ideal) (e' := .f32) w5 (Rect.unit ![0, 2, 0] ![1, 1, 128] inb_S1x8x128_S1x1x128_0_2_0)) (zzV p)
def gB : Fin 4 → FVec Ideal S128x128 .bf16 :=
  sguV (View.ld (Val := Elt Ideal) (e' := .f32) p (Rect.unit ![0, 0] ![128, 512] inb_S128x3200_S128x512_0_0)) (View.ld (Val := Elt Ideal) (e' := .f32) p (Rect.unit ![0, 512] ![128, 512] inb_S128x3200_S128x512_0_512))
    (View.ld (Val := Elt Ideal) (e' := .f32) w1 (Rect.unit ![0, 0, 0] ![1, 1, 512] inb_S1x8x512_S1x1x512_0_0_0)) (View.ld (Val := Elt Ideal) (e' := .f32) w1 (Rect.unit ![0, 1, 0] ![1, 1, 512] inb_S1x8x512_S1x1x512_0_1_0)) (w3) (swV w2)
def mB : Fin 4 → FVec Ideal S1x1x128x128 .f32 := mpv (aV w4 x) (beV p) (nV w5) (dV p w5)

end Terms

section Values

variable (p : FVec Ideal S128x3200 .f32) (w1 : FVec Ideal S1x8x512 .f32) (w2 : FVec Ideal S1x4x128x128 .f32)
variable (w3 : FVec Ideal S1x128x128 .f32) (w4 : FVec Ideal S1x8x1536 .f32) (w5 : FVec Ideal S1x8x128 .f32)
variable (x : Fin 4 → FVec Ideal S128x1536 .f32) (st : FVec Ideal S4x128x128 .f32)
variable (mm : FVec Ideal S1x4x128x128 .f32)
variable (P : ℕ → ℕ → ℝ) (lg lb : ℕ → ℝ) (W : Fin 4 → Fin 128 → Fin 128 → ℝ) (SB : Fin 4 → Fin 128 → ℝ)
variable (cw : Fin 4 → ℕ → ℝ) (al dt : Fin 4 → ℝ) (ng : Fin 128 → ℝ) (b : ℕ) (S : Fin 4 → Fin 128 → Fin 128 → ℝ)
variable (hp : ∀ (i : Fin 128) (k : Fin 3200), k.val < 3080 → p (ix2 i k) = ((P (b + i) k : ℝ) : EReal))
variable (hlg : ∀ k : Fin 512, w1 (ix3 0 0 k) = ((lg k : ℝ) : EReal))
variable (hlb : ∀ k : Fin 512, w1 (ix3 0 1 k) = ((lb k : ℝ) : EReal))
variable (hW : ∀ h i j, w2 (ix4 0 h i j) = ((W h i j : ℝ) : EReal))
variable (hsb : ∀ (h : Fin 4) (i : Fin 128), w3 (ix3 0 i ⟨h, f0 h⟩) = ((SB h i : ℝ) : EReal))
variable (hcw : ∀ (j : Fin 4) (k : Fin 1536), w4 (ix3 0 ⟨j, f8 j⟩ k) = ((cw j k : ℝ) : EReal))
variable (hal : ∀ h : Fin 4, w5 (ix3 0 0 ⟨4 + h, f4 h⟩) = ((al h : ℝ) : EReal))
variable (hdt : ∀ h : Fin 4, w5 (ix3 0 1 ⟨4 + h, f4 h⟩) = ((dt h : ℝ) : EReal))
variable (hng : ∀ k : Fin 128, w5 (ix3 0 2 k) = ((ng k : ℝ) : EReal))
variable (hx : ∀ (j : Fin 4) (i : Fin 128) (c : Fin 1536), x j (ix2 i c) = ((rows3 P (b + i + j) c : ℝ) : EReal))
variable (hst : ∀ h a d, st (ix3 h a d) = ((S h a d : ℝ) : EReal))

include hp in
theorem p_at (off : ℕ) (n : Fin 2 → ℕ) (inb) (y : (Rect.unit (s := S128x3200) ![0, off] n inb).shape.Idx) (i k : ℕ) (hi : i < 128) (hk : k < 3080)
    (e0 : (y 0).val = i) (e1 : off + (y 1).val = k) : View.ld (Val := Elt Ideal) (e' := .f32) p (Rect.unit ![0, off] n inb) y = ((P (b + i) k : ℝ) : EReal) := by
  refine Eq.trans ?_ (hp ⟨i, hi⟩ ⟨k, by omega⟩ hk)
  exact View.ld_unit_apply_of _ _ _ _ _ _ (by intro a; fin_cases a <;> simp [ix2, e0, e1])

include hW in
theorem w2_at (h : Fin 4) (inb) (i j : Fin 128) :
    View.ld (Val := Elt Ideal) (e' := .f32) w2 (Rect.unit ![0, h.val, 0, 0] ![1, 1, 128, 128] inb) (ix4 (0 : Fin 1) (0 : Fin 1) i j : S1x1x128x128.Idx) = ((W h i j : ℝ) : EReal) := by
  refine Eq.trans ?_ (hW h i j)
  exact View.ld_unit_apply_of _ _ _ _ _ _ (by intro a; fin_cases a <;> simp [ix4])

include hcw in
theorem w4_at (j : Fin 4) (inb) (k : Fin 1536) :
    View.ld (Val := Elt Ideal) (e' := .f32) w4 (Rect.unit ![0, j.val, 0] ![1, 1, 1536] inb) (ix3 (0 : Fin 1) (0 : Fin 1) k : S1x1x1536.Idx) = ((cw j k : ℝ) : EReal) := by
  refine Eq.trans ?_ (hcw j k)
  exact View.ld_unit_apply_of _ _ _ _ _ _ (by intro a; fin_cases a <;> simp [ix3])

include hcw hx in
theorem aV_eq (i : Fin 128) (c : ℕ) (hc : c < 1536) : aV w4 x (ix2 i ⟨c, hc⟩) = ((act P cw (b + i) c : ℝ) : EReal) := by
  exact act_eq P b cw (cwV w4) x (all4 (w4_at w4 cw hcw 0 _) (w4_at w4 cw hcw 1 _) (w4_at w4 cw hcw 2 _) (w4_at w4 cw hcw 3 _)) hx i ⟨c, hc⟩

include hp in
theorem beV_eq (i : Fin 128) (h : Fin 4) : beV p (ix2 i ⟨h, f0 h⟩) = ((rate P h (b + i) : ℝ) : EReal) :=
  rate_eq P b (uV p) (fun i h => p_at p P b hp _ _ _ _ i (3072 + h) i.isLt (by omega) rfl rfl) i h

include hp hal hdt in
theorem gV_eq (i : Fin 128) (h : Fin 4) : cc (nV w5) (dV p w5) (ix2 i ⟨4 + h, f4 h⟩) = ((gsum (lgate P al dt h) b i : ℝ) : EReal) := by
  refine lgate_eq P b al dt (uV p) _ _ (fun i h => p_at p P b hp _ _ _ _ i (3076 + h) i.isLt (by omega) rfl (by simp [ix2]; omega)) (fun h => ?_) (fun h => ?_) i h
  · refine Eq.trans ?_ (hal h)
    exact View.ld_unit_apply_of _ _ _ _ _ _ (by intro a; fin_cases a <;> simp [ix3])
  · refine Eq.trans ?_ (hdt h)
    exact View.ld_unit_apply_of _ _ _ _ _ _ (by intro a; fin_cases a <;> simp [ix3])

/-- The heads' triangles as the block writes them. -/
abbrev MT (h : Fin 4) : Mat := Matrix.of (mlow (ks (act P cw) h) (rate P h) (lgate P al dt h) b)

include hp hcw hal hdt hx in
theorem mB_eq (h : Fin 4) (i j : Fin 128) : mB p w4 w5 x h (ix4 0 0 i j) = ((MT P cw al dt b h i j : ℝ) : EReal) :=
  mp_eq _ _ _ _ (act P cw) (rate P) (lgate P al dt) b (aV_eq w4 x P cw b hcw hx) (beV_eq p P b hp) (gV_eq p w5 P al dt b hp hal hdt) h i j

variable (hmm : ∀ h i j, mm (ix4 0 h i j) = ((MT P cw al dt b h i j : ℝ) : EReal))

include hmm in
theorem tB_eq (h : Fin 4) (i j : Fin 128) : triV (k0_pay91 mm) (ix4 0 h i j) = ((triInv (MT P cw al dt b h) i j : ℝ) : EReal) := by
  refine triV_eq (k0_pay91 mm) (MT P cw al dt b) (fun h i j => ?_) h i j
  refine Eq.trans ?_ (hmm h i j)
  pointwise [k0_pay91]

/-- The rows and the state that the recurrence gives. -/
abbrev oR (h : Fin 4) (n : ℕ) (S : Fin 128 → Fin 128 → ℝ) (d : Fin 128) : ℝ :=
  oRow (qs (act P cw) h) (ks (act P cw) h) (vs (act P cw) h) (rate P h) (lgate P al dt h) n S d
abbrev sR (h : Fin 4) (b : ℕ) (S : Fin 128 → Fin 128 → ℝ) (n : ℕ) : Fin 128 → Fin 128 → ℝ :=
  stAt (ks (act P cw) h) (vs (act P cw) h) (rate P h) (lgate P al dt h) b S n

include hp hcw hal hdt hx hst hmm in
theorem oB_eq (h : Fin 4) (i d : Fin 128) : oB p w4 w5 x st mm h (ix2 i d)
    = ((oR P cw al dt h (b + i) (sR P cw al dt h b (S h) i) d : ℝ) : EReal) :=
  have ha := aV_eq w4 x P cw b hcw hx
  have hg := gV_eq p w5 P al dt b hp hal hdt
  oV_eq _ _ _ _ _ _ _ _ (qs (act P cw)) (ks (act P cw)) (vs (act P cw)) (rate P) (lgate P al dt) b S
    (kn_eq _ _ b ha) (qn_eq _ _ b ha) (vv_eq _ _ b ha) (dm_eq _ _ _ b hg) (bv_eq _ _ b (beV_eq p P b hp)) (ga_eq _ _ _ b hg)
    (tB_eq mm P cw al dt b hmm) hst h i d

include hp hcw hal hdt hx hst hmm in
theorem sB_eq (h : Fin 4) (a d : Fin 128) : sB p w4 w5 x st mm h (ix3 0 a d) = ((sR P cw al dt h b (S h) 128 a d : ℝ) : EReal) :=
  have ha := aV_eq w4 x P cw b hcw hx
  have hg := gV_eq p w5 P al dt b hp hal hdt
  sV_eq _ _ _ _ _ _ _ _ (ks (act P cw)) (vs (act P cw)) (rate P) (lgate P al dt) b S
    (kn_eq _ _ b ha) (vv_eq _ _ b ha) (bv_eq _ _ b (beV_eq p P b hp)) (ga_eq _ _ _ b hg) (de_eq _ _ _ b hg) (gl_eq _ _ _ b hg)
    (tB_eq mm P cw al dt b hmm) hst h a d

include hp hcw hal hdt hng hx hst hmm in
theorem zB_eq (h : Fin 4) (i d : Fin 128) : zB p w4 w5 x st mm h (ix2 i d)
    = ((zRow (oR P cw al dt h (b + i) (sR P cw al dt h b (S h) i)) (ng d) (P (b + i) (2560 + 128 * h + d)) d : ℝ) : EReal) := by
  refine zV_eq _ _ _ _ _ _ _ _ _ _ (fun h i d => oR P cw al dt h (b + i) (sR P cw al dt h b (S h) i) d) (fun h i d => P (b + i) (2560 + 128 * h + d)) ng
    (oB_eq p w4 w5 x st mm P cw al dt b S hp hcw hal hdt hx hst hmm) (fun d => ?_) ?_ h i d
  · refine Eq.trans ?_ (hng d)
    exact View.ld_unit_apply_of _ _ _ _ _ _ (by intro a; fin_cases a <;> simp [ix3])
  · refine all4 ?_ ?_ ?_ ?_ <;>
    exact fun i d => p_at p P b hp _ _ _ _ i _ i.isLt (by simp; omega) rfl (by simp [ix2])

include hp hlg hlb hW hsb in
theorem gB_eq (h : Fin 4) (i d : Fin 128) : gB p w1 w2 w3 h (ix2 i d) = ((sgu P lg lb W SB b h i d : ℝ) : EReal) := by
  refine sguV_eq P b _ _ _ _ _ _ lg lb W SB (fun i c => p_at p P b hp _ _ _ _ i c i.isLt (by omega) rfl (by simp [ix2]))
    (fun i c => p_at p P b hp _ _ _ _ i (512 + c) i.isLt (by omega) rfl rfl) (fun d => ?_) (fun d => ?_) (fun h i => ?_) ?_ h i d
  · refine Eq.trans ?_ (hlg d)
    exact View.ld_unit_apply_of _ _ _ _ _ _ (by intro a; fin_cases a <;> simp [ix3])
  · refine Eq.trans ?_ (hlb d)
    exact View.ld_unit_apply_of _ _ _ _ _ _ (by intro a; fin_cases a <;> simp [ix3])
  · exact hsb h i
  · exact all4 (w2_at w2 W hW 0 _) (w2_at w2 W hW 1 _) (w2_at w2 W hW 2 _) (w2_at w2 W hW 3 _)

end Values

end Cert.Mix
-- ==== Proof.MixRows.lean ====
/- The loads and the carried buffers of the mixer kernel. -/
module

public import proofs.«01_k».proof.Defs
public import proofs.«01_k».proof.Proof.MixSpec
public import proofs.«01_k».proof.Proof.MixEntry
public import proofs.«01_k».proof.Proof.MixBlock
public import proofs.«01_k».proof.Proof.Gen.MixKernelIdeal.Skeleton
public import proofs.«01_k».proof.Proof.Gen.MixKernelIdeal.Frame
public import Idealize.ShloMosaic.Lib.Pointwise
public import Idealize.ShloMosaic.Lib.Pipeline.Value
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

section Reads

variable {s : Shape} {e : EltTy}

/-- A load off a list of stores. -/
theorem rc_at {sig : RefSig} {κ : Kind} {sp : Space} (v : View sig κ sp s e) (L : List (View.Piece (Elt Ideal) s e)) (off size : Fin s.rank → ℕ) (inb) (y : (Rect.unit off size inb).shape.Idx)
    (i : s.Idx) (hi : ∀ a, (i a).val = off a + (y a).val) :
    v.readCov L (Rect.unit off size inb).toLoadRect y = View.canon L i := by
  refine (congrFun (View.readCov_eq_canon' v L _) y).trans (congrArg (View.canon L) (funext fun a => Fin.ext ?_))
  exact (Rect.idx_unit_val off size inb y a).trans (hi a).symm

end Reads

section Triangles

variable {κ : Kind} {sp : Space} (v : View sig κ sp S1x4x128x128 .f32)
variable (p : FVec Ideal S128x3200 .f32) (w4 : FVec Ideal S1x8x1536 .f32) (w5 : FVec Ideal S1x8x128 .f32)
variable (x : Fin 4 → FVec Ideal S128x1536 .f32)

/-- The four heads' triangles, stored one by one and loaded together. -/
def mmB : FVec Ideal S1x4x128x128 .f32 :=
  v.readCov (Val := Elt Ideal) [(⟨Rect.unit ![0, 3, 0, 0] ![1, 1, 128, 128] inb_S1x4x128x128_S1x1x128x128_0_3_0_0, mB p w4 w5 x 3⟩ : View.Piece (Elt Ideal) S1x4x128x128 .f32), (⟨Rect.unit ![0, 2, 0, 0] ![1, 1, 128, 128] inb_S1x4x128x128_S1x1x128x128_0_2_0_0, mB p w4 w5 x 2⟩ : View.Piece (Elt Ideal) S1x4x128x128 .f32), (⟨Rect.unit ![0, 1, 0, 0] ![1, 1, 128, 128] inb_S1x4x128x128_S1x1x128x128_0_1_0_0, mB p w4 w5 x 1⟩ : View.Piece (Elt Ideal) S1x4x128x128 .f32), (⟨Rect.unit ![0, 0, 0, 0] ![1, 1, 128, 128] inb_S1x4x128x128_S1x1x128x128_0_0_0_0, mB p w4 w5 x 0⟩ : View.Piece (Elt Ideal) S1x4x128x128 .f32)] (Rect.unit (s := S1x4x128x128) (![0, 0, 0, 0] : Fin 4 → ℕ) (![1, 4, 128, 128] : Fin 4 → ℕ) inb_S1x4x128x128_S1x4x128x128_0_0_0_0).toLoadRect

variable (P : ℕ → ℕ → ℝ) (cw : Fin 4 → ℕ → ℝ) (al dt : Fin 4 → ℝ) (b : ℕ)
variable (hp : ∀ (i : Fin 128) (k : Fin 3200), k.val < 3080 → p (ix2 i k) = ((P (b + i) k : ℝ) : EReal))
variable (hcw : ∀ (j : Fin 4) (k : Fin 1536), w4 (ix3 0 ⟨j, f8 j⟩ k) = ((cw j k : ℝ) : EReal))
variable (hal : ∀ h : Fin 4, w5 (ix3 0 0 ⟨4 + h, f4 h⟩) = ((al h : ℝ) : EReal))
variable (hdt : ∀ h : Fin 4, w5 (ix3 0 1 ⟨4 + h, f4 h⟩) = ((dt h : ℝ) : EReal))
variable (hx : ∀ (j : Fin 4) (i : Fin 128) (c : Fin 1536), x j (ix2 i c) = ((rows3 P (b + i + j) c : ℝ) : EReal))

include hp hcw hal hdt hx in
theorem mmB_eq (h : Fin 4) (i j : Fin 128) : mmB v p w4 w5 x (ix4 0 h i j) = ((MT P cw al dt b h i j : ℝ) : EReal) := by
  unfold mmB
  refine (rc_at v _ ![0, 0, 0, 0] ![1, 4, 128, 128] _ (ix4 0 h i j : S1x4x128x128.Idx) (ix4 0 h i j) (by intro a; fin_cases a <;> simp [ix4])).trans ?_
  have key := mB_eq p w4 w5 x P cw al dt b hp hcw hal hdt hx
  revert h
  refine all4 ?_ ?_ ?_ ?_
  · refine (Cert.Pieces.canon_miss _ _ _ _ 1 (by simp [ix4])).trans ?_
    refine (Cert.Pieces.canon_miss _ _ _ _ 1 (by simp [ix4])).trans ?_
    refine (Cert.Pieces.canon_miss _ _ _ _ 1 (by simp [ix4])).trans ?_
    refine (Cert.Pieces.canon_hit _ _ _ _ (ix4 0 0 i j) (by intro a; fin_cases a <;> simp [ix4])).trans ?_
    exact key 0 i j
  · refine (Cert.Pieces.canon_miss _ _ _ _ 1 (by simp [ix4])).trans ?_
    refine (Cert.Pieces.canon_miss _ _ _ _ 1 (by simp [ix4])).trans ?_
    refine (Cert.Pieces.canon_hit _ _ _ _ (ix4 0 0 i j) (by intro a; fin_cases a <;> simp [ix4])).trans ?_
    exact key 1 i j
  · refine (Cert.Pieces.canon_miss _ _ _ _ 1 (by simp [ix4])).trans ?_
    refine (Cert.Pieces.canon_hit _ _ _ _ (ix4 0 0 i j) (by intro a; fin_cases a <;> simp [ix4])).trans ?_
    exact key 2 i j
  · refine (Cert.Pieces.canon_hit _ _ _ _ (ix4 0 0 i j) (by intro a; fin_cases a <;> simp [ix4])).trans ?_
    exact key 3 i j

end Triangles

section Rows

variable (P : ℕ → ℕ → ℝ) (b : ℕ) (w : FVec Ideal S128x1536 .f32)
variable (hw : ∀ (r : Fin 128) (k : Fin 1536), w (ix2 r k) = ((P (b + r) (1024 + k) : ℝ) : EReal))

/-- A load of 128 rows off a list of stores. -/
def ldc {κ : Kind} {sp : Space} (v : View sig κ sp S136x1536 .f32) (L : List (View.Piece (Elt Ideal) S136x1536 .f32)) (o : ℕ)
    (inb : ∀ a, (![o, 0] : Fin 2 → ℕ) a + (![128, 1536] : Fin 2 → ℕ) a ≤ S136x1536.size a) : FVec Ideal S128x1536 .f32 :=
  v.readCov (Val := Elt Ideal) L (Rect.unit (s := S136x1536) (![o, 0] : Fin 2 → ℕ) (![128, 1536] : Fin 2 → ℕ) inb).toLoadRect

/-- The four shifted rows at the first point and after it. -/
def xA : Fin 4 → FVec Ideal S128x1536 .f32 :=
  ![ldc (View.whole cc0_scratch1) [(⟨Rect.unit ![8, 0] ![128, 1536] inb_S136x1536_S128x1536_8_0, w⟩ : View.Piece (Elt Ideal) S136x1536 .f32), (⟨Rect.unit ![0, 0] ![8, 1536] inb_S136x1536_S8x1536_0_0, k0_pay2 (F := Ideal)⟩ : View.Piece (Elt Ideal) S136x1536 .f32)] 5 inb_S136x1536_S128x1536_5_0,
    ldc (View.whole cc0_scratch1) [(⟨Rect.unit ![8, 0] ![128, 1536] inb_S136x1536_S128x1536_8_0, w⟩ : View.Piece (Elt Ideal) S136x1536 .f32), (⟨Rect.unit ![0, 0] ![8, 1536] inb_S136x1536_S8x1536_0_0, k0_pay2 (F := Ideal)⟩ : View.Piece (Elt Ideal) S136x1536 .f32)] 6 inb_S136x1536_S128x1536_6_0,
    ldc (View.whole cc0_scratch1) [(⟨Rect.unit ![8, 0] ![128, 1536] inb_S136x1536_S128x1536_8_0, w⟩ : View.Piece (Elt Ideal) S136x1536 .f32), (⟨Rect.unit ![0, 0] ![8, 1536] inb_S136x1536_S8x1536_0_0, k0_pay2 (F := Ideal)⟩ : View.Piece (Elt Ideal) S136x1536 .f32)] 7 inb_S136x1536_S128x1536_7_0,
    ldc (View.whole cc0_scratch1) [(⟨Rect.unit ![8, 0] ![128, 1536] inb_S136x1536_S128x1536_8_0, w⟩ : View.Piece (Elt Ideal) S136x1536 .f32), (⟨Rect.unit ![0, 0] ![8, 1536] inb_S136x1536_S8x1536_0_0, k0_pay2 (F := Ideal)⟩ : View.Piece (Elt Ideal) S136x1536 .f32)] 8 inb_S136x1536_S128x1536_8_0]
def xB (A : FVec Ideal S136x1536 .f32) : Fin 4 → FVec Ideal S128x1536 .f32 :=
  ![View.ld (Val := Elt Ideal) (e' := .f32) (View.read (Elt Ideal) (View.whole cc0_scratch1) ((View.whole cc0_scratch1).writes (Elt Ideal) ((Memref.isWhole_whole cc0_scratch1).unread A) [(⟨Rect.unit ![8, 0] ![128, 1536] inb_S136x1536_S128x1536_8_0, w⟩ : View.Piece (Elt Ideal) S136x1536 .f32)])) (Rect.unit ![5, 0] ![128, 1536] inb_S136x1536_S128x1536_5_0),
    View.ld (Val := Elt Ideal) (e' := .f32) (View.read (Elt Ideal) (View.whole cc0_scratch1) ((View.whole cc0_scratch1).writes (Elt Ideal) ((Memref.isWhole_whole cc0_scratch1).unread A) [(⟨Rect.unit ![8, 0] ![128, 1536] inb_S136x1536_S128x1536_8_0, w⟩ : View.Piece (Elt Ideal) S136x1536 .f32)])) (Rect.unit ![6, 0] ![128, 1536] inb_S136x1536_S128x1536_6_0),
    View.ld (Val := Elt Ideal) (e' := .f32) (View.read (Elt Ideal) (View.whole cc0_scratch1) ((View.whole cc0_scratch1).writes (Elt Ideal) ((Memref.isWhole_whole cc0_scratch1).unread A) [(⟨Rect.unit ![8, 0] ![128, 1536] inb_S136x1536_S128x1536_8_0, w⟩ : View.Piece (Elt Ideal) S136x1536 .f32)])) (Rect.unit ![7, 0] ![128, 1536] inb_S136x1536_S128x1536_7_0),
    ldc (View.whole cc0_scratch1) [(⟨Rect.unit ![8, 0] ![128, 1536] inb_S136x1536_S128x1536_8_0, w⟩ : View.Piece (Elt Ideal) S136x1536 .f32)] 8 inb_S136x1536_S128x1536_8_0]

theorem rows3_of (n k : ℕ) (h : 3 ≤ n) : rows3 P n k = P (n - 3) (1024 + k) := if_neg (by omega)

include hw in
theorem cov_new {κ : Kind} {sp : Space} (v : View sig κ sp S136x1536 .f32) (L : List (View.Piece (Elt Ideal) S136x1536 .f32)) (o : ℕ) (n : Fin 2 → ℕ) (inb) (inb8)
    (y : (Rect.unit (s := S136x1536) ![o, 0] n inb).shape.Idx) (r : ℕ) (hr : r < 128) (k : Fin 1536) (e0 : o + (y 0).val = 8 + r) (e1 : (y 1).val = k.val) :
    v.readCov (Val := Elt Ideal) ((⟨Rect.unit ![8, 0] ![128, 1536] inb8, w⟩ : View.Piece (Elt Ideal) S136x1536 .f32) :: L) (Rect.unit ![o, 0] n inb).toLoadRect y
      = ((P (b + r) (1024 + k) : ℝ) : EReal) := by
  refine (rc_at v _ _ _ _ y (ix2 (⟨8 + r, by omega⟩ : Fin 136) k) (by intro a; fin_cases a <;> simp [ix2, e0, e1])).trans ?_
  refine (Cert.Pieces.canon_hit _ _ _ _ (ix2 (⟨r, hr⟩ : Fin 128) k) (by intro a; fin_cases a <;> simp [ix2])).trans ?_
  exact hw ⟨r, hr⟩ k

include hw in
theorem cov_row (hb : b = 0) {κ : Kind} {sp : Space} (v : View sig κ sp S136x1536 .f32) (o j : ℕ) (ho : o = 5 + j) (hj : j < 4) (inb) (inb8) (inb0) (i : Fin 128) (k : Fin 1536) :
    ldc v [(⟨Rect.unit ![8, 0] ![128, 1536] inb8, w⟩ : View.Piece (Elt Ideal) S136x1536 .f32), (⟨Rect.unit ![0, 0] ![8, 1536] inb0, k0_pay2 (F := Ideal)⟩ : View.Piece (Elt Ideal) S136x1536 .f32)]
      o inb (ix2 i k) = ((rows3 P (b + i + j) k : ℝ) : EReal) := by
  unfold ldc
  by_cases h : 8 ≤ 5 + j + i.val
  · refine (cov_new P b w hw v _ o ![128, 1536] inb inb8 (ix2 i k : S128x1536.Idx) (5 + j + i.val - 8) (by omega) k (show o + i.val = 8 + (5 + j + i.val - 8) by omega) rfl).trans ?_
    rw [rows3_of P _ _ (by omega), show b + (5 + j + i.val - 8) = b + i.val + j - 3 by omega]
  · refine (rc_at v _ ![o, 0] ![128, 1536] inb (ix2 i k : S128x1536.Idx) (ix2 (⟨5 + j + i.val, by omega⟩ : Fin 136) k) (by intro a; fin_cases a <;> simp [ix2, ho])).trans ?_
    refine (Cert.Pieces.canon_miss _ _ _ _ 0 (by simp [ix2]; omega)).trans ?_
    refine (Cert.Pieces.canon_hit _ _ _ _ (ix2 (⟨5 + j + i.val, by omega⟩ : Fin 8) k) (by intro a; fin_cases a <;> simp [ix2])).trans ?_
    rw [show rows3 P (b + i.val + j) k = 0 from if_pos (by omega)]
    pointwise [k0_pay2]
    rfl

include hw in
theorem xA_eq (hb : b = 0) (j : Fin 4) (i : Fin 128) (k : Fin 1536) : xA w j (ix2 i k) = ((rows3 P (b + i + j) k : ℝ) : EReal) := by
  revert j
  refine all4 ?_ ?_ ?_ ?_
  · simp only [xA, Matrix.cons_val_zero, Matrix.cons_val_one, Matrix.cons_val]
    exact cov_row P b w hw hb (View.whole cc0_scratch1) 5 0 rfl (by omega) inb_S136x1536_S128x1536_5_0 inb_S136x1536_S128x1536_8_0 inb_S136x1536_S8x1536_0_0 i k
  · simp only [xA, Matrix.cons_val_zero, Matrix.cons_val_one, Matrix.cons_val]
    exact cov_row P b w hw hb (View.whole cc0_scratch1) 6 1 rfl (by omega) inb_S136x1536_S128x1536_6_0 inb_S136x1536_S128x1536_8_0 inb_S136x1536_S8x1536_0_0 i k
  · simp only [xA, Matrix.cons_val_zero, Matrix.cons_val_one, Matrix.cons_val]
    exact cov_row P b w hw hb (View.whole cc0_scratch1) 7 2 rfl (by omega) inb_S136x1536_S128x1536_7_0 inb_S136x1536_S128x1536_8_0 inb_S136x1536_S8x1536_0_0 i k
  · simp only [xA, Matrix.cons_val_zero, Matrix.cons_val_one, Matrix.cons_val]
    exact cov_row P b w hw hb (View.whole cc0_scratch1) 8 3 rfl (by omega) inb_S136x1536_S128x1536_8_0 inb_S136x1536_S128x1536_8_0 inb_S136x1536_S8x1536_0_0 i k

variable (A : FVec Ideal S136x1536 .f32)
variable (hA : ∀ (r : Fin 136) (k : Fin 1536), 5 ≤ r.val → r.val < 8 → A (ix2 r k) = ((rows3 P (b + (r.val - 5)) k : ℝ) : EReal))

include hw hA in
theorem old_row (o j : ℕ) (ho : o = 5 + j) (hj : j < 4) (inb) (i : Fin 128) (k : Fin 1536) :
    View.ld (Val := Elt Ideal) (e' := .f32) (View.read (Elt Ideal) (View.whole cc0_scratch1) ((View.whole cc0_scratch1).writes (Elt Ideal) ((Memref.isWhole_whole cc0_scratch1).unread A)
      [⟨Rect.unit ![8, 0] ![128, 1536] inb_S136x1536_S128x1536_8_0, w⟩])) (Rect.unit ![o, 0] ![128, 1536] inb) (ix2 i k : S128x1536.Idx) = ((rows3 P (b + i + j) k : ℝ) : EReal) := by
  refine (View.ld_unit_apply_of _ _ _ _ (ix2 i k : S128x1536.Idx) (ix2 (⟨5 + j + i.val, by omega⟩ : Fin 136) k) (by intro a; fin_cases a <;> simp [ix2, ho])).trans ?_
  by_cases h : 8 ≤ 5 + j + i.val
  · refine (View.read_writes_cons_unit_of_mem _ _ _ _ _ _ (ix2 (⟨5 + j + i.val - 8, by omega⟩ : Fin 128) k) rfl (by intro a; fin_cases a <;> simp [ix2]; omega)).trans ?_
    refine (hw _ k).trans ?_
    rw [rows3_of P _ _ (by omega)]
    exact congrArg (fun n => ((P n (1024 + k) : ℝ) : EReal)) (show b + (5 + j + i.val - 8) = b + i.val + j - 3 by omega)
  · refine (View.read_writes_cons_unit_of_not_mem _ _ _ _ _ _ rfl 0 (Or.inl (show 5 + j + i.val < 8 by omega))).trans ?_
    rw [View.writes_nil]
    refine (congrFun (Memref.IsWhole.read_unread (Memref.isWhole_whole cc0_scratch1) _) _).trans ?_
    refine (hA _ k (by simp; omega) (by simp; omega)).trans ?_
    exact congrArg (fun n => ((rows3 P n k : ℝ) : EReal)) (show b + (5 + j + i.val - 5) = b + i.val + j by omega)

include hw hA in
theorem xB_eq (j : Fin 4) (i : Fin 128) (k : Fin 1536) : xB w A j (ix2 i k) = ((rows3 P (b + i + j) k : ℝ) : EReal) := by
  revert j
  refine all4 ?_ ?_ ?_ ?_
  · simp only [xB, Matrix.cons_val_zero, Matrix.cons_val_one, Matrix.cons_val]
    exact old_row P b w hw A hA 5 0 rfl (by omega) inb_S136x1536_S128x1536_5_0 i k
  · simp only [xB, Matrix.cons_val_zero, Matrix.cons_val_one, Matrix.cons_val]
    exact old_row P b w hw A hA 6 1 rfl (by omega) inb_S136x1536_S128x1536_6_0 i k
  · simp only [xB, Matrix.cons_val_zero, Matrix.cons_val_one, Matrix.cons_val]
    exact old_row P b w hw A hA 7 2 rfl (by omega) inb_S136x1536_S128x1536_7_0 i k
  · simp only [xB, ldc, Matrix.cons_val_zero, Matrix.cons_val_one, Matrix.cons_val]
    refine (cov_new P b w hw (View.whole cc0_scratch1) [] 8 ![128, 1536] inb_S136x1536_S128x1536_8_0 inb_S136x1536_S128x1536_8_0 (ix2 i k : S128x1536.Idx) i.val i.isLt k rfl rfl).trans ?_
    rw [rows3_of P _ _ (by simp)]
    exact congrArg (fun n => ((P n (1024 + k) : ℝ) : EReal)) (show b + i.val = b + i.val + 3 - 3 by omega)

end Rows

/-- The state as the block before left it. -/
def sB0 (A : FVec Ideal S4x128x128 .f32) : FVec Ideal S4x128x128 .f32 :=
  View.read (Elt Ideal) (View.whole cc0_scratch0) ((Memref.isWhole_whole cc0_scratch0).unread A)

theorem sB0_eq (A : FVec Ideal S4x128x128 .f32) : sB0 A = A := Memref.IsWhole.read_unread (Memref.isWhole_whole cc0_scratch0) _

/-- The place of a head's column. -/
def hcol (h : Fin 4) (d : Fin 128) : Fin 512 := ⟨128 * h + d, by omega⟩
def gcol (h : Fin 4) (d : Fin 128) : Fin 1024 := ⟨128 * h + d, by omega⟩
def zcol (h : Fin 4) (d : Fin 128) : Fin 1024 := ⟨512 + 128 * h + d, by omega⟩

end Cert.Mix
-- ==== Proof.MixRun.lean ====
/- The points of the mixer kernel: what each leaves in its blocks and in the two carried buffers. -/
module

public import proofs.«01_k».proof.Defs
public import proofs.«01_k».proof.Proof.MixSpec
public import proofs.«01_k».proof.Proof.MixRows
public import proofs.«01_k».proof.Proof.Gen.MixKernelIdeal.Skeleton
public import proofs.«01_k».proof.Proof.Gen.MixKernelIdeal.Frame
public import Idealize.ShloMosaic.Lib.Pointwise
public import Idealize.ShloMosaic.Lib.Pipeline.Value
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

variable (m : (ℓ : Loc nD τ sig) → Buf (Elt Ideal) ℓ) (c : Dev nD)
variable (P : ℕ → ℕ → ℝ) (lg lb : ℕ → ℝ) (W : Fin 4 → Fin 128 → Fin 128 → ℝ) (SB : Fin 4 → Fin 128 → ℝ)
variable (cw : Fin 4 → ℕ → ℝ) (al dt : Fin 4 → ℝ) (ng : Fin 128 → ℝ)
variable (hp : ∀ (t : Fin cfg0.N) (i : Fin 128) (k : Fin 3200), k.val < 3080 → (iblk m c 0 t : FVec Ideal S128x3200 .f32) (ix2 i k) = ((P (128 * t.val + i) k : ℝ) : EReal))
variable (hlg : ∀ (t : Fin cfg0.N) (k : Fin 512), (iblk m c 1 t : FVec Ideal S1x8x512 .f32) (ix3 0 0 k) = ((lg k : ℝ) : EReal))
variable (hlb : ∀ (t : Fin cfg0.N) (k : Fin 512), (iblk m c 1 t : FVec Ideal S1x8x512 .f32) (ix3 0 1 k) = ((lb k : ℝ) : EReal))
variable (hW : ∀ (t : Fin cfg0.N) h i j, (iblk m c 2 t : FVec Ideal S1x4x128x128 .f32) (ix4 0 h i j) = ((W h i j : ℝ) : EReal))
variable (hsb : ∀ (t : Fin cfg0.N) (h : Fin 4) (i : Fin 128), (iblk m c 3 t : FVec Ideal S1x128x128 .f32) (ix3 0 i ⟨h, f0 h⟩) = ((SB h i : ℝ) : EReal))
variable (hcw : ∀ (t : Fin cfg0.N) (j : Fin 4) (k : Fin 1536), (iblk m c 4 t : FVec Ideal S1x8x1536 .f32) (ix3 0 ⟨j, f8 j⟩ k) = ((cw j k : ℝ) : EReal))
variable (hal : ∀ (t : Fin cfg0.N) (h : Fin 4), (iblk m c 5 t : FVec Ideal S1x8x128 .f32) (ix3 0 0 ⟨4 + h, f4 h⟩) = ((al h : ℝ) : EReal))
variable (hdt : ∀ (t : Fin cfg0.N) (h : Fin 4), (iblk m c 5 t : FVec Ideal S1x8x128 .f32) (ix3 0 1 ⟨4 + h, f4 h⟩) = ((dt h : ℝ) : EReal))
variable (hng : ∀ (t : Fin cfg0.N) (k : Fin 128), (iblk m c 5 t : FVec Ideal S1x8x128 .f32) (ix3 0 2 k) = ((ng k : ℝ) : EReal))
variable (t : Fin cfg0.N) (S : Fin 4 → Fin 128 → Fin 128 → ℝ)

include hp in
theorem w15 (r : Fin 128) (k : Fin 1536) : ((k0_pay15 (View.ld (Val := Elt Ideal) (e' := .f32) (iblk m c 0 t) (Rect.unit ![0, 1024] ![128, 1536] inb_S128x3200_S128x1536_0_1024))) : FVec Ideal S128x1536 .f32) (ix2 r k) = ((P (128 * t.val + r) (1024 + k) : ℝ) : EReal) := by
  have e : ∀ X : FVec Ideal S128x1536 .f32, k0_pay15 (F := Ideal) X (ix2 r k) = X (ix2 r k) := fun X => by pointwise [k0_pay15]
  exact (e _).trans (p_at (iblk m c 0 t) P (128 * t.val) (hp t) _ _ _ _ r (1024 + k) r.isLt (by omega) rfl rfl)

theorem z1 (h : Fin 4) (a d : Fin 128) : k0_pay1 (F := Ideal) (ix3 h a d) = ((0 : ℝ) : EReal) := by
  pointwise [k0_pay1]
  rfl

set_option maxHeartbeats 1000000 in
include hp hcw hal hdt in
theorem pt_stA (h0 : t.val % 32 = 0)
    (h : Fin 4) (a d : Fin 128) : (outsAt0 m c t.val t.isLt).2.2.2.2.2.2.2.1 (ix3 h a d) = ((sR P cw al dt h (128 * t.val) ((fun _ _ _ => 0) h) 128 a d : ℝ) : EReal) := by
  rw [outsAt0_A m c t h0]
  frame_out
  have hb : 128 * t.val = 0 := by have h : t.val < 32 := lt_of_lt_of_eq t.isLt N_0; omega
  have key := sB_eq (iblk m c 0 t) (iblk m c 4 t) (iblk m c 5 t) (xA (k0_pay15 (View.ld (Val := Elt Ideal) (e' := .f32) (iblk m c 0 t) (Rect.unit ![0, 1024] ![128, 1536] inb_S128x3200_S128x1536_0_1024)))) k0_pay1 (mmB (ms0_8 t).view (iblk m c 0 t) (iblk m c 4 t) (iblk m c 5 t) (xA (k0_pay15 (View.ld (Val := Elt Ideal) (e' := .f32) (iblk m c 0 t) (Rect.unit ![0, 1024] ![128, 1536] inb_S128x3200_S128x1536_0_1024))))) P cw al dt (128 * t.val) (fun _ _ _ => 0) (hp t) (hcw t) (hal t) (hdt t) (xA_eq P _ _ (w15 m c P hp t) hb) (fun h a d => z1 h a d) (mmB_eq _ _ _ _ _ P cw al dt _ (hp t) (hcw t) (hal t) (hdt t) (xA_eq P _ _ (w15 m c P hp t) hb))
  revert h
  refine all4 ?_ ?_ ?_ ?_
  · refine (Cert.Pieces.canon_miss _ _ _ _ 0 (by simp [ix3, hcol])).trans ?_
    refine (Cert.Pieces.canon_miss _ _ _ _ 0 (by simp [ix3, hcol])).trans ?_
    refine (Cert.Pieces.canon_miss _ _ _ _ 0 (by simp [ix3, hcol])).trans ?_
    refine (Cert.Pieces.canon_hit _ _ _ _ (ix3 0 a d) (by intro a; fin_cases a <;> simp [ix3, hcol])).trans ?_
    have k := key 0 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 0 (by simp [ix3, hcol])).trans ?_
    refine (Cert.Pieces.canon_miss _ _ _ _ 0 (by simp [ix3, hcol])).trans ?_
    refine (Cert.Pieces.canon_hit _ _ _ _ (ix3 0 a d) (by intro a; fin_cases a <;> simp [ix3, hcol])).trans ?_
    have k := key 1 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 0 (by simp [ix3, hcol])).trans ?_
    refine (Cert.Pieces.canon_hit _ _ _ _ (ix3 0 a d) (by intro a; fin_cases a <;> simp [ix3, hcol])).trans ?_
    have k := key 2 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_hit _ _ _ _ (ix3 0 a d) (by intro a; fin_cases a <;> simp [ix3, hcol])).trans ?_
    have k := key 3 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp hcw hal hdt in
theorem pt_oA (h0 : t.val % 32 = 0)
    (h : Fin 4) (i d : Fin 128) : (outsAt0 m c t.val t.isLt).2.2.2.2.2.1 (ix2 i (hcol h d)) = ((oR P cw al dt h ((128 * t.val) + i) (sR P cw al dt h (128 * t.val) ((fun _ _ _ => 0) h) i) d : ℝ) : EReal) := by
  rw [outsAt0_A m c t h0]
  frame_out
  have hb : 128 * t.val = 0 := by have h : t.val < 32 := lt_of_lt_of_eq t.isLt N_0; omega
  have key := oB_eq (iblk m c 0 t) (iblk m c 4 t) (iblk m c 5 t) (xA (k0_pay15 (View.ld (Val := Elt Ideal) (e' := .f32) (iblk m c 0 t) (Rect.unit ![0, 1024] ![128, 1536] inb_S128x3200_S128x1536_0_1024)))) k0_pay1 (mmB (ms0_8 t).view (iblk m c 0 t) (iblk m c 4 t) (iblk m c 5 t) (xA (k0_pay15 (View.ld (Val := Elt Ideal) (e' := .f32) (iblk m c 0 t) (Rect.unit ![0, 1024] ![128, 1536] inb_S128x3200_S128x1536_0_1024))))) P cw al dt (128 * t.val) (fun _ _ _ => 0) (hp t) (hcw t) (hal t) (hdt t) (xA_eq P _ _ (w15 m c P hp t) hb) (fun h a d => z1 h a d) (mmB_eq _ _ _ _ _ P cw al dt _ (hp t) (hcw t) (hal t) (hdt t) (xA_eq P _ _ (w15 m c P hp t) hb))
  revert h
  refine all4 ?_ ?_ ?_ ?_
  · refine (Cert.Pieces.canon_miss _ _ _ _ 1 (by simp [ix2, hcol] <;> omega)).trans ?_
    refine (Cert.Pieces.canon_miss _ _ _ _ 1 (by simp [ix2, hcol] <;> omega)).trans ?_
    refine (Cert.Pieces.canon_miss _ _ _ _ 1 (by simp [ix2, hcol] <;> omega)).trans ?_
    refine (Cert.Pieces.canon_hit _ _ _ _ (ix2 i d) (by intro a; fin_cases a <;> simp [ix2, hcol])).trans ?_
    have k := key 0 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, hcol] <;> omega)).trans ?_
    refine (Cert.Pieces.canon_miss _ _ _ _ 1 (by simp [ix2, hcol] <;> omega)).trans ?_
    refine (Cert.Pieces.canon_hit _ _ _ _ (ix2 i d) (by intro a; fin_cases a <;> simp [ix2, hcol])).trans ?_
    have k := key 1 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, hcol] <;> omega)).trans ?_
    refine (Cert.Pieces.canon_hit _ _ _ _ (ix2 i d) (by intro a; fin_cases a <;> simp [ix2, hcol])).trans ?_
    have k := key 2 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_hit _ _ _ _ (ix2 i d) (by intro a; fin_cases a <;> simp [ix2, hcol])).trans ?_
    have k := key 3 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp hcw hal hdt hng in
theorem pt_zA (h0 : t.val % 32 = 0)
    (h : Fin 4) (i d : Fin 128) : (outsAt0 m c t.val t.isLt).1 (ix2 i (zcol h d)) = ((zRow (oR P cw al dt h ((128 * t.val) + i) (sR P cw al dt h (128 * t.val) ((fun _ _ _ => 0) h) i)) (ng d) (P ((128 * t.val) + i) (2560 + 128 * h + d)) d : ℝ) : EReal) := by
  rw [outsAt0_A m c t h0]
  frame_out
  have hb : 128 * t.val = 0 := by have h : t.val < 32 := lt_of_lt_of_eq t.isLt N_0; omega
  have key := zB_eq (iblk m c 0 t) (iblk m c 4 t) (iblk m c 5 t) (xA (k0_pay15 (View.ld (Val := Elt Ideal) (e' := .f32) (iblk m c 0 t) (Rect.unit ![0, 1024] ![128, 1536] inb_S128x3200_S128x1536_0_1024)))) k0_pay1 (mmB (ms0_8 t).view (iblk m c 0 t) (iblk m c 4 t) (iblk m c 5 t) (xA (k0_pay15 (View.ld (Val := Elt Ideal) (e' := .f32) (iblk m c 0 t) (Rect.unit ![0, 1024] ![128, 1536] inb_S128x3200_S128x1536_0_1024))))) P cw al dt ng (128 * t.val) (fun _ _ _ => 0) (hp t) (hcw t) (hal t) (hdt t) (hng t) (xA_eq P _ _ (w15 m c P hp t) hb) (fun h a d => z1 h a d) (mmB_eq _ _ _ _ _ P cw al dt _ (hp t) (hcw t) (hal t) (hdt t) (xA_eq P _ _ (w15 m c P hp t) hb))
  revert h
  refine all4 ?_ ?_ ?_ ?_
  · refine (Cert.Pieces.canon_miss _ _ _ _ 1 (by simp [ix2, zcol] <;> omega)).trans ?_
    refine (Cert.Pieces.canon_miss _ _ _ _ 1 (by simp [ix2, zcol] <;> omega)).trans ?_
    refine (Cert.Pieces.canon_miss _ _ _ _ 1 (by simp [ix2, zcol] <;> omega)).trans ?_
    refine (Cert.Pieces.canon_hit _ _ _ _ (ix2 i d) (by intro a; fin_cases a <;> simp [ix2, zcol])).trans ?_
    have k := key 0 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, zcol] <;> omega)).trans ?_
    refine (Cert.Pieces.canon_miss _ _ _ _ 1 (by simp [ix2, zcol] <;> omega)).trans ?_
    refine (Cert.Pieces.canon_hit _ _ _ _ (ix2 i d) (by intro a; fin_cases a <;> simp [ix2, zcol])).trans ?_
    have k := key 1 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, zcol] <;> omega)).trans ?_
    refine (Cert.Pieces.canon_hit _ _ _ _ (ix2 i d) (by intro a; fin_cases a <;> simp [ix2, zcol])).trans ?_
    have k := key 2 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_hit _ _ _ _ (ix2 i d) (by intro a; fin_cases a <;> simp [ix2, zcol])).trans ?_
    have k := key 3 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp hlg hlb hW hsb in
theorem pt_gA (h0 : t.val % 32 = 0)
    (h : Fin 4) (i d : Fin 128) : (outsAt0 m c t.val t.isLt).1 (ix2 i (gcol h d)) = ((sgu P lg lb W SB (128 * t.val) h i d : ℝ) : EReal) := by
  rw [outsAt0_A m c t h0]
  frame_out
  have hb : 128 * t.val = 0 := by have h : t.val < 32 := lt_of_lt_of_eq t.isLt N_0; omega
  have key := gB_eq (iblk m c 0 t) (iblk m c 1 t) (iblk m c 2 t) (iblk m c 3 t) P lg lb W SB (128 * t.val) (hp t) (hlg t) (hlb t) (hW t) (hsb t)
  revert h
  refine all4 ?_ ?_ ?_ ?_
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 0 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 1 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 2 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 3 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp in
theorem pt_xbA (h0 : t.val % 32 = 0) (r : Fin 136) (k : Fin 1536) (h5 : 5 ≤ r.val) (h8 : r.val < 8) :
    (outsAt0 m c t.val t.isLt).2.2.2.2.2.2.2.2 (ix2 r k) = ((rows3 P (128 * (t.val + 1) + (r.val - 5)) k : ℝ) : EReal) := by
  rw [outsAt0_A m c t h0]
  frame_out
  refine (Cert.Pieces.canon_hit _ _ _ _ (ix2 (⟨r.val, h8⟩ : Fin 8) k) (by intro a; fin_cases a <;> simp [ix2])).trans ?_
  have e : ∀ X : FVec Ideal S8x1536 .f32, k0_pay20 (F := Ideal) X (ix2 (⟨r.val, h8⟩ : Fin 8) k) = X (ix2 (⟨r.val, h8⟩ : Fin 8) k) := fun X => by pointwise [k0_pay20]
  refine (e _).trans ?_
  refine (cov_new P (128 * t.val) _ (w15 m c P hp t) _ _ 128 _ _ _ _ (120 + r.val) (by omega) k (by simp [ix2]; omega) rfl).trans ?_
  rw [rows3_of P _ _ (by omega), show 128 * t.val + (120 + r.val) = 128 * (t.val + 1) + (r.val - 5) - 3 by omega]

set_option maxHeartbeats 1000000 in
include hp hcw hal hdt in
theorem pt_stB (h0 : ¬t.val % 32 = 0)
    (hS : ∀ h a d, (outsAt0 m c (t.val - 1) (Nat.lt_of_le_of_lt (Nat.sub_le _ _) t.isLt)).2.2.2.2.2.2.2.1 (ix3 h a d) = ((S h a d : ℝ) : EReal))
    (hX : ∀ (r : Fin 136) (k : Fin 1536), 5 ≤ r.val → r.val < 8 → (outsAt0 m c (t.val - 1) (Nat.lt_of_le_of_lt (Nat.sub_le _ _) t.isLt)).2.2.2.2.2.2.2.2 (ix2 r k) = ((rows3 P (128 * t.val + (r.val - 5)) k : ℝ) : EReal))
    (h : Fin 4) (a d : Fin 128) : (outsAt0 m c t.val t.isLt).2.2.2.2.2.2.2.1 (ix3 h a d) = ((sR P cw al dt h (128 * t.val) (S h) 128 a d : ℝ) : EReal) := by
  rw [outsAt0_B m c t h0]
  frame_out
  have key := sB_eq (iblk m c 0 t) (iblk m c 4 t) (iblk m c 5 t) (xB (k0_pay15 (View.ld (Val := Elt Ideal) (e' := .f32) (iblk m c 0 t) (Rect.unit ![0, 1024] ![128, 1536] inb_S128x3200_S128x1536_0_1024))) (outsAt0 m c (t.val - 1) (Nat.lt_of_le_of_lt (Nat.sub_le _ _) t.isLt)).2.2.2.2.2.2.2.2) (sB0 (outsAt0 m c (t.val - 1) (Nat.lt_of_le_of_lt (Nat.sub_le _ _) t.isLt)).2.2.2.2.2.2.2.1) (mmB (ms0_8 t).view (iblk m c 0 t) (iblk m c 4 t) (iblk m c 5 t) (xB (k0_pay15 (View.ld (Val := Elt Ideal) (e' := .f32) (iblk m c 0 t) (Rect.unit ![0, 1024] ![128, 1536] inb_S128x3200_S128x1536_0_1024))) (outsAt0 m c (t.val - 1) (Nat.lt_of_le_of_lt (Nat.sub_le _ _) t.isLt)).2.2.2.2.2.2.2.2)) P cw al dt (128 * t.val) S (hp t) (hcw t) (hal t) (hdt t) (xB_eq P _ _ (w15 m c P hp t) _ hX) (fun h a d => (congrFun (sB0_eq _) _).trans (hS h a d)) (mmB_eq _ _ _ _ _ P cw al dt _ (hp t) (hcw t) (hal t) (hdt t) (xB_eq P _ _ (w15 m c P hp t) _ hX))
  revert h
  refine all4 ?_ ?_ ?_ ?_
  · refine (Cert.Pieces.canon_miss _ _ _ _ 0 (by simp [ix3, hcol])).trans ?_
    refine (Cert.Pieces.canon_miss _ _ _ _ 0 (by simp [ix3, hcol])).trans ?_
    refine (Cert.Pieces.canon_miss _ _ _ _ 0 (by simp [ix3, hcol])).trans ?_
    refine (Cert.Pieces.canon_hit _ _ _ _ (ix3 0 a d) (by intro a; fin_cases a <;> simp [ix3, hcol])).trans ?_
    have k := key 0 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 0 (by simp [ix3, hcol])).trans ?_
    refine (Cert.Pieces.canon_miss _ _ _ _ 0 (by simp [ix3, hcol])).trans ?_
    refine (Cert.Pieces.canon_hit _ _ _ _ (ix3 0 a d) (by intro a; fin_cases a <;> simp [ix3, hcol])).trans ?_
    have k := key 1 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 0 (by simp [ix3, hcol])).trans ?_
    refine (Cert.Pieces.canon_hit _ _ _ _ (ix3 0 a d) (by intro a; fin_cases a <;> simp [ix3, hcol])).trans ?_
    have k := key 2 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_hit _ _ _ _ (ix3 0 a d) (by intro a; fin_cases a <;> simp [ix3, hcol])).trans ?_
    have k := key 3 a d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp hcw hal hdt in
theorem pt_oB (h0 : ¬t.val % 32 = 0)
    (hS : ∀ h a d, (outsAt0 m c (t.val - 1) (Nat.lt_of_le_of_lt (Nat.sub_le _ _) t.isLt)).2.2.2.2.2.2.2.1 (ix3 h a d) = ((S h a d : ℝ) : EReal))
    (hX : ∀ (r : Fin 136) (k : Fin 1536), 5 ≤ r.val → r.val < 8 → (outsAt0 m c (t.val - 1) (Nat.lt_of_le_of_lt (Nat.sub_le _ _) t.isLt)).2.2.2.2.2.2.2.2 (ix2 r k) = ((rows3 P (128 * t.val + (r.val - 5)) k : ℝ) : EReal))
    (h : Fin 4) (i d : Fin 128) : (outsAt0 m c t.val t.isLt).2.2.2.2.2.1 (ix2 i (hcol h d)) = ((oR P cw al dt h ((128 * t.val) + i) (sR P cw al dt h (128 * t.val) (S h) i) d : ℝ) : EReal) := by
  rw [outsAt0_B m c t h0]
  frame_out
  have key := oB_eq (iblk m c 0 t) (iblk m c 4 t) (iblk m c 5 t) (xB (k0_pay15 (View.ld (Val := Elt Ideal) (e' := .f32) (iblk m c 0 t) (Rect.unit ![0, 1024] ![128, 1536] inb_S128x3200_S128x1536_0_1024))) (outsAt0 m c (t.val - 1) (Nat.lt_of_le_of_lt (Nat.sub_le _ _) t.isLt)).2.2.2.2.2.2.2.2) (sB0 (outsAt0 m c (t.val - 1) (Nat.lt_of_le_of_lt (Nat.sub_le _ _) t.isLt)).2.2.2.2.2.2.2.1) (mmB (ms0_8 t).view (iblk m c 0 t) (iblk m c 4 t) (iblk m c 5 t) (xB (k0_pay15 (View.ld (Val := Elt Ideal) (e' := .f32) (iblk m c 0 t) (Rect.unit ![0, 1024] ![128, 1536] inb_S128x3200_S128x1536_0_1024))) (outsAt0 m c (t.val - 1) (Nat.lt_of_le_of_lt (Nat.sub_le _ _) t.isLt)).2.2.2.2.2.2.2.2)) P cw al dt (128 * t.val) S (hp t) (hcw t) (hal t) (hdt t) (xB_eq P _ _ (w15 m c P hp t) _ hX) (fun h a d => (congrFun (sB0_eq _) _).trans (hS h a d)) (mmB_eq _ _ _ _ _ P cw al dt _ (hp t) (hcw t) (hal t) (hdt t) (xB_eq P _ _ (w15 m c P hp t) _ hX))
  revert h
  refine all4 ?_ ?_ ?_ ?_
  · refine (Cert.Pieces.canon_miss _ _ _ _ 1 (by simp [ix2, hcol] <;> omega)).trans ?_
    refine (Cert.Pieces.canon_miss _ _ _ _ 1 (by simp [ix2, hcol] <;> omega)).trans ?_
    refine (Cert.Pieces.canon_miss _ _ _ _ 1 (by simp [ix2, hcol] <;> omega)).trans ?_
    refine (Cert.Pieces.canon_hit _ _ _ _ (ix2 i d) (by intro a; fin_cases a <;> simp [ix2, hcol])).trans ?_
    have k := key 0 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, hcol] <;> omega)).trans ?_
    refine (Cert.Pieces.canon_miss _ _ _ _ 1 (by simp [ix2, hcol] <;> omega)).trans ?_
    refine (Cert.Pieces.canon_hit _ _ _ _ (ix2 i d) (by intro a; fin_cases a <;> simp [ix2, hcol])).trans ?_
    have k := key 1 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, hcol] <;> omega)).trans ?_
    refine (Cert.Pieces.canon_hit _ _ _ _ (ix2 i d) (by intro a; fin_cases a <;> simp [ix2, hcol])).trans ?_
    have k := key 2 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_hit _ _ _ _ (ix2 i d) (by intro a; fin_cases a <;> simp [ix2, hcol])).trans ?_
    have k := key 3 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp hcw hal hdt hng in
theorem pt_zB (h0 : ¬t.val % 32 = 0)
    (hS : ∀ h a d, (outsAt0 m c (t.val - 1) (Nat.lt_of_le_of_lt (Nat.sub_le _ _) t.isLt)).2.2.2.2.2.2.2.1 (ix3 h a d) = ((S h a d : ℝ) : EReal))
    (hX : ∀ (r : Fin 136) (k : Fin 1536), 5 ≤ r.val → r.val < 8 → (outsAt0 m c (t.val - 1) (Nat.lt_of_le_of_lt (Nat.sub_le _ _) t.isLt)).2.2.2.2.2.2.2.2 (ix2 r k) = ((rows3 P (128 * t.val + (r.val - 5)) k : ℝ) : EReal))
    (h : Fin 4) (i d : Fin 128) : (outsAt0 m c t.val t.isLt).1 (ix2 i (zcol h d)) = ((zRow (oR P cw al dt h ((128 * t.val) + i) (sR P cw al dt h (128 * t.val) (S h) i)) (ng d) (P ((128 * t.val) + i) (2560 + 128 * h + d)) d : ℝ) : EReal) := by
  rw [outsAt0_B m c t h0]
  frame_out
  have key := zB_eq (iblk m c 0 t) (iblk m c 4 t) (iblk m c 5 t) (xB (k0_pay15 (View.ld (Val := Elt Ideal) (e' := .f32) (iblk m c 0 t) (Rect.unit ![0, 1024] ![128, 1536] inb_S128x3200_S128x1536_0_1024))) (outsAt0 m c (t.val - 1) (Nat.lt_of_le_of_lt (Nat.sub_le _ _) t.isLt)).2.2.2.2.2.2.2.2) (sB0 (outsAt0 m c (t.val - 1) (Nat.lt_of_le_of_lt (Nat.sub_le _ _) t.isLt)).2.2.2.2.2.2.2.1) (mmB (ms0_8 t).view (iblk m c 0 t) (iblk m c 4 t) (iblk m c 5 t) (xB (k0_pay15 (View.ld (Val := Elt Ideal) (e' := .f32) (iblk m c 0 t) (Rect.unit ![0, 1024] ![128, 1536] inb_S128x3200_S128x1536_0_1024))) (outsAt0 m c (t.val - 1) (Nat.lt_of_le_of_lt (Nat.sub_le _ _) t.isLt)).2.2.2.2.2.2.2.2)) P cw al dt ng (128 * t.val) S (hp t) (hcw t) (hal t) (hdt t) (hng t) (xB_eq P _ _ (w15 m c P hp t) _ hX) (fun h a d => (congrFun (sB0_eq _) _).trans (hS h a d)) (mmB_eq _ _ _ _ _ P cw al dt _ (hp t) (hcw t) (hal t) (hdt t) (xB_eq P _ _ (w15 m c P hp t) _ hX))
  revert h
  refine all4 ?_ ?_ ?_ ?_
  · refine (Cert.Pieces.canon_miss _ _ _ _ 1 (by simp [ix2, zcol] <;> omega)).trans ?_
    refine (Cert.Pieces.canon_miss _ _ _ _ 1 (by simp [ix2, zcol] <;> omega)).trans ?_
    refine (Cert.Pieces.canon_miss _ _ _ _ 1 (by simp [ix2, zcol] <;> omega)).trans ?_
    refine (Cert.Pieces.canon_hit _ _ _ _ (ix2 i d) (by intro a; fin_cases a <;> simp [ix2, zcol])).trans ?_
    have k := key 0 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, zcol] <;> omega)).trans ?_
    refine (Cert.Pieces.canon_miss _ _ _ _ 1 (by simp [ix2, zcol] <;> omega)).trans ?_
    refine (Cert.Pieces.canon_hit _ _ _ _ (ix2 i d) (by intro a; fin_cases a <;> simp [ix2, zcol])).trans ?_
    have k := key 1 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, zcol] <;> omega)).trans ?_
    refine (Cert.Pieces.canon_hit _ _ _ _ (ix2 i d) (by intro a; fin_cases a <;> simp [ix2, zcol])).trans ?_
    have k := key 2 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_hit _ _ _ _ (ix2 i d) (by intro a; fin_cases a <;> simp [ix2, zcol])).trans ?_
    have k := key 3 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp hlg hlb hW hsb in
theorem pt_gB (h0 : ¬t.val % 32 = 0)
    (hS : ∀ h a d, (outsAt0 m c (t.val - 1) (Nat.lt_of_le_of_lt (Nat.sub_le _ _) t.isLt)).2.2.2.2.2.2.2.1 (ix3 h a d) = ((S h a d : ℝ) : EReal))
    (hX : ∀ (r : Fin 136) (k : Fin 1536), 5 ≤ r.val → r.val < 8 → (outsAt0 m c (t.val - 1) (Nat.lt_of_le_of_lt (Nat.sub_le _ _) t.isLt)).2.2.2.2.2.2.2.2 (ix2 r k) = ((rows3 P (128 * t.val + (r.val - 5)) k : ℝ) : EReal))
    (h : Fin 4) (i d : Fin 128) : (outsAt0 m c t.val t.isLt).1 (ix2 i (gcol h d)) = ((sgu P lg lb W SB (128 * t.val) h i d : ℝ) : EReal) := by
  rw [outsAt0_B m c t h0]
  frame_out
  have key := gB_eq (iblk m c 0 t) (iblk m c 1 t) (iblk m c 2 t) (iblk m c 3 t) P lg lb W SB (128 * t.val) (hp t) (hlg t) (hlb t) (hW t) (hsb t)
  revert h
  refine all4 ?_ ?_ ?_ ?_
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 0 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 1 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 2 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k
  · refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_miss _ _ _ _ 1 (by simp [ix2, gcol] <;> omega)).trans ?_
    refine (Cert.Pieces.canon_hit _ _ _ _ (ix2 i d) (by intro a; fin_cases a <;> simp [ix2, gcol])).trans ?_
    have k := key 3 i d
    simp only [sB, oB, zB, gB, mB, mmB, sV, oV, zV, sguV, mpv, b866, b850, b878, b809, b780, kn, qn, vv, bv, dmv, gav, glv, dev, kkv, aV, cwV, zzV, swV, xA, xB, ldc, sB0, triV, t541, t550, t551, t552, t568, t594, t597, t598, t616, t642, t645, t664, t690, t712, Matrix.cons_val_zero, Matrix.cons_val_one, Matrix.cons_val] at k
    exact k

set_option maxHeartbeats 1000000 in
include hp in
theorem pt_xbB (h0 : ¬t.val % 32 = 0) (r : Fin 136) (k : Fin 1536) (h5 : 5 ≤ r.val) (h8 : r.val < 8) :
    (outsAt0 m c t.val t.isLt).2.2.2.2.2.2.2.2 (ix2 r k) = ((rows3 P (128 * (t.val + 1) + (r.val - 5)) k : ℝ) : EReal) := by
  rw [outsAt0_B m c t h0]
  frame_out
  refine (Cert.Pieces.canon_hit _ _ _ _ (ix2 (⟨r.val, h8⟩ : Fin 8) k) (by intro a; fin_cases a <;> simp [ix2])).trans ?_
  have e : ∀ X : FVec Ideal S8x1536 .f32, k0_pay20 (F := Ideal) X (ix2 (⟨r.val, h8⟩ : Fin 8) k) = X (ix2 (⟨r.val, h8⟩ : Fin 8) k) := fun X => by pointwise [k0_pay20]
  refine (e _).trans ?_
  refine (cov_new P (128 * t.val) _ (w15 m c P hp t) _ _ 128 _ _ _ _ (120 + r.val) (by omega) k (by simp [ix2]; omega) rfl).trans ?_
  rw [rows3_of P _ _ (by omega), show 128 * t.val + (120 + r.val) = 128 * (t.val + 1) + (r.val - 5) - 3 by omega]

end Cert.Mix
-- ==== Proof.MixFinal.lean ====
/- The results of the mixer kernel, by the rows of the rule from the zero state. -/
module

public import proofs.«01_k».proof.Defs
public import proofs.«01_k».proof.Proof.MixSpec
public import proofs.«01_k».proof.Proof.MixRun
public import proofs.«01_k».proof.Proof.MixEntry
public import proofs.«01_k».proof.Proof.Gen.MixKernelIdeal.Skeleton
public import proofs.«01_k».proof.Proof.Gen.MixKernelIdeal.Frame
public import Idealize.ShloMosaic.Lib.Pointwise
public import Idealize.ShloMosaic.Lib.Pipeline.Value
public import Idealize.ShloMosaic.Lib.Pipeline.ValueKit

@[expose] public section

set_option maxRecDepth 16384
noncomputable section

namespace Cert.Mix

open Idealize.ShloMosaic Cert.Lift
open Cert.MixKernelIdeal Cert.MixKernelIdeal.Gen

/-! ## The results as rows -/

section Rows
variable (P : ℕ → ℕ → ℝ) (lg lb : ℕ → ℝ) (W : Fin 4 → Fin 128 → Fin 128 → ℝ) (SB : Fin 4 → Fin 128 → ℝ)
variable (cw : Fin 4 → ℕ → ℝ) (al dt : Fin 4 → ℝ) (ng : Fin 128 → ℝ)

/-- The state of a head after `n` rows. -/
def stD (h : Fin 4) (n : ℕ) : Fin 128 → Fin 128 → ℝ := sR P cw al dt h 0 (fun _ _ => 0) n
/-- The row of a head. -/
def oD (h : Fin 4) (n : ℕ) (d : Fin 128) : ℝ := oR P cw al dt h n (stD P cw al dt h n) d
def zD (h : Fin 4) (n : ℕ) (d : Fin 128) : ℝ := zRow (oD P cw al dt h n) (ng d) (P n (2560 + 128 * h + d)) d
def gD (h : Fin 4) (n : ℕ) (d : Fin 128) : ℝ := sgu P lg lb W SB (128 * (n / 128)) h ⟨n % 128, Nat.mod_lt _ (by decide)⟩ d

def lo (n : ℕ) : Fin 128 := ⟨n % 128, Nat.mod_lt _ (by decide)⟩
def hi (n : ℕ) : Fin 4 := ⟨n / 128 % 4, Nat.mod_lt _ (by decide)⟩

/-- The mixers' row. -/
def mixD (n k : ℕ) : ℝ := if k < 512 then gD P lg lb W SB (hi k) n (lo k) else zD P cw al dt ng (hi (k - 512)) n (lo (k - 512))
def orD (n k : ℕ) : ℝ := oD P cw al dt (hi k) n (lo k)

theorem lo_at (a : ℕ) (d : Fin 128) : lo (128 * a + d) = d := by
  apply Fin.ext; show (128 * a + d.val) % 128 = d.val; omega
theorem hi_at (h : Fin 4) (d : Fin 128) : hi (128 * h + d) = h := by
  apply Fin.ext; show (128 * h.val + d.val) / 128 % 4 = h.val; omega

theorem mixD_g (n : ℕ) (h : Fin 4) (d : Fin 128) : mixD P lg lb W SB cw al dt ng n (128 * h + d) = gD P lg lb W SB h n d := by
  unfold mixD; rw [if_pos (by omega), lo_at, hi_at]
theorem mixD_z (n : ℕ) (h : Fin 4) (d : Fin 128) : mixD P lg lb W SB cw al dt ng n (512 + 128 * h + d) = zD P cw al dt ng h n d := by
  unfold mixD; rw [if_neg (by omega), show 512 + 128 * h.val + d.val - 512 = 128 * h.val + d.val by omega, lo_at, hi_at]
theorem orD_at (n : ℕ) (h : Fin 4) (d : Fin 128) : orD P cw al dt n (128 * h + d) = oD P cw al dt h n d := by
  unfold orD; rw [lo_at, hi_at]

theorem col4 (k : Fin 512) : ∃ h d, k = hcol h d :=
  ⟨⟨k.val / 128, by omega⟩, ⟨k.val % 128, by omega⟩, Fin.ext (by show k.val = 128 * (k.val / 128) + k.val % 128; omega)⟩
theorem col8 (k : Fin 1024) : (∃ h d, k = gcol h d) ∨ ∃ h d, k = zcol h d := by
  by_cases hk : k.val < 512
  · exact .inl ⟨⟨k.val / 128, by omega⟩, ⟨k.val % 128, by omega⟩, Fin.ext (by show k.val = 128 * (k.val / 128) + k.val % 128; omega)⟩
  · exact .inr ⟨⟨(k.val - 512) / 128, by omega⟩, ⟨(k.val - 512) % 128, by omega⟩, Fin.ext (by show k.val = 512 + 128 * ((k.val - 512) / 128) + (k.val - 512) % 128; omega)⟩

theorem stD_add (h : Fin 4) (b n : ℕ) : sR P cw al dt h b (stD P cw al dt h b) n = stD P cw al dt h (b + n) := by
  have := stAt_add (ks (act P cw) h) (vs (act P cw) h) (rate P h) (lgate P al dt h) 0 (fun _ _ => 0) b n
  rw [Nat.zero_add] at this
  exact this
theorem stD_zero (h : Fin 4) : stD P cw al dt h 0 = fun _ _ => 0 := rfl
end Rows

variable (m : (ℓ : Loc nD τ sig) → Buf (Elt Ideal) ℓ) (c : Dev nD)
variable (P : ℕ → ℕ → ℝ) (lg lb : ℕ → ℝ) (W : Fin 4 → Fin 128 → Fin 128 → ℝ) (SB : Fin 4 → Fin 128 → ℝ)
variable (cw : Fin 4 → ℕ → ℝ) (al dt : Fin 4 → ℝ) (ng : Fin 128 → ℝ)
variable (hp : ∀ (t : Fin cfg0.N) (i : Fin 128) (k : Fin 3200), k.val < 3080 → (iblk m c 0 t : FVec Ideal S128x3200 .f32) (ix2 i k) = ((P (128 * t.val + i) k : ℝ) : EReal))
variable (hlg : ∀ (t : Fin cfg0.N) (k : Fin 512), (iblk m c 1 t : FVec Ideal S1x8x512 .f32) (ix3 0 0 k) = ((lg k : ℝ) : EReal))
variable (hlb : ∀ (t : Fin cfg0.N) (k : Fin 512), (iblk m c 1 t : FVec Ideal S1x8x512 .f32) (ix3 0 1 k) = ((lb k : ℝ) : EReal))
variable (hW : ∀ (t : Fin cfg0.N) h i j, (iblk m c 2 t : FVec Ideal S1x4x128x128 .f32) (ix4 0 h i j) = ((W h i j : ℝ) : EReal))
variable (hsb : ∀ (t : Fin cfg0.N) (h : Fin 4) (i : Fin 128), (iblk m c 3 t : FVec Ideal S1x128x128 .f32) (ix3 0 i ⟨h, f0 h⟩) = ((SB h i : ℝ) : EReal))
variable (hcw : ∀ (t : Fin cfg0.N) (j : Fin 4) (k : Fin 1536), (iblk m c 4 t : FVec Ideal S1x8x1536 .f32) (ix3 0 ⟨j, f8 j⟩ k) = ((cw j k : ℝ) : EReal))
variable (hal : ∀ (t : Fin cfg0.N) (h : Fin 4), (iblk m c 5 t : FVec Ideal S1x8x128 .f32) (ix3 0 0 ⟨4 + h, f4 h⟩) = ((al h : ℝ) : EReal))
variable (hdt : ∀ (t : Fin cfg0.N) (h : Fin 4), (iblk m c 5 t : FVec Ideal S1x8x128 .f32) (ix3 0 1 ⟨4 + h, f4 h⟩) = ((dt h : ℝ) : EReal))
variable (hng : ∀ (t : Fin cfg0.N) (k : Fin 128), (iblk m c 5 t : FVec Ideal S1x8x128 .f32) (ix3 0 2 k) = ((ng k : ℝ) : EReal))

include hp hcw hal hdt in
theorem carried (n : ℕ) (hn : n < cfg0.N) :
    (∀ h a d, (outsAt0 m c n hn).2.2.2.2.2.2.2.1 (ix3 h a d) = ((stD P cw al dt h (128 * (n + 1)) a d : ℝ) : EReal))
    ∧ ∀ (r : Fin 136) (k : Fin 1536), 5 ≤ r.val → r.val < 8 → (outsAt0 m c n hn).2.2.2.2.2.2.2.2 (ix2 r k) = ((rows3 P (128 * (n + 1) + (r.val - 5)) k : ℝ) : EReal) := by
  have h32 : n < 32 := lt_of_lt_of_eq hn N_0
  induction n with
  | zero =>
    refine ⟨fun h a d => ?_, fun r k h5 h8 => pt_xbA m c P hp ⟨0, hn⟩ rfl r k h5 h8⟩
    refine (pt_stA m c P cw al dt hp hcw hal hdt ⟨0, hn⟩ rfl h a d).trans ?_
    rfl
  | succ n ih =>
    have h0 : ¬ (n + 1) % 32 = 0 := by omega
    have ih := ih (by omega) (by omega)
    refine ⟨fun h a d => ?_, fun r k h5 h8 => pt_xbB m c P hp ⟨n + 1, hn⟩ h0 r k h5 h8⟩
    refine (pt_stB m c P cw al dt hp hcw hal hdt ⟨n + 1, hn⟩ (fun h => stD P cw al dt h (128 * (n + 1))) h0 ih.1 ih.2 h a d).trans ?_
    rw [stD_add]
    rfl

include hp hcw hal hdt in
theorem o_at (t : Fin cfg0.N) (h : Fin 4) (i d : Fin 128) : (outsAt0 m c t.val t.isLt).2.2.2.2.2.1 (ix2 i (hcol h d)) = ((oD P cw al dt h (128 * t.val + i) d : ℝ) : EReal) := by
  have h32 : t.val < 32 := lt_of_lt_of_eq t.isLt N_0
  by_cases h0 : t.val % 32 = 0
  · have hb : 128 * t.val = 0 := by omega
    refine (pt_oA m c P cw al dt hp hcw hal hdt t h0 h i d).trans ?_
    have k := stD_add P cw al dt h (128 * t.val) i
    rw [hb, stD_zero] at k
    rw [hb, k]
    rfl
  · have hc := carried m c P cw al dt hp hcw hal hdt (t.val - 1) (by omega)
    rw [show t.val - 1 + 1 = t.val by omega] at hc
    refine (pt_oB m c P cw al dt hp hcw hal hdt t (fun h => stD P cw al dt h (128 * t.val)) h0 hc.1 hc.2 h i d).trans ?_
    rw [stD_add]
    rfl

include hp hcw hal hdt hng in
theorem z_at (t : Fin cfg0.N) (h : Fin 4) (i d : Fin 128) : (outsAt0 m c t.val t.isLt).1 (ix2 i (zcol h d)) = ((zD P cw al dt ng h (128 * t.val + i) d : ℝ) : EReal) := by
  have h32 : t.val < 32 := lt_of_lt_of_eq t.isLt N_0
  by_cases h0 : t.val % 32 = 0
  · have hb : 128 * t.val = 0 := by omega
    refine (pt_zA m c P cw al dt ng hp hcw hal hdt hng t h0 h i d).trans ?_
    have k := stD_add P cw al dt h (128 * t.val) i
    rw [hb, stD_zero] at k
    rw [hb, k]
    rfl
  · have hc := carried m c P cw al dt hp hcw hal hdt (t.val - 1) (by omega)
    rw [show t.val - 1 + 1 = t.val by omega] at hc
    refine (pt_zB m c P cw al dt ng hp hcw hal hdt hng t (fun h => stD P cw al dt h (128 * t.val)) h0 hc.1 hc.2 h i d).trans ?_
    rw [stD_add]
    rfl

include hp hlg hlb hW hsb hcw hal hdt in
theorem g_at (t : Fin cfg0.N) (h : Fin 4) (i d : Fin 128) : (outsAt0 m c t.val t.isLt).1 (ix2 i (gcol h d)) = ((gD P lg lb W SB h (128 * t.val + i) d : ℝ) : EReal) := by
  have e : gD P lg lb W SB h (128 * t.val + i) d = sgu P lg lb W SB (128 * t.val) h i d := by
    unfold gD
    rw [show (128 * t.val + i.val) / 128 = t.val by omega, show (⟨(128 * t.val + i.val) % 128, Nat.mod_lt _ (by decide)⟩ : Fin 128) = i from Fin.ext (by show (128 * t.val + i.val) % 128 = i.val; omega)]
  rw [e]
  have h32 : t.val < 32 := lt_of_lt_of_eq t.isLt N_0
  by_cases h0 : t.val % 32 = 0
  · have hb : 128 * t.val = 0 := by omega
    exact pt_gA m c P lg lb W SB hp hlg hlb hW hsb t h0 h i d
  · have hc := carried m c P cw al dt hp hcw hal hdt (t.val - 1) (by omega)
    rw [show t.val - 1 + 1 = t.val by omega] at hc
    exact pt_gB m c P lg lb W SB hp hlg hlb hW hsb t (fun h => stD P cw al dt h (128 * t.val)) h0 hc.1 hc.2 h i d

/-! ## The arrays -/

/-- An array from its elements. -/
def arr6 (f : ℕ → ℕ → ℝ) (i : S4096x1024.Idx) : EReal := ((f (i 0).val (i 1).val : ℝ) : EReal)
def arr11 (f : ℕ → ℕ → ℝ) (i : S4096x512.Idx) : EReal := ((f (i 0).val (i 1).val : ℝ) : EReal)

include hp hlg hlb hW hsb hcw hal hdt hng in
theorem final6 : (dats m 0 c).arrAt 6 cfg0.N = arr6 (mixD P lg lb W SB cw al dt ng) := by
  refine (dats m 0 c).arrAt_eq_of_covers 6 _ (by decide +kernel) fun t _ y => ?_
  blk_simp
  rw [after0_6]
  idx_vars y
  have key : (outsAt0 m c t.val t.isLt).1 (ix2 y0 y1) = ((mixD P lg lb W SB cw al dt ng (128 * t.val + y0.val) y1.val : ℝ) : EReal) := by
    rcases col8 y1 with ⟨h, d, rfl⟩ | ⟨h, d, rfl⟩
    · exact (g_at m c P lg lb W SB cw al dt hp hlg hlb hW hsb hcw hal hdt t h y0 d).trans (congrArg _ (mixD_g P lg lb W SB cw al dt ng _ h d).symm)
    · exact (z_at m c P cw al dt ng hp hcw hal hdt hng t h y0 d).trans (congrArg _ (mixD_z P lg lb W SB cw al dt ng _ h d).symm)
  refine key.trans ?_
  generalize mixD P lg lb W SB cw al dt ng = A
  refine Eq.trans (b := arr6 A (ix2 (row t y0) y1)) rfl (congrArg (arr6 A) ?_)
  unfold row
  blk_ext [idx0 t]

include hp hcw hal hdt in
theorem final11 : (dats m 0 c).arrAt 11 cfg0.N = arr11 (orD P cw al dt) := by
  refine (dats m 0 c).arrAt_eq_of_covers 11 _ (by decide +kernel) fun t _ y => ?_
  blk_simp
  rw [after0_11]
  idx_vars y
  have key : (outsAt0 m c t.val t.isLt).2.2.2.2.2.1 (ix2 y0 y1) = ((orD P cw al dt (128 * t.val + y0.val) y1.val : ℝ) : EReal) := by
    obtain ⟨h, d, rfl⟩ := col4 y1
    exact (o_at m c P cw al dt hp hcw hal hdt t h y0 d).trans (congrArg _ (orD_at P cw al dt _ h d).symm)
  refine key.trans ?_
  generalize orD P cw al dt = A
  refine Eq.trans (b := arr11 A (ix2 (row t y0) y1)) rfl (congrArg (arr11 A) ?_)
  unfold row
  blk_ext [idx0 t]

end Cert.Mix
-- ==== Proof.MixRefIn.lean ====
/- The rows that the reference hands to its loop. -/
module

public import proofs.«01_k».proof.Defs
public import proofs.«01_k».proof.Proof.MixSpec
public import proofs.«01_k».proof.Proof.MixGate
public import proofs.«01_k».proof.Proof.Gen.MixReferenceIdeal.Run
public import Idealize.ShloMosaic.Lib.Pointwise
public import Idealize.ShloMosaic.Lib.Pipeline.ValueKit

@[expose] public section

set_option maxRecDepth 16384
noncomputable section

namespace Cert.MixRef

open Idealize.ShloMosaic Idealize.ShloMosaic.TcCoe Cert.Lift
open Cert.MixReferenceIdeal Cert.MixReferenceIdeal.Gen Cert.MixReferenceIdeal.Value
open Cert.Mix (rows3 cvr act qs ks vs rate lgate sgm silu softplus rn rn_real sig_real one_exp log_real max_real exp_real qsc qsc_f32 softplus_real absf_real)

/-! ## The operations before the loop -/

section Terms
variable (X0 : FVec Ideal S4096x3080 .f32) (X5 : FVec Ideal S4x1536 .f32) (X6 X7 : FVec Ideal S4 .f32)

def rPad : FVec Ideal S4099x1536 .f32 :=
  pad S4099x1536 ![3, 0] ![0, 0] ![0, 0] (extractStridedSlice S4096x1536 ![0, 1024] X0 slices_S4096x3080_S4096x1536_0_1024) (sitofp (F := Ideal) .f32 (constantI S_ 32 0#32)) pads_S4096x1536_S4099x1536_300_000 h_S_

def rConv (Z : FVec Ideal S4099x1536 .f32) : FVec Ideal S4096x1536 .f32 :=
  addf (addf (addf (mulf (broadcastInDim S4096x1536 ![0, 1] bcast_S1x1536_S4096x1536_0_1 (broadcastInDim S1x1536 ![1] bcast_S1536_S1x1536_1 (shapeCast S1536 (extractStridedSlice S1x1536 ![0, 0] X5 slices_S4x1536_S1x1536_0_0) shapeCasts_S1x1536_S1536))) (extractStridedSlice S4096x1536 ![0, 0] Z slices_S4099x1536_S4096x1536_0_0)) (mulf (broadcastInDim S4096x1536 ![0, 1] bcast_S1x1536_S4096x1536_0_1 (broadcastInDim S1x1536 ![1] bcast_S1536_S1x1536_1 (shapeCast S1536 (extractStridedSlice S1x1536 ![1, 0] X5 slices_S4x1536_S1x1536_1_0) shapeCasts_S1x1536_S1536))) (extractStridedSlice S4096x1536 ![1, 0] Z slices_S4099x1536_S4096x1536_1_0))) (mulf (broadcastInDim S4096x1536 ![0, 1] bcast_S1x1536_S4096x1536_0_1 (broadcastInDim S1x1536 ![1] bcast_S1536_S1x1536_1 (shapeCast S1536 (extractStridedSlice S1x1536 ![2, 0] X5 slices_S4x1536_S1x1536_2_0) shapeCasts_S1x1536_S1536))) (extractStridedSlice S4096x1536 ![2, 0] Z slices_S4099x1536_S4096x1536_2_0))) (mulf (broadcastInDim S4096x1536 ![0, 1] bcast_S1x1536_S4096x1536_0_1 (broadcastInDim S1x1536 ![1] bcast_S1536_S1x1536_1 (shapeCast S1536 (extractStridedSlice S1x1536 ![3, 0] X5 slices_S4x1536_S1x1536_3_0) shapeCasts_S1x1536_S1536))) (extractStridedSlice S4096x1536 ![3, 0] Z slices_S4099x1536_S4096x1536_3_0))

def rAct (C : FVec Ideal S4096x1536 .f32) : FVec Ideal S4096x1536 .f32 :=
  mulf C (Host.divf (broadcastInDim S4096x1536 ![] bcast_S_S4096x1536 (constant (F := Ideal) S_ .f32 0x3F800000#32)) (addf (broadcastInDim S4096x1536 ![] bcast_S_S4096x1536 (constant (F := Ideal) S_ .f32 0x3F800000#32)) (Host.exp (Host.negf C))))

def rUnit (H : FVec Ideal S4096x4x128 .f32) : FVec Ideal S4096x4x128 .f32 :=
  mulf H (broadcastInDim S4096x4x128 ![0, 1, 2] bcast_S4096x4x1_S4096x4x128_0_1_2 (Host.rsqrt (addf (broadcastInDim S4096x4x1 ![0, 1] bcast_S4096x4_S4096x4x1_0_1 (Host.reduceAdd (mulf H H) (constant (F := Ideal) S_ .f32 0x00000000#32) reducesTo_S4096x4x128_S4096x4_d2 h_S_)) (broadcastInDim S4096x4x1 ![] bcast_S_S4096x4x1 (constant (F := Ideal) S_ .f32 0x358637BD#32)))))

def rQ (A : FVec Ideal S4096x1536 .f32) : FVec Ideal S4096x4x128 .f32 :=
  mulf (rUnit (shapeCast S4096x4x128 (extractStridedSlice S4096x512 ![0, 0] A slices_S4096x1536_S4096x512_0_0) shapeCasts_S4096x512_S4096x4x128)) (broadcastInDim S4096x4x128 ![] bcast_S_S4096x4x128 (constant (F := Ideal) S_ .f32 0x3DB504F3#32))
def rK (A : FVec Ideal S4096x1536 .f32) : FVec Ideal S4096x4x128 .f32 :=
  rUnit (shapeCast S4096x4x128 (extractStridedSlice S4096x512 ![0, 512] A slices_S4096x1536_S4096x512_0_512) shapeCasts_S4096x512_S4096x4x128)
def rV (A : FVec Ideal S4096x1536 .f32) : FVec Ideal S4096x4x128 .f32 :=
  shapeCast S4096x4x128 (extractStridedSlice S4096x512 ![0, 1024] A slices_S4096x1536_S4096x512_0_1024) shapeCasts_S4096x512_S4096x4x128

def rB : FVec Ideal S4096x4 .f32 :=
  Host.divf (broadcastInDim S4096x4 ![] bcast_S_S4096x4 (constant (F := Ideal) S_ .f32 0x3F800000#32)) (addf (broadcastInDim S4096x4 ![] bcast_S_S4096x4 (constant (F := Ideal) S_ .f32 0x3F800000#32)) (Host.exp (Host.negf (extractStridedSlice S4096x4 ![0, 3072] X0 slices_S4096x3080_S4096x4_0_3072))))

def rD : FVec Ideal S4096x4 .f32 :=
  addf (extractStridedSlice S4096x4 ![0, 3076] X0 slices_S4096x3080_S4096x4_0_3076) (broadcastInDim S4096x4 ![0, 1] bcast_S1x4_S4096x4_0_1 (broadcastInDim S1x4 ![1] bcast_S4_S1x4_1 X7))

def zz : FVec Ideal S4096x4 .f32 := broadcastInDim S4096x4 ![] bcast_S_S4096x4 (constant (F := Ideal) S_ .f32 0x00000000#32)

def rSoft (D : FVec Ideal S4096x4 .f32) : FVec Ideal S4096x4 .f32 :=
  select (cmpf .une (subf D zz) (subf D zz)) (addf D zz) (addf (maximumf D zz) (Host.log1p (Host.exp (Host.negf (Host.absf (subf D zz))))))

def rG (D : FVec Ideal S4096x4 .f32) : FVec Ideal S4096x4 .f32 :=
  mulf (broadcastInDim S4096x4 ![0, 1] bcast_S1x4_S4096x4_0_1 (broadcastInDim S1x4 ![1] bcast_S4_S1x4_1 (Host.negf (Host.exp X6)))) (rSoft D)
end Terms

section Values
variable (P : ℕ → ℕ → ℝ) (cw : Fin 4 → ℕ → ℝ) (al dt : Fin 4 → ℝ)
variable (X0 : FVec Ideal S4096x3080 .f32) (X5 : FVec Ideal S4x1536 .f32) (X6 X7 : FVec Ideal S4 .f32)
variable (h0 : ∀ (n : Fin 4096) (k : Fin 3080), X0 (ix2 n k) = ((P n k : ℝ) : EReal))
variable (h5 : ∀ (j : Fin 4) (k : Fin 1536), X5 (ix2 j k) = ((cw j k : ℝ) : EReal))
variable (h6 : ∀ j, X6 (ix1 j) = ((al j : ℝ) : EReal)) (h7 : ∀ j, X7 (ix1 j) = ((dt j : ℝ) : EReal))

theorem sit0 : FloatOps.sitofp (F := Ideal) FTy.f32 (0#32 : BitVec 32) = ((0 : ℝ) : EReal) := by
  show (((0#32 : BitVec 32).toInt : ℝ) : EReal) = _
  simp

include h0 in
theorem rPad_at (n : Fin 4099) (k : Fin 1536) : rPad X0 (ix2 n k) = ((rows3 P n k : ℝ) : EReal) := by
  unfold rPad
  pointwise
  unfold rows3
  by_cases h : 3 ≤ n.val
  · rw [dif_pos (by omega), if_neg (by omega)]
    refine (h0 _ _).trans ?_
    rfl
  · rw [dif_neg (by omega), if_pos (by omega)]
    exact sit0

include h5 in
theorem rConv_at (Z : FVec Ideal S4099x1536 .f32) (hZ : ∀ (n : Fin 4099) (k : Fin 1536), Z (ix2 n k) = ((rows3 P n k : ℝ) : EReal)) (n : Fin 4096) (k : Fin 1536) :
    rConv X5 Z (ix2 n k) = ((cvr P cw n k : ℝ) : EReal) := by
  unfold rConv
  pointwise
  simp only [hZ, h5, ← EReal.coe_mul, ← EReal.coe_add]
  unfold cvr
  rw [Nat.add_comm 1 n.val, Nat.add_comm 2 n.val, Nat.add_comm 3 n.val]

theorem rAct_at (C : FVec Ideal S4096x1536 .f32) (f : ℕ → ℕ → ℝ) (hC : ∀ (n : Fin 4096) (k : Fin 1536), C (ix2 n k) = ((f n k : ℝ) : EReal)) (n : Fin 4096) (k : Fin 1536) :
    rAct C (ix2 n k) = ((silu (f n k) : ℝ) : EReal) := by
  unfold rAct
  pointwise [one_f32]
  simp only [hC, ← EReal.coe_neg, ← EReal.coe_one, sig_real, ← EReal.coe_mul]
  rfl

theorem rUnit_at (H : FVec Ideal S4096x4x128 .f32) (f : ℕ → Fin 4 → Fin 128 → ℝ) (hH : ∀ (n : Fin 4096) h d, H (ix3 n h d) = ((f n h d : ℝ) : EReal)) (n : Fin 4096) (h : Fin 4) (d : Fin 128) :
    rUnit H (ix3 n h d) = ((f n h d * rn (fun x => f n h x) : ℝ) : EReal) := by
  unfold rUnit
  pointwise [eps6_f32]
  simp only [hH, ← EReal.coe_mul, zero_add, coe_sum, rn_real (fun x => f n h x)]

section Heads
variable (A : FVec Ideal S4096x1536 .f32) (a : ℕ → ℕ → ℝ) (hA : ∀ (n : Fin 4096) (k : Fin 1536), A (ix2 n k) = ((a n k : ℝ) : EReal))

include hA in
theorem rQ_at (n : Fin 4096) (h : Fin 4) (d : Fin 128) : rQ A (ix3 n h d) = ((qs a h n d : ℝ) : EReal) := by
  unfold rQ
  pointwise [qsc_f32]
  rw [rUnit_at _ (fun n h d => a n (128 * h + d))]
  · rfl
  · intro n h d
    pointwise
    refine (hA _ _).trans ?_
    congr 2
    dsimp only
    omega

include hA in
theorem rK_at (n : Fin 4096) (h : Fin 4) (d : Fin 128) : rK A (ix3 n h d) = ((ks a h n d : ℝ) : EReal) := by
  unfold rK
  rw [rUnit_at _ (fun n h d => a n (512 + 128 * h + d))]
  · rfl
  · intro n h d
    pointwise
    refine (hA _ _).trans ?_
    congr 2
    dsimp only
    omega

include hA in
theorem rV_at (n : Fin 4096) (h : Fin 4) (d : Fin 128) : rV A (ix3 n h d) = ((vs a h n d : ℝ) : EReal) := by
  unfold rV
  pointwise
  refine (hA _ _).trans ?_
  unfold vs
  congr 2
  dsimp only
  omega
end Heads

include h0 in
theorem rB_at (n : Fin 4096) (h : Fin 4) : rB X0 (ix2 n h) = ((rate P h n : ℝ) : EReal) := by
  unfold rB
  pointwise [one_f32]
  simp only [h0, ← EReal.coe_neg, ← EReal.coe_one, sig_real]
  rfl

include h0 h7 in
theorem rD_at (n : Fin 4096) (h : Fin 4) : rD X0 X7 (ix2 n h) = ((P n (3076 + h) + dt h : ℝ) : EReal) := by
  unfold rD
  pointwise
  simp only [h0, h7, ← EReal.coe_add]

theorem rSoft_at (D : FVec Ideal S4096x4 .f32) (f : ℕ → Fin 4 → ℝ) (hD : ∀ (n : Fin 4096) h, D (ix2 n h) = ((f n h : ℝ) : EReal)) (n : Fin 4096) (h : Fin 4) :
    rSoft D (ix2 n h) = ((softplus (f n h) : ℝ) : EReal) := by
  unfold rSoft zz
  pointwise [zero_f32]
  simp only [hD, ← EReal.coe_sub, ← EReal.coe_add, sub_zero, add_zero, absf_real]
  rw [if_neg (fun h => h rfl)]
  exact softplus_real _

include h6 in
theorem rG_at (D : FVec Ideal S4096x4 .f32) (hD : ∀ (n : Fin 4096) h, D (ix2 n h) = ((P n (3076 + h) + dt h : ℝ) : EReal)) (n : Fin 4096) (h : Fin 4) :
    rG X6 D (ix2 n h) = ((lgate P al dt h n : ℝ) : EReal) := by
  unfold rG
  pointwise
  rw [rSoft_at D (fun n h => P n (3076 + h) + dt h) hD, h6, exp_real, ← EReal.coe_neg, ← EReal.coe_mul]
  rfl
end Values

/-! ## The loop's entry -/

section Entry
variable (m : (ℓ : Loc nD τ sig) → Buf (Elt Ideal) ℓ) (c : Dev nD)
open StableHlo

/-- The rows of the convolution of the arguments, activated. -/
def actT : FVec Ideal S4096x1536 .f32 := rAct (rConv (m ((c.tc : Thread nD τ).loc main_arg5)) (rPad (m ((c.tc : Thread nD τ).loc main_arg0))))

set_option maxHeartbeats 4000000 in
theorem in0 : entryContents preI m c (Proc.devRef .tc main_v73_0) = (rQ (actT m c) : FVec Ideal S4096x4x128 .f32) := by
  simp only [entryContents, afterL_cons, afterL_nil]
  after_reads_simp
  rfl

set_option maxHeartbeats 4000000 in
theorem in1 : entryContents preI m c (Proc.devRef .tc main_v73_1) = (rK (actT m c) : FVec Ideal S4096x4x128 .f32) := by
  simp only [entryContents, afterL_cons, afterL_nil]
  after_reads_simp
  rfl

set_option maxHeartbeats 4000000 in
theorem in2 : entryContents preI m c (Proc.devRef .tc main_v73_2) = (rV (actT m c) : FVec Ideal S4096x4x128 .f32) := by
  simp only [entryContents, afterL_cons, afterL_nil]
  after_reads_simp
  rfl

set_option maxHeartbeats 4000000 in
theorem in3 : entryContents preI m c (Proc.devRef .tc main_v73_3) = (rG (m ((c.tc : Thread nD τ).loc main_arg6)) (rD (m ((c.tc : Thread nD τ).loc main_arg0)) (m ((c.tc : Thread nD τ).loc main_arg7))) : FVec Ideal S4096x4 .f32) := by
  simp only [entryContents, afterL_cons, afterL_nil]
  after_reads_simp
  rfl

set_option maxHeartbeats 4000000 in
theorem in4 : entryContents preI m c (Proc.devRef .tc main_v73_4) = (rB (m ((c.tc : Thread nD τ).loc main_arg0)) : FVec Ideal S4096x4 .f32) := by
  simp only [entryContents, afterL_cons, afterL_nil]
  after_reads_simp
  rfl

set_option maxHeartbeats 4000000 in
theorem in6 : entryContents preI m c (Proc.devRef .tc main_v73_6) = (broadcastInDim S4x128x128 ![] bcast_S_S4x128x128 (constant (F := Ideal) S_ .f32 0x00000000#32) : FVec Ideal S4x128x128 .f32) := by
  simp only [entryContents, afterL_cons, afterL_nil]
  after_reads_simp
  rfl

end Entry

end Cert.MixRef
-- ==== Proof.MixRefStep.lean ====
/- The rule of the reference, trip by trip. -/
module

public import proofs.«01_k».proof.Defs
public import proofs.«01_k».proof.Proof.MixSpec
public import proofs.«01_k».proof.Proof.MixGate
public import proofs.«01_k».proof.Proof.MixRefIn
public import proofs.«01_k».proof.Proof.MixFinal
public import proofs.«01_k».proof.Proof.Gen.MixReferenceIdeal.Run
public import Idealize.ShloMosaic.Lib.Pointwise
public import Idealize.ShloMosaic.Lib.Pipeline.ValueKit

@[expose] public section

set_option maxRecDepth 16384
noncomputable section

namespace Cert.MixRef

open Idealize.ShloMosaic Idealize.ShloMosaic.TcCoe Cert.Lift
open Cert.MixReferenceIdeal Cert.MixReferenceIdeal.Gen Cert.MixReferenceIdeal.Value
open Cert.Mix (rows3 cvr act qs ks vs rate lgate sgm silu softplus rn rn_real sig_real one_exp log_real max_real exp_real qsc qsc_f32 softplus_real absf_real)

open Cert.Mix (wrow next stAt oRow stD oD)

theorem toInt_at (k : ℕ) (hk : k < 4096) : (BitVec.ofNat 32 k).toInt = k := by
  rw [BitVec.toInt_eq_toNat_of_lt (by rw [BitVec.toNat_ofNat]; omega), BitVec.toNat_ofNat, Nat.mod_eq_of_lt (by omega)]

section Rows
variable (k : ℕ) (hk : k < 4096)

include hk in
theorem cl3 (st : Fin 3 → Int) (hs : S1x4x128.rank = S4096x4x128.rank) (h0 : st 0 = k) (h1 : st 1 = 0) (h2 : st 2 = 0) :
    Host.clampedStart S4096x4x128 S1x4x128 hs st 0 = k ∧ Host.clampedStart S4096x4x128 S1x4x128 hs st 1 = 0 ∧ Host.clampedStart S4096x4x128 S1x4x128 hs st 2 = 0 := by
  refine ⟨?_, ?_, ?_⟩
  · show (min (max (st 0) 0) ((4096 - 1 : ℕ) : Int)).toNat = k
    rw [h0]; omega
  · show (min (max (st 1) 0) ((4 - 4 : ℕ) : Int)).toNat = 0
    rw [h1]; omega
  · show (min (max (st 2) 0) ((128 - 128 : ℕ) : Int)).toNat = 0
    rw [h2]; omega

include hk in
theorem cl2 (st : Fin 2 → Int) (hs : S1x4.rank = S4096x4.rank) (h0 : st 0 = k) (h1 : st 1 = 0) :
    Host.clampedStart S4096x4 S1x4 hs st 0 = k ∧ Host.clampedStart S4096x4 S1x4 hs st 1 = 0 := by
  refine ⟨?_, ?_⟩
  · show (min (max (st 0) 0) ((4096 - 1 : ℕ) : Int)).toNat = k
    rw [h0]; omega
  · show (min (max (st 1) 0) ((4 - 4 : ℕ) : Int)).toNat = 0
    rw [h1]; omega

theorem sc3 (Y : FVec Ideal S1x4x128 .f32) (h : Fin 4) (d : Fin 128) : (shapeCast S4x128 Y shapeCasts_S1x4x128_S4x128 : FVec Ideal S4x128 .f32) (ix2 h d) = Y (ix3 0 h d) := by
  pointwise
theorem sc2 (Y : FVec Ideal S1x4 .f32) (h : Fin 4) : (shapeCast S4 Y shapeCasts_S1x4_S4 : FVec Ideal S4 .f32) (ix1 h) = Y (ix2 0 h) := by
  pointwise
theorem bc3 (u : FVec Ideal S4x128 .f32) (i : S1x4x128.Idx) : (broadcastInDim S1x4x128 ![1, 2] bcast_S4x128_S1x4x128_1_2 u : FVec Ideal S1x4x128 .f32) i = u (ix2 (i 1) (i 2)) := by
  rw [show i = ix3 (i 0) (i 1) (i 2) by funext k; fin_cases k <;> rfl]
  pointwise

include hk in
theorem dsl3 (X : FVec Ideal S4096x4x128 .f32) (st : Fin 3 → Int) (h0 : st 0 = k) (h1 : st 1 = 0) (h2 : st 2 = 0) (h : Fin 4) (d : Fin 128) :
    (shapeCast S4x128 (Host.dynamicSlice S1x4x128 X st sliceFits_S4096x4x128_S1x4x128) shapeCasts_S1x4x128_S4x128 : FVec Ideal S4x128 .f32) (ix2 h d) = X (ix3 ⟨k, hk⟩ h d) := by
  have e := cl3 k hk st sliceFits_S4096x4x128_S1x4x128.1 h0 h1 h2
  refine (sc3 _ h d).trans ((Host.dynamicSlice_apply _ _ _ _).trans (congrArg X ?_))
  funext a
  apply Fin.ext
  fin_cases a
  · show Host.clampedStart S4096x4x128 S1x4x128 sliceFits_S4096x4x128_S1x4x128.1 st 0 + 0 = k
    omega
  · show Host.clampedStart S4096x4x128 S1x4x128 sliceFits_S4096x4x128_S1x4x128.1 st 1 + h.val = h.val
    omega
  · show Host.clampedStart S4096x4x128 S1x4x128 sliceFits_S4096x4x128_S1x4x128.1 st 2 + d.val = d.val
    omega

include hk in
theorem dsl2 (X : FVec Ideal S4096x4 .f32) (st : Fin 2 → Int) (h0 : st 0 = k) (h1 : st 1 = 0) (h : Fin 4) :
    (shapeCast S4 (Host.dynamicSlice S1x4 X st sliceFits_S4096x4_S1x4) shapeCasts_S1x4_S4 : FVec Ideal S4 .f32) (ix1 h) = X (ix2 ⟨k, hk⟩ h) := by
  have e := cl2 k hk st sliceFits_S4096x4_S1x4.1 h0 h1
  refine (sc2 _ h).trans ((Host.dynamicSlice_apply _ _ _ _).trans (congrArg X ?_))
  funext a
  apply Fin.ext
  fin_cases a
  · show Host.clampedStart S4096x4 S1x4 sliceFits_S4096x4_S1x4.1 st 0 + 0 = k
    omega
  · show Host.clampedStart S4096x4 S1x4 sliceFits_S4096x4_S1x4.1 st 1 + h.val = h.val
    omega

include hk in
theorem dus3 (X : FVec Ideal S4096x4x128 .f32) (u : FVec Ideal S4x128 .f32) (st : Fin 3 → Int) (h0 : st 0 = k) (h1 : st 1 = 0) (h2 : st 2 = 0) (n : Fin 4096) (h : Fin 4) (d : Fin 128) :
    (Host.dynamicUpdateSlice X (broadcastInDim S1x4x128 ![1, 2] bcast_S4x128_S1x4x128_1_2 u) st updateFits_S4096x4x128_S1x4x128 : FVec Ideal S4096x4x128 .f32) (ix3 n h d)
      = if n.val = k then u (ix2 h d) else X (ix3 n h d) := by
  have e := cl3 k hk st updateFits_S4096x4x128_S1x4x128.1 h0 h1 h2
  rw [Host.dynamicUpdateSlice_apply]
  by_cases hn : n.val = k
  · rw [dif_pos, if_pos hn]
    · refine (bc3 u _).trans (congrArg u ?_)
      funext a
      apply Fin.ext
      fin_cases a
      · show h.val - Host.clampedStart S4096x4x128 S1x4x128 updateFits_S4096x4x128_S1x4x128.1 st 1 = h.val
        omega
      · show d.val - Host.clampedStart S4096x4x128 S1x4x128 updateFits_S4096x4x128_S1x4x128.1 st 2 = d.val
        omega
    · intro a
      fin_cases a
      · show Host.clampedStart S4096x4x128 S1x4x128 updateFits_S4096x4x128_S1x4x128.1 st 0 ≤ n.val ∧ n.val < Host.clampedStart S4096x4x128 S1x4x128 updateFits_S4096x4x128_S1x4x128.1 st 0 + 1
        omega
      · show Host.clampedStart S4096x4x128 S1x4x128 updateFits_S4096x4x128_S1x4x128.1 st 1 ≤ h.val ∧ h.val < Host.clampedStart S4096x4x128 S1x4x128 updateFits_S4096x4x128_S1x4x128.1 st 1 + 4
        omega
      · show Host.clampedStart S4096x4x128 S1x4x128 updateFits_S4096x4x128_S1x4x128.1 st 2 ≤ d.val ∧ d.val < Host.clampedStart S4096x4x128 S1x4x128 updateFits_S4096x4x128_S1x4x128.1 st 2 + 128
        omega
  · rw [dif_neg, if_neg hn]
    intro q
    have q : Host.clampedStart S4096x4x128 S1x4x128 updateFits_S4096x4x128_S1x4x128.1 st 0 ≤ n.val ∧ n.val < Host.clampedStart S4096x4x128 S1x4x128 updateFits_S4096x4x128_S1x4x128.1 st 0 + 1 := q 0
    omega

end Rows

/-! ## One trip -/

section Trip
variable (P : ℕ → ℕ → ℝ) (cw : Fin 4 → ℕ → ℝ) (al dt : Fin 4 → ℝ)
variable (V0 : Valuation τ sig (Elt Ideal)) (k : ℕ) (hk : k < 4096)
variable (h5 : V0 (Proc.devRef .tc main_v73_5) = fun _ => BitVec.ofNat 32 k)
variable (h0 : ∀ n h d, (V0 (Proc.devRef .tc main_v73_0) : FVec Ideal S4096x4x128 .f32) (ix3 n h d) = ((qs (act P cw) h n d : ℝ) : EReal))
variable (h1 : ∀ n h d, (V0 (Proc.devRef .tc main_v73_1) : FVec Ideal S4096x4x128 .f32) (ix3 n h d) = ((ks (act P cw) h n d : ℝ) : EReal))
variable (h2 : ∀ n h d, (V0 (Proc.devRef .tc main_v73_2) : FVec Ideal S4096x4x128 .f32) (ix3 n h d) = ((vs (act P cw) h n d : ℝ) : EReal))
variable (h3 : ∀ n h, (V0 (Proc.devRef .tc main_v73_3) : FVec Ideal S4096x4 .f32) (ix2 n h) = ((lgate P al dt h n : ℝ) : EReal))
variable (h4 : ∀ n h, (V0 (Proc.devRef .tc main_v73_4) : FVec Ideal S4096x4 .f32) (ix2 n h) = ((rate P h n : ℝ) : EReal))
variable (S : Fin 4 → Fin 128 → Fin 128 → ℝ)
variable (h6 : ∀ h a d, (V0 (Proc.devRef .tc main_v73_6) : FVec Ideal S4x128x128 .f32) (ix3 h a d) = ((S h a d : ℝ) : EReal))

include hk h5 h1 in
theorem k_at (h : Fin 4) (a : Fin 128) : (res_main_while0b_v158 V0 : FVec Ideal S4x128 .f32) (ix2 h a) = ((ks (act P cw) h k a : ℝ) : EReal) := by
  unfold res_main_while0b_v158
  rw [h5]
  exact (dsl3 k hk _ _ (toInt_at k hk) rfl rfl h a).trans (h1 ⟨k, hk⟩ h a)

theorem dec_at (e : FVec Ideal S4 .f32) (T : FVec Ideal S4x128x128 .f32) (h : Fin 4) (a d : Fin 128) :
    (mulf (broadcastInDim S4x128x128 ![0, 1, 2] bcast_S4x1x1_S4x128x128_0_1_2 (broadcastInDim S4x1x1 ![0] bcast_S4_S4x1x1_0 (Host.exp e))) T : FVec Ideal S4x128x128 .f32) (ix3 h a d)
      = Ideal.exp (e (ix1 h)) * T (ix3 h a d) := by
  pointwise

include hk h5 h3 h6 in
theorem d_at (h : Fin 4) (a d : Fin 128) : (res_main_while0b_v165 V0 : FVec Ideal S4x128x128 .f32) (ix3 h a d) = ((Real.exp (lgate P al dt h k) * S h a d : ℝ) : EReal) := by
  unfold res_main_while0b_v165
  rw [h5]
  refine (dec_at _ _ h a d).trans ?_
  rw [dsl2 k hk _ _ (toInt_at k hk) rfl h, h3, h6, exp_real, ← EReal.coe_mul]

theorem new_at (D : FVec Ideal S4x128x128 .f32) (K : FVec Ideal S4x128 .f32) (b : FVec Ideal S4 .f32) (v w : FVec Ideal S4x128 .f32) (h : Fin 4) (a d : Fin 128) :
    (addf D (mulf (broadcastInDim S4x128x128 ![0, 1, 2] bcast_S4x128x1_S4x128x128_0_1_2 (broadcastInDim S4x128x1 ![0, 1] bcast_S4x128_S4x128x1_0_1 K)) (broadcastInDim S4x128x128 ![0, 1, 2] bcast_S4x1x128_S4x128x128_0_1_2 (broadcastInDim S4x1x128 ![0, 2] bcast_S4x128_S4x1x128_0_2 (mulf (broadcastInDim S4x128 ![0, 1] bcast_S4x1_S4x128_0_1 (broadcastInDim S4x1 ![0] bcast_S4_S4x1_0 b)) (subf v w))))) : FVec Ideal S4x128x128 .f32) (ix3 h a d)
      = D (ix3 h a d) + K (ix2 h a) * (b (ix1 h) * (v (ix2 h d) - w (ix2 h d))) := by
  pointwise

theorem dot_at (K : FVec Ideal S4x128 .f32) (D : FVec Ideal S4x128x128 .f32) (h : Fin 4) (d : Fin 128) :
    (Host.dotGeneral dot_S4x128_S4x128x128_S4x128_1_1_n_2_0_0 none K D : FVec Ideal S4x128 .f32) (ix2 h d) = ∑ a : Fin 128, K (ix2 h a) * D (ix3 h a d) := by
  pointwise

include hk h5 h1 h2 h3 h4 h6 in
theorem n_at (h : Fin 4) (a d : Fin 128) : (res_main_while0b_v176 V0 : FVec Ideal S4x128x128 .f32) (ix3 h a d)
    = ((next (ks (act P cw) h) (vs (act P cw) h) (rate P h) (lgate P al dt h) k (S h) a d : ℝ) : EReal) := by
  unfold res_main_while0b_v176
  have e : (fun j : Fin 3 => ((![V0 (Proc.devRef .tc main_v73_5), constantI S_ 32 0#32, constantI S_ 32 0#32] : Fin 3 → (⟨S_, .i32⟩ : BufTy).Contents (Elt Ideal)) j (Shape.Idx.first h_S_)).toInt) 0 = k := by
    show (V0 (Proc.devRef .tc main_v73_5) (Shape.Idx.first h_S_)).toInt = k
    rw [h5]; exact toInt_at k hk
  refine (new_at _ _ _ _ _ h a d).trans ?_
  rw [dsl2 k hk _ _ e rfl h, dsl3 k hk _ _ e rfl rfl h d, dot_at, h4, h2, k_at P cw V0 k hk h5 h1, d_at P al dt V0 k hk h5 h3 S h6,
    Finset.sum_congr rfl fun x _ => by rw [k_at P cw V0 k hk h5 h1 h x, d_at P al dt V0 k hk h5 h3 S h6 h x d, ← EReal.coe_mul],
    coe_sum, ← EReal.coe_sub, ← EReal.coe_mul, ← EReal.coe_mul, ← EReal.coe_add]
  rfl

include hk h5 h0 h1 h2 h3 h4 h6 in
theorem o_at (n : Fin 4096) (h : Fin 4) (d : Fin 128) : (step_main_v73_7 V0 : FVec Ideal S4096x4x128 .f32) (ix3 n h d)
    = if n.val = k then ((oRow (qs (act P cw) h) (ks (act P cw) h) (vs (act P cw) h) (rate P h) (lgate P al dt h) k (S h) d : ℝ) : EReal)
      else (V0 (Proc.devRef .tc main_v73_7) : FVec Ideal S4096x4x128 .f32) (ix3 n h d) := by
  unfold step_main_v73_7
  have e : (fun j : Fin 3 => ((![V0 (Proc.devRef .tc main_v73_5), constantI S_ 32 0#32, constantI S_ 32 0#32] : Fin 3 → (⟨S_, .i32⟩ : BufTy).Contents (Elt Ideal)) j (Shape.Idx.first h_S_)).toInt) 0 = k := by
    show (V0 (Proc.devRef .tc main_v73_5) (Shape.Idx.first h_S_)).toInt = k
    rw [h5]; exact toInt_at k hk
  refine (dus3 k hk _ _ _ e rfl rfl n h d).trans ?_
  congr 1
  refine (dot_at _ _ h d).trans ?_
  rw [Finset.sum_congr rfl fun x _ => by rw [dsl3 k hk _ _ e rfl rfl h x, h0, n_at P cw al dt V0 k hk h5 h1 h2 h3 h4 S h6 h x d, ← EReal.coe_mul], coe_sum]
  rfl
end Trip

/-! ## All trips -/

section All
variable (P : ℕ → ℕ → ℝ) (cw : Fin 4 → ℕ → ℝ) (al dt : Fin 4 → ℝ)
variable (V0 : Valuation τ sig (Elt Ideal))
variable (h5 : V0 (Proc.devRef .tc main_v73_5) = fun _ => 0#32)
variable (h0 : ∀ n h d, (V0 (Proc.devRef .tc main_v73_0) : FVec Ideal S4096x4x128 .f32) (ix3 n h d) = ((qs (act P cw) h n d : ℝ) : EReal))
variable (h1 : ∀ n h d, (V0 (Proc.devRef .tc main_v73_1) : FVec Ideal S4096x4x128 .f32) (ix3 n h d) = ((ks (act P cw) h n d : ℝ) : EReal))
variable (h2 : ∀ n h d, (V0 (Proc.devRef .tc main_v73_2) : FVec Ideal S4096x4x128 .f32) (ix3 n h d) = ((vs (act P cw) h n d : ℝ) : EReal))
variable (h3 : ∀ n h, (V0 (Proc.devRef .tc main_v73_3) : FVec Ideal S4096x4 .f32) (ix2 n h) = ((lgate P al dt h n : ℝ) : EReal))
variable (h4 : ∀ n h, (V0 (Proc.devRef .tc main_v73_4) : FVec Ideal S4096x4 .f32) (ix2 n h) = ((rate P h n : ℝ) : EReal))
variable (h6 : ∀ h a d, (V0 (Proc.devRef .tc main_v73_6) : FVec Ideal S4x128x128 .f32) (ix3 h a d) = ((0 : ℝ) : EReal))

theorem keep0 (k : ℕ) : (STEP^[k] V0) (Proc.devRef .tc main_v73_0) = V0 (Proc.devRef .tc main_v73_0) := by
  induction k with
  | zero => rfl
  | succ k ih => rw [Function.iterate_succ_apply', STEP_main_v73_0, ih]
theorem keep1 (k : ℕ) : (STEP^[k] V0) (Proc.devRef .tc main_v73_1) = V0 (Proc.devRef .tc main_v73_1) := by
  induction k with
  | zero => rfl
  | succ k ih => rw [Function.iterate_succ_apply', STEP_main_v73_1, ih]
theorem keep2 (k : ℕ) : (STEP^[k] V0) (Proc.devRef .tc main_v73_2) = V0 (Proc.devRef .tc main_v73_2) := by
  induction k with
  | zero => rfl
  | succ k ih => rw [Function.iterate_succ_apply', STEP_main_v73_2, ih]
theorem keep3 (k : ℕ) : (STEP^[k] V0) (Proc.devRef .tc main_v73_3) = V0 (Proc.devRef .tc main_v73_3) := by
  induction k with
  | zero => rfl
  | succ k ih => rw [Function.iterate_succ_apply', STEP_main_v73_3, ih]
theorem keep4 (k : ℕ) : (STEP^[k] V0) (Proc.devRef .tc main_v73_4) = V0 (Proc.devRef .tc main_v73_4) := by
  induction k with
  | zero => rfl
  | succ k ih => rw [Function.iterate_succ_apply', STEP_main_v73_4, ih]

include h0 h1 h2 h3 h4 h5 h6 in
theorem trips (k : ℕ) (hk : k ≤ 4096) :
    (STEP^[k] V0) (Proc.devRef .tc main_v73_5) = (fun _ => BitVec.ofNat 32 k)
    ∧ (∀ h a d, ((STEP^[k] V0) (Proc.devRef .tc main_v73_6) : FVec Ideal S4x128x128 .f32) (ix3 h a d) = ((stD P cw al dt h k a d : ℝ) : EReal))
    ∧ ∀ (n : Fin 4096) h d, n.val < k → ((STEP^[k] V0) (Proc.devRef .tc main_v73_7) : FVec Ideal S4096x4x128 .f32) (ix3 n h d) = ((oD P cw al dt h n d : ℝ) : EReal) := by
  induction k with
  | zero => exact ⟨h5, h6, fun n h d hn => absurd hn (Nat.not_lt_zero _)⟩
  | succ k ih =>
    obtain ⟨i5, i6, i7⟩ := ih (by omega)
    rw [Function.iterate_succ_apply']
    have k0 := keep0 V0 k
    have k1 := keep1 V0 k
    have k2 := keep2 V0 k
    have k3 := keep3 V0 k
    have k4 := keep4 V0 k
    generalize STEP^[k] V0 = V1 at i5 i6 i7 k0 k1 k2 k3 k4
    have j0 : ∀ n h d, (V1 (Proc.devRef .tc main_v73_0) : FVec Ideal S4096x4x128 .f32) (ix3 n h d) = ((qs (act P cw) h n d : ℝ) : EReal) := by rw [k0]; exact h0
    have j1 : ∀ n h d, (V1 (Proc.devRef .tc main_v73_1) : FVec Ideal S4096x4x128 .f32) (ix3 n h d) = ((ks (act P cw) h n d : ℝ) : EReal) := by rw [k1]; exact h1
    have j2 : ∀ n h d, (V1 (Proc.devRef .tc main_v73_2) : FVec Ideal S4096x4x128 .f32) (ix3 n h d) = ((vs (act P cw) h n d : ℝ) : EReal) := by rw [k2]; exact h2
    have j3 : ∀ n h, (V1 (Proc.devRef .tc main_v73_3) : FVec Ideal S4096x4 .f32) (ix2 n h) = ((lgate P al dt h n : ℝ) : EReal) := by rw [k3]; exact h3
    have j4 : ∀ n h, (V1 (Proc.devRef .tc main_v73_4) : FVec Ideal S4096x4 .f32) (ix2 n h) = ((rate P h n : ℝ) : EReal) := by rw [k4]; exact h4
    refine ⟨?_, fun h a d => ?_, fun n h d hn => ?_⟩
    · rw [STEP_main_v73_5]
      unfold step_main_v73_5
      rw [i5]
      funext i
      show BitVec.ofNat 32 k + 1#32 = BitVec.ofNat 32 (k + 1)
      rw [BitVec.ofNat_add]
    · rw [STEP_main_v73_6]
      refine (n_at P cw al dt V1 k (by omega) i5 j1 j2 j3 j4 (fun h => stD P cw al dt h k) i6 h a d).trans ?_
      unfold stD
      show _ = ((next (ks (act P cw) h) (vs (act P cw) h) (rate P h) (lgate P al dt h) (0 + k) (stAt (ks (act P cw) h) (vs (act P cw) h) (rate P h) (lgate P al dt h) 0 (fun _ _ => 0) k) a d : ℝ) : EReal)
      rw [Nat.zero_add]
    · rw [STEP_main_v73_7]
      refine (o_at P cw al dt V1 k (by omega) i5 j0 j1 j2 j3 j4 (fun h => stD P cw al dt h k) i6 n h d).trans ?_
      by_cases hc : n.val = k
      · rw [if_pos hc, hc]
        rfl
      · rw [if_neg hc]
        exact i7 n h d (by omega)
end All

end Cert.MixRef
-- ==== Proof.MixRefOut.lean ====
/- The results of the reference from its carried rows. -/
module

public import proofs.«01_k».proof.Defs
public import proofs.«01_k».proof.Proof.MixSpec
public import proofs.«01_k».proof.Proof.MixGate
public import proofs.«01_k».proof.Proof.MixRefStep
public import proofs.«01_k».proof.Proof.MixFinal
public import proofs.«01_k».proof.Proof.MixOut
public import proofs.«01_k».proof.Proof.Gen.MixReferenceIdeal.Run
public import Idealize.ShloMosaic.Lib.Pointwise
public import Idealize.ShloMosaic.Lib.Pipeline.ValueKit

@[expose] public section

set_option maxRecDepth 16384
noncomputable section

namespace Cert.MixRef

open Idealize.ShloMosaic Idealize.ShloMosaic.TcCoe Cert.Lift
open Cert.MixReferenceIdeal Cert.MixReferenceIdeal.Gen Cert.MixReferenceIdeal.Value
open Cert.Mix (gelu gl cent lnr sgu zRow zD gD oD mixD orD mixD_g mixD_z orD_at hcol gcol zcol col4 col8 arr6 arr11 gl0 gl1 eps5 gl0_f32 gl1_f32 k512_f32 k128_f32 eps5_f32 zn_real ln_real sel_ge rows3 cvr act qs ks vs rate lgate sgm silu softplus rn rn_real sig_real one_exp log_real max_real exp_real qsc qsc_f32 softplus_real absf_real)

/-! ## The operations after the loop -/

def oGelu (U : FVec Ideal S4096x512 .f32) : FVec Ideal S4096x512 .f32 :=
  mulf U (mulf (broadcastInDim S4096x512 ![] bcast_S_S4096x512 (constant (F := Ideal) S_ .f32 0x3F000000#32)) (addf (broadcastInDim S4096x512 ![] bcast_S_S4096x512 (constant (F := Ideal) S_ .f32 0x3F800000#32)) (Host.tanh (mulf (broadcastInDim S4096x512 ![] bcast_S_S4096x512 (constant (F := Ideal) S_ .f32 0x3F4C422A#32)) (addf U (mulf (broadcastInDim S4096x512 ![] bcast_S_S4096x512 (constant (F := Ideal) S_ .f32 0x3D372713#32)) (mulf (mulf U U) U)))))))
def oCent (G : FVec Ideal S4096x512 .f32) : FVec Ideal S4096x512 .f32 :=
  subf G (broadcastInDim S4096x512 ![0, 1] bcast_S4096x1_S4096x512_0_1 (Host.divf (broadcastInDim S4096x1 ![0] bcast_S4096_S4096x1_0 (Host.reduceAdd (G) (constant (F := Ideal) S_ .f32 0x00000000#32) reducesTo_S4096x512_S4096_d1 h_S_)) (broadcastInDim S4096x1 ![] bcast_S_S4096x1 (constant (F := Ideal) S_ .f32 0x44000000#32))))
def oLn (C : FVec Ideal S4096x512 .f32) (X1 X2 : FVec Ideal S512 .f32) : FVec Ideal S4096x512 .f32 :=
  addf (mulf (mulf C (broadcastInDim S4096x512 ![0, 1] bcast_S4096x1_S4096x512_0_1 (Host.rsqrt (addf (Host.divf (broadcastInDim S4096x1 ![0] bcast_S4096_S4096x1_0 (Host.reduceAdd (mulf C C) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x3727C5AC#32)))))) (broadcastInDim S4096x512 ![0, 1] bcast_S1x512_S4096x512_0_1 (broadcastInDim S1x512 ![1] bcast_S512_S1x512_1 X1))) (broadcastInDim S4096x512 ![0, 1] bcast_S1x512_S4096x512_0_1 (broadcastInDim S1x512 ![1] bcast_S512_S1x512_1 X2))
def oMask (X3 : FVec Ideal S4x128x128 .f32) : FVec Ideal S4x128x128 .f32 :=
  select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) X3 (broadcastInDim S4x128x128 ![] bcast_S_S4x128x128 (id (constant (F := Ideal) S_ .f32 0x00000000#32)))
def oMixed (L : FVec Ideal S4096x512 .f32) (M : FVec Ideal S4x128x128 .f32) (X4 : FVec Ideal S4x128 .f32) : FVec Ideal S32x128x4x128 .f32 :=
  addf (transpose S32x128x4x128 [1, 3, 0, 2] (Host.dotGeneral dot_S32x128x4x128_S4x128x128_S4x32x128x128_1_2_03_1_2_0 none (shapeCast S32x128x4x128 L shapeCasts_S4096x512_S32x128x4x128) M) transposes_S4x32x128x128_S32x128x4x128_1_3_0_2) (broadcastInDim S32x128x4x128 ![0, 1, 2, 3] bcast_S1x128x4x1_S32x128x4x128_0_1_2_3 (broadcastInDim S1x128x4x1 ![1, 2] bcast_S128x4_S1x128x4x1_1_2 (transpose S128x4 [1, 0] X4 transposes_S4x128_S128x4_1_0)))
def oSgu (U : FVec Ideal S4096x512 .f32) (X : FVec Ideal S32x128x4x128 .f32) : FVec Ideal S4096x512 .f32 :=
  mulf U (shapeCast S4096x512 X shapeCasts_S32x128x4x128_S4096x512)
def oNorm (O Z : FVec Ideal S4096x4x128 .f32) (X8 : FVec Ideal S128 .f32) : FVec Ideal S4096x4x128 .f32 :=
  mulf (mulf (mulf O (broadcastInDim S4096x4x128 ![0, 1, 2] bcast_S4096x4x1_S4096x4x128_0_1_2 (Host.rsqrt (addf (Host.divf (broadcastInDim S4096x4x1 ![0, 1] bcast_S4096x4_S4096x4x1_0_1 (Host.reduceAdd (mulf O O) (constant (F := Ideal) S_ .f32 0x00000000#32) reducesTo_S4096x4x128_S4096x4_d2 h_S_)) (broadcastInDim S4096x4x1 ![] bcast_S_S4096x4x1 (constant (F := Ideal) S_ .f32 0x43000000#32))) (broadcastInDim S4096x4x1 ![] bcast_S_S4096x4x1 (constant (F := Ideal) S_ .f32 0x358637BD#32)))))) (broadcastInDim S4096x4x128 ![0, 1, 2] bcast_S1x1x128_S4096x4x128_0_1_2 (broadcastInDim S1x1x128 ![2] bcast_S128_S1x1x128_2 X8))) (mulf Z (Host.divf (broadcastInDim S4096x4x128 ![] bcast_S_S4096x4x128 (constant (F := Ideal) S_ .f32 0x3F800000#32)) (addf (broadcastInDim S4096x4x128 ![] bcast_S_S4096x4x128 (constant (F := Ideal) S_ .f32 0x3F800000#32)) (Host.exp (Host.negf Z)))))
def oCat (Y W : FVec Ideal S4096x512 .f32) : FVec Ideal S4096x1024 .bf16 :=
  truncf .bf16 (concatenate S4096x1024 1 [⟨S4096x512, Y⟩, ⟨S4096x512, W⟩] concatenates_S4096x512_S4096x512_S4096x1024_d1) bitsLt_bf16_f32

theorem out155 (V0 : Valuation τ sig (Elt Ideal)) : out_main_v155 V0 = oCat
    (oSgu (oGelu (extractStridedSlice S4096x512 ![0, 0] (V0 (Proc.devRef .tc main_arg0)) slices_S4096x3080_S4096x512_0_0))
      (oMixed (oLn (oCent (oGelu (extractStridedSlice S4096x512 ![0, 512] (V0 (Proc.devRef .tc main_arg0)) slices_S4096x3080_S4096x512_0_512))) (V0 (Proc.devRef .tc main_arg1)) (V0 (Proc.devRef .tc main_arg2))) (oMask (V0 (Proc.devRef .tc main_arg3))) (V0 (Proc.devRef .tc main_arg4))))
    (shapeCast S4096x512 (oNorm (V0 (Proc.devRef .tc main_v73_7)) (shapeCast S4096x4x128 (extractStridedSlice S4096x512 ![0, 2560] (V0 (Proc.devRef .tc main_arg0)) slices_S4096x3080_S4096x512_0_2560) shapeCasts_S4096x512_S4096x4x128) (V0 (Proc.devRef .tc main_arg8))) shapeCasts_S4096x4x128_S4096x512) := rfl

/-! ## Their elements -/

theorem gelu_assoc (x : ℝ) : ((x : ℝ) : EReal) * (((1 / 2 : ℝ) : EReal) * (((1 : ℝ) : EReal) + Ideal.tanh (((gl1 : ℝ) : EReal)
      * (((x : ℝ) : EReal) + ((gl0 : ℝ) : EReal) * (((x : ℝ) : EReal) * ((x : ℝ) : EReal) * ((x : ℝ) : EReal))))))
    = ((gelu x : ℝ) : EReal) := by
  have k := Cert.Mix.gelu_real x
  rw [← k, EReal.coe_one]
  simp only [mul_assoc, mul_comm, mul_left_comm]

def row4 (b : Fin 32) (i : Fin 128) : Fin 4096 := ⟨128 * b + i, by omega⟩
theorem row4_ex (n : Fin 4096) : ∃ b i, n = row4 b i :=
  ⟨⟨n.val / 128, by omega⟩, ⟨n.val % 128, by omega⟩, Fin.ext (by show n.val = 128 * (n.val / 128) + n.val % 128; omega)⟩

theorem oGelu_at (U : FVec Ideal S4096x512 .f32) (f : ℕ → ℕ → ℝ) (hU : ∀ (n : Fin 4096) (k : Fin 512), U (ix2 n k) = ((f n k : ℝ) : EReal)) (n : Fin 4096) (k : Fin 512) :
    oGelu U (ix2 n k) = ((gelu (f n k) : ℝ) : EReal) := by
  unfold oGelu
  pointwise [one_f32]
  simp only [hU, gl0_f32, gl1_f32, half_f32, gelu_assoc]

section Elements
variable (P : ℕ → ℕ → ℝ) (X0 : FVec Ideal S4096x3080 .f32) (h0 : ∀ (n : Fin 4096) (k : Fin 3080), X0 (ix2 n k) = ((P n k : ℝ) : EReal))
variable (lg lb : ℕ → ℝ) (W : Fin 4 → Fin 128 → Fin 128 → ℝ) (SB : Fin 4 → Fin 128 → ℝ) (ng : Fin 128 → ℝ)
variable (X1 X2 : FVec Ideal S512 .f32) (X3 : FVec Ideal S4x128x128 .f32) (X4 : FVec Ideal S4x128 .f32) (X8 : FVec Ideal S128 .f32)
variable (h1 : ∀ k : Fin 512, X1 (ix1 k) = ((lg k : ℝ) : EReal)) (h2 : ∀ k : Fin 512, X2 (ix1 k) = ((lb k : ℝ) : EReal))
variable (h3 : ∀ h i j, X3 (ix3 h i j) = ((W h i j : ℝ) : EReal)) (h4 : ∀ h i, X4 (ix2 h i) = ((SB h i : ℝ) : EReal))
variable (h8 : ∀ d, X8 (ix1 d) = ((ng d : ℝ) : EReal))

include h0 in
theorem u_at (n : Fin 4096) (k : Fin 512) : (oGelu (extractStridedSlice S4096x512 ![0, 0] X0 slices_S4096x3080_S4096x512_0_0)) (ix2 n k) = ((gl P n k : ℝ) : EReal) := by
  refine oGelu_at _ P (fun n k => ?_) n k
  pointwise
  exact h0 n ⟨k.val, by omega⟩

include h0 in
theorem v_at (n : Fin 4096) (k : Fin 512) : (oGelu (extractStridedSlice S4096x512 ![0, 512] X0 slices_S4096x3080_S4096x512_0_512)) (ix2 n k) = ((gl P n (512 + k) : ℝ) : EReal) := by
  refine oGelu_at _ (fun n k => P n (512 + k)) (fun n k => ?_) n k
  pointwise
  exact h0 n ⟨512 + k.val, by omega⟩

theorem cent_at (G : FVec Ideal S4096x512 .f32) (hG : ∀ (n : Fin 4096) (k : Fin 512), G (ix2 n k) = ((gl P n (512 + k) : ℝ) : EReal)) (n : Fin 4096) (k : Fin 512) :
    oCent G (ix2 n k) = ((cent P n k : ℝ) : EReal) := by
  unfold oCent
  pointwise
  simp only [hG, k512_f32, coe_sum, zero_add, div_real _ (by norm_num : (512 : ℝ) ≠ 0), ← EReal.coe_sub]
  rfl

include h1 h2 in
theorem ln_at (C : FVec Ideal S4096x512 .f32) (hC : ∀ (n : Fin 4096) (k : Fin 512), C (ix2 n k) = ((cent P n k : ℝ) : EReal)) (n : Fin 4096) (k : Fin 512) :
    oLn C X1 X2 (ix2 n k) = ((lnr P lg lb n k : ℝ) : EReal) := by
  unfold oLn
  pointwise
  simp only [hC, h1, h2, k512_f32, eps5_f32, ← EReal.coe_mul, coe_sum, zero_add, div_real _ (by norm_num : (512 : ℝ) ≠ 0), ln_real,
    ← EReal.coe_add]
  rfl

include h3 in
theorem mask_at (h : Fin 4) (i j : Fin 128) : oMask X3 (ix3 h i j) = ((if j ≤ i then W h i j else 0 : ℝ) : EReal) := by
  unfold oMask
  pointwise
  rw [show IntOp.addi (BitVec.ofNat 32 i.val) 0#32 = BitVec.ofNat 32 i.val from BitVec.add_zero _, sel_ge, h3]
  split_ifs
  · rfl
  · exact zero_f32

theorem sc4 (X : FVec Ideal S32x128x4x128 .f32) (b : Fin 32) (i : Fin 128) (h : Fin 4) (d : Fin 128) :
    (shapeCast S4096x512 X shapeCasts_S32x128x4x128_S4096x512 : FVec Ideal S4096x512 .f32) (ix2 (row4 b i) (hcol h d)) = X (ix4 b i h d) := by
  unfold row4 hcol
  pointwise

theorem sc4' (X : FVec Ideal S4096x512 .f32) (b : Fin 32) (i : Fin 128) (h : Fin 4) (d : Fin 128) :
    (shapeCast S32x128x4x128 X shapeCasts_S4096x512_S32x128x4x128 : FVec Ideal S32x128x4x128 .f32) (ix4 b i h d) = X (ix2 (row4 b i) (hcol h d)) := by
  pointwise
  exact congrArg₂ (fun a b => X (ix2 a b)) (Fin.ext (by show b.val * 128 + i.val = 128 * b.val + i.val; omega)) (Fin.ext (by show h.val * 128 + d.val = 128 * h.val + d.val; omega))

theorem sc3r (X : FVec Ideal S4096x4x128 .f32) (n : Fin 4096) (h : Fin 4) (d : Fin 128) :
    (shapeCast S4096x512 X shapeCasts_S4096x4x128_S4096x512 : FVec Ideal S4096x512 .f32) (ix2 n (hcol h d)) = X (ix3 n h d) := by
  unfold hcol
  pointwise

theorem mixdot_at (L : FVec Ideal S4096x512 .f32) (M : FVec Ideal S4x128x128 .f32) (b : Fin 32) (i : Fin 128) (h : Fin 4) (d : Fin 128) :
    oMixed L M X4 (ix4 b i h d) = (∑ j : Fin 128, L (ix2 (row4 b j) (hcol h d)) * M (ix3 h i j)) + X4 (ix2 h i) := by
  unfold oMixed
  rw [← Finset.sum_congr rfl fun j _ => by rw [← sc4' L b j h d]]
  generalize shapeCast S32x128x4x128 L shapeCasts_S4096x512_S32x128x4x128 = L4
  pointwise

include h3 h4 in
theorem sgu_at (U L : FVec Ideal S4096x512 .f32) (hU : ∀ (n : Fin 4096) (k : Fin 512), U (ix2 n k) = ((gl P n k : ℝ) : EReal))
    (hL : ∀ (n : Fin 4096) (k : Fin 512), L (ix2 n k) = ((lnr P lg lb n k : ℝ) : EReal)) (n : Fin 4096) (h : Fin 4) (d : Fin 128) :
    oSgu U (oMixed L (oMask X3) X4) (ix2 n (hcol h d)) = ((gD P lg lb W SB h n d : ℝ) : EReal) := by
  obtain ⟨b, i, rfl⟩ := row4_ex n
  have e : gD P lg lb W SB h (row4 b i).val d = sgu P lg lb W SB (128 * b.val) h i d := by
    unfold gD row4
    rw [show (128 * b.val + i.val) / 128 = b.val by omega, show (⟨(128 * b.val + i.val) % 128, Nat.mod_lt _ (by decide)⟩ : Fin 128) = i from Fin.ext (by show (128 * b.val + i.val) % 128 = i.val; omega)]
  rw [e]
  show U (ix2 (row4 b i) (hcol h d)) * (shapeCast S4096x512 (oMixed L (oMask X3) X4) shapeCasts_S32x128x4x128_S4096x512 : FVec Ideal S4096x512 .f32) (ix2 (row4 b i) (hcol h d)) = _
  rw [sc4, mixdot_at, hU, h4, Finset.sum_congr rfl fun j _ => by rw [hL, mask_at W X3 h3, ← EReal.coe_mul], coe_sum, ← EReal.coe_add, ← EReal.coe_mul]
  unfold sgu
  congr 3
  refine Finset.sum_congr rfl fun j _ => ?_
  split_ifs
  · exact mul_comm _ _
  · exact mul_zero _

include h8 in
theorem norm_at (O Z : FVec Ideal S4096x4x128 .f32) (o : ℕ → Fin 4 → Fin 128 → ℝ) (z : ℕ → Fin 4 → Fin 128 → ℝ)
    (hO : ∀ (n : Fin 4096) h d, O (ix3 n h d) = ((o n h d : ℝ) : EReal)) (hZ : ∀ (n : Fin 4096) h d, Z (ix3 n h d) = ((z n h d : ℝ) : EReal))
    (n : Fin 4096) (h : Fin 4) (d : Fin 128) : oNorm O Z X8 (ix3 n h d) = ((zRow (o n h) (ng d) (z n h d) d : ℝ) : EReal) := by
  unfold oNorm
  pointwise [one_f32]
  simp only [hO, hZ, h8, k128_f32, eps6_f32, zero_add, ← EReal.coe_mul, coe_sum, zn_real, ← EReal.coe_neg, ← EReal.coe_one, sig_real]
  rfl

include h0 in
theorem zin_at (n : Fin 4096) (h : Fin 4) (d : Fin 128) : (shapeCast S4096x4x128 (extractStridedSlice S4096x512 ![0, 2560] X0 slices_S4096x3080_S4096x512_0_2560) shapeCasts_S4096x512_S4096x4x128 : FVec Ideal S4096x4x128 .f32) (ix3 n h d) = ((P n (2560 + 128 * h + d) : ℝ) : EReal) := by
  pointwise
  refine Eq.trans (congrArg X0 ?_) (h0 n ⟨2560 + 128 * h.val + d.val, by omega⟩)
  funext a
  apply Fin.ext
  fin_cases a
  · rfl
  · show 2560 + (h.val * 128 + d.val) = 2560 + 128 * h.val + d.val
    omega

theorem cat_g (Y W : FVec Ideal S4096x512 .f32) (n : Fin 4096) (h : Fin 4) (d : Fin 128) : oCat Y W (ix2 n (gcol h d)) = Y (ix2 n (hcol h d)) := by
  have hk : (gcol h d).val < 512 := by show 128 * h.val + d.val < 512; omega
  unfold oCat
  pointwise
  rw [dif_pos hk]
  rfl

theorem cat_z (Y W : FVec Ideal S4096x512 .f32) (n : Fin 4096) (h : Fin 4) (d : Fin 128) : oCat Y W (ix2 n (zcol h d)) = W (ix2 n (hcol h d)) := by
  have hk : ¬ (zcol h d).val < 512 := by show ¬ 512 + 128 * h.val + d.val < 512; omega
  unfold oCat
  pointwise
  rw [dif_neg hk]
  exact congrArg (fun k => W (ix2 n k)) (Fin.ext (by show 512 + 128 * h.val + d.val - 512 = 128 * h.val + d.val; omega))
end Elements

/-! ## The results -/

section Results
variable (P : ℕ → ℕ → ℝ) (lg lb : ℕ → ℝ) (W : Fin 4 → Fin 128 → Fin 128 → ℝ) (SB : Fin 4 → Fin 128 → ℝ)
variable (cw : Fin 4 → ℕ → ℝ) (al dt : Fin 4 → ℝ) (ng : Fin 128 → ℝ)
variable (V0 : Valuation τ sig (Elt Ideal))
variable (h0 : ∀ (n : Fin 4096) (k : Fin 3080), (V0 (Proc.devRef .tc main_arg0) : FVec Ideal S4096x3080 .f32) (ix2 n k) = ((P n k : ℝ) : EReal))
variable (h1 : ∀ k : Fin 512, (V0 (Proc.devRef .tc main_arg1) : FVec Ideal S512 .f32) (ix1 k) = ((lg k : ℝ) : EReal))
variable (h2 : ∀ k : Fin 512, (V0 (Proc.devRef .tc main_arg2) : FVec Ideal S512 .f32) (ix1 k) = ((lb k : ℝ) : EReal))
variable (h3 : ∀ h i j, (V0 (Proc.devRef .tc main_arg3) : FVec Ideal S4x128x128 .f32) (ix3 h i j) = ((W h i j : ℝ) : EReal))
variable (h4 : ∀ h i, (V0 (Proc.devRef .tc main_arg4) : FVec Ideal S4x128 .f32) (ix2 h i) = ((SB h i : ℝ) : EReal))
variable (h8 : ∀ d, (V0 (Proc.devRef .tc main_arg8) : FVec Ideal S128 .f32) (ix1 d) = ((ng d : ℝ) : EReal))
variable (hO : ∀ (n : Fin 4096) h d, (V0 (Proc.devRef .tc main_v73_7) : FVec Ideal S4096x4x128 .f32) (ix3 n h d) = ((oD P cw al dt h n d : ℝ) : EReal))

include h0 h1 h2 h3 h4 h8 hO in
theorem mix_at : out_main_v155 V0 = arr6 (mixD P lg lb W SB cw al dt ng) := by
  rw [out155]
  funext i
  refine (congrArg _ (by funext k; fin_cases k <;> rfl : i = ix2 (i 0) (i 1))).trans ?_
  refine Eq.trans ?_ (congrArg (arr6 _) (by funext k; fin_cases k <;> rfl : i = ix2 (i 0) (i 1))).symm
  generalize i 0 = n
  have hu := u_at P _ h0
  have hl := ln_at P lg lb _ _ h1 h2 _ (cent_at P _ (v_at P _ h0))
  rcases col8 (i 1) with ⟨h, d, e⟩ | ⟨h, d, e⟩ <;> rw [e]
  · refine (cat_g _ _ n h d).trans ((sgu_at P lg lb W SB _ _ h3 h4 _ _ hu hl n h d).trans ?_)
    exact congrArg _ (mixD_g P lg lb W SB cw al dt ng _ h d).symm
  · refine (cat_z _ _ n h d).trans ((sc3r _ n h d).trans ((norm_at ng _ h8 _ _ (fun n h d => oD P cw al dt h n d) (fun n h d => P n (2560 + 128 * h + d)) hO (zin_at P _ h0) n h d).trans ?_))
    exact congrArg _ (mixD_z P lg lb W SB cw al dt ng _ h d).symm

include hO in
theorem orow_at : out_main_v156 V0 = arr11 (orD P cw al dt) := by
  funext i
  refine (congrArg _ (by funext k; fin_cases k <;> rfl : i = ix2 (i 0) (i 1))).trans ?_
  refine Eq.trans ?_ (congrArg (arr11 _) (by funext k; fin_cases k <;> rfl : i = ix2 (i 0) (i 1))).symm
  generalize i 0 = n
  obtain ⟨h, d, e⟩ := col4 (i 1)
  rw [e]
  refine (sc3r _ n h d).trans ((hO n h d).trans ?_)
  exact congrArg _ (orD_at P cw al dt _ h d).symm
end Results

end Cert.MixRef
-- ==== Proof.Mix.lean ====
/- The mixers' forward call: the kernel's blocks and the reference's loop leave the same results. -/
module

public import proofs.«01_k».proof.Defs
public import proofs.«01_k».proof.Proof.MixFinal
public import proofs.«01_k».proof.Proof.MixRefOut
public import proofs.«01_k».proof.Proof.Gen.MixKernelIdeal.Frame
public import proofs.«01_k».proof.Proof.Gen.MixReferenceIdeal.Run
public import Idealize.ShloMosaic.Lib.Pointwise
public import Idealize.ShloMosaic.Lib.Pipeline.ValueKit

@[expose] public section

set_option maxRecDepth 16384
noncomputable section

namespace Cert.Mix

open Idealize.ShloMosaic Cert.Lift

instance pre_facts : Cert.Pre_finite_mix_arguments.Facts := ⟨by decide, by decide, by decide, by decide, by decide, by decide, by decide⟩

/-! ## Real parts by row numbers -/

def nat1 {a : ℕ} (x : FVec Ideal ⟨1, ![a]⟩ .f32) (k : ℕ) : ℝ := if h : k < a then (x (ix1 ⟨k, h⟩)).toReal else 0
def nat2 {a b : ℕ} (x : FVec Ideal ⟨2, ![a, b]⟩ .f32) (n k : ℕ) : ℝ := if h : n < a ∧ k < b then (x (ix2 ⟨n, h.1⟩ ⟨k, h.2⟩)).toReal else 0

theorem nat1_at {a : ℕ} (x : FVec Ideal ⟨1, ![a]⟩ .f32) (h : ∀ i, (((x i).toReal : ℝ) : EReal) = x i) (k : Fin a) : x (ix1 k) = ((nat1 x k : ℝ) : EReal) := by
  unfold nat1
  rw [dif_pos k.isLt]
  exact (h _).symm
theorem nat2_at {a b : ℕ} (x : FVec Ideal ⟨2, ![a, b]⟩ .f32) (h : ∀ i, (((x i).toReal : ℝ) : EReal) = x i) (n : Fin a) (k : Fin b) : x (ix2 n k) = ((nat2 x n k : ℝ) : EReal) := by
  unfold nat2
  rw [dif_pos ⟨n.isLt, k.isLt⟩]
  exact (h _).symm

/-! ## The kernel's run -/

section Kernel
open Cert.MixKernelIdeal Cert.MixKernelIdeal.Gen
open Idealize.ShloMosaic.TcCoe Idealize.SL.Sem
variable (m : (ℓ : Loc nD τ sig) → Buf (Elt Ideal) ℓ) (ρ : Dev nD → PrngReg)

theorem run_results : θ_run (defs (F := Ideal)) (onTc (τ := τ) (main (F := Ideal))) ⟨m, fun _ => 0, ρ⟩ fun r => ∀ c : Dev nD,
      r.2.mem ((c.tc : Thread nD τ).loc main_v20_0) = (dats m 0 c).arrAt 6 cfg0.N
      ∧ r.2.mem ((c.tc : Thread nD τ).loc main_v20_5) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1 6, (h c).1 11,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main m ρ)
end Kernel

/-! ## The reference's results -/

section Reference
open Cert.MixReferenceIdeal Cert.MixReferenceIdeal.Gen Cert.MixReferenceIdeal.Value Cert.MixRef StableHlo
variable (m : (ℓ : Loc nD τ sig) → Buf (Elt Ideal) ℓ) (c : Dev nD)
variable (P : ℕ → ℕ → ℝ) (lg lb : ℕ → ℝ) (W : Fin 4 → Fin 128 → Fin 128 → ℝ) (SB : Fin 4 → Fin 128 → ℝ)
variable (cw : Fin 4 → ℕ → ℝ) (al dt : Fin 4 → ℝ) (ng : Fin 128 → ℝ)
variable (h0 : ∀ (n : Fin 4096) (k : Fin 3080), ((m ((c.tc : Thread nD τ).loc main_arg0)) : FVec Ideal S4096x3080 .f32) (ix2 n k) = ((P n k : ℝ) : EReal))
variable (h1 : ∀ k : Fin 512, ((m ((c.tc : Thread nD τ).loc main_arg1)) : FVec Ideal S512 .f32) (ix1 k) = ((lg k : ℝ) : EReal))
variable (h2 : ∀ k : Fin 512, ((m ((c.tc : Thread nD τ).loc main_arg2)) : FVec Ideal S512 .f32) (ix1 k) = ((lb k : ℝ) : EReal))
variable (h3 : ∀ h i j, ((m ((c.tc : Thread nD τ).loc main_arg3)) : FVec Ideal S4x128x128 .f32) (ix3 h i j) = ((W h i j : ℝ) : EReal))
variable (h4 : ∀ h i, ((m ((c.tc : Thread nD τ).loc main_arg4)) : FVec Ideal S4x128 .f32) (ix2 h i) = ((SB h i : ℝ) : EReal))
variable (h5 : ∀ (j : Fin 4) (k : Fin 1536), ((m ((c.tc : Thread nD τ).loc main_arg5)) : FVec Ideal S4x1536 .f32) (ix2 j k) = ((cw j k : ℝ) : EReal))
variable (h6 : ∀ j, ((m ((c.tc : Thread nD τ).loc main_arg6)) : FVec Ideal S4 .f32) (ix1 j) = ((al j : ℝ) : EReal))
variable (h7 : ∀ j, ((m ((c.tc : Thread nD τ).loc main_arg7)) : FVec Ideal S4 .f32) (ix1 j) = ((dt j : ℝ) : EReal))
variable (h8 : ∀ d, ((m ((c.tc : Thread nD τ).loc main_arg8)) : FVec Ideal S128 .f32) (ix1 d) = ((ng d : ℝ) : EReal))

include h0 h5 in
theorem act_at (n : Fin 4096) (k : Fin 1536) : actT m c (ix2 n k) = ((act P cw n k : ℝ) : EReal) := by
  unfold actT
  exact rAct_at _ (cvr P cw) (rConv_at P cw _ h5 _ (rPad_at P _ h0)) n k

include h0 h5 h6 h7 in
theorem rows_at (n : Fin 4096) (h : Fin 4) (d : Fin 128) :
    ((STEP^[4096] (entryContents preI m c)) (Proc.devRef .tc main_v73_7) : FVec Ideal S4096x4x128 .f32) (ix3 n h d) = ((oD P cw al dt h n d : ℝ) : EReal) := by
  have ha := act_at m c P cw h0 h5
  refine (trips P cw al dt (entryContents preI m c) (ctr_entry m c) ?_ ?_ ?_ ?_ ?_ ?_ 4096 le_rfl).2.2 n h d n.isLt
  · intro n h d; rw [in0]; exact rQ_at _ _ ha n h d
  · intro n h d; rw [in1]; exact rK_at _ _ ha n h d
  · intro n h d; rw [in2]; exact rV_at _ _ ha n h d
  · intro n h; rw [in3]; exact rG_at P al dt _ h6 _ (rD_at P dt _ _ h0 h7) n h
  · intro n h; rw [in4]; exact rB_at P _ h0 n h
  · intro h a d; rw [in6]; exact zero_f32

include h0 h1 h2 h3 h4 h5 h6 h7 h8 in
theorem ref_mix : out_main_v155 (STEP^[4096] (entryContents preI m c)) = arr6 (mixD P lg lb W SB cw al dt ng) := by
  refine mix_at P lg lb W SB cw al dt ng _ ?_ ?_ ?_ ?_ ?_ ?_ (rows_at m c P cw al dt h0 h5 h6 h7)
  · intro n k; rw [iter_main_arg0]; exact h0 n k
  · intro k; rw [iter_main_arg1]; exact h1 k
  · intro k; rw [iter_main_arg2]; exact h2 k
  · intro h i j; rw [iter_main_arg3]; exact h3 h i j
  · intro h i; rw [iter_main_arg4]; exact h4 h i
  · intro d; rw [iter_main_arg8]; exact h8 d

include h0 h5 h6 h7 in
theorem ref_rows : out_main_v156 (STEP^[4096] (entryContents preI m c)) = arr11 (orD P cw al dt) :=
  orow_at P cw al dt _ (rows_at m c P cw al dt h0 h5 h6 h7)
end Reference

/-! ## The values -/

section Values
open Cert.MixKernelIdeal
variable (m : (ℓ : Loc nD τ sig) → Buf (Elt Ideal) ℓ)
variable (m' : (ℓ : Loc Cert.MixReferenceIdeal.nD Cert.MixReferenceIdeal.τ Cert.MixReferenceIdeal.sig) → Buf (Elt Ideal) ℓ)

theorem values (c : Dev nD) (hp : (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.2.2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.2.2.2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.2.2.2.2.1 = (fun _ => 1#1)
      ∧ (Cert.Pre_finite_mix_arguments.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).2.2.2.2.2.2.2.2 = (fun _ => 1#1))
    (he : m' ((c.tc : Thread Cert.MixReferenceIdeal.nD Cert.MixReferenceIdeal.τ).loc Cert.MixReferenceIdeal.main_arg0) = m ((c.tc : Thread nD τ).loc main_arg0)
      ∧ m' ((c.tc : Thread Cert.MixReferenceIdeal.nD Cert.MixReferenceIdeal.τ).loc Cert.MixReferenceIdeal.main_arg1) = m ((c.tc : Thread nD τ).loc main_arg1)
      ∧ m' ((c.tc : Thread Cert.MixReferenceIdeal.nD Cert.MixReferenceIdeal.τ).loc Cert.MixReferenceIdeal.main_arg2) = m ((c.tc : Thread nD τ).loc main_arg2)
      ∧ m' ((c.tc : Thread Cert.MixReferenceIdeal.nD Cert.MixReferenceIdeal.τ).loc Cert.MixReferenceIdeal.main_arg3) = m ((c.tc : Thread nD τ).loc main_arg3)
      ∧ m' ((c.tc : Thread Cert.MixReferenceIdeal.nD Cert.MixReferenceIdeal.τ).loc Cert.MixReferenceIdeal.main_arg4) = m ((c.tc : Thread nD τ).loc main_arg4)
      ∧ m' ((c.tc : Thread Cert.MixReferenceIdeal.nD Cert.MixReferenceIdeal.τ).loc Cert.MixReferenceIdeal.main_arg5) = m ((c.tc : Thread nD τ).loc main_arg5)
      ∧ m' ((c.tc : Thread Cert.MixReferenceIdeal.nD Cert.MixReferenceIdeal.τ).loc Cert.MixReferenceIdeal.main_arg6) = m ((c.tc : Thread nD τ).loc main_arg6)
      ∧ m' ((c.tc : Thread Cert.MixReferenceIdeal.nD Cert.MixReferenceIdeal.τ).loc Cert.MixReferenceIdeal.main_arg7) = m ((c.tc : Thread nD τ).loc main_arg7)
      ∧ m' ((c.tc : Thread Cert.MixReferenceIdeal.nD Cert.MixReferenceIdeal.τ).loc Cert.MixReferenceIdeal.main_arg8) = m ((c.tc : Thread nD τ).loc main_arg8)) :
    Cert.MixReferenceIdeal.Value.out_main_v155 (Cert.MixReferenceIdeal.Value.STEP^[4096] (StableHlo.entryContents Cert.MixReferenceIdeal.Value.preI m' c)) = (Cert.MixKernelIdeal.Gen.dats m 0 c).arrAt 6 Cert.MixKernelIdeal.cfg0.N
    ∧ Cert.MixReferenceIdeal.Value.out_main_v156 (Cert.MixReferenceIdeal.Value.STEP^[4096] (StableHlo.entryContents Cert.MixReferenceIdeal.Value.preI m' c)) = (Cert.MixKernelIdeal.Gen.dats m 0 c).arrAt 11 Cert.MixKernelIdeal.cfg0.N := by
  have g0 := nat2_at _ (real_of_pre _ hp.1)
  have g1 := nat1_at _ (real_of_pre _ hp.2.1)
  have g2 := nat1_at _ (real_of_pre _ hp.2.2.1)
  have g3 := fun h i j => (real_of_pre _ hp.2.2.2.1 (ix3 h i j)).symm
  have g4 := fun h i => (real_of_pre _ hp.2.2.2.2.1 (ix2 h i)).symm
  have g5 := fun j : Fin 4 => nat2_at _ (real_of_pre _ hp.2.2.2.2.2.1) j
  have g6 := fun j => (real_of_pre _ hp.2.2.2.2.2.2.1 (ix1 j)).symm
  have g7 := fun j => (real_of_pre _ hp.2.2.2.2.2.2.2.1 (ix1 j)).symm
  have g8 := fun d => (real_of_pre _ hp.2.2.2.2.2.2.2.2 (ix1 d)).symm
  have e0 := he.1
  have e1 := he.2.1
  have e2 := he.2.2.1
  have e3 := he.2.2.2.1
  have e4 := he.2.2.2.2.1
  have e5 := he.2.2.2.2.2.1
  have e6 := he.2.2.2.2.2.2.1
  have e7 := he.2.2.2.2.2.2.2.1
  have e8 := he.2.2.2.2.2.2.2.2
  have a0 : ∀ (t : Fin cfg0.N) (i : Fin 128) (k : Fin 3200), k.val < 3080 → (Cert.MixKernelIdeal.Gen.iblk m c 0 t : FVec Ideal S128x3200 .f32) (ix2 i k) = ((nat2 (a := 4096) (b := 3080) (m ((c.tc : Thread nD τ).loc main_arg0)) (128 * t.val + i) k : ℝ) : EReal) := fun t i k hk => (bk0 m c t i k hk).trans (g0 (row t i) ⟨k.val, hk⟩)
  have a1 := fun (t : Fin cfg0.N) k => (bk1_0 m c t k).trans (g1 k)
  have a2 := fun (t : Fin cfg0.N) k => (bk1_1 m c t k).trans (g2 k)
  have a3 := fun (t : Fin cfg0.N) h i j => (bk2 m c t h i j).trans (g3 h i j)
  have a4 := fun (t : Fin cfg0.N) (h : Fin 4) i => (bk3 m c t i ⟨h, f0 h⟩ h.isLt).trans (g4 h i)
  have a5 := fun (t : Fin cfg0.N) (j : Fin 4) k => (bk4 m c t ⟨j, f8 j⟩ j.isLt k).trans (g5 j k)
  have a6 := fun (t : Fin cfg0.N) h => (bk5_0 m c t h).trans (g6 h)
  have a7 := fun (t : Fin cfg0.N) h => (bk5_1 m c t h).trans (g7 h)
  have a8 := fun (t : Fin cfg0.N) d => (bk5_2 m c t d).trans (g8 d)
  have b0 := fun n k => (congrFun e0 (ix2 n k)).trans (g0 n k)
  have b1 := fun k => (congrFun e1 (ix1 k)).trans (g1 k)
  have b2 := fun k => (congrFun e2 (ix1 k)).trans (g2 k)
  have b3 := fun h i j => (congrFun e3 (ix3 h i j)).trans (g3 h i j)
  have b4 := fun h i => (congrFun e4 (ix2 h i)).trans (g4 h i)
  have b5 := fun j k => (congrFun e5 (ix2 j k)).trans (g5 j k)
  have b6 := fun j => (congrFun e6 (ix1 j)).trans (g6 j)
  have b7 := fun j => (congrFun e7 (ix1 j)).trans (g7 j)
  have b8 := fun d => (congrFun e8 (ix1 d)).trans (g8 d)
  exact ⟨(ref_mix m' c _ _ _ _ _ _ _ _ _ b0 b1 b2 b3 b4 b5 b6 b7 b8).trans (final6 m c _ _ _ _ _ _ _ _ _ a0 a1 a2 a3 a4 a5 a6 a7 a8).symm,
    (ref_rows m' c _ _ _ _ b0 b5 b6 b7).trans (final11 m c _ _ _ _ a0 a5 a6 a7).symm⟩
end Values

theorem algebraic : Cert.algebraic_MixKernelIdeal_MixReferenceIdeal_pre_finite_mix_arguments
    (hPre_finite_mix_arguments := pre_facts) := by
  intro m g m' g' hpre hagree
  refine ⟨fun c => (Cert.MixKernelIdeal.Gen.dats m 0 c).arrAt 6 Cert.MixKernelIdeal.cfg0.N,
    fun c => (Cert.MixKernelIdeal.Gen.dats m 0 c).arrAt 11 Cert.MixKernelIdeal.cfg0.N,
    run_results m g, (θ_run _ _ _).mono (fun r h c => ?_) (Cert.MixReferenceIdeal.Value.run m' g')⟩
  obtain ⟨r0, r1, rest⟩ := h c
  have key := values m m' c (hpre c) (hagree c)
  exact ⟨r0.trans key.1, r1.trans key.2, rest⟩

end Cert.Mix

end
-- ==== Proof.FwdFf.lean ====
/- The value claim of the second feed-forward product, gated onto the stream. -/
module

public import proofs.«01_k».proof.Defs
public import proofs.«01_k».proof.Proof.Relu
public import proofs.«01_k».proof.Proof.Pieces
public import proofs.«01_k».proof.Proof.Gen.FwdFfKernelIdeal.Value
public import proofs.«01_k».proof.Proof.Gen.FwdFfReferenceIdeal.Read
public import proofs.«01_k».proof.Proof.Gen.FwdFfReferenceIdeal.Run
public import Idealize.ShloMosaic.Lib.Pointwise
public import Idealize.ShloMosaic.Lib.Pipeline.ValueKit

@[expose] public section

set_option maxRecDepth 16384

noncomputable section

namespace Cert.FwdFf

open Idealize.ShloMosaic Cert.Lift
open Cert.Relu (relu1)

/-- A sum over the hidden columns is the sum of the four slots' sums. -/
theorem slots_sum (f : Fin 4096 → EReal) (f0 f1 f2 f3 : Fin 1024 → EReal)
    (h0 : ∀ k : Fin 1024, f0 k = f ⟨k.val, by have := k.isLt; omega⟩) (h1 : ∀ k : Fin 1024, f1 k = f ⟨1024 + k.val, by have := k.isLt; omega⟩)
    (h2 : ∀ k : Fin 1024, f2 k = f ⟨2048 + k.val, by have := k.isLt; omega⟩) (h3 : ∀ k : Fin 1024, f3 k = f ⟨3072 + k.val, by have := k.isLt; omega⟩) :
    ∑ k, f0 k + ∑ k, f1 k + ∑ k, f2 k + ∑ k, f3 k = ∑ n, f n := by
  rw [← Fin.sum_mul_add_fin 4 1024 f (by norm_num)]
  rw [Fin.sum_univ_four]
  refine congrArg₂ (· + ·) (congrArg₂ (· + ·) (congrArg₂ (· + ·) ?_ ?_) ?_) ?_ <;> refine Finset.sum_congr rfl fun k _ => ?_
  · rw [h0]; exact congrArg f (Fin.ext (by show k.val = 0 * 1024 + k.val; omega))
  · rw [h1]; exact congrArg f (Fin.ext (by show 1024 + k.val = 1 * 1024 + k.val; omega))
  · rw [h2]; exact congrArg f (Fin.ext (by show 2048 + k.val = 2 * 1024 + k.val; omega))
  · rw [h3]; exact congrArg f (Fin.ext (by show 3072 + k.val = 3 * 1024 + k.val; omega))

section Block
open Cert.FwdFfKernelIdeal Cert.FwdFfKernelIdeal.Gen
variable (x : FVec Ideal S512x1024 .f32) (q : FVec Ideal S512x4096 .bf16) (g : FVec Ideal S1x8x1024 .f32)
variable (w : FVec Ideal S4x1024x1024 .bf16)

theorem out4 (r : Fin 512) (l : Fin 1024) :
    out0_4 (F := Ideal) x q g w (ix2 r l) = x (ix2 r l) + g (ix3 0 5 l) * ∑ n : Fin 4096, q (ix2 r n) * q (ix2 r n)
      * w (ix3 ⟨n.val / 1024, by have := n.isLt; omega⟩ ⟨n.val % 1024, by omega⟩ l) := by
  unfold out0_4
  refine (Pieces.canon_hit _ _ _ _ (ix2 r l) (by intro a; fin_cases a <;> simp [ix2])).trans ?_
  pointwise [k0_pay1, k0_pay2, k0_pay3, k0_pay4]
  refine congrArg (fun z => x (ix2 r l) + g (ix3 0 5 l) * z) (slots_sum _ _ _ _ _ ?_ ?_ ?_ ?_) <;> intro k <;>
    have hk := k.isLt
  · exact congrArg (fun z => _ * w z) (congrArg₂ (fun a b => ix3 a b l) (Fin.ext (by show 0 = k.val / 1024; omega)) (Fin.ext (by show k.val = k.val % 1024; omega)))
  · exact congrArg (fun z => _ * w z) (congrArg₂ (fun a b => ix3 a b l) (Fin.ext (by show 1 = (1024 + k.val) / 1024; omega)) (Fin.ext (by show k.val = (1024 + k.val) % 1024; omega)))
  · exact congrArg (fun z => _ * w z) (congrArg₂ (fun a b => ix3 a b l) (Fin.ext (by show 2 = (2048 + k.val) / 1024; omega)) (Fin.ext (by show k.val = (2048 + k.val) % 1024; omega)))
  · exact congrArg (fun z => _ * w z) (congrArg₂ (fun a b => ix3 a b l) (Fin.ext (by show 3 = (3072 + k.val) / 1024; omega)) (Fin.ext (by show k.val = (3072 + k.val) % 1024; omega)))

end Block

section Run
open Cert.FwdFfKernelIdeal Cert.FwdFfKernelIdeal.Gen
variable (m : (ℓ : Loc nD τ sig) → Buf (Elt Ideal) ℓ) (c : Dev nD)

theorem idx0 : ∀ t : Fin cfg0.N, win0_0.index t = ![t.val, 0] ∧ win0_1.index t = ![t.val, 0] ∧ win0_2.index t = ![0, 0, 0]
    ∧ win0_3.index t = ![0, 0, 0] ∧ win0_4.index t = ![t.val, 0] :=
  (by decide +kernel : ∀ t : Fin grid0.N, _)

def row (t : Fin cfg0.N) (r : Fin 512) : Fin 4096 :=
  ⟨t.val * 512 + r.val, by have h : t.val < 8 := lt_of_lt_of_eq t.isLt N_0; have := r.isLt; omega⟩

theorem blk0 (t : Fin cfg0.N) (r : Fin 512) (l : Fin 1024) :
    (iblk m c 0 t : FVec Ideal S512x1024 .f32) (ix2 r l) = m ((c.tc : Thread nD τ).loc main_arg0) (ix2 (row t r) l) := by
  unfold row
  blk_point [iblk, V, idx0 t]

theorem entry2 : V m c main_v2 = truncf (F := Ideal) .bf16 (maximumf (F := Ideal) (m ((c.tc : Thread nD τ).loc main_arg1))
    (broadcastInDim S4096x4096 ![] bcast_S_S4096x4096 (constant S_ .f32 0x00000000#32))) bitsLt_bf16_f32 := by
  unfold V
  simp only [hostOps0, hostOps0_1, hostOps0_2, List.flatten_cons, List.flatten_nil, List.append_nil, List.cons_append, List.nil_append]
  after_results

theorem entry4 : V m c main_v4 = pad S1x8x1024 ![0, 5, 0] ![0, 2, 0] ![0, 0, 0]
    (broadcastInDim S1x1x1024 ![2] bcast_S1024_S1x1x1024_2 (m ((c.tc : Thread nD τ).loc main_arg2)))
    (sitofp (F := Ideal) .f32 (constantI S_ 32 0#32)) pads_S1x1x1024_S1x8x1024_000_520_000 h_S_ := by
  unfold V
  simp only [hostOps0, hostOps0_1, hostOps0_2, List.flatten_cons, List.flatten_nil, List.append_nil, List.cons_append, List.nil_append]
  after_results
  rfl

theorem entry6 : V m c main_v6 = truncf (F := Ideal) .bf16
    (shapeCast S4x1024x1024 (m ((c.tc : Thread nD τ).loc main_arg3)) shapeCasts_S4096x1024_S4x1024x1024) bitsLt_bf16_f32 := by
  unfold V
  simp only [hostOps0, hostOps0_1, hostOps0_2, List.flatten_cons, List.flatten_nil, List.append_nil, List.cons_append, List.nil_append]
  after_results
  rfl

theorem at1 (t : Fin cfg0.N) (r : Fin 512) (n : Fin 4096) :
    (iblk m c 1 t : FVec Ideal S512x4096 .bf16) (ix2 r n) = (V m c main_v2 : FVec Ideal S4096x4096 .bf16) (ix2 (row t r) n) := by
  show _ = V m c (Pipeline.arrRef spec0 1) (ix2 (row t r) n)
  unfold row iblk
  generalize V m c (Pipeline.arrRef spec0 1) = A
  blk_point [idx0 t]

theorem at2 (t : Fin cfg0.N) (s : Fin 8) (l : Fin 1024) :
    (iblk m c 2 t : FVec Ideal S1x8x1024 .f32) (ix3 0 s l) = (V m c main_v4 : FVec Ideal S1x8x1024 .f32) (ix3 0 s l) := by
  show _ = V m c (Pipeline.arrRef spec0 2) (ix3 0 s l)
  unfold iblk
  generalize V m c (Pipeline.arrRef spec0 2) = A
  blk_point [idx0 t]

theorem at3 (t : Fin cfg0.N) (s : Fin 4) (l k : Fin 1024) :
    (iblk m c 3 t : FVec Ideal S4x1024x1024 .bf16) (ix3 s l k) = (V m c main_v6 : FVec Ideal S4x1024x1024 .bf16) (ix3 s l k) := by
  show _ = V m c (Pipeline.arrRef spec0 3) (ix3 s l k)
  unfold iblk
  generalize V m c (Pipeline.arrRef spec0 3) = A
  blk_point [idx0 t]

theorem relu_at (A : FVec Ideal S4096x4096 .f32) (r n : Fin 4096) : truncf (F := Ideal) .bf16 (maximumf (F := Ideal) A
    (broadcastInDim S4096x4096 ![] bcast_S_S4096x4096 (constant S_ .f32 0x00000000#32))) bitsLt_bf16_f32 (ix2 r n) = relu1 (A (ix2 r n)) := by
  pointwise
  rfl

theorem slots_at (A : FVec Ideal S4096x1024 .f32) (s : Fin 4) (l k : Fin 1024) : truncf (F := Ideal) .bf16
    (shapeCast S4x1024x1024 A shapeCasts_S4096x1024_S4x1024x1024) bitsLt_bf16_f32 (ix3 s l k)
      = A (ix2 ⟨s.val * 1024 + l.val, by have := s.isLt; have := l.isLt; omega⟩ k) := by
  pointwise

theorem blk1 (t : Fin cfg0.N) (r : Fin 512) (n : Fin 4096) :
    (iblk m c 1 t : FVec Ideal S512x4096 .bf16) (ix2 r n) = relu1 (m ((c.tc : Thread nD τ).loc main_arg1) (ix2 (row t r) n)) := by
  rw [at1, entry2]
  exact relu_at _ _ _

theorem blk2 (t : Fin cfg0.N) (l : Fin 1024) :
    (iblk m c 2 t : FVec Ideal S1x8x1024 .f32) (ix3 0 5 l) = m ((c.tc : Thread nD τ).loc main_arg2) (ix1 l) := by
  rw [at2, entry4]
  generalize m ((c.tc : Thread nD τ).loc main_arg2) = A
  pointwise

theorem blk3 (t : Fin cfg0.N) (s : Fin 4) (l k : Fin 1024) :
    (iblk m c 3 t : FVec Ideal S4x1024x1024 .bf16) (ix3 s l k) = m ((c.tc : Thread nD τ).loc main_arg3)
      (ix2 ⟨s.val * 1024 + l.val, by have := s.isLt; have := l.isLt; omega⟩ k) := by
  rw [at3, entry6]
  exact slots_at _ _ _ _

/-- The array the kernel leaves. -/
def arr (x0 : FVec Ideal S4096x1024 .f32) (x1 : FVec Ideal S4096x4096 .f32) (x2 : FVec Ideal S1024 .f32)
    (x3 : FVec Ideal S4096x1024 .f32) (r : Fin 4096) (l : Fin 1024) : EReal :=
  x0 (ix2 r l) + x2 (ix1 l) * ∑ n : Fin 4096, relu1 (x1 (ix2 r n)) * relu1 (x1 (ix2 r n)) * x3 (ix2 n l)

theorem point (t : Fin cfg0.N) (r : Fin 512) (l : Fin 1024) :
    out0_4 (F := Ideal) (iblk m c 0 t) (iblk m c 1 t) (iblk m c 2 t) (iblk m c 3 t) (ix2 r l)
      = arr (m ((c.tc : Thread nD τ).loc main_arg0)) (m ((c.tc : Thread nD τ).loc main_arg1)) (m ((c.tc : Thread nD τ).loc main_arg2)) (m ((c.tc : Thread nD τ).loc main_arg3)) (row t r) l := by
  refine (out4 _ _ _ _ r l).trans ?_
  unfold arr
  rw [blk0 m c t r l, blk2 m c t l]
  refine congrArg (fun z : EReal => _ + _ * z) (Finset.sum_congr rfl fun n _ => ?_)
  rw [blk1 m c t r n, blk3 m c t _ _ l]
  have e : (⟨n.val / 1024 * 1024 + n.val % 1024, by have := n.isLt; omega⟩ : Fin 4096) = n := Fin.ext (by show n.val / 1024 * 1024 + n.val % 1024 = n.val; omega)
  exact Relu.mul_congr rfl (congrArg (fun z => (m ((c.tc : Thread nD τ).loc main_arg3)) (ix2 z l)) e)

theorem final : (dats m 0 c).arrAt 4 cfg0.N = fun i => arr (m ((c.tc : Thread nD τ).loc main_arg0)) (m ((c.tc : Thread nD τ).loc main_arg1)) (m ((c.tc : Thread nD τ).loc main_arg2)) (m ((c.tc : Thread nD τ).loc main_arg3)) (i 0) (i 1) := by
  refine (dats m 0 c).arrAt_eq_of_covers 4 _ (by decide +kernel) fun t _ y => ?_
  blk_simp
  rw [after0_4]
  idx_vars y
  refine (point m c t _ _).trans ?_
  generalize arr (m ((c.tc : Thread nD τ).loc main_arg0)) (m ((c.tc : Thread nD τ).loc main_arg1)) (m ((c.tc : Thread nD τ).loc main_arg2)) (m ((c.tc : Thread nD τ).loc main_arg3)) = A
  refine Eq.trans (b := (fun i : S4096x1024.Idx => A (i 0) (i 1)) (ix2 (row t y0) y1)) rfl ?_
  refine congrArg (fun i : S4096x1024.Idx => A (i 0) (i 1)) ?_
  unfold row
  blk_ext [idx0 t]

end Run

section Ref
open Cert.FwdFfReferenceIdeal Cert.FwdFfReferenceIdeal.Value Cert.FwdFfReferenceIdeal.Read
variable (x0 : FVec Ideal S4096x1024 .f32) (x1 : FVec Ideal S4096x4096 .f32) (x2 : FVec Ideal S1024 .f32)
variable (x3 : FVec Ideal S4096x1024 .f32)

theorem ref (r : Fin 4096) (l : Fin 1024) : val_main_v6 (F := Ideal) x0 x1 x2 x3 (ix2 r l) = arr x0 x1 x2 x3 r l := by
  unfold arr
  pointwise [val_main_v6, val_main_v5, val_main_v4, val_main_v3, val_main_v2, val_main_v1, val_main_v0, val_main_call0_v0, val_main_call0_cst]
  rfl

end Ref

section Values
open Cert.FwdFfKernelIdeal
variable (m : (ℓ : Loc nD τ sig) → Buf (Elt Ideal) ℓ)

theorem values (c : Dev nD)
    {y0 : Buf (Elt Ideal) ((c.tc : Thread Cert.FwdFfReferenceIdeal.nD Cert.FwdFfReferenceIdeal.τ).loc Cert.FwdFfReferenceIdeal.main_arg0)}
    {y1 : Buf (Elt Ideal) ((c.tc : Thread Cert.FwdFfReferenceIdeal.nD Cert.FwdFfReferenceIdeal.τ).loc Cert.FwdFfReferenceIdeal.main_arg1)}
    {y2 : Buf (Elt Ideal) ((c.tc : Thread Cert.FwdFfReferenceIdeal.nD Cert.FwdFfReferenceIdeal.τ).loc Cert.FwdFfReferenceIdeal.main_arg2)}
    {y3 : Buf (Elt Ideal) ((c.tc : Thread Cert.FwdFfReferenceIdeal.nD Cert.FwdFfReferenceIdeal.τ).loc Cert.FwdFfReferenceIdeal.main_arg3)}
    (he : y0 = (m ((c.tc : Thread nD τ).loc main_arg0))
      ∧ y1 = (m ((c.tc : Thread nD τ).loc main_arg1))
      ∧ y2 = (m ((c.tc : Thread nD τ).loc main_arg2))
      ∧ y3 = (m ((c.tc : Thread nD τ).loc main_arg3))) :
    Cert.FwdFfReferenceIdeal.Read.val_main_v6 (F := Ideal) y0 y1 y2 y3 = (Gen.dats m 0 c).arrAt 4 cfg0.N := by
  rw [he.1, he.2.1, he.2.2.1, he.2.2.2]
  refine Eq.trans ?_ (final m c).symm
  funext i
  exact (congrArg _ (by funext k; fin_cases k <;> rfl : i = ix2 (i 0) (i 1))).trans (ref _ _ _ _ (i 0) (i 1))
end Values

theorem algebraic : Cert.algebraic_FwdFfKernelIdeal_FwdFfReferenceIdeal := by
  intro m g m' g' _ hagree
  refine ⟨fun c => (Cert.FwdFfKernelIdeal.Gen.dats m 0 c).arrAt 4 Cert.FwdFfKernelIdeal.cfg0.N,
    Cert.FwdFfKernelIdeal.Value.run_blocks m g, (θ_run _ _ _).mono (fun r h c => ?_) (Cert.FwdFfReferenceIdeal.Value.run m' g')⟩
  obtain ⟨r0, rest⟩ := h c
  have key := values m c (hagree c)
  exact ⟨(r0.trans (Cert.FwdFfReferenceIdeal.Read.val_main_v6_eq _ _ _ _)).trans key, rest⟩

end Cert.FwdFf

end
-- ==== Proof.FwdIn.lean ====
/- The value claim of the first norm with its modulation and the input product. -/
module

public import proofs.«01_k».proof.Defs
public import proofs.«01_k».proof.Proof.Lift
public import proofs.«01_k».proof.Proof.Pieces
public import proofs.«01_k».proof.Proof.Gen.FwdInKernelIdeal.Value
public import proofs.«01_k».proof.Proof.Gen.FwdInReferenceIdeal.Read
public import proofs.«01_k».proof.Proof.Gen.FwdInReferenceIdeal.Run
public import Idealize.ShloMosaic.Lib.Pointwise
public import Idealize.ShloMosaic.Lib.Pipeline.ValueKit

@[expose] public section

set_option maxRecDepth 16384

noncomputable section

namespace Cert.FwdIn

open Idealize.ShloMosaic Cert.Lift

/-- A row over its root mean square, scaled and shifted. -/
def hn (x N C S : Fin 1024 → EReal) (l : Fin 1024) : EReal :=
  x l * Ideal.rsqrt (Ideal.div (∑ k, x k * x k) (Ideal.ofBits .f32 0x44800000#32) + Ideal.ofBits .f32 0x358637BD#32)
    * (N l * (1 + C l)) + S l

section Block
open Cert.FwdInKernelIdeal Cert.FwdInKernelIdeal.Gen
variable (x : FVec Ideal S512x1024 .f32) (g : FVec Ideal S1x8x1024 .f32) (w : FVec Ideal S1024x3200 .bf16)

theorem pay1 (a b s : FVec Ideal S1x1x1024 .f32) (r : Fin 512) (l : Fin 1024) :
    k0_pay1 (F := Ideal) x a b s (ix2 r l) = hn (fun k => x (ix2 r k)) (fun k => a (ix3 0 0 k)) (fun k => b (ix3 0 0 k)) (fun k => s (ix3 0 0 k)) l := by
  pointwise [k0_pay1]
  rfl

/-- One row of a block, scaled and shifted. -/
def hrow (r : Fin 512) : Fin 1024 → EReal :=
  hn (fun k => x (ix2 r k)) (fun k => g (ix3 0 6 k)) (fun k => g (ix3 0 1 k)) (fun k => g (ix3 0 0 k))

theorem out4 (r : Fin 512) (l : Fin 1024) : out0_4 (F := Ideal) x g w (ix2 r l) = hrow x g r l := by
  unfold out0_4
  refine (Pieces.canon_hit _ _ _ _ (ix2 r l) (by intro a; fin_cases a <;> simp [ix2])).trans ?_
  refine (pay1 _ _ _ _ _ _).trans ?_
  unfold hrow
  pointwise

theorem out3 (r : Fin 512) (n : Fin 3200) : out0_3 (F := Ideal) x g w (ix2 r n) = ∑ k, hrow x g r k * w (ix2 k n) := by
  unfold out0_3
  refine (Pieces.canon_hit _ _ _ _ (ix2 r n) (by intro a; fin_cases a <;> simp [ix2])).trans ?_
  pointwise [k0_pay2, pay1]
  rfl
end Block

section Run
open Cert.FwdInKernelIdeal Cert.FwdInKernelIdeal.Gen
variable (m : (ℓ : Loc nD τ sig) → Buf (Elt Ideal) ℓ) (c : Dev nD)

theorem idx0 : ∀ t : Fin cfg0.N, win0_0.index t = ![t.val, 0] ∧ win0_1.index t = ![0, 0, 0] ∧ win0_2.index t = ![0, 0]
    ∧ win0_3.index t = ![t.val, 0] ∧ win0_4.index t = ![t.val, 0] :=
  (by decide +kernel : ∀ t : Fin grid0.N, _)

def row (t : Fin cfg0.N) (r : Fin 512) : Fin 4096 :=
  ⟨t.val * 512 + r.val, by have h : t.val < 8 := lt_of_lt_of_eq t.isLt N_0; have := r.isLt; omega⟩

theorem blk0 (t : Fin cfg0.N) (r : Fin 512) (l : Fin 1024) :
    (iblk m c 0 t : FVec Ideal S512x1024 .f32) (ix2 r l) = m ((c.tc : Thread nD τ).loc main_arg0) (ix2 (row t r) l) := by
  unfold row
  blk_point [iblk, V, idx0 t]

theorem entry6 : V m c main_v6 = (broadcastInDim S1x8x1024 ![1, 2] bcast_S8x1024_S1x8x1024_1_2 (concatenate S8x1024 0
      [⟨S1x1024, broadcastInDim S1x1024 ![1] bcast_S1024_S1x1024_1 (m ((c.tc : Thread nD τ).loc main_arg1))⟩, ⟨S1x1024, broadcastInDim S1x1024 ![1] bcast_S1024_S1x1024_1 (m ((c.tc : Thread nD τ).loc main_arg2))⟩,
       ⟨S4x1024, broadcastInDim S4x1024 ![] bcast_S_S4x1024 (constant (F := Ideal) S_ .f32 0x00000000#32)⟩,
       ⟨S1x1024, broadcastInDim S1x1024 ![1] bcast_S1024_S1x1024_1 (m ((c.tc : Thread nD τ).loc main_arg3))⟩,
       ⟨S1x1024, broadcastInDim S1x1024 ![] bcast_S_S1x1024 (constant (F := Ideal) S_ .f32 0x00000000#32)⟩] concatenates_S1x1024_S1x1024_S4x1024_S1x1024_S1x1024_S8x1024_d0) : FVec Ideal S1x8x1024 .f32) := by
  unfold V
  simp only [hostOps0, hostOps0_1, hostOps0_2, List.flatten_cons, List.flatten_nil, List.append_nil, List.cons_append, List.nil_append]
  after_results
  rfl

theorem entry8 : V m c main_v8 = truncf (F := Ideal) .bf16 (pad S1024x3200 ![0, 0] ![0, 120] ![0, 0] (m ((c.tc : Thread nD τ).loc main_arg4))
    (sitofp (F := Ideal) .f32 (constantI S_ 32 0#32)) pads_S1024x3080_S1024x3200_000_01200 h_S_) bitsLt_bf16_f32 := by
  unfold V
  simp only [hostOps0, hostOps0_1, hostOps0_2, List.flatten_cons, List.flatten_nil, List.append_nil, List.cons_append, List.nil_append]
  after_results
  rfl

theorem mod0 (a b d : FVec Ideal S1024 .f32) (l : Fin 1024) : (broadcastInDim S1x8x1024 ![1, 2] bcast_S8x1024_S1x8x1024_1_2 (concatenate S8x1024 0
      [⟨S1x1024, broadcastInDim S1x1024 ![1] bcast_S1024_S1x1024_1 a⟩, ⟨S1x1024, broadcastInDim S1x1024 ![1] bcast_S1024_S1x1024_1 b⟩,
       ⟨S4x1024, broadcastInDim S4x1024 ![] bcast_S_S4x1024 (constant (F := Ideal) S_ .f32 0x00000000#32)⟩,
       ⟨S1x1024, broadcastInDim S1x1024 ![1] bcast_S1024_S1x1024_1 d⟩,
       ⟨S1x1024, broadcastInDim S1x1024 ![] bcast_S_S1x1024 (constant (F := Ideal) S_ .f32 0x00000000#32)⟩] concatenates_S1x1024_S1x1024_S4x1024_S1x1024_S1x1024_S8x1024_d0) : FVec Ideal S1x8x1024 .f32) (ix3 0 0 l) = a (ix1 l) := by
  pointwise
theorem mod1 (a b d : FVec Ideal S1024 .f32) (l : Fin 1024) : (broadcastInDim S1x8x1024 ![1, 2] bcast_S8x1024_S1x8x1024_1_2 (concatenate S8x1024 0
      [⟨S1x1024, broadcastInDim S1x1024 ![1] bcast_S1024_S1x1024_1 a⟩, ⟨S1x1024, broadcastInDim S1x1024 ![1] bcast_S1024_S1x1024_1 b⟩,
       ⟨S4x1024, broadcastInDim S4x1024 ![] bcast_S_S4x1024 (constant (F := Ideal) S_ .f32 0x00000000#32)⟩,
       ⟨S1x1024, broadcastInDim S1x1024 ![1] bcast_S1024_S1x1024_1 d⟩,
       ⟨S1x1024, broadcastInDim S1x1024 ![] bcast_S_S1x1024 (constant (F := Ideal) S_ .f32 0x00000000#32)⟩] concatenates_S1x1024_S1x1024_S4x1024_S1x1024_S1x1024_S8x1024_d0) : FVec Ideal S1x8x1024 .f32) (ix3 0 1 l) = b (ix1 l) := by
  pointwise
theorem mod6 (a b d : FVec Ideal S1024 .f32) (l : Fin 1024) : (broadcastInDim S1x8x1024 ![1, 2] bcast_S8x1024_S1x8x1024_1_2 (concatenate S8x1024 0
      [⟨S1x1024, broadcastInDim S1x1024 ![1] bcast_S1024_S1x1024_1 a⟩, ⟨S1x1024, broadcastInDim S1x1024 ![1] bcast_S1024_S1x1024_1 b⟩,
       ⟨S4x1024, broadcastInDim S4x1024 ![] bcast_S_S4x1024 (constant (F := Ideal) S_ .f32 0x00000000#32)⟩,
       ⟨S1x1024, broadcastInDim S1x1024 ![1] bcast_S1024_S1x1024_1 d⟩,
       ⟨S1x1024, broadcastInDim S1x1024 ![] bcast_S_S1x1024 (constant (F := Ideal) S_ .f32 0x00000000#32)⟩] concatenates_S1x1024_S1x1024_S4x1024_S1x1024_S1x1024_S8x1024_d0) : FVec Ideal S1x8x1024 .f32) (ix3 0 6 l) = d (ix1 l) := by
  pointwise

theorem at1 (t : Fin cfg0.N) (s : Fin 8) (l : Fin 1024) :
    (iblk m c 1 t : FVec Ideal S1x8x1024 .f32) (ix3 0 s l) = (V m c main_v6 : FVec Ideal S1x8x1024 .f32) (ix3 0 s l) := by
  show _ = V m c (Pipeline.arrRef spec0 1) (ix3 0 s l)
  unfold iblk
  generalize V m c (Pipeline.arrRef spec0 1) = A
  blk_point [idx0 t]

theorem blk1_0 (t : Fin cfg0.N) (l : Fin 1024) : (iblk m c 1 t : FVec Ideal S1x8x1024 .f32) (ix3 0 0 l) = (m ((c.tc : Thread nD τ).loc main_arg1)) (ix1 l) := by
  rw [at1, entry6]
  exact mod0 _ _ _ _
theorem blk1_1 (t : Fin cfg0.N) (l : Fin 1024) : (iblk m c 1 t : FVec Ideal S1x8x1024 .f32) (ix3 0 1 l) = (m ((c.tc : Thread nD τ).loc main_arg2)) (ix1 l) := by
  rw [at1, entry6]
  exact mod1 _ _ _ _
theorem blk1_6 (t : Fin cfg0.N) (l : Fin 1024) : (iblk m c 1 t : FVec Ideal S1x8x1024 .f32) (ix3 0 6 l) = (m ((c.tc : Thread nD τ).loc main_arg3)) (ix1 l) := by
  rw [at1, entry6]
  exact mod6 _ _ _ _

theorem sitofp_zero : FloatOps.sitofp (F := Ideal) FTy.f32 0#32 = (0 : EReal) := by
  show (((0#32 : BitVec 32).toInt : ℝ) : EReal) = 0
  simp

/-- The weight with zero columns behind it. -/
def padw (w : FVec Ideal ⟨2, ![1024, 3080]⟩ .f32) (k : Fin 1024) (n : Fin 3200) : EReal :=
  if h : n.val < 3080 then w (ix2 k ⟨n.val, h⟩) else 0

theorem pad_at (w : FVec Ideal S1024x3080 .f32) (k : Fin 1024) (n : Fin 3200) : truncf (F := Ideal) .bf16 (pad S1024x3200 ![0, 0] ![0, 120] ![0, 0] w
    (sitofp (F := Ideal) .f32 (constantI S_ 32 0#32)) pads_S1024x3080_S1024x3200_000_01200 h_S_) bitsLt_bf16_f32 (ix2 k n) = padw w k n := by
  pointwise
  unfold padw
  rw [sitofp_zero]

theorem blk2 (t : Fin cfg0.N) (k : Fin 1024) (n : Fin 3200) :
    (iblk m c 2 t : FVec Ideal S1024x3200 .bf16) (ix2 k n) = padw (m ((c.tc : Thread nD τ).loc main_arg4)) k n := by
  have e : (iblk m c 2 t : FVec Ideal S1024x3200 .bf16) (ix2 k n) = (V m c main_v8 : FVec Ideal S1024x3200 .bf16) (ix2 k n) := by
    show _ = V m c (Pipeline.arrRef spec0 2) (ix2 k n)
    unfold iblk
    generalize V m c (Pipeline.arrRef spec0 2) = A
    blk_point [idx0 t]
  rw [e, entry8]
  exact pad_at _ _ _

/-- The normalized, modulated row. -/
def hid (x : FVec Ideal ⟨2, ![4096, 1024]⟩ .f32) (a b d : FVec Ideal ⟨1, ![1024]⟩ .f32) (r : Fin 4096) : Fin 1024 → EReal :=
  hn (fun k => x (ix2 r k)) (fun k => d (ix1 k)) (fun k => b (ix1 k)) (fun k => a (ix1 k))
/-- Its product with the padded weight. -/
def prod (x : FVec Ideal ⟨2, ![4096, 1024]⟩ .f32) (a b d : FVec Ideal ⟨1, ![1024]⟩ .f32) (w : FVec Ideal ⟨2, ![1024, 3080]⟩ .f32)
    (r : Fin 4096) (n : Fin 3200) : EReal := ∑ k, hid x a b d r k * padw w k n

theorem hid_eq (t : Fin cfg0.N) (r : Fin 512) : hrow (iblk m c 0 t) (iblk m c 1 t) r = hid (m ((c.tc : Thread nD τ).loc main_arg0)) (m ((c.tc : Thread nD τ).loc main_arg1)) (m ((c.tc : Thread nD τ).loc main_arg2)) (m ((c.tc : Thread nD τ).loc main_arg3)) (row t r) := by
  unfold hrow hid
  simp only [blk0 m c t, blk1_0 m c t, blk1_1 m c t, blk1_6 m c t]

theorem point4 (t : Fin cfg0.N) (r : Fin 512) (l : Fin 1024) : out0_4 (F := Ideal) (iblk m c 0 t) (iblk m c 1 t) (iblk m c 2 t) (ix2 r l)
    = hid (m ((c.tc : Thread nD τ).loc main_arg0)) (m ((c.tc : Thread nD τ).loc main_arg1)) (m ((c.tc : Thread nD τ).loc main_arg2)) (m ((c.tc : Thread nD τ).loc main_arg3)) (row t r) l :=
  (out4 _ _ _ r l).trans (congrFun (hid_eq m c t r) l)

theorem point3 (t : Fin cfg0.N) (r : Fin 512) (n : Fin 3200) : out0_3 (F := Ideal) (iblk m c 0 t) (iblk m c 1 t) (iblk m c 2 t) (ix2 r n)
    = prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t r) n := by
  refine (out3 _ _ _ r n).trans ?_
  unfold prod
  rw [hid_eq]
  exact Finset.sum_congr rfl fun k _ => congrArg (hid (m ((c.tc : Thread nD τ).loc main_arg0)) (m ((c.tc : Thread nD τ).loc main_arg1)) (m ((c.tc : Thread nD τ).loc main_arg2)) (m ((c.tc : Thread nD τ).loc main_arg3)) (row t r) k * ·) (blk2 m c t k n)

/-- Arrays from their elements. -/
def arr3 (f : Fin 4096 → Fin 3200 → EReal) (i : S4096x3200.Idx) : EReal := f (i 0) (i 1)
def arr4 (f : Fin 4096 → Fin 1024 → EReal) (i : S4096x1024.Idx) : EReal := f (i 0) (i 1)

theorem final3 : (dats m 0 c).arrAt 3 cfg0.N = arr3 (prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 3 _ (by decide +kernel) fun t _ y => ?_
  blk_simp
  rw [after0_3]
  idx_vars y
  refine (point3 m c t y0 y1).trans ?_
  generalize prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = A
  refine Eq.trans (b := arr3 A (ix2 (row t y0) y1)) rfl (congrArg (arr3 A) ?_)
  unfold row
  blk_ext [idx0 t]

theorem final4 : (dats m 0 c).arrAt 4 cfg0.N = arr4 (hid (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 4 _ (by decide +kernel) fun t _ y => ?_
  blk_simp
  rw [after0_4]
  idx_vars y
  refine (point4 m c t y0 y1).trans ?_
  generalize hid (m ((c.tc : Thread nD τ).loc main_arg0)) (m ((c.tc : Thread nD τ).loc main_arg1)) (m ((c.tc : Thread nD τ).loc main_arg2)) (m ((c.tc : Thread nD τ).loc main_arg3)) = A
  refine Eq.trans (b := arr4 A (ix2 (row t y0) y1)) rfl (congrArg (arr4 A) ?_)
  unfold row
  blk_ext [idx0 t]

end Run

section Ref
open Cert.FwdInReferenceIdeal Cert.FwdInReferenceIdeal.Value Cert.FwdInReferenceIdeal.Read
variable (x0 : FVec Ideal S4096x1024 .f32) (x1 x2 x3 : FVec Ideal S1024 .f32) (x4 : FVec Ideal S1024x3080 .f32)

theorem ref20 (r : Fin 4096) (l : Fin 1024) : val_main_v20 (F := Ideal) x0 x1 x2 x3 (ix2 r l) = hid x0 x1 x2 x3 r l := by
  unfold hid hn
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [mul_assoc (_ * _) (x3 _)]

theorem ref23 (r : Fin 4096) (l : Fin 1024) : val_main_v23 (F := Ideal) x0 x1 x2 x3 (ix2 r l) = hid x0 x1 x2 x3 r l := by
  pointwise [val_main_v23, ref20]

theorem ref22 (r : Fin 4096) (n : Fin 3200) : val_main_v22 (F := Ideal) x0 x1 x2 x3 x4 (ix2 r n) = prod x0 x1 x2 x3 x4 r n := by
  unfold prod padw
  pointwise [val_main_v22, val_main_v21, val_main_call0_v0, val_main_c, ref20]
  by_cases h : n.val < 3080
  · simp only [h, dite_true]
  · simp only [h, dite_false, mul_zero, Finset.sum_const_zero, sitofp_zero]

end Ref

section Values
open Cert.FwdInKernelIdeal
variable (m : (ℓ : Loc nD τ sig) → Buf (Elt Ideal) ℓ)

theorem values (c : Dev nD)
    {y0 : Buf (Elt Ideal) ((c.tc : Thread Cert.FwdInReferenceIdeal.nD Cert.FwdInReferenceIdeal.τ).loc Cert.FwdInReferenceIdeal.main_arg0)}
    {y1 : Buf (Elt Ideal) ((c.tc : Thread Cert.FwdInReferenceIdeal.nD Cert.FwdInReferenceIdeal.τ).loc Cert.FwdInReferenceIdeal.main_arg1)}
    {y2 : Buf (Elt Ideal) ((c.tc : Thread Cert.FwdInReferenceIdeal.nD Cert.FwdInReferenceIdeal.τ).loc Cert.FwdInReferenceIdeal.main_arg2)}
    {y3 : Buf (Elt Ideal) ((c.tc : Thread Cert.FwdInReferenceIdeal.nD Cert.FwdInReferenceIdeal.τ).loc Cert.FwdInReferenceIdeal.main_arg3)}
    {y4 : Buf (Elt Ideal) ((c.tc : Thread Cert.FwdInReferenceIdeal.nD Cert.FwdInReferenceIdeal.τ).loc Cert.FwdInReferenceIdeal.main_arg4)}
    (he : y0 = (m ((c.tc : Thread nD τ).loc main_arg0))
      ∧ y1 = (m ((c.tc : Thread nD τ).loc main_arg1))
      ∧ y2 = (m ((c.tc : Thread nD τ).loc main_arg2))
      ∧ y3 = (m ((c.tc : Thread nD τ).loc main_arg3))
      ∧ y4 = (m ((c.tc : Thread nD τ).loc main_arg4))) :
    Cert.FwdInReferenceIdeal.Read.val_main_v22 (F := Ideal) y0 y1 y2 y3 y4 = (Gen.dats m 0 c).arrAt 3 cfg0.N
    ∧ Cert.FwdInReferenceIdeal.Read.val_main_v23 (F := Ideal) y0 y1 y2 y3 = (Gen.dats m 0 c).arrAt 4 cfg0.N := by
  rw [he.1, he.2.1, he.2.2.1, he.2.2.2.1, he.2.2.2.2]
  refine ⟨?_, ?_⟩
  · refine Eq.trans ?_ (final3 m c).symm
    funext i
    exact (congrArg _ (by funext k; fin_cases k <;> rfl : i = ix2 (i 0) (i 1))).trans (ref22 _ _ _ _ _ (i 0) (i 1))
  · refine Eq.trans ?_ (final4 m c).symm
    funext i
    exact (congrArg _ (by funext k; fin_cases k <;> rfl : i = ix2 (i 0) (i 1))).trans (ref23 _ _ _ _ (i 0) (i 1))
end Values

theorem algebraic : Cert.algebraic_FwdInKernelIdeal_FwdInReferenceIdeal := by
  intro m g m' g' _ hagree
  refine ⟨fun c => (Cert.FwdInKernelIdeal.Gen.dats m 0 c).arrAt 3 Cert.FwdInKernelIdeal.cfg0.N,
    fun c => (Cert.FwdInKernelIdeal.Gen.dats m 0 c).arrAt 4 Cert.FwdInKernelIdeal.cfg0.N,
    Cert.FwdInKernelIdeal.Value.run_blocks m g, (θ_run _ _ _).mono (fun r h c => ?_) (Cert.FwdInReferenceIdeal.Value.run m' g')⟩
  obtain ⟨r0, r1, rest⟩ := h c
  have key := values m c (hagree c)
  exact ⟨(r0.trans (Cert.FwdInReferenceIdeal.Read.val_main_v22_eq _ _ _ _ _)).trans key.1, (r1.trans (Cert.FwdInReferenceIdeal.Read.val_main_v23_eq _ _ _ _)).trans key.2, rest⟩

end Cert.FwdIn

end
-- ==== Proof.FwdOut.lean ====
/- The value claim of the output product gated onto the stream, the second norm and the first feed-forward product. -/
module

public import proofs.«01_k».proof.Defs
public import proofs.«01_k».proof.Proof.FwdIn
public import proofs.«01_k».proof.Proof.Gen.FwdOutKernelIdeal.Value
public import proofs.«01_k».proof.Proof.Gen.FwdOutReferenceIdeal.Read
public import proofs.«01_k».proof.Proof.Gen.FwdOutReferenceIdeal.Run
public import Idealize.ShloMosaic.Lib.Pointwise
public import Idealize.ShloMosaic.Lib.Pipeline.ValueKit

@[expose] public section

set_option maxRecDepth 16384

noncomputable section

namespace Cert.FwdOut

open Idealize.ShloMosaic Cert.Lift
open Cert.FwdIn (hn)

theorem mul_congr {a b c d : EReal} (h : a = c) (h' : b = d) : a * b = c * d := h ▸ h' ▸ rfl

section Block
open Cert.FwdOutKernelIdeal Cert.FwdOutKernelIdeal.Gen
variable (x : FVec Ideal S512x1024 .f32) (y : FVec Ideal S512x1024 .bf16) (g : FVec Ideal S1x8x1024 .f32)
variable (wo : FVec Ideal S4x256x1024 .bf16) (w : FVec Ideal S4x1024x1024 .bf16)

/-- The stream of one block after the gated output product. -/
def srow (r : Fin 512) (l : Fin 1024) : EReal :=
  x (ix2 r l) + g (ix3 0 2 l) * ∑ k : Fin 1024, y (ix2 r k) * wo (ix3 ⟨k.val / 256, by have := k.isLt; omega⟩ ⟨k.val % 256, by omega⟩ l)

theorem pay2 (r : Fin 512) (l : Fin 1024) : k0_pay2 (F := Ideal) (View.ld x r0_0) (View.ld g r0_1) (View.ld y r0_0) (View.ld wo r0_2) (ix2 r l)
    = srow x y g wo r l := by
  pointwise [k0_pay2]
  rfl

/-- One normalized, modulated row of a block. -/
def hrow (r : Fin 512) : Fin 1024 → EReal :=
  hn (srow x y g wo r) (fun k => g (ix3 0 7 k)) (fun k => g (ix3 0 4 k)) (fun k => g (ix3 0 3 k))

theorem pay6 (r : Fin 512) (l : Fin 1024) : k0_pay6 (F := Ideal) (k0_pay11 x y g wo w) (k0_pay12 x y g wo w) (k0_pay13 x y g wo w) (ix2 r l)
    = hrow x y g wo r l := by
  unfold hrow hn k0_pay11 k0_pay12 k0_pay13
  pointwise [k0_pay6, k0_pay3, k0_pay4, k0_pay5, pay2]

theorem out5 (r : Fin 512) (l : Fin 1024) : out0_5 (F := Ideal) x y g wo w (ix2 r l) = srow x y g wo r l := by
  unfold out0_5
  refine (Pieces.canon_hit _ _ _ _ (ix2 r l) (by intro a; fin_cases a <;> simp [ix2])).trans ?_
  exact pay2 _ _ _ _ _ _

theorem out7 (r : Fin 512) (l : Fin 1024) : out0_7 (F := Ideal) x y g wo w (ix2 r l) = hrow x y g wo r l := by
  unfold out0_7
  refine (Pieces.canon_hit _ _ _ _ (ix2 r l) (by intro a; fin_cases a <;> simp [ix2])).trans ?_
  exact pay6 _ _ _ _ _ _ _

/-- One rectified element of the first feed-forward product. -/
def tile (r : Fin 512) (s : Fin 4) (l : Fin 1024) : EReal := max (∑ k, hrow x y g wo r k * w (ix3 s k l)) 0

theorem tile_of (s' : Fin 4) (r r' : Fin 512) (n : Fin 4096) (s : Fin 4) (l l' : Fin 1024) (hn : (n : ℕ) = s.val * 1024 + l.val)
    (e0 : (r : ℕ) = r') (e1 : (n : ℕ) = s'.val * 1024 + l'.val) :
    max (∑ k, hrow x y g wo r' k * w (ix3 s' k l')) 0 = tile x y g wo w r s l := by
  obtain rfl := Fin.ext e0
  have hs : s' = s := Fin.ext (by have := l.isLt; have := l'.isLt; omega)
  subst hs
  have hl : l' = l := Fin.ext (by omega)
  subst hl
  rfl

theorem out6 (r : Fin 512) (n : Fin 4096) (s : Fin 4) (l : Fin 1024) (hn : (n : ℕ) = s.val * 1024 + l.val) :
    out0_6 (F := Ideal) x y g wo w (ix2 r n) = tile x y g wo w r s l := by
  unfold out0_6
  canon_tiles z e
  all_goals pointwise [k0_pay1, k0_pay7, k0_pay8, k0_pay9, k0_pay10, pay6]
  · exact tile_of x y g wo w 3 r (z 0) n s l (z 1) hn e0 (e1.trans (by rfl))
  · exact tile_of x y g wo w 2 r (z 0) n s l (z 1) hn e0 (e1.trans (by rfl))
  · exact tile_of x y g wo w 1 r (z 0) n s l (z 1) hn e0 (e1.trans (by rfl))
  · exact tile_of x y g wo w 0 r (z 0) n s l (z 1) hn e0 (by have : (n : ℕ) = _ := e1; simpa using this)
end Block

section Run
open Cert.FwdOutKernelIdeal Cert.FwdOutKernelIdeal.Gen
variable (m : (ℓ : Loc nD τ sig) → Buf (Elt Ideal) ℓ) (c : Dev nD)

theorem idx0 : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![t.val, 0] ∧ win0_6.index t = ![t.val, 0]
    ∧ win0_7.index t = ![t.val, 0] :=
  (by decide +kernel : ∀ t : Fin grid0.N, _)

def row (t : Fin cfg0.N) (r : Fin 512) : Fin 4096 :=
  ⟨t.val * 512 + r.val, by have h : t.val < 8 := lt_of_lt_of_eq t.isLt N_0; have := r.isLt; omega⟩

theorem blk0 (t : Fin cfg0.N) (r : Fin 512) (l : Fin 1024) :
    (iblk m c 0 t : FVec Ideal S512x1024 .f32) (ix2 r l) = m ((c.tc : Thread nD τ).loc main_arg0) (ix2 (row t r) l) := by
  unfold row
  blk_point [iblk, V, idx0 t]

theorem entry13 : V m c main_v13 = truncf (F := Ideal) .bf16 (m ((c.tc : Thread nD τ).loc main_arg1)) bitsLt_bf16_f32 := by
  unfold V
  simp only [hostOps0, List.flatten_cons, List.flatten_nil, List.append_nil, List.cons_append, List.nil_append]
  after_results

theorem entry7 : V m c main_v7 = (broadcastInDim S1x8x1024 ![1, 2] bcast_S8x1024_S1x8x1024_1_2 (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 (m ((c.tc : Thread nD τ).loc main_arg2))⟩, ⟨S1x1024, broadcastInDim S1x1024 ![1] bcast_S1024_S1x1024_1 (m ((c.tc : Thread nD τ).loc main_arg3))⟩,
       ⟨S1x1024, broadcastInDim S1x1024 ![1] bcast_S1024_S1x1024_1 (m ((c.tc : Thread nD τ).loc main_arg4))⟩,
       ⟨S2x1024, broadcastInDim S2x1024 ![] bcast_S_S2x1024 (constant (F := Ideal) S_ .f32 0x00000000#32)⟩,
       ⟨S1x1024, broadcastInDim S1x1024 ![1] bcast_S1024_S1x1024_1 (m ((c.tc : Thread nD τ).loc main_arg5))⟩] concatenates_S2x1024_S1x1024_S1x1024_S1x1024_S2x1024_S1x1024_S8x1024_d0) : FVec Ideal S1x8x1024 .f32) := by
  unfold V
  simp only [hostOps0, List.flatten_cons, List.flatten_nil, List.append_nil, List.cons_append, List.nil_append]
  after_results
  rfl

theorem entry12 : V m c main_v12 = truncf (F := Ideal) .bf16 (shapeCast S4x256x1024 (m ((c.tc : Thread nD τ).loc main_arg6)) shapeCasts_S1024x1024_S4x256x1024) bitsLt_bf16_f32 := by
  unfold V
  simp only [hostOps0, List.flatten_cons, List.flatten_nil, List.append_nil, List.cons_append, List.nil_append]
  after_results
  rfl

theorem entry10 : V m c main_v10 = truncf (F := Ideal) .bf16 (transpose S4x1024x1024 [1, 0, 2] (shapeCast S1024x4x1024 (m ((c.tc : Thread nD τ).loc main_arg7)) shapeCasts_S1024x4096_S1024x4x1024) transposes_S1024x4x1024_S4x1024x1024_1_0_2) bitsLt_bf16_f32 := by
  unfold V
  simp only [hostOps0, List.flatten_cons, List.flatten_nil, List.append_nil, List.cons_append, List.nil_append]
  after_results
  rfl

theorem mod2 (a b d e : FVec Ideal S1024 .f32) (l : Fin 1024) : (broadcastInDim S1x8x1024 ![1, 2] bcast_S8x1024_S1x8x1024_1_2 (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 a⟩, ⟨S1x1024, broadcastInDim S1x1024 ![1] bcast_S1024_S1x1024_1 b⟩,
       ⟨S1x1024, broadcastInDim S1x1024 ![1] bcast_S1024_S1x1024_1 d⟩,
       ⟨S2x1024, broadcastInDim S2x1024 ![] bcast_S_S2x1024 (constant (F := Ideal) S_ .f32 0x00000000#32)⟩,
       ⟨S1x1024, broadcastInDim S1x1024 ![1] bcast_S1024_S1x1024_1 e⟩] concatenates_S2x1024_S1x1024_S1x1024_S1x1024_S2x1024_S1x1024_S8x1024_d0) : FVec Ideal S1x8x1024 .f32) (ix3 0 2 l) = a (ix1 l) := by
  pointwise
theorem mod3 (a b d e : FVec Ideal S1024 .f32) (l : Fin 1024) : (broadcastInDim S1x8x1024 ![1, 2] bcast_S8x1024_S1x8x1024_1_2 (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 a⟩, ⟨S1x1024, broadcastInDim S1x1024 ![1] bcast_S1024_S1x1024_1 b⟩,
       ⟨S1x1024, broadcastInDim S1x1024 ![1] bcast_S1024_S1x1024_1 d⟩,
       ⟨S2x1024, broadcastInDim S2x1024 ![] bcast_S_S2x1024 (constant (F := Ideal) S_ .f32 0x00000000#32)⟩,
       ⟨S1x1024, broadcastInDim S1x1024 ![1] bcast_S1024_S1x1024_1 e⟩] concatenates_S2x1024_S1x1024_S1x1024_S1x1024_S2x1024_S1x1024_S8x1024_d0) : FVec Ideal S1x8x1024 .f32) (ix3 0 3 l) = b (ix1 l) := by
  pointwise
theorem mod4 (a b d e : FVec Ideal S1024 .f32) (l : Fin 1024) : (broadcastInDim S1x8x1024 ![1, 2] bcast_S8x1024_S1x8x1024_1_2 (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 a⟩, ⟨S1x1024, broadcastInDim S1x1024 ![1] bcast_S1024_S1x1024_1 b⟩,
       ⟨S1x1024, broadcastInDim S1x1024 ![1] bcast_S1024_S1x1024_1 d⟩,
       ⟨S2x1024, broadcastInDim S2x1024 ![] bcast_S_S2x1024 (constant (F := Ideal) S_ .f32 0x00000000#32)⟩,
       ⟨S1x1024, broadcastInDim S1x1024 ![1] bcast_S1024_S1x1024_1 e⟩] concatenates_S2x1024_S1x1024_S1x1024_S1x1024_S2x1024_S1x1024_S8x1024_d0) : FVec Ideal S1x8x1024 .f32) (ix3 0 4 l) = d (ix1 l) := by
  pointwise
theorem mod7 (a b d e : FVec Ideal S1024 .f32) (l : Fin 1024) : (broadcastInDim S1x8x1024 ![1, 2] bcast_S8x1024_S1x8x1024_1_2 (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 a⟩, ⟨S1x1024, broadcastInDim S1x1024 ![1] bcast_S1024_S1x1024_1 b⟩,
       ⟨S1x1024, broadcastInDim S1x1024 ![1] bcast_S1024_S1x1024_1 d⟩,
       ⟨S2x1024, broadcastInDim S2x1024 ![] bcast_S_S2x1024 (constant (F := Ideal) S_ .f32 0x00000000#32)⟩,
       ⟨S1x1024, broadcastInDim S1x1024 ![1] bcast_S1024_S1x1024_1 e⟩] concatenates_S2x1024_S1x1024_S1x1024_S1x1024_S2x1024_S1x1024_S8x1024_d0) : FVec Ideal S1x8x1024 .f32) (ix3 0 7 l) = e (ix1 l) := by
  pointwise

theorem wo_at (A : FVec Ideal S1024x1024 .f32) (s : Fin 4) (k : Fin 256) (l : Fin 1024) : truncf (F := Ideal) .bf16 (shapeCast S4x256x1024 A shapeCasts_S1024x1024_S4x256x1024) bitsLt_bf16_f32 (ix3 s k l)
    = A (ix2 ⟨s.val * 256 + k.val, by have := s.isLt; have := k.isLt; omega⟩ l) := by
  pointwise

theorem w1_at (A : FVec Ideal S1024x4096 .f32) (s : Fin 4) (k l : Fin 1024) : truncf (F := Ideal) .bf16 (transpose S4x1024x1024 [1, 0, 2] (shapeCast S1024x4x1024 A shapeCasts_S1024x4096_S1024x4x1024) transposes_S1024x4x1024_S4x1024x1024_1_0_2) bitsLt_bf16_f32 (ix3 s k l)
    = A (ix2 k ⟨s.val * 1024 + l.val, by have := s.isLt; have := l.isLt; omega⟩) := by
  pointwise

theorem blk1 (t : Fin cfg0.N) (r : Fin 512) (l : Fin 1024) :
    (iblk m c 1 t : FVec Ideal S512x1024 .bf16) (ix2 r l) = (m ((c.tc : Thread nD τ).loc main_arg1)) (ix2 (row t r) l) := by
  have e : (iblk m c 1 t : FVec Ideal S512x1024 .bf16) (ix2 r l) = (V m c main_v13 : FVec Ideal S4096x1024 .bf16) (ix2 (row t r) l) := by
    show _ = V m c (Pipeline.arrRef spec0 1) (ix2 (row t r) l)
    unfold row iblk
    generalize V m c (Pipeline.arrRef spec0 1) = A
    blk_point [idx0 t]
  rw [e, entry13]
  rfl

theorem at2 (t : Fin cfg0.N) (s : Fin 8) (l : Fin 1024) :
    (iblk m c 2 t : FVec Ideal S1x8x1024 .f32) (ix3 0 s l) = (V m c main_v7 : FVec Ideal S1x8x1024 .f32) (ix3 0 s l) := by
  show _ = V m c (Pipeline.arrRef spec0 2) (ix3 0 s l)
  unfold iblk
  generalize V m c (Pipeline.arrRef spec0 2) = A
  blk_point [idx0 t]

theorem blk2_2 (t : Fin cfg0.N) (l : Fin 1024) : (iblk m c 2 t : FVec Ideal S1x8x1024 .f32) (ix3 0 2 l) = (m ((c.tc : Thread nD τ).loc main_arg2)) (ix1 l) := by
  rw [at2, entry7]
  exact mod2 _ _ _ _ _
theorem blk2_3 (t : Fin cfg0.N) (l : Fin 1024) : (iblk m c 2 t : FVec Ideal S1x8x1024 .f32) (ix3 0 3 l) = (m ((c.tc : Thread nD τ).loc main_arg3)) (ix1 l) := by
  rw [at2, entry7]
  exact mod3 _ _ _ _ _
theorem blk2_4 (t : Fin cfg0.N) (l : Fin 1024) : (iblk m c 2 t : FVec Ideal S1x8x1024 .f32) (ix3 0 4 l) = (m ((c.tc : Thread nD τ).loc main_arg4)) (ix1 l) := by
  rw [at2, entry7]
  exact mod4 _ _ _ _ _
theorem blk2_7 (t : Fin cfg0.N) (l : Fin 1024) : (iblk m c 2 t : FVec Ideal S1x8x1024 .f32) (ix3 0 7 l) = (m ((c.tc : Thread nD τ).loc main_arg5)) (ix1 l) := by
  rw [at2, entry7]
  exact mod7 _ _ _ _ _

theorem blk3 (t : Fin cfg0.N) (s : Fin 4) (k : Fin 256) (l : Fin 1024) :
    (iblk m c 3 t : FVec Ideal S4x256x1024 .bf16) (ix3 s k l) = (m ((c.tc : Thread nD τ).loc main_arg6)) (ix2 ⟨s.val * 256 + k.val, by have := s.isLt; have := k.isLt; omega⟩ l) := by
  have e : (iblk m c 3 t : FVec Ideal S4x256x1024 .bf16) (ix3 s k l) = (V m c main_v12 : FVec Ideal S4x256x1024 .bf16) (ix3 s k l) := by
    show _ = V m c (Pipeline.arrRef spec0 3) (ix3 s k l)
    unfold iblk
    generalize V m c (Pipeline.arrRef spec0 3) = A
    blk_point [idx0 t]
  rw [e, entry12]
  exact wo_at _ _ _ _

theorem blk4 (t : Fin cfg0.N) (s : Fin 4) (k l : Fin 1024) :
    (iblk m c 4 t : FVec Ideal S4x1024x1024 .bf16) (ix3 s k l) = (m ((c.tc : Thread nD τ).loc main_arg7)) (ix2 k ⟨s.val * 1024 + l.val, by have := s.isLt; have := l.isLt; omega⟩) := by
  have e : (iblk m c 4 t : FVec Ideal S4x1024x1024 .bf16) (ix3 s k l) = (V m c main_v10 : FVec Ideal S4x1024x1024 .bf16) (ix3 s k l) := by
    show _ = V m c (Pipeline.arrRef spec0 4) (ix3 s k l)
    unfold iblk
    generalize V m c (Pipeline.arrRef spec0 4) = A
    blk_point [idx0 t]
  rw [e, entry10]
  exact w1_at _ _ _ _

section Spec
variable (x0 x1 : FVec Ideal ⟨2, ![4096, 1024]⟩ .f32) (x2 x3 x4 x5 : FVec Ideal ⟨1, ![1024]⟩ .f32)
variable (x6 : FVec Ideal ⟨2, ![1024, 1024]⟩ .f32) (x7 : FVec Ideal ⟨2, ![1024, 4096]⟩ .f32)
/-- The stream after the gated output product. -/
def stream (r : Fin 4096) (l : Fin 1024) : EReal := x0 (ix2 r l) + x2 (ix1 l) * ∑ k : Fin 1024, x1 (ix2 r k) * x6 (ix2 k l)
/-- The normalized, modulated row. -/
def hid (r : Fin 4096) : Fin 1024 → EReal := hn (stream x0 x1 x2 x6 r) (fun k => x5 (ix1 k)) (fun k => x4 (ix1 k)) (fun k => x3 (ix1 k))
/-- The rectified product. -/
def rect (r n : Fin 4096) : EReal := max (∑ k, hid x0 x1 x2 x3 x4 x5 x6 r k * x7 (ix2 k n)) 0
end Spec

theorem srow_eq (t : Fin cfg0.N) (r : Fin 512) : srow (iblk m c 0 t) (iblk m c 1 t) (iblk m c 2 t) (iblk m c 3 t) r
    = stream (m ((c.tc : Thread nD τ).loc main_arg0)) (m ((c.tc : Thread nD τ).loc main_arg1)) (m ((c.tc : Thread nD τ).loc main_arg2)) (m ((c.tc : Thread nD τ).loc main_arg6)) (row t r) := by
  funext l
  unfold srow stream
  rw [blk0 m c t r l, blk2_2 m c t l]
  refine congrArg (fun z : EReal => _ + _ * z) (Finset.sum_congr rfl fun k _ => ?_)
  rw [blk1 m c t r k, blk3 m c t _ _ l]
  have e : (⟨k.val / 256 * 256 + k.val % 256, by have := k.isLt; omega⟩ : Fin 1024) = k := Fin.ext (by show k.val / 256 * 256 + k.val % 256 = k.val; omega)
  exact mul_congr rfl (congrArg (fun z => (m ((c.tc : Thread nD τ).loc main_arg6)) (ix2 z l)) e)

theorem hrow_eq (t : Fin cfg0.N) (r : Fin 512) : hrow (iblk m c 0 t) (iblk m c 1 t) (iblk m c 2 t) (iblk m c 3 t) r
    = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t r) := by
  unfold hrow hid
  rw [srow_eq]
  simp only [blk2_7 m c t, blk2_4 m c t, blk2_3 m c t]

theorem point5 (t : Fin cfg0.N) (r : Fin 512) (l : Fin 1024) : out0_5 (F := Ideal) (iblk m c 0 t) (iblk m c 1 t) (iblk m c 2 t) (iblk m c 3 t) (iblk m c 4 t) (ix2 r l)
    = stream (m ((c.tc : Thread nD τ).loc main_arg0)) (m ((c.tc : Thread nD τ).loc main_arg1)) (m ((c.tc : Thread nD τ).loc main_arg2)) (m ((c.tc : Thread nD τ).loc main_arg6)) (row t r) l :=
  (out5 _ _ _ _ _ r l).trans (congrFun (srow_eq m c t r) l)

theorem point7 (t : Fin cfg0.N) (r : Fin 512) (l : Fin 1024) : out0_7 (F := Ideal) (iblk m c 0 t) (iblk m c 1 t) (iblk m c 2 t) (iblk m c 3 t) (iblk m c 4 t) (ix2 r l)
    = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t r) l :=
  (out7 _ _ _ _ _ r l).trans (congrFun (hrow_eq m c t r) l)

theorem point6 (t : Fin cfg0.N) (r : Fin 512) (n : Fin 4096) : out0_6 (F := Ideal) (iblk m c 0 t) (iblk m c 1 t) (iblk m c 2 t) (iblk m c 3 t) (iblk m c 4 t) (ix2 r n)
    = rect (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (row t r) n := by
  have hn : n.val = n.val / 1024 * 1024 + n.val % 1024 := by omega
  refine (out6 _ _ _ _ _ r n ⟨n.val / 1024, by have := n.isLt; omega⟩ ⟨n.val % 1024, by omega⟩ hn).trans ?_
  unfold tile rect
  rw [hrow_eq]
  refine congrArg (max · (0 : EReal)) (Finset.sum_congr rfl fun k _ => mul_congr rfl ((blk4 m c t _ k _).trans ?_))
  exact congrArg (fun z => (m ((c.tc : Thread nD τ).loc main_arg7)) (ix2 k z)) (Fin.ext hn.symm)

/-- Arrays from their elements. -/
def arr5 (f : Fin 4096 → Fin 1024 → EReal) (i : S4096x1024.Idx) : EReal := f (i 0) (i 1)
def arr6 (f : Fin 4096 → Fin 4096 → EReal) (i : S4096x4096.Idx) : EReal := f (i 0) (i 1)

theorem final5 : (dats m 0 c).arrAt 5 cfg0.N = arr5 (stream (m ((c.tc : Thread nD τ).loc main_arg0)) (m ((c.tc : Thread nD τ).loc main_arg1)) (m ((c.tc : Thread nD τ).loc main_arg2)) (m ((c.tc : Thread nD τ).loc main_arg6))) := by
  refine (dats m 0 c).arrAt_eq_of_covers 5 _ (by decide +kernel) fun t _ y => ?_
  blk_simp
  rw [after0_5]
  idx_vars y
  refine (point5 m c t y0 y1).trans ?_
  generalize stream (m ((c.tc : Thread nD τ).loc main_arg0)) (m ((c.tc : Thread nD τ).loc main_arg1)) (m ((c.tc : Thread nD τ).loc main_arg2)) (m ((c.tc : Thread nD τ).loc main_arg6)) = A
  refine Eq.trans (b := arr5 A (ix2 (row t y0) y1)) rfl (congrArg (arr5 A) ?_)
  unfold row
  blk_ext [idx0 t]

theorem final6 : (dats m 0 c).arrAt 6 cfg0.N = arr6 (rect (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine (dats m 0 c).arrAt_eq_of_covers 6 _ (by decide +kernel) fun t _ y => ?_
  blk_simp
  rw [after0_6]
  idx_vars y
  refine (point6 m c t y0 y1).trans ?_
  generalize rect (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = A
  refine Eq.trans (b := arr6 A (ix2 (row t y0) y1)) rfl (congrArg (arr6 A) ?_)
  unfold row
  blk_ext [idx0 t]

theorem final7 : (dats m 0 c).arrAt 7 cfg0.N = arr5 (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 7 _ (by decide +kernel) fun t _ y => ?_
  blk_simp
  rw [after0_7]
  idx_vars y
  refine (point7 m c t y0 y1).trans ?_
  generalize hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = A
  refine Eq.trans (b := arr5 A (ix2 (row t y0) y1)) rfl (congrArg (arr5 A) ?_)
  unfold row
  blk_ext [idx0 t]

end Run

section Ref
open Cert.FwdOutReferenceIdeal Cert.FwdOutReferenceIdeal.Value Cert.FwdOutReferenceIdeal.Read
variable (x0 x1 : FVec Ideal S4096x1024 .f32) (x2 x3 x4 x5 : FVec Ideal S1024 .f32)
variable (x6 : FVec Ideal S1024x1024 .f32) (x7 : FVec Ideal S1024x4096 .f32)

theorem ref4 (r : Fin 4096) (l : Fin 1024) : val_main_v4 (F := Ideal) x0 x1 x2 x6 (ix2 r l) = stream x0 x1 x2 x6 r l := by
  unfold stream
  pointwise [val_main_v4, val_main_v3, val_main_v2, val_main_v1, val_main_v0]

theorem ref25 (r : Fin 4096) (l : Fin 1024) : val_main_v25 (F := Ideal) x0 x1 x2 x3 x4 x5 x6 (ix2 r l) = hid x0 x1 x2 x3 x4 x5 x6 r l := by
  unfold hid hn
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2, ref4]
  rw [mul_assoc (_ * _) (x5 _)]

theorem ref29 (r : Fin 4096) (l : Fin 1024) : val_main_v29 (F := Ideal) x0 x1 x2 x3 x4 x5 x6 (ix2 r l) = hid x0 x1 x2 x3 x4 x5 x6 r l := by
  pointwise [val_main_v29, ref25]

theorem ref28 (r n : Fin 4096) : val_main_v28 (F := Ideal) x0 x1 x2 x3 x4 x5 x6 x7 (ix2 r n) = rect x0 x1 x2 x3 x4 x5 x6 x7 r n := by
  unfold rect
  pointwise [val_main_v28, val_main_v27, val_main_v26, val_main_call0_v0, val_main_call0_cst, ref25]

end Ref

section Values
open Cert.FwdOutKernelIdeal
variable (m : (ℓ : Loc nD τ sig) → Buf (Elt Ideal) ℓ)

theorem values (c : Dev nD)
    {y0 : Buf (Elt Ideal) ((c.tc : Thread Cert.FwdOutReferenceIdeal.nD Cert.FwdOutReferenceIdeal.τ).loc Cert.FwdOutReferenceIdeal.main_arg0)}
    {y1 : Buf (Elt Ideal) ((c.tc : Thread Cert.FwdOutReferenceIdeal.nD Cert.FwdOutReferenceIdeal.τ).loc Cert.FwdOutReferenceIdeal.main_arg1)}
    {y2 : Buf (Elt Ideal) ((c.tc : Thread Cert.FwdOutReferenceIdeal.nD Cert.FwdOutReferenceIdeal.τ).loc Cert.FwdOutReferenceIdeal.main_arg2)}
    {y3 : Buf (Elt Ideal) ((c.tc : Thread Cert.FwdOutReferenceIdeal.nD Cert.FwdOutReferenceIdeal.τ).loc Cert.FwdOutReferenceIdeal.main_arg3)}
    {y4 : Buf (Elt Ideal) ((c.tc : Thread Cert.FwdOutReferenceIdeal.nD Cert.FwdOutReferenceIdeal.τ).loc Cert.FwdOutReferenceIdeal.main_arg4)}
    {y5 : Buf (Elt Ideal) ((c.tc : Thread Cert.FwdOutReferenceIdeal.nD Cert.FwdOutReferenceIdeal.τ).loc Cert.FwdOutReferenceIdeal.main_arg5)}
    {y6 : Buf (Elt Ideal) ((c.tc : Thread Cert.FwdOutReferenceIdeal.nD Cert.FwdOutReferenceIdeal.τ).loc Cert.FwdOutReferenceIdeal.main_arg6)}
    {y7 : Buf (Elt Ideal) ((c.tc : Thread Cert.FwdOutReferenceIdeal.nD Cert.FwdOutReferenceIdeal.τ).loc Cert.FwdOutReferenceIdeal.main_arg7)}
    (he : y0 = (m ((c.tc : Thread nD τ).loc main_arg0))
      ∧ y1 = (m ((c.tc : Thread nD τ).loc main_arg1))
      ∧ y2 = (m ((c.tc : Thread nD τ).loc main_arg2))
      ∧ y3 = (m ((c.tc : Thread nD τ).loc main_arg3))
      ∧ y4 = (m ((c.tc : Thread nD τ).loc main_arg4))
      ∧ y5 = (m ((c.tc : Thread nD τ).loc main_arg5))
      ∧ y6 = (m ((c.tc : Thread nD τ).loc main_arg6))
      ∧ y7 = (m ((c.tc : Thread nD τ).loc main_arg7))) :
    Cert.FwdOutReferenceIdeal.Read.val_main_v4 (F := Ideal) y0 y1 y2 y6 = (Gen.dats m 0 c).arrAt 5 cfg0.N
    ∧ Cert.FwdOutReferenceIdeal.Read.val_main_v28 (F := Ideal) y0 y1 y2 y3 y4 y5 y6 y7 = (Gen.dats m 0 c).arrAt 6 cfg0.N
    ∧ Cert.FwdOutReferenceIdeal.Read.val_main_v29 (F := Ideal) y0 y1 y2 y3 y4 y5 y6 = (Gen.dats m 0 c).arrAt 7 cfg0.N := by
  rw [he.1, he.2.1, he.2.2.1, he.2.2.2.1, he.2.2.2.2.1, he.2.2.2.2.2.1, he.2.2.2.2.2.2.1, he.2.2.2.2.2.2.2]
  refine ⟨?_, ?_, ?_⟩
  · refine Eq.trans ?_ (final5 m c).symm
    funext i
    exact (congrArg _ (by funext k; fin_cases k <;> rfl : i = ix2 (i 0) (i 1))).trans (ref4 _ _ _ _ (i 0) (i 1))
  · refine Eq.trans ?_ (final6 m c).symm
    funext i
    exact (congrArg _ (by funext k; fin_cases k <;> rfl : i = ix2 (i 0) (i 1))).trans (ref28 _ _ _ _ _ _ _ _ (i 0) (i 1))
  · refine Eq.trans ?_ (final7 m c).symm
    funext i
    exact (congrArg _ (by funext k; fin_cases k <;> rfl : i = ix2 (i 0) (i 1))).trans (ref29 _ _ _ _ _ _ _ (i 0) (i 1))
end Values

theorem algebraic : Cert.algebraic_FwdOutKernelIdeal_FwdOutReferenceIdeal := by
  intro m g m' g' _ hagree
  refine ⟨fun c => (Cert.FwdOutKernelIdeal.Gen.dats m 0 c).arrAt 5 Cert.FwdOutKernelIdeal.cfg0.N,
    fun c => (Cert.FwdOutKernelIdeal.Gen.dats m 0 c).arrAt 6 Cert.FwdOutKernelIdeal.cfg0.N,
    fun c => (Cert.FwdOutKernelIdeal.Gen.dats m 0 c).arrAt 7 Cert.FwdOutKernelIdeal.cfg0.N,
    Cert.FwdOutKernelIdeal.Value.run_blocks m g, (θ_run _ _ _).mono (fun r h c => ?_) (Cert.FwdOutReferenceIdeal.Value.run m' g')⟩
  obtain ⟨r0, r1, r2, rest⟩ := h c
  have key := values m c (hagree c)
  exact ⟨(r0.trans (Cert.FwdOutReferenceIdeal.Read.val_main_v4_eq _ _ _ _)).trans key.1, (r1.trans (Cert.FwdOutReferenceIdeal.Read.val_main_v28_eq _ _ _ _ _ _ _ _)).trans key.2.1, (r2.trans (Cert.FwdOutReferenceIdeal.Read.val_main_v29_eq _ _ _ _ _ _ _)).trans key.2.2, rest⟩

end Cert.FwdOut

end
-- ==== Proof.Mod.lean ====
/- The value claim of the modulation from the conditioning. -/
module

public import proofs.«01_k».proof.Defs
public import proofs.«01_k».proof.Proof.Ada
public import proofs.«01_k».proof.Proof.Gen.ModKernelIdeal.Value
public import proofs.«01_k».proof.Proof.Gen.ModReferenceIdeal.Read
public import proofs.«01_k».proof.Proof.Gen.ModReferenceIdeal.Run
public import Idealize.ShloMosaic.Lib.Pointwise
public import Idealize.ShloMosaic.Lib.Pipeline.ValueKit

@[expose] public section

set_option maxRecDepth 16384

noncomputable section

namespace Cert.Mod

open Idealize.ShloMosaic Cert.Lift
open Cert.Ada (silu)

/-- The modulation at layer `s`. -/
def mods (x : FVec Ideal ⟨2, ![8, 1024]⟩ .f32) (w : FVec Ideal ⟨3, ![4, 1024, 1536]⟩ .f32) (a : FVec Ideal ⟨2, ![4, 1536]⟩ .f32)
    (s : Fin 4) (b : Fin 8) (n : Fin 1536) : EReal := ∑ k, silu (x (ix2 b k)) * w (ix3 s k n) + a (ix2 s n)

section Block
open Cert.ModKernelIdeal Cert.ModKernelIdeal.Gen
variable (x : FVec Ideal S8x1024 .f32) (w : FVec Ideal S1x1024x512 .f32) (a : FVec Ideal S1x1x512 .f32)

theorem out3 (b : Fin 8) (n : Fin 512) : out0_3 (F := Ideal) x w a (ix3 0 b n)
    = ∑ k, silu (x (ix2 b k)) * w (ix3 0 k n) + a (ix3 0 0 n) := by
  unfold out0_3
  refine (Pieces.canon_hit _ _ _ _ (ix3 0 b n) (by intro a; fin_cases a <;> simp [ix3])).trans ?_
  pointwise [k0_pay1]
  simp only [zero_sub]
  rfl
end Block

section Run
open Cert.ModKernelIdeal Cert.ModKernelIdeal.Gen
variable (m : (ℓ : Loc nD τ sig) → Buf (Elt Ideal) ℓ) (c : Dev nD)

theorem idx0 : ∀ t : Fin cfg0.N, win0_0.index t = ![0, 0] ∧ win0_1.index t = ![t.val / 3, 0, t.val % 3] ∧ win0_2.index t = ![t.val / 3, 0, t.val % 3]
    ∧ win0_3.index t = ![t.val / 3, 0, t.val % 3] :=
  (by decide +kernel : ∀ t : Fin grid0.N, _)

def lay (t : Fin cfg0.N) : Fin 4 := ⟨t.val / 3, by have h : t.val < 12 := lt_of_lt_of_eq t.isLt N_0; omega⟩
def col (t : Fin cfg0.N) (n : Fin 512) : Fin 1536 := ⟨t.val % 3 * 512 + n.val, by have := n.isLt; omega⟩

theorem blk0 (t : Fin cfg0.N) (b : Fin 8) (k : Fin 1024) :
    (iblk m c 0 t : FVec Ideal S8x1024 .f32) (ix2 b k) = (m ((c.tc : Thread nD τ).loc main_arg0)) (ix2 b k) := by
  blk_point [iblk, V, idx0 t]

theorem blk1 (t : Fin cfg0.N) (k : Fin 1024) (n : Fin 512) :
    (iblk m c 1 t : FVec Ideal S1x1024x512 .f32) (ix3 0 k n) = (m ((c.tc : Thread nD τ).loc main_arg1)) (ix3 (lay t) k (col t n)) := by
  unfold lay col
  blk_point [iblk, V, idx0 t]

theorem entry0 : V m c main_v0 = shapeCast S4x1x1536 (m ((c.tc : Thread nD τ).loc main_arg2)) shapeCasts_S4x1536_S4x1x1536 := by
  unfold V
  simp only [hostOps0, List.flatten_cons, List.flatten_nil, List.append_nil, List.cons_append, List.nil_append]
  after_results
  rfl

theorem bias_at (A : FVec Ideal S4x1536 .f32) (s : Fin 4) (n : Fin 1536) :
    shapeCast S4x1x1536 A shapeCasts_S4x1536_S4x1x1536 (ix3 s 0 n) = A (ix2 s n) := by
  pointwise

theorem blk2 (t : Fin cfg0.N) (n : Fin 512) :
    (iblk m c 2 t : FVec Ideal S1x1x512 .f32) (ix3 0 0 n) = (m ((c.tc : Thread nD τ).loc main_arg2)) (ix2 (lay t) (col t n)) := by
  have e : (iblk m c 2 t : FVec Ideal S1x1x512 .f32) (ix3 0 0 n) = (V m c main_v0 : FVec Ideal S4x1x1536 .f32) (ix3 (lay t) 0 (col t n)) := by
    show _ = V m c (Pipeline.arrRef spec0 2) (ix3 (lay t) 0 (col t n))
    unfold iblk lay col
    generalize V m c (Pipeline.arrRef spec0 2) = A
    blk_point [idx0 t]
  rw [e, entry0]
  exact bias_at _ _ _

theorem point (t : Fin cfg0.N) (b : Fin 8) (n : Fin 512) : out0_3 (F := Ideal) (iblk m c 0 t) (iblk m c 1 t) (iblk m c 2 t) (ix3 0 b n)
    = mods (m ((c.tc : Thread nD τ).loc main_arg0)) (m ((c.tc : Thread nD τ).loc main_arg1)) (m ((c.tc : Thread nD τ).loc main_arg2)) (lay t) b (col t n) := by
  refine (out3 _ _ _ b n).trans ?_
  unfold mods
  exact congrArg₂ (· + ·) (Finset.sum_congr rfl fun k _ => Relu.mul_congr (congrArg silu (blk0 m c t b k)) (blk1 m c t k n)) (blk2 m c t n)

/-- An array from its elements. -/
def arr (f : Fin 4 → Fin 8 → Fin 1536 → EReal) (i : S4x8x1536.Idx) : EReal := f (i 0) (i 1) (i 2)

theorem final : (dats m 0 c).arrAt 3 cfg0.N = arr (mods (m ((c.tc : Thread nD τ).loc main_arg0)) (m ((c.tc : Thread nD τ).loc main_arg1)) (m ((c.tc : Thread nD τ).loc main_arg2))) := by
  refine (dats m 0 c).arrAt_eq_of_covers 3 _ (by decide +kernel) fun t _ y => ?_
  blk_simp
  rw [after0_3]
  idx_vars y
  obtain rfl : y0 = 0 := Subsingleton.elim _ _
  refine (point m c t y1 y2).trans ?_
  generalize mods (m ((c.tc : Thread nD τ).loc main_arg0)) (m ((c.tc : Thread nD τ).loc main_arg1)) (m ((c.tc : Thread nD τ).loc main_arg2)) = A
  refine Eq.trans (b := arr A (ix3 (lay t) y1 (col t y2))) rfl (congrArg (arr A) ?_)
  unfold lay col
  blk_ext [idx0 t]
end Run

section Ref
open Cert.ModReferenceIdeal Cert.ModReferenceIdeal.Value Cert.ModReferenceIdeal.Read
variable (x0 : FVec Ideal S8x1024 .f32) (x1 : FVec Ideal S4x1024x1536 .f32) (x2 : FVec Ideal S4x1536 .f32)

theorem lay0 (b : Fin 8) (n : Fin 1536) : val_main_v8 (F := Ideal) x0 x1 x2 (ix2 b n) = mods x0 x1 x2 0 b n := by
  pointwise [val_main_v8, val_main_v7, val_main_v6, val_main_v5, val_main_v4, val_main_v3, val_main_v2, val_main_v1, val_main_v0, val_main_call0_v5,
    val_main_call0_v4, val_main_call0_v3, val_main_call0_v2, val_main_call0_v1, val_main_call0_v0, val_main_call0_cst, val_main_call0_cst_0]
  rfl
theorem lay1 (b : Fin 8) (n : Fin 1536) : val_main_v17 (F := Ideal) x0 x1 x2 (ix2 b n) = mods x0 x1 x2 1 b n := by
  pointwise [val_main_v17, val_main_v16, val_main_v15, val_main_v14, val_main_v13, val_main_v12, val_main_v11, val_main_v10, val_main_v9, val_main_call1_v5,
    val_main_call1_v4, val_main_call1_v3, val_main_call1_v2, val_main_call1_v1, val_main_call1_v0, val_main_call1_cst, val_main_call1_cst_0]
  rfl
theorem lay2 (b : Fin 8) (n : Fin 1536) : val_main_v26 (F := Ideal) x0 x1 x2 (ix2 b n) = mods x0 x1 x2 2 b n := by
  pointwise [val_main_v26, val_main_v25, val_main_v24, val_main_v23, val_main_v22, val_main_v21, val_main_v20, val_main_v19, val_main_v18, val_main_call2_v5,
    val_main_call2_v4, val_main_call2_v3, val_main_call2_v2, val_main_call2_v1, val_main_call2_v0, val_main_call2_cst, val_main_call2_cst_0]
  rfl
theorem lay3 (b : Fin 8) (n : Fin 1536) : val_main_v35 (F := Ideal) x0 x1 x2 (ix2 b n) = mods x0 x1 x2 3 b n := by
  pointwise [val_main_v35, val_main_v34, val_main_v33, val_main_v32, val_main_v31, val_main_v30, val_main_v29, val_main_v28, val_main_v27, val_main_call3_v5,
    val_main_call3_v4, val_main_call3_v3, val_main_call3_v2, val_main_call3_v1, val_main_call3_v0, val_main_call3_cst, val_main_call3_cst_0]
  rfl

theorem ref (s : Fin 4) (b : Fin 8) (n : Fin 1536) : val_main_v40 (F := Ideal) x0 x1 x2 (ix3 s b n) = mods x0 x1 x2 s b n := by
  pointwise [val_main_v40, val_main_v39, val_main_v38, val_main_v37, val_main_v36, lay0, lay1, lay2, lay3]
  rcases (by omega : s.val = 0 ∨ s.val = 1 ∨ s.val = 2 ∨ s.val = 3) with e | e | e | e
  · obtain rfl : s = 0 := Fin.ext e
    simp
  · obtain rfl : s = 1 := Fin.ext e
    simp
  · obtain rfl : s = 2 := Fin.ext e
    simp
  · obtain rfl : s = 3 := Fin.ext e
    simp
end Ref

section Values
open Cert.ModKernelIdeal
variable (m : (ℓ : Loc nD τ sig) → Buf (Elt Ideal) ℓ)

theorem values (c : Dev nD)
    {y0 : Buf (Elt Ideal) ((c.tc : Thread Cert.ModReferenceIdeal.nD Cert.ModReferenceIdeal.τ).loc Cert.ModReferenceIdeal.main_arg0)}
    {y1 : Buf (Elt Ideal) ((c.tc : Thread Cert.ModReferenceIdeal.nD Cert.ModReferenceIdeal.τ).loc Cert.ModReferenceIdeal.main_arg1)}
    {y2 : Buf (Elt Ideal) ((c.tc : Thread Cert.ModReferenceIdeal.nD Cert.ModReferenceIdeal.τ).loc Cert.ModReferenceIdeal.main_arg2)}
    (he : y0 = (m ((c.tc : Thread nD τ).loc main_arg0))
      ∧ y1 = (m ((c.tc : Thread nD τ).loc main_arg1))
      ∧ y2 = (m ((c.tc : Thread nD τ).loc main_arg2))) :
    Cert.ModReferenceIdeal.Read.val_main_v40 (F := Ideal) y0 y1 y2 = (Gen.dats m 0 c).arrAt 3 cfg0.N := by
  rw [he.1, he.2.1, he.2.2]
  refine Eq.trans ?_ (final m c).symm
  funext i
  exact (congrArg _ (by funext k; fin_cases k <;> rfl : i = ix3 (i 0) (i 1) (i 2))).trans (ref _ _ _ (i 0) (i 1) (i 2))
end Values

theorem algebraic : Cert.algebraic_ModKernelIdeal_ModReferenceIdeal := by
  intro m g m' g' _ hagree
  refine ⟨fun c => (Cert.ModKernelIdeal.Gen.dats m 0 c).arrAt 3 Cert.ModKernelIdeal.cfg0.N,
    Cert.ModKernelIdeal.Value.run_blocks m g, (θ_run _ _ _).mono (fun r h c => ?_) (Cert.ModReferenceIdeal.Value.run m' g')⟩
  obtain ⟨r0, rest⟩ := h c
  have key := values m c (hagree c)
  exact ⟨(r0.trans (Cert.ModReferenceIdeal.Read.val_main_v40_eq _ _ _)).trans key, rest⟩

end Cert.Mod

end
-- ==== Proof.Weight.lean ====
/- The first feed-forward product's weight gradient: its value claim. -/
module

public import proofs.«01_k».proof.Defs
public import proofs.«01_k».proof.Proof.Lift
public import proofs.«01_k».proof.Proof.Pieces
public import proofs.«01_k».proof.Proof.Gen.WeightKernelIdeal.Value
public import proofs.«01_k».proof.Proof.Gen.WeightReferenceIdeal.Read
public import proofs.«01_k».proof.Proof.Gen.WeightReferenceIdeal.Run
public import Idealize.ShloMosaic.Lib.Pointwise
public import Idealize.ShloMosaic.Lib.Pipeline.ValueKit

@[expose] public section

set_option maxRecDepth 16384

noncomputable section

namespace Cert.Weight

open Idealize.ShloMosaic Cert.Lift

section Block
open Cert.WeightKernelIdeal Cert.WeightKernelIdeal.Gen
variable (x d : FVec Ideal S2048x1024 .bf16) (a : FVec Ideal S1024x1024 .f32) (k n : Fin 1024)

theorem pay1 : k0_pay1 (F := Ideal) (ix2 k n) = 0 := by
  pointwise [k0_pay1]
  first | done | rfl | exact zero_f32.trans EReal.coe_zero
theorem pay2 : k0_pay2 (F := Ideal) x a d (ix2 k n) = a (ix2 k n) + ∑ t, x (ix2 t k) * d (ix2 t n) := by
  pointwise [k0_pay2]
theorem pay3 : k0_pay3 (F := Ideal) a (ix3 0 k n) = a (ix2 k n) := by
  pointwise [k0_pay3]
end Block

section Run
open Cert.WeightKernelIdeal Cert.WeightKernelIdeal.Gen
variable (m : (ℓ : Loc nD τ sig) → Buf (Elt Ideal) ℓ) (c : Dev nD)

theorem idx0 : ∀ t : Fin cfg0.N, win0_0.index t = ![t.val % 2, 0] ∧ win0_1.index t = ![t.val % 2, t.val / 2] ∧ win0_2.index t = ![0, 0, 0]
    ∧ win0_3.index t = ![t.val / 2, 0, 0] :=
  (by decide +kernel : ∀ t : Fin grid0.N, _)

def row (t : Fin cfg0.N) (r : Fin 2048) : Fin 4096 := ⟨t.val % 2 * 2048 + r.val, by have := r.isLt; omega⟩
/-- The slot of the weight that point `t` treats. -/
def slot (t : Fin cfg0.N) : Fin 4 := ⟨t.val / 2, by have h : t.val < 8 := lt_of_lt_of_eq t.isLt N_0; omega⟩
def col (s : Fin 4) (n : Fin 1024) : Fin 4096 := ⟨s.val * 1024 + n.val, by have := s.isLt; have := n.isLt; omega⟩

theorem entry0 : V m c main_v0 = truncf (F := Ideal) .bf16 (m ((c.tc : Thread nD τ).loc main_arg0)) bitsLt_bf16_f32 := by
  unfold V
  simp only [hostOps0, List.flatten_cons, List.flatten_nil, List.append_nil, List.cons_append, List.nil_append]
  after_results
theorem entry1 : V m c main_v1 = truncf (F := Ideal) .bf16 (m ((c.tc : Thread nD τ).loc main_arg1)) bitsLt_bf16_f32 := by
  unfold V
  simp only [hostOps0, List.flatten_cons, List.flatten_nil, List.append_nil, List.cons_append, List.nil_append]
  after_results

theorem blk0 (t : Fin cfg0.N) (r : Fin 2048) (l : Fin 1024) :
    (iblk m c 0 t : FVec Ideal S2048x1024 .bf16) (ix2 r l) = (m ((c.tc : Thread nD τ).loc main_arg0)) (ix2 (row t r) l) := by
  have e : (iblk m c 0 t : FVec Ideal S2048x1024 .bf16) (ix2 r l) = (V m c main_v0 : FVec Ideal S4096x1024 .bf16) (ix2 (row t r) l) := by
    show _ = V m c (Pipeline.arrRef spec0 0) (ix2 (row t r) l)
    unfold row iblk
    generalize V m c (Pipeline.arrRef spec0 0) = A
    blk_point [idx0 t]
  rw [e, entry0]
  rfl
theorem blk1 (t : Fin cfg0.N) (r : Fin 2048) (l : Fin 1024) :
    (iblk m c 1 t : FVec Ideal S2048x1024 .bf16) (ix2 r l) = (m ((c.tc : Thread nD τ).loc main_arg1)) (ix2 (row t r) (col (slot t) l)) := by
  have e : (iblk m c 1 t : FVec Ideal S2048x1024 .bf16) (ix2 r l) = (V m c main_v1 : FVec Ideal S4096x4096 .bf16) (ix2 (row t r) (col (slot t) l)) := by
    show _ = V m c (Pipeline.arrRef spec0 1) (ix2 (row t r) (col (slot t) l))
    unfold row col slot iblk
    generalize V m c (Pipeline.arrRef spec0 1) = A
    blk_point [idx0 t]
  rw [e, entry1]
  rfl

variable (x : FVec Ideal S4096x1024 .f32) (d : FVec Ideal S4096x4096 .f32)
/-- One token's part of the weight's gradient. -/
def term (x : FVec Ideal S4096x1024 .f32) (d : FVec Ideal S4096x4096 .f32) (s : Fin 4) (k n : Fin 1024) (r : Fin 4096) : EReal :=
  x (ix2 r k) * d (ix2 r (col s n))
/-- The weight's gradient as an array. -/
def grad (i : S4x1024x1024.Idx) : EReal := ∑ r, term x d (i 0) (i 1) (i 2) r
/-- What point `t` adds to it. -/
def part (t : Fin cfg0.N) (k n : Fin 1024) : EReal := ∑ r, term x d (slot t) k n (row t r)

theorem add2 (t : Fin cfg0.N) (a : FVec Ideal S1024x1024 .f32) (k n : Fin 1024) : k0_pay2 (F := Ideal) (iblk m c 0 t) a (iblk m c 1 t) (ix2 k n)
    = a (ix2 k n) + part (m ((c.tc : Thread nD τ).loc main_arg0)) (m ((c.tc : Thread nD τ).loc main_arg1)) t k n := by
  refine (pay2 _ _ _ k n).trans (congrArg _ ?_)
  unfold part term
  exact Finset.sum_congr rfl fun r _ => congrArg₂ _ (blk0 m c t r k) (blk1 m c t r n)

theorem accA (t : Fin cfg0.N) (h : t.val % 2 = 0) (k n : Fin 1024) : (outsAt0 m c t.val t.isLt).2 (ix2 k n)
    = part (m ((c.tc : Thread nD τ).loc main_arg0)) (m ((c.tc : Thread nD τ).loc main_arg1)) t k n := by
  rw [outsAt0_A m c t h (by omega)]
  frame_out
  refine (add2 m c t _ k n).trans ?_
  rw [pay1, zero_add]

theorem weightB (t : Fin cfg0.N) (h : t.val % 2 = 1) (k n : Fin 1024) : (outsAt0 m c t.val t.isLt).1 (ix3 0 k n)
    = (outsAt0 m c (t.val - 1) (Nat.lt_of_le_of_lt (Nat.sub_le _ _) t.isLt)).2 (ix2 k n)
      + part (m ((c.tc : Thread nD τ).loc main_arg0)) (m ((c.tc : Thread nD τ).loc main_arg1)) t k n := by
  rw [outsAt0_B m c t (by omega) h]
  frame_out
  refine (pay3 _ k n).trans ((add2 m c t _ k n).trans ?_)
  exact congrArg (· + _) (congrFun (Memref.IsWhole.read_unread _ _) (ix2 k n))

theorem part_sum (t t' : Fin cfg0.N) (h : t.val % 2 = 0) (h' : t'.val = t.val + 1) (k n : Fin 1024) :
    part x d t k n + part x d t' k n = grad x d (ix3 (slot t') k n) := by
  have hs : slot t = slot t' := Fin.ext (by show t.val / 2 = t'.val / 2; omega)
  have key : ∑ b : Fin 2, ∑ r : Fin 2048, term x d (slot t') k n ⟨b.val * 2048 + r.val, by have := b.isLt; have := r.isLt; omega⟩ = grad x d (ix3 (slot t') k n) :=
    Fin.sum_mul_add_fin 2 2048 (term x d (slot t') k n) rfl
  rw [Fin.sum_univ_two] at key
  have r0 : ∀ r, row t r = ⟨(0 : Fin 2).val * 2048 + r.val, by have := r.isLt; simp; omega⟩ := fun r => Fin.ext (by show t.val % 2 * 2048 + r.val = 0 * 2048 + r.val; omega)
  have r1 : ∀ r, row t' r = ⟨(1 : Fin 2).val * 2048 + r.val, by have := r.isLt; simp; omega⟩ := fun r => Fin.ext (by show t'.val % 2 * 2048 + r.val = 1 * 2048 + r.val; omega)
  refine Eq.trans ?_ key
  unfold part
  simp only [r0, r1, hs]

theorem final3 : (dats m 0 c).arrAt 3 cfg0.N = grad (m ((c.tc : Thread nD τ).loc main_arg0)) (m ((c.tc : Thread nD τ).loc main_arg1)) := by
  refine (dats m 0 c).arrAt_eq_of_covers 3 _ (by decide +kernel) fun t hf y => ?_
  have h1 : t.val % 2 = 1 := (flush0_3 t).mp hf
  blk_simp
  rw [after0_3]
  idx_vars y
  have hl : t.val - 1 < cfg0.N := Nat.lt_of_le_of_lt (Nat.sub_le _ _) t.isLt
  have e0 : y0 = 0 := Fin.ext (by omega)
  subst e0
  refine (weightB m c t h1 y1 y2).trans ?_
  have hA := accA m c ⟨t.val - 1, hl⟩ (by show (t.val - 1) % 2 = 0; omega) y1 y2
  refine (congrArg (· + _) hA).trans ?_
  refine (part_sum _ _ ⟨t.val - 1, hl⟩ t (by show (t.val - 1) % 2 = 0; omega) (by show t.val = t.val - 1 + 1; omega) y1 y2).trans ?_
  generalize m ((c.tc : Thread nD τ).loc main_arg0) = A
  generalize m ((c.tc : Thread nD τ).loc main_arg1) = B
  refine congrArg (grad A B) ?_
  unfold slot
  blk_ext [idx0 t]

end Run

section Ref
open Cert.WeightReferenceIdeal Cert.WeightReferenceIdeal.Value Cert.WeightReferenceIdeal.Read
variable (x0 : FVec Ideal S4096x1024 .f32) (x1 : FVec Ideal S4096x4096 .f32)
theorem ref6 (s : Fin 4) (k n : Fin 1024) : val_main_v6 (F := Ideal) x0 x1 (ix3 s k n) = grad x0 x1 (ix3 s k n) := by
  pointwise [val_main_v6, val_main_v5, val_main_v4, val_main_v3, val_main_v2]
  exact Finset.sum_congr rfl fun r _ => mul_comm _ _
end Ref

section Values
open Cert.WeightKernelIdeal
variable (m : (ℓ : Loc nD τ sig) → Buf (Elt Ideal) ℓ)

theorem values (c : Dev nD)
    {y0 : Buf (Elt Ideal) ((c.tc : Thread Cert.WeightReferenceIdeal.nD Cert.WeightReferenceIdeal.τ).loc Cert.WeightReferenceIdeal.main_arg0)}
    {y1 : Buf (Elt Ideal) ((c.tc : Thread Cert.WeightReferenceIdeal.nD Cert.WeightReferenceIdeal.τ).loc Cert.WeightReferenceIdeal.main_arg1)}
    (he : y0 = (m ((c.tc : Thread nD τ).loc main_arg0))
      ∧ y1 = (m ((c.tc : Thread nD τ).loc main_arg1))) :
    Cert.WeightReferenceIdeal.Read.val_main_v6 (F := Ideal) y0 y1 = (Gen.dats m 0 c).arrAt 3 cfg0.N := by
  rw [he.1, he.2]
  refine Eq.trans ?_ (final3 m c).symm
  funext i
  exact (congrArg _ (by funext k; fin_cases k <;> rfl : i = ix3 (i 0) (i 1) (i 2))).trans (ref6 _ _ (i 0) (i 1) (i 2))
end Values

theorem algebraic : Cert.algebraic_WeightKernelIdeal_WeightReferenceIdeal := by
  intro m g m' g' _ hagree
  refine ⟨fun c => (Cert.WeightKernelIdeal.Gen.dats m 0 c).arrAt 3 Cert.WeightKernelIdeal.cfg0.N,
    Cert.WeightKernelIdeal.Value.run_blocks m g, (θ_run _ _ _).mono (fun r h c => ?_) (Cert.WeightReferenceIdeal.Value.run m' g')⟩
  obtain ⟨r0, rest⟩ := h c
  have key := values m c (hagree c)
  exact ⟨(r0.trans (Cert.WeightReferenceIdeal.Read.val_main_v6_eq _ _)).trans key, rest⟩

end Cert.Weight

end
-- ==== Proof.Step.lean ====
/- The optimiser's step on a matrix: its value claim. -/
module

public import proofs.«01_k».proof.Defs
public import proofs.«01_k».proof.Proof.Ada
public import proofs.«01_k».proof.Proof.Gen.StepKernelIdeal.Value
public import proofs.«01_k».proof.Proof.Gen.StepReferenceIdeal.Read
public import proofs.«01_k».proof.Proof.Gen.StepReferenceIdeal.Run
public import Idealize.ShloMosaic.Lib.Pointwise
public import Idealize.ShloMosaic.Lib.Pipeline.ValueKit

@[expose] public section

set_option maxRecDepth 16384

noncomputable section

namespace Cert.Step

open Idealize.ShloMosaic Cert.Lift
open Cert.Ada (mom sec step)

section Block
open Cert.StepKernelIdeal Cert.StepKernelIdeal.Gen
variable (w g v u : FVec Ideal S1x512x1024 .f32) (k : Fin 512) (n : Fin 1024)

theorem out5 : out0_5 (F := Ideal) w g v u (ix3 0 k n) = mom (g (ix3 0 k n)) (v (ix3 0 k n)) := by
  unfold out0_5
  refine (Pieces.canon_hit _ _ _ _ (ix3 0 k n) (by intro a; fin_cases a <;> simp [ix3])).trans ?_
  pointwise [k0_pay1, k0_pay2, k0_pay3, k0_pay4, k0_pay5, k0_pay6, k0_pay7]
  rfl
theorem out6 : out0_6 (F := Ideal) w g v u (ix3 0 k n) = sec (g (ix3 0 k n)) (u (ix3 0 k n)) := by
  unfold out0_6
  refine (Pieces.canon_hit _ _ _ _ (ix3 0 k n) (by intro a; fin_cases a <;> simp [ix3])).trans ?_
  pointwise [k0_pay1, k0_pay2, k0_pay3, k0_pay4, k0_pay5, k0_pay6, k0_pay7]
  rfl
theorem out4 : out0_4 (F := Ideal) w g v u (ix3 0 k n)
    = step (w (ix3 0 k n)) (mom (g (ix3 0 k n)) (v (ix3 0 k n))) (sec (g (ix3 0 k n)) (u (ix3 0 k n))) := by
  unfold out0_4
  refine (Pieces.canon_hit _ _ _ _ (ix3 0 k n) (by intro a; fin_cases a <;> simp [ix3])).trans ?_
  pointwise [k0_pay1, k0_pay2, k0_pay3, k0_pay4, k0_pay5, k0_pay6, k0_pay7]
  rfl
end Block

section Run
open Cert.StepKernelIdeal Cert.StepKernelIdeal.Gen
variable (m : (ℓ : Loc nD τ sig) → Buf (Elt Ideal) ℓ) (c : Dev nD)

theorem idx0 : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0] :=
  (by decide +kernel : ∀ t : Fin grid0.N, _)

def lay (t : Fin cfg0.N) : Fin 4 := ⟨t.val / 2, by have h : t.val < 8 := lt_of_lt_of_eq t.isLt N_0; omega⟩
def row (t : Fin cfg0.N) (n : Fin 512) : Fin 1024 := ⟨t.val % 2 * 512 + n.val, by have := n.isLt; omega⟩

theorem blk0 (t : Fin cfg0.N) (k : Fin 512) (n : Fin 1024) :
    (iblk m c 0 t : FVec Ideal S1x512x1024 .f32) (ix3 0 k n) = (m ((c.tc : Thread nD τ).loc main_arg0)) (ix3 (lay t) (row t k) n) := by
  show _ = V m c (Pipeline.arrRef spec0 0) (ix3 (lay t) (row t k) n)
  unfold iblk lay row
  generalize V m c (Pipeline.arrRef spec0 0) = A
  blk_point [idx0 t]

theorem blk1 (t : Fin cfg0.N) (k : Fin 512) (n : Fin 1024) :
    (iblk m c 1 t : FVec Ideal S1x512x1024 .f32) (ix3 0 k n) = (m ((c.tc : Thread nD τ).loc main_arg1)) (ix3 (lay t) (row t k) n) := by
  show _ = V m c (Pipeline.arrRef spec0 1) (ix3 (lay t) (row t k) n)
  unfold iblk lay row
  generalize V m c (Pipeline.arrRef spec0 1) = A
  blk_point [idx0 t]

theorem blk2 (t : Fin cfg0.N) (k : Fin 512) (n : Fin 1024) :
    (iblk m c 2 t : FVec Ideal S1x512x1024 .f32) (ix3 0 k n) = (m ((c.tc : Thread nD τ).loc main_arg2)) (ix3 (lay t) (row t k) n) := by
  show _ = V m c (Pipeline.arrRef spec0 2) (ix3 (lay t) (row t k) n)
  unfold iblk lay row
  generalize V m c (Pipeline.arrRef spec0 2) = A
  blk_point [idx0 t]

theorem blk3 (t : Fin cfg0.N) (k : Fin 512) (n : Fin 1024) :
    (iblk m c 3 t : FVec Ideal S1x512x1024 .f32) (ix3 0 k n) = (m ((c.tc : Thread nD τ).loc main_arg3)) (ix3 (lay t) (row t k) n) := by
  show _ = V m c (Pipeline.arrRef spec0 3) (ix3 (lay t) (row t k) n)
  unfold iblk lay row
  generalize V m c (Pipeline.arrRef spec0 3) = A
  blk_point [idx0 t]

/-- An array from its elements. -/
def arr (f : Fin 4 → Fin 1024 → Fin 1024 → EReal) (i : S4x1024x1024.Idx) : EReal := f (i 0) (i 1) (i 2)

def momA (g p : FVec Ideal S4x1024x1024 .f32) (s : Fin 4) (k n : Fin 1024) : EReal := mom (g (ix3 s k n)) (p (ix3 s k n))
def secA (g q : FVec Ideal S4x1024x1024 .f32) (s : Fin 4) (k n : Fin 1024) : EReal := sec (g (ix3 s k n)) (q (ix3 s k n))
def stepA (w g p q : FVec Ideal S4x1024x1024 .f32) (s : Fin 4) (k n : Fin 1024) : EReal :=
  step (w (ix3 s k n)) (momA g p s k n) (secA g q s k n)

theorem point4 (t : Fin cfg0.N) (k : Fin 512) (n : Fin 1024) : out0_4 (F := Ideal) (iblk m c 0 t) (iblk m c 1 t) (iblk m c 2 t) (iblk m c 3 t) (ix3 0 k n)
    = stepA (m ((c.tc : Thread nD τ).loc main_arg0)) (m ((c.tc : Thread nD τ).loc main_arg1)) (m ((c.tc : Thread nD τ).loc main_arg2)) (m ((c.tc : Thread nD τ).loc main_arg3)) (lay t) (row t k) n :=
  (out4 _ _ _ _ k n).trans (Ada.step_congr (blk0 m c t k n) (congrArg₂ mom (blk1 m c t k n) (blk2 m c t k n)) (congrArg₂ sec (blk1 m c t k n) (blk3 m c t k n)))

theorem final4 : (dats m 0 c).arrAt 4 cfg0.N = arr (stepA (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 4 _ (by decide +kernel) fun t _ y => ?_
  blk_simp
  rw [after0_4]
  idx_vars y
  obtain rfl : y0 = 0 := Subsingleton.elim _ _
  refine (point4 m c t y1 y2).trans ?_
  generalize stepA (m ((c.tc : Thread nD τ).loc main_arg0)) (m ((c.tc : Thread nD τ).loc main_arg1)) (m ((c.tc : Thread nD τ).loc main_arg2)) (m ((c.tc : Thread nD τ).loc main_arg3)) = A
  refine Eq.trans (b := arr A (ix3 (lay t) (row t y1) y2)) rfl (congrArg (arr A) ?_)
  unfold lay row
  blk_ext [idx0 t]

theorem point5 (t : Fin cfg0.N) (k : Fin 512) (n : Fin 1024) : out0_5 (F := Ideal) (iblk m c 0 t) (iblk m c 1 t) (iblk m c 2 t) (iblk m c 3 t) (ix3 0 k n)
    = momA (m ((c.tc : Thread nD τ).loc main_arg1)) (m ((c.tc : Thread nD τ).loc main_arg2)) (lay t) (row t k) n :=
  (out5 _ _ _ _ k n).trans (congrArg₂ mom (blk1 m c t k n) (blk2 m c t k n))

theorem final5 : (dats m 0 c).arrAt 5 cfg0.N = arr (momA (m ((c.tc : Thread nD τ).loc main_arg1)) (m ((c.tc : Thread nD τ).loc main_arg2))) := by
  refine (dats m 0 c).arrAt_eq_of_covers 5 _ (by decide +kernel) fun t _ y => ?_
  blk_simp
  rw [after0_5]
  idx_vars y
  obtain rfl : y0 = 0 := Subsingleton.elim _ _
  refine (point5 m c t y1 y2).trans ?_
  generalize momA (m ((c.tc : Thread nD τ).loc main_arg1)) (m ((c.tc : Thread nD τ).loc main_arg2)) = A
  refine Eq.trans (b := arr A (ix3 (lay t) (row t y1) y2)) rfl (congrArg (arr A) ?_)
  unfold lay row
  blk_ext [idx0 t]

theorem point6 (t : Fin cfg0.N) (k : Fin 512) (n : Fin 1024) : out0_6 (F := Ideal) (iblk m c 0 t) (iblk m c 1 t) (iblk m c 2 t) (iblk m c 3 t) (ix3 0 k n)
    = secA (m ((c.tc : Thread nD τ).loc main_arg1)) (m ((c.tc : Thread nD τ).loc main_arg3)) (lay t) (row t k) n :=
  (out6 _ _ _ _ k n).trans (congrArg₂ sec (blk1 m c t k n) (blk3 m c t k n))

theorem final6 : (dats m 0 c).arrAt 6 cfg0.N = arr (secA (m ((c.tc : Thread nD τ).loc main_arg1)) (m ((c.tc : Thread nD τ).loc main_arg3))) := by
  refine (dats m 0 c).arrAt_eq_of_covers 6 _ (by decide +kernel) fun t _ y => ?_
  blk_simp
  rw [after0_6]
  idx_vars y
  obtain rfl : y0 = 0 := Subsingleton.elim _ _
  refine (point6 m c t y1 y2).trans ?_
  generalize secA (m ((c.tc : Thread nD τ).loc main_arg1)) (m ((c.tc : Thread nD τ).loc main_arg3)) = A
  refine Eq.trans (b := arr A (ix3 (lay t) (row t y1) y2)) rfl (congrArg (arr A) ?_)
  unfold lay row
  blk_ext [idx0 t]
end Run

section Ref
open Cert.StepReferenceIdeal Cert.StepReferenceIdeal.Value Cert.StepReferenceIdeal.Read
variable (x0 x1 x2 x3 : FVec Ideal S4x1024x1024 .f32)

theorem ref4 (s : Fin 4) (k n : Fin 1024) : val_main_v4 (F := Ideal) x1 x2 (ix3 s k n) = momA x1 x2 s k n := by
  pointwise [val_main_v4, val_main_v3, val_main_v2, val_main_v1, val_main_v0, val_main_cst, val_main_cst_0]
  rfl
theorem ref10 (s : Fin 4) (k n : Fin 1024) : val_main_v10 (F := Ideal) x1 x3 (ix3 s k n) = secA x1 x3 s k n := by
  pointwise [val_main_v10, val_main_v9, val_main_v8, val_main_v7, val_main_v6, val_main_v5, val_main_cst_1, val_main_cst_2]
  rfl
theorem ref23 (s : Fin 4) (k n : Fin 1024) : val_main_v23 (F := Ideal) x0 x1 x2 x3 (ix3 s k n) = stepA x0 x1 x2 x3 s k n := by
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [ref4, ref10]
  rfl

end Ref

section Values
open Cert.StepKernelIdeal
variable (m : (ℓ : Loc nD τ sig) → Buf (Elt Ideal) ℓ)

theorem values (c : Dev nD)
    {y0 : Buf (Elt Ideal) ((c.tc : Thread Cert.StepReferenceIdeal.nD Cert.StepReferenceIdeal.τ).loc Cert.StepReferenceIdeal.main_arg0)}
    {y1 : Buf (Elt Ideal) ((c.tc : Thread Cert.StepReferenceIdeal.nD Cert.StepReferenceIdeal.τ).loc Cert.StepReferenceIdeal.main_arg1)}
    {y2 : Buf (Elt Ideal) ((c.tc : Thread Cert.StepReferenceIdeal.nD Cert.StepReferenceIdeal.τ).loc Cert.StepReferenceIdeal.main_arg2)}
    {y3 : Buf (Elt Ideal) ((c.tc : Thread Cert.StepReferenceIdeal.nD Cert.StepReferenceIdeal.τ).loc Cert.StepReferenceIdeal.main_arg3)}
    (he : y0 = (m ((c.tc : Thread nD τ).loc main_arg0))
      ∧ y1 = (m ((c.tc : Thread nD τ).loc main_arg1))
      ∧ y2 = (m ((c.tc : Thread nD τ).loc main_arg2))
      ∧ y3 = (m ((c.tc : Thread nD τ).loc main_arg3))) :
    Cert.StepReferenceIdeal.Read.val_main_v23 (F := Ideal) y0 y1 y2 y3 = (Gen.dats m 0 c).arrAt 4 cfg0.N
    ∧ Cert.StepReferenceIdeal.Read.val_main_v4 (F := Ideal) y1 y2 = (Gen.dats m 0 c).arrAt 5 cfg0.N
    ∧ Cert.StepReferenceIdeal.Read.val_main_v10 (F := Ideal) y1 y3 = (Gen.dats m 0 c).arrAt 6 cfg0.N := by
  rw [he.1, he.2.1, he.2.2.1, he.2.2.2]
  refine ⟨?_, ?_, ?_⟩
  · refine Eq.trans ?_ (final4 m c).symm
    funext i
    exact (congrArg _ (by funext k; fin_cases k <;> rfl : i = ix3 (i 0) (i 1) (i 2))).trans (ref23 _ _ _ _ (i 0) (i 1) (i 2))
  · refine Eq.trans ?_ (final5 m c).symm
    funext i
    exact (congrArg _ (by funext k; fin_cases k <;> rfl : i = ix3 (i 0) (i 1) (i 2))).trans (ref4 _ _ (i 0) (i 1) (i 2))
  · refine Eq.trans ?_ (final6 m c).symm
    funext i
    exact (congrArg _ (by funext k; fin_cases k <;> rfl : i = ix3 (i 0) (i 1) (i 2))).trans (ref10 _ _ (i 0) (i 1) (i 2))
end Values

theorem algebraic : Cert.algebraic_StepKernelIdeal_StepReferenceIdeal := by
  intro m g m' g' _ hagree
  refine ⟨fun c => (Cert.StepKernelIdeal.Gen.dats m 0 c).arrAt 4 Cert.StepKernelIdeal.cfg0.N,
    fun c => (Cert.StepKernelIdeal.Gen.dats m 0 c).arrAt 5 Cert.StepKernelIdeal.cfg0.N,
    fun c => (Cert.StepKernelIdeal.Gen.dats m 0 c).arrAt 6 Cert.StepKernelIdeal.cfg0.N,
    Cert.StepKernelIdeal.Value.run_blocks m g, (θ_run _ _ _).mono (fun r h c => ?_) (Cert.StepReferenceIdeal.Value.run m' g')⟩
  obtain ⟨r0, r1, r2, rest⟩ := h c
  have key := values m c (hagree c)
  exact ⟨(r0.trans (Cert.StepReferenceIdeal.Read.val_main_v23_eq _ _ _ _)).trans key.1, (r1.trans (Cert.StepReferenceIdeal.Read.val_main_v4_eq _ _)).trans key.2.1, (r2.trans (Cert.StepReferenceIdeal.Read.val_main_v10_eq _ _)).trans key.2.2, rest⟩

end Cert.Step

end
-- ==== Proof.Small.lean ====
/- The small parameters' step: the sum of what four chips gathered, and the optimiser's step with it: its value claim. -/
module

public import proofs.«01_k».proof.Defs
public import proofs.«01_k».proof.Proof.Ada
public import proofs.«01_k».proof.Proof.Pieces
public import proofs.«01_k».proof.Proof.MixRows
public import proofs.«01_k».proof.Proof.Gen.SmallKernelIdeal.Skeleton
public import proofs.«01_k».proof.Proof.Gen.SmallKernelIdeal.Frame
public import proofs.«01_k».proof.Proof.Gen.SmallKernelIdeal.Value
public import proofs.«01_k».proof.Proof.Gen.SmallReferenceIdeal.Read
public import proofs.«01_k».proof.Proof.Gen.SmallReferenceIdeal.Run
public import Idealize.ShloMosaic.Lib.Pointwise
public import Idealize.ShloMosaic.Lib.Pipeline.ValueKit

@[expose] public section

set_option maxRecDepth 16384

noncomputable section

namespace Cert.Small

open Idealize.ShloMosaic Cert.Lift
open Cert.Ada (mom sec step)
open Cert.Mix (rc_at)
open Cert.Pieces (canon_hit canon_miss)

/-- A chip's entry, by its row's number. -/
def cell (x : FVec Ideal Cert.SmallKernelIdeal.S4x432x1024 .f32) (c : Fin 4) (r : ℕ) (n : Fin 1024) : EReal :=
  if h : r < 432 then x (ix3 c (⟨r, h⟩ : Fin 432) n) else 0
theorem cell_of (x : FVec Ideal Cert.SmallKernelIdeal.S4x432x1024 .f32) (c : Fin 4) (r : Fin 432) (q : ℕ) (hq : q = r.val) (n : Fin 1024) :
    x (ix3 c r n) = cell x c q n := by
  subst hq
  unfold cell
  rw [dif_pos r.isLt]

/-- The first 24 rows: both halves of each chip's 48 rows, in order. -/
def eight (x : FVec Ideal Cert.SmallKernelIdeal.S4x432x1024 .f32) (r : ℕ) (n : Fin 1024) : EReal :=
  cell x 0 (0 + r) n + cell x 0 (24 + r) n + cell x 1 (0 + r) n + cell x 1 (24 + r) n + cell x 2 (0 + r) n + cell x 2 (24 + r) n + cell x 3 (0 + r) n + cell x 3 (24 + r) n
/-- The other rows: the four chips' rows, 48 further down. -/
def four (x : FVec Ideal Cert.SmallKernelIdeal.S4x432x1024 .f32) (r : ℕ) (n : Fin 1024) : EReal :=
  cell x 0 (48 + r) n + cell x 1 (48 + r) n + cell x 2 (48 + r) n + cell x 3 (48 + r) n
/-- The gradient the step uses. -/
def gsum (x : FVec Ideal Cert.SmallKernelIdeal.S4x432x1024 .f32) (r : Fin 376) (n : Fin 1024) : EReal :=
  if r.val < 24 then eight x r.val n else four x r.val n

section Block
open Cert.SmallKernelIdeal Cert.SmallKernelIdeal.Gen

theorem p2 (a b d e : FVec Ideal S1x376x1024 .f32) (r : Fin 376) (n : Fin 1024) :
    k0_pay2 (F := Ideal) a b d e (ix2 r n) = a (ix3 0 r n) + b (ix3 0 r n) + d (ix3 0 r n) + e (ix3 0 r n) := by
  pointwise [k0_pay2]
theorem p5 (a b d e f g h k : FVec Ideal S1x24x1024 .f32) (r : Fin 24) (n : Fin 1024) :
    k0_pay5 (F := Ideal) (k0_pay3 a b d e f) (k0_pay4 g) h k (ix2 r n)
      = a (ix3 0 r n) + b (ix3 0 r n) + d (ix3 0 r n) + e (ix3 0 r n) + f (ix3 0 r n) + g (ix3 0 r n) + h (ix3 0 r n) + k (ix3 0 r n) := by
  pointwise [k0_pay5, k0_pay3, k0_pay4]
theorem p6 (a : FVec Ideal S376x1024 .f32) (r : Fin 352) (n : Fin 1024) (q : Fin 376) (hq : q.val = 24 + r.val) :
    k0_pay6 (F := Ideal) a (ix2 r n) = a (ix2 q n) := by
  have e : q = ⟨24 + r.val, by have := r.isLt; omega⟩ := Fin.ext hq
  rw [e]
  pointwise [k0_pay6]
theorem p8 (g v : FVec Ideal S376x1024 .f32) (r : Fin 376) (n : Fin 1024) : k0_pay8 (F := Ideal) g v (ix2 r n) = mom (g (ix2 r n)) (v (ix2 r n)) := by
  pointwise [k0_pay7, k0_pay8]
  rfl
theorem p9 (g v : FVec Ideal S376x1024 .f32) (r : Fin 376) (n : Fin 1024) : k0_pay9 (F := Ideal) g v (ix2 r n) = sec (g (ix2 r n)) (v (ix2 r n)) := by
  pointwise [k0_pay7, k0_pay9]
  rfl
theorem p1 (w g v u : FVec Ideal S376x1024 .f32) (r : Fin 376) (n : Fin 1024) :
    k0_pay1 (F := Ideal) w (k0_pay10 g v) (k0_pay11 g u) (ix2 r n) = step (w (ix2 r n)) (mom (g (ix2 r n)) (v (ix2 r n))) (sec (g (ix2 r n)) (u (ix2 r n))) := by
  rw [← p8 g v, ← p9 g u]
  generalize hA : k0_pay8 (F := Ideal) g v = A
  generalize hB : k0_pay9 (F := Ideal) g u = B
  unfold k0_pay10 k0_pay11
  rw [hA, hB]
  pointwise [k0_pay1]
  rfl

theorem ld376 (x : FVec Ideal S4x432x1024 .f32) (c : Fin 4) (inb) (r : Fin 376) (n : Fin 1024) :
    View.ld (Val := Elt Ideal) (e' := .f32) x (Rect.unit ![c.val, 48, 0] ![1, 376, 1024] inb) (ix3 (0 : Fin 1) r n : S1x376x1024.Idx) = cell x c (48 + r.val) n :=
  (View.ld_unit_apply_of _ _ _ _ _ (ix3 c (⟨48 + r.val, by omega⟩ : Fin 432) n) (by intro a; fin_cases a <;> simp [ix3])).trans (cell_of x c _ _ rfl n)
theorem ld24 (x : FVec Ideal S4x432x1024 .f32) (c : Fin 4) (o : ℕ) (ho : o ≤ 24) (inb) (r : Fin 24) (n : Fin 1024) :
    View.ld (Val := Elt Ideal) (e' := .f32) x (Rect.unit ![c.val, o, 0] ![1, 24, 1024] inb) (ix3 (0 : Fin 1) r n : S1x24x1024.Idx) = cell x c (o + r.val) n :=
  (View.ld_unit_apply_of _ _ _ _ _ (ix3 c (⟨o + r.val, by omega⟩ : Fin 432) n) (by intro a; fin_cases a <;> simp [ix3])).trans (cell_of x c _ _ rfl n)
/-- The two stores of the sum. -/
abbrev goP (x : Vec Ideal S4x432x1024 .f32) : List (View.Piece (Elt Ideal) S376x1024 .f32) :=
  [⟨Rect.unit ![24, 0] ![352, 1024] inb_S376x1024_S352x1024_24_0, k0_pay6 (k0_pay2 (View.ld (Val := Elt Ideal) (e' := .f32) x (Rect.unit ![0, 48, 0] ![1, 376, 1024] inb_S4x432x1024_S1x376x1024_0_48_0)) (View.ld (Val := Elt Ideal) (e' := .f32) x (Rect.unit ![1, 48, 0] ![1, 376, 1024] inb_S4x432x1024_S1x376x1024_1_48_0)) (View.ld (Val := Elt Ideal) (e' := .f32) x (Rect.unit ![2, 48, 0] ![1, 376, 1024] inb_S4x432x1024_S1x376x1024_2_48_0)) (View.ld (Val := Elt Ideal) (e' := .f32) x (Rect.unit ![3, 48, 0] ![1, 376, 1024] inb_S4x432x1024_S1x376x1024_3_48_0)))⟩,
    ⟨Rect.unit ![0, 0] ![24, 1024] inb_S376x1024_S24x1024_0_0,
      k0_pay5 (k0_pay3 (View.ld (Val := Elt Ideal) (e' := .f32) x (Rect.unit ![0, 0, 0] ![1, 24, 1024] inb_S4x432x1024_S1x24x1024_0_0_0)) (View.ld (Val := Elt Ideal) (e' := .f32) x (Rect.unit ![0, 24, 0] ![1, 24, 1024] inb_S4x432x1024_S1x24x1024_0_24_0)) (View.ld (Val := Elt Ideal) (e' := .f32) x (Rect.unit ![1, 0, 0] ![1, 24, 1024] inb_S4x432x1024_S1x24x1024_1_0_0)) (View.ld (Val := Elt Ideal) (e' := .f32) x (Rect.unit ![1, 24, 0] ![1, 24, 1024] inb_S4x432x1024_S1x24x1024_1_24_0)) (View.ld (Val := Elt Ideal) (e' := .f32) x (Rect.unit ![2, 0, 0] ![1, 24, 1024] inb_S4x432x1024_S1x24x1024_2_0_0))) (k0_pay4 (View.ld (Val := Elt Ideal) (e' := .f32) x (Rect.unit ![2, 24, 0] ![1, 24, 1024] inb_S4x432x1024_S1x24x1024_2_24_0))) (View.ld (Val := Elt Ideal) (e' := .f32) x (Rect.unit ![3, 0, 0] ![1, 24, 1024] inb_S4x432x1024_S1x24x1024_3_0_0)) (View.ld (Val := Elt Ideal) (e' := .f32) x (Rect.unit ![3, 24, 0] ![1, 24, 1024] inb_S4x432x1024_S1x24x1024_3_24_0))⟩]

theorem go_eq (x : FVec Ideal S4x432x1024 .f32) (r : Fin 376) (n : Fin 1024) : View.canon (goP x) (ix2 r n) = gsum x r n := by
  unfold gsum
  by_cases h : r.val < 24
  · rw [if_pos h]
    refine (canon_miss _ _ _ _ 0 (by simp [ix2]; omega)).trans ?_
    refine (canon_hit _ _ _ _ (ix2 (⟨r.val, h⟩ : Fin 24) n) (by intro a; fin_cases a <;> simp [ix2])).trans ?_
    refine (p5 _ _ _ _ _ _ _ _ ⟨r.val, h⟩ n).trans ?_
    unfold eight
    rw [← ld24 x 0 0 (by omega) inb_S4x432x1024_S1x24x1024_0_0_0 ⟨r.val, h⟩ n, ← ld24 x 0 24 (by omega) inb_S4x432x1024_S1x24x1024_0_24_0 ⟨r.val, h⟩ n,
      ← ld24 x 1 0 (by omega) inb_S4x432x1024_S1x24x1024_1_0_0 ⟨r.val, h⟩ n, ← ld24 x 1 24 (by omega) inb_S4x432x1024_S1x24x1024_1_24_0 ⟨r.val, h⟩ n,
      ← ld24 x 2 0 (by omega) inb_S4x432x1024_S1x24x1024_2_0_0 ⟨r.val, h⟩ n, ← ld24 x 2 24 (by omega) inb_S4x432x1024_S1x24x1024_2_24_0 ⟨r.val, h⟩ n,
      ← ld24 x 3 0 (by omega) inb_S4x432x1024_S1x24x1024_3_0_0 ⟨r.val, h⟩ n, ← ld24 x 3 24 (by omega) inb_S4x432x1024_S1x24x1024_3_24_0 ⟨r.val, h⟩ n]
    rfl
  · rw [if_neg h]
    have hr := r.isLt
    refine (canon_hit _ _ _ _ (ix2 (⟨r.val - 24, by omega⟩ : Fin 352) n) (by intro a; fin_cases a <;> simp [ix2]; omega)).trans ?_
    refine (p6 _ ⟨r.val - 24, by omega⟩ n r (by show r.val = 24 + (r.val - 24); omega)).trans ?_
    refine (p2 _ _ _ _ r n).trans ?_
    unfold four
    rw [← ld376 x 0 inb_S4x432x1024_S1x376x1024_0_48_0 r n, ← ld376 x 1 inb_S4x432x1024_S1x376x1024_1_48_0 r n,
      ← ld376 x 2 inb_S4x432x1024_S1x376x1024_2_48_0 r n, ← ld376 x 3 inb_S4x432x1024_S1x376x1024_3_48_0 r n]
    rfl
/-- What the step reads back. -/
theorem back (x : FVec Ideal S4x432x1024 .f32) {κ : Kind} {sp : Space} (v : View sig κ sp S376x1024 .f32) (r : Fin 376) (n : Fin 1024) :
    (v.readCov (Val := Elt Ideal) (goP x) (Rect.unit (s := S376x1024) ![0, 0] ![376, 1024] inb_S376x1024_S376x1024_0_0).toLoadRect : FVec Ideal S376x1024 .f32) (ix2 r n) = gsum x r n :=
  (rc_at v (goP x) ![0, 0] ![376, 1024] inb_S376x1024_S376x1024_0_0 (ix2 r n : S376x1024.Idx) (ix2 r n) (by intro a; fin_cases a <;> simp [ix2])).trans (go_eq x r n)

/-- A whole buffer read back. -/
theorem read_whole (b : Ref sig .tc) (h : (Memref.whole b).IsWhole) (X : b.ty.shape.Idx → Elt Ideal b.ty.elt) :
    View.read (Elt Ideal) (View.whole b) (h.unread X) = X := h.read_unread X
end Block

section Run
open Cert.SmallKernelIdeal Cert.SmallKernelIdeal.Gen
variable (m : (ℓ : Loc nD τ sig) → Buf (Elt Ideal) ℓ) (c : Dev nD) (t : Fin cfg0.N)

theorem out4 (r : Fin 376) (n : Fin 1024) : (outsAt0 m c t).1 (ix2 r n) = gsum (iblk m c 0 t) r n := by
  unfold outsAt0
  frame_out
  simp only [read_whole]
  exact go_eq (iblk m c 0 t) r n
theorem out6 (r : Fin 376) (n : Fin 1024) : (outsAt0 m c t).2.2.1 (ix2 r n) = mom (gsum (iblk m c 0 t) r n) ((iblk m c 2 t : FVec Ideal S376x1024 .f32) (ix2 r n)) := by
  unfold outsAt0
  frame_out
  simp only [read_whole]
  refine (p8 _ _ r n).trans ?_
  exact congrArg₂ mom (back (iblk m c 0 t) _ r n) rfl
theorem out7 (r : Fin 376) (n : Fin 1024) : (outsAt0 m c t).2.2.2 (ix2 r n) = sec (gsum (iblk m c 0 t) r n) ((iblk m c 3 t : FVec Ideal S376x1024 .f32) (ix2 r n)) := by
  unfold outsAt0
  frame_out
  simp only [read_whole]
  refine (p9 _ _ r n).trans ?_
  exact congrArg₂ sec (back (iblk m c 0 t) _ r n) rfl
theorem out5 (r : Fin 376) (n : Fin 1024) : (outsAt0 m c t).2.1 (ix2 r n)
    = step ((iblk m c 1 t : FVec Ideal S376x1024 .f32) (ix2 r n)) (mom (gsum (iblk m c 0 t) r n) ((iblk m c 2 t : FVec Ideal S376x1024 .f32) (ix2 r n)))
      (sec (gsum (iblk m c 0 t) r n) ((iblk m c 3 t : FVec Ideal S376x1024 .f32) (ix2 r n))) := by
  unfold outsAt0
  frame_out
  simp only [read_whole]
  refine (p1 _ _ _ _ r n).trans ?_
  exact Ada.step_congr rfl (congrArg₂ mom (back (iblk m c 0 t) _ r n) rfl) (congrArg₂ sec (back (iblk m c 0 t) _ r n) rfl)

theorem idx0 : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (s : Fin 4) (k : Fin 432) (n : Fin 1024) : (iblk m c 0 t : FVec Ideal S4x432x1024 .f32) (ix3 s k n) = (m ((c.tc : Thread nD τ).loc main_arg0)) (ix3 s k n) := by
  show _ = V m c (Pipeline.arrRef spec0 0) (ix3 s k n)
  unfold iblk
  generalize V m c (Pipeline.arrRef spec0 0) = A
  blk_point [idx0 t]
theorem blk1 (k : Fin 376) (n : Fin 1024) : (iblk m c 1 t : FVec Ideal S376x1024 .f32) (ix2 k n) = (m ((c.tc : Thread nD τ).loc main_arg1)) (ix2 k n) := by
  show _ = V m c (Pipeline.arrRef spec0 1) (ix2 k n)
  unfold iblk
  generalize V m c (Pipeline.arrRef spec0 1) = A
  blk_point [idx0 t]
theorem blk2 (k : Fin 376) (n : Fin 1024) : (iblk m c 2 t : FVec Ideal S376x1024 .f32) (ix2 k n) = (m ((c.tc : Thread nD τ).loc main_arg2)) (ix2 k n) := by
  show _ = V m c (Pipeline.arrRef spec0 2) (ix2 k n)
  unfold iblk
  generalize V m c (Pipeline.arrRef spec0 2) = A
  blk_point [idx0 t]
theorem blk3 (k : Fin 376) (n : Fin 1024) : (iblk m c 3 t : FVec Ideal S376x1024 .f32) (ix2 k n) = (m ((c.tc : Thread nD τ).loc main_arg3)) (ix2 k n) := by
  show _ = V m c (Pipeline.arrRef spec0 3) (ix2 k n)
  unfold iblk
  generalize V m c (Pipeline.arrRef spec0 3) = A
  blk_point [idx0 t]

/-- An array from its elements. -/
def arr (f : Fin 376 → Fin 1024 → EReal) (i : S376x1024.Idx) : EReal := f (i 0) (i 1)
def momA (x : FVec Ideal S4x432x1024 .f32) (p : FVec Ideal S376x1024 .f32) (k : Fin 376) (n : Fin 1024) : EReal := mom (gsum x k n) (p (ix2 k n))
def secA (x : FVec Ideal S4x432x1024 .f32) (q : FVec Ideal S376x1024 .f32) (k : Fin 376) (n : Fin 1024) : EReal := sec (gsum x k n) (q (ix2 k n))
def stepA (x : FVec Ideal S4x432x1024 .f32) (w p q : FVec Ideal S376x1024 .f32) (k : Fin 376) (n : Fin 1024) : EReal :=
  step (w (ix2 k n)) (momA x p k n) (secA x q k n)

theorem gblk (k : Fin 376) (n : Fin 1024) : gsum (iblk m c 0 t) k n = gsum (m ((c.tc : Thread nD τ).loc main_arg0)) k n := by
  have e : (iblk m c 0 t : FVec Ideal S4x432x1024 .f32) = (m ((c.tc : Thread nD τ).loc main_arg0)) := by
    funext i
    obtain ⟨s, a, b, rfl⟩ : ∃ (s : Fin 4) (a : Fin 432) (b : Fin 1024), i = ix3 s a b := ⟨i 0, i 1, i 2, by funext k; fin_cases k <;> rfl⟩
    exact blk0 m c t s a b
  exact congrArg (fun X => gsum X k n) e

theorem final4 : (dats m 0 c).arrAt 4 cfg0.N = arr (gsum (m ((c.tc : Thread nD τ).loc main_arg0))) := by
  refine (dats m 0 c).arrAt_eq_of_covers 4 _ (by decide +kernel) fun t _ y => ?_
  blk_simp
  rw [after0_4]
  idx_vars y
  refine ((out4 m c t y0 y1).trans (gblk m c t y0 y1)).trans ?_
  refine Eq.trans (b := arr (gsum (m ((c.tc : Thread nD τ).loc main_arg0))) (ix2 y0 y1)) rfl ?_
  generalize gsum (m ((c.tc : Thread nD τ).loc main_arg0)) = A
  refine congrArg (arr A) ?_
  blk_ext [idx0 t]

theorem final5 : (dats m 0 c).arrAt 5 cfg0.N = arr (stepA (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 5 _ (by decide +kernel) fun t _ y => ?_
  blk_simp
  rw [after0_5]
  idx_vars y
  refine ((out5 m c t y0 y1).trans (Ada.step_congr (blk1 m c t y0 y1) (congrArg₂ mom (gblk m c t y0 y1) (blk2 m c t y0 y1)) (congrArg₂ sec (gblk m c t y0 y1) (blk3 m c t y0 y1)))).trans ?_
  refine Eq.trans (b := arr (stepA (m ((c.tc : Thread nD τ).loc main_arg0)) (m ((c.tc : Thread nD τ).loc main_arg1)) (m ((c.tc : Thread nD τ).loc main_arg2)) (m ((c.tc : Thread nD τ).loc main_arg3))) (ix2 y0 y1)) rfl ?_
  generalize stepA (m ((c.tc : Thread nD τ).loc main_arg0)) (m ((c.tc : Thread nD τ).loc main_arg1)) (m ((c.tc : Thread nD τ).loc main_arg2)) (m ((c.tc : Thread nD τ).loc main_arg3)) = A
  refine congrArg (arr A) ?_
  blk_ext [idx0 t]

theorem final6 : (dats m 0 c).arrAt 6 cfg0.N = arr (momA (m ((c.tc : Thread nD τ).loc main_arg0)) (m ((c.tc : Thread nD τ).loc main_arg2))) := by
  refine (dats m 0 c).arrAt_eq_of_covers 6 _ (by decide +kernel) fun t _ y => ?_
  blk_simp
  rw [after0_6]
  idx_vars y
  refine ((out6 m c t y0 y1).trans (congrArg₂ mom (gblk m c t y0 y1) (blk2 m c t y0 y1))).trans ?_
  refine Eq.trans (b := arr (momA (m ((c.tc : Thread nD τ).loc main_arg0)) (m ((c.tc : Thread nD τ).loc main_arg2))) (ix2 y0 y1)) rfl ?_
  generalize momA (m ((c.tc : Thread nD τ).loc main_arg0)) (m ((c.tc : Thread nD τ).loc main_arg2)) = A
  refine congrArg (arr A) ?_
  blk_ext [idx0 t]

theorem final7 : (dats m 0 c).arrAt 7 cfg0.N = arr (secA (m ((c.tc : Thread nD τ).loc main_arg0)) (m ((c.tc : Thread nD τ).loc main_arg3))) := by
  refine (dats m 0 c).arrAt_eq_of_covers 7 _ (by decide +kernel) fun t _ y => ?_
  blk_simp
  rw [after0_7]
  idx_vars y
  refine ((out7 m c t y0 y1).trans (congrArg₂ sec (gblk m c t y0 y1) (blk3 m c t y0 y1))).trans ?_
  refine Eq.trans (b := arr (secA (m ((c.tc : Thread nD τ).loc main_arg0)) (m ((c.tc : Thread nD τ).loc main_arg3))) (ix2 y0 y1)) rfl ?_
  generalize secA (m ((c.tc : Thread nD τ).loc main_arg0)) (m ((c.tc : Thread nD τ).loc main_arg3)) = A
  refine congrArg (arr A) ?_
  blk_ext [idx0 t]
end Run

section Ref
open Cert.SmallReferenceIdeal Cert.SmallReferenceIdeal.Value Cert.SmallReferenceIdeal.Read
variable (x0 : FVec Ideal S4x432x1024 .f32) (x1 x2 x3 : FVec Ideal S376x1024 .f32)

theorem z0 (i : S_.Idx) : val_main_cst (F := Ideal) i = 0 := by pointwise [val_main_cst]
theorem z1 (i : S_.Idx) : val_main_cst_0 (F := Ideal) i = 0 := by pointwise [val_main_cst_0]
theorem v1 (k : Fin 8) (r : Fin 24) (n : Fin 1024) (s : Fin 4) (o : ℕ) (ho : o ≤ 24) (hk : k.val * 24 = s.val * 48 + o) :
    val_main_v1 (F := Ideal) x0 (ix3 k r n) = cell x0 s (o + r.val) n := by
  have hr := r.isLt
  rw [val_main_v1_apply, val_main_v0_apply]
  refine Eq.trans (congrArg x0 ?_) (cell_of x0 s (⟨o + r.val, by omega⟩ : Fin 432) _ rfl n)
  have hn := n.isLt
  funext a
  fin_cases a <;> apply Fin.ext <;> simp [ix3] <;> omega
theorem r2 (r : Fin 24) (n : Fin 1024) : val_main_v2 (F := Ideal) x0 (ix2 r n) = eight x0 r.val n := by
  pointwise [val_main_v2]
  rw [z0, zero_add, Fin.sum_univ_eight]
  unfold eight
  rw [v1 x0 0 r n 0 0 (by omega) rfl, v1 x0 1 r n 0 24 (by omega) rfl, v1 x0 2 r n 1 0 (by omega) rfl, v1 x0 3 r n 1 24 (by omega) rfl,
    v1 x0 4 r n 2 0 (by omega) rfl, v1 x0 5 r n 2 24 (by omega) rfl, v1 x0 6 r n 3 0 (by omega) rfl, v1 x0 7 r n 3 24 (by omega) rfl]
theorem r4 (r : Fin 352) (n : Fin 1024) : val_main_v4 (F := Ideal) x0 (ix2 r n) = four x0 (24 + r.val) n := by
  pointwise [val_main_v4, val_main_v3]
  rw [z1, zero_add, Fin.sum_univ_four]
  unfold four
  rw [cell_of x0 0 _ (48 + (24 + r.val)) (by show _ = 72 + r.val; omega) n, cell_of x0 1 _ (48 + (24 + r.val)) (by show _ = 72 + r.val; omega) n,
    cell_of x0 2 _ (48 + (24 + r.val)) (by show _ = 72 + r.val; omega) n, cell_of x0 3 _ (48 + (24 + r.val)) (by show _ = 72 + r.val; omega) n]
theorem ref5 (r : Fin 376) (n : Fin 1024) : val_main_v5 (F := Ideal) x0 (ix2 r n) = gsum x0 r n := by
  unfold gsum val_main_v5
  by_cases h : r.val < 24
  · rw [if_pos h]
    refine Eq.trans ?_ (r2 x0 ⟨r.val, h⟩ n)
    exact concatenate_pair_apply_left (t := S376x1024) (s₁ := S24x1024) (s₂ := S352x1024) 0 _ _ _ (ix2 r n) rfl (ix2 (⟨r.val, h⟩ : Fin 24) n) (by intro b; fin_cases b <;> rfl)
  · rw [if_neg h]
    have hr := r.isLt
    refine Eq.trans ?_ ((r4 x0 ⟨r.val - 24, by omega⟩ n).trans (congrArg (fun q => four x0 q n) (by show 24 + (r.val - 24) = r.val; omega)))
    refine concatenate_pair_apply_right (t := S376x1024) (s₁ := S24x1024) (s₂ := S352x1024) 0 _ _ _ (ix2 r n) rfl rfl (ix2 (⟨r.val - 24, by omega⟩ : Fin 352) n) (fun b hb => ?_) (by show r.val - 24 + 24 = r.val; omega)
    fin_cases b
    · exact absurd rfl hb
    · rfl
theorem ref10 (r : Fin 376) (n : Fin 1024) : val_main_v10 (F := Ideal) x0 x2 (ix2 r n) = momA x0 x2 r n := by
  unfold momA
  rw [← ref5]
  unfold val_main_v10 val_main_v9
  generalize val_main_v5 (F := Ideal) x0 = G
  pointwise [val_main_v8, val_main_v7, val_main_v6, val_main_cst_1, val_main_cst_2]
  rfl
theorem ref16 (r : Fin 376) (n : Fin 1024) : val_main_v16 (F := Ideal) x0 x3 (ix2 r n) = secA x0 x3 r n := by
  unfold secA
  rw [← ref5]
  unfold val_main_v16 val_main_v15 val_main_v13
  generalize val_main_v5 (F := Ideal) x0 = G
  pointwise [val_main_v14, val_main_v12, val_main_v11, val_main_cst_3, val_main_cst_4]
  rfl
theorem ref29 (r : Fin 376) (n : Fin 1024) : val_main_v29 (F := Ideal) x0 x1 x2 x3 (ix2 r n) = stepA x0 x1 x2 x3 r n := by
  unfold stepA
  rw [← ref10, ← ref16]
  unfold val_main_v29 val_main_v27 val_main_v24 val_main_v23 val_main_v21 val_main_v20 val_main_v18
  generalize val_main_v10 (F := Ideal) x0 x2 = P
  generalize val_main_v16 (F := Ideal) x0 x3 = Q
  pointwise [val_main_v28, val_main_v26, val_main_v25, val_main_v22, val_main_v19, val_main_v17, val_main_cst_5, val_main_cst_6, val_main_cst_7, val_main_cst_8, val_main_cst_9]
  rfl
end Ref

section Values
open Cert.SmallKernelIdeal
variable (m : (ℓ : Loc nD τ sig) → Buf (Elt Ideal) ℓ)

theorem values (c : Dev nD)
    {y0 : Buf (Elt Ideal) ((c.tc : Thread Cert.SmallReferenceIdeal.nD Cert.SmallReferenceIdeal.τ).loc Cert.SmallReferenceIdeal.main_arg0)}
    {y1 : Buf (Elt Ideal) ((c.tc : Thread Cert.SmallReferenceIdeal.nD Cert.SmallReferenceIdeal.τ).loc Cert.SmallReferenceIdeal.main_arg1)}
    {y2 : Buf (Elt Ideal) ((c.tc : Thread Cert.SmallReferenceIdeal.nD Cert.SmallReferenceIdeal.τ).loc Cert.SmallReferenceIdeal.main_arg2)}
    {y3 : Buf (Elt Ideal) ((c.tc : Thread Cert.SmallReferenceIdeal.nD Cert.SmallReferenceIdeal.τ).loc Cert.SmallReferenceIdeal.main_arg3)}
    (he : y0 = (m ((c.tc : Thread nD τ).loc main_arg0))
      ∧ y1 = (m ((c.tc : Thread nD τ).loc main_arg1))
      ∧ y2 = (m ((c.tc : Thread nD τ).loc main_arg2))
      ∧ y3 = (m ((c.tc : Thread nD τ).loc main_arg3))) :
    Cert.SmallReferenceIdeal.Read.val_main_v5 (F := Ideal) y0 = (Gen.dats m 0 c).arrAt 4 cfg0.N
    ∧ Cert.SmallReferenceIdeal.Read.val_main_v29 (F := Ideal) y0 y1 y2 y3 = (Gen.dats m 0 c).arrAt 5 cfg0.N
    ∧ Cert.SmallReferenceIdeal.Read.val_main_v10 (F := Ideal) y0 y2 = (Gen.dats m 0 c).arrAt 6 cfg0.N
    ∧ Cert.SmallReferenceIdeal.Read.val_main_v16 (F := Ideal) y0 y3 = (Gen.dats m 0 c).arrAt 7 cfg0.N := by
  rw [he.1, he.2.1, he.2.2.1, he.2.2.2]
  refine ⟨?_, ?_, ?_, ?_⟩
  · refine Eq.trans ?_ (final4 m c).symm
    funext i
    exact (congrArg _ (by funext k; fin_cases k <;> rfl : i = ix2 (i 0) (i 1))).trans (ref5 _ (i 0) (i 1))
  · refine Eq.trans ?_ (final5 m c).symm
    funext i
    exact (congrArg _ (by funext k; fin_cases k <;> rfl : i = ix2 (i 0) (i 1))).trans (ref29 _ _ _ _ (i 0) (i 1))
  · refine Eq.trans ?_ (final6 m c).symm
    funext i
    exact (congrArg _ (by funext k; fin_cases k <;> rfl : i = ix2 (i 0) (i 1))).trans (ref10 _ _ (i 0) (i 1))
  · refine Eq.trans ?_ (final7 m c).symm
    funext i
    exact (congrArg _ (by funext k; fin_cases k <;> rfl : i = ix2 (i 0) (i 1))).trans (ref16 _ _ (i 0) (i 1))
end Values

theorem algebraic : Cert.algebraic_SmallKernelIdeal_SmallReferenceIdeal := by
  intro m g m' g' _ hagree
  refine ⟨fun c => (Cert.SmallKernelIdeal.Gen.dats m 0 c).arrAt 4 Cert.SmallKernelIdeal.cfg0.N,
    fun c => (Cert.SmallKernelIdeal.Gen.dats m 0 c).arrAt 5 Cert.SmallKernelIdeal.cfg0.N,
    fun c => (Cert.SmallKernelIdeal.Gen.dats m 0 c).arrAt 6 Cert.SmallKernelIdeal.cfg0.N,
    fun c => (Cert.SmallKernelIdeal.Gen.dats m 0 c).arrAt 7 Cert.SmallKernelIdeal.cfg0.N,
    Cert.SmallKernelIdeal.Value.run_blocks m g, (θ_run _ _ _).mono (fun r h c => ?_) (Cert.SmallReferenceIdeal.Value.run m' g')⟩
  obtain ⟨r0, r1, r2, r3, rest⟩ := h c
  have key := values m c (hagree c)
  exact ⟨(r0.trans (Cert.SmallReferenceIdeal.Read.val_main_v5_eq _)).trans key.1, (r1.trans (Cert.SmallReferenceIdeal.Read.val_main_v29_eq _ _ _ _)).trans key.2.1, (r2.trans (Cert.SmallReferenceIdeal.Read.val_main_v10_eq _ _)).trans key.2.2.1, (r3.trans (Cert.SmallReferenceIdeal.Read.val_main_v16_eq _ _)).trans key.2.2.2, rest⟩

end Cert.Small

end
-- ==== Proof.SpBlock.lean ====
/- The gradient of the spatial gating, a block of 128 rows at a time: what one point of the kernel adds. -/
module

public import proofs.«01_k».proof.Defs
public import proofs.«01_k».proof.Proof.MixSpec
public import proofs.«01_k».proof.Proof.Gen.SpatialKernelIdeal.Skeleton
public import Idealize.ShloMosaic.Lib.Pointwise
public import Idealize.ShloMosaic.Lib.Pipeline.ValueKit

@[expose] public section

set_option maxRecDepth 16384
noncomputable section

namespace Cert.Spatial

open Idealize.ShloMosaic Cert.Lift
open Cert.Mix (sel_ge sel_eq all4)

/-! ## The functions -/

def k512 : EReal := Ideal.ofBits .f32 0x44000000#32
/-- The approximation of `gelu` by a hyperbolic tangent. -/
def gel (x : EReal) : EReal := Ideal.ofBits .f32 0x3F000000#32 * x
  * (1 + Ideal.tanh (Ideal.ofBits .f32 0x3F4C422A#32 * (x + Ideal.ofBits .f32 0x3D372713#32 * x * x * x)))
/-- A row less its mean, and the row normalized. -/
def cen (g : Fin 512 → EReal) (k : Fin 512) : EReal := g k - Ideal.div (∑ x, g x) k512
def hat (g : Fin 512 → EReal) (k : Fin 512) : EReal :=
  cen g k * Ideal.rsqrt (Ideal.div (∑ x, cen g x * cen g x) k512 + Ideal.ofBits .f32 0x3727C5AC#32)

/-- Column `d` of head `h`, and the head of a column. -/
def hc (h : Fin 4) (d : Fin 128) : Fin 512 := ⟨h.val * 128 + d.val, by have := h.isLt; have := d.isLt; omega⟩
def hd (k : Fin 512) : Fin 4 := ⟨k.val / 128, by have := k.isLt; omega⟩
def lo (k : Fin 512) : Fin 128 := ⟨k.val % 128, by omega⟩
theorem hd_hc (h : Fin 4) (d : Fin 128) : hd (hc h d) = h := by
  apply Fin.ext; show (h.val * 128 + d.val) / 128 = h.val; have := d.isLt; omega
theorem hc_lo (k : Fin 512) : hc (hd k) (lo k) = k := by
  apply Fin.ext; show k.val / 128 * 128 + k.val % 128 = k.val; omega

/-! The input's columns of the two halves, and the cotangent's. -/
def cU (k : Fin 512) : Fin 3200 := ⟨k.val, by have := k.isLt; omega⟩
def cV (k : Fin 512) : Fin 3200 := ⟨512 + k.val, by have := k.isLt; omega⟩
def cY (k : Fin 512) : Fin 1024 := ⟨k.val, by have := k.isLt; omega⟩

section Rows
variable (U V Y : Fin 128 → Fin 512 → EReal) (W : Fin 4 → Fin 128 → Fin 128 → EReal) (lg lb : Fin 512 → EReal)
def dmx (i : Fin 128) (k : Fin 512) : EReal := Y i k * gel (U i k)
def vht (j : Fin 128) (k : Fin 512) : EReal := hat (fun x => gel (V j x)) k
def vnm (j : Fin 128) (k : Fin 512) : EReal := vht V j k * lg k + lb k
def wtr (h : Fin 4) (i j : Fin 128) : EReal := if j ≤ i then W h i j else 0
def dvn (j : Fin 128) (k : Fin 512) : EReal := ∑ i, wtr W (hd k) i j * dmx U Y i k
/-- The block's parts of the gradients of the mixing matrices, their biases, and the normalization's two rows. -/
def partW (h : Fin 4) (i j : Fin 128) : EReal :=
  if j ≤ i then ∑ d, dmx U Y i (hc h d) * vnm V lg lb j (hc h d) else 0
def partB (h : Fin 4) (i : Fin 128) : EReal := ∑ d, dmx U Y i (hc h d)
def partG (k : Fin 512) : EReal := ∑ j, dvn U Y W j k * vht V j k
def partL (k : Fin 512) : EReal := ∑ j, dvn U Y W j k
end Rows

/-! ## The kernel's values -/

open Cert.SpatialKernelIdeal Cert.SpatialKernelIdeal.Gen

variable (U V Y : Fin 128 → Fin 512 → EReal) (W : Fin 4 → Fin 128 → Fin 128 → EReal) (lg lb : Fin 512 → EReal)
variable (u v : Vec Ideal S128x512 .f32) (r0 r1 : Vec Ideal S1x1x512 .f32)
  (w : Fin 4 → Vec Ideal S1x1x128x128 .f32) (y : Fin 4 → Vec Ideal S128x128 .bf16)
variable (hu : ∀ i k, u (ix2 i k) = U i k) (hv : ∀ i k, v (ix2 i k) = V i k)
  (h0 : ∀ k, r0 (ix3 0 0 k) = lg k) (h1 : ∀ k, r1 (ix3 0 0 k) = lb k)
  (hw : ∀ h i j, w h (ix4 0 0 i j) = W h i j) (hy : ∀ h i d, y h (ix2 i d) = Y i (hc h d))

abbrev c512 : Ideal .f32 := Scalar.ofBits .f32 0x44000000#32
def gU := k0_pay13 (F := Ideal) u
def vH := k0_pay18 (F := Ideal) (k0_pay14 v) (k0_pay15 v) c512
def vN := k0_pay19 (F := Ideal) (k0_pay14 v) (k0_pay15 v) c512 r0 r1
def wT : Fin 4 → FVec Ideal S128x128 .f32 := ![k0_pay21 k0_pay12 (w 0), k0_pay25 k0_pay12 (w 1),
  k0_pay27 k0_pay12 (w 2), k0_pay30 k0_pay12 (k0_pay29 (w 3))]
def dM : Fin 4 → FVec Ideal S128x128 .f32 := ![k0_pay34 (gU u) (y 0), k0_pay41 (gU u) (y 1),
  k0_pay48 (k0_pay46 (y 2)) (k0_pay47 (gU u)), k0_pay54 (gU u) (y 3)]
def dV : Fin 4 → FVec Ideal S128x128 .f32 := ![k0_pay39 (wT w 0) (dM u y 0), k0_pay45 (gU u) (wT w 1) (y 1),
  k0_pay52 (wT w 2) (k0_pay46 (y 2)) (k0_pay47 (gU u)), k0_pay39 (wT w 3) (dM u y 3)]
def sW (p : Fin 4 → Vec Ideal S1x128x128 .f32) : Fin 4 → FVec Ideal S1x128x128 .f32 :=
  ![k0_pay36 k0_pay10 (gU u) (vN v r0 r1) (y 0) (p 0), k0_pay43 k0_pay10 (gU u) (vN v r0 r1) (y 1) (p 1),
    k0_pay50 k0_pay10 (vN v r0 r1) (k0_pay46 (y 2)) (k0_pay47 (gU u)) (p 2),
    k0_pay59 k0_pay10 (k0_pay56 (p 3)) (k0_pay57 (gU u) (vN v r0 r1) (y 3)) k0_pay58]
def sB (p : Vec Ideal S128x128 .f32) := k0_pay60 (F := Ideal) (k0_pay51 (k0_pay44 (gU u) k0_pay32 k0_pay37
  (k0_pay38 (gU u) (y 0)) (y 1)) (k0_pay46 (y 2)) (k0_pay47 (gU u))) (k0_pay54 (gU u) (y 3)) p
def sV := k0_pay61 (F := Ideal) (wT w 3) (dV u w y 0) (dV u w y 1) (dV u w y 2) (dM u y 3)
def sG (p : Vec Ideal S1x512 .f32) := k0_pay63 (F := Ideal) (vH v) (wT w 3) (dV u w y 0) (dV u w y 1) (dV u w y 2) (dM u y 3) p
def sL (p : Vec Ideal S1x512 .f32) := k0_pay64 (F := Ideal) (wT w 3) (dV u w y 0) (dV u w y 1) (dV u w y 2) (dM u y 3) p

include hu in
theorem gU_eq (i : Fin 128) (k : Fin 512) : gU u (ix2 i k) = gel (U i k) := by
  unfold gU
  pointwise [k0_pay13]
  rw [hu]; rfl

include hv in
theorem gV_eq (i : Fin 128) (k : Fin 512) : k0_pay14 (F := Ideal) v (ix2 i k) = gel (V i k) := by
  pointwise [k0_pay14]
  rw [hv]; rfl

include hv in
theorem vH_eq (j : Fin 128) (k : Fin 512) : vH v (ix2 j k) = vht V j k := by
  unfold vH
  pointwise [k0_pay18, k0_pay17, k0_pay16, k0_pay15]
  simp only [gV_eq V v hv]
  rfl

include hv h0 h1 in
theorem vN_eq (j : Fin 128) (k : Fin 512) : vN v r0 r1 (ix2 j k) = vnm V lg lb j k := by
  unfold vN
  pointwise [k0_pay19, k0_pay18, k0_pay17, k0_pay16, k0_pay15]
  simp only [gV_eq V v hv, h0, h1]
  rfl

include hw in
theorem wT_eq (h : Fin 4) (i j : Fin 128) : wT w h (ix2 i j) = wtr W h i j := by
  revert h
  refine all4 ?_ ?_ ?_ ?_
  · show k0_pay21 k0_pay12 (w 0) (ix2 i j) = _
    pointwise [k0_pay21, k0_pay12]
    rw [sel_ge, hw]; rfl
  · show k0_pay25 k0_pay12 (w 1) (ix2 i j) = _
    pointwise [k0_pay25, k0_pay12]
    rw [sel_ge, hw]; rfl
  · show k0_pay27 k0_pay12 (w 2) (ix2 i j) = _
    pointwise [k0_pay27, k0_pay12]
    rw [sel_ge, hw]; rfl
  · show k0_pay30 k0_pay12 (k0_pay29 (w 3)) (ix2 i j) = _
    pointwise [k0_pay30, k0_pay29, k0_pay12]
    rw [sel_ge, hw]; rfl

include hu hy in
theorem dM_eq (h : Fin 4) (i d : Fin 128) : dM u y h (ix2 i d) = dmx U Y i (hc h d) := by
  revert h
  refine all4 ?_ ?_ ?_ ?_
  · show k0_pay34 (gU u) (y 0) (ix2 i d) = _
    pointwise [k0_pay34, k0_pay33]
    rw [hy, gU_eq U u hu]; congr 2; congr 1; apply Fin.ext; show _ = 0 * 128 + _; simp
  · show k0_pay41 (gU u) (y 1) (ix2 i d) = _
    pointwise [k0_pay41, k0_pay40]
    rw [hy, gU_eq U u hu]; congr 2
  · show k0_pay48 (k0_pay46 (y 2)) (k0_pay47 (gU u)) (ix2 i d) = _
    pointwise [k0_pay48, k0_pay46, k0_pay47]
    rw [hy, gU_eq U u hu]; congr 2
  · show k0_pay54 (gU u) (y 3) (ix2 i d) = _
    pointwise [k0_pay54, k0_pay53]
    rw [hy, gU_eq U u hu]; congr 2

section Store
variable (i j : Fin 128)

include hu hv h0 h1 hy in
theorem sW_eq (p : Fin 4 → Vec Ideal S1x128x128 .f32) (h : Fin 4) :
    sW u v r0 r1 y p h (ix3 0 i j) = p h (ix3 0 i j) + partW U V Y lg lb h i j := by
  have e := dM_eq U Y u y hu hy
  have n := vN_eq V lg lb v r0 r1 hv h0 h1
  revert h
  refine all4 ?_ ?_ ?_ ?_
  · show k0_pay36 k0_pay10 (gU u) (vN v r0 r1) (y 0) (p 0) (ix3 0 i j) = _
    have e : ∀ i d, k0_pay34 (gU u) (y 0) (ix2 i d) = _ := fun i d => e 0 i d
    pointwise [k0_pay36, k0_pay10]
    simp only [e, sel_ge, n]; rfl
  · show k0_pay43 k0_pay10 (gU u) (vN v r0 r1) (y 1) (p 1) (ix3 0 i j) = _
    have e : ∀ i d, k0_pay41 (gU u) (y 1) (ix2 i d) = _ := fun i d => e 1 i d
    pointwise [k0_pay43, k0_pay10]
    simp only [e, sel_ge, n]; rfl
  · show k0_pay50 k0_pay10 (vN v r0 r1) (k0_pay46 (y 2)) (k0_pay47 (gU u)) (p 2) (ix3 0 i j) = _
    have e : ∀ i d, k0_pay48 (k0_pay46 (y 2)) (k0_pay47 (gU u)) (ix2 i d) = _ := fun i d => e 2 i d
    pointwise [k0_pay50, k0_pay10]
    simp only [e, sel_ge, n]; rfl
  · show k0_pay59 k0_pay10 (k0_pay56 (p 3)) (k0_pay57 (gU u) (vN v r0 r1) (y 3)) k0_pay58 (ix3 0 i j) = _
    have e : ∀ i d, k0_pay54 (gU u) (y 3) (ix2 i d) = _ := fun i d => e 3 i d
    pointwise [k0_pay59, k0_pay57, k0_pay58, k0_pay56, k0_pay10]
    simp only [e, sel_ge, n]; rfl

include hu hy in
theorem sB_eq (p : Vec Ideal S128x128 .f32) :
    sB u y p (ix2 i j) = p (ix2 i j) + if hj : j.val < 4 then partB U Y ⟨j.val, hj⟩ i else 0 := by
  have e := dM_eq U Y u y hu hy
  have e0 : ∀ i d, k0_pay34 (gU u) (y 0) (ix2 i d) = _ := fun i d => e 0 i d
  have e1 : ∀ i d, k0_pay41 (gU u) (y 1) (ix2 i d) = _ := fun i d => e 1 i d
  have e2 : ∀ i d, k0_pay48 (k0_pay46 (y 2)) (k0_pay47 (gU u)) (ix2 i d) = _ := fun i d => e 2 i d
  have e3 : ∀ i d, k0_pay54 (gU u) (y 3) (ix2 i d) = _ := fun i d => e 3 i d
  unfold sB
  pointwise [k0_pay60, k0_pay51, k0_pay44, k0_pay38, k0_pay37, k0_pay32, k0_pay31]
  simp only [e0, e1, e2, e3]
  have s0 : ∀ x y : EReal, Scalar.select (IntOp.cmpi .eq (BitVec.ofNat 32 j) 0#32) x y = _ := fun x y => sel_eq j 0 x y
  have s1 : ∀ x y : EReal, Scalar.select (IntOp.cmpi .eq (BitVec.ofNat 32 j) 1#32) x y = _ := fun x y => sel_eq j 1 x y
  have s2 : ∀ x y : EReal, Scalar.select (IntOp.cmpi .eq (BitVec.ofNat 32 j) 2#32) x y = _ := fun x y => sel_eq j 2 x y
  have s3 : ∀ x y : EReal, Scalar.select (IntOp.cmpi .eq (BitVec.ofNat 32 j) 3#32) x y = _ := fun x y => sel_eq j 3 x y
  rw [s0, s1, s2, s3]
  by_cases hj : j.val < 4
  · rw [dif_pos hj]
    obtain rfl | rfl | rfl | rfl : j = 0 ∨ j = 1 ∨ j = 2 ∨ j = 3 := by
      have : j.val = 0 ∨ j.val = 1 ∨ j.val = 2 ∨ j.val = 3 := by omega
      rcases this with h | h | h | h
      · exact Or.inl (Fin.ext h)
      · exact Or.inr (Or.inl (Fin.ext h))
      · exact Or.inr (Or.inr (Or.inl (Fin.ext h)))
      · exact Or.inr (Or.inr (Or.inr (Fin.ext h)))
    · simp; rfl
    · simp; rfl
    · simp; rfl
    · simp; rfl
  · rw [dif_neg hj, if_neg (fun h => hj (by rw [h]; decide)), if_neg (fun h => hj (by rw [h]; decide)),
      if_neg (fun h => hj (by rw [h]; decide)), if_neg (fun h => hj (by rw [h]; decide)), add_zero, add_zero, add_zero]

include hu hw hy in
theorem dV_eq (h : Fin 4) (d : Fin 128) : dV u w y h (ix2 j d) = dvn U Y W j (hc h d) := by
  have e := dM_eq U Y u y hu hy
  have q := wT_eq W w hw
  unfold dvn; rw [hd_hc]
  revert h
  refine all4 ?_ ?_ ?_ ?_
  · show k0_pay39 (wT w 0) (dM u y 0) (ix2 j d) = _
    pointwise [k0_pay39]
    simp only [e, q]
  · show k0_pay45 (gU u) (wT w 1) (y 1) (ix2 j d) = _
    have e : ∀ i d, k0_pay41 (gU u) (y 1) (ix2 i d) = _ := fun i d => e 1 i d
    pointwise [k0_pay45]
    simp only [e, q]
  · show k0_pay52 (wT w 2) (k0_pay46 (y 2)) (k0_pay47 (gU u)) (ix2 j d) = _
    have e : ∀ i d, k0_pay48 (k0_pay46 (y 2)) (k0_pay47 (gU u)) (ix2 i d) = _ := fun i d => e 2 i d
    pointwise [k0_pay52]
    simp only [e, q]
  · show k0_pay39 (wT w 3) (dM u y 3) (ix2 j d) = _
    pointwise [k0_pay39]
    simp only [e, q]

include hu hw hy in
theorem sV_eq (k : Fin 512) : sV u w y (ix2 j k) = dvn U Y W j k := by
  have q := dV_eq U Y W u w y hu hw hy
  unfold sV
  have hk := k.isLt
  pointwise [k0_pay61]
  by_cases g0 : k.val < 128
  · refine (dif_pos g0).trans ?_
    rw [q]; congr 1; apply Fin.ext; show 0 * 128 + _ = _; simp
  refine (dif_neg g0).trans ?_
  by_cases g1 : k.val - 128 < 128
  · refine (dif_pos g1).trans ?_
    rw [q]; congr 1; apply Fin.ext; show 1 * 128 + (k.val - 128) = _; omega
  refine (dif_neg g1).trans ?_
  by_cases g2 : k.val - 128 - 128 < 128
  · refine (dif_pos g2).trans ?_
    rw [q]; congr 1; apply Fin.ext; show 2 * 128 + (k.val - 128 - 128) = _; omega
  refine (dif_neg g2).trans ?_
  have g3 : k.val - 128 - 128 - 128 < 128 := by omega
  have z := q j 3 ⟨k.val - 128 - 128 - 128, g3⟩
  have z' : dV u w y 3 (ix2 j ⟨k.val - 128 - 128 - 128, g3⟩)
      = k0_pay39 (wT w 3) (dM u y 3) (ix2 j ⟨k.val - 128 - 128 - 128, g3⟩) := rfl
  rw [z'] at z
  pointwise [k0_pay39] at z
  refine z.trans ?_
  congr 1; apply Fin.ext; show 3 * 128 + (k.val - 128 - 128 - 128) = _; omega

include hu hv hw hy in
theorem sG_eq (p : Vec Ideal S1x512 .f32) (k : Fin 512) :
    sG u v w y p (ix2 0 k) = p (ix2 0 k) + partG U V Y W k := by
  have q : ∀ j k, k0_pay61 (wT w 3) (dV u w y 0) (dV u w y 1) (dV u w y 2) (dM u y 3) (ix2 j k) = _ := fun j k => sV_eq U Y W u w y hu hw hy j k
  have a := vH_eq V v hv
  unfold sG
  pointwise [k0_pay63]
  simp only [q, a]; rfl

include hu hw hy in
theorem sL_eq (p : Vec Ideal S1x512 .f32) (k : Fin 512) :
    sL u w y p (ix2 0 k) = p (ix2 0 k) + partL U Y W k := by
  have q : ∀ j k, k0_pay61 (wT w 3) (dV u w y 0) (dV u w y 1) (dV u w y 2) (dM u y 3) (ix2 j k) = _ := fun j k => sV_eq U Y W u w y hu hw hy j k
  unfold sL
  pointwise [k0_pay64]
  simp only [q]; rfl
end Store

end Cert.Spatial
-- ==== Proof.SpRun.lean ====
/- The points of the spatial gating's gradient: what each adds to the sums it carries. -/
module

public import proofs.«01_k».proof.Defs
public import proofs.«01_k».proof.Proof.MixRows
public import proofs.«01_k».proof.Proof.Pieces
public import proofs.«01_k».proof.Proof.SpBlock
public import proofs.«01_k».proof.Proof.Gen.SpatialKernelIdeal.Skeleton
public import proofs.«01_k».proof.Proof.Gen.SpatialKernelIdeal.Frame
public import Idealize.ShloMosaic.Lib.Pointwise
public import Idealize.ShloMosaic.Lib.Pipeline.Value
public import Idealize.ShloMosaic.Lib.Pipeline.ValueKit

@[expose] public section

set_option maxRecDepth 16384
noncomputable section

namespace Cert.Spatial

open Idealize.ShloMosaic Cert.Lift
open Cert.Mix (rc_at all4)
open Cert.Pieces (canon_hit canon_miss)
open Cert.SpatialKernelIdeal Cert.SpatialKernelIdeal.Gen

variable (m : (ℓ : Loc nD τ sig) → Buf (Elt Ideal) ℓ) (c : Dev nD) (t : Fin cfg0.N)

/-! The loads of a block. -/

theorem ldW (B : FVec Ideal S1x4x128x128 .f32) (h : Fin 4) (inb) (i j : Fin 128) :
    View.ld (Val := Elt Ideal) (e' := .f32) B (Rect.unit ![0, h.val, 0, 0] ![1, 1, 128, 128] inb)
      (ix4 (0 : Fin 1) (0 : Fin 1) i j : S1x1x128x128.Idx) = B (ix4 0 h i j) :=
  View.ld_unit_apply_of _ _ _ _ _ _ (by intro a; fin_cases a <;> simp [ix4])
theorem ldY (B : FVec Ideal S128x1024 .bf16) (h : Fin 4) (inb) (i d : Fin 128) :
    View.ld (Val := Elt Ideal) (e' := .bf16) B (Rect.unit ![0, 128 * h.val] ![128, 128] inb)
      (ix2 i d : S128x128.Idx) = B (ix2 i (cY (hc h d))) :=
  View.ld_unit_apply_of _ _ _ _ _ _ (by intro a; fin_cases a <;> simp [ix2, hc, cY]; omega)

abbrev uL : Vec Ideal S128x512 .f32 := View.ld (Val := Elt Ideal) (e' := .f32) (iblk m c 0 t) (Rect.unit ![0, 0] ![128, 512] inb_S128x3200_S128x512_0_0)
abbrev vL : Vec Ideal S128x512 .f32 := View.ld (Val := Elt Ideal) (e' := .f32) (iblk m c 0 t) (Rect.unit ![0, 512] ![128, 512] inb_S128x3200_S128x512_0_512)
abbrev r0L : Vec Ideal S1x1x512 .f32 := View.ld (Val := Elt Ideal) (e' := .f32) (iblk m c 8 t) (Rect.unit ![0, 0, 0] ![1, 1, 512] inb_S1x8x512_S1x1x512_0_0_0)
abbrev r1L : Vec Ideal S1x1x512 .f32 := View.ld (Val := Elt Ideal) (e' := .f32) (iblk m c 8 t) (Rect.unit ![0, 1, 0] ![1, 1, 512] inb_S1x8x512_S1x1x512_0_1_0)
def wB (B : FVec Ideal S1x4x128x128 .f32) : Fin 4 → Vec Ideal S1x1x128x128 .f32 :=
  ![View.ld (Val := Elt Ideal) (e' := .f32) B (Rect.unit ![0, 0, 0, 0] ![1, 1, 128, 128] inb_S1x4x128x128_S1x1x128x128_0_0_0_0), View.ld (Val := Elt Ideal) (e' := .f32) B (Rect.unit ![0, 1, 0, 0] ![1, 1, 128, 128] inb_S1x4x128x128_S1x1x128x128_0_1_0_0), View.ld (Val := Elt Ideal) (e' := .f32) B (Rect.unit ![0, 2, 0, 0] ![1, 1, 128, 128] inb_S1x4x128x128_S1x1x128x128_0_2_0_0), View.ld (Val := Elt Ideal) (e' := .f32) B (Rect.unit ![0, 3, 0, 0] ![1, 1, 128, 128] inb_S1x4x128x128_S1x1x128x128_0_3_0_0)]
def yB (B : FVec Ideal S128x1024 .bf16) : Fin 4 → Vec Ideal S128x128 .bf16 :=
  ![View.ld (Val := Elt Ideal) (e' := .bf16) B (Rect.unit ![0, 0] ![128, 128] inb_S128x1024_S128x128_0_0), View.ld (Val := Elt Ideal) (e' := .bf16) B (Rect.unit ![0, 128] ![128, 128] inb_S128x1024_S128x128_0_128), View.ld (Val := Elt Ideal) (e' := .bf16) B (Rect.unit ![0, 256] ![128, 128] inb_S128x1024_S128x128_0_256), View.ld (Val := Elt Ideal) (e' := .bf16) B (Rect.unit ![0, 384] ![128, 128] inb_S128x1024_S128x128_0_384)]
theorem wB_eq (B : FVec Ideal S1x4x128x128 .f32) (h : Fin 4) (i j : Fin 128) : wB B h (ix4 0 0 i j) = B (ix4 0 h i j) := by
  revert h
  exact all4 (ldW B 0 _ i j) (ldW B 1 _ i j) (ldW B 2 _ i j) (ldW B 3 _ i j)
theorem yB_eq (B : FVec Ideal S128x1024 .bf16) (h : Fin 4) (i d : Fin 128) :
    yB B h (ix2 i d) = B (ix2 i (cY (hc h d))) := by
  revert h
  exact all4 (ldY B 0 _ i d) (ldY B 1 _ i d) (ldY B 2 _ i d) (ldY B 3 _ i d)
abbrev wL : Fin 4 → Vec Ideal S1x1x128x128 .f32 := wB (iblk m c 9 t)
abbrev yL : Fin 4 → Vec Ideal S128x128 .bf16 := yB (iblk m c 1 t)

variable (U V Y : Fin 128 → Fin 512 → EReal) (W : Fin 4 → Fin 128 → Fin 128 → EReal) (lg lb : Fin 512 → EReal)
variable (hU : ∀ (i : Fin 128) (k : Fin 512), (iblk m c 0 t : FVec Ideal S128x3200 .f32) (ix2 i (cU k)) = U i k)
variable (hV : ∀ (i : Fin 128) (k : Fin 512), (iblk m c 0 t : FVec Ideal S128x3200 .f32) (ix2 i (cV k)) = V i k)
variable (hY : ∀ (i : Fin 128) (k : Fin 512), (iblk m c 1 t : FVec Ideal S128x1024 .bf16) (ix2 i (cY k)) = Y i k)
variable (hG : ∀ k : Fin 512, (iblk m c 8 t : FVec Ideal S1x8x512 .f32) (ix3 0 0 k) = lg k)
variable (hL : ∀ k : Fin 512, (iblk m c 8 t : FVec Ideal S1x8x512 .f32) (ix3 0 1 k) = lb k)
variable (hW : ∀ h i j, (iblk m c 9 t : FVec Ideal S1x4x128x128 .f32) (ix4 0 h i j) = W h i j)

include hU in
theorem uL_eq (i : Fin 128) (k : Fin 512) : uL m c t (ix2 i k) = U i k :=
  (View.ld_unit_apply_of _ _ _ _ _ _ (by intro a; fin_cases a <;> simp [ix2, cU])).trans (hU i k)
include hV in
theorem vL_eq (i : Fin 128) (k : Fin 512) : vL m c t (ix2 i k) = V i k :=
  (View.ld_unit_apply_of _ _ _ _ _ _ (by intro a; fin_cases a <;> simp [ix2, cV])).trans (hV i k)
include hG in
theorem r0L_eq (k : Fin 512) : r0L m c t (ix3 0 0 k) = lg k :=
  (View.ld_unit_apply_of _ _ _ _ _ _ (by intro a; fin_cases a <;> simp [ix3])).trans (hG k)
include hL in
theorem r1L_eq (k : Fin 512) : r1L m c t (ix3 0 0 k) = lb k :=
  (View.ld_unit_apply_of _ _ _ _ _ _ (by intro a; fin_cases a <;> simp [ix3])).trans (hL k)
include hW in
theorem wL_eq (h : Fin 4) (i j : Fin 128) : wL m c t h (ix4 0 0 i j) = W h i j := (wB_eq _ h i j).trans (hW h i j)
include hY in
theorem yL_eq (h : Fin 4) (i d : Fin 128) : yL m c t h (ix2 i d) = Y i (hc h d) := (yB_eq _ h i d).trans (hY i (hc h d))

theorem z5 (r : Fin 8) (k : Fin 512) : k0_pay5 (F := Ideal) (ix2 r k) = 0 := by pointwise [k0_pay5]
theorem z6 (h : Fin 4) (i j : Fin 128) : k0_pay6 (F := Ideal) (ix3 h i j) = 0 := by pointwise [k0_pay6]
theorem z7 (i j : Fin 128) : k0_pay7 (F := Ideal) (ix2 i j) = 0 := by pointwise [k0_pay7]

set_option maxHeartbeats 1000000 in
include hU hV hY hG hL in
theorem ptW_A (h0 : t.val % 32 = 0) (h : Fin 4) (i j : Fin 128) :
    (outsAt0 m c t.val t.isLt).2.2.1 (ix3 h i j) = partW U V Y lg lb h i j := by
  rw [outsAt0_A m c t h0]
  frame_out
  revert h
  refine all4 ?_ ?_ ?_ ?_
  · refine (canon_miss _ _ _ _ 0 (by simp [ix3])).trans ?_
    refine (canon_miss _ _ _ _ 0 (by simp [ix3])).trans ?_
    refine (canon_miss _ _ _ _ 0 (by simp [ix3])).trans ?_
    refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 0
    simp only [sW, sB, sG, sL, dV, dM, wT, gU, vH, vN, wB, yB, Matrix.cons_val_zero, Matrix.cons_val_one, Matrix.cons_val] at k
    refine (k _).trans ((congrArg (· + _) ?_).trans (zero_add _))
    refine (rc_at _ _ ![0, 0, 0] ![1, 128, 128] _ (ix3 0 i j : S1x128x128.Idx) (ix3 (0 : Fin 4) i j) (by intro a; fin_cases a <;> simp [ix3])).trans ?_
    exact (canon_hit _ _ _ _ (ix3 (0 : Fin 4) i j) (by intro a; fin_cases a <;> simp [ix3])).trans (z6 (0 : Fin 4) i j)
  · refine (canon_miss _ _ _ _ 0 (by simp [ix3])).trans ?_
    refine (canon_miss _ _ _ _ 0 (by simp [ix3])).trans ?_
    refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 1
    simp only [sW, sB, sG, sL, dV, dM, wT, gU, vH, vN, wB, yB, Matrix.cons_val_zero, Matrix.cons_val_one, Matrix.cons_val] at k
    refine (k _).trans ((congrArg (· + _) ?_).trans (zero_add _))
    refine (rc_at _ _ ![1, 0, 0] ![1, 128, 128] _ (ix3 0 i j : S1x128x128.Idx) (ix3 (1 : Fin 4) i j) (by intro a; fin_cases a <;> simp [ix3])).trans ?_
    refine (canon_miss _ _ _ _ 0 (by simp [ix3])).trans ?_
    exact (canon_hit _ _ _ _ (ix3 (1 : Fin 4) i j) (by intro a; fin_cases a <;> simp [ix3])).trans (z6 (1 : Fin 4) i j)
  · refine (canon_miss _ _ _ _ 0 (by simp [ix3])).trans ?_
    refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 2
    simp only [sW, sB, sG, sL, dV, dM, wT, gU, vH, vN, wB, yB, Matrix.cons_val_zero, Matrix.cons_val_one, Matrix.cons_val] at k
    refine (k _).trans ((congrArg (· + _) ?_).trans (zero_add _))
    refine (rc_at _ _ ![2, 0, 0] ![1, 128, 128] _ (ix3 0 i j : S1x128x128.Idx) (ix3 (2 : Fin 4) i j) (by intro a; fin_cases a <;> simp [ix3])).trans ?_
    refine (canon_miss _ _ _ _ 0 (by simp [ix3])).trans ?_
    refine (canon_miss _ _ _ _ 0 (by simp [ix3])).trans ?_
    exact (canon_hit _ _ _ _ (ix3 (2 : Fin 4) i j) (by intro a; fin_cases a <;> simp [ix3])).trans (z6 (2 : Fin 4) i j)
  · refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 3
    simp only [sW, sB, sG, sL, dV, dM, wT, gU, vH, vN, wB, yB, Matrix.cons_val_zero, Matrix.cons_val_one, Matrix.cons_val] at k
    refine (k _).trans ((congrArg (· + _) ?_).trans (zero_add _))
    refine (rc_at _ _ ![3, 0, 0] ![1, 128, 128] _ (ix3 0 i j : S1x128x128.Idx) (ix3 (3 : Fin 4) i j) (by intro a; fin_cases a <;> simp [ix3])).trans ?_
    refine (canon_miss _ _ _ _ 0 (by simp [ix3])).trans ?_
    refine (canon_miss _ _ _ _ 0 (by simp [ix3])).trans ?_
    refine (canon_miss _ _ _ _ 0 (by simp [ix3])).trans ?_
    exact (canon_hit _ _ _ _ (ix3 (3 : Fin 4) i j) (by intro a; fin_cases a <;> simp [ix3])).trans (z6 (3 : Fin 4) i j)

set_option maxHeartbeats 1000000 in
include hU hV hY hG hL in
theorem ptW_B (h0 : ¬ t.val % 32 = 0) (h : Fin 4) (i j : Fin 128) :
    (outsAt0 m c t.val t.isLt).2.2.1 (ix3 h i j) = (outsAt0 m c (t.val - 1) (lt_of_le_of_lt (Nat.sub_le _ _) t.isLt)).2.2.1 (ix3 h i j) + partW U V Y lg lb h i j := by
  rw [outsAt0_B m c t h0]
  frame_out
  revert h
  refine all4 ?_ ?_ ?_ ?_
  · refine (canon_miss _ _ _ _ 0 (by simp [ix3])).trans ?_
    refine (canon_miss _ _ _ _ 0 (by simp [ix3])).trans ?_
    refine (canon_miss _ _ _ _ 0 (by simp [ix3])).trans ?_
    refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 0
    simp only [sW, sB, sG, sL, dV, dM, wT, gU, vH, vN, wB, yB, Matrix.cons_val_zero, Matrix.cons_val_one, Matrix.cons_val] at k
    refine (k _).trans (congrArg (· + _) ?_)
    exact View.ld_unit_apply_of _ _ _ _ _ _ (by intro a; fin_cases a <;> simp [ix3])
  · refine (canon_miss _ _ _ _ 0 (by simp [ix3])).trans ?_
    refine (canon_miss _ _ _ _ 0 (by simp [ix3])).trans ?_
    refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 1
    simp only [sW, sB, sG, sL, dV, dM, wT, gU, vH, vN, wB, yB, Matrix.cons_val_zero, Matrix.cons_val_one, Matrix.cons_val] at k
    refine (k _).trans (congrArg (· + _) ?_)
    exact View.ld_unit_apply_of _ _ _ _ _ _ (by intro a; fin_cases a <;> simp [ix3])
  · refine (canon_miss _ _ _ _ 0 (by simp [ix3])).trans ?_
    refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 2
    simp only [sW, sB, sG, sL, dV, dM, wT, gU, vH, vN, wB, yB, Matrix.cons_val_zero, Matrix.cons_val_one, Matrix.cons_val] at k
    refine (k _).trans (congrArg (· + _) ?_)
    exact View.ld_unit_apply_of _ _ _ _ _ _ (by intro a; fin_cases a <;> simp [ix3])
  · refine (canon_hit _ _ _ _ (ix3 0 i j) (by intro a; fin_cases a <;> simp [ix3])).trans ?_
    have k := fun P : Vec Ideal S1x128x128 .f32 => sW_eq U V Y lg lb (uL m c t) (vL m c t) (r0L m c t) (r1L m c t) (yL m c t)
      (uL_eq m c t U hU) (vL_eq m c t V hV) (r0L_eq m c t lg hG) (r1L_eq m c t lb hL) (yL_eq m c t Y hY) i j (fun _ => P) 3
    simp only [sW, sB, sG, sL, dV, dM, wT, gU, vH, vN, wB, yB, Matrix.cons_val_zero, Matrix.cons_val_one, Matrix.cons_val] at k
    refine (k _).trans (congrArg (· + _) ?_)
    exact View.ld_unit_apply_of _ _ _ _ _ _ (by intro a; fin_cases a <;> simp [ix3])

/-- What a point adds to the sums of the biases' gradients. -/
def addB (i j : Fin 128) : EReal := if hj : j.val < 4 then partB U Y ⟨j.val, hj⟩ i else 0

set_option maxHeartbeats 1000000 in
include hU hY in
theorem ptB_A (h0 : t.val % 32 = 0) (i j : Fin 128) :
    (outsAt0 m c t.val t.isLt).2.2.2.1 (ix2 i j) = addB U Y i j := by
  rw [outsAt0_A m c t h0]
  frame_out
  have k := fun P : Vec Ideal S128x128 .f32 => sB_eq U Y (uL m c t) (yL m c t) (uL_eq m c t U hU) (yL_eq m c t Y hY) i j P
  simp only [sW, sB, sG, sL, dV, dM, wT, gU, vH, vN, wB, yB, Matrix.cons_val_zero, Matrix.cons_val_one, Matrix.cons_val] at k
  exact (k _).trans ((congrArg (· + _) (z7 i j)).trans (zero_add _))

set_option maxHeartbeats 1000000 in
include hU hY in
theorem ptB_B (h0 : ¬ t.val % 32 = 0) (i j : Fin 128) :
    (outsAt0 m c t.val t.isLt).2.2.2.1 (ix2 i j) = (outsAt0 m c (t.val - 1) (lt_of_le_of_lt (Nat.sub_le _ _) t.isLt)).2.2.2.1 (ix2 i j) + addB U Y i j := by
  rw [outsAt0_B m c t h0]
  frame_out
  have k := fun P : Vec Ideal S128x128 .f32 => sB_eq U Y (uL m c t) (yL m c t) (uL_eq m c t U hU) (yL_eq m c t Y hY) i j P
  simp only [sW, sB, sG, sL, dV, dM, wT, gU, vH, vN, wB, yB, Matrix.cons_val_zero, Matrix.cons_val_one, Matrix.cons_val] at k
  exact k _

/-- What a point adds to the normalization's two rows. -/
def addL (r : Fin 8) (k : Fin 512) : EReal :=
  if r = 0 then partG U V Y W k else if r = 1 then partL U Y W k else 0

theorem rows8 (r : Fin 8) : r = 0 ∨ r = 1 ∨ 2 ≤ r.val := by
  revert r; decide

set_option maxHeartbeats 1000000 in
include hU hV hY hW in
theorem ptL_A (h0 : t.val % 32 = 0) (r : Fin 8) (n : Fin 512) :
    (outsAt0 m c t.val t.isLt).2.1 (ix2 r n) = addL U V Y W r n := by
  rw [outsAt0_A m c t h0]
  frame_out
  obtain rfl | rfl | hr := rows8 r
  · refine (canon_miss _ _ _ _ 0 (by simp [ix2])).trans ?_
    refine (canon_hit _ _ _ _ (ix2 0 n) (by intro a; fin_cases a <;> simp [ix2])).trans ?_
    have k := fun P : Vec Ideal S1x512 .f32 => sG_eq U V Y W (uL m c t) (vL m c t) (wL m c t) (yL m c t)
      (uL_eq m c t U hU) (vL_eq m c t V hV) (wL_eq m c t W hW) (yL_eq m c t Y hY) P n
    simp only [sW, sB, sG, sL, dV, dM, wT, gU, vH, vN, wB, yB, Matrix.cons_val_zero, Matrix.cons_val_one, Matrix.cons_val] at k
    refine (k _).trans ((congrArg (· + _) ?_).trans (zero_add _))
    refine (rc_at _ _ ![0, 0] ![1, 512] _ (ix2 0 n : S1x512.Idx) (ix2 (0 : Fin 8) n) (by intro a; fin_cases a <;> simp [ix2])).trans ?_
    exact (canon_hit _ _ _ _ (ix2 (0 : Fin 8) n) (by intro a; fin_cases a <;> simp [ix2])).trans (z5 (0 : Fin 8) n)
  · refine (canon_hit _ _ _ _ (ix2 0 n) (by intro a; fin_cases a <;> simp [ix2])).trans ?_
    have k := fun P : Vec Ideal S1x512 .f32 => sL_eq U Y W (uL m c t) (wL m c t) (yL m c t)
      (uL_eq m c t U hU) (wL_eq m c t W hW) (yL_eq m c t Y hY) P n
    simp only [sW, sB, sG, sL, dV, dM, wT, gU, vH, vN, wB, yB, Matrix.cons_val_zero, Matrix.cons_val_one, Matrix.cons_val] at k
    refine (k _).trans ((congrArg (· + _) ?_).trans (zero_add _))
    refine (rc_at _ _ ![1, 0] ![1, 512] _ (ix2 0 n : S1x512.Idx) (ix2 (1 : Fin 8) n) (by intro a; fin_cases a <;> simp [ix2])).trans ?_
    refine (canon_miss _ _ _ _ 0 (by simp [ix2])).trans ?_
    exact (canon_hit _ _ _ _ (ix2 (1 : Fin 8) n) (by intro a; fin_cases a <;> simp [ix2])).trans (z5 (1 : Fin 8) n)
  · refine (canon_miss _ _ _ _ 0 (Or.inr (show 1 + 1 ≤ r.val by omega))).trans ?_
    refine (canon_miss _ _ _ _ 0 (Or.inr (show 0 + 1 ≤ r.val by omega))).trans ?_
    refine (canon_hit _ _ _ _ (ix2 r n) (by intro a; fin_cases a <;> simp [ix2])).trans ((z5 r n).trans ?_)
    unfold addL
    rw [if_neg (by rintro rfl; exact absurd hr (by decide)), if_neg (by rintro rfl; exact absurd hr (by decide))]

set_option maxHeartbeats 1000000 in
include hU hV hY hW in
theorem ptL_B (h0 : ¬ t.val % 32 = 0) (r : Fin 8) (n : Fin 512) :
    (outsAt0 m c t.val t.isLt).2.1 (ix2 r n) = (outsAt0 m c (t.val - 1) (lt_of_le_of_lt (Nat.sub_le _ _) t.isLt)).2.1 (ix2 r n) + addL U V Y W r n := by
  rw [outsAt0_B m c t h0]
  frame_out
  obtain rfl | rfl | hr := rows8 r
  · refine (View.read_writes_cons_unit_of_not_mem _ _ _ _ _ _ rfl 0 (Or.inl (show 0 < 1 by omega))).trans ?_
    refine (View.read_writes_cons_unit_of_mem _ _ _ _ _ _ (ix2 0 n) rfl (by intro a; fin_cases a <;> simp [ix2])).trans ?_
    have k := fun P : Vec Ideal S1x512 .f32 => sG_eq U V Y W (uL m c t) (vL m c t) (wL m c t) (yL m c t)
      (uL_eq m c t U hU) (vL_eq m c t V hV) (wL_eq m c t W hW) (yL_eq m c t Y hY) P n
    simp only [sW, sB, sG, sL, dV, dM, wT, gU, vH, vN, wB, yB, Matrix.cons_val_zero, Matrix.cons_val_one, Matrix.cons_val] at k
    refine (k _).trans (congrArg (· + _) ?_)
    exact View.ld_unit_apply_of _ _ _ _ _ _ (by intro a; fin_cases a <;> simp [ix2])
  · refine (View.read_writes_cons_unit_of_mem _ _ _ _ _ _ (ix2 0 n) rfl (by intro a; fin_cases a <;> simp [ix2])).trans ?_
    have k := fun P : Vec Ideal S1x512 .f32 => sL_eq U Y W (uL m c t) (wL m c t) (yL m c t)
      (uL_eq m c t U hU) (wL_eq m c t W hW) (yL_eq m c t Y hY) P n
    simp only [sW, sB, sG, sL, dV, dM, wT, gU, vH, vN, wB, yB, Matrix.cons_val_zero, Matrix.cons_val_one, Matrix.cons_val] at k
    refine (k _).trans (congrArg (· + _) ?_)
    exact View.ld_unit_apply_of _ _ _ _ _ _ (by intro a; fin_cases a <;> simp [ix2])
  · refine (View.read_writes_cons_unit_of_not_mem _ _ _ _ _ _ rfl 0 (Or.inr (show 1 + 1 ≤ r.val by omega))).trans ?_
    refine (View.read_writes_cons_unit_of_not_mem _ _ _ _ _ _ rfl 0 (Or.inr (show 0 + 1 ≤ r.val by omega))).trans ?_
    rw [View.writes_nil]
    refine (congrFun (Memref.IsWhole.read_unread _ _) _).trans ?_
    unfold addL
    rw [if_neg (by rintro rfl; exact absurd hr (by decide)), if_neg (by rintro rfl; exact absurd hr (by decide)), add_zero]

end Cert.Spatial
-- ==== Proof.SpSum.lean ====
/- The gradient of the spatial gating: the kernel's arrays after its last point. -/
module

public import proofs.«01_k».proof.Proof.SpRun
public import proofs.«01_k».proof.Proof.Gen.SpatialKernelIdeal.Value
public import Idealize.ShloMosaic.Lib.Pipeline.Value

@[expose] public section

set_option maxRecDepth 16384
noncomputable section

namespace Cert.Spatial

open Idealize.ShloMosaic Cert.Lift
open Cert.SpatialKernelIdeal Cert.SpatialKernelIdeal.Gen

section Args
variable (X0 : FVec Ideal S4096x3080 .f32) (X1 : FVec Ideal S4096x1024 .f32) (X : FVec Ideal S512 .f32) (X4 : FVec Ideal S4x128x128 .f32)
/-- Row `i` of block `b`. -/
def tok (b : Fin 32) (i : Fin 128) : Fin 4096 := ⟨b.val * 128 + i.val, by have := b.isLt; have := i.isLt; omega⟩
/-! The arguments' parts that a block reads. -/
def aU (b : Fin 32) (i : Fin 128) (k : Fin 512) : EReal := X0 (ix2 (tok b i) ⟨k.val, by have := k.isLt; omega⟩)
def aV (b : Fin 32) (i : Fin 128) (k : Fin 512) : EReal := X0 (ix2 (tok b i) ⟨512 + k.val, by have := k.isLt; omega⟩)
def aY (b : Fin 32) (i : Fin 128) (k : Fin 512) : EReal := X1 (ix2 (tok b i) ⟨k.val, by have := k.isLt; omega⟩)
def aW (h : Fin 4) (i j : Fin 128) : EReal := X4 (ix3 h i j)
def aL (k : Fin 512) : EReal := X (ix1 k)
end Args

variable (m : (ℓ : Loc nD τ sig) → Buf (Elt Ideal) ℓ) (c : Dev nD)

set_option maxHeartbeats 4000000 in
theorem entry0 : V m c main_v0 =
    (pad S4096x3200 ![0, 0] ![0, 120] ![0, 0] (m ((c.tc : Thread nD τ).loc main_arg0)) (sitofp (F := Ideal) .f32 (constantI S_ 32 0#32)) pads_S4096x3080_S4096x3200_000_01200 h_S_ : FVec Ideal S4096x3200 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

set_option maxHeartbeats 4000000 in
theorem entry12 : V m c main_v12 = truncf (F := Ideal) .bf16 (m ((c.tc : Thread nD τ).loc main_arg1)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results

set_option maxHeartbeats 4000000 in
theorem entry17 : V m c main_v17 =
    (pad S1x8x512 ![0, 0, 0] ![0, 6, 0] ![0, 0, 0] (broadcastInDim S1x2x512 ![1, 2] bcast_S2x512_S1x2x512_1_2 (concatenate S2x512 0
      [⟨S1x512, broadcastInDim S1x512 ![1] bcast_S512_S1x512_1 (m ((c.tc : Thread nD τ).loc main_arg2))⟩, ⟨S1x512, broadcastInDim S1x512 ![1] bcast_S512_S1x512_1 (m ((c.tc : Thread nD τ).loc main_arg3))⟩]
      concatenates_S1x512_S1x512_S2x512_d0)) (sitofp (F := Ideal) .f32 (constantI S_ 32 0#32)) pads_S1x2x512_S1x8x512_000_060_000 h_S_ : FVec Ideal S1x8x512 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results
  rfl

set_option maxHeartbeats 4000000 in
theorem entry18 : V m c main_v18 =
    (broadcastInDim S1x4x128x128 ![1, 2, 3] bcast_S4x128x128_S1x4x128x128_1_2_3 (m ((c.tc : Thread nD τ).loc main_arg4)) : FVec Ideal S1x4x128x128 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results

theorem idx0 : ∀ t : Fin cfg0.N, win0_0.index t = ![31 - t.val, 0] ∧ win0_1.index t = ![31 - t.val, 0] ∧ win0_8.index t = ![0, 0, 0] ∧ win0_9.index t = ![0, 0, 0, 0] :=
  (by decide +kernel : ∀ t : Fin grid0.N, _)

/-- The block of rows that point `t` treats: the last first. -/
def bk (t : Fin cfg0.N) : Fin 32 := ⟨31 - t.val, by omega⟩

theorem rd0 (t : Fin cfg0.N) (r : Fin 128) (k : Fin 3200) : (iblk m c 0 t : FVec Ideal S128x3200 .f32) (ix2 r k) = (V m c main_v0 : FVec Ideal S4096x3200 .f32) (ix2 (tok (bk t) r) k) := by
  show _ = V m c (Pipeline.arrRef spec0 0) (ix2 (tok (bk t) r) k)
  unfold tok bk iblk; generalize V m c (Pipeline.arrRef spec0 0) = A
  blk_point [idx0 t]
theorem rd1 (t : Fin cfg0.N) (r : Fin 128) (k : Fin 1024) : (iblk m c 1 t : FVec Ideal S128x1024 .bf16) (ix2 r k) = (V m c main_v12 : FVec Ideal S4096x1024 .bf16) (ix2 (tok (bk t) r) k) := by
  show _ = V m c (Pipeline.arrRef spec0 1) (ix2 (tok (bk t) r) k)
  unfold tok bk iblk; generalize V m c (Pipeline.arrRef spec0 1) = A
  blk_point [idx0 t]
theorem rd8 (t : Fin cfg0.N) (r : Fin 8) (k : Fin 512) : (iblk m c 8 t : FVec Ideal S1x8x512 .f32) (ix3 0 r k) = (V m c main_v17 : FVec Ideal S1x8x512 .f32) (ix3 0 r k) := by
  show _ = V m c (Pipeline.arrRef spec0 8) (ix3 0 r k)
  unfold iblk; generalize V m c (Pipeline.arrRef spec0 8) = A
  blk_point [idx0 t]
theorem rd9 (t : Fin cfg0.N) (h : Fin 4) (r k : Fin 128) : (iblk m c 9 t : FVec Ideal S1x4x128x128 .f32) (ix4 0 h r k) = (V m c main_v18 : FVec Ideal S1x4x128x128 .f32) (ix4 0 h r k) := by
  show _ = V m c (Pipeline.arrRef spec0 9) (ix4 0 h r k)
  unfold iblk; generalize V m c (Pipeline.arrRef spec0 9) = A
  blk_point [idx0 t]

theorem pad_at (X0 : FVec Ideal S4096x3080 .f32) (i : Fin 4096) (k : Fin 3200) (hk : k.val < 3080) :
    (pad S4096x3200 ![0, 0] ![0, 120] ![0, 0] X0 (sitofp (F := Ideal) .f32 (constantI S_ 32 0#32)) pads_S4096x3080_S4096x3200_000_01200 h_S_ : FVec Ideal S4096x3200 .f32) (ix2 i k) = X0 (ix2 i ⟨k.val, hk⟩) := by
  pointwise; rw [dif_pos hk]
theorem row0_at (X1 X2 : FVec Ideal S512 .f32) (k : Fin 512) :
    (pad S1x8x512 ![0, 0, 0] ![0, 6, 0] ![0, 0, 0] (broadcastInDim S1x2x512 ![1, 2] bcast_S2x512_S1x2x512_1_2 (concatenate S2x512 0
      [⟨S1x512, broadcastInDim S1x512 ![1] bcast_S512_S1x512_1 X1⟩, ⟨S1x512, broadcastInDim S1x512 ![1] bcast_S512_S1x512_1 X2⟩]
      concatenates_S1x512_S1x512_S2x512_d0)) (sitofp (F := Ideal) .f32 (constantI S_ 32 0#32)) pads_S1x2x512_S1x8x512_000_060_000 h_S_ : FVec Ideal S1x8x512 .f32) (ix3 0 0 k) = X1 (ix1 k) := by
  pointwise
theorem row1_at (X1 X2 : FVec Ideal S512 .f32) (k : Fin 512) :
    (pad S1x8x512 ![0, 0, 0] ![0, 6, 0] ![0, 0, 0] (broadcastInDim S1x2x512 ![1, 2] bcast_S2x512_S1x2x512_1_2 (concatenate S2x512 0
      [⟨S1x512, broadcastInDim S1x512 ![1] bcast_S512_S1x512_1 X1⟩, ⟨S1x512, broadcastInDim S1x512 ![1] bcast_S512_S1x512_1 X2⟩]
      concatenates_S1x512_S1x512_S2x512_d0)) (sitofp (F := Ideal) .f32 (constantI S_ 32 0#32)) pads_S1x2x512_S1x8x512_000_060_000 h_S_ : FVec Ideal S1x8x512 .f32) (ix3 0 1 k) = X2 (ix1 k) := by
  pointwise
theorem mat_at (X3 : FVec Ideal S4x128x128 .f32) (h : Fin 4) (i j : Fin 128) :
    (broadcastInDim S1x4x128x128 ![1, 2, 3] bcast_S4x128x128_S1x4x128x128_1_2_3 X3 : FVec Ideal S1x4x128x128 .f32) (ix4 0 h i j) = X3 (ix3 h i j) := by
  pointwise

theorem hU (t : Fin cfg0.N) (i : Fin 128) (k : Fin 512) :
    (iblk m c 0 t : FVec Ideal S128x3200 .f32) (ix2 i (cU k)) = aU (m ((c.tc : Thread nD τ).loc main_arg0)) (bk t) i k := by
  rw [rd0, entry0]
  exact pad_at _ (tok (bk t) i) (cU k) (by have := k.isLt; show k.val < 3080; omega)
theorem hV (t : Fin cfg0.N) (i : Fin 128) (k : Fin 512) :
    (iblk m c 0 t : FVec Ideal S128x3200 .f32) (ix2 i (cV k)) = aV (m ((c.tc : Thread nD τ).loc main_arg0)) (bk t) i k := by
  rw [rd0, entry0]
  exact pad_at _ (tok (bk t) i) (cV k) (by have := k.isLt; show 512 + k.val < 3080; omega)
theorem hY (t : Fin cfg0.N) (i : Fin 128) (k : Fin 512) :
    (iblk m c 1 t : FVec Ideal S128x1024 .bf16) (ix2 i (cY k)) = aY (m ((c.tc : Thread nD τ).loc main_arg1)) (bk t) i k := by
  rw [rd1, entry12]
  rfl
theorem hG (t : Fin cfg0.N) (k : Fin 512) : (iblk m c 8 t : FVec Ideal S1x8x512 .f32) (ix3 0 0 k) = aL (m ((c.tc : Thread nD τ).loc main_arg2)) k := by
  rw [rd8, entry17]
  exact row0_at _ _ k
theorem hL (t : Fin cfg0.N) (k : Fin 512) : (iblk m c 8 t : FVec Ideal S1x8x512 .f32) (ix3 0 1 k) = aL (m ((c.tc : Thread nD τ).loc main_arg3)) k := by
  rw [rd8, entry17]
  exact row1_at _ _ k
theorem hW (t : Fin cfg0.N) (h : Fin 4) (i j : Fin 128) : (iblk m c 9 t : FVec Ideal S1x4x128x128 .f32) (ix4 0 h i j) = aW (m ((c.tc : Thread nD τ).loc main_arg4)) h i j := by
  rw [rd9, entry18]
  exact mat_at _ h i j

/-- What is reset at the first point and gains a block's part at each, holds at the last the sum over the blocks. -/
theorem run_sum (o : (n : ℕ) → n < cfg0.N → EReal) (p : Fin 32 → EReal) (hA : ∀ t : Fin cfg0.N, t.val % 32 = 0 → o t.val t.isLt = p (bk t))
    (hB : ∀ t : Fin cfg0.N, ¬ t.val % 32 = 0 → o t.val t.isLt = o (t.val - 1) (lt_of_le_of_lt (Nat.sub_le _ _) t.isLt) + p (bk t))
    (t : Fin cfg0.N) (ht : t.val = 31) : o t.val t.isLt = ∑ b, p b := by
  let q : ℕ → EReal := fun s => p ⟨31 - s, by omega⟩
  have key : ∀ n (h : n < cfg0.N), o n h = ∑ s ∈ Finset.range (n + 1), q s := by
    intro n
    induction n with
    | zero => intro h; exact (hA ⟨0, h⟩ rfl).trans (by rw [Finset.sum_range_one]; rfl)
    | succ n ih =>
      intro h
      have h32 : n + 1 < 32 := lt_of_lt_of_eq h N_0
      rw [Finset.sum_range_succ, ← ih (by omega)]
      exact hB ⟨n + 1, h⟩ (by show ¬ (n + 1) % 32 = 0; omega)
  rw [key, ht, Finset.sum_range]
  refine (Equiv.sum_comp Fin.revPerm p).symm.trans ?_ |>.symm
  refine Finset.sum_congr rfl fun s _ => congrArg p (Fin.ext ?_)
  show (Fin.rev s).val = 31 - s.val
  rw [Fin.val_rev]; omega

/-! ## The arrays after the last point -/

def last : Fin cfg0.N := ⟨31, by rw [show cfg0.N = 32 from N_0]; omega⟩

section Finals
variable (X0 : FVec Ideal S4096x3080 .f32) (X1 : FVec Ideal S4096x1024 .f32) (X2 X3 : FVec Ideal S512 .f32) (X4 : FVec Ideal S4x128x128 .f32)
def gradL (r : Fin 8) (k : Fin 512) : EReal := ∑ b, addL (aU X0 b) (aV X0 b) (aY X1 b) (aW X4) r k
def gradW (h : Fin 4) (i j : Fin 128) : EReal := ∑ b, partW (aU X0 b) (aV X0 b) (aY X1 b) (aL X2) (aL X3) h i j
def gradB (i j : Fin 128) : EReal := ∑ b, addB (aU X0 b) (aY X1 b) i j
end Finals

theorem final14 : (dats m 0 c).arrAt 14 cfg0.N = fun i : S8x512.Idx => gradL (m ((c.tc : Thread nD τ).loc main_arg0)) (m ((c.tc : Thread nD τ).loc main_arg1)) (m ((c.tc : Thread nD τ).loc main_arg4)) (i 0) (i 1) := by
  refine (dats m 0 c).arrAt_eq_of_after_last 14 last (by decide +kernel) _ fun j => ?_
  blk_simp
  idx_vars j
  rw [after0_14]
  exact run_sum (fun n h => (outsAt0 m c n h).2.1 (ix2 j0 j1)) _
    (fun t h => ptL_A m c t _ _ _ _ (hU m c t) (hV m c t) (hY m c t) (hW m c t) h j0 j1)
    (fun t h => ptL_B m c t _ _ _ _ (hU m c t) (hV m c t) (hY m c t) (hW m c t) h j0 j1) last rfl

theorem final15 : (dats m 0 c).arrAt 15 cfg0.N = fun i : S4x128x128.Idx => gradW (m ((c.tc : Thread nD τ).loc main_arg0)) (m ((c.tc : Thread nD τ).loc main_arg1)) (m ((c.tc : Thread nD τ).loc main_arg2)) (m ((c.tc : Thread nD τ).loc main_arg3)) (i 0) (i 1) (i 2) := by
  refine (dats m 0 c).arrAt_eq_of_after_last 15 last (by decide +kernel) _ fun j => ?_
  blk_simp
  idx_vars j
  rw [after0_15]
  exact run_sum (fun n h => (outsAt0 m c n h).2.2.1 (ix3 j0 j1 j2)) _
    (fun t h => ptW_A m c t _ _ _ _ _ (hU m c t) (hV m c t) (hY m c t) (hG m c t) (hL m c t) h j0 j1 j2)
    (fun t h => ptW_B m c t _ _ _ _ _ (hU m c t) (hV m c t) (hY m c t) (hG m c t) (hL m c t) h j0 j1 j2) last rfl

theorem final16 : (dats m 0 c).arrAt 16 cfg0.N = fun i : S128x128.Idx => gradB (m ((c.tc : Thread nD τ).loc main_arg0)) (m ((c.tc : Thread nD τ).loc main_arg1)) (i 0) (i 1) := by
  refine (dats m 0 c).arrAt_eq_of_after_last 16 last (by decide +kernel) _ fun j => ?_
  blk_simp
  idx_vars j
  rw [after0_16]
  exact run_sum (fun n h => (outsAt0 m c n h).2.2.2.1 (ix2 j0 j1)) _
    (fun t h => ptB_A m c t _ _ (hU m c t) (hY m c t) h j0 j1)
    (fun t h => ptB_B m c t _ _ (hU m c t) (hY m c t) h j0 j1) last rfl

end Cert.Spatial

end
-- ==== Proof.SpRef.lean ====
/- The reference's gradient of the spatial gating, in the sums over the blocks. -/
module

public import proofs.«01_k».proof.Proof.SpSum
public import proofs.«01_k».proof.Proof.Gen.SpatialReferenceIdeal.Read
public import Idealize.ShloMosaic.Lib.TwoAxisContraction

@[expose] public section

set_option maxRecDepth 16384
noncomputable section

namespace Cert.Spatial

open Idealize.ShloMosaic Cert.Lift
open Cert.Mix (sel_ge)

section Ref
open Cert.SpatialReferenceIdeal Cert.SpatialReferenceIdeal.Gen Cert.SpatialReferenceIdeal.Read
variable (x0 : FVec Ideal S4096x3080 .f32) (x1 : FVec Ideal S4096x1024 .f32) (x2 x3 : FVec Ideal S512 .f32) (x4 : FVec Ideal S4x128x128 .f32)

theorem gel_assoc (x : EReal) : x * (Ideal.ofBits .f32 0x3F000000#32 * (1 + Ideal.tanh (Ideal.ofBits .f32 0x3F4C422A#32
    * (x + Ideal.ofBits .f32 0x3D372713#32 * (x * x * x))))) = gel x := by
  unfold gel
  rw [← mul_assoc, mul_comm x (Ideal.ofBits .f32 0x3F000000#32)]
  simp only [mul_assoc]

theorem r13 (b : Fin 32) (i : Fin 128) (k : Fin 512) : val_main_v13 (F := Ideal) x0 (ix2 (tok b i) k) = gel (aU x0 b i k) := by
  refine Eq.trans ?_ (gel_assoc _)
  unfold aU
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]

theorem r27 (b : Fin 32) (i : Fin 128) (k : Fin 512) : val_main_v27 (F := Ideal) x0 (ix2 (tok b i) k) = gel (aV x0 b i k) := by
  refine Eq.trans ?_ (gel_assoc _)
  unfold aV
  pointwise [val_main_v27, val_main_v26, val_main_v25, val_main_v24, val_main_v23, val_main_v22, val_main_v21, val_main_v20, val_main_v19,
    val_main_v18, val_main_v17, val_main_v16, val_main_v15, val_main_v14, val_main_cst_3, val_main_cst_4, val_main_cst_5, val_main_cst_6]

theorem r33 (b : Fin 32) (i : Fin 128) (k : Fin 512) : val_main_v33 (F := Ideal) x0 (ix2 (tok b i) k) = cen (fun x => gel (aV x0 b i x)) k := by
  unfold cen k512
  pointwise [val_main_v33, val_main_v32, val_main_v31, val_main_v30, val_main_v29, val_main_v28, val_main_cst_7, val_main_cst_8]
  simp only [r27]

theorem r43 (b : Fin 32) (i : Fin 128) (k : Fin 512) : val_main_v43 (F := Ideal) x0 (ix2 (tok b i) k) = vht (aV x0 b) i k := by
  unfold vht hat k512
  pointwise [val_main_v43, val_main_v42, val_main_v41, val_main_v40, val_main_v39, val_main_v38, val_main_v37, val_main_v36, val_main_v35,
    val_main_v34, val_main_cst_9, val_main_cst_10, val_main_cst_11]
  simp only [r33]

theorem r49 (b : Fin 32) (i : Fin 128) (k : Fin 512) : val_main_v49 (F := Ideal) x0 x2 x3 (ix2 (tok b i) k) = vnm (aV x0 b) (aL x2) (aL x3) i k := by
  unfold vnm aL
  pointwise [val_main_v49, val_main_v48, val_main_v47, val_main_v46, val_main_v45, val_main_v44]
  rw [r43]

theorem r63 (b : Fin 32) (i : Fin 128) (k : Fin 512) : val_main_v63 (F := Ideal) x0 x1 (ix2 (tok b i) k) = dmx (aU x0 b) (aY x1 b) i k := by
  unfold dmx aY
  pointwise [val_main_v63, val_main_v62]
  rw [r13, mul_comm]

theorem idx4 (b : Fin 32) (i : Fin 128) (h : Fin 4) (d : Fin 128) : idx_main_v64 (ix4 b i h d) = ix2 (tok b i) (hc h d) := by
  funext a
  apply Fin.ext
  have h0 := b.isLt; have h1 := i.isLt; have h2 := h.isLt; have h3 := d.isLt
  match a with
  | ⟨0, _⟩ => show (((b.val * 128 + i.val) * 4 + h.val) * 128 + d.val) / 512 = b.val * 128 + i.val; omega
  | ⟨1, _⟩ => show (((b.val * 128 + i.val) * 4 + h.val) * 128 + d.val) % 512 = h.val * 128 + d.val; omega

theorem r64 (b : Fin 32) (i : Fin 128) (h : Fin 4) (d : Fin 128) :
    val_main_v64 (F := Ideal) x0 x1 (ix4 b i h d) = dmx (aU x0 b) (aY x1 b) i (hc h d) := by
  rw [val_main_v64_apply, idx4, r63]

theorem r50 (b : Fin 32) (i : Fin 128) (h : Fin 4) (d : Fin 128) :
    val_main_v50 (F := Ideal) x0 x2 x3 (ix4 b i h d) = vnm (aV x0 b) (aL x2) (aL x3) i (hc h d) := by
  rw [val_main_v50_apply, show idx_main_v50 (ix4 b i h d) = ix2 (tok b i) (hc h d) from idx4 b i h d, r49]

theorem mask (i j : Fin 128) (x y : EReal) : Scalar.select (Scalar.select (IntOp.cmpi .sge (IntOp.addi (BitVec.ofNat 32 i) 0#32)
    (BitVec.ofNat 32 j)) 1#1 0#1) x y = if j ≤ i then x else y := by
  have : Scalar.select (IntOp.cmpi .sge (IntOp.addi (BitVec.ofNat 32 i) 0#32) (BitVec.ofNat 32 j)) 1#1 0#1 = if j ≤ i then 1#1 else 0#1 := by
    revert i j; decide +kernel
  rw [this]
  split_ifs <;> rfl

theorem bits0 : Ideal.ofBits .f32 0x00000000#32 = 0 := zero_f32

theorem r53 (h : Fin 4) (i j : Fin 128) : val_main_v53_0 (F := Ideal) x4 (ix3 h i j) = wtr (aW x4) h i j := by
  unfold wtr aW
  pointwise [val_main_v53_0, val_main_v53_1, val_main_v52, val_main_v51, val_main_call0_v0, val_main_call0_v1, val_main_call0_v2,
    val_main_call0_v3, val_main_call0_v4, val_main_call0_v5, val_main_call0_c, val_main_call0_c_0, val_main_c, val_main_call1_v0,
    val_main_call1_v2, val_main_cst_12]
  refine (mask i j _ _).trans ?_
  split_ifs
  · rfl
  · exact bits0

theorem red4 (x : FVec Ideal S32x128x4x128 .f32) (a : EReal) (i : Fin 128) (h : Fin 4) :
    Ideal.hostReduceAdd reducesTo_S32x128x4x128_S128x4_d0_3 x a (ix2 i h) = a + ∑ b : Fin 32, ∑ d : Fin 128, x (ix4 b i h d) := by
  unfold Ideal.hostReduceAdd
  refine congrArg (a + ·) ?_
  rw [← Fintype.sum_prod_type' (fun b d => x (ix4 b i h d))]
  refine Finset.sum_nbij' (fun j => (j 0, j 3)) (fun p => ix4 p.1 i h p.2) (fun j _ => Finset.mem_univ _) ?_ ?_ (fun p _ => rfl) ?_
  · intro p _
    refine Finset.mem_filter.2 ⟨Finset.mem_univ _, funext fun q => Fin.ext ?_⟩
    match q with
    | ⟨0, _⟩ => rfl
    | ⟨1, _⟩ => rfl
  · intro j hj
    have e := (Finset.mem_filter.1 hj).2
    funext q
    apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · intro j hj
    have e := (Finset.mem_filter.1 hj).2
    refine congrArg x (funext fun q => Fin.ext ?_)
    match q with
    | ⟨0, _⟩ => rfl
    | ⟨1, _⟩ => exact congrArg Fin.val (congrFun e 0)
    | ⟨2, _⟩ => exact congrArg Fin.val (congrFun e 1)
    | ⟨3, _⟩ => rfl

theorem red1 (x : FVec Ideal S1x128x4x1 .f32) (a : EReal) (i : Fin 128) (h : Fin 4) :
    Ideal.hostReduceAdd reducesTo_S1x128x4x1_S128x4_d0_3 x a (ix2 i h) = a + x (ix4 0 i h 0) := by
  unfold Ideal.hostReduceAdd
  refine congrArg (a + ·) ?_
  have e : (Finset.univ.filter fun j => reducesTo_S1x128x4x1_S128x4_d0_3.drop j = ix2 i h) = {ix4 0 i h 0} := by
    refine Finset.eq_singleton_iff_unique_mem.2 ⟨Finset.mem_filter.2 ⟨Finset.mem_univ _, funext fun q => Fin.ext ?_⟩, fun j hj => ?_⟩
    · match q with
      | ⟨0, _⟩ => rfl
      | ⟨1, _⟩ => rfl
    · have e := (Finset.mem_filter.1 hj).2
      funext q
      apply Fin.ext
      match q with
      | ⟨0, _⟩ => exact Nat.lt_one_iff.1 (j 0).isLt
      | ⟨1, _⟩ => exact congrArg Fin.val (congrFun e 0)
      | ⟨2, _⟩ => exact congrArg Fin.val (congrFun e 1)
      | ⟨3, _⟩ => exact Nat.lt_one_iff.1 (j 3).isLt
  rw [e, Finset.sum_singleton]

theorem r65 (i : Fin 128) (h : Fin 4) : val_main_v65 (F := Ideal) x0 x1 (ix2 i h) = ∑ b, partB (aU x0 b) (aY x1 b) h i := by
  unfold val_main_v65
  refine (red4 _ _ i h).trans ((congrArg (· + _) bits0).trans ((zero_add _).trans ?_))
  simp only [r64]
  rfl

theorem r67 (i : Fin 128) (h : Fin 4) : val_main_v67 (F := Ideal) x0 x1 (ix2 i h) = ∑ b, partB (aU x0 b) (aY x1 b) h i := by
  unfold val_main_v67
  refine (red1 _ _ i h).trans ((congrArg (· + _) bits0).trans ((zero_add _).trans ?_))
  rw [val_main_v66_apply, ← r65]
  refine congrArg _ (funext fun q => Fin.ext ?_)
  have h1 := i.isLt; have h2 := h.isLt
  match q with
  | ⟨0, _⟩ => show (((0 * 128 + i.val) * 4 + h.val) * 1 + 0) / 4 = i.val; omega
  | ⟨1, _⟩ => show (((0 * 128 + i.val) * 4 + h.val) * 1 + 0) % 4 = h.val; omega

theorem int0 (i : S_.Idx) : (sitofp .f32 (constantI S_ 32 0#32) : FVec Ideal S_ .f32) i = 0 := by
  show FloatOps.sitofp (F := Ideal) .f32 (0#32 : BitVec 32) = 0
  simp [FloatOps.sitofp]

theorem ref87 (i j : Fin 128) : val_main_v87 (F := Ideal) x0 x1 (ix2 i j) = gradB x0 x1 i j := by
  unfold gradB addB
  by_cases hj : j.val < 4
  · simp only [dif_pos hj]
    rw [← r67]
    pointwise [val_main_v87, val_main_v86, val_main_v68]
    exact dif_pos hj
  · simp only [dif_neg hj, Finset.sum_const_zero]
    pointwise [val_main_v87]
    exact (dif_neg hj).trans (int0 _)

theorem r70 (h : Fin 4) (i j : Fin 128) : val_main_v70 (F := Ideal) x0 x1 x2 x3 (ix3 h i j)
    = ∑ b : Fin 32, ∑ d : Fin 128, dmx (aU x0 b) (aY x1 b) i (hc h d) * vnm (aV x0 b) (aL x2) (aL x3) j (hc h d) := by
  pointwise [val_main_v70]
  refine Finset.sum_congr rfl fun b _ => Finset.sum_congr rfl fun d _ => ?_
  refine congrArg₂ (· * ·) ?_ (r50 x0 x2 x3 b j h d)
  rw [val_main_v69_apply, ← r64]
  refine congrArg _ (funext fun q => ?_)
  match q with
  | ⟨0, _⟩ => rfl
  | ⟨1, _⟩ => rfl
  | ⟨2, _⟩ => rfl
  | ⟨3, _⟩ => rfl

theorem ref73 (h : Fin 4) (i j : Fin 128) : val_main_v73 (F := Ideal) x0 x1 x2 x3 (ix3 h i j) = gradW x0 x1 x2 x3 h i j := by
  unfold gradW partW
  pointwise [val_main_v73, val_main_v53_1, val_main_v52, val_main_v51, val_main_call0_v0, val_main_call0_v1, val_main_call0_v2,
    val_main_call0_v3, val_main_call0_v4, val_main_call0_v5, val_main_call0_c, val_main_call0_c_0, val_main_c, val_main_call2_v0,
    val_main_call2_cst]
  refine (mask i j _ _).trans ?_
  split_ifs
  · exact r70 x0 x1 x2 x3 h i j
  · exact Finset.sum_const_zero.symm

theorem r71 (h : Fin 4) (b : Fin 32) (d j : Fin 128) : val_main_v71 (F := Ideal) x0 x1 x4 (ix4 h b d j)
    = dvn (aU x0 b) (aY x1 b) (aW x4) j (hc h d) := by
  unfold dvn
  rw [val_main_v71_apply, hd_hc]
  refine Finset.sum_congr rfl fun i _ => ?_
  rw [mul_comm]
  refine congrArg₂ (· * ·) ?_ ?_
  · rw [← r53]
    refine congrArg _ (funext fun q => ?_)
    match q with
    | ⟨0, _⟩ => rfl
    | ⟨1, _⟩ => rfl
    | ⟨2, _⟩ => rfl
  · rw [val_main_v69_apply, ← r64]
    refine congrArg _ (funext fun q => ?_)
    match q with
    | ⟨0, _⟩ => rfl
    | ⟨1, _⟩ => rfl
    | ⟨2, _⟩ => rfl
    | ⟨3, _⟩ => rfl

theorem r74 (b : Fin 32) (j : Fin 128) (k : Fin 512) : val_main_v74 (F := Ideal) x0 x1 x4 (ix2 (tok b j) k)
    = dvn (aU x0 b) (aY x1 b) (aW x4) j k := by
  rw [← hc_lo k, ← r71, val_main_v74_apply, val_main_v72_apply]
  refine congrArg _ (funext fun q => Fin.ext ?_)
  have h0 := b.isLt; have h1 := j.isLt; have h2 := (hd k).isLt; have h3 := (lo k).isLt
  match q with
  | ⟨0, _⟩ => show ((b.val * 128 + j.val) * 512 + ((hd k).val * 128 + (lo k).val)) / 128 % 4 = (hd k).val; omega
  | ⟨1, _⟩ => show ((b.val * 128 + j.val) * 512 + ((hd k).val * 128 + (lo k).val)) / 65536 = b.val; omega
  | ⟨2, _⟩ => show ((b.val * 128 + j.val) * 512 + ((hd k).val * 128 + (lo k).val)) % 128 = (lo k).val; omega
  | ⟨3, _⟩ => show ((b.val * 128 + j.val) * 512 + ((hd k).val * 128 + (lo k).val)) / 512 % 128 = j.val; omega

theorem sum_tok (f : Fin 4096 → EReal) : ∑ t, f t = ∑ b, ∑ i, f (tok b i) := by
  exact (Fin.sum_mul_add_fin 32 128 f rfl).symm

theorem r77 (k : Fin 512) : val_main_v77 (F := Ideal) x0 x1 x4 (ix1 k) = ∑ b, partL (aU x0 b) (aY x1 b) (aW x4) k := by
  unfold partL
  simp only [← r74]
  rw [← sum_tok fun t => val_main_v74 (F := Ideal) x0 x1 x4 (ix2 t k)]
  pointwise [val_main_v77, val_main_v76, val_main_v75, val_main_cst_15, val_main_cst_16]
  exact Fintype.sum_unique _

theorem r81 (k : Fin 512) : val_main_v81 (F := Ideal) x0 x1 x4 (ix1 k) = ∑ b, partG (aU x0 b) (aV x0 b) (aY x1 b) (aW x4) k := by
  unfold partG
  simp only [← r74, ← r43]
  rw [← sum_tok fun t => val_main_v74 (F := Ideal) x0 x1 x4 (ix2 t k) * val_main_v43 (F := Ideal) x0 (ix2 t k)]
  pointwise [val_main_v81, val_main_v80, val_main_v79, val_main_v78, val_main_cst_17, val_main_cst_18]
  exact (Fintype.sum_unique _).trans (Finset.sum_congr rfl fun t _ => mul_comm _ _)

theorem ref85 (r : Fin 8) (k : Fin 512) : val_main_v85 (F := Ideal) x0 x1 x4 (ix2 r k) = gradL x0 x1 x4 r k := by
  unfold gradL addL
  rcases rows8 r with rfl | rfl | hr
  · simp only [if_pos]
    rw [← r81]
    pointwise [val_main_v85, val_main_v84, val_main_v82]
  · simp only [if_pos, if_neg (show (1 : Fin 8) ≠ 0 by decide)]
    rw [← r77]
    pointwise [val_main_v85, val_main_v84, val_main_v83]
  · have n0 : r ≠ 0 := fun e => by rw [e] at hr; exact absurd hr (by decide)
    have n1 : r ≠ 1 := fun e => by rw [e] at hr; exact absurd hr (by decide)
    simp only [if_neg n0, if_neg n1, Finset.sum_const_zero]
    pointwise [val_main_v85]
    exact (dif_neg (by omega)).trans (int0 _)

end Ref

end Cert.Spatial

end
-- ==== Proof.Spatial.lean ====
/- The value claim of the gradient of the spatial gating. -/
module

public import proofs.«01_k».proof.Proof.SpRef
public import proofs.«01_k».proof.Proof.Gen.SpatialReferenceIdeal.Run

@[expose] public section

set_option maxRecDepth 16384
noncomputable section

namespace Cert.Spatial

open Idealize.ShloMosaic Cert.Lift

section Values
open Cert.SpatialKernelIdeal
variable (m : (ℓ : Loc nD τ sig) → Buf (Elt Ideal) ℓ)

theorem values (c : Dev nD)
    {y0 : Buf (Elt Ideal) ((c.tc : Thread Cert.SpatialReferenceIdeal.nD Cert.SpatialReferenceIdeal.τ).loc Cert.SpatialReferenceIdeal.main_arg0)}
    {y1 : Buf (Elt Ideal) ((c.tc : Thread Cert.SpatialReferenceIdeal.nD Cert.SpatialReferenceIdeal.τ).loc Cert.SpatialReferenceIdeal.main_arg1)}
    {y2 : Buf (Elt Ideal) ((c.tc : Thread Cert.SpatialReferenceIdeal.nD Cert.SpatialReferenceIdeal.τ).loc Cert.SpatialReferenceIdeal.main_arg2)}
    {y3 : Buf (Elt Ideal) ((c.tc : Thread Cert.SpatialReferenceIdeal.nD Cert.SpatialReferenceIdeal.τ).loc Cert.SpatialReferenceIdeal.main_arg3)}
    {y4 : Buf (Elt Ideal) ((c.tc : Thread Cert.SpatialReferenceIdeal.nD Cert.SpatialReferenceIdeal.τ).loc Cert.SpatialReferenceIdeal.main_arg4)}
    {y5 : Buf (Elt Ideal) ((c.tc : Thread Cert.SpatialReferenceIdeal.nD Cert.SpatialReferenceIdeal.τ).loc Cert.SpatialReferenceIdeal.main_arg5)}
    {y6 : Buf (Elt Ideal) ((c.tc : Thread Cert.SpatialReferenceIdeal.nD Cert.SpatialReferenceIdeal.τ).loc Cert.SpatialReferenceIdeal.main_arg6)}
    {y7 : Buf (Elt Ideal) ((c.tc : Thread Cert.SpatialReferenceIdeal.nD Cert.SpatialReferenceIdeal.τ).loc Cert.SpatialReferenceIdeal.main_arg7)}
    {y8 : Buf (Elt Ideal) ((c.tc : Thread Cert.SpatialReferenceIdeal.nD Cert.SpatialReferenceIdeal.τ).loc Cert.SpatialReferenceIdeal.main_arg8)}
    {y9 : Buf (Elt Ideal) ((c.tc : Thread Cert.SpatialReferenceIdeal.nD Cert.SpatialReferenceIdeal.τ).loc Cert.SpatialReferenceIdeal.main_arg9)}
    (he : y0 = (m ((c.tc : Thread nD τ).loc main_arg0))
      ∧ y1 = (m ((c.tc : Thread nD τ).loc main_arg1))
      ∧ y2 = (m ((c.tc : Thread nD τ).loc main_arg2))
      ∧ y3 = (m ((c.tc : Thread nD τ).loc main_arg3))
      ∧ y4 = (m ((c.tc : Thread nD τ).loc main_arg4))
      ∧ y5 = (m ((c.tc : Thread nD τ).loc main_arg5))
      ∧ y6 = (m ((c.tc : Thread nD τ).loc main_arg6))
      ∧ y7 = (m ((c.tc : Thread nD τ).loc main_arg7))
      ∧ y8 = (m ((c.tc : Thread nD τ).loc main_arg8))
      ∧ y9 = (m ((c.tc : Thread nD τ).loc main_arg9))) :
    Cert.SpatialReferenceIdeal.Read.val_main_v85 (F := Ideal) y0 y1 y4 = (Gen.dats m 0 c).arrAt 14 cfg0.N
    ∧ Cert.SpatialReferenceIdeal.Read.val_main_v73 (F := Ideal) y0 y1 y2 y3 = (Gen.dats m 0 c).arrAt 15 cfg0.N
    ∧ Cert.SpatialReferenceIdeal.Read.val_main_v87 (F := Ideal) y0 y1 = (Gen.dats m 0 c).arrAt 16 cfg0.N := by
  rw [he.1, he.2.1, he.2.2.1, he.2.2.2.1, he.2.2.2.2.1]
  refine ⟨?_, ?_, ?_⟩
  · refine Eq.trans ?_ (final14 m c).symm
    funext i
    exact (congrArg _ (by funext k; fin_cases k <;> rfl : i = ix2 (i 0) (i 1))).trans (ref85 _ _ _ (i 0) (i 1))
  · refine Eq.trans ?_ (final15 m c).symm
    funext i
    exact (congrArg _ (by funext k; fin_cases k <;> rfl : i = ix3 (i 0) (i 1) (i 2))).trans (ref73 _ _ _ _ (i 0) (i 1) (i 2))
  · refine Eq.trans ?_ (final16 m c).symm
    funext i
    exact (congrArg _ (by funext k; fin_cases k <;> rfl : i = ix2 (i 0) (i 1))).trans (ref87 _ _ (i 0) (i 1))
end Values

theorem algebraic : Cert.algebraic_SpatialKernelIdeal_SpatialReferenceIdeal := by
  intro m g m' g' _ hagree
  refine ⟨fun c => (Cert.SpatialKernelIdeal.Gen.dats m 0 c).arrAt 14 Cert.SpatialKernelIdeal.cfg0.N,
    fun c => (Cert.SpatialKernelIdeal.Gen.dats m 0 c).arrAt 15 Cert.SpatialKernelIdeal.cfg0.N,
    fun c => (Cert.SpatialKernelIdeal.Gen.dats m 0 c).arrAt 16 Cert.SpatialKernelIdeal.cfg0.N,
    (θ_run _ _ _).mono (fun r h c => ⟨(h c).2.1, (h c).2.2.1, (h c).2.2.2.1, (h c).2.2.2.2.2.2⟩) (Cert.SpatialKernelIdeal.Value.run_blocks m g), (θ_run _ _ _).mono (fun r h c => ?_) (Cert.SpatialReferenceIdeal.Value.run m' g')⟩
  obtain ⟨r0, r1, r2, rest⟩ := h c
  have key := values m c (hagree c)
  exact ⟨(r0.trans (Cert.SpatialReferenceIdeal.Read.val_main_v85_eq _ _)).trans key.1, (r1.trans (Cert.SpatialReferenceIdeal.Read.val_main_v73_eq _ _)).trans key.2.1, (r2.trans (Cert.SpatialReferenceIdeal.Read.val_main_v87_eq _ _)).trans key.2.2, rest⟩

end Cert.Spatial

end
-- ==== Proof.lean ====
module

public import proofs.«01_k».proof.Defs
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.ReluKernel
public import proofs.«01_k».proof.Proof.Gen.ReluKernel.Frame
public import proofs.«01_k».proof.Proof.Gen.ReluKernelIdeal
public import proofs.«01_k».proof.Proof.Gen.ReluKernelIdeal.Frame
public import proofs.«01_k».proof.Proof.Gen.ReluKernelIdeal.Value
public import proofs.«01_k».proof.Proof.Gen.ReluReferenceIdeal
public import proofs.«01_k».proof.Proof.Gen.ReluReferenceIdeal.Run
public import proofs.«01_k».proof.Proof.Gen.ReluReferenceIdeal.Read
public import proofs.«01_k».proof.Proof.Gen.Norm2Kernel
public import proofs.«01_k».proof.Proof.Gen.Norm2Kernel.Frame
public import proofs.«01_k».proof.Proof.Gen.Norm2KernelIdeal
public import proofs.«01_k».proof.Proof.Gen.Norm2KernelIdeal.Frame
public import proofs.«01_k».proof.Proof.Gen.Norm2KernelIdeal.Value
public import proofs.«01_k».proof.Proof.Gen.Norm2ReferenceIdeal
public import proofs.«01_k».proof.Proof.Gen.Norm2ReferenceIdeal.Run
public import proofs.«01_k».proof.Proof.Gen.Norm2ReferenceIdeal.Read
public import proofs.«01_k».proof.Proof.Gen.Norm1Kernel
public import proofs.«01_k».proof.Proof.Gen.Norm1Kernel.Frame
public import proofs.«01_k».proof.Proof.Gen.Norm1KernelIdeal
public import proofs.«01_k».proof.Proof.Gen.Norm1KernelIdeal.Frame
public import proofs.«01_k».proof.Proof.Gen.Norm1KernelIdeal.Value
public import proofs.«01_k».proof.Proof.Gen.Norm1ReferenceIdeal
public import proofs.«01_k».proof.Proof.Gen.Norm1ReferenceIdeal.Run
public import proofs.«01_k».proof.Proof.Gen.Norm1ReferenceIdeal.Read
public import proofs.«01_k».proof.Proof.Gen.GateFfKernel
public import proofs.«01_k».proof.Proof.Gen.GateFfKernel.Frame
public import proofs.«01_k».proof.Proof.Gen.GateFfKernelIdeal
public import proofs.«01_k».proof.Proof.Gen.GateFfKernelIdeal.Frame
public import proofs.«01_k».proof.Proof.Gen.GateFfKernelIdeal.Value
public import proofs.«01_k».proof.Proof.Gen.GateFfReferenceIdeal
public import proofs.«01_k».proof.Proof.Gen.GateFfReferenceIdeal.Run
public import proofs.«01_k».proof.Proof.Gen.GateFfReferenceIdeal.Read
public import proofs.«01_k».proof.Proof.Gen.GateOutKernel
public import proofs.«01_k».proof.Proof.Gen.GateOutKernel.Frame
public import proofs.«01_k».proof.Proof.Gen.GateOutKernelIdeal
public import proofs.«01_k».proof.Proof.Gen.GateOutKernelIdeal.Frame
public import proofs.«01_k».proof.Proof.Gen.GateOutKernelIdeal.Value
public import proofs.«01_k».proof.Proof.Gen.GateOutReferenceIdeal
public import proofs.«01_k».proof.Proof.Gen.GateOutReferenceIdeal.Run
public import proofs.«01_k».proof.Proof.Gen.GateOutReferenceIdeal.Read
public import proofs.«01_k».proof.Proof.Gen.AdaKernel
public import proofs.«01_k».proof.Proof.Gen.AdaKernel.Frame
public import proofs.«01_k».proof.Proof.Gen.AdaKernelIdeal
public import proofs.«01_k».proof.Proof.Gen.AdaKernelIdeal.Frame
public import proofs.«01_k».proof.Proof.Gen.AdaKernelIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.FwdFfKernel
public import proofs.«01_k».proof.Proof.Gen.FwdFfKernel.Frame
public import proofs.«01_k».proof.Proof.Gen.FwdFfKernelIdeal
public import proofs.«01_k».proof.Proof.Gen.FwdFfKernelIdeal.Frame
public import proofs.«01_k».proof.Proof.Gen.FwdFfKernelIdeal.Value
public import proofs.«01_k».proof.Proof.Gen.FwdFfReferenceIdeal
public import proofs.«01_k».proof.Proof.Gen.FwdFfReferenceIdeal.Run
public import proofs.«01_k».proof.Proof.Gen.FwdFfReferenceIdeal.Read
public import proofs.«01_k».proof.Proof.Gen.FwdInKernel
public import proofs.«01_k».proof.Proof.Gen.FwdInKernel.Frame
public import proofs.«01_k».proof.Proof.Gen.FwdInKernelIdeal
public import proofs.«01_k».proof.Proof.Gen.FwdInKernelIdeal.Frame
public import proofs.«01_k».proof.Proof.Gen.FwdInKernelIdeal.Value
public import proofs.«01_k».proof.Proof.Gen.FwdInReferenceIdeal
public import proofs.«01_k».proof.Proof.Gen.FwdInReferenceIdeal.Run
public import proofs.«01_k».proof.Proof.Gen.FwdInReferenceIdeal.Read
public import proofs.«01_k».proof.Proof.Gen.FwdOutKernel
public import proofs.«01_k».proof.Proof.Gen.FwdOutKernel.Frame
public import proofs.«01_k».proof.Proof.Gen.FwdOutKernelIdeal
public import proofs.«01_k».proof.Proof.Gen.FwdOutKernelIdeal.Frame
public import proofs.«01_k».proof.Proof.Gen.FwdOutKernelIdeal.Value
public import proofs.«01_k».proof.Proof.Gen.FwdOutReferenceIdeal
public import proofs.«01_k».proof.Proof.Gen.FwdOutReferenceIdeal.Run
public import proofs.«01_k».proof.Proof.Gen.FwdOutReferenceIdeal.Read
public import proofs.«01_k».proof.Proof.Gen.ModKernel
public import proofs.«01_k».proof.Proof.Gen.ModKernel.Frame
public import proofs.«01_k».proof.Proof.Gen.ModKernelIdeal
public import proofs.«01_k».proof.Proof.Gen.ModKernelIdeal.Frame
public import proofs.«01_k».proof.Proof.Gen.ModKernelIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.WeightKernel
public import proofs.«01_k».proof.Proof.Gen.WeightKernel.Frame
public import proofs.«01_k».proof.Proof.Gen.WeightKernelIdeal
public import proofs.«01_k».proof.Proof.Gen.WeightKernelIdeal.Frame
public import proofs.«01_k».proof.Proof.Gen.WeightKernelIdeal.Value
public import proofs.«01_k».proof.Proof.Gen.WeightReferenceIdeal
public import proofs.«01_k».proof.Proof.Gen.WeightReferenceIdeal.Run
public import proofs.«01_k».proof.Proof.Gen.WeightReferenceIdeal.Read
public import proofs.«01_k».proof.Proof.Gen.StepKernel
public import proofs.«01_k».proof.Proof.Gen.StepKernel.Frame
public import proofs.«01_k».proof.Proof.Gen.StepKernelIdeal
public import proofs.«01_k».proof.Proof.Gen.StepKernelIdeal.Frame
public import proofs.«01_k».proof.Proof.Gen.StepKernelIdeal.Value
public import proofs.«01_k».proof.Proof.Gen.StepReferenceIdeal
public import proofs.«01_k».proof.Proof.Gen.StepReferenceIdeal.Run
public import proofs.«01_k».proof.Proof.Gen.StepReferenceIdeal.Read
public import proofs.«01_k».proof.Proof.Gen.SmallKernel
public import proofs.«01_k».proof.Proof.Gen.SmallKernel.Frame
public import proofs.«01_k».proof.Proof.Gen.SmallKernelIdeal
public import proofs.«01_k».proof.Proof.Gen.SmallKernelIdeal.Frame
public import proofs.«01_k».proof.Proof.Gen.SmallKernelIdeal.Value
public import proofs.«01_k».proof.Proof.Gen.SmallReferenceIdeal
public import proofs.«01_k».proof.Proof.Gen.SmallReferenceIdeal.Run
public import proofs.«01_k».proof.Proof.Gen.SmallReferenceIdeal.Read
public import proofs.«01_k».proof.Proof.Gen.SpatialKernel
public import proofs.«01_k».proof.Proof.Gen.SpatialKernel.Frame
public import proofs.«01_k».proof.Proof.Gen.SpatialKernelIdeal
public import proofs.«01_k».proof.Proof.Gen.SpatialKernelIdeal.Frame
public import proofs.«01_k».proof.Proof.Gen.SpatialKernelIdeal.Value
public import proofs.«01_k».proof.Proof.Gen.SpatialReferenceIdeal
public import proofs.«01_k».proof.Proof.Gen.SpatialReferenceIdeal.Run
public import proofs.«01_k».proof.Proof.Gen.SpatialReferenceIdeal.Read
public import proofs.«01_k».proof.Proof.RefFrames
public import proofs.«01_k».proof.Proof.Loss
public import proofs.«01_k».proof.Proof.Relu
public import proofs.«01_k».proof.Proof.Norm2
public import proofs.«01_k».proof.Proof.Norm1
public import proofs.«01_k».proof.Proof.GateFf
public import proofs.«01_k».proof.Proof.GateOut
public import proofs.«01_k».proof.Proof.Ada
public import proofs.«01_k».proof.Proof.Mix
public import proofs.«01_k».proof.Proof.FwdFf
public import proofs.«01_k».proof.Proof.FwdIn
public import proofs.«01_k».proof.Proof.FwdOut
public import proofs.«01_k».proof.Proof.Mod
public import proofs.«01_k».proof.Proof.Weight
public import proofs.«01_k».proof.Proof.Step
public import proofs.«01_k».proof.Proof.Small
public import proofs.«01_k».proof.Proof.Spatial

@[expose] public section

namespace Cert.Proof

theorem claim : Cert.Claim :=
  ⟨Cert.LossKernel.Gen.facts,
    Cert.LossKernelIdeal.Gen.facts,
    Cert.LossReferenceIdeal.Gen.facts,
    Cert.ReluKernel.Gen.facts,
    Cert.ReluKernelIdeal.Gen.facts,
    Cert.ReluReferenceIdeal.Gen.facts,
    Cert.Norm2Kernel.Gen.facts,
    Cert.Norm2KernelIdeal.Gen.facts,
    Cert.Norm2ReferenceIdeal.Gen.facts,
    Cert.Norm1Kernel.Gen.facts,
    Cert.Norm1KernelIdeal.Gen.facts,
    Cert.Norm1ReferenceIdeal.Gen.facts,
    Cert.GateFfKernel.Gen.facts,
    Cert.GateFfKernelIdeal.Gen.facts,
    Cert.GateFfReferenceIdeal.Gen.facts,
    Cert.GateOutKernel.Gen.facts,
    Cert.GateOutKernelIdeal.Gen.facts,
    Cert.GateOutReferenceIdeal.Gen.facts,
    Cert.AdaKernel.Gen.facts,
    Cert.AdaKernelIdeal.Gen.facts,
    Cert.AdaReferenceIdeal.Gen.facts,
    Cert.MixKernel.Gen.facts,
    Cert.MixKernelIdeal.Gen.facts,
    Cert.MixReferenceIdeal.Gen.facts,
    Cert.FwdFfKernel.Gen.facts,
    Cert.FwdFfKernelIdeal.Gen.facts,
    Cert.FwdFfReferenceIdeal.Gen.facts,
    Cert.FwdInKernel.Gen.facts,
    Cert.FwdInKernelIdeal.Gen.facts,
    Cert.FwdInReferenceIdeal.Gen.facts,
    Cert.FwdOutKernel.Gen.facts,
    Cert.FwdOutKernelIdeal.Gen.facts,
    Cert.FwdOutReferenceIdeal.Gen.facts,
    Cert.ModKernel.Gen.facts,
    Cert.ModKernelIdeal.Gen.facts,
    Cert.ModReferenceIdeal.Gen.facts,
    Cert.WeightKernel.Gen.facts,
    Cert.WeightKernelIdeal.Gen.facts,
    Cert.WeightReferenceIdeal.Gen.facts,
    Cert.StepKernel.Gen.facts,
    Cert.StepKernelIdeal.Gen.facts,
    Cert.StepReferenceIdeal.Gen.facts,
    Cert.SmallKernel.Gen.facts,
    Cert.SmallKernelIdeal.Gen.facts,
    Cert.SmallReferenceIdeal.Gen.facts,
    Cert.SpatialKernel.Gen.facts,
    Cert.SpatialKernelIdeal.Gen.facts,
    Cert.SpatialReferenceIdeal.Gen.facts,
    Cert.Loss.pre_facts,
    Cert.Norm2.pre_facts,
    Cert.Norm1.pre_facts,
    Cert.GateFf.pre_facts,
    Cert.GateOut.pre_facts,
    Cert.Mix.pre_facts,
    fun m ρ _ => Cert.LossKernel.Gen.frame m ρ,
    fun m ρ _ => Cert.LossKernelIdeal.Gen.frame m ρ,
    fun m ρ _ => Cert.LossKernelIdeal.Gen.frame m ρ,
    Cert.RefFrames.loss,
    fun m ρ _ => Cert.RefFrames.loss m ρ trivial,
    fun m ρ _ => Cert.ReluKernel.Gen.frame m ρ,
    fun m ρ _ => Cert.ReluKernelIdeal.Gen.frame m ρ,
    Cert.RefFrames.relu,
    fun m ρ _ => Cert.Norm2Kernel.Gen.frame m ρ,
    fun m ρ _ => Cert.Norm2KernelIdeal.Gen.frame m ρ,
    fun m ρ _ => Cert.Norm2KernelIdeal.Gen.frame m ρ,
    Cert.RefFrames.norm2,
    fun m ρ _ => Cert.RefFrames.norm2 m ρ trivial,
    fun m ρ _ => Cert.Norm1Kernel.Gen.frame m ρ,
    fun m ρ _ => Cert.Norm1KernelIdeal.Gen.frame m ρ,
    fun m ρ _ => Cert.Norm1KernelIdeal.Gen.frame m ρ,
    Cert.RefFrames.norm1,
    fun m ρ _ => Cert.RefFrames.norm1 m ρ trivial,
    fun m ρ _ => Cert.GateFfKernel.Gen.frame m ρ,
    fun m ρ _ => Cert.GateFfKernelIdeal.Gen.frame m ρ,
    fun m ρ _ => Cert.GateFfKernelIdeal.Gen.frame m ρ,
    Cert.RefFrames.gateFf,
    fun m ρ _ => Cert.RefFrames.gateFf m ρ trivial,
    fun m ρ _ => Cert.GateOutKernel.Gen.frame m ρ,
    fun m ρ _ => Cert.GateOutKernelIdeal.Gen.frame m ρ,
    fun m ρ _ => Cert.GateOutKernelIdeal.Gen.frame m ρ,
    Cert.RefFrames.gateOut,
    fun m ρ _ => Cert.RefFrames.gateOut m ρ trivial,
    fun m ρ _ => Cert.AdaKernel.Gen.frame m ρ,
    fun m ρ _ => Cert.AdaKernelIdeal.Gen.frame m ρ,
    Cert.RefFrames.ada,
    fun m ρ _ => Cert.MixKernel.Gen.frame m ρ,
    fun m ρ _ => Cert.MixKernelIdeal.Gen.frame m ρ,
    fun m ρ _ => Cert.MixKernelIdeal.Gen.frame m ρ,
    Cert.RefFrames.mix,
    fun m ρ _ => Cert.RefFrames.mix m ρ trivial,
    fun m ρ _ => Cert.FwdFfKernel.Gen.frame m ρ,
    fun m ρ _ => Cert.FwdFfKernelIdeal.Gen.frame m ρ,
    Cert.RefFrames.fwdFf,
    fun m ρ _ => Cert.FwdInKernel.Gen.frame m ρ,
    fun m ρ _ => Cert.FwdInKernelIdeal.Gen.frame m ρ,
    Cert.RefFrames.fwdIn,
    fun m ρ _ => Cert.FwdOutKernel.Gen.frame m ρ,
    fun m ρ _ => Cert.FwdOutKernelIdeal.Gen.frame m ρ,
    Cert.RefFrames.fwdOut,
    fun m ρ _ => Cert.ModKernel.Gen.frame m ρ,
    fun m ρ _ => Cert.ModKernelIdeal.Gen.frame m ρ,
    Cert.RefFrames.mod,
    fun m ρ _ => Cert.WeightKernel.Gen.frame m ρ,
    fun m ρ _ => Cert.WeightKernelIdeal.Gen.frame m ρ,
    Cert.RefFrames.weight,
    fun m ρ _ => Cert.StepKernel.Gen.frame m ρ,
    fun m ρ _ => Cert.StepKernelIdeal.Gen.frame m ρ,
    Cert.RefFrames.step,
    fun m ρ _ => Cert.SmallKernel.Gen.frame m ρ,
    fun m ρ _ => Cert.SmallKernelIdeal.Gen.frame m ρ,
    Cert.RefFrames.small,
    fun m ρ _ => Cert.SpatialKernel.Gen.frame m ρ,
    fun m ρ _ => Cert.SpatialKernelIdeal.Gen.frame m ρ,
    Cert.RefFrames.spatial,
    trivial,
    Cert.Loss.algebraic,
    trivial,
    Cert.Relu.algebraic,
    trivial,
    Cert.Norm2.algebraic,
    trivial,
    Cert.Norm1.algebraic,
    trivial,
    Cert.GateFf.algebraic,
    trivial,
    Cert.GateOut.algebraic,
    trivial,
    Cert.Ada.algebraic,
    trivial,
    Cert.Mix.algebraic,
    trivial,
    Cert.FwdFf.algebraic,
    trivial,
    Cert.FwdIn.algebraic,
    trivial,
    Cert.FwdOut.algebraic,
    trivial,
    Cert.Mod.algebraic,
    trivial,
    Cert.Weight.algebraic,
    trivial,
    Cert.Step.algebraic,
    trivial,
    Cert.Small.algebraic,
    trivial,
    Cert.Spatial.algebraic⟩

end Cert.Proof

end
